-- ==== Defs.lean ====
def Pre_Kernel [hPre_pos_ok : Cert.Pre_pos_ok.Facts] (m : (ℓ : Loc Cert.Kernel.nD Cert.Kernel.τ Cert.Kernel.sig) → Buf (Elt Bits) ℓ) : Prop :=
  ∀ c : Dev Cert.Kernel.nD,
    (Cert.Pre_pos_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pos_ok : Cert.Pre_pos_ok.Facts] (m : (ℓ : Loc Cert.KernelIdeal.nD Cert.KernelIdeal.τ Cert.KernelIdeal.sig) → Buf (Elt Ideal) ℓ) : Prop :=
  ∀ c : Dev Cert.KernelIdeal.nD,
    (Cert.Pre_pos_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_ok [hPre_pos_ok : Cert.Pre_pos_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterReferenceIdeal (m : (ℓ : Loc Cert.ScatterReferenceIdeal.nD Cert.ScatterReferenceIdeal.τ Cert.ScatterReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite [hPre_finite : Cert.Pre_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))) = (fun _ => 1#1)

def Pre_Experts [hPre_items_ok : Cert.Pre_items_ok.Facts] (m : (ℓ : Loc Cert.Experts.nD Cert.Experts.τ Cert.Experts.sig) → Buf (Elt Bits) ℓ) : Prop :=
  ∀ c : Dev Cert.Experts.nD,
    (Cert.Pre_items_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_items_ok : Cert.Pre_items_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_items_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_items_ok [hPre_items_ok : Cert.Pre_items_ok.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_items_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_MoeIdeal [hPre_finite_inputs : Cert.Pre_finite_inputs.Facts] (m : (ℓ : Loc Cert.MoeIdeal.nD Cert.MoeIdeal.τ Cert.MoeIdeal.sig) → Buf (Elt Ideal) ℓ) : Prop :=
  ∀ c : Dev Cert.MoeIdeal.nD,
    (Cert.Pre_finite_inputs.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_finite_inputs [hPre_finite_inputs : Cert.Pre_finite_inputs.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_finite_inputs.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3))) = (fun _ => 1#1)

def quiescent_Kernel [hKernel : Cert.Kernel.Facts] [hPre_pos_ok : Cert.Pre_pos_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pos_ok : Cert.Pre_pos_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pos_ok [hReferenceIdeal : Cert.ReferenceIdeal.Facts] [hPre_pos_ok : Cert.Pre_pos_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_finite [hRouterReferenceIdeal : Cert.RouterReferenceIdeal.Facts] [hPre_finite : Cert.Pre_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_Experts [hExperts : Cert.Experts.Facts] [hPre_items_ok : Cert.Pre_items_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_items_ok : Cert.Pre_items_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_items_ok [hExpertsReferenceIdeal : Cert.ExpertsReferenceIdeal.Facts] [hPre_items_ok : Cert.Pre_items_ok.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_items_ok m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_MoeIdeal [hMoeIdeal : Cert.MoeIdeal.Facts] [hPre_finite_inputs : Cert.Pre_finite_inputs.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (Cert.MoeIdeal.threads (F := Ideal)) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3))
      ∧ r.2.sem = fun _ => 0)

def quiescent_MoeReferenceIdeal_pre_finite_inputs [hMoeReferenceIdeal : Cert.MoeReferenceIdeal.Facts] [hPre_finite_inputs : Cert.Pre_finite_inputs.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_finite_inputs m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_ok : Cert.Pre_pos_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Scatter_ScatterIdeal : Prop :=
  True

def algebraic_ScatterIdeal_ScatterReferenceIdeal [hScatterIdeal : Cert.ScatterIdeal.Facts] [hScatterReferenceIdeal : Cert.ScatterReferenceIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v28)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v28) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v10) = v0 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1))

def preserves_Router_RouterIdeal : Prop :=
  True

def algebraic_RouterIdeal_RouterReferenceIdeal_pre_finite [hRouterIdeal : Cert.RouterIdeal.Facts] [hRouterReferenceIdeal : Cert.RouterReferenceIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)) (v2 : (c : Dev Cert.RouterIdeal.nD) → Buf (Elt Ideal) ((c.tc : Thread Cert.RouterIdeal.nD Cert.RouterIdeal.τ).loc Cert.RouterIdeal.main_v0_2)) (v3 : (c : Dev Cert.RouterIdeal.nD) → Buf (Elt Ideal) ((c.tc : Thread Cert.RouterIdeal.nD Cert.RouterIdeal.τ).loc Cert.RouterIdeal.main_v0_3)) (v4 : (c : Dev Cert.RouterIdeal.nD) → Buf (Elt Ideal) ((c.tc : Thread Cert.RouterIdeal.nD Cert.RouterIdeal.τ).loc Cert.RouterIdeal.main_v0_4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_v0_2) = v2 c
          ∧ r.2.mem ((c.tc : Thread Cert.RouterIdeal.nD Cert.RouterIdeal.τ).loc Cert.RouterIdeal.main_v0_3) = v3 c
          ∧ r.2.mem ((c.tc : Thread Cert.RouterIdeal.nD Cert.RouterIdeal.τ).loc Cert.RouterIdeal.main_v0_4) = v4 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_indices) = v0 c
          ∧ r.2.mem ((c.tc : Thread Cert.RouterReferenceIdeal.nD Cert.RouterReferenceIdeal.τ).loc Cert.RouterReferenceIdeal.main_v45) = v1 c
          ∧ r.2.mem ((c.tc : Thread Cert.RouterReferenceIdeal.nD Cert.RouterReferenceIdeal.τ).loc Cert.RouterReferenceIdeal.main_v46) = v2 c
          ∧ r.2.mem ((c.tc : Thread Cert.RouterReferenceIdeal.nD Cert.RouterReferenceIdeal.τ).loc Cert.RouterReferenceIdeal.main_v50) = v3 c
          ∧ r.2.mem ((c.tc : Thread Cert.RouterReferenceIdeal.nD Cert.RouterReferenceIdeal.τ).loc Cert.RouterReferenceIdeal.main_v41) = v4 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_items_ok : Cert.Pre_items_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v45) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def algebraic_MoeIdeal_MoeReferenceIdeal [hMoeIdeal : Cert.MoeIdeal.Facts] [hMoeReferenceIdeal : Cert.MoeReferenceIdeal.Facts] [hPre_finite_inputs : Cert.Pre_finite_inputs.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)) →
    ∃ (v0 : (c : Dev Cert.MoeIdeal.nD) → Buf (Elt Ideal) ((c.tc : Thread Cert.MoeIdeal.nD Cert.MoeIdeal.τ).loc Cert.MoeIdeal.main_v51)) (v1 : (c : Dev Cert.MoeIdeal.nD) → Buf (Elt Ideal) ((c.tc : Thread Cert.MoeIdeal.nD Cert.MoeIdeal.τ).loc Cert.MoeIdeal.main_v2)),
      θ_run (Cert.MoeIdeal.defs (F := Ideal)) (Cert.MoeIdeal.threads (F := Ideal)) ⟨m, fun _ => 0, g⟩ (fun r => ∀ c : Dev Cert.MoeIdeal.nD,
          r.2.mem ((c.tc : Thread Cert.MoeIdeal.nD Cert.MoeIdeal.τ).loc Cert.MoeIdeal.main_v51) = v0 c
          ∧ r.2.mem ((c.tc : Thread Cert.MoeIdeal.nD Cert.MoeIdeal.τ).loc Cert.MoeIdeal.main_v2) = v1 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v47) = v0 c
          ∧ r.2.mem ((c.tc : Thread Cert.MoeReferenceIdeal.nD Cert.MoeReferenceIdeal.τ).loc Cert.MoeReferenceIdeal.main_v73) = v1 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3))

def Claim : Prop :=
  ∃ (hKernel : Cert.Kernel.Facts) (hKernelIdeal : Cert.KernelIdeal.Facts) (hReferenceIdeal : Cert.ReferenceIdeal.Facts) (hScatter : Cert.Scatter.Facts) (hScatterIdeal : Cert.ScatterIdeal.Facts) (hScatterReferenceIdeal : Cert.ScatterReferenceIdeal.Facts) (hRouter : Cert.Router.Facts) (hRouterIdeal : Cert.RouterIdeal.Facts) (hRouterReferenceIdeal : Cert.RouterReferenceIdeal.Facts) (hExperts : Cert.Experts.Facts) (hExpertsIdeal : Cert.ExpertsIdeal.Facts) (hExpertsReferenceIdeal : Cert.ExpertsReferenceIdeal.Facts) (hMoeIdeal : Cert.MoeIdeal.Facts) (hMoeReferenceIdeal : Cert.MoeReferenceIdeal.Facts) (hPre_pos_ok : Cert.Pre_pos_ok.Facts) (hPre_finite : Cert.Pre_finite.Facts) (hPre_items_ok : Cert.Pre_items_ok.Facts) (hPre_finite_inputs : Cert.Pre_finite_inputs.Facts),
    quiescent_Kernel (hKernel := hKernel) (hPre_pos_ok := hPre_pos_ok)
    ∧ quiescent_KernelIdeal (hKernelIdeal := hKernelIdeal) (hPre_pos_ok := hPre_pos_ok)
    ∧ quiescent_ReferenceIdeal (hReferenceIdeal := hReferenceIdeal)
    ∧ quiescent_ReferenceIdeal_pre_pos_ok (hReferenceIdeal := hReferenceIdeal) (hPre_pos_ok := hPre_pos_ok)
    ∧ quiescent_Scatter (hScatter := hScatter)
    ∧ quiescent_ScatterIdeal (hScatterIdeal := hScatterIdeal)
    ∧ quiescent_ScatterReferenceIdeal (hScatterReferenceIdeal := hScatterReferenceIdeal)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterReferenceIdeal (hRouterReferenceIdeal := hRouterReferenceIdeal)
    ∧ quiescent_RouterReferenceIdeal_pre_finite (hRouterReferenceIdeal := hRouterReferenceIdeal) (hPre_finite := hPre_finite)
    ∧ quiescent_Experts (hExperts := hExperts) (hPre_items_ok := hPre_items_ok)
    ∧ quiescent_ExpertsIdeal (hExpertsIdeal := hExpertsIdeal) (hPre_items_ok := hPre_items_ok)
    ∧ quiescent_ExpertsReferenceIdeal (hExpertsReferenceIdeal := hExpertsReferenceIdeal)
    ∧ quiescent_ExpertsReferenceIdeal_pre_items_ok (hExpertsReferenceIdeal := hExpertsReferenceIdeal) (hPre_items_ok := hPre_items_ok)
    ∧ quiescent_MoeIdeal (hMoeIdeal := hMoeIdeal) (hPre_finite_inputs := hPre_finite_inputs)
    ∧ quiescent_MoeReferenceIdeal (hMoeReferenceIdeal := hMoeReferenceIdeal)
    ∧ quiescent_MoeReferenceIdeal_pre_finite_inputs (hMoeReferenceIdeal := hMoeReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_pos_ok := hPre_pos_ok)
    ∧ preserves_Scatter_ScatterIdeal
    ∧ algebraic_ScatterIdeal_ScatterReferenceIdeal (hScatterIdeal := hScatterIdeal) (hScatterReferenceIdeal := hScatterReferenceIdeal)
    ∧ preserves_Router_RouterIdeal
    ∧ algebraic_RouterIdeal_RouterReferenceIdeal_pre_finite (hRouterIdeal := hRouterIdeal) (hRouterReferenceIdeal := hRouterReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_items_ok := hPre_items_ok)
    ∧ algebraic_MoeIdeal_MoeReferenceIdeal (hMoeIdeal := hMoeIdeal) (hMoeReferenceIdeal := hMoeReferenceIdeal) (hPre_finite_inputs := hPre_finite_inputs)
-- ==== Pre_finite.lean ====
abbrev S2048x2048 : Shape := ⟨2, ![2048, 2048]⟩
abbrev S8x2048 : Shape := ⟨2, ![8, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x2048 .f32) (main_arg1 : FVec F S8x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Pre_finite_inputs.lean ====
abbrev S1x2048x2048 : Shape := ⟨3, ![1, 2048, 2048]⟩
abbrev S8x2048 : Shape := ⟨2, ![8, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S1x2048x2048 .f32) (main_arg1 : FVec F S8x2048 .f32) (main_arg2 : FVec F S8x2048x4096 .f32) (main_arg3 : FVec F S8x4096x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Pre_items_ok.lean ====
abbrev S15 : Shape := ⟨1, ![15]⟩
abbrev S4096x2048 : Shape := ⟨2, ![4096, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S15 : S_.BroadcastsInDim S15 (![] : Fin 0 → Fin S15.rank)

variable [Facts]

def fn {F : FTy → Type} [FloatOps F] (main_arg0 : IVec S15 32) (main_arg1 : IVec S15 32) (main_arg2 : IVec S15 32) (main_arg3 : IVec S15 32) (main_arg4 : FVec F S4096x2048 .f32) (main_arg5 : FVec F S8x2048x4096 .f32) (main_arg6 : FVec F S8x4096x2048 .f32) : IVec S15 1 :=
  let main_c : IVec S_ 32 := constantI S_ 32 0#32
  let main_v0 : IVec S15 32 := broadcastInDim S15 ![] bcast_S_S15 main_c
  let main_v1 : IVec S15 1 := cmpi .sge main_arg0 main_v0
  let main_c_0 : IVec S_ 32 := constantI S_ 32 8#32
  let main_v2 : IVec S15 32 := broadcastInDim S15 ![] bcast_S_S15 main_c_0
  let main_v3 : IVec S15 1 := cmpi .slt main_arg0 main_v2
  let main_v4 : IVec S15 1 := andi main_v1 main_v3
  let main_c_1 : IVec S_ 32 := constantI S_ 32 0#32
  let main_v5 : IVec S15 32 := broadcastInDim S15 ![] bcast_S_S15 main_c_1
  let main_v6 : IVec S15 1 := cmpi .sge main_arg1 main_v5
  let main_v7 : IVec S15 1 := andi main_v4 main_v6
  let main_c_2 : IVec S_ 32 := constantI S_ 32 8#32
  let main_v8 : IVec S15 32 := broadcastInDim S15 ![] bcast_S_S15 main_c_2
  let main_v9 : IVec S15 1 := cmpi .slt main_arg1 main_v8
  let main_v10 : IVec S15 1 := andi main_v7 main_v9
  main_v10
-- ==== Pre_pos_ok.lean ====
abbrev S4096x2048 : Shape := ⟨2, ![4096, 2048]⟩
abbrev S2048 : Shape := ⟨1, ![2048]⟩
abbrev S2048x2 : Shape := ⟨2, ![2048, 2]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S4096x2048 .f32) (main_arg1 : IVec S2048 32) (main_arg2 : IVec S2048 32) (main_arg3 : FVec F S2048x2 .f32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 4096#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 32 := constantI S_ 32 0#32
  let main_v5 : IVec S2048 32 := broadcastInDim S2048 ![] bcast_S_S2048 main_c_1
  let main_v6 : IVec S2048 1 := cmpi .sge main_arg2 main_v5
  let main_v7 : IVec S2048 1 := andi main_v4 main_v6
  let main_c_2 : IVec S_ 32 := constantI S_ 32 4096#32
  let main_v8 : IVec S2048 32 := broadcastInDim S2048 ![] bcast_S_S2048 main_c_2
  let main_v9 : IVec S2048 1 := cmpi .slt main_arg2 main_v8
  let main_v10 : IVec S2048 1 := andi main_v7 main_v9
  main_v10
-- ==== Kernel.lean ====
abbrev S4096x2048 : Shape := ⟨2, ![4096, 2048]⟩
abbrev S2048 : Shape := ⟨1, ![2048]⟩
abbrev S2048x2 : Shape := ⟨2, ![2048, 2]⟩
abbrev S4096 : Shape := ⟨1, ![4096]⟩
abbrev S32768x2x128 : Shape := ⟨3, ![32768, 2, 128]⟩
abbrev S4096x1 : Shape := ⟨2, ![4096, 1]⟩
abbrev S_ : Shape := ⟨0, ![]⟩
abbrev S8 : Shape := ⟨1, ![8]⟩
abbrev S1x8 : Shape := ⟨2, ![1, 8]⟩
abbrev S4096x8 : Shape := ⟨2, ![4096, 8]⟩
abbrev S32768 : Shape := ⟨1, ![32768]⟩
abbrev S256 : Shape := ⟨1, ![256]⟩
abbrev S256x2x128 : Shape := ⟨3, ![256, 2, 128]⟩
abbrev S2048x2048 : Shape := ⟨2, ![2048, 2048]⟩
abbrev S256x2048 : Shape := ⟨2, ![256, 2048]⟩
abbrev S256x2 : Shape := ⟨2, ![256, 2]⟩
abbrev S256x1 : Shape := ⟨2, ![256, 1]⟩

abbrev nBuf : Table → Nat
  | .hbm => 19
  | .local .tc .vmem => 8
  | .local .scVector .vmem => 2
  | _ => 0

abbrev bufTy : (tb : Table) → Fin (nBuf tb) → BufTy
  | .hbm, ⟨0, _⟩ => ⟨S4096x2048, .f32⟩
  | .hbm, ⟨1, _⟩ => ⟨S2048, .i32⟩
  | .hbm, ⟨2, _⟩ => ⟨S2048, .i32⟩
  | .hbm, ⟨3, _⟩ => ⟨S2048x2, .f32⟩
  | .hbm, ⟨4, _⟩ => ⟨S4096, .i32⟩
  | .hbm, ⟨5, _⟩ => ⟨S32768x2x128, .f32⟩
  | .hbm, ⟨6, _⟩ => ⟨S4096x1, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S8, .i32⟩
  | .hbm, ⟨11, _⟩ => ⟨S1x8, .i32⟩
  | .hbm, ⟨12, _⟩ => ⟨S4096x8, .i32⟩
  | .hbm, ⟨13, _⟩ => ⟨S4096x8, .i32⟩
  | .hbm, ⟨14, _⟩ => ⟨S4096x8, .i32⟩
  | .hbm, ⟨15, _⟩ => ⟨S32768, .i32⟩
  | .hbm, ⟨16, _⟩ => ⟨S32768x2x128, .f32⟩
  | .hbm, ⟨17, _⟩ => ⟨S4096x2048, .f32⟩
  | .hbm, ⟨18, _⟩ => ⟨S2048x2048, .f32⟩
  | .local .tc .vmem, ⟨0, _⟩ => ⟨S256x2048, .f32⟩
  | .local .tc .vmem, ⟨1, _⟩ => ⟨S256x2048, .f32⟩
  | .local .tc .vmem, ⟨2, _⟩ => ⟨S256x2048, .f32⟩
  | .local .tc .vmem, ⟨3, _⟩ => ⟨S256x2048, .f32⟩
  | .local .tc .vmem, ⟨4, _⟩ => ⟨S256x2, .f32⟩
  | .local .tc .vmem, ⟨5, _⟩ => ⟨S256x2, .f32⟩
  | .local .tc .vmem, ⟨6, _⟩ => ⟨S256x2048, .f32⟩
  | .local .tc .vmem, ⟨7, _⟩ => ⟨S256x2048, .f32⟩
  | .local .scVector .vmem, ⟨0, _⟩ => ⟨S256, .i32⟩
  | .local .scVector .vmem, ⟨1, _⟩ => ⟨S256x2x128, .f32⟩
  | _, _ => ⟨S4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v1_scv : Ref sig .scVector := ⟨.hbm, 5, rfl⟩
abbrev main_v10_scv : Ref sig .scVector := ⟨.hbm, 15, rfl⟩
abbrev main_v11_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg8 : BitVec 32 := Scf.iv c0_i32_0 c1_i32 k0_t1
  let c256_i32 : BitVec 32 := 256#32
  let v4 : BitVec 32 := Scalar.muli arg8 c256_i32
  let v5 : BitVec 32 := Scalar.addi v2 v4
  ![v5.toNat]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg8 : BitVec 32 := Scf.iv c0_i32_0 c1_i32 k0_t1
  let c256_i32 : BitVec 32 := 256#32
  let v4 : BitVec 32 := Scalar.muli arg8 c256_i32
  let v5 : BitVec 32 := Scalar.addi v2 v4
  let c0_i32_8_r1 : BitVec 32 := 0#32
  let c0_i32_9_r1 : BitVec 32 := 0#32
  ![v5.toNat, 0, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2048 : Shape := ⟨2, ![4096, 2048]⟩
abbrev S2048 : Shape := ⟨1, ![2048]⟩
abbrev S2048x2 : Shape := ⟨2, ![2048, 2]⟩
abbrev S_ : Shape := ⟨0, ![]⟩
abbrev S2048x1 : Shape := ⟨2, ![2048, 1]⟩
abbrev S2048x2048 : Shape := ⟨2, ![2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .i32⟩
  | .hbm, ⟨2, _⟩ => ⟨S2048, .i32⟩
  | .hbm, ⟨3, _⟩ => ⟨S2048x2, .f32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x2048, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S2048x2048, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Scatter.lean ====
abbrev S2048x2048 : Shape := ⟨2, ![2048, 2048]⟩
abbrev S2048x2 : Shape := ⟨2, ![2048, 2]⟩
abbrev S4096 : Shape := ⟨1, ![4096]⟩
abbrev S2048x1 : Shape := ⟨2, ![2048, 1]⟩
abbrev S2048 : Shape := ⟨1, ![2048]⟩
abbrev S16384x2x128 : Shape := ⟨3, ![16384, 2, 128]⟩
abbrev S_ : Shape := ⟨0, ![]⟩
abbrev S8 : Shape := ⟨1, ![8]⟩
abbrev S1x8 : Shape := ⟨2, ![1, 8]⟩
abbrev S2048x8 : Shape := ⟨2, ![2048, 8]⟩
abbrev S16384 : Shape := ⟨1, ![16384]⟩
abbrev S32768x2x128 : Shape := ⟨3, ![32768, 2, 128]⟩
abbrev S128 : Shape := ⟨1, ![128]⟩
abbrev S128x2x128 : Shape := ⟨3, ![128, 2, 128]⟩
abbrev S4096x2048 : Shape := ⟨2, ![4096, 2048]⟩

abbrev nBuf : Table → Nat
  | .hbm => 37
  | .local .scVector .vmem => 2
  | _ => 0

abbrev bufTy : (tb : Table) → Fin (nBuf tb) → BufTy
  | .hbm, ⟨0, _⟩ => ⟨S2048x2048, .f32⟩
  | .hbm, ⟨1, _⟩ => ⟨S2048x2, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S2048x2, .i32⟩
  | .hbm, ⟨10, _⟩ => ⟨S2048x1, .i32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S16384x2x128, .f32⟩
  | .hbm, ⟨15, _⟩ => ⟨S2048x1, .i32⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S8, .i32⟩
  | .hbm, ⟨20, _⟩ => ⟨S1x8, .i32⟩
  | .hbm, ⟨21, _⟩ => ⟨S2048x8, .i32⟩
  | .hbm, ⟨22, _⟩ => ⟨S2048x8, .i32⟩
  | .hbm, ⟨23, _⟩ => ⟨S2048x8, .i32⟩
  | .hbm, ⟨24, _⟩ => ⟨S16384, .i32⟩
  | .hbm, ⟨25, _⟩ => ⟨S2048x1, .i32⟩
  | .hbm, ⟨26, _⟩ => ⟨S_, .i32⟩
  | .hbm, ⟨27, _⟩ => ⟨S2048x1, .i32⟩
  | .hbm, ⟨28, _⟩ => ⟨S2048x1, .i32⟩
  | .hbm, ⟨29, _⟩ => ⟨S8, .i32⟩
  | .hbm, ⟨30, _⟩ => ⟨S1x8, .i32⟩
  | .hbm, ⟨31, _⟩ => ⟨S2048x8, .i32⟩
  | .hbm, ⟨32, _⟩ => ⟨S2048x8, .i32⟩
  | .hbm, ⟨33, _⟩ => ⟨S2048x8, .i32⟩
  | .hbm, ⟨34, _⟩ => ⟨S16384, .i32⟩
  | .hbm, ⟨35, _⟩ => ⟨S32768x2x128, .f32⟩
  | .hbm, ⟨36, _⟩ => ⟨S4096x2048, .f32⟩
  | .local .scVector .vmem, ⟨0, _⟩ => ⟨S128, .i32⟩
  | .local .scVector .vmem, ⟨1, _⟩ => ⟨S128x2x128, .f32⟩
  | _, _ => ⟨S2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_v0 : Ref sig .tc := ⟨.hbm, 6, rfl⟩
abbrev main_call1_v1_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v8_scv : Ref sig .scVector := ⟨.hbm, 14, rfl⟩
abbrev main_v17_scv : Ref sig .scVector := ⟨.hbm, 24, rfl⟩
abbrev main_v26_scv : Ref sig .scVector := ⟨.hbm, 34, rfl⟩
abbrev main_v27_scv : Ref sig .scVector := ⟨.hbm, 35, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg9 : BitVec 32 := Scf.iv c0_i32_0 c1_i32 k0_t1
  let c128_i32 : BitVec 32 := 128#32
  let v4 : BitVec 32 := Scalar.muli arg9 c128_i32
  let v5 : BitVec 32 := Scalar.addi v2 v4
  let c0_i32_14_r0 : BitVec 32 := 0#32
  let c0_i32_15_r0 : BitVec 32 := 0#32
  ![v5.toNat, 0, 0]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg9 : BitVec 32 := Scf.iv c0_i32_0 c1_i32 k0_t1
  let c128_i32 : BitVec 32 := 128#32
  let v4 : BitVec 32 := Scalar.muli arg9 c128_i32
  let v5 : BitVec 32 := Scalar.addi v2 v4
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterReferenceIdeal.lean ====
abbrev S2048x2048 : Shape := ⟨2, ![2048, 2048]⟩
abbrev S2048x2 : Shape := ⟨2, ![2048, 2]⟩
abbrev S2048x2x2048 : Shape := ⟨3, ![2048, 2, 2048]⟩
abbrev S4096x2048 : Shape := ⟨2, ![4096, 2048]⟩
abbrev S4096 : Shape := ⟨1, ![4096]⟩
abbrev S_ : Shape := ⟨0, ![]⟩
abbrev S4096x1 : Shape := ⟨2, ![4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2, .i32⟩
  | .hbm, ⟨2, _⟩ => ⟨S2048x2x2048, .f32⟩
  | .hbm, ⟨3, _⟩ => ⟨S4096x2048, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Router.lean ====
abbrev S2048x2048 : Shape := ⟨2, ![2048, 2048]⟩
abbrev S8x2048 : Shape := ⟨2, ![8, 2048]⟩
abbrev S2048x2 : Shape := ⟨2, ![2048, 2]⟩
abbrev S1x8 : Shape := ⟨2, ![1, 8]⟩
abbrev S1x1 : Shape := ⟨2, ![1, 1]⟩
abbrev S4x15 : Shape := ⟨2, ![4, 15]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S1 : Shape := ⟨1, ![1]⟩
abbrev S8x8 : Shape := ⟨2, ![8, 8]⟩
abbrev S1x64 : Shape := ⟨2, ![1, 64]⟩
abbrev S8x64 : Shape := ⟨2, ![8, 64]⟩
abbrev S64x64 : Shape := ⟨2, ![64, 64]⟩
abbrev S1x15 : Shape := ⟨2, ![1, 15]⟩
abbrev S64x15 : Shape := ⟨2, ![64, 15]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S8x2048, .f32⟩
  | .hbm, ⟨2, _⟩ => ⟨S2048x2, .i32⟩
  | .hbm, ⟨3, _⟩ => ⟨S2048x2, .f32⟩
  | .hbm, ⟨4, _⟩ => ⟨S1x8, .f32⟩
  | .hbm, ⟨5, _⟩ => ⟨S1x1, .f32⟩
  | .hbm, ⟨6, _⟩ => ⟨S2048x2, .i32⟩
  | .hbm, ⟨7, _⟩ => ⟨S4x15, .i32⟩
  | .local _ .vmem, ⟨0, _⟩ => ⟨S2048x2048, .f32⟩
  | .local _ .vmem, ⟨1, _⟩ => ⟨S8x2048, .f32⟩
  | .local _ .vmem, ⟨2, _⟩ => ⟨S2048x2, .i32⟩
  | .local _ .vmem, ⟨3, _⟩ => ⟨S2048x2, .f32⟩
  | .local _ .vmem, ⟨4, _⟩ => ⟨S1x8, .f32⟩
  | .local _ .vmem, ⟨5, _⟩ => ⟨S1x1, .f32⟩
  | .local _ .vmem, ⟨6, _⟩ => ⟨S2048x2, .i32⟩
  | .local _ .vmem, ⟨7, _⟩ => ⟨S4x15, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x15 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== RouterReferenceIdeal.lean ====
abbrev S2048x2048 : Shape := ⟨2, ![2048, 2048]⟩
abbrev S8x2048 : Shape := ⟨2, ![8, 2048]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S8 : Shape := ⟨1, ![8]⟩
abbrev S4096 : Shape := ⟨1, ![4096]⟩
abbrev S1x8 : Shape := ⟨2, ![1, 8]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x2048, .f32⟩
  | .hbm, ⟨2, _⟩ => ⟨S2048x8, .f32⟩
  | .hbm, ⟨3, _⟩ => ⟨S2048x8, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x8, .f32⟩
  | .hbm, ⟨17, _⟩ => ⟨S2048x8, .f32⟩
  | .hbm, ⟨18, _⟩ => ⟨S2048x2, .f32⟩
  | .hbm, ⟨19, _⟩ => ⟨S2048x2, .i32⟩
  | .hbm, ⟨20, _⟩ => ⟨S2048, .i32⟩
  | .hbm, ⟨21, _⟩ => ⟨S2048x1, .i32⟩
  | .hbm, ⟨22, _⟩ => ⟨S_, .f32⟩
  | .hbm, ⟨23, _⟩ => ⟨S2048x8, .f32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S_, .i32⟩
  | .hbm, ⟨32, _⟩ => ⟨S2048x2, .i32⟩
  | .hbm, ⟨33, _⟩ => ⟨S2048x2, .i1⟩
  | .hbm, ⟨34, _⟩ => ⟨S_, .i32⟩
  | .hbm, ⟨35, _⟩ => ⟨S2048x2, .i32⟩
  | .hbm, ⟨36, _⟩ => ⟨S2048x2, .i32⟩
  | .hbm, ⟨37, _⟩ => ⟨S2048x2, .i32⟩
  | .hbm, ⟨38, _⟩ => ⟨S2048x2, .i32⟩
  | .hbm, ⟨39, _⟩ => ⟨S2048x2x1, .i32⟩
  | .hbm, ⟨40, _⟩ => ⟨S2048x2x1, .i32⟩
  | .hbm, ⟨41, _⟩ => ⟨S2048x2x2, .i32⟩
  | .hbm, ⟨42, _⟩ => ⟨S_, .f32⟩
  | .hbm, ⟨43, _⟩ => ⟨S2048x2, .f32⟩
  | .hbm, ⟨44, _⟩ => ⟨S2048x8, .f32⟩
  | .hbm, ⟨45, _⟩ => ⟨S_, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S2048x2, .i32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x2, .f32⟩
  | .hbm, ⟨67, _⟩ => ⟨S2048x2, .f32⟩
  | .hbm, ⟨68, _⟩ => ⟨S1x8, .f32⟩
  | .hbm, ⟨69, _⟩ => ⟨S8, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1_0 : Ref sig .tc := ⟨.hbm, 57, rfl⟩
abbrev main_v39 : Ref sig .tc := ⟨.hbm, 58, rfl⟩
abbrev main_call1_v0 : Ref sig .tc := ⟨.hbm, 59, rfl⟩
abbrev main_call1_v1_0 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Experts.lean ====
abbrev S15 : Shape := ⟨1, ![15]⟩
abbrev S4096x2048 : Shape := ⟨2, ![4096, 2048]⟩
abbrev S8x2048x4096 : Shape := ⟨3, ![8, 2048, 4096]⟩
abbrev S8x4096x2048 : Shape := ⟨3, ![8, 4096, 2048]⟩
abbrev S512x2048 : Shape := ⟨2, ![512, 2048]⟩
abbrev S1 : Shape := ⟨1, ![1]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S512x1 : Shape := ⟨2, ![512, 1]⟩

abbrev nBuf : Space → Nat
  | .hbm => 4
  | .vmem => 7
  | .smem => 4
  | _ => 0

abbrev bufTy : (tb : Table) → Fin (tcTables nBuf tb) → BufTy
  | .hbm, ⟨0, _⟩ => ⟨S4096x2048, .f32⟩
  | .hbm, ⟨1, _⟩ => ⟨S8x2048x4096, .f32⟩
  | .hbm, ⟨2, _⟩ => ⟨S8x4096x2048, .f32⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S4096x2048, .f32⟩
  | .local _ .smem, ⟨0, _⟩ => ⟨S15, .i32⟩
  | .local _ .smem, ⟨1, _⟩ => ⟨S15, .i32⟩
  | .local _ .smem, ⟨2, _⟩ => ⟨S15, .i32⟩
  | .local _ .smem, ⟨3, _⟩ => ⟨S15, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 15], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v12 : Index := Scalar.indexCast arg1
  ![v12.toNat]
def k0_off3 (v13 : BitVec 32) : Fin 2 → Nat :=
  let c512_i32 : BitVec 32 := 512#32
  let v40 : BitVec 32 := Scalar.muli v13 c512_i32
  let v41 : Index := Scalar.indexCast v40
  let c0_16 : Index := 0#32
  ![v41.toNat, 0]
def k0_cond2 (v6 : BitVec 32) (v8 : BitVec 32) : BitVec 1 :=
  let v9 : BitVec 1 := Scalar.cmpi .sgt v8 v6
  let v10 : BitVec 32 := Scalar.extui v9
  let c0_i32_2 : BitVec 32 := 0#32
  let v11 : BitVec 1 := Scalar.cmpi .ne v10 c0_i32_2
  v11

def k0_chk1 (v6 : BitVec 32) (v8 : BitVec 32) (v13 : BitVec 32) : Prop :=
  (∀ (k0_h2 : k0_cond2 v6 v8 = 1#1), ∀ a, (k0_off3 v13) a + S512x2048.size a ≤ S4096x2048.size a)
theorem k0_off3_inb : ∀ (v6 : BitVec 32) (v8 : BitVec 32) (v13 : BitVec 32) (k0_hw1 : k0_chk1 v6 v8 v13), ∀ (k0_h2 : k0_cond2 v6 v8 = 1#1), ∀ a, (k0_off3 v13) a + S512x2048.size a ≤ S4096x2048.size a := fun v6 v8 v13 k0_hw1 k0_h2 => k0_hw1 k0_h2

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (k0_off1_inb : ∀ i : grid0.Coords, ∀ a, (k0_off1 i) a + S1.size a ≤ S15.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S15) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S15.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S15) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S15.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S15) ![v0.toNat] S1.size (k0_off1_inb i)) numel1_S1
  let c0_i32 : BitVec 32 := 0#32
  let c0_i32_0 : BitVec 32 := 0#32
  ![v1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ExpertsReferenceIdeal.lean ====
abbrev S15 : Shape := ⟨1, ![15]⟩
abbrev S4096x2048 : Shape := ⟨2, ![4096, 2048]⟩
abbrev S8x2048x4096 : Shape := ⟨3, ![8, 2048, 4096]⟩
abbrev S8x4096x2048 : Shape := ⟨3, ![8, 4096, 2048]⟩
abbrev S4096 : Shape := ⟨1, ![4096]⟩
abbrev S4096x1 : Shape := ⟨2, ![4096, 1]⟩
abbrev S_ : Shape := ⟨0, ![]⟩
abbrev S1x15 : Shape := ⟨2, ![1, 15]⟩
abbrev S4096x15 : Shape := ⟨2, ![4096, 15]⟩
abbrev S4096x15x1 : Shape := ⟨3, ![4096, 15, 1]⟩
abbrev S15x1 : Shape := ⟨2, ![15, 1]⟩
abbrev S8 : Shape := ⟨1, ![8]⟩
abbrev S1x8 : Shape := ⟨2, ![1, 8]⟩
abbrev S15x8 : Shape := ⟨2, ![15, 8]⟩
abbrev S1x15x8 : Shape := ⟨3, ![1, 15, 8]⟩
abbrev S4096x15x8 : Shape := ⟨3, ![4096, 15, 8]⟩
abbrev S4096x8 : Shape := ⟨2, ![4096, 8]⟩
abbrev S8x4096x4096 : Shape := ⟨3, ![8, 4096, 4096]⟩

abbrev nBuf : Space → Nat
  | .hbm => 63
  | .vmem => 0
  | .smem => 0
  | _ => 0

abbrev bufTy : (tb : Table) → Fin (tcTables nBuf tb) → BufTy
  | .hbm, ⟨0, _⟩ => ⟨S15, .i32⟩
  | .hbm, ⟨1, _⟩ => ⟨S15, .i32⟩
  | .hbm, ⟨2, _⟩ => ⟨S15, .i32⟩
  | .hbm, ⟨3, _⟩ => ⟨S15, .i32⟩
  | .hbm, ⟨4, _⟩ => ⟨S4096x2048, .f32⟩
  | .hbm, ⟨5, _⟩ => ⟨S8x2048x4096, .f32⟩
  | .hbm, ⟨6, _⟩ => ⟨S8x4096x2048, .f32⟩
  | .hbm, ⟨7, _⟩ => ⟨S4096, .i32⟩
  | .hbm, ⟨8, _⟩ => ⟨S4096x1, .i32⟩
  | .hbm, ⟨9, _⟩ => ⟨S_, .i32⟩
  | .hbm, ⟨10, _⟩ => ⟨S15, .i32⟩
  | .hbm, ⟨11, _⟩ => ⟨S15, .i32⟩
  | .hbm, ⟨12, _⟩ => ⟨S1x15, .i32⟩
  | .hbm, ⟨13, _⟩ => ⟨S4096x15, .i32⟩
  | .hbm, ⟨14, _⟩ => ⟨S4096x15, .i32⟩
  | .hbm, ⟨15, _⟩ => ⟨S4096x15, .i32⟩
  | .hbm, ⟨16, _⟩ => ⟨S_, .i32⟩
  | .hbm, ⟨17, _⟩ => ⟨S4096x15, .i32⟩
  | .hbm, ⟨18, _⟩ => ⟨S4096x15, .i1⟩
  | .hbm, ⟨19, _⟩ => ⟨S_, .i32⟩
  | .hbm, ⟨20, _⟩ => ⟨S4096x15, .i32⟩
  | .hbm, ⟨21, _⟩ => ⟨S4096x15, .i1⟩
  | .hbm, ⟨22, _⟩ => ⟨S4096x15, .i1⟩
  | .hbm, ⟨23, _⟩ => ⟨S1x15, .i32⟩
  | .hbm, ⟨24, _⟩ => ⟨S4096x15, .i32⟩
  | .hbm, ⟨25, _⟩ => ⟨S4096x15, .i1⟩
  | .hbm, ⟨26, _⟩ => ⟨S4096x15, .i1⟩
  | .hbm, ⟨27, _⟩ => ⟨S1x15, .i32⟩
  | .hbm, ⟨28, _⟩ => ⟨S4096x15, .i32⟩
  | .hbm, ⟨29, _⟩ => ⟨S4096x15, .i1⟩
  | .hbm, ⟨30, _⟩ => ⟨S4096x15, .i1⟩
  | .hbm, ⟨31, _⟩ => ⟨S4096x15x1, .i1⟩
  | .hbm, ⟨32, _⟩ => ⟨S15x1, .i32⟩
  | .hbm, ⟨33, _⟩ => ⟨S8, .i32⟩
  | .hbm, ⟨34, _⟩ => ⟨S1x8, .i32⟩
  | .hbm, ⟨35, _⟩ => ⟨S15x8, .i32⟩
  | .hbm, ⟨36, _⟩ => ⟨S15x8, .i32⟩
  | .hbm, ⟨37, _⟩ => ⟨S15x8, .i1⟩
  | .hbm, ⟨38, _⟩ => ⟨S1x15x8, .i1⟩
  | .hbm, ⟨39, _⟩ => ⟨S4096x15x8, .i1⟩
  | .hbm, ⟨40, _⟩ => ⟨S4096x15x8, .i1⟩
  | .hbm, ⟨41, _⟩ => ⟨S4096x15x8, .i1⟩
  | .hbm, ⟨42, _⟩ => ⟨S_, .f32⟩
  | .hbm, ⟨43, _⟩ => ⟨S_, .f32⟩
  | .hbm, ⟨44, _⟩ => ⟨S4096x15x8, .f32⟩
  | .hbm, ⟨45, _⟩ => ⟨S4096x15x8, .f32⟩
  | .hbm, ⟨46, _⟩ => ⟨S4096x15x8, .f32⟩
  | .hbm, ⟨47, _⟩ => ⟨S4096x15x8, .f32⟩
  | .hbm, ⟨48, _⟩ => ⟨S_, .f32⟩
  | .hbm, ⟨49, _⟩ => ⟨S4096x8, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x2048, .f32⟩
  | .hbm, ⟨62, _⟩ => ⟨S4096x2048, .f32⟩
  | _, _ => ⟨S15, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== MoeIdeal.lean ====
abbrev S1x2048x2048 : Shape := ⟨3, ![1, 2048, 2048]⟩
abbrev S8x2048 : Shape := ⟨2, ![8, 2048]⟩
abbrev S8x2048x4096 : Shape := ⟨3, ![8, 2048, 4096]⟩
abbrev S8x4096x2048 : Shape := ⟨3, ![8, 4096, 2048]⟩
abbrev S2048x2048 : Shape := ⟨2, ![2048, 2048]⟩
abbrev S2048x2 : Shape := ⟨2, ![2048, 2]⟩
abbrev S1x8 : Shape := ⟨2, ![1, 8]⟩
abbrev S1x1 : Shape := ⟨2, ![1, 1]⟩
abbrev S4x15 : Shape := ⟨2, ![4, 15]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S1 : Shape := ⟨1, ![1]⟩
abbrev S8x8 : Shape := ⟨2, ![8, 8]⟩
abbrev S1x64 : Shape := ⟨2, ![1, 64]⟩
abbrev S8x64 : Shape := ⟨2, ![8, 64]⟩
abbrev S64x64 : Shape := ⟨2, ![64, 64]⟩
abbrev S1x15 : Shape := ⟨2, ![1, 15]⟩
abbrev S64x15 : Shape := ⟨2, ![64, 15]⟩
abbrev S_ : Shape := ⟨0, ![]⟩
abbrev S16384x2x128 : Shape := ⟨3, ![16384, 2, 128]⟩
abbrev S16384 : Shape := ⟨1, ![16384]⟩
abbrev S32768x2x128 : Shape := ⟨3, ![32768, 2, 128]⟩
abbrev S128 : Shape := ⟨1, ![128]⟩
abbrev S128x2x128 : Shape := ⟨3, ![128, 2, 128]⟩
abbrev S4096x2048 : Shape := ⟨2, ![4096, 2048]⟩
abbrev S15 : Shape := ⟨1, ![15]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S512x1 : Shape := ⟨2, ![512, 1]⟩
abbrev S4096 : Shape := ⟨1, ![4096]⟩
abbrev S4096x1 : Shape := ⟨2, ![4096, 1]⟩
abbrev S4096x8 : Shape := ⟨2, ![4096, 8]⟩
abbrev S32768 : Shape := ⟨1, ![32768]⟩
abbrev S256 : Shape := ⟨1, ![256]⟩
abbrev S256x2x128 : Shape := ⟨3, ![256, 2, 128]⟩
abbrev S256x2048 : Shape := ⟨2, ![256, 2048]⟩
abbrev S256x2 : Shape := ⟨2, ![256, 2]⟩
abbrev S256x1 : Shape := ⟨2, ![256, 1]⟩

abbrev nBuf : Table → Nat
  | .hbm => 60
  | .local .tc .vmem => 23
  | .local .tc .smem => 4
  | .local .scVector .vmem => 4
  | _ => 0

abbrev bufTy : (tb : Table) → Fin (nBuf tb) → BufTy
  | .hbm, ⟨0, _⟩ => ⟨S1x2048x2048, .f32⟩
  | .hbm, ⟨1, _⟩ => ⟨S8x2048, .f32⟩
  | .hbm, ⟨2, _⟩ => ⟨S8x2048x4096, .f32⟩
  | .hbm, ⟨3, _⟩ => ⟨S8x4096x2048, .f32⟩
  | .hbm, ⟨4, _⟩ => ⟨S2048x2048, .f32⟩
  | .hbm, ⟨5, _⟩ => ⟨S2048x2, .i32⟩
  | .hbm, ⟨6, _⟩ => ⟨S2048x2, .f32⟩
  | .hbm, ⟨7, _⟩ => ⟨S1x8, .f32⟩
  | .hbm, ⟨8, _⟩ => ⟨S1x1, .f32⟩
  | .hbm, ⟨9, _⟩ => ⟨S2048x2, .i32⟩
  | .hbm, ⟨10, _⟩ => ⟨S4x15, .i32⟩
  | .hbm, ⟨11, _⟩ => ⟨S_, .f32⟩
  | .hbm, ⟨12, _⟩ => ⟨S2048x1, .i32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S16384x2x128, .f32⟩
  | .hbm, ⟨17, _⟩ => ⟨S2048x1, .i32⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S8, .i32⟩
  | .hbm, ⟨22, _⟩ => ⟨S1x8, .i32⟩
  | .hbm, ⟨23, _⟩ => ⟨S2048x8, .i32⟩
  | .hbm, ⟨24, _⟩ => ⟨S2048x8, .i32⟩
  | .hbm, ⟨25, _⟩ => ⟨S2048x8, .i32⟩
  | .hbm, ⟨26, _⟩ => ⟨S16384, .i32⟩
  | .hbm, ⟨27, _⟩ => ⟨S2048x1, .i32⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S8, .i32⟩
  | .hbm, ⟨32, _⟩ => ⟨S1x8, .i32⟩
  | .hbm, ⟨33, _⟩ => ⟨S2048x8, .i32⟩
  | .hbm, ⟨34, _⟩ => ⟨S2048x8, .i32⟩
  | .hbm, ⟨35, _⟩ => ⟨S2048x8, .i32⟩
  | .hbm, ⟨36, _⟩ => ⟨S16384, .i32⟩
  | .hbm, ⟨37, _⟩ => ⟨S32768x2x128, .f32⟩
  | .hbm, ⟨38, _⟩ => ⟨S4096x2048, .f32⟩
  | .hbm, ⟨39, _⟩ => ⟨S1x15, .i32⟩
  | .hbm, ⟨40, _⟩ => ⟨S1x15, .i32⟩
  | .hbm, ⟨41, _⟩ => ⟨S1x15, .i32⟩
  | .hbm, ⟨42, _⟩ => ⟨S1x15, .i32⟩
  | .hbm, ⟨43, _⟩ => ⟨S4096x2048, .f32⟩
  | .hbm, ⟨44, _⟩ => ⟨S4096, .i32⟩
  | .hbm, ⟨45, _⟩ => ⟨S32768x2x128, .f32⟩
  | .hbm, ⟨46, _⟩ => ⟨S4096x1, .i32⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S8, .i32⟩
  | .hbm, ⟨51, _⟩ => ⟨S1x8, .i32⟩
  | .hbm, ⟨52, _⟩ => ⟨S4096x8, .i32⟩
  | .hbm, ⟨53, _⟩ => ⟨S4096x8, .i32⟩
  | .hbm, ⟨54, _⟩ => ⟨S4096x8, .i32⟩
  | .hbm, ⟨55, _⟩ => ⟨S32768, .i32⟩
  | .hbm, ⟨56, _⟩ => ⟨S32768x2x128, .f32⟩
  | .hbm, ⟨57, _⟩ => ⟨S4096x2048, .f32⟩
  | .hbm, ⟨58, _⟩ => ⟨S2048x2048, .f32⟩
  | .hbm, ⟨59, _⟩ => ⟨S1x2048x2048, .f32⟩
  | .local .tc .vmem, ⟨0, _⟩ => ⟨S2048x2048, .f32⟩
  | .local .tc .vmem, ⟨1, _⟩ => ⟨S8x2048, .f32⟩
  | .local .tc .vmem, ⟨2, _⟩ => ⟨S2048x2, .i32⟩
  | .local .tc .vmem, ⟨3, _⟩ => ⟨S2048x2, .f32⟩
  | .local .tc .vmem, ⟨4, _⟩ => ⟨S1x8, .f32⟩
  | .local .tc .vmem, ⟨5, _⟩ => ⟨S1x1, .f32⟩
  | .local .tc .vmem, ⟨6, _⟩ => ⟨S2048x2, .i32⟩
  | .local .tc .vmem, ⟨7, _⟩ => ⟨S4x15, .i32⟩
  | .local .tc .vmem, ⟨8, _⟩ => ⟨S512x2048, .f32⟩
  | .local .tc .vmem, ⟨9, _⟩ => ⟨S512x2048, .f32⟩
  | .local .tc .vmem, ⟨10, _⟩ => ⟨S1x2048x512, .f32⟩
  | .local .tc .vmem, ⟨11, _⟩ => ⟨S1x2048x512, .f32⟩
  | .local .tc .vmem, ⟨12, _⟩ => ⟨S1x512x2048, .f32⟩
  | .local .tc .vmem, ⟨13, _⟩ => ⟨S1x512x2048, .f32⟩
  | .local .tc .vmem, ⟨14, _⟩ => ⟨S4096x2048, .f32⟩
  | .local .tc .vmem, ⟨15, _⟩ => ⟨S256x2048, .f32⟩
  | .local .tc .vmem, ⟨16, _⟩ => ⟨S256x2048, .f32⟩
  | .local .tc .vmem, ⟨17, _⟩ => ⟨S256x2048, .f32⟩
  | .local .tc .vmem, ⟨18, _⟩ => ⟨S256x2048, .f32⟩
  | .local .tc .vmem, ⟨19, _⟩ => ⟨S256x2, .f32⟩
  | .local .tc .vmem, ⟨20, _⟩ => ⟨S256x2, .f32⟩
  | .local .tc .vmem, ⟨21, _⟩ => ⟨S256x2048, .f32⟩
  | .local .tc .vmem, ⟨22, _⟩ => ⟨S256x2048, .f32⟩
  | .local .tc .smem, ⟨0, _⟩ => ⟨S15, .i32⟩
  | .local .tc .smem, ⟨1, _⟩ => ⟨S15, .i32⟩
  | .local .tc .smem, ⟨2, _⟩ => ⟨S15, .i32⟩
  | .local .tc .smem, ⟨3, _⟩ => ⟨S15, .i32⟩
  | .local .scVector .vmem, ⟨0, _⟩ => ⟨S128, .i32⟩
  | .local .scVector .vmem, ⟨1, _⟩ => ⟨S128x2x128, .f32⟩
  | .local .scVector .vmem, ⟨2, _⟩ => ⟨S256, .i32⟩
  | .local .scVector .vmem, ⟨3, _⟩ => ⟨S256x2x128, .f32⟩
  | _, _ => ⟨S1x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v30 : Ref sig .tc := ⟨.hbm, 40, rfl⟩
abbrev main_v32 : Ref sig .tc := ⟨.hbm, 41, rfl⟩
abbrev main_v34 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v29 : Ref sig .tc := ⟨.smem, 0, rfl⟩
abbrev main_v31 : Ref sig .tc := ⟨.smem, 1, rfl⟩
abbrev main_v33 : Ref sig .tc := ⟨.smem, 2, rfl⟩
abbrev main_v35 : Ref sig .tc := ⟨.smem, 3, rfl⟩
abbrev main_v7_scv : Ref sig .scVector := ⟨.hbm, 16, rfl⟩
abbrev main_v16_scv : Ref sig .scVector := ⟨.hbm, 26, rfl⟩
abbrev main_v25_scv : Ref sig .scVector := ⟨.hbm, 36, rfl⟩
abbrev main_v26_scv : Ref sig .scVector := ⟨.hbm, 37, rfl⟩
abbrev main_v38_scv : Ref sig .scVector := ⟨.hbm, 45, rfl⟩
abbrev main_v47_scv : Ref sig .scVector := ⟨.hbm, 55, rfl⟩
abbrev main_v48_scv : Ref sig .scVector := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc4_stg0_0 : Ref sig .tc := ⟨.vmem, 15, rfl⟩
abbrev cc4_stg0_1 : Ref sig .tc := ⟨.vmem, 16, rfl⟩
abbrev cc4_stg1_0 : Ref sig .tc := ⟨.vmem, 17, rfl⟩
abbrev cc4_stg1_1 : Ref sig .tc := ⟨.vmem, 18, rfl⟩
abbrev cc4_stg2_0 : Ref sig .tc := ⟨.vmem, 19, rfl⟩
abbrev cc4_stg2_1 : Ref sig .tc := ⟨.vmem, 20, rfl⟩
abbrev cc4_stg3_0 : Ref sig .tc := ⟨.vmem, 21, rfl⟩
abbrev cc4_stg3_1 : Ref sig .tc := ⟨.vmem, 22, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem3_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x15 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k1_off1 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg9 : BitVec 32 := Scf.iv c0_i32_0 c1_i32 k1_t1
  let c128_i32 : BitVec 32 := 128#32
  let v4 : BitVec 32 := Scalar.muli arg9 c128_i32
  let v5 : BitVec 32 := Scalar.addi v2 v4
  let c0_i32_14_r0 : BitVec 32 := 0#32
  let c0_i32_15_r0 : BitVec 32 := 0#32
  ![v5.toNat, 0, 0]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg9 : BitVec 32 := Scf.iv c0_i32_0 c1_i32 k1_t1
  let c128_i32 : BitVec 32 := 128#32
  let v4 : BitVec 32 := Scalar.muli arg9 c128_i32
  let v5 : BitVec 32 := Scalar.addi v2 v4
  ![v5.toNat]
abbrev grid2 : Pipeline.Grid := ⟨2, ![8, 15], ![false, false]⟩

abbrev pre2 : Pipeline.Prefetch sig := ⟨4, ![main_v29.idx, main_v31.idx, main_v33.idx, main_v35.idx], fun | 0 => main_v29.names | 1 => main_v31.names | 2 => main_v33.names | 3 => main_v35.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k2_off1 (i : grid2.Coords) : Fin 1 → Nat :=
  let arg1 : BitVec 32 := BitVec.ofNat 32 (i 1).val
  let v0 : Index := Scalar.indexCast arg1
  ![v0.toNat]
def k2_off2 (i : grid2.Coords) : Fin 1 → Nat :=
  let arg1 : BitVec 32 := BitVec.ofNat 32 (i 1).val
  let v12 : Index := Scalar.indexCast arg1
  ![v12.toNat]
def k2_off3 (v13 : BitVec 32) : Fin 2 → Nat :=
  let c512_i32 : BitVec 32 := 512#32
  let v41 : BitVec 32 := Scalar.muli v13 c512_i32
  let v42 : Index := Scalar.indexCast v41
  let c0_16 : Index := 0#32
  ![v42.toNat, 0]
def k2_cond2 (v6 : BitVec 32) (v8 : BitVec 32) : BitVec 1 :=
  let v9 : BitVec 1 := Scalar.cmpi .sgt v8 v6
  let v10 : BitVec 32 := Scalar.extui v9
  let c0_i32_2 : BitVec 32 := 0#32
  let v11 : BitVec 1 := Scalar.cmpi .ne v10 c0_i32_2
  v11

def k2_chk1 (v6 : BitVec 32) (v8 : BitVec 32) (v13 : BitVec 32) : Prop :=
  (∀ (k2_h2 : k2_cond2 v6 v8 = 1#1), ∀ a, (k2_off3 v13) a + S512x2048.size a ≤ S4096x2048.size a)
theorem k2_off3_inb : ∀ (v6 : BitVec 32) (v8 : BitVec 32) (v13 : BitVec 32) (k2_hw1 : k2_chk1 v6 v8 v13), ∀ (k2_h2 : k2_cond2 v6 v8 = 1#1), ∀ a, (k2_off3 v13) a + S512x2048.size a ≤ S4096x2048.size a := fun v6 v8 v13 k2_hw1 k2_h2 => k2_hw1 k2_h2

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc2_transform_0 (k2_off1_inb : ∀ i : grid2.Coords, ∀ a, (k2_off1 i) a + S1.size a ≤ S15.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S15) ![v0.toNat] S1.size (k2_off1_inb i)) numel1_S1
  let c0_i32 : BitVec 32 := 0#32
  let c0_i32_0 : BitVec 32 := 0#32
  ![v1.toNat, c0_i32.toNat]

def cc2_transform_1 (k2_off1_inb : ∀ i : grid2.Coords, ∀ a, (k2_off1 i) a + S1.size a ≤ S15.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S15) ![v0.toNat] S1.size (k2_off1_inb i)) numel1_S1
  let c0_i32 : BitVec 32 := 0#32
  let c0_i32_0 : BitVec 32 := 0#32
  ![v1.toNat, c0_i32.toNat, arg0.toNat]

def cc2_transform_2 (k2_off1_inb : ∀ i : grid2.Coords, ∀ a, (k2_off1 i) a + S1.size a ≤ S15.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S15) ![v0.toNat] S1.size (k2_off1_inb i)) numel1_S1
  let c0_i32 : BitVec 32 := 0#32
  let c0_i32_0 : BitVec 32 := 0#32
  ![v1.toNat, arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S4096x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev grid3 : Pipeline.Grid := ⟨2, ![2, 16], ![false, false]⟩

@[reducible] def k3_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg8 : BitVec 32 := Scf.iv c0_i32_0 c1_i32 k3_t1
  let c256_i32 : BitVec 32 := 256#32
  let v4 : BitVec 32 := Scalar.muli arg8 c256_i32
  let v5 : BitVec 32 := Scalar.addi v2 v4
  ![v5.toNat]
def k3_off2 (i : grid3.Coords) (k3_t1 : Fin k3_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg8 : BitVec 32 := Scf.iv c0_i32_0 c1_i32 k3_t1
  let c256_i32 : BitVec 32 := 256#32
  let v4 : BitVec 32 := Scalar.muli arg8 c256_i32
  let v5 : BitVec 32 := Scalar.addi v2 v4
  let c0_i32_8_r1 : BitVec 32 := 0#32
  let c0_i32_9_r1 : BitVec 32 := 0#32
  ![v5.toNat, 0, 0]
abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== MoeReferenceIdeal.lean ====
abbrev S1x2048x2048 : Shape := ⟨3, ![1, 2048, 2048]⟩
abbrev S8x2048 : Shape := ⟨2, ![8, 2048]⟩
abbrev S8x2048x4096 : Shape := ⟨3, ![8, 2048, 4096]⟩
abbrev S8x4096x2048 : Shape := ⟨3, ![8, 4096, 2048]⟩
abbrev S2048x2048 : Shape := ⟨2, ![2048, 2048]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S8x2048x2048 : Shape := ⟨3, ![8, 2048, 2048]⟩
abbrev S8 : Shape := ⟨1, ![8]⟩

abbrev nBuf : Space → Nat
  | .hbm => 103
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8x2048, .f32⟩
  | .hbm, ⟨2, _⟩ => ⟨S8x2048x4096, .f32⟩
  | .hbm, ⟨3, _⟩ => ⟨S8x4096x2048, .f32⟩
  | .hbm, ⟨4, _⟩ => ⟨S2048x2048, .f32⟩
  | .hbm, ⟨5, _⟩ => ⟨S2048x8, .f32⟩
  | .hbm, ⟨6, _⟩ => ⟨S2048x8, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x8, .f32⟩
  | .hbm, ⟨20, _⟩ => ⟨S2048x8, .f32⟩
  | .hbm, ⟨21, _⟩ => ⟨S2048x2, .f32⟩
  | .hbm, ⟨22, _⟩ => ⟨S2048x2, .i32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x2, .f32⟩
  | .hbm, ⟨27, _⟩ => ⟨S2048x2, .f32⟩
  | .hbm, ⟨28, _⟩ => ⟨S2048, .i32⟩
  | .hbm, ⟨29, _⟩ => ⟨S2048x1, .i32⟩
  | .hbm, ⟨30, _⟩ => ⟨S_, .f32⟩
  | .hbm, ⟨31, _⟩ => ⟨S2048x8, .f32⟩
  | .hbm, ⟨32, _⟩ => ⟨S_, .i32⟩
  | .hbm, ⟨33, _⟩ => ⟨S2048x1, .i32⟩
  | .hbm, ⟨34, _⟩ => ⟨S2048x1, .i1⟩
  | .hbm, ⟨35, _⟩ => ⟨S_, .i32⟩
  | .hbm, ⟨36, _⟩ => ⟨S2048x1, .i32⟩
  | .hbm, ⟨37, _⟩ => ⟨S2048x1, .i32⟩
  | .hbm, ⟨38, _⟩ => ⟨S2048x1, .i32⟩
  | .hbm, ⟨39, _⟩ => ⟨S_, .i32⟩
  | .hbm, ⟨40, _⟩ => ⟨S2048x2, .i32⟩
  | .hbm, ⟨41, _⟩ => ⟨S2048x2, .i1⟩
  | .hbm, ⟨42, _⟩ => ⟨S_, .i32⟩
  | .hbm, ⟨43, _⟩ => ⟨S2048x2, .i32⟩
  | .hbm, ⟨44, _⟩ => ⟨S2048x2, .i32⟩
  | .hbm, ⟨45, _⟩ => ⟨S2048x2, .i32⟩
  | .hbm, ⟨46, _⟩ => ⟨S2048x2, .i32⟩
  | .hbm, ⟨47, _⟩ => ⟨S2048x2x1, .i32⟩
  | .hbm, ⟨48, _⟩ => ⟨S2048x2x1, .i32⟩
  | .hbm, ⟨49, _⟩ => ⟨S2048x2x2, .i32⟩
  | .hbm, ⟨50, _⟩ => ⟨S2048x8, .f32⟩
  | .hbm, ⟨51, _⟩ => ⟨S8x4096x2048, .f32⟩
  | .hbm, ⟨52, _⟩ => ⟨S8x2048x4096, .f32⟩
  | .hbm, ⟨53, _⟩ => ⟨S_, .f32⟩
  | .hbm, ⟨54, _⟩ => ⟨S8x2048x4096, .f32⟩
  | .hbm, ⟨55, _⟩ => ⟨S8x2048x4096, .f32⟩
  | .hbm, ⟨56, _⟩ => ⟨S8x2048x4096, .f32⟩
  | .hbm, ⟨57, _⟩ => ⟨S_, .f32⟩
  | .hbm, ⟨58, _⟩ => ⟨S8x2048x4096, .f32⟩
  | .hbm, ⟨59, _⟩ => ⟨S8x2048x4096, .f32⟩
  | .hbm, ⟨60, _⟩ => ⟨S8x2048x4096, .f32⟩
  | .hbm, ⟨61, _⟩ => ⟨S8x2048x4096, .f32⟩
  | .hbm, ⟨62, _⟩ => ⟨S8x2048x2048, .f32⟩
  | .hbm, ⟨63, _⟩ => ⟨S2048x2048, .f32⟩
  | .hbm, ⟨64, _⟩ => ⟨S1x2048x2048, .f32⟩
  | .hbm, ⟨65, _⟩ => ⟨S_, .f32⟩
  | .hbm, ⟨66, _⟩ => ⟨S2048x8, .f32⟩
  | .hbm, ⟨67, _⟩ => ⟨S_, .i32⟩
  | .hbm, ⟨68, _⟩ => ⟨S2048x1, .i32⟩
  | .hbm, ⟨69, _⟩ => ⟨S2048x1, .i1⟩
  | .hbm, ⟨70, _⟩ => ⟨S_, .i32⟩
  | .hbm, ⟨71, _⟩ => ⟨S2048x1, .i32⟩
  | .hbm, ⟨72, _⟩ => ⟨S2048x1, .i32⟩
  | .hbm, ⟨73, _⟩ => ⟨S2048x1, .i32⟩
  | .hbm, ⟨74, _⟩ => ⟨S_, .i32⟩
  | .hbm, ⟨75, _⟩ => ⟨S2048x2, .i32⟩
  | .hbm, ⟨76, _⟩ => ⟨S2048x2, .i1⟩
  | .hbm, ⟨77, _⟩ => ⟨S_, .i32⟩
  | .hbm, ⟨78, _⟩ => ⟨S2048x2, .i32⟩
  | .hbm, ⟨79, _⟩ => ⟨S2048x2, .i32⟩
  | .hbm, ⟨80, _⟩ => ⟨S2048x2, .i32⟩
  | .hbm, ⟨81, _⟩ => ⟨S2048x2, .i32⟩
  | .hbm, ⟨82, _⟩ => ⟨S2048x2x1, .i32⟩
  | .hbm, ⟨83, _⟩ => ⟨S2048x2x1, .i32⟩
  | .hbm, ⟨84, _⟩ => ⟨S2048x2x2, .i32⟩
  | .hbm, ⟨85, _⟩ => ⟨S_, .f32⟩
  | .hbm, ⟨86, _⟩ => ⟨S2048x2, .f32⟩
  | .hbm, ⟨87, _⟩ => ⟨S2048x8, .f32⟩
  | .hbm, ⟨88, _⟩ => ⟨S_, .f32⟩
  | .hbm, ⟨89, _⟩ => ⟨S8, .f32⟩
  | .hbm, ⟨90, _⟩ => ⟨S_, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S8, .f32⟩
  | .hbm, ⟨95, _⟩ => ⟨S_, .f32⟩
  | .hbm, ⟨96, _⟩ => ⟨S8, .f32⟩
  | .hbm, ⟨97, _⟩ => ⟨S8, .f32⟩
  | .hbm, ⟨98, _⟩ => ⟨S8, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Proof.Comb.Setup.lean ====
/-
  The combine call's launch, set up: the program as the launch theorem sees it, the ghost state (the handshakes' rounds,
  the TensorCore pipeline's rounds, the transfers' counters), the arrays the SparseCore call reads and writes, the rows
  each tile owns of its result, and what the handshakes carry. Thirty-two tiles (two SparseCores of sixteen) each gather
  1024 rows of the table: every tile reads the whole table and the whole list by a share, and owns its own rows of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EP_landsIn : (EP : Emb UR 𝕄).LandsIn (upEmb : UEmb _ 𝕄) := by unfold EP; infer_instance

/-! ## The arrays of the SparseCore call -/

abbrev tLoc (d : Dev nD) : Loc nD τ sig := (SparseCore.T d).loc main_v1
abbrev iLoc (d : Dev nD) : Loc nD τ sig := (SparseCore.T d).loc main_v10
abbrev oLoc (d : Dev nD) : Loc nD τ sig := (SparseCore.T d).loc main_v11

/-- The index of the list's word that result row `n` reads. -/
def lix (n : Fin 32768) : S32768.Idx := fun a => ⟨n.val, by fin_cases a; exact n.isLt⟩

/-- The gathered rows: row `x 0` of the result is the table's row the list's word at `x 0` names. -/
def gath (Tb : S32768x2x128.Idx → Elt F .f32) (Ix : S32768.Idx → Elt F .i32) : S32768x2x128.Idx → Elt F .f32 := fun x =>
  Tb (Function.update x 0 ⟨(Ix (lix (x 0)) : BitVec 32).toNat % 32768, Nat.mod_lt _ (by norm_num)⟩)

/-- The rows of the result that tile `i` of SparseCore `c` writes. -/
def tileSet (c : Fin 2) (i : Fin 16) : Finset S32768x2x128.Idx := Finset.univ.filter fun x => (x 0).val / 1024 = 2 * i.val + c.val
/-- The rows of the result that SparseCore `c` writes. -/
def coreSet (c : Fin 2) : Finset S32768x2x128.Idx := Finset.univ.filter fun x => (x 0).val / 1024 % 2 = c.val

theorem mem_tileSet {c : Fin 2} {i : Fin 16} {x : S32768x2x128.Idx} : x ∈ tileSet c i ↔ (x 0).val / 1024 = 2 * i.val + c.val := by
  simp [tileSet]
theorem mem_coreSet {c : Fin 2} {x : S32768x2x128.Idx} : x ∈ coreSet c ↔ (x 0).val / 1024 % 2 = c.val := by
  simp [coreSet]

theorem row_lt (x : S32768x2x128.Idx) : (x 0).val < 32768 := (x 0).isLt

theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun x hi hj => h (Fin.ext ?_)
  have := mem_tileSet.mp hi; have := mem_tileSet.mp hj; omega
theorem tiles_cover (c : Fin 2) : (Finset.univ : Finset (Fin 16)).biUnion (tileSet c) = coreSet c := by
  ext x
  simp only [Finset.mem_biUnion, Finset.mem_univ, true_and, mem_tileSet, mem_coreSet]
  have := row_lt x; have := c.isLt
  constructor
  · rintro ⟨i, hi⟩; omega
  · intro h; exact ⟨⟨(x 0).val / 1024 / 2, by omega⟩, by show _ = 2 * ((x 0).val / 1024 / 2) + c.val; omega⟩
theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun x hi hj => h (Fin.ext ?_)
  have := mem_coreSet.mp hi; have := mem_coreSet.mp hj; omega
theorem cores_cover : (Finset.univ : Finset (Fin 2)).biUnion coreSet = Finset.univ := by
  ext x
  simp only [Finset.mem_biUnion, Finset.mem_univ, true_and, mem_coreSet, iff_true]
  exact ⟨⟨(x 0).val / 1024 % 2, by omega⟩, rfl⟩

/-! ## What the handshakes carry -/

/-- SparseCore `c`'s share of the table and of the list, and tile `i`'s of that. -/
abbrev cq (c : Fin 2) : PosShare TreeShare := ShareLeaves.leaf 1 fullShare c
abbrev tq (c : Fin 2) (i : Fin 16) : PosShare TreeShare := ShareLeaves.leaf 4 (cq c) i

variable [FloatOps F]

theorem nCore_zero : (K (F := F)).nCore 0 = 2 := rfl
theorem nSub_zero : (K (F := F)).nSub 0 = 16 := rfl

variable (Tb : (d : Dev nD) → Buf (Elt F) (tLoc d)) (Ix : (d : Dev nD) → Buf (Elt F) (iLoc d)) (O₀ : (d : Dev nD) → Buf (Elt F) (oLoc d))

/-- What SparseCore `c` is handed: its shares and its rows of the result at contents `f`. -/
abbrev coreRes (d : Dev nD) (c : Fin 2) (f : Buf (Elt F) (oLoc d)) : sProp 𝕄 :=
  iprop((tLoc d ↦{cq c} Tb d) ∗ (iLoc d ↦{cq c} Ix d) ∗ oLoc d ↦[coreSet c]{fullShare} f)
/-- What its tile `i` is handed. -/
abbrev tileRes (d : Dev nD) (c : Fin 2) (i : Fin 16) (f : Buf (Elt F) (oLoc d)) : sProp 𝕄 :=
  iprop((tLoc d ↦{tq c i} Tb d) ∗ (iLoc d ↦{tq c i} Ix d) ∗ oLoc d ↦[tileSet c i]{fullShare} f)

/-- The call takes the table, the list and the result; the result comes back holding the gathered rows. -/
def P : (K (F := F)).Pay (nD := nD) (Val := Elt F) (Name := ℕ) (U := UU) where
  st := fun q d c => match q with | 0 => coreRes Tb Ix d (Fin.cast nCore_zero c) (O₀ d)
  dn := fun q d c => match q with | 0 => coreRes Tb Ix d (Fin.cast nCore_zero c) (gath (Tb d) (Ix d))
  go := fun q d c i => match q with | 0 => tileRes Tb Ix d (Fin.cast nCore_zero c) (Fin.cast nSub_zero i) (O₀ d)
  td := fun q d c i => match q with | 0 => tileRes Tb Ix d (Fin.cast nCore_zero c) (Fin.cast nSub_zero i) (gath (Tb d) (Ix d))
  x := fun _ _ => iprop(emp)

instance P_storable : (P (F := F) Tb Ix O₀).IsStorable where
  st q d c := match q with
    | 0 => (inferInstance : BI.Storable (upEmb : UEmb _ 𝕄) (coreRes Tb Ix d (Fin.cast nCore_zero c) (O₀ d)))
  dn q d c := match q with
    | 0 => (inferInstance : BI.Storable (upEmb : UEmb _ 𝕄) (coreRes Tb Ix d (Fin.cast nCore_zero c) (gath (Tb d) (Ix d))))
  go q d c i := match q with
    | 0 => (inferInstance : BI.Storable (upEmb : UEmb _ 𝕄) (tileRes Tb Ix d (Fin.cast nCore_zero c) (Fin.cast nSub_zero i) (O₀ d)))
  td q d c i := match q with
    | 0 => (inferInstance : BI.Storable (upEmb : UEmb _ 𝕄) (tileRes Tb Ix d (Fin.cast nCore_zero c) (Fin.cast nSub_zero i) (gath (Tb d) (Ix d))))

end Cert.Proof.Comb

end
-- ==== Proof.Comb.Tile.lean ====
/-
  One tile's body of the row gather, once at a symbolic tile: four trips, each fetching 256 words of the list, gathering
  the 256 table rows they name, and writing them to the tile's rows of the result. The invariant carries the value: the
  tile's rows written so far hold the gathered rows.
-/
module

public import proofs.«01_k».proof.Proof.Comb.Setup
public import Idealize.ShloMosaic.Lib.ViewIndex
public import Idealize.ShloMosaic.Lib.Pipeline.ValueKit.Geometry

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S32768x2x128 EltTy.f32)
local notation "iV" => (Memref.whole Cert.KernelIdeal.main_v10_scv : Memref Cert.KernelIdeal.sig Kind.scVector Space.hbm Cert.KernelIdeal.S32768 EltTy.i32)
local notation "oV" => (Memref.whole Cert.KernelIdeal.main_v11_scv : Memref Cert.KernelIdeal.sig Kind.scVector Space.hbm Cert.KernelIdeal.S32768x2x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x2x128 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-! ## The pieces a trip touches -/

/-- The 256 words of the list trip `t` fetches, the 256 rows of the result it writes, and the whole table, as the tile addresses them. -/
abbrev iChunk (t : Fin k0_t1_loop.trips) : Memref sig .scVector .hbm S256 .i32 :=
  (iV).slice (Rect.unit (s := S32768) (k0_off1 L t) S256.size (k0_off1_inb L t)) (fun _ => rfl)
abbrev oChunk (t : Fin k0_t1_loop.trips) : Memref sig .scVector .hbm S256x2x128 .f32 :=
  (oV).slice (Rect.unit (s := S32768x2x128) (k0_off2 L t) S256x2x128.size (k0_off2_inb L t)) (fun _ => rfl)
abbrev tAll : Memref sig .scVector .hbm S32768x2x128 .f32 :=
  (tV).slice (Rect.unit (s := S32768x2x128) ![0, 0, 0] S32768x2x128.size inb_S32768x2x128_S32768x2x128_0_0_0) (fun _ => rfl)

/-- The tile's first row. -/
def base (L : grid0.Coords) : ℕ := 2048 * (L 1).val + 1024 * (L 0).val

theorem off1_val (t : Fin k0_t1_loop.trips) : k0_off1 L t = ![base L + 256 * t.val] := k0_off1_eq L t
theorem off2_val (t : Fin k0_t1_loop.trips) : k0_off2 L t = ![base L + 256 * t.val, 0, 0] := k0_off2_eq L t

theorem mem_tile {x : S32768x2x128.Idx} : x ∈ tileSet (cL L) (jL L) ↔ base L ≤ (x 0).val ∧ (x 0).val < base L + 1024 := by
  rw [mem_tileSet]; unfold base; show (x 0).val / 1024 = 2 * (L 1).val + (L 0).val ↔ _; omega

theorem mem_chunk {t : Fin k0_t1_loop.trips} {x : S32768x2x128.Idx} :
    x ∈ (oChunk L t).view.set ↔ base L + 256 * t.val ≤ (x 0).val ∧ (x 0).val < base L + 256 * t.val + 256 := by
  rw [show (oChunk L t).view.set = (Rect.unit (s := S32768x2x128) (k0_off2 L t) S256x2x128.size (k0_off2_inb L t)).set from
    View.set_slice_whole (main_v11_scv : Ref sig .scVector) _, Rect.mem_set_unit, off2_val]
  constructor
  · intro h; exact h 0
  · intro h a
    have h1 : (x 1).val < 2 := (x 1).isLt
    have h2 : (x 2).val < 128 := (x 2).isLt
    match a with
    | 0 => exact h
    | 1 => exact ⟨Nat.zero_le _, by show (x 1).val < 0 + 2; omega⟩
    | 2 => exact ⟨Nat.zero_le _, by show (x 2).val < 0 + 128; omega⟩

theorem trips_le : k0_t1_loop.trips ≤ 4 := k0_t1_abs.2.1
theorem trips_eq : k0_t1_loop.trips = 4 := by decide

theorem chunk_sub (t : Fin k0_t1_loop.trips) : (oChunk L t).view.set ⊆ tileSet (cL L) (jL L) := by
  intro x hx
  have := t.isLt; have := trips_le
  rw [mem_chunk] at hx; rw [mem_tile]; omega

/-! ## The value a trip writes -/

variable (Tb : S32768x2x128.Idx → Elt F .f32) (Ix : S32768.Idx → Elt F .i32)

/-- Every word of the list names a row of the table. -/
def InRows : Prop := ∀ n, (Ix n : BitVec 32).toNat < 32768

/-- The words trip `t` fetches, read in the list scratch. -/
theorem words_eq (t : Fin k0_t1_loop.trips) (n : S256.Idx) :
    (iChunk L t).view.read (Elt F) Ix n = Ix (fun a => ⟨base L + 256 * t.val + (n 0).val, by
      have := t.isLt; have := trips_le; have h0 : (L 0).val < 2 := (L 0).isLt; have h1 : (L 1).val < 16 := (L 1).isLt
      have hn : (n 0).val < 256 := (n 0).isLt
      fin_cases a; show _ < 32768; unfold base; omega⟩) := by
  rw [View.read_apply, cast_eq]
  refine congrArg Ix (funext fun a => Fin.ext ?_)
  have h := ValueKit.view_emb_slice_whole_unit_val (sig := sig) (main_v10_scv : Ref sig .scVector) (k0_off1 L t) S256.size (k0_off1_inb L t) n a
  refine h.trans ?_
  refine (congrArg (· + (n a).val) (congrFun (off1_val L t) a)).trans ?_
  fin_cases a; rfl

theorem read_tAll (x : S32768x2x128.Idx) : (tAll).view.read (Elt F) Tb x = Tb x := by
  rw [View.read_apply, cast_eq]
  refine congrArg Tb (funext fun a => Fin.ext ?_)
  have h := ValueKit.view_emb_slice_whole_unit_val (sig := sig) (main_v1_scv : Ref sig .scVector) ![0, 0, 0] S32768x2x128.size inb_S32768x2x128_S32768x2x128_0_0_0 x a
  refine h.trans ?_
  fin_cases a <;> exact Nat.zero_add _

theorem rowMajor_symm_one (k : Fin S256.numel) : ((S256.rowMajor.symm k) 0).val = k.val := by
  have := Shape.rowMajor_val_one (S256.rowMajor.symm k)
  rw [Equiv.apply_symm_apply] at this; exact this.symm

/-- What trip `t` writes over its rows is the gathered rows there. -/
theorem write_val (hin : InRows (F := F) Ix) (t : Fin k0_t1_loop.trips) (f : S32768x2x128.Idx → Elt F .f32) (idx : S256.Idx → Elt F .i32)
    (hidx : idx = (iChunk L t).view.read (Elt F) Ix) (hn : S256.numel = S256x2x128.size gathers_S32768x2x128_S256x2x128.axis')
    (hlt : ∀ x, (idx x : BitVec 32).toNat < S32768x2x128.size gathers_S32768x2x128_S256x2x128.axis)
    (x : S32768x2x128.Idx) (hx : x ∈ (oChunk L t).view.set) :
    View.write (Elt F) (oChunk L t).view f
      (SparseCore.gatherPayload gathers_S32768x2x128_S256x2x128 ((tAll).view.read (Elt F) Tb) (SparseCore.rows idx hn hlt)) Finset.univ x
      = gath Tb Ix x := by
  subst hidx
  obtain ⟨y, -, rfl⟩ := Finset.mem_map.mp hx
  rw [View.write_emb_of_mem _ _ (Finset.mem_univ y), cast_eq]
  unfold SparseCore.gatherPayload
  rw [read_tAll]
  have he : ∀ a, (((oChunk L t).view.emb y) a).val = k0_off2 L t a + (y a).val := fun a =>
    ValueKit.view_emb_slice_whole_unit_val (sig := sig) (main_v11_scv : Ref sig .scVector) (k0_off2 L t) S256x2x128.size (k0_off2_inb L t) y a
  unfold gath
  refine congrArg Tb (Shape.idx3_ext ?_ ?_ ?_)
  · rw [Function.update_self]
    have h := congrArg Fin.val (Shape.Gathers.idx_axis gathers_S32768x2x128_S256x2x128 (SparseCore.rows ((iChunk L t).view.read (Elt F) Ix) hn hlt) y)
    refine h.trans ?_
    show ((iChunk L t).view.read (Elt F) Ix _ : BitVec 32).toNat = _
    rw [words_eq]
    refine Eq.trans ?_ (Nat.mod_eq_of_lt (hin _)).symm
    refine congrArg BitVec.toNat (congrArg Ix (funext fun a => Fin.ext ?_))
    have h0 := he 0
    rw [off2_val] at h0
    show base L + 256 * t.val + ((S256.rowMajor.symm _) 0).val = ((oChunk L t).view.emb y 0).val
    rw [rowMajor_symm_one, h0]; rfl
  · rw [Function.update_of_ne (by decide), he 1, off2_val]
    refine (Shape.Gathers.idx_of_ne gathers_S32768x2x128_S256x2x128 _ y 1 (by decide)).trans ?_
    exact (Nat.zero_add _).symm
  · rw [Function.update_of_ne (by decide), he 2, off2_val]
    refine (Shape.Gathers.idx_of_ne gathers_S32768x2x128_S256x2x128 _ y 2 (by decide)).trans ?_
    exact (Nat.zero_add _).symm

/-- The same, as the executor writes it: one piece over the whole of the trip's rows. -/
theorem writes_val (hin : InRows (F := F) Ix) (t : Fin k0_t1_loop.trips) (f : S32768x2x128.Idx → Elt F .f32) (idx : S256.Idx → Elt F .i32)
    (hidx : idx = (iChunk L t).view.read (Elt F) Ix) (hn : S256.numel = S256x2x128.size gathers_S32768x2x128_S256x2x128.axis')
    (hlt : ∀ x, (idx x : BitVec 32).toNat < S32768x2x128.size gathers_S32768x2x128_S256x2x128.axis)
    (x : S32768x2x128.Idx) (hx : x ∈ (oChunk L t).view.set) :
    (oChunk L t).view.writes (Elt F) f [⟨Rect.whole S256x2x128,
      SparseCore.gatherPayload gathers_S32768x2x128_S256x2x128 ((tAll).view.read (Elt F) Tb) (SparseCore.rows idx hn hlt)⟩] x
      = gath Tb Ix x := by
  rw [← write_val L Tb Ix hin t f idx hidx hn hlt x hx]
  obtain ⟨y, -, rfl⟩ := Finset.mem_map.mp hx
  rw [View.write_emb_of_mem _ _ (Finset.mem_univ y), View.writes_singleton]
  have hy : (oChunk L t).view.emb y = ((oChunk L t).view.slice (Rect.whole S256x2x128)).emb y := by
    rw [View.emb_slice]; refine congrArg (oChunk L t).view.emb (funext fun a => Fin.ext ?_)
    exact ((ValueKit.rect_emb_unit_val (fun _ => 0) S256x2x128.size _ y a).trans (Nat.zero_add _)).symm
  rw [hy]
  exact View.write_emb_of_mem _ _ (Finset.mem_univ y)

/-! ## The tile's cells and buffers -/

abbrev thr (d : Dev nD) (L : grid0.Coords) : Thread nD τ := V d (cV L) (jV L)
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_sV (f : Buf (Elt F) ((V d (cV L) (jV L)).loc cc0_scratch0)) :
    ((sV).view.loc (V d (cV L) (jV L)) ↦[(sV).view.set]{fullShare} f : sProp 𝕄) = (V d (cV L) (jV L)).loc cc0_scratch0 ↦{fullShare} f := by
  rw [show (sV).view.set = Finset.univ from View.set_whole _]
theorem pts_rV (f : Buf (Elt F) ((V d (cV L) (jV L)).loc cc0_scratch1)) :
    ((rV).view.loc (V d (cV L) (jV L)) ↦[(rV).view.set]{fullShare} f : sProp 𝕄) = (V d (cV L) (jV L)).loc cc0_scratch1 ↦{fullShare} f := by
  rw [show (rV).view.set = Finset.univ from View.set_whole _]
theorem pts_sV' (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV' (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
theorem pts_iV (q : PosShare TreeShare) (f : Buf (Elt F) (iLoc d)) :
    ((iV).view.loc (V d (cV L) (jV L)) ↦{q} f : sProp 𝕄) = iLoc d ↦{q} f := rfl
theorem pts_tAll (q : PosShare TreeShare) (f : Buf (Elt F) (tLoc d)) :
    ((tAll).view.loc (V d (cV L) (jV L)) ↦[(tAll).view.set]{q} f : sProp 𝕄) = tLoc d ↦{q} f := by
  have h : (tAll).view.set = Finset.univ := by
    rw [show (tAll).view.set = (Rect.unit (s := S32768x2x128) ![0, 0, 0] S32768x2x128.size inb_S32768x2x128_S32768x2x128_0_0_0).set from
      View.set_slice_whole (main_v1_scv : Ref sig .scVector) _]
    refine Finset.eq_univ_of_forall fun x => Rect.mem_set_unit.mpr fun a => ?_
    have := (x a).isLt
    fin_cases a <;> exact ⟨Nat.zero_le _, by simpa using this⟩
  rw [h]
theorem pts_oChunk (t : Fin k0_t1_loop.trips) (f : Buf (Elt F) (oLoc d)) :
    ((oChunk L t).view.loc (V d (cV L) (jV L)) ↦[(oChunk L t).view.set]{fullShare} f : sProp 𝕄) = oLoc d ↦[(oChunk L t).view.set]{fullShare} f := rfl

end Tile

end Cert.Proof.Comb

end
-- ==== Proof.Comb.TileRun.lean ====
/-
  The tile's run: the loop of four trips by its invariant, each trip's fetch, gather and write by the executor and the
  indirect gather's rule.
-/
module

public import proofs.«01_k».proof.Proof.Comb.Tile

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S32768x2x128 EltTy.f32)
local notation "iV" => (Memref.whole Cert.KernelIdeal.main_v10_scv : Memref Cert.KernelIdeal.sig Kind.scVector Space.hbm Cert.KernelIdeal.S32768 EltTy.i32)
local notation "oV" => (Memref.whole Cert.KernelIdeal.main_v11_scv : Memref Cert.KernelIdeal.sig Kind.scVector Space.hbm Cert.KernelIdeal.S32768x2x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x2x128 EltTy.f32)

section Run

variable [FloatOps F]
variable (d : Dev nD) (L : grid0.Coords)
variable (Tb : (d : Dev nD) → Buf (Elt F) (tLoc d)) (Ix : (d : Dev nD) → Buf (Elt F) (iLoc d))

/-- The tile's rows of the result, those below trip `t` already gathered. -/
def rowsAt (t : ℕ) : sProp 𝕄 :=
  iprop(∃ f : Buf (Elt F) (oLoc d), ⌜∀ x ∈ tileSet (cL L) (jL L), (x 0).val < base L + 256 * t → f x = gath (Tb d) (Ix d) x⌝
    ∗ oLoc d ↦[tileSet (cL L) (jL L)]{fullShare} f)

/-- The loop's invariant. -/
def inv (O : CellTallies nD τ sig (HIx 1)) (W : Waits sig (HIx 1)) (t : Nat) (_ : Unit) : sProp 𝕄 :=
  iprop(Transfers.MayWaits (V d (cV L) (jV L)) (default : HIx 1) O
    ∗ (tLoc d ↦{tq (cL L) (jL L)} Tb d)
    ∗ ((iV).view.loc (V d (cV L) (jV L)) ↦{tq (cL L) (jL L)} Ix d)
    ∗ rowsAt d L Tb Ix t
    ∗ (∃ f, (sV).view.loc (V d (cV L) (jV L)) ↦{fullShare} f)
    ∗ (∃ f, (rV).view.loc (V d (cV L) (jV L)) ↦{fullShare} f)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (V d (cV L) (jV L)) O W')

/-- The words fetched into the list scratch name rows of the table. -/
theorem inb_of_pre (hin : InRows (F := F) (Ix d)) (t : Fin k0_t1_loop.trips) (fs : Buf (Elt F) ((V d (cV L) (jV L)).loc cc0_scratch0)) (pay : S256.Idx → Elt F .i32)
    (hpay : pay = (iChunk L t).view.read (Elt F) (Ix d)) :
    ∀ x, ((sV).view.read (Elt F) (View.write (Elt F) (sV).view fs pay Finset.univ) x : BitVec 32).toNat < S32768x2x128.size gathers_S32768x2x128_S256x2x128.axis := by
  subst hpay; intro x
  rw [View.write_whole_univ]
  simp only [Memref.view_whole, View.read_whole]
  exact (congrArg BitVec.toNat (words_eq L (Ix d) t x)).trans_lt (hin _)

/-- The rows a list names depend on its words alone. -/
theorem rows_congr {si : Shape} {o z : ℕ} {idx idx' : si.Idx → Elt F .i32} (h : idx = idx') (hn : si.numel = o)
    (hl : ∀ x, (idx x : BitVec 32).toNat < z) (hl' : ∀ x, (idx' x : BitVec 32).toNat < z) :
    SparseCore.rows (F := F) idx hn hl = SparseCore.rows (F := F) idx' hn hl' := by subst h; rfl

set_option maxHeartbeats 4000000 in
/-- The task on tile `(L 0, L 1)` of device `d`. -/
theorem tile_body (hF : (K (F := F)).Facts) (hin : InRows (F := F) (Ix d)) (f₀ : Buf (Elt F) (oLoc d))
    (O : CellTallies nD τ sig (HIx 1)) (W : Waits sig (HIx 1)) (hO : ∀ g, O g none = 0) :
    iprop(levAts (K (F := F)).L (K (F := F)).lev ∗ emp
        ∗ tileRes Tb Ix d (cL L) (jL L) f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1)
          fun _ => iprop(tileRes Tb Ix d (cL L) (jL L) (gath (Tb d) (Ix d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsG, HsA, HsB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hs' := (Entails.of_eq (pts_sV' (F := F) d L _).symm) $$ Hs
  ihave Hr' := (Entails.of_eq (pts_rV' (F := F) d L _).symm) $$ Hr
  sl_for (inv d L Tb Ix O W) $$ [Hmw Ht Hi' Ho Hs' Hr' HsG HsA HsB HO]
  case region =>
    intro t _
    unfold inv rowsAt
    iintro ⟨#Hmw, Ht, Hi', ⟨%f, %hf, Ho⟩, ⟨%fs, Hs'⟩, ⟨%fr, Hr'⟩, HsG, HsA, HsB, %W', %hW', HO⟩
    sl_exec
    ihave Ht' := (Entails.of_eq (pts_tAll (F := F) d L _ _).symm) $$ Ht
    ihave Hr'' := (Entails.of_eq (pts_rV (F := F) d L _).symm) $$ Hr'
    ihave Hs'' := (Entails.of_eq (pts_sV (F := F) d L _).symm) $$ Hs'
    have hN : ∀ h : S32768x2x128.Gathers 0 S256x2x128, ∑ j, ((rV).slice (S256x2x128.rowRect h.axis' j) (S256x2x128.stride_rowRect h.axis' j)).view.dmaCredit
        = (rV).view.dmaCredit := by decide
    iapply (SparseCore.wp_indirectGatherLocal countersEmb 𝒱₀ (V d (cV L) (jV L)) none (hg := gathers_S32768x2x128_S256x2x128) (default : HIx 1)
        (rV).view.dmaCredit (hN _) (by decide) (inb_of_pre d L Ix hin t fs _ rfl)) $$ [Ht' Hr'' Hs'' HsG]
    · isplitl [Ht']; · iexact Ht'
      isplitl [Hr'']; · iexact Hr''
      isplitl [Hs'']; · iexact Hs''
      iexact HsG
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr, Ht, Hs⟩, HsG, HO⟩
    ihave Ht' := (Entails.of_eq (pts_tAll (F := F) d L _ _)) $$ Ht
    ihave Hr' := (Entails.of_eq ((pts_rV (F := F) d L _).trans (pts_rV' (F := F) d L _).symm)) $$ Hr
    ihave Hs' := (Entails.of_eq ((pts_sV (F := F) d L _).trans (pts_sV' (F := F) d L _).symm)) $$ Hs
    ihave Hoo := (pointsTo_split_subset (q := fullShare) (f := f) (S := tileSet (cL L) (jL L)) (chunk_sub L t)).1 $$ Ho
    icases Hoo with ⟨Hoc, Hor⟩
    ihave Hoc' := (Entails.of_eq (pts_oChunk (F := F) d L t _).symm) $$ Hoc
    sl_exec
    sl_step
    isplitr; · iexact Hmw
    isplitl [Ht']; · iexact Ht'
    isplitl [Hi']; · iexact Hi'
    isplitl [Hor Hoc']
    · have hpay : tile_body.sl.dma0_1 d L Tb Ix hin t fs fr
          = SparseCore.gatherPayload gathers_S32768x2x128_S256x2x128 ((tAll).view.read (Elt F) (Tb d))
              (SparseCore.rows ((iChunk L t).view.read (Elt F) (Ix d)) rfl (fun x => (congrArg BitVec.toNat (words_eq L (Ix d) t x)).trans_lt (hin _))) := by
        unfold tile_body.sl.dma0_1
        refine (View.write_whole_univ (Val := Elt F) (cc0_scratch1 : Ref sig .scVector) fr _).trans ?_
        exact congrArg (SparseCore.gatherPayload gathers_S32768x2x128_S256x2x128 ((tAll).view.read (Elt F) (Tb d)))
          (rows_congr (View.write_whole_univ (Val := Elt F) (cc0_scratch0 : Ref sig .scVector) fs _) _ _ _)
      rw [hpay]
      iexists (fun x => if x ∈ (oChunk L t).view.set then gath (Tb d) (Ix d) x else f x)
      isplitr
      · ipureintro; intro x hx hlt
        show (if x ∈ (oChunk L t).view.set then _ else _) = _
        split
        · rfl
        · rename_i hnx
          refine hf x hx ?_
          rw [mem_chunk] at hnx; omega
      iapply (pointsTo_split_subset (q := fullShare) (S := tileSet (cL L) (jL L)) (chunk_sub L t)).2
      isplitl [Hoc']
      · iapply (Entails.of_eq (pointsTo_congr (ℓ := oLoc d) (q := fullShare) fun x hx =>
          (writes_val L (Tb d) (Ix d) hin t f _ rfl _ _ x hx).trans (if_pos hx).symm))
        iexact Hoc'
      · iapply (Entails.of_eq (pointsTo_congr (ℓ := oLoc d) (q := fullShare) fun x hx =>
          (if_neg (Finset.mem_sdiff.mp hx).2).symm))
        iexact Hor
    isplitl [Hs']; · iexists _; iexact Hs'
    isplitl [Hr']; · iexists _; iexact Hr'
    isplitl [HsG]; · iexact HsG
    isplitl [HsA]; · iexact HsA
    isplitl [HsB]; · iexact HsB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv rowsAt
    isplitl [Hmw]; · iexact Hmw
    isplitl [Ht]; · iexact Ht
    isplitl [Hi']; · iexact Hi'
    isplitl [Ho]
    · iexists f₀; isplitr
      · ipureintro; intro x hx h; rw [mem_tile] at hx; omega
      · iexact Ho
    isplitl [Hs']; · iexists _; iexact Hs'
    isplitl [Hr']; · iexists _; iexact Hr'
    isplitl [HsG]; · iexact HsG
    isplitl [HsA]; · iexact HsA
    isplitl [HsB]; · iexact HsB
    iexists W; isplitr
    · ipureintro; exact fun p hp => .inl hp
    · iexact HO
  iintro %_ HI
  unfold inv rowsAt
  icases HI with ⟨-, Ht, Hi', ⟨%f, %hf, Ho⟩, ⟨%fs, Hs'⟩, ⟨%fr, Hr'⟩, HsG, HsA, HsB, %W', %hW', HO⟩
  sl_exec
  sl_step
  isplitl [Ht Hi' Ho]
  · isplitl [Ht]; · iexact Ht
    isplitl [Hi']; · iexact Hi'
    have he : (oLoc d ↦[tileSet (cL L) (jL L)]{fullShare} f : sProp 𝕄) = oLoc d ↦[tileSet (cL L) (jL L)]{fullShare} (gath (Tb d) (Ix d)) :=
      pointsTo_congr fun x hx => hf x hx (by
        have := (mem_tile L).mp hx
        have ht : k0_t1_loop.trips = 4 := trips_eq
        show (x 0).val < base L + 256 * k0_t1_loop.trips
        rw [ht]; omega)
    iapply (Entails.of_eq he); iexact Ho
  isplitl [Hs' Hr' Hbufs]
  · isplitl [Hs']; · iexists _; iexact Hs'
    isplitl [Hr']; · iexists _; iexact Hr'
    iexact Hbufs
  isplitl [HsG HsA HsB Hsems]
  · isplitl [HsG]; · iexact HsG
    isplitl [HsA]; · iexact HsA
    isplitl [HsB]; · iexact HsB
    iexact Hsems
  iexists W'; isplitr
  · ipureintro; exact hW'
  · iexact HO

end Run

end Cert.Proof.Comb

end
-- ==== Proof.Comb.Deal.lean ====
/-
  The call's obligations: each tile's task from its body, and the split of a SparseCore's operands over its sixteen tiles.
-/
module

public import proofs.«01_k».proof.Proof.Comb.TileRun

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S32768x2x128 EltTy.f32)
local notation "iV" => (Memref.whole Cert.KernelIdeal.main_v10_scv : Memref Cert.KernelIdeal.sig Kind.scVector Space.hbm Cert.KernelIdeal.S32768 EltTy.i32)
local notation "oV" => (Memref.whole Cert.KernelIdeal.main_v11_scv : Memref Cert.KernelIdeal.sig Kind.scVector Space.hbm Cert.KernelIdeal.S32768x2x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x2x128 EltTy.f32)

variable [FloatOps F]
variable (Tb : (d : Dev nD) → Buf (Elt F) (tLoc d)) (Ix : (d : Dev nD) → Buf (Elt F) (iLoc d)) (O₀ : (d : Dev nD) → Buf (Elt F) (oLoc d))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d, InRows (F := F) (Ix d)) :
    (K (F := F)).TileObl (D (F := F)) 𝒱 (P Tb Ix O₀) v₀ 0 := by
  intro d c i O W hO _ _
  simp only [show (P Tb Ix O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) Tb Ix hF (hin d) (O₀ d) O W hO).trans (wp_mono frame _ _ fun _ => obl_post)

/-! ## A SparseCore's operands over its tiles -/

theorem core_tiles (d : Dev nD) (c : Fin 2) (f : Buf (Elt F) (oLoc d)) :
    (coreRes Tb Ix d c f : sProp 𝕄) = bigSep Finset.univ fun i : Fin 16 => tileRes Tb Ix d c i f := by
  unfold coreRes tileRes
  rw [bigSep_sep', bigSep_sep',
    ← pointsTo_biUnion Finset.univ (ℓ := oLoc d) (tileSet c) (tiles_disjoint c), tiles_cover,
    ← show (tLoc d ↦{cq c} Tb d : sProp 𝕄) = bigSep Finset.univ fun i : Fin 16 => tLoc d ↦{tq c i} Tb d from
      ShareLeaves.pointsTo_leaves (Finset.univ) (Tb d) 4 (cq c),
    ← show (iLoc d ↦{cq c} Ix d : sProp 𝕄) = bigSep Finset.univ fun i : Fin 16 => iLoc d ↦{tq c i} Ix d from
      ShareLeaves.pointsTo_leaves (Finset.univ) (Ix d) 4 (cq c)]

theorem whole_cores (d : Dev nD) (f : Buf (Elt F) (oLoc d)) :
    iprop((tLoc d ↦{fullShare} Tb d) ∗ (iLoc d ↦{fullShare} Ix d) ∗ oLoc d ↦{fullShare} f)
      = (bigSep Finset.univ fun c : Fin 2 => coreRes Tb Ix d c f : sProp 𝕄) := by
  unfold coreRes
  rw [bigSep_sep', bigSep_sep',
    ← pointsTo_biUnion Finset.univ (ℓ := oLoc d) coreSet cores_disjoint, cores_cover,
    ← show (tLoc d ↦{fullShare} Tb d : sProp 𝕄) = bigSep Finset.univ fun c : Fin 2 => tLoc d ↦{cq c} Tb d from
      ShareLeaves.pointsTo_leaves (Finset.univ) (Tb d) 1 fullShare,
    ← show (iLoc d ↦{fullShare} Ix d : sProp 𝕄) = bigSep Finset.univ fun c : Fin 2 => iLoc d ↦{cq c} Ix d from
      ShareLeaves.pointsTo_leaves (Finset.univ) (Ix d) 1 fullShare]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P Tb Ix O₀) 0 := by
  intro d c
  show (coreRes Tb Ix d (Fin.cast nCore_zero c) (O₀ d) : sProp 𝕄) ⊢ |={Set.univ}=> iprop(
      (bigSep Finset.univ fun i : Fin ((K (F := F)).nSub 0) => tileRes Tb Ix d (Fin.cast nCore_zero c) (Fin.cast nSub_zero i) (O₀ d))
      ∗ ((bigSep Finset.univ fun i : Fin ((K (F := F)).nSub 0) =>
          tileRes Tb Ix d (Fin.cast nCore_zero c) (Fin.cast nSub_zero i) (gath (Tb d) (Ix d)))
          -∗ coreRes Tb Ix d (Fin.cast nCore_zero c) (gath (Tb d) (Ix d))))
  rw [bigSep_tasks (F := F) (fun i => tileRes Tb Ix d (Fin.cast nCore_zero c) i (O₀ d)),
    bigSep_tasks (F := F) (fun i => tileRes Tb Ix d (Fin.cast nCore_zero c) i (gath (Tb d) (Ix d))), ← core_tiles, ← core_tiles]
  iintro H; imodintro
  isplitl [H]; · iexact H
  iintro H; iexact H

theorem st_eq (d : Dev nD) : (bigSep Finset.univ fun c : Fin ((K (F := F)).nCore 0) => (P Tb Ix O₀).st 0 d c)
    = (iprop((tLoc d ↦{fullShare} Tb d) ∗ (iLoc d ↦{fullShare} Ix d) ∗ oLoc d ↦{fullShare} O₀ d) : sProp 𝕄) := by
  rw [whole_cores]; exact bigSep_cores (F := F) (fun c => coreRes Tb Ix d c (O₀ d))
theorem dn_eq (d : Dev nD) : (bigSep Finset.univ fun c : Fin ((K (F := F)).nCore 0) => (P Tb Ix O₀).dn 0 d c)
    = (iprop((tLoc d ↦{fullShare} Tb d) ∗ (iLoc d ↦{fullShare} Ix d) ∗ oLoc d ↦{fullShare} (gath (Tb d) (Ix d))) : sProp 𝕄) := by
  rw [whole_cores]; exact bigSep_cores (F := F) (fun c => coreRes Tb Ix d c (gath (Tb d) (Ix d)))

end Cert.Proof.Comb

end
-- ==== Proof.Comb.Region.lean ====
/-
  The weighted sum on the TensorCore: the body run once, on any whole staging buffers.
-/
module

public import proofs.«01_k».proof.Proof.Comb.Setup
public import Idealize.ShloMosaic.Lib.ViewIndex
public import Idealize.ShloMosaic.Lib.Pipeline.RegionsLoop
public import Idealize.ShloMosaic.Lib.Pipeline.FrameBody
public import Idealize.ShloMosaic.Lib.Pipeline.ValueKit.Geometry
public import Idealize.ShloMosaic.Lib.Pipeline.Value

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A whole memref owned is its buffer owned whole. -/
theorem owns_of_whole {c : Thread nD τ} {sp : Space} {s : Shape} {e : EltTy} {M : Memref sig c.2.kind sp s e} (h : M.IsWhole)
    (q : PosShare TreeShare) (X : s.Idx → Elt F e) :
    (owns c M q X : sProp 𝕄) = iprop(∃ f, ⌜M.view.read (Elt F) f = X⌝ ∗ (M.view.loc c ↦{q} f)) := by
  obtain ⟨b, rfl, rfl, rfl, hb⟩ := h; obtain rfl := eq_of_heq hb
  exact owns_whole_eq c b q X

theorem wadd_body (d : Dev nD) (i : grid1.Coords)
    (M1 : Memref sig .tc .vmem S256x2048 .f32) (h1 : M1.IsWhole) (M2 : Memref sig .tc .vmem S256x2048 .f32) (h2 : M2.IsWhole)
    (M3 : Memref sig .tc .vmem S256x2 .f32) (h3 : M3.IsWhole) (M4 : Memref sig .tc .vmem S256x2048 .f32) (h4 : M4.IsWhole)
    (f1 : Buf (Elt F) (M1.view.loc (SparseCore.T d))) (f2 : Buf (Elt F) (M2.view.loc (SparseCore.T d))) (f3 : Buf (Elt F) (M3.view.loc (SparseCore.T d)))
    (f4 : Buf (Elt F) (M4.view.loc (SparseCore.T d))) (Q : PUnit → sProp 𝕄) :
    iprop((M1.view.loc (SparseCore.T d) ↦{fullShare} f1) ∗ (M2.view.loc (SparseCore.T d) ↦{fullShare} f2)
        ∗ (M3.view.loc (SparseCore.T d) ↦{fullShare} f3) ∗ (M4.view.loc (SparseCore.T d) ↦{fullShare} f4)
        ∗ (iprop((M1.view.loc (SparseCore.T d) ↦{fullShare} f1) ∗ (M2.view.loc (SparseCore.T d) ↦{fullShare} f2)
            ∗ (M3.view.loc (SparseCore.T d) ↦{fullShare} f3)
            ∗ ∃ g, ⌜M4.view.read (Elt F) g = k1_pay1 (M3.view.read (Elt F) f3) (M1.view.read (Elt F) f1) (M2.view.read (Elt F) f2)⌝
                ∗ (M4.view.loc (SparseCore.T d) ↦{fullShare} g)) -∗ Q ⟨⟩))
      ⊢ wp frame (wpE (defs₀ (F := F)) 𝒱₀ (SparseCore.T d) none) Set.univ (cc1__wadd_body i M1 h1 M2 h2 M3 h3 M4 h4) Q := by
  rw [cc1__wadd_body_eq_skeleton]
  unfold cc1__wadd_body_skel
  iintro ⟨H1, H2, H3, H4, Hk⟩
  sl_exec!
  sl_step
  iapply Hk
  isplitl [H1]; · iexact H1
  isplitl [H2]; · iexact H2
  isplitl [H3]; · iexact H3
  iexists _; isplitr; swap; · iexact H4
  ipureintro
  rw [View.read_writes_junk_eq_canon]
  unfold wadd_body.sl.H4_1
  rw [View.canon_unit_zero (by decide)]
  exact congr (congrArg₂ _ (View.ld_unit_zero (by decide) _ _) (View.ld_unit_zero (by decide) _ _)) (View.ld_unit_zero (by decide) _ _)

/-! ## The proof data -/

/-- The rank-two index of two coordinates. -/
def ix2 {n : Fin 2 → Nat} (a : Fin (n 0)) (b : Fin (n 1)) : (⟨2, n⟩ : Shape).Idx := fun | 0 => a | 1 => b

theorem ix2_eq {n : Fin 2 → Nat} {x : (⟨2, n⟩ : Shape).Idx} {a : Fin (n 0)} {b : Fin (n 1)} (h0 : (x 0).val = a.val) (h1 : (x 1).val = b.val) :
    x = ix2 a b := funext fun k => by
  match k with
  | ⟨0, _⟩ => exact Fin.ext h0
  | ⟨1, _⟩ => exact Fin.ext h1

/-- The weighted sum of rows `k` and `2048 + k` of the gathered rows, for every `k`. -/
def wsum (G2 : S4096x2048.Idx → Elt F .f32) (Wn : S2048x2.Idx → Elt F .f32) : S2048x2048.Idx → Elt F .f32 := fun x =>
  FloatOps.addf
    (FloatOps.mulf (G2 (ix2 ⟨(x 0).val, Nat.lt_of_lt_of_le (x 0).isLt (by decide)⟩ (x 1))) (Wn (ix2 (x 0) (0 : Fin 2))))
    (FloatOps.mulf (G2 (ix2 ⟨2048 + (x 0).val, Nat.lt_of_lt_of_le (Nat.add_lt_add_left (x 0).isLt 2048) (by decide)⟩ (x 1))) (Wn (ix2 (x 0) (1 : Fin 2))))

variable (Vl : (d : Dev nD) → (b : Ref sig .tc) → Buf (Elt F) ((SparseCore.T d : Thread nD τ).loc b))

/-- The block of window `w` of an array on point `t`. -/
abbrev blk0 (d : Dev nD) (t : Fin cfg1.N) : (cfg1.win 0).block.Idx → Elt F (cfg1.win 0).elt := ((cfg1.win 0).blk t).view.read (Elt F) (Vl d main_v12)
abbrev blk1 (d : Dev nD) (t : Fin cfg1.N) : (cfg1.win 1).block.Idx → Elt F (cfg1.win 1).elt := ((cfg1.win 1).blk t).view.read (Elt F) (Vl d main_v12)
abbrev blk2 (d : Dev nD) (t : Fin cfg1.N) : (cfg1.win 2).block.Idx → Elt F (cfg1.win 2).elt := ((cfg1.win 2).blk t).view.read (Elt F) (Vl d main_arg3)

def dat (d : Dev nD) : Pipeline.Dat τ (Elt F) (HIx 1) ℕ UU ℕ cfg1 d where
  A w := Vl d (Pipeline.arrRef spec1 w)
  after w t := match w with
    | ⟨0, _⟩ => blk0 Vl d t
    | ⟨1, _⟩ => blk1 Vl d t
    | ⟨2, _⟩ => blk2 Vl d t
    | ⟨3, _⟩ => k1_pay1 (blk2 Vl d t) (blk0 Vl d t) (blk1 Vl d t)
  Φ _ := Pipeline.scopedRest (Ix := HIx 1) (Name := ℕ) (U := UU) (Lvl := ℕ) (Val := Elt F) spec1 d
  q w := Pipeline.shareOf spec1 w
  owed _ := 0
  recorded _ := {p | (K (F := F)).lev (SparseCore.T d, p.1) p.2 ≤ 8}

theorem before0 (d : Dev nD) (t : Fin cfg1.N) (X) : (dat Vl d).before 0 t X = blk0 Vl d t := (dat Vl d).before_fetched 0 t (fetch1_0 t) X
theorem before1 (d : Dev nD) (t : Fin cfg1.N) (X) : (dat Vl d).before 1 t X = blk1 Vl d t := (dat Vl d).before_fetched 1 t (fetch1_1 t) X
theorem before2 (d : Dev nD) (t : Fin cfg1.N) (X) : (dat Vl d).before 2 t X = blk2 Vl d t := (dat Vl d).before_fetched 2 t (fetch1_2 t) X

theorem body_obligation (d : Dev nD) : Pipeline.BodyObligation (dat Vl d) (defs₀ (F := F)) 𝒱₀ none Set.univ := fun t => by
  rw [bigSep_W1, bigSep_W1]
  simp only [before0, before1, before2, owns_of_whole (c := (d.tc : Thread nD τ)) (hstage1_0 _), owns_of_whole (c := (d.tc : Thread nD τ)) (hstage1_1 _),
    owns_of_whole (c := (d.tc : Thread nD τ)) (hstage1_2 _), owns_of_whole (c := (d.tc : Thread nD τ)) (hstage1_3 _)]
  rw [show (dat Vl d).Φ t.castSucc = (dat Vl d).Φ t.succ from rfl, show (dat Vl d).owesAt none t.castSucc = (dat Vl d).owesAt none t.succ from rfl]
  change _ ⊢ wp _ _ _ (bodyAt1 t) _
  iintro ⟨HΦ, Howes, ⟨%d0, %f0, %hf0, H0⟩, ⟨%d1, %f1, %hf1, H1⟩, ⟨%d2, %f2, %hf2, H2⟩, ⟨%d3, %f3, -, H3⟩⟩
  iapply (wadd_body d (grid1.coords t) _ _ _ _ _ _ _ _ f0 f1 f2 f3 _)
  isplitl [H0]; · iexact H0
  isplitl [H1]; · iexact H1
  isplitl [H2]; · iexact H2
  isplitl [H3]; · iexact H3
  iintro ⟨H0, H1, H2, %g, %hg, H3⟩
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  iexists g; isplitr
  · ipureintro; rw [hf0, hf1, hf2] at hg; exact hg
  iexact H3

/-! ## The result's array -/

theorem pay1_apply (w : Vec F S256x2 .f32) (a b : Vec F S256x2048 .f32) (y : S256x2048.Idx) :
    k1_pay1 w a b y = FloatOps.addf (FloatOps.mulf (a y) (w (ix2 (y 0) (0 : Fin 2)))) (FloatOps.mulf (b y) (w (ix2 (y 0) (1 : Fin 2)))) := by
  unfold k1_pay1
  simp only [addf, mulf, shapeCast_self]
  have e (k : Fin 2) (h : S256x2.Slices ![0, k.val] S256x1) :
      broadcastTo S256x2048 (extractStridedSlice S256x1 ![0, k.val] w h) broadcasts_S256x1_S256x2048 y = w (ix2 (y 0) k) := by
    rw [broadcastTo_apply _ _ y (ix2 (n := ![256, 1]) (y 0) (0 : Fin 1)) (fun a => by fin_cases a <;> rfl),
      extractStridedSlice_apply _ _ _ _ (ix2 (n := ![256, 2]) (y 0) k) (fun a => by fin_cases a <;> simp [ix2] <;> rfl)]
  exact congrArg₂ _ (congrArg _ (e 0 _)) (congrArg _ (e 1 _))

theorem win_index : ∀ t : Fin grid1.N, win1_0.index t 0 = win1_3.index t 0 ∧ win1_0.index t 1 = win1_3.index t 1
    ∧ win1_1.index t 0 = win1_3.index t 0 + 8 ∧ win1_1.index t 1 = win1_3.index t 1
    ∧ win1_2.index t 0 = win1_3.index t 0 ∧ win1_2.index t 1 = 0 := by decide +kernel

theorem out_value (d : Dev nD) : (dat Vl d).arrAt 3 cfg1.N = wsum (Vl d main_v12) (Vl d main_arg3) := by
  refine (dat Vl d).arrAt_eq_of_covers 3 _ (by decide +kernel) fun t hf y => ?_
  show k1_pay1 (blk2 Vl d t) (blk0 Vl d t) (blk1 Vl d t) _ = _
  rw [pay1_apply]
  unfold wsum blk0 blk1 blk2
  obtain ⟨e0, e1, e2, e3, e4, e5⟩ := win_index t
  refine congr (congrArg _ (congr (congrArg _ (congrArg (Vl d main_v12) ?_)) (congrArg (Vl d main_arg3) ?_)))
    (congr (congrArg _ (congrArg (Vl d main_v12) ?_)) (congrArg (Vl d main_arg3) ?_))
  · refine ix2_eq ?_ ?_ <;> blk_simp
    · exact congrArg (· * 256 + (y 0).val) e0
    · exact congrArg (· * 2048 + (y 1).val) e1
  · refine ix2_eq ?_ ?_ <;> blk_simp
    · exact congrArg (· * 256 + (y 0).val) e4
    · rw [e5]; simp [ix2]
  · refine ix2_eq ?_ ?_ <;> blk_simp
    · show win1_1.index t 0 * 256 + (y 0).val = 2048 + (win1_3.index t 0 * 256 + (y 0).val); rw [e2]; omega
    · exact congrArg (· * 2048 + (y 1).val) e3
  · refine ix2_eq ?_ ?_ <;> blk_simp
    · exact congrArg (· * 256 + (y 0).val) e4
    · rw [e5]; simp [ix2]

/-! ## The region -/

abbrev adm : (p : Fin 1) → (pcfgs (F := F) p).Adm := fun p => (cfgs p).toPCfg_adm

/-- The invariant between points: the scoped buffers that no window stages. -/
abbrev Φr (d : Dev nD) : sProp 𝕄 := Pipeline.scopedRest (Ix := HIx 1) (Name := ℕ) (U := UU) (Lvl := ℕ) (Val := Elt F) spec1 d

def pdats : (p : Fin 1) → (d : Dev nD) → Pipeline.Dat τ (Elt F) (HIx 1) ℕ UU ℕ (Pipeline.pin (pcfgs (F := F)) adm p) d
  | ⟨0, _⟩ => fun d => dat Vl d

variable (Vp : (d : Dev nD) → (b : Ref sig .tc) → Buf (Elt F) ((SparseCore.T d : Thread nD τ).loc b))

set_option backward.isDefEq.respectTransparency.types false in
/-- The region over the unscoped buffers: entered at `Vl`, left at any `Vp` that has the weighted sum at the result and agrees elsewhere. -/
def reg (hout : ∀ d, Vp d main_v13 = wsum (Vl d main_v12) (Vl d main_arg3)) (hne : ∀ d (b : Ref sig .tc), b ≠ main_v13 → Vp d b = Vl d b) :
    Pipeline.RegionSeg (pcfgs (F := F)) adm (pdats Vl) none defs₀ 𝒱₀ (K (F := F)).L (K (F := F)).lev 0 where
  win := winFacts₀1
  block_pos := block_pos1
  stage_whole := stage_whole1
  K := PEmpty
  osem k := k.elim
  ho := Pipeline.OwnSemFacts.none _
  hbody d := (body_obligation Vl d).loose
  hwaits := Pipeline.hwaits_of_owed_zero _ _ _ _ (K (F := F)).L (K (F := F)).lev 0 fun _ _ => rfl
  pre d := iprop(unscopedBufs d (Vl d) ∗ ∃ W, ⌜(K (F := F)).WBelow (SparseCore.T d) W 8⌝ ∗ owes (SparseCore.T d) (0 : CellTallies nD τ sig (HIx 1)) W)
  post d := iprop(unscopedBufs d (Vp d) ∗ ∃ W, ⌜(K (F := F)).WBelow (SparseCore.T d) W 8⌝ ∗ owes (SparseCore.T d) (0 : CellTallies nD τ sig (HIx 1)) W)
  X _ := BI.emp
  Y _ := BI.emp
  Z d := Pipeline.unscopedRest (Ix := HIx 1) (Name := ℕ) (U := UU) (Lvl := ℕ) spec1 d (Vl d)
  hentry d := by
    rw [Pipeline.ownSems0_none]
    have hsplit := Pipeline.arrays_of_unscopedBufs_shared (p := 0) (pcfgs (F := F)) adm (pdats Vl) winFacts₀1 sharedIn1 arr_whole1 d
      (fun _ _ => rfl) (Vl d) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin d := by
    rw [show (pdats Vl 0 d).Φ 0 = Φr d from rfl]
    iintro ⟨-, -, Hr⟩; iexact Hr
  hout d := by
    rw [Pipeline.ownSems0_none, show (pdats Vl 0 d).Φ (Fin.last _) = Φr d from rfl]
    iintro Hr
    isplitr; · iempintro
    isplitr; · iempintro
    iexact Hr
  hexit d := by
    have hjoin := Pipeline.unscopedBufs_of_arrays_shared (p := 0) (pcfgs (F := F)) adm (Ix := HIx 1) (Name := ℕ) (U := UU) (Lvl := ℕ) winFacts₀1 sharedIn1 arr_whole1 d
      (pdats Vl) (fun _ _ => rfl) (Vl d) (Vp d) ((pdats Vl 0 d).arrAt · cfg1.N)
      (fun w => by
        fin_cases w
        · exact ((pdats Vl 0 d).arrAt_in 0 rfl _).trans (hne d main_v12 (by decide)).symm
        · exact ((pdats Vl 0 d).arrAt_in 1 rfl _).trans (hne d main_v12 (by decide)).symm
        · exact ((pdats Vl 0 d).arrAt_in 2 rfl _).trans (hne d main_arg3 (by decide)).symm
        · exact (out_value Vl d).trans (hout d).symm)
      (fun b hb => hne d b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro; intro p hp
      rcases hW hp with h | ⟨w, s, rfl⟩
      · exact h
      · exact Nat.zero_le _
    iexact HO

end Cert.Proof.Comb

end
-- ==== Proof.Comb.Main.lean ====
/-
  The combine call's @main: the host operations before the SparseCore call, the call, the reshape of what it gathered,
  the weighted sum on the TensorCore; and the launch.
-/
module

public import proofs.«01_k».proof.Proof.Comb.Deal
public import proofs.«01_k».proof.Proof.Comb.Region
public import Idealize.ShloMosaic.Lib.Pipeline.Frame
public import Idealize.ShloMosaic.Lib.Pipeline.Regions

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr wp_hlo_within wp_seq after)
open Idealize.ShloMosaic.Pipeline (ucRefs)

variable [FloatOps F]

/-! ## The host operations -/

/-- The operations before the SparseCore call: the positions joined, the rows cut into eighths, the eighths' numbers. -/
abbrev opsA : List (HloOp τ sig (Elt F)) :=
  [StableHlo.binary main_arg1 main_arg2 main_v0 ((fun a b => concatenate S4096 0 [⟨S2048, a⟩, ⟨S2048, b⟩] concatenates_S2048_S2048_S4096_d0) : (⟨S2048, .i32⟩ : BufTy).Contents (Elt F) → (⟨S2048, .i32⟩ : BufTy).Contents (Elt F) → (⟨S4096, .i32⟩ : BufTy).Contents (Elt F)),
   StableHlo.reshape main_arg0 main_v1 (rfl : (.f32 : EltTy) = .f32) shapeCasts_S4096x2048_S32768x2x128,
   StableHlo.unary main_v0 main_v2 (broadcastInDim S4096x1 ![0] bcast_S4096_S4096x1_0 : (⟨S4096, .i32⟩ : BufTy).Contents (Elt F) → (⟨S4096x1, .i32⟩ : BufTy).Contents (Elt F)),
   StableHlo.nullary main_c (constantI S_ 32 8#32),
   StableHlo.unary main_c main_v3 (broadcastInDim S4096x1 ![] bcast_S_S4096x1 : (⟨S_, .i32⟩ : BufTy).Contents (Elt F) → (⟨S4096x1, .i32⟩ : BufTy).Contents (Elt F)),
   StableHlo.binary main_v2 main_v3 main_v4 (muli : (⟨S4096x1, .i32⟩ : BufTy).Contents (Elt F) → (⟨S4096x1, .i32⟩ : BufTy).Contents (Elt F) → (⟨S4096x1, .i32⟩ : BufTy).Contents (Elt F)),
   StableHlo.nullary main_v5 (iotaInDim S8 32 0),
   StableHlo.unary main_v5 main_v6 (broadcastInDim S1x8 ![1] bcast_S8_S1x8_1 : (⟨S8, .i32⟩ : BufTy).Contents (Elt F) → (⟨S1x8, .i32⟩ : BufTy).Contents (Elt F)),
   StableHlo.unary main_v4 main_v7 (broadcastInDim S4096x8 ![0, 1] bcast_S4096x1_S4096x8_0_1 : (⟨S4096x1, .i32⟩ : BufTy).Contents (Elt F) → (⟨S4096x8, .i32⟩ : BufTy).Contents (Elt F)),
   StableHlo.unary main_v6 main_v8 (broadcastInDim S4096x8 ![0, 1] bcast_S1x8_S4096x8_0_1 : (⟨S1x8, .i32⟩ : BufTy).Contents (Elt F) → (⟨S4096x8, .i32⟩ : BufTy).Contents (Elt F)),
   StableHlo.binary main_v7 main_v8 main_v9 (addi : (⟨S4096x8, .i32⟩ : BufTy).Contents (Elt F) → (⟨S4096x8, .i32⟩ : BufTy).Contents (Elt F) → (⟨S4096x8, .i32⟩ : BufTy).Contents (Elt F)),
   StableHlo.reshape main_v9 main_v10 (rfl : (.i32 : EltTy) = .i32) shapeCasts_S4096x8_S32768]
/-- The reshape of the gathered eighths to rows. -/
abbrev opR : HloOp τ sig (Elt F) := StableHlo.reshape main_v11 main_v12 (rfl : (.f32 : EltTy) = .f32) shapeCasts_S32768x2x128_S4096x2048

theorem main_eq (d : Dev nD) : main (F := F) d = (StableHlo.seq opsA >>= fun _ =>
    (K (F := F)).run d 0 >>= fun _ => hlo rfl opR (fun _ => .ret PUnit.unit) >>= fun _ =>
      SparseCore.liftProg (.op (.customCall (Pipeline.entry 0) ()) .ret)) := rfl

theorem opsA_sub₀ : (opsA (F := F)).Forall fun op => op.bufs ⊆ StableHlo.tcRefs τ sig :=
  ⟨StableHlo.binary_bufs_sub .., StableHlo.reshape_bufs_sub .., StableHlo.unary_bufs_sub .., StableHlo.nullary_bufs_sub .., StableHlo.unary_bufs_sub ..,
    StableHlo.binary_bufs_sub .., StableHlo.nullary_bufs_sub .., StableHlo.unary_bufs_sub .., StableHlo.unary_bufs_sub .., StableHlo.unary_bufs_sub ..,
    StableHlo.binary_bufs_sub .., StableHlo.reshape_bufs_sub ..⟩
theorem opsA_sub : ∀ op ∈ opsA (F := F), op.bufs ⊆ ucRefs τ sig := fun op h => Pipeline.sub_ucRefs op (List.forall_iff_forall_mem.mp opsA_sub₀ op h)
theorem opsA_fresh₀ : (opsA (F := F)).Forall fun op => op.fresh = ∅ := ⟨rfl, rfl, rfl, rfl, rfl, rfl, rfl, rfl, rfl, rfl, rfl, rfl⟩
theorem opsA_fresh : ∀ op ∈ opsA (F := F), op.fresh = ∅ := List.forall_iff_forall_mem.mp opsA_fresh₀

abbrev t' : DevRef τ sig := Proc.devRef .tc (main_v1 : Ref sig .tc)
abbrev i' : DevRef τ sig := Proc.devRef .tc (main_v10 : Ref sig .tc)
abbrev o' : DevRef τ sig := Proc.devRef .tc (main_v11 : Ref sig .tc)

variable (m : (ℓ : Loc nD τ sig) → Buf (Elt F) ℓ) (ρ : Dev nD → PrngReg)

/-- The contents of a device's buffers at launch, before the SparseCore call, after it, at the weighted sum, at the end. -/
def V0 (d : Dev nD) : Valuation τ sig (Elt F) := fun b => m (d, b)
def Va (d : Dev nD) : Valuation τ sig (Elt F) := after opsA (V0 m d)
def Vb (d : Dev nD) : Valuation τ sig (Elt F) := Function.update (Va m d) o' (gath (Va m d t') (Va m d i'))
def Vc (d : Dev nD) : Valuation τ sig (Elt F) := (opR (F := F)).result (Vb m d)
def Ve (d : Dev nD) : Valuation τ sig (Elt F) :=
  Function.update (Vc m d) (Proc.devRef .tc (main_v13 : Ref sig .tc)) (wsum (Vc m d (Proc.devRef .tc (main_v12 : Ref sig .tc))) (Vc m d (Proc.devRef .tc (main_arg3 : Ref sig .tc))))

/-- What the SparseCore call reads, and what its result held before it. -/
def Tb (d : Dev nD) : Buf (Elt F) (tLoc d) := Va m d t'
def Ix (d : Dev nD) : Buf (Elt F) (iLoc d) := Va m d i'
def O₀ (d : Dev nD) : Buf (Elt F) (oLoc d) := Va m d o'

omit [FloatOps F] in
theorem held_three (d : Dev nD) (W : Valuation τ sig (Elt F)) :
    (held (SparseCore.T d) (ucRefs τ sig) W : sProp 𝕄)
      = iprop(((tLoc d ↦{fullShare} W t') ∗ (iLoc d ↦{fullShare} W i') ∗ oLoc d ↦{fullShare} W o') ∗ held (SparseCore.T d) (ucRefs τ sig \ {t', i', o'}) W) := by
  rw [held_sub_split (SparseCore.T d) (T := {t', i', o'}) (by decide)]
  unfold held
  rw [SparseCore.bigSep_insert' (by decide), SparseCore.bigSep_insert' (by decide), bigSep_singleton]

theorem held_rest (d : Dev nD) :
    (held (SparseCore.T d) (ucRefs τ sig \ {t', i', o'}) (Va m d) : sProp 𝕄) = held (SparseCore.T d) (ucRefs τ sig \ {t', i', o'}) (Vb m d) :=
  held_congr _ fun b hb => (Function.update_of_ne (fun h => (Finset.mem_sdiff.mp hb).2 (by rw [h]; decide)) _ _).symm

theorem held_after (d : Dev nD) :
    iprop(((tLoc d ↦{fullShare} Tb m d) ∗ (iLoc d ↦{fullShare} Ix m d) ∗ oLoc d ↦{fullShare} gath (Tb m d) (Ix m d))
        ∗ held (SparseCore.T d) (ucRefs τ sig \ {t', i', o'}) (Va m d))
      = (held (SparseCore.T d) (ucRefs τ sig) (Vb m d) : sProp 𝕄) := by
  rw [held_three, held_rest]
  unfold Vb
  rw [Function.update_self, Function.update_of_ne (show t' ≠ o' by decide), Function.update_of_ne (show i' ≠ o' by decide)]
  rfl

/-! ## The launch's ghost state -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- The TensorCore pipeline's own state, from the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (Tb m) (Ix m) (O₀ m)).x q thr) := by
  unfold u₀
  iintro Hu
  ihave H := (ownU_pair (initOf (K (F := F)).hsCells (K (F := F)).hsToks) (_ : UR × Counters)) $$ Hu
  icases H with ⟨HH, HP⟩
  ihave HP' := (own_pair_emb (embR : Emb (UR × Counters) 𝕄) _ _) $$ HP
  icases HP' with ⟨HP, -⟩
  ihave HP := (show BI.own (((Emb.inl : Emb UR (UR × Counters)).trans (embR : Emb (UR × Counters) 𝕄)) _) ⊢ BI.own (EP (F := F) _) from .rfl) $$ HP
  ihave HG := (Pipeline.fund_ghost (Pipeline.pin (pcfgs (F := F)) adm) EP (hinj := cellOf_inj)) $$ HP
  imod HG with ⟨HG1, HG2⟩
  imodintro
  isplitl [HH]; · iexact HH
  isplitl [HG1 HG2]
  · rw [bigSep_sep',
      show (bigSep Finset.univ fun d : Dev nD => Pipeline.cellsGhost (Pipeline.pin (pcfgs (F := F)) adm) EP 0 d)
        = (bigSep Finset.univ fun d : Dev nD => bigSep Finset.univ fun p : Fin 1 => Pipeline.cellsGhost (Pipeline.pin (pcfgs (F := F)) adm) EP p d : sProp 𝕄) from
        bigSep_congr fun d _ => (bigSep_univ_of_subsingleton (0 : Fin 1) (Φ := fun p => Pipeline.cellsGhost (Pipeline.pin (pcfgs (F := F)) adm) EP p d)).symm,
      show (bigSep Finset.univ fun d : Dev nD => Pipeline.toksInit (Pipeline.pin (pcfgs (F := F)) adm) EP 0 d)
        = (bigSep Finset.univ fun d : Dev nD => bigSep Finset.univ fun p : Fin 1 => Pipeline.toksInit (Pipeline.pin (pcfgs (F := F)) adm) EP p d : sProp 𝕄) from
        bigSep_congr fun d _ => (bigSep_univ_of_subsingleton (0 : Fin 1) (Φ := fun p => Pipeline.toksInit (Pipeline.pin (pcfgs (F := F)) adm) EP p d)).symm]
    isplitl [HG1] <;> iassumption
  rw [show (bigSep Finset.univ fun thr : Thread nD τ => bigSep Finset.univ fun q : Fin 1 => (P (F := F) (Tb m) (Ix m) (O₀ m)).x q thr) = bigSep Finset.univ fun _ => iprop(emp) from
    bigSep_congr fun _ _ => bigSep_univ_of_subsingleton (0 : Fin 1), bigSep_none]
  iempintro

/-! ## @main -/

abbrev FIN (d : Dev nD) : sProp 𝕄 := held (SparseCore.T d) (ucRefs τ sig) (Ve m d)

variable [∀ e, Nonempty (Elt F e)]

/-- What the TensorCore keeps of the finished call besides its record of waits. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : (K (F := F)).tcSt EH d 1
    = iprop((∃ W, ⌜(K (F := F)).WBelow (SparseCore.T d) W 8⌝ ∗ owes (SparseCore.T d) (0 : CellTallies nD τ sig (HIx 1)) W) ∗ stRest (F := F) d) := by
  unfold SparseCore.Cfg.tcSt
  rw [(K (F := F)).Otc_end d (le_refl 1)]
  rfl

/-- The weighted sum's region, between the contents it is entered with and the contents at the end. -/
def regS : Pipeline.RegionSeg (pcfgs (F := F)) adm (pdats fun d b => Vc m d (Proc.devRef .tc b)) none defs₀ 𝒱₀ (K (F := F)).L (K (F := F)).lev 0 :=
  reg (fun d b => Vc m d (Proc.devRef .tc b)) (fun d b => Ve m d (Proc.devRef .tc b)) (fun d => Function.update_self _ _ _)
    (fun d b hb => Function.update_of_ne (fun h => hb (Proc.devRef_injective _ h)) _ _)

set_option backward.isDefEq.respectTransparency.types false in
/-- The region's step of @main. -/
theorem wp_region (d : Dev nD) (Q : PUnit → sProp 𝕄) :
    iprop((iprop(boundary (SparseCore.T d) ∗ (regS m).post d) -∗ Q ⟨⟩)
        ∗ boundary (SparseCore.T d) ∗ (regS m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (SparseCore.liftProg (.op (.customCall (Pipeline.entry 0) ()) .ret)) Q := by
  have h := (regS m).wp (pcfgs (F := F)) adm (pdats fun d b => Vc m d (Proc.devRef .tc b)) none cellOf_inj EP defs₀ 𝒱₀ (K (F := F)).L (K (F := F)).lev d none
    (fun _ h => nomatch h) .ret Q
  refine BIBase.Entails.trans ?_ (BIBase.Entails.trans h ((K (F := F)).wp_liftProg (D (F := F)) 𝒱 (SparseCore.T d) Set.univ none _ _))
  iintro ⟨Hk, H⟩
  isplitl [Hk]
  · iintro H; rw [wp_ret]; imodintro; iapply Hk; iexact H
  iexact H

set_option backward.isDefEq.respectTransparency.types false in
set_option maxRecDepth 4096 in
theorem hmain (κ : GSem nD τ sig → ℕ) (d : Dev nD) :
    iprop((K (F := F)).ctx EH (P (Tb m) (Ix m) (O₀ m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (V0 m d) from
    Pipeline.unscopedBufs_held d (V0 m d)]
  iintro ⟨#Hctx, Hst, ⟨Hb, Hheld, Hts, -⟩, Hg1, Hg2⟩
  iapply (wp_seq 𝒱 none Set.univ d (ucRefs τ sig) _ opsA opsA_sub opsA_fresh (V0 m d)) $$ [Hb Hheld]
  · isplitl [Hb] <;> iassumption
  iintro ⟨Hb, Hheld⟩
  ihave Hh := (show (held (SparseCore.T d) (ucRefs τ sig) (after opsA (V0 m d)) : sProp 𝕄) ⊢ _ from Entails.of_eq (held_three d (Va m d))) $$ Hheld
  icases Hh with ⟨Hthree, Hrest⟩
  simp only [wp_bind, wp_pure]
  iapply ((K (F := F)).wp_run (D (F := F)) 𝒱 (EH := EH) (P := P (Tb m) (Ix m) (O₀ m)) κ d 0) $$ [Hst Hthree Hrest Hb Hts Hg1 Hg2]
  isplitr; · iexact Hctx
  isplitl [Hst]; · iexact Hst
  isplitl [Hthree]
  · rw [st_eq]; iexact Hthree
  iintro ⟨Hst, Hdn⟩
  ihave Hdn' := (Entails.of_eq (dn_eq (Tb m) (Ix m) (O₀ m) d)) $$ Hdn
  ihave Hheld := (Entails.of_eq (held_after m d)) $$ [Hdn' Hrest]
  · isplitl [Hdn'] <;> iassumption
  iapply (wp_hlo_within 𝒱 (SparseCore.T d) none Set.univ (op := opR) (S := ucRefs τ sig) (Pipeline.sub_ucRefs _ (StableHlo.reshape_bufs_sub ..)) (V := Vb m d)) $$ [Hb Hheld]
  · isplitl [Hb] <;> iassumption
  iintro ⟨Hb, Hheld⟩
  rw [wp_ret]; imodintro
  ihave Hlev := (SparseCore.Cfg.ctx_levAts κ) $$ Hctx
  ihave Hst := (show (K (F := F)).tcSt EH d ((0 : Fin 1).val + 1) ⊢ _ from Entails.of_eq (tcSt_one (F := F) d)) $$ Hst
  icases Hst with ⟨HO, Hst⟩
  iapply (wp_region m d _)
  isplitl [Hst Hts]
  · iintro ⟨Hb, Hpost⟩
    ihave Hpost := (Entails.of_eq (show (regS m).post d = iprop(held (SparseCore.T d) (ucRefs τ sig) (Ve m d)
      ∗ ∃ W, ⌜(K (F := F)).WBelow (SparseCore.T d) W 8⌝ ∗ owes (SparseCore.T d) (0 : CellTallies nD τ sig (HIx 1)) W) from
        congrArg (fun x => iprop(x ∗ _)) (Pipeline.unscopedBufs_held d (Ve m d)))) $$ Hpost
    icases Hpost with ⟨Hheld, HO⟩
    isplitl [HO Hst]
    · rw [tcSt_one]
      isplitl [HO]; · iexact HO
      iexact Hst
    isplitl [Hheld]; · iexact Hheld
    isplitl [Hb] <;> iassumption
  isplitl [Hb]; · iexact Hb
  isplitl [HO Hheld]
  · rw [show (regS m).pre d = iprop(held (SparseCore.T d) (ucRefs τ sig) (Vc m d)
      ∗ ∃ W, ⌜(K (F := F)).WBelow (SparseCore.T d) W 8⌝ ∗ owes (SparseCore.T d) (0 : CellTallies nD τ sig (HIx 1)) W) from
        congrArg (fun x => iprop(x ∗ _)) (Pipeline.unscopedBufs_held d (Vc m d))]
    isplitl [Hheld]; · iexact Hheld
    iexact HO
  isplitl [Hlev]; · iexact Hlev
  isplitl [Hg1] <;> iassumption

/-! ## The launch -/

def fq (d : Dev nD) (s' : Phys nD τ sig (Elt F)) : Prop := ∀ b ∈ ucRefs τ sig, s'.mem.mem (d, b) = Ve m d b

omit [∀ e, Nonempty (Elt F e)] in
theorem hfin (d : Dev nD) (s' : Phys nD τ sig (Elt F)) : iprop(FIN m d ∗ SI s') ⊢ (⌜fq m d s'⌝ : sProp 𝕄) := by
  by_cases h : fq m d s'
  · iintro -; ipureintro; exact h
  · unfold fq at h
    push Not at h
    obtain ⟨b, hb, hne⟩ := h
    have hb' : (FIN m d : sProp 𝕄) ⊢ ((d, b) : Loc nD τ sig) ↦{fullShare} Ve m d b := bigSep_elim hb
    iintro ⟨HF, HSI⟩
    ihave Hb := hb' $$ HF
    ihave H := (SI_pointsTo_agree (st := s') (ℓ := ((d, b) : Loc nD τ sig)) (I := Finset.univ) (q := fullShare) (f := Ve m d b)) $$ [HSI Hb]
    · isplitl [HSI] <;> iassumption
    icases H with %h1
    exact absurd (funext fun i => h1 i (Finset.mem_univ i)) hne

/-- Every run ends, with every buffer of @main at its contents at the end and every counter at zero. -/
theorem run_main (hin : ∀ d, InRows (Ix m d)) : θ_run (Cert.KernelIdeal.defs (F := F)) (Cert.KernelIdeal.threads (F := F)) ⟨m, fun _ => 0, ρ⟩
    fun r => (∀ d : Dev nD, ∀ b ∈ ucRefs τ sig, r.2.mem (d, b) = Ve m d b) ∧ r.2.sem = fun _ => 0 :=
  SparseCore.Cfg.θ_run_sc_quiescent (K := K (F := F)) (D := D (F := F)) (𝒱 := 𝒱) (EH := EH) (P := P (Tb m) (Ix m) (O₀ m)) (A := ∅) facts v₀
    (fun q hq => match q with | 0 => nomatch hq)
    (fun q _ => match q with | 0 => tileObl (Tb m) (Ix m) (O₀ m) facts hin)
    (fun q _ => match q with | 0 => SparseCore.Cfg.VecSplit.of_plain (vecSplit (Tb m) (Ix m) (O₀ m)))
    m ρ main (fun d => G (F := F) d) (FIN m) (u₀ (F := F)) (sep_elim_left.trans (hu₀ m)) (hmain m ρ) (fq m) (hfin m) _ (fun _ h hz => ⟨h, hz⟩)

/-! ## What the buffers hold -/

/-- The rows cut into eighths. -/
theorem Tb_eq (d : Dev nD) : Tb m d = shapeCast S32768x2x128 (m (d, Proc.devRef .tc (main_arg0 : Ref sig .tc))) shapeCasts_S4096x2048_S32768x2x128 := by
  unfold Tb Va
  after_results
  rfl

/-- The eighths' numbers: position times eight, plus which eighth. -/
theorem Ix_eq (d : Dev nD) : Ix m d = shapeCast S32768
    (addi (broadcastInDim S4096x8 ![0, 1] bcast_S4096x1_S4096x8_0_1
        (muli (broadcastInDim S4096x1 ![0] bcast_S4096_S4096x1_0
            (concatenate S4096 0 [⟨S2048, m (d, Proc.devRef .tc (main_arg1 : Ref sig .tc))⟩, ⟨S2048, m (d, Proc.devRef .tc (main_arg2 : Ref sig .tc))⟩]
              concatenates_S2048_S2048_S4096_d0))
          (broadcastInDim S4096x1 ![] bcast_S_S4096x1 (constantI S_ 32 8#32))))
      (broadcastInDim S4096x8 ![0, 1] bcast_S1x8_S4096x8_0_1 (broadcastInDim S1x8 ![1] bcast_S8_S1x8_1 (iotaInDim S8 32 0))))
    shapeCasts_S4096x8_S32768 := by
  unfold Ix Va
  after_results
  rfl

theorem Va_arg (d : Dev nD) (b : Ref sig .tc) (h : b = main_arg0 ∨ b = main_arg1 ∨ b = main_arg2 ∨ b = main_arg3) :
    Va m d (Proc.devRef .tc b) = m (d, Proc.devRef .tc b) := by
  unfold Va V0
  rcases h with rfl | rfl | rfl | rfl <;> after_results

theorem Vc_arg (d : Dev nD) (b : Ref sig .tc) (h : b = main_arg0 ∨ b = main_arg1 ∨ b = main_arg2 ∨ b = main_arg3) :
    Vc m d (Proc.devRef .tc b) = m (d, Proc.devRef .tc b) := by
  unfold Vc Vb
  rw [HloOp.result_of_not_mem _ _ (by rw [StableHlo.reshape_writes]; rcases h with rfl | rfl | rfl | rfl <;> decide),
    Function.update_of_ne (by rcases h with rfl | rfl | rfl | rfl <;> decide)]
  exact Va_arg m d b h

theorem Ve_arg (d : Dev nD) (b : Ref sig .tc) (h : b = main_arg0 ∨ b = main_arg1 ∨ b = main_arg2 ∨ b = main_arg3) :
    Ve m d (Proc.devRef .tc b) = m (d, Proc.devRef .tc b) := by
  unfold Ve
  rw [Function.update_of_ne (by rcases h with rfl | rfl | rfl | rfl <;> decide)]
  exact Vc_arg m d b h

/-- The result: the weighted sums of the gathered rows. -/
theorem Ve_out (d : Dev nD) : Ve m d (Proc.devRef .tc (main_v13 : Ref sig .tc))
    = wsum (shapeCast S4096x2048 (gath (Tb m d) (Ix m d)) shapeCasts_S32768x2x128_S4096x2048) (m (d, Proc.devRef .tc (main_arg3 : Ref sig .tc))) := by
  unfold Ve
  rw [Function.update_self, Vc_arg m d main_arg3 (by simp)]
  congr 1

end Cert.Proof.Comb

end
-- ==== Proof.Comb.Value.lean ====
/-
  The value of the combine call: what the precondition says of the positions, the rows that the expanded list gathers,
  and the reference's term read at an index.
-/
module

public import proofs.«01_k».proof.Proof.Comb.Main
public import proofs.«01_k».proof.Proof.Gen.ReferenceIdeal.Run
public import proofs.«01_k».proof.Proof.Gen.Pre_pos_ok
public import Idealize.ShloMosaic.Lib.Routing.Ops
public import Idealize.ShloMosaic.Lib.IdealHost

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The rank-one index of a position in a list of 2048, and in one of 4096. -/
def one2 (n : Fin 2048) : S2048.Idx := fun a => ⟨n.val, by fin_cases a; exact n.isLt⟩
def one4 (n : Fin 4096) : S4096.Idx := fun a => ⟨n.val, by fin_cases a; exact n.isLt⟩

/-- The positions one after the other. -/
def both (p0 p1 : IVec S2048 32) : IVec S4096 32 :=
  concatenate S4096 0 [⟨S2048, p0⟩, ⟨S2048, p1⟩] concatenates_S2048_S2048_S4096_d0

theorem both_left (p0 p1 : IVec S2048 32) (k : Fin 2048) : both p0 p1 (one4 ⟨k.val, by omega⟩) = p0 (one2 k) :=
  concatenate_pair_apply_left (t := S4096) 0 p0 p1 concatenates_S2048_S2048_S4096_d0 (one4 ⟨k.val, by omega⟩) rfl (one2 k) fun b => by fin_cases b; rfl

theorem both_right (p0 p1 : IVec S2048 32) (k : Fin 2048) : both p0 p1 (one4 ⟨2048 + k.val, by omega⟩) = p1 (one2 k) :=
  concatenate_pair_apply_right (t := S4096) 0 p0 p1 concatenates_S2048_S2048_S4096_d0 (one4 ⟨2048 + k.val, by omega⟩) rfl rfl (one2 k) (fun b hb => absurd (Subsingleton.elim _ _) hb) (by
    show k.val + 2048 = 2048 + k.val; omega)

/-- Both positions of every token name a row of the table. -/
def InTable (p : IVec S2048 32) : Prop := ∀ k, (p k).toNat < 4096

theorem both_lt {p0 p1 : IVec S2048 32} (h0 : InTable p0) (h1 : InTable p1) (k : Fin 4096) : (both p0 p1 (one4 k)).toNat < 4096 := by
  by_cases h : k.val < 2048
  · have e := both_left p0 p1 ⟨k.val, h⟩
    exact e ▸ h0 _
  · have e := both_right p0 p1 ⟨k.val - 2048, by omega⟩
    have ek : (⟨2048 + (k.val - 2048), by omega⟩ : Fin 4096) = k := Fin.ext (by show 2048 + (k.val - 2048) = k.val; omega)
    rw [show (⟨2048 + (⟨k.val - 2048, by omega⟩ : Fin 2048).val, _⟩ : Fin 4096) = k from ek] at e
    exact e ▸ h1 _

/-- The expanded list: eight words for each position, those of the eight pieces of its row. -/
def expand (q : IVec S4096 32) : IVec S32768 32 :=
  shapeCast S32768 (addi (broadcastInDim S4096x8 ![0,1] bcast_S4096x1_S4096x8_0_1 (muli (broadcastInDim S4096x1 ![0] bcast_S4096_S4096x1_0 q)
    (broadcastInDim S4096x1 ![] bcast_S_S4096x1 (constantI S_ 32 8#32)))) (broadcastInDim S4096x8 ![0,1] bcast_S1x8_S4096x8_0_1
      (broadcastInDim S1x8 ![1] bcast_S8_S1x8_1 (iotaInDim S8 32 0)))) shapeCasts_S4096x8_S32768

theorem expand_apply (q : IVec S4096 32) (n : Fin 32768) :
    expand q (lix n) = q (one4 ⟨n.val / 8, by omega⟩) * 8#32 + BitVec.ofNat 32 (n.val % 8) := by
  unfold expand
  rw [shapeCast_apply _ _ (lix n) (ix2 (n := ![4096, 8]) ⟨n.val / 8, by show n.val / 8 < 4096; omega⟩ ⟨n.val % 8, by show n.val % 8 < 8; omega⟩) (by
    rw [Shape.rowMajor_val_two, Shape.rowMajor_val_one]
    show n.val / 8 * 8 + n.val % 8 = n.val
    omega)]
  unfold addi
  have e1 := broadcastInDim_apply ![0,1] bcast_S4096x1_S4096x8_0_1 (muli (broadcastInDim S4096x1 ![0] bcast_S4096_S4096x1_0 q)
    (broadcastInDim S4096x1 ![] bcast_S_S4096x1 (constantI S_ 32 8#32))) (ix2 (n := ![4096, 8]) ⟨n.val / 8, by show n.val / 8 < 4096; omega⟩ ⟨n.val % 8, by show n.val % 8 < 8; omega⟩)
    (ix2 (n := ![4096, 1]) ⟨n.val / 8, by show n.val / 8 < 4096; omega⟩ ⟨0, by decide⟩) (fun a => by fin_cases a <;> rfl)
  have e2 := broadcastInDim_apply ![0] bcast_S4096_S4096x1_0 q (ix2 (n := ![4096, 1]) ⟨n.val / 8, by show n.val / 8 < 4096; omega⟩ ⟨0, by decide⟩)
    (one4 ⟨n.val / 8, by omega⟩) (fun a => by fin_cases a; rfl)
  have e3 := broadcastInDim_apply ![0,1] bcast_S1x8_S4096x8_0_1 (broadcastInDim S1x8 ![1] bcast_S8_S1x8_1 (iotaInDim S8 32 0))
    (ix2 (n := ![4096, 8]) ⟨n.val / 8, by show n.val / 8 < 4096; omega⟩ ⟨n.val % 8, by show n.val % 8 < 8; omega⟩)
    (ix2 (n := ![1, 8]) ⟨0, by decide⟩ ⟨n.val % 8, by show n.val % 8 < 8; omega⟩) (fun a => by fin_cases a <;> rfl)
  refine congrArg₂ (· + ·) (e1.trans ?_) (e3.trans ?_)
  · exact congrArg (· * 8#32) e2
  · rfl

/-- With the positions in the table no word of the expanded list wraps. -/
theorem expand_toNat {q : IVec S4096 32} (h : ∀ k, (q (one4 k)).toNat < 4096) (n : Fin 32768) :
    (expand q (lix n)).toNat = (q (one4 ⟨n.val / 8, by omega⟩)).toNat * 8 + n.val % 8 := by
  have hk := h ⟨n.val / 8, by omega⟩
  rw [expand_apply, BitVec.toNat_add, BitVec.toNat_mul, BitVec.toNat_ofNat, BitVec.toNat_ofNat]
  omega

/-- The pieces that the expanded list gathers, laid side by side, are the table's rows at the positions. -/
theorem gath_row (x : S4096x2048.Idx → Elt F .f32) {q : IVec S4096 32} (h : ∀ k, (q (one4 k)).toNat < 4096) (k : Fin 4096) (j : Fin 2048) :
    shapeCast S4096x2048 (gath (shapeCast S32768x2x128 x shapeCasts_S4096x2048_S32768x2x128) (expand q)) shapeCasts_S32768x2x128_S4096x2048
        (ix2 (n := ![4096, 2048]) k j)
      = x (ix2 (n := ![4096, 2048]) ⟨(q (one4 k)).toNat, h k⟩ j) := by
  have hn : k.val * 8 + j.val / 256 < 32768 := by omega
  let y : S32768x2x128.Idx := fun a => match a with
    | 0 => ⟨k.val * 8 + j.val / 256, hn⟩
    | 1 => ⟨j.val % 256 / 128, by show j.val % 256 / 128 < 2; omega⟩
    | 2 => ⟨j.val % 128, by show j.val % 128 < 128; omega⟩
  rw [shapeCast_apply _ _ (ix2 (n := ![4096, 2048]) k j) y (by
    rw [Shape.rowMajor_val_two, Shape.rowMajor_val_three]
    show ((k.val * 8 + j.val / 256) * 2 + j.val % 256 / 128) * 128 + j.val % 128 = k.val * 2048 + j.val
    omega)]
  unfold gath
  have e := expand_toNat h ⟨k.val * 8 + j.val / 256, hn⟩
  have ek : (⟨(k.val * 8 + j.val / 256) / 8, by omega⟩ : Fin 4096) = k := Fin.ext (by show (k.val * 8 + j.val / 256) / 8 = k.val; omega)
  simp only [ek] at e
  have hk := h k
  refine shapeCast_apply _ _ _ _ ?_
  rw [Shape.rowMajor_val_two, Shape.rowMajor_val_three]
  have e' : (expand q (lix (y 0))).toNat = (q (one4 k)).toNat * 8 + (k.val * 8 + j.val / 256) % 8 := e
  show (q (one4 k)).toNat * 2048 + j.val = ((expand q (lix (y 0))).toNat % 32768 * 2 + j.val % 256 / 128) * 128 + j.val % 128
  rw [e']
  omega

variable [FloatOps F]

/-- The launch's list is the expanded list of the positions. -/
theorem Ix_expand (m : (ℓ : Loc nD τ sig) → Buf (Elt F) ℓ) (d : Dev nD) :
    Ix m d = expand (both (m (d, Proc.devRef .tc (main_arg1 : Ref sig .tc))) (m (d, Proc.devRef .tc (main_arg2 : Ref sig .tc)))) := Ix_eq m d

theorem inRows (m : (ℓ : Loc nD τ sig) → Buf (Elt F) ℓ) (d : Dev nD) (h0 : InTable (m (d, Proc.devRef .tc (main_arg1 : Ref sig .tc))))
    (h1 : InTable (m (d, Proc.devRef .tc (main_arg2 : Ref sig .tc)))) : InRows (Ix m d) := fun n => by
  have e := expand_toNat (both_lt h0 h1) ⟨(n 0).val, (n 0).isLt⟩
  have en : lix ⟨(n 0).val, (n 0).isLt⟩ = n := funext fun a => by fin_cases a; rfl
  rw [en] at e
  rw [Ix_expand]
  have hb := both_lt h0 h1 ⟨(n 0).val / 8, by have := (n 0).isLt; change (n 0).val < 32768 at this; omega⟩
  rw [e]
  dsimp only at hb ⊢
  omega

/-- The precondition read: every position names a row of the table. -/
theorem pos_ok {x : FVec F Cert.Pre_pos_ok.S4096x2048 .f32} {p0 p1 : IVec S2048 32} {w : FVec F Cert.Pre_pos_ok.S2048x2 .f32}
    (h : Cert.Pre_pos_ok.fn x p0 p1 w = fun _ => 1#1) : InTable p0 ∧ InTable p1 := by
  have ha (a b : Bool) : BitVec.ofBool a &&& BitVec.ofBool b = BitVec.ofBool (a && b) := by cases a <;> cases b <;> rfl
  have ho (a : Bool) : BitVec.ofBool a = 1#1 ↔ a = true := by cases a <;> decide
  have key (k : S2048.Idx) : (p0 k).toNat < 4096 ∧ (p1 k).toNat < 4096 := by
    have e := congrFun h k
    simp only [Cert.Pre_pos_ok.fn, andi, cmpi, broadcastInDim, constantI] at e
    simp only [IntOp.cmpi, IntOp.andi, ha, ho, Bool.and_eq_true, BitVec.sle_eq_decide, BitVec.slt_eq_decide, decide_eq_true_eq,
      BitVec.toInt_eq_toNat_cond, BitVec.toNat_ofNat, Nat.reducePow, Nat.reduceMod] at e
    omega
  exact ⟨fun k => (key k).1, fun k => (key k).2⟩

/-- The reference's rows: the table's rows at the positions of one list. -/
theorem ref_row (x : S4096x2048.Idx → Elt F .f32) {p : IVec S2048 32} (h : InTable p) (k : Fin 2048) (j : Fin 2048) :
    Host.gather Cert.ReferenceIdeal.gather_S4096x2048_S2048x1_S2048x2048_1_0_n_n_0_1_12048 x
        (broadcastInDim Cert.ReferenceIdeal.S2048x1 ![0] Cert.ReferenceIdeal.Facts₀.bcast_S2048_S2048x1_0
          (select (cmpi .slt p (broadcastInDim S2048 ![] Cert.ReferenceIdeal.Facts₀.bcast_S_S2048 (constantI S_ 32 0#32)))
            (addi p (broadcastInDim S2048 ![] Cert.ReferenceIdeal.Facts₀.bcast_S_S2048 (constantI S_ 32 4096#32))) p))
        (ix2 (n := ![2048, 2048]) k j)
      = x (ix2 (n := ![4096, 2048]) ⟨(p (one2 k)).toNat, h _⟩ j) := by
  have hs : select (cmpi .slt p (broadcastInDim S2048 ![] Cert.ReferenceIdeal.Facts₀.bcast_S_S2048 (constantI S_ 32 0#32)))
      (addi p (broadcastInDim S2048 ![] Cert.ReferenceIdeal.Facts₀.bcast_S_S2048 (constantI S_ 32 4096#32))) p = p := by
    funext y
    have hy := h y
    have hc : (p y).slt 0#32 = false := by
      rw [BitVec.slt_eq_decide, BitVec.toInt_eq_toNat_cond]
      simp only [decide_eq_false_iff_not, BitVec.toInt_zero]
      omega
    simp only [select, cmpi, broadcastInDim, constantI, IntOp.cmpi, hc]
    rfl
  rw [hs]
  have e := Routing.gather_row (nb := 4096) (B := 2048) (n := 2048) Cert.ReferenceIdeal.gather_S4096x2048_S2048x1_S2048x2048_1_0_n_n_0_1_12048 rfl rfl rfl rfl rfl x
    (broadcastInDim Cert.ReferenceIdeal.S2048x1 ![0] Cert.ReferenceIdeal.Facts₀.bcast_S2048_S2048x1_0 p) k j ⟨(p (one2 k)).toNat, h _⟩ (by
      refine (broadcastInDim_apply _ _ _ _ (one2 k) (fun a => by fin_cases a; rfl)).trans ?_
      simp) (by norm_num)
  refine Eq.trans (congrArg _ ?_) (e.trans (congrArg x ?_)) <;> exact funext fun a => by fin_cases a <;> rfl

theorem toNat_congr {a b : BitVec 32} (h : a = b) : a.toNat = b.toNat := h ▸ rfl

/-- The weighted sum of the rows that the kernel gathers is the reference's. -/
theorem value_eq (x : S4096x2048.Idx → Elt F .f32) {p0 p1 : IVec S2048 32} (h0 : InTable p0) (h1 : InTable p1) (w : S2048x2.Idx → Elt F .f32) :
    wsum (shapeCast S4096x2048 (gath (shapeCast S32768x2x128 x shapeCasts_S4096x2048_S32768x2x128) (expand (both p0 p1))) shapeCasts_S32768x2x128_S4096x2048) w
      = addf (mulf (Host.gather Cert.ReferenceIdeal.gather_S4096x2048_S2048x1_S2048x2048_1_0_n_n_0_1_12048 x
            (broadcastInDim Cert.ReferenceIdeal.S2048x1 ![0] Cert.ReferenceIdeal.Facts₀.bcast_S2048_S2048x1_0
              (select (cmpi .slt p0 (broadcastInDim S2048 ![] Cert.ReferenceIdeal.Facts₀.bcast_S_S2048 (constantI S_ 32 0#32)))
                (addi p0 (broadcastInDim S2048 ![] Cert.ReferenceIdeal.Facts₀.bcast_S_S2048 (constantI S_ 32 4096#32))) p0)))
          (broadcastInDim S2048x2048 ![0, 1] Cert.ReferenceIdeal.Facts₀.bcast_S2048x1_S2048x2048_0_1
            (extractStridedSlice Cert.ReferenceIdeal.S2048x1 ![0, 0] w Cert.ReferenceIdeal.Facts₀.slices_S2048x2_S2048x1_0_0)))
        (mulf (Host.gather Cert.ReferenceIdeal.gather_S4096x2048_S2048x1_S2048x2048_1_0_n_n_0_1_12048 x
            (broadcastInDim Cert.ReferenceIdeal.S2048x1 ![0] Cert.ReferenceIdeal.Facts₀.bcast_S2048_S2048x1_0
              (select (cmpi .slt p1 (broadcastInDim S2048 ![] Cert.ReferenceIdeal.Facts₀.bcast_S_S2048 (constantI S_ 32 0#32)))
                (addi p1 (broadcastInDim S2048 ![] Cert.ReferenceIdeal.Facts₀.bcast_S_S2048 (constantI S_ 32 4096#32))) p1)))
          (broadcastInDim S2048x2048 ![0, 1] Cert.ReferenceIdeal.Facts₀.bcast_S2048x1_S2048x2048_0_1
            (extractStridedSlice Cert.ReferenceIdeal.S2048x1 ![0, 1] w Cert.ReferenceIdeal.Facts₀.slices_S2048x2_S2048x1_0_1))) := by
  funext y
  have hy : y = ix2 (n := ![2048, 2048]) (y 0) (y 1) := ix2_eq rfl rfl
  have hw (c : Fin 2) (hc : S2048x2.Slices ![0, c.val] Cert.ReferenceIdeal.S2048x1) :
      broadcastInDim S2048x2048 ![0, 1] Cert.ReferenceIdeal.Facts₀.bcast_S2048x1_S2048x2048_0_1
        (extractStridedSlice Cert.ReferenceIdeal.S2048x1 ![0, c.val] w hc) y = w (ix2 (n := ![2048, 2]) (y 0) c) := by
    refine (broadcastInDim_apply _ _ _ _ (ix2 (n := ![2048, 1]) (y 0) (0 : Fin 1)) (fun a => by fin_cases a <;> rfl)).trans ?_
    exact extractStridedSlice_apply _ _ _ _ (ix2 (n := ![2048, 2]) (y 0) c) (fun a => by fin_cases a <;> simp [ix2] <;> rfl)
  have g0 := gath_row x (both_lt h0 h1) ⟨(y 0).val, by have := (y 0).isLt; change (y 0).val < 2048 at this; omega⟩ (y 1)
  have g1 := gath_row x (both_lt h0 h1) ⟨2048 + (y 0).val, by have := (y 0).isLt; change (y 0).val < 2048 at this; omega⟩ (y 1)
  have t0 := toNat_congr <| both_left p0 p1 (y 0)
  have t1 := toNat_congr <| both_right p0 p1 (y 0)
  have r0 := ref_row x h0 (y 0) (y 1)
  have r1 := ref_row x h1 (y 0) (y 1)
  rw [← hy] at r0 r1
  unfold wsum
  refine congrArg₂ FloatOps.addf (congrArg₂ FloatOps.mulf (g0.trans (Eq.trans ?_ r0.symm)) (hw 0 _).symm)
    (congrArg₂ FloatOps.mulf (g1.trans (Eq.trans ?_ r1.symm)) (hw 1 _).symm)
  · refine congrArg x (ix2_eq ?_ rfl)
    exact t0
  · refine congrArg x (ix2_eq ?_ rfl)
    exact t1

end Cert.Proof.Comb

end
-- ==== Proof.Scat.Setup.lean ====
/-
  The scatter call's launch, set up: the program as the launch theorem sees it, the ghost state (the handshakes' rounds, the
  transfers' counters), the arrays the SparseCore call reads and writes, the rows of the result each tile writes, and what
  the handshakes carry. A route says of every row of the result which row of the tokens, and which of its two words, names
  it; a tile owns the rows of the result that its own 512 rows of the tokens are sent to, and reads the rest by a share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.ScatterIdeal
public import proofs.«01_k».proof.Proof.Gen.ScatterIdeal.Skeleton

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 0) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the SparseCore call -/

abbrev xLoc (d : Dev nD) : Loc nD τ sig := (SparseCore.T d).loc main_v8
abbrev aLoc (d : Dev nD) : Loc nD τ sig := (SparseCore.T d).loc main_v17
abbrev bLoc (d : Dev nD) : Loc nD τ sig := (SparseCore.T d).loc main_v26
abbrev oLoc (d : Dev nD) : Loc nD τ sig := (SparseCore.T d).loc main_v27

/-- The index of the word that belongs to row `n` of the tokens. -/
def lix (n : Fin 16384) : S16384.Idx := fun a => ⟨n.val, by fin_cases a; exact n.isLt⟩

/-- Which row of the tokens is sent to a row of the result, and whether by its second word. -/
abbrev Route : Type := Fin 32768 → Fin 16384 × Bool

/-- The words of one list are those of a route: each names a row of the result, and the rows they name are the route's. -/
def Named (W : S16384.Idx → Elt F .i32) (R : Route) (b : Bool) : Prop :=
  ∀ n, (W (lix n) : BitVec 32).toNat < 32768 ∧ ∀ r : Fin 32768, (W (lix n) : BitVec 32).toNat = r.val ↔ R r = (n, b)

/-- Row `n` of the tokens at the place of `x` within its row. -/
def pick (n : Fin 16384) (x : S32768x2x128.Idx) : S16384x2x128.Idx := fun a => match a with
  | 0 => n
  | 1 => ⟨(x 1).val, (x 1).isLt⟩
  | 2 => ⟨(x 2).val, (x 2).isLt⟩

/-- The scattered rows: row `x 0` of the result is the row of the tokens that the route sends there. -/
def scat (X : S16384x2x128.Idx → Elt F .f32) (R : Route) : S32768x2x128.Idx → Elt F .f32 := fun x => X (pick (R (x 0)).1 x)

/-- The rows of the result that tile `i` of SparseCore `c` writes. -/
def tileSet (R : Route) (c : Fin 2) (i : Fin 16) : Finset S32768x2x128.Idx := Finset.univ.filter fun x => (R (x 0)).1.val / 512 = 2 * i.val + c.val
/-- The rows of the result that SparseCore `c` writes. -/
def coreSet (R : Route) (c : Fin 2) : Finset S32768x2x128.Idx := Finset.univ.filter fun x => (R (x 0)).1.val / 512 % 2 = c.val

section Sets

variable (R : Route)

theorem mem_tileSet {c : Fin 2} {i : Fin 16} {x : S32768x2x128.Idx} : x ∈ tileSet R c i ↔ (R (x 0)).1.val / 512 = 2 * i.val + c.val := by
  simp [tileSet]
theorem mem_coreSet {c : Fin 2} {x : S32768x2x128.Idx} : x ∈ coreSet R c ↔ (R (x 0)).1.val / 512 % 2 = c.val := by
  simp [coreSet]

theorem tiles_disjoint (c : Fin 2) : ∀ i ∈ (Finset.univ : Finset (Fin 16)), ∀ j ∈ (Finset.univ : Finset (Fin 16)), i ≠ j → Disjoint (tileSet R c i) (tileSet R c j) := by
  intro i _ j _ h
  refine Finset.disjoint_left.mpr fun x hi hj => h (Fin.ext ?_)
  have := (mem_tileSet R).mp hi; have := (mem_tileSet R).mp hj; omega
theorem tiles_cover (c : Fin 2) : (Finset.univ : Finset (Fin 16)).biUnion (tileSet R c) = coreSet R c := by
  ext x
  simp only [Finset.mem_biUnion, Finset.mem_univ, true_and, mem_tileSet, mem_coreSet]
  have := (R (x 0)).1.isLt; have := c.isLt
  constructor
  · rintro ⟨i, hi⟩; omega
  · intro h; exact ⟨⟨(R (x 0)).1.val / 512 / 2, by omega⟩, by show _ = 2 * ((R (x 0)).1.val / 512 / 2) + c.val; omega⟩
theorem cores_disjoint : ∀ i ∈ (Finset.univ : Finset (Fin 2)), ∀ j ∈ (Finset.univ : Finset (Fin 2)), i ≠ j → Disjoint (coreSet R i) (coreSet R j) := by
  intro i _ j _ h
  refine Finset.disjoint_left.mpr fun x hi hj => h (Fin.ext ?_)
  have := (mem_coreSet R).mp hi; have := (mem_coreSet R).mp hj; omega
theorem cores_cover : (Finset.univ : Finset (Fin 2)).biUnion (coreSet R) = Finset.univ := by
  ext x
  simp only [Finset.mem_biUnion, Finset.mem_univ, true_and, mem_coreSet, iff_true]
  exact ⟨⟨(R (x 0)).1.val / 512 % 2, by omega⟩, rfl⟩

end Sets

/-! ## What the handshakes carry -/

/-- SparseCore `c`'s share of what is read, and tile `i`'s of that. -/
abbrev cq (c : Fin 2) : PosShare TreeShare := ShareLeaves.leaf 1 fullShare c
abbrev tq (c : Fin 2) (i : Fin 16) : PosShare TreeShare := ShareLeaves.leaf 4 (cq c) i

variable [FloatOps F]

theorem nCore_zero : (K (F := F)).nCore 0 = 2 := rfl
theorem nSub_zero : (K (F := F)).nSub 0 = 16 := rfl

variable (X : (d : Dev nD) → Buf (Elt F) (xLoc d)) (A : (d : Dev nD) → Buf (Elt F) (aLoc d)) (B : (d : Dev nD) → Buf (Elt F) (bLoc d))
  (R : Dev nD → Route) (O₀ : (d : Dev nD) → Buf (Elt F) (oLoc d))

/-- What SparseCore `c` is handed: its shares and its rows of the result at contents `f`. -/
abbrev coreRes (d : Dev nD) (c : Fin 2) (f : Buf (Elt F) (oLoc d)) : sProp 𝕄 :=
  iprop((xLoc d ↦{cq c} X d) ∗ (aLoc d ↦{cq c} A d) ∗ (bLoc d ↦{cq c} B d) ∗ oLoc d ↦[coreSet (R d) c]{fullShare} f)
/-- What its tile `i` is handed. -/
abbrev tileRes (d : Dev nD) (c : Fin 2) (i : Fin 16) (f : Buf (Elt F) (oLoc d)) : sProp 𝕄 :=
  iprop((xLoc d ↦{tq c i} X d) ∗ (aLoc d ↦{tq c i} A d) ∗ (bLoc d ↦{tq c i} B d) ∗ oLoc d ↦[tileSet (R d) c i]{fullShare} f)

/-- The call takes the tokens, the two lists and the result; the result comes back holding the scattered rows. -/
def P : (K (F := F)).Pay (nD := nD) (Val := Elt F) (Name := ℕ) (U := UU) where
  st := fun q d c => match q with | 0 => coreRes X A B R d (Fin.cast nCore_zero c) (O₀ d)
  dn := fun q d c => match q with | 0 => coreRes X A B R d (Fin.cast nCore_zero c) (scat (X d) (R d))
  go := fun q d c i => match q with | 0 => tileRes X A B R d (Fin.cast nCore_zero c) (Fin.cast nSub_zero i) (O₀ d)
  td := fun q d c i => match q with | 0 => tileRes X A B R d (Fin.cast nCore_zero c) (Fin.cast nSub_zero i) (scat (X d) (R d))
  x := fun _ _ => iprop(emp)

instance P_storable : (P (F := F) X A B R O₀).IsStorable where
  st q d c := match q with
    | 0 => (inferInstance : BI.Storable (upEmb : UEmb _ 𝕄) (coreRes X A B R d (Fin.cast nCore_zero c) (O₀ d)))
  dn q d c := match q with
    | 0 => (inferInstance : BI.Storable (upEmb : UEmb _ 𝕄) (coreRes X A B R d (Fin.cast nCore_zero c) (scat (X d) (R d))))
  go q d c i := match q with
    | 0 => (inferInstance : BI.Storable (upEmb : UEmb _ 𝕄) (tileRes X A B R d (Fin.cast nCore_zero c) (Fin.cast nSub_zero i) (O₀ d)))
  td q d c i := match q with
    | 0 => (inferInstance : BI.Storable (upEmb : UEmb _ 𝕄) (tileRes X A B R d (Fin.cast nCore_zero c) (Fin.cast nSub_zero i) (scat (X d) (R d))))

end Cert.Proof.Scat

end
-- ==== Proof.Scat.Tile.lean ====
/-
  One tile's body of the row scatter, at a symbolic tile: four trips, each fetching 128 rows of the tokens and scattering
  them twice, by the 128 words of each list. Here is what a trip touches and what it leaves there.
-/
module

public import proofs.«01_k».proof.Proof.Scat.Setup
public import Idealize.ShloMosaic.Lib.SparseCore.Scatter
public import Idealize.ShloMosaic.Lib.ViewIndex
public import Idealize.ShloMosaic.Lib.Pipeline.ValueKit.Geometry
public import Idealize.ShloMosaic.Lib.Memref

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.ScatterIdeal.main_v8_scv : Memref Cert.ScatterIdeal.sig Kind.scVector Space.hbm Cert.ScatterIdeal.S16384x2x128 EltTy.f32)
local notation "aV" => (Memref.whole Cert.ScatterIdeal.main_v17_scv : Memref Cert.ScatterIdeal.sig Kind.scVector Space.hbm Cert.ScatterIdeal.S16384 EltTy.i32)
local notation "bV" => (Memref.whole Cert.ScatterIdeal.main_v26_scv : Memref Cert.ScatterIdeal.sig Kind.scVector Space.hbm Cert.ScatterIdeal.S16384 EltTy.i32)
local notation "oV" => (Memref.whole Cert.ScatterIdeal.main_v27_scv : Memref Cert.ScatterIdeal.sig Kind.scVector Space.hbm Cert.ScatterIdeal.S32768x2x128 EltTy.f32)
local notation "sV" => (Memref.whole Cert.ScatterIdeal.cc0_scratch0 : Memref Cert.ScatterIdeal.sig Kind.scVector Space.vmem Cert.ScatterIdeal.S128 EltTy.i32)
local notation "rV" => (Memref.whole Cert.ScatterIdeal.cc0_scratch1 : Memref Cert.ScatterIdeal.sig Kind.scVector Space.vmem Cert.ScatterIdeal.S128x2x128 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-! ## The pieces a trip touches -/

/-- The 128 rows of the tokens that trip `t` fetches, the 128 words of each list, and the whole result, as the tile addresses them. -/
abbrev xChunk (t : Fin k0_t1_loop.trips) : Memref sig .scVector .hbm S128x2x128 .f32 :=
  (xV).slice (Rect.unit (s := S16384x2x128) (k0_off1 L t) S128x2x128.size (k0_off1_inb L t)) (fun _ => rfl)
abbrev aChunk (t : Fin k0_t1_loop.trips) : Memref sig .scVector .hbm S128 .i32 :=
  (aV).slice (Rect.unit (s := S16384) (k0_off2 L t) S128.size (k0_off2_inb L t)) (fun _ => rfl)
abbrev bChunk (t : Fin k0_t1_loop.trips) : Memref sig .scVector .hbm S128 .i32 :=
  (bV).slice (Rect.unit (s := S16384) (k0_off2 L t) S128.size (k0_off2_inb L t)) (fun _ => rfl)
abbrev oAll : Memref sig .scVector .hbm S32768x2x128 .f32 :=
  (oV).slice (Rect.unit (s := S32768x2x128) ![0, 0, 0] S32768x2x128.size inb_S32768x2x128_S32768x2x128_0_0_0) (fun _ => rfl)

/-- The tile's first row of the tokens. -/
def base (L : grid0.Coords) : ℕ := 1024 * (L 1).val + 512 * (L 0).val

theorem off1_val (t : Fin k0_t1_loop.trips) : k0_off1 L t = ![base L + 128 * t.val, 0, 0] := k0_off1_eq L t
theorem off2_val (t : Fin k0_t1_loop.trips) : k0_off2 L t = ![base L + 128 * t.val] := k0_off2_eq L t

theorem trips_le : k0_t1_loop.trips ≤ 4 := k0_t1_abs.2.1
theorem trips_eq : k0_t1_loop.trips = 4 := by decide

/-- The row of the tokens that word `n` of trip `t` belongs to. -/
def cx (t : Fin k0_t1_loop.trips) (n : Fin 128) : Fin 16384 := ⟨base L + 128 * t.val + n.val, by
  have := t.isLt; have := trips_le; have h0 : (L 0).val < 2 := (L 0).isLt; have h1 : (L 1).val < 16 := (L 1).isLt
  unfold base; omega⟩

theorem cx_val (t : Fin k0_t1_loop.trips) (n : Fin 128) : (cx L t n).val = base L + 128 * t.val + n.val := rfl

theorem mem_tile (R : Route) {x : S32768x2x128.Idx} :
    x ∈ tileSet R (cL L) (jL L) ↔ base L ≤ (R (x 0)).1.val ∧ (R (x 0)).1.val < base L + 512 := by
  rw [mem_tileSet]; unfold base; show (R (x 0)).1.val / 512 = 2 * (L 1).val + (L 0).val ↔ _; omega

/-! ## What a trip fetches -/

/-- The rows that trip `t` fetches. -/
theorem rows_eq (X : S16384x2x128.Idx → Elt F .f32) (t : Fin k0_t1_loop.trips) (y : S128x2x128.Idx) (n : Fin 128) (x : S32768x2x128.Idx)
    (h0 : (y 0).val = n.val) (h1 : (y 1).val = (x 1).val) (h2 : (y 2).val = (x 2).val) :
    (xChunk L t).view.read (Elt F) X y = X (pick (cx L t n) x) := by
  rw [View.read_apply, cast_eq]
  have he : ∀ a, (((xChunk L t).view.emb y) a).val = k0_off1 L t a + (y a).val := fun a =>
    ValueKit.view_emb_slice_whole_unit_val (sig := sig) (main_v8_scv : Ref sig .scVector) (k0_off1 L t) S128x2x128.size (k0_off1_inb L t) y a
  refine congrArg X (Shape.idx3_ext ?_ ?_ ?_)
  · rw [he 0, off1_val, h0]; rfl
  · rw [he 1, off1_val, h1]; exact Nat.zero_add _
  · rw [he 2, off1_val, h2]; exact Nat.zero_add _

/-- The words of the first list that trip `t` fetches, -/
theorem words_a (W : S16384.Idx → Elt F .i32) (t : Fin k0_t1_loop.trips) (n : S128.Idx) :
    (aChunk L t).view.read (Elt F) W n = W (lix (cx L t (n 0))) := by
  rw [View.read_apply, cast_eq]
  refine congrArg W (funext fun a => Fin.ext ?_)
  have h := ValueKit.view_emb_slice_whole_unit_val (sig := sig) (main_v17_scv : Ref sig .scVector) (k0_off2 L t) S128.size (k0_off2_inb L t) n a
  refine h.trans ?_
  refine (congrArg (· + (n a).val) (congrFun (off2_val L t) a)).trans ?_
  fin_cases a; rfl

/-- and those of the second. -/
theorem words_b (W : S16384.Idx → Elt F .i32) (t : Fin k0_t1_loop.trips) (n : S128.Idx) :
    (bChunk L t).view.read (Elt F) W n = W (lix (cx L t (n 0))) := by
  rw [View.read_apply, cast_eq]
  refine congrArg W (funext fun a => Fin.ext ?_)
  have h := ValueKit.view_emb_slice_whole_unit_val (sig := sig) (main_v26_scv : Ref sig .scVector) (k0_off2 L t) S128.size (k0_off2_inb L t) n a
  refine h.trans ?_
  refine (congrArg (· + (n a).val) (congrFun (off2_val L t) a)).trans ?_
  fin_cases a; rfl

/-! ## What a scatter names and writes -/

theorem emb_oAll (x : S32768x2x128.Idx) : (oAll).view.emb x = x := by
  refine funext fun a => Fin.ext ?_
  have h := ValueKit.view_emb_slice_whole_unit_val (sig := sig) (main_v27_scv : Ref sig .scVector) ![0, 0, 0] S32768x2x128.size inb_S32768x2x128_S32768x2x128_0_0_0 x a
  refine h.trans ?_
  fin_cases a <;> exact Nat.zero_add _

abbrev ax : Fin S32768x2x128.rank := gathers_S32768x2x128_S128x2x128.axis
abbrev ax' : Fin S128x2x128.rank := gathers_S32768x2x128_S128x2x128.axis'

/-- The elements of one row of the result. -/
theorem mem_row {k : Fin (S32768x2x128.size ax)} {x : S32768x2x128.Idx} : x ∈ ((oAll).view.slice (S32768x2x128.rowRect ax k)).set ↔ x ax = k := by
  constructor
  · intro h
    obtain ⟨j, -, rfl⟩ := Finset.mem_map.mp h
    show ((oAll).view.emb ((S32768x2x128.rowRect ax k).emb j)) ax = k
    rw [emb_oAll]
    exact Shape.rowRect_emb_axis _ _ _
  · rintro rfl
    refine Finset.mem_map.mpr ⟨S32768x2x128.rowProj ax x, Finset.mem_univ _, ?_⟩
    show (oAll).view.emb ((S32768x2x128.rowRect ax (x ax)).emb (S32768x2x128.rowProj ax x)) = x
    rw [emb_oAll]
    exact Shape.rowRect_emb_rowProj _ _

theorem rowMajor_symm_one (k : Fin S128.numel) : ((S128.rowMajor.symm k) 0).val = k.val := by
  have := Shape.rowMajor_val_one (S128.rowMajor.symm k)
  rw [Equiv.apply_symm_apply] at this; exact this.symm

/-- The list scratch holds trip `t`'s words of the list `W`. -/
def Words (W : S16384.Idx → Elt F .i32) (t : Fin k0_t1_loop.trips) (idx : S128.Idx → Elt F .i32) : Prop := ∀ n, idx n = W (lix (cx L t (n 0)))

section Scattered

variable {W : S16384.Idx → Elt F .i32} {R : Route} {b : Bool} {t : Fin k0_t1_loop.trips} {idx : S128.Idx → Elt F .i32}

theorem words_lt (hW : Named W R b) (hi : Words L W t idx) : ∀ x, (idx x : BitVec 32).toNat < S32768x2x128.size ax := fun x => by
  rw [hi x]; exact (hW _).1

theorem words_route (hW : Named W R b) (hi : Words L W t idx) (n : S128.Idx) (r : Fin 32768) :
    (idx n : BitVec 32).toNat = r.val ↔ R r = (cx L t (n 0), b) := by
  rw [hi n]; exact (hW _).2 r

theorem words_inj (hW : Named W R b) (hi : Words L W t idx) : Function.Injective fun x => (idx x : BitVec 32).toNat := by
  intro x y h
  have hx := (words_route L hW hi x ⟨(idx x : BitVec 32).toNat, words_lt L hW hi x⟩).mp rfl
  have hy := (words_route L hW hi y ⟨(idx x : BitVec 32).toNat, words_lt L hW hi x⟩).mp h.symm
  have e := congrArg (fun p => p.1.val) (hx.symm.trans hy)
  dsimp only [cx] at e
  refine funext fun a => Fin.ext ?_
  fin_cases a
  show (x 0).val = (y 0).val
  omega

/-- The rows of the result that a scatter writes are those that the route sends the trip's rows to. -/
theorem mem_named (hW : Named W R b) (hi : Words L W t idx) (hn : S128.numel = S128x2x128.size ax') (hl : ∀ x, (idx x : BitVec 32).toNat < S32768x2x128.size ax)
    {x : S32768x2x128.Idx} :
    x ∈ SparseCore.namedRows (V d (cV L) (jV L)) (oAll).view ax (SparseCore.rows (F := F) idx hn hl) ↔ ∃ n : Fin 128, R (x 0) = (cx L t n, b) := by
  unfold SparseCore.namedRows
  simp only [Finset.mem_biUnion, Finset.mem_univ, true_and]
  constructor
  · rintro ⟨k, hk⟩
    have e := congrArg Fin.val (mem_row.mp hk)
    exact ⟨_, (words_route L hW hi (S128.rowMajor.symm (k.cast hn.symm)) (x 0)).mp e.symm⟩
  · rintro ⟨n, hx⟩
    refine ⟨(Fin.cast (by rfl) n : Fin (S128x2x128.size ax')), mem_row.mpr (Fin.ext ?_)⟩
    show (x 0).val = (idx (S128.rowMajor.symm _) : BitVec 32).toNat
    refine ((words_route L hW hi _ (x 0)).mpr ?_).symm
    rw [hx]
    refine congrArg (fun p => (cx L t p, b)) (Fin.ext ?_)
    exact (rowMajor_symm_one _).symm

theorem named_sub (hW : Named W R b) (hi : Words L W t idx) (hn : S128.numel = S128x2x128.size ax') (hl : ∀ x, (idx x : BitVec 32).toNat < S32768x2x128.size ax) :
    SparseCore.namedRows (V d (cV L) (jV L)) (oAll).view ax (SparseCore.rows (F := F) idx hn hl) ⊆ tileSet R (cL L) (jL L) := by
  intro x hx
  obtain ⟨n, hx⟩ := (mem_named d L hW hi hn hl).mp hx
  have := t.isLt; have := trips_le; have := n.isLt
  have e := congrArg (fun p => p.1.val) hx
  dsimp only [cx] at e
  rw [mem_tile, e]; omega

/-- What a scatter leaves in the rows it names. -/
theorem scat_val (hW : Named W R b) (hi : Words L W t idx) (hn : S128.numel = S128x2x128.size ax') (hl : ∀ x, (idx x : BitVec 32).toNat < S32768x2x128.size ax)
    (X : S16384x2x128.Idx → Elt F .f32) (fs : S128x2x128.Idx → Elt F .f32) (hfs : fs = (xChunk L t).view.read (Elt F) X) (f : S32768x2x128.Idx → Elt F .f32)
    (x : S32768x2x128.Idx) (hx : x ∈ SparseCore.namedRows (V d (cV L) (jV L)) (oAll).view ax (SparseCore.rows (F := F) idx hn hl)) :
    SparseCore.scatterBuf (V d (cV L) (jV L)) (oAll).view ax (SparseCore.rows (F := F) idx hn hl)
      (SparseCore.scatterRowPayload (V d (cV L) (jV L)) (rV) gathers_S32768x2x128_S128x2x128 fs) f x = scat X R x := by
  subst hfs
  obtain ⟨k, -, hk⟩ := Finset.mem_biUnion.mp hx
  have e := mem_row.mp hk
  rw [SparseCore.scatterBuf_of_mem (V d (cV L) (jV L)) (oAll).view ax _ (SparseCore.rows_injective (words_inj L hW hi)) _ f hk]
  have hr := (words_route L hW hi (S128.rowMajor.symm (k.cast hn.symm)) (x 0)).mp (congrArg Fin.val e).symm
  have hj : ((oAll).view.slice (S32768x2x128.rowRect ax (SparseCore.rows (F := F) idx hn hl k))).emb (S32768x2x128.rowProj ax x) = x := by
    show (oAll).view.emb ((S32768x2x128.rowRect ax (SparseCore.rows (F := F) idx hn hl k)).emb (S32768x2x128.rowProj ax x)) = x
    rw [emb_oAll, ← e]
    exact Shape.rowRect_emb_rowProj _ _
  generalize hz : S32768x2x128.rowProj ax x = z at hj
  subst hj
  refine (View.write_emb_of_mem (v := (oAll).view.slice (S32768x2x128.rowRect ax (SparseCore.rows (F := F) idx hn hl k))) _ _ (Finset.mem_univ z)).trans ?_
  have hv (c : Fin S32768x2x128.rank) (hc : c ≠ ax) : ((((oAll).view.slice (S32768x2x128.rowRect ax (SparseCore.rows (F := F) idx hn hl k))).emb z) c).val = (z c).val := by
    show (((oAll).view.emb ((S32768x2x128.rowRect ax (SparseCore.rows (F := F) idx hn hl k)).emb z)) c).val = _
    rw [emb_oAll]
    exact Shape.rowRect_emb_of_ne _ _ _ hc
  unfold scat
  rw [hr]
  refine (rows_eq L X t ((S128x2x128.rowRect ax' k).emb ((Shape.idxEquiv gathers_S32768x2x128_S128x2x128.rowShape_eq).symm z)) _
    (((oAll).view.slice (S32768x2x128.rowRect ax (SparseCore.rows (F := F) idx hn hl k))).emb z) ?_ ?_ ?_)
  · refine (congrArg Fin.val (Shape.rowRect_emb_axis ax' k _)).trans ?_
    exact (rowMajor_symm_one _).symm
  · refine (Shape.rowRect_emb_of_ne ax' k _ (b := 1) (by decide)).trans ?_
    refine Eq.trans ?_ (hv 1 (by decide)).symm
    exact Shape.idxEquiv_symm_apply_val _ _ _
  · refine (Shape.rowRect_emb_of_ne ax' k _ (b := 2) (by decide)).trans ?_
    refine Eq.trans ?_ (hv 2 (by decide)).symm
    exact Shape.idxEquiv_symm_apply_val _ _ _

end Scattered

end Tile

end Cert.Proof.Scat

end
-- ==== Proof.Scat.Cells.lean ====
/-
  A tile's own semaphore cells and scratch buffers, taken out of the whole of what it owns; and the forms in which the
  executor and the rules name what it holds.
-/
module

public import proofs.«01_k».proof.Proof.Scat.Tile

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.ScatterIdeal.main_v8_scv : Memref Cert.ScatterIdeal.sig Kind.scVector Space.hbm Cert.ScatterIdeal.S16384x2x128 EltTy.f32)
local notation "aV" => (Memref.whole Cert.ScatterIdeal.main_v17_scv : Memref Cert.ScatterIdeal.sig Kind.scVector Space.hbm Cert.ScatterIdeal.S16384 EltTy.i32)
local notation "bV" => (Memref.whole Cert.ScatterIdeal.main_v26_scv : Memref Cert.ScatterIdeal.sig Kind.scVector Space.hbm Cert.ScatterIdeal.S16384 EltTy.i32)
local notation "oV" => (Memref.whole Cert.ScatterIdeal.main_v27_scv : Memref Cert.ScatterIdeal.sig Kind.scVector Space.hbm Cert.ScatterIdeal.S32768x2x128 EltTy.f32)
local notation "sV" => (Memref.whole Cert.ScatterIdeal.cc0_scratch0 : Memref Cert.ScatterIdeal.sig Kind.scVector Space.vmem Cert.ScatterIdeal.S128 EltTy.i32)
local notation "rV" => (Memref.whole Cert.ScatterIdeal.cc0_scratch1 : Memref Cert.ScatterIdeal.sig Kind.scVector Space.vmem Cert.ScatterIdeal.S128x2x128 EltTy.f32)

variable (d : Dev nD) (L : grid0.Coords)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cGcell d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cGcell, cCcell]; decide,
        (mem_ownCells (g := cCcell d (cV L) (jV L))).mpr ⟨rfl, by show (SemLoc.dma cc0_scoped2.sem : SemLoc sig).isScoped .scVector = true; decide⟩⟩⟩⟩)]

/-- The two scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_sV (f : Buf (Elt F) ((V d (cV L) (jV L)).loc cc0_scratch0)) :
    ((sV).view.loc (V d (cV L) (jV L)) ↦[(sV).view.set]{fullShare} f : sProp 𝕄) = (V d (cV L) (jV L)).loc cc0_scratch0 ↦{fullShare} f := by
  rw [show (sV).view.set = Finset.univ from View.set_whole _]
theorem pts_rV (f : Buf (Elt F) ((V d (cV L) (jV L)).loc cc0_scratch1)) :
    ((rV).view.loc (V d (cV L) (jV L)) ↦[(rV).view.set]{fullShare} f : sProp 𝕄) = (V d (cV L) (jV L)).loc cc0_scratch1 ↦{fullShare} f := by
  rw [show (rV).view.set = Finset.univ from View.set_whole _]
theorem pts_sV' (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV' (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
theorem pts_xV (q : PosShare TreeShare) (f : Buf (Elt F) (xLoc d)) :
    ((xV).view.loc (V d (cV L) (jV L)) ↦{q} f : sProp 𝕄) = xLoc d ↦{q} f := rfl
theorem pts_aV (q : PosShare TreeShare) (f : Buf (Elt F) (aLoc d)) :
    ((aV).view.loc (V d (cV L) (jV L)) ↦{q} f : sProp 𝕄) = aLoc d ↦{q} f := rfl
theorem pts_bV (q : PosShare TreeShare) (f : Buf (Elt F) (bLoc d)) :
    ((bV).view.loc (V d (cV L) (jV L)) ↦{q} f : sProp 𝕄) = bLoc d ↦{q} f := rfl
theorem pts_oAll (I : Finset S32768x2x128.Idx) (f : Buf (Elt F) (oLoc d)) :
    ((oAll).view.loc (V d (cV L) (jV L)) ↦[I]{fullShare} f : sProp 𝕄) = oLoc d ↦[I]{fullShare} f := rfl

end Cert.Proof.Scat

end
-- ==== Proof.Scat.TileRun.lean ====
/-
  The tile's run: the loop of four trips by its invariant, each trip's fetches by the executor and its two scatters by the
  indirect scatter's rule. The invariant carries the value: of the tile's rows of the result, those that the rows of the
  tokens taken so far are sent to hold them.
-/
module

public import proofs.«01_k».proof.Proof.Scat.Cells

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.ScatterIdeal.main_v8_scv : Memref Cert.ScatterIdeal.sig Kind.scVector Space.hbm Cert.ScatterIdeal.S16384x2x128 EltTy.f32)
local notation "aV" => (Memref.whole Cert.ScatterIdeal.main_v17_scv : Memref Cert.ScatterIdeal.sig Kind.scVector Space.hbm Cert.ScatterIdeal.S16384 EltTy.i32)
local notation "bV" => (Memref.whole Cert.ScatterIdeal.main_v26_scv : Memref Cert.ScatterIdeal.sig Kind.scVector Space.hbm Cert.ScatterIdeal.S16384 EltTy.i32)
local notation "oV" => (Memref.whole Cert.ScatterIdeal.main_v27_scv : Memref Cert.ScatterIdeal.sig Kind.scVector Space.hbm Cert.ScatterIdeal.S32768x2x128 EltTy.f32)
local notation "sV" => (Memref.whole Cert.ScatterIdeal.cc0_scratch0 : Memref Cert.ScatterIdeal.sig Kind.scVector Space.vmem Cert.ScatterIdeal.S128 EltTy.i32)
local notation "rV" => (Memref.whole Cert.ScatterIdeal.cc0_scratch1 : Memref Cert.ScatterIdeal.sig Kind.scVector Space.vmem Cert.ScatterIdeal.S128x2x128 EltTy.f32)

section Run

variable [FloatOps F]
variable (d : Dev nD) (L : grid0.Coords)
variable (X : (d : Dev nD) → Buf (Elt F) (xLoc d)) (A : (d : Dev nD) → Buf (Elt F) (aLoc d)) (B : (d : Dev nD) → Buf (Elt F) (bLoc d)) (R : Dev nD → Route)

/-- The tile's rows of the result, those of the tokens' rows below trip `t` already written. -/
def rowsAt (t : ℕ) : sProp 𝕄 :=
  iprop(∃ f : Buf (Elt F) (oLoc d), ⌜∀ x ∈ tileSet (R d) (cL L) (jL L), (R d (x 0)).1.val < base L + 128 * t → f x = scat (X d) (R d) x⌝
    ∗ oLoc d ↦[tileSet (R d) (cL L) (jL L)]{fullShare} f)

/-- The loop's invariant. -/
def inv (O : CellTallies nD τ sig (HIx 1)) (W : Waits sig (HIx 1)) (t : Nat) (_ : Unit) : sProp 𝕄 :=
  iprop(Transfers.MayWaits (V d (cV L) (jV L)) (default : HIx 1) O
    ∗ ((xV).view.loc (V d (cV L) (jV L)) ↦{tq (cL L) (jL L)} X d)
    ∗ ((aV).view.loc (V d (cV L) (jV L)) ↦{tq (cL L) (jL L)} A d)
    ∗ ((bV).view.loc (V d (cV L) (jV L)) ↦{tq (cL L) (jL L)} B d)
    ∗ rowsAt d L X R t
    ∗ (∃ f, (sV).view.loc (V d (cV L) (jV L)) ↦{fullShare} f)
    ∗ (∃ f, (rV).view.loc (V d (cV L) (jV L)) ↦{fullShare} f)
    ∗ semVal (cGcell d (cV L) (jV L)) 0 ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

/-- The list scratch, filled by a copy of the first list's words of trip `t`, holds them; -/
theorem scratch_a (t : Fin k0_t1_loop.trips) (fs : Buf (Elt F) ((V d (cV L) (jV L)).loc cc0_scratch0)) (pay : S128.Idx → Elt F .i32)
    (hpay : pay = (aChunk L t).view.read (Elt F) (A d)) :
    Words L (A d) t ((sV).view.read (Elt F) (View.write (Elt F) (sV).view fs pay Finset.univ)) := by
  subst hpay; intro x
  rw [View.write_whole_univ]
  simp only [Memref.view_whole, View.read_whole]
  exact words_a L (A d) t x

/-- and likewise the second's. -/
theorem scratch_b (t : Fin k0_t1_loop.trips) (fs : Buf (Elt F) ((V d (cV L) (jV L)).loc cc0_scratch0)) (pay : S128.Idx → Elt F .i32)
    (hpay : pay = (bChunk L t).view.read (Elt F) (B d)) :
    Words L (B d) t ((sV).view.read (Elt F) (View.write (Elt F) (sV).view fs pay Finset.univ)) := by
  subst hpay; intro x
  rw [View.write_whole_univ]
  simp only [Memref.view_whole, View.read_whole]
  exact words_b L (B d) t x

include d L in
/-- The credits of a scatter are those of the rows it is given. -/
theorem hcredit {idx : S128.Idx → Elt F .i32} (hn : S128.numel = S128x2x128.size ax') (hl : ∀ x, (idx x : BitVec 32).toNat < S32768x2x128.size ax) :
    ∑ j, ((oAll).slice (S32768x2x128.rowRect ax (SparseCore.rows (F := F) idx hn hl j)) (S32768x2x128.stride_rowRect ax _)).view.dmaCredit = (rV).view.dmaCredit :=
  SparseCore.sum_scatterCredit_eq_srcCredit (V d (cV L) (jV L)) (rV) (oAll) gathers_S32768x2x128_S128x2x128 rfl _ (fun _ => rfl) (fun _ => rfl)

open Classical in
/-- The result's contents after one of a trip's scatters. -/
def step (t : Fin k0_t1_loop.trips) (b : Bool) (f : Buf (Elt F) (oLoc d)) : Buf (Elt F) (oLoc d) := fun x =>
  if ∃ n : Fin 128, R d (x 0) = (cx L t n, b) then scat (X d) (R d) x else f x

theorem step_pos {t : Fin k0_t1_loop.trips} {b : Bool} {f : Buf (Elt F) (oLoc d)} {x : S32768x2x128.Idx}
    (h : ∃ n : Fin 128, R d (x 0) = (cx L t n, b)) : step d L X R t b f x = scat (X d) (R d) x := if_pos h
theorem step_neg {t : Fin k0_t1_loop.trips} {b : Bool} {f : Buf (Elt F) (oLoc d)} {x : S32768x2x128.Idx}
    (h : ¬ ∃ n : Fin 128, R d (x 0) = (cx L t n, b)) : step d L X R t b f x = f x := if_neg h

/-- After a trip's two scatters the rows of the trip's tokens' rows are written too. -/
theorem step_rows (t : Fin k0_t1_loop.trips) (f : Buf (Elt F) (oLoc d))
    (hf : ∀ x ∈ tileSet (R d) (cL L) (jL L), (R d (x 0)).1.val < base L + 128 * t.val → f x = scat (X d) (R d) x) :
    ∀ x ∈ tileSet (R d) (cL L) (jL L), (R d (x 0)).1.val < base L + 128 * (t.val + 1) →
      step d L X R t true (step d L X R t false f) x = scat (X d) (R d) x := by
  intro x hx hlt
  by_cases h₁ : ∃ n : Fin 128, R d (x 0) = (cx L t n, true)
  · exact step_pos d L X R h₁
  rw [step_neg d L X R h₁]
  by_cases h₀ : ∃ n : Fin 128, R d (x 0) = (cx L t n, false)
  · exact step_pos d L X R h₀
  rw [step_neg d L X R h₀]
  refine hf x hx (lt_of_not_ge fun hge => ?_)
  have hn : (R d (x 0)).1.val - (base L + 128 * t.val) < 128 := by omega
  have he : (R d (x 0)).1 = cx L t ⟨_, hn⟩ := Fin.ext (by rw [cx_val]; show _ = _ + ((R d (x 0)).1.val - (base L + 128 * t.val)); omega)
  rcases hb : (R d (x 0)).2 with _ | _
  · exact h₀ ⟨_, Prod.ext he hb⟩
  · exact h₁ ⟨_, Prod.ext he hb⟩

section Scatter

variable {W : S16384.Idx → Elt F .i32} {b : Bool} {t : Fin k0_t1_loop.trips} {idx : S128.Idx → Elt F .i32}

/-- The rows that a scatter names are taken out of the tile's rows, -/
theorem take_rows (hW : Named W (R d) b) (hi : Words L W t idx) (hn : S128.numel = S128x2x128.size ax') (hl : ∀ x, (idx x : BitVec 32).toNat < S32768x2x128.size ax)
    (f : Buf (Elt F) (oLoc d)) :
    (oLoc d ↦[tileSet (R d) (cL L) (jL L)]{fullShare} f : sProp 𝕄)
      ⊢ iprop(((oAll).view.loc (V d (cV L) (jV L)) ↦[SparseCore.namedRows (V d (cV L) (jV L)) (oAll).view ax (SparseCore.rows (F := F) idx hn hl)]{fullShare} f)
          ∗ oLoc d ↦[tileSet (R d) (cL L) (jL L) \ SparseCore.namedRows (V d (cV L) (jV L)) (oAll).view ax (SparseCore.rows (F := F) idx hn hl)]{fullShare} f) :=
  (pointsTo_split_subset (named_sub d L hW hi hn hl)).1

/-- and put back written. -/
theorem put_rows (hW : Named W (R d) b) (hi : Words L W t idx) (hn : S128.numel = S128x2x128.size ax') (hl : ∀ x, (idx x : BitVec 32).toNat < S32768x2x128.size ax)
    (fs : S128x2x128.Idx → Elt F .f32) (hfs : fs = (xChunk L t).view.read (Elt F) (X d)) (f : Buf (Elt F) (oLoc d)) :
    iprop(((oAll).view.loc (V d (cV L) (jV L)) ↦[SparseCore.namedRows (V d (cV L) (jV L)) (oAll).view ax (SparseCore.rows (F := F) idx hn hl)]{fullShare}
            (SparseCore.scatterBuf (V d (cV L) (jV L)) (oAll).view ax (SparseCore.rows (F := F) idx hn hl)
              (SparseCore.scatterRowPayload (V d (cV L) (jV L)) (rV) gathers_S32768x2x128_S128x2x128 fs) f))
          ∗ oLoc d ↦[tileSet (R d) (cL L) (jL L) \ SparseCore.namedRows (V d (cV L) (jV L)) (oAll).view ax (SparseCore.rows (F := F) idx hn hl)]{fullShare} f)
      ⊢ (oLoc d ↦[tileSet (R d) (cL L) (jL L)]{fullShare} step d L X R t b f : sProp 𝕄) := by
  refine BIBase.Entails.trans (sep_mono (Entails.of_eq ?_) (Entails.of_eq ?_)) (pointsTo_split_subset (named_sub d L hW hi hn hl)).2
  · exact pointsTo_congr fun x hx => (scat_val d L hW hi hn hl (X d) fs hfs f x hx).trans (step_pos d L X R ((mem_named d L hW hi hn hl).mp hx)).symm
  · exact pointsTo_congr fun x hx => (step_neg d L X R fun h => (Finset.mem_sdiff.mp hx).2 ((mem_named d L hW hi hn hl).mpr h)).symm

end Scatter

set_option maxHeartbeats 4000000 in
/-- The task on tile `(L 0, L 1)` of device `d`. -/
theorem tile_body (hF : (K (F := F)).Facts) (hA : Named (A d) (R d) false) (hB : Named (B d) (R d) true) (f₀ : Buf (Elt F) (oLoc d))
    (O : CellTallies nD τ sig (HIx 1)) (W : Waits sig (HIx 1)) (hO : ∀ g, O g none = 0) :
    iprop(levAts (K (F := F)).L (K (F := F)).lev ∗ emp
        ∗ tileRes X A B R d (cL L) (jL L) f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) aV (Memref.isWhole_whole _) bV (Memref.isWhole_whole _) oV (Memref.isWhole_whole _)
            sV (Memref.isWhole_whole _) rV (Memref.isWhole_whole _) cc0_scratch2 cc0_scoped0 cc0_scoped1 cc0_scoped2)
          fun _ => iprop(tileRes X A B R d (cL L) (jL L) (scat (X d) (R d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hx, Ha, Hb, Ho⟩, ⟨⟨%fs, Hs⟩, ⟨%fr, Hr⟩, Hbufs⟩, ⟨HsG, HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Ha' := (Entails.of_eq (pts_aV (F := F) d L _ _).symm) $$ Ha
  ihave Hb' := (Entails.of_eq (pts_bV (F := F) d L _ _).symm) $$ Hb
  ihave Hs' := (Entails.of_eq (pts_sV' (F := F) d L _).symm) $$ Hs
  ihave Hr' := (Entails.of_eq (pts_rV' (F := F) d L _).symm) $$ Hr
  sl_for (inv d L X A B R O W) $$ [Hmw Hx' Ha' Hb' Ho Hs' Hr' HsG HsA HsB HsC HO]
  case region =>
    intro t _
    unfold inv rowsAt
    iintro ⟨#Hmw, Hx', Ha', Hb', ⟨%f, %hf, Ho⟩, ⟨%fs, Hs'⟩, ⟨%fr, Hr'⟩, HsG, HsA, HsB, HsC, %W', %hW', HO⟩
    sl_exec
    have hw := scratch_a d L A t fs _ rfl
    have hr : View.write (Elt F) (rV).view fr (tile_body.sl.dma0 d L X t) Finset.univ = (xChunk L t).view.read (Elt F) (X d) :=
      View.write_whole_univ (Val := Elt F) (cc0_scratch1 : Ref sig .scVector) fr _
    ihave Hr'' := (Entails.of_eq (pts_rV (F := F) d L _).symm) $$ Hr'
    ihave Hs'' := (Entails.of_eq (pts_sV (F := F) d L _).symm) $$ Hs'
    ihave Ho' := (take_rows d L R hA hw rfl (words_lt L hA hw) f) $$ Ho
    icases Ho' with ⟨Hon, Hor⟩
    iapply (SparseCore.wp_indirectScatterLocal countersEmb 𝒱₀ (V d (cV L) (jV L)) none (hg := gathers_S32768x2x128_S128x2x128) (default : HIx 1)
        (rV).view.dmaCredit (by decide) (words_lt L hA hw) (SparseCore.rows_injective (words_inj L hA hw)) (hcredit d L rfl (words_lt L hA hw))) $$ [Hr'' Hon Hs'' HsG]
    · isplitl [Hr'']; · iexact Hr''
      isplitl [Hon]; · iexact Hon
      isplitl [Hs'']; · iexact Hs''
      iexact HsG
    iintro Hfl
    unfold SparseCore.waitIndirectScatter
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hon, Hr, Hs⟩, HsG, HO⟩
    ihave Ho := (put_rows d L X R hA hw rfl (words_lt L hA hw) _ hr f) $$ [Hon Hor]
    · isplitl [Hon] <;> iassumption
    ihave Hr' := (Entails.of_eq ((pts_rV (F := F) d L _).trans (pts_rV' (F := F) d L _).symm)) $$ Hr
    ihave Hs' := (Entails.of_eq ((pts_sV (F := F) d L _).trans (pts_sV' (F := F) d L _).symm)) $$ Hs
    sl_exec
    generalize hg : View.write (Elt F) (sV).view fs _ Finset.univ = fs₁
    have hw₁ := scratch_b d L B t fs₁ _ rfl
    ihave Hr'' := (Entails.of_eq (pts_rV (F := F) d L _).symm) $$ Hr'
    ihave Hs'' := (Entails.of_eq (pts_sV (F := F) d L _).symm) $$ Hs'
    ihave Ho' := (take_rows d L R hB hw₁ rfl (words_lt L hB hw₁) (step d L X R t false f)) $$ Ho
    icases Ho' with ⟨Hon, Hor⟩
    iapply (SparseCore.wp_indirectScatterLocal countersEmb 𝒱₀ (V d (cV L) (jV L)) none (hg := gathers_S32768x2x128_S128x2x128) (default : HIx 1)
        (rV).view.dmaCredit (by decide) (words_lt L hB hw₁) (SparseCore.rows_injective (words_inj L hB hw₁)) (hcredit d L rfl (words_lt L hB hw₁))) $$ [Hr'' Hon Hs'' HsG]
    · isplitl [Hr'']; · iexact Hr''
      isplitl [Hon]; · iexact Hon
      isplitl [Hs'']; · iexact Hs''
      iexact HsG
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hon, Hr, Hs⟩, HsG, HO⟩
    ihave Ho := (put_rows d L X R hB hw₁ rfl (words_lt L hB hw₁) _ hr (step d L X R t false f)) $$ [Hon Hor]
    · isplitl [Hon] <;> iassumption
    ihave Hr' := (Entails.of_eq ((pts_rV (F := F) d L _).trans (pts_rV' (F := F) d L _).symm)) $$ Hr
    ihave Hs' := (Entails.of_eq ((pts_sV (F := F) d L _).trans (pts_sV' (F := F) d L _).symm)) $$ Hs
    sl_exec
    sl_step
    isplitr; · iexact Hmw
    isplitl [Hx']; · iexact Hx'
    isplitl [Ha']; · iexact Ha'
    isplitl [Hb']; · iexact Hb'
    isplitl [Ho]
    · iexists _; isplitr
      swap; · iexact Ho
      ipureintro; exact step_rows d L X R t f hf
    isplitl [Hs']; · iexists _; iexact Hs'
    isplitl [Hr']; · iexists _; iexact Hr'
    isplitl [HsG]; · iexact HsG
    isplitl [HsA]; · iexact HsA
    isplitl [HsB]; · iexact HsB
    isplitl [HsC]; · iexact HsC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv rowsAt
    isplitl [Hmw]; · iexact Hmw
    isplitl [Hx']; · iexact Hx'
    isplitl [Ha']; · iexact Ha'
    isplitl [Hb']; · iexact Hb'
    isplitl [Ho]
    · iexists f₀; isplitr
      · ipureintro; intro x hx h; have := ((mem_tile L (R d)).mp hx).1; omega
      · iexact Ho
    isplitl [Hs']; · iexists _; iexact Hs'
    isplitl [Hr']; · iexists _; iexact Hr'
    isplitl [HsG]; · iexact HsG
    isplitl [HsA]; · iexact HsA
    isplitl [HsB]; · iexact HsB
    isplitl [HsC]; · iexact HsC
    iexists W; isplitr
    · ipureintro; exact fun p hp => .inl hp
    · iexact HO
  iintro %_ HI
  unfold inv rowsAt
  icases HI with ⟨-, Hx', Ha', Hb', ⟨%f, %hf, Ho⟩, ⟨%fs, Hs'⟩, ⟨%fr, Hr'⟩, HsG, HsA, HsB, HsC, %W', %hW', HO⟩
  sl_exec
  sl_step
  isplitl [Hx' Ha' Hb' Ho]
  · isplitl [Hx']; · iexact Hx'
    isplitl [Ha']; · iexact Ha'
    isplitl [Hb']; · iexact Hb'
    have he : (oLoc d ↦[tileSet (R d) (cL L) (jL L)]{fullShare} f : sProp 𝕄) = oLoc d ↦[tileSet (R d) (cL L) (jL L)]{fullShare} (scat (X d) (R d)) :=
      pointsTo_congr fun x hx => hf x hx (by
        have := (mem_tile L (R d)).mp hx
        have ht : k0_t1_loop.trips = 4 := trips_eq
        show (R d (x 0)).1.val < base L + 128 * k0_t1_loop.trips
        rw [ht]; omega)
    iapply (Entails.of_eq he); iexact Ho
  isplitl [Hs' Hr' Hbufs]
  · isplitl [Hs']; · iexists _; iexact Hs'
    isplitl [Hr']; · iexists _; iexact Hr'
    iexact Hbufs
  isplitl [HsG HsA HsB HsC Hsems]
  · isplitl [HsG]; · iexact HsG
    isplitl [HsA]; · iexact HsA
    isplitl [HsB]; · iexact HsB
    isplitl [HsC]; · iexact HsC
    iexact Hsems
  iexists W'; isplitr
  · ipureintro; exact hW'
  · iexact HO

end Run

end Cert.Proof.Scat

end
-- ==== Proof.Scat.Deal.lean ====
/-
  The call's obligations: each tile's task from its body, and the split of a SparseCore's operands over its sixteen tiles.
-/
module

public import proofs.«01_k».proof.Proof.Scat.TileRun

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.ScatterIdeal.main_v8_scv : Memref Cert.ScatterIdeal.sig Kind.scVector Space.hbm Cert.ScatterIdeal.S16384x2x128 EltTy.f32)
local notation "aV" => (Memref.whole Cert.ScatterIdeal.main_v17_scv : Memref Cert.ScatterIdeal.sig Kind.scVector Space.hbm Cert.ScatterIdeal.S16384 EltTy.i32)
local notation "bV" => (Memref.whole Cert.ScatterIdeal.main_v26_scv : Memref Cert.ScatterIdeal.sig Kind.scVector Space.hbm Cert.ScatterIdeal.S16384 EltTy.i32)
local notation "oV" => (Memref.whole Cert.ScatterIdeal.main_v27_scv : Memref Cert.ScatterIdeal.sig Kind.scVector Space.hbm Cert.ScatterIdeal.S32768x2x128 EltTy.f32)
local notation "sV" => (Memref.whole Cert.ScatterIdeal.cc0_scratch0 : Memref Cert.ScatterIdeal.sig Kind.scVector Space.vmem Cert.ScatterIdeal.S128 EltTy.i32)
local notation "rV" => (Memref.whole Cert.ScatterIdeal.cc0_scratch1 : Memref Cert.ScatterIdeal.sig Kind.scVector Space.vmem Cert.ScatterIdeal.S128x2x128 EltTy.f32)

variable [FloatOps F]
variable (X : (d : Dev nD) → Buf (Elt F) (xLoc d)) (A : (d : Dev nD) → Buf (Elt F) (aLoc d)) (B : (d : Dev nD) → Buf (Elt F) (bLoc d))
  (R : Dev nD → Route) (O₀ : (d : Dev nD) → Buf (Elt F) (oLoc d))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) aV (Memref.isWhole_whole _) bV (Memref.isWhole_whole _) oV (Memref.isWhole_whole _)
          sV (Memref.isWhole_whole _) rV (Memref.isWhole_whole _) cc0_scratch2 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hA : ∀ d, Named (F := F) (A d) (R d) false) (hB : ∀ d, Named (F := F) (B d) (R d) true) :
    (K (F := F)).TileObl (D (F := F)) 𝒱 (P X A B R O₀) v₀ 0 := by
  intro d c i O W hO _ _
  simp only [show (P X A B R O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) X A B R hF (hA d) (hB d) (O₀ d) O W hO).trans (wp_mono frame _ _ fun _ => obl_post)

/-! ## A SparseCore's operands over its tiles -/

theorem core_tiles (d : Dev nD) (c : Fin 2) (f : Buf (Elt F) (oLoc d)) :
    (coreRes X A B R d c f : sProp 𝕄) = bigSep Finset.univ fun i : Fin 16 => tileRes X A B R d c i f := by
  unfold coreRes tileRes
  rw [bigSep_sep', bigSep_sep', bigSep_sep',
    ← pointsTo_biUnion Finset.univ (ℓ := oLoc d) (tileSet (R d) c) (tiles_disjoint (R d) c), tiles_cover,
    ← show (xLoc d ↦{cq c} X d : sProp 𝕄) = bigSep Finset.univ fun i : Fin 16 => xLoc d ↦{tq c i} X d from
      ShareLeaves.pointsTo_leaves (Finset.univ) (X d) 4 (cq c),
    ← show (aLoc d ↦{cq c} A d : sProp 𝕄) = bigSep Finset.univ fun i : Fin 16 => aLoc d ↦{tq c i} A d from
      ShareLeaves.pointsTo_leaves (Finset.univ) (A d) 4 (cq c),
    ← show (bLoc d ↦{cq c} B d : sProp 𝕄) = bigSep Finset.univ fun i : Fin 16 => bLoc d ↦{tq c i} B d from
      ShareLeaves.pointsTo_leaves (Finset.univ) (B d) 4 (cq c)]

theorem whole_cores (d : Dev nD) (f : Buf (Elt F) (oLoc d)) :
    iprop((xLoc d ↦{fullShare} X d) ∗ (aLoc d ↦{fullShare} A d) ∗ (bLoc d ↦{fullShare} B d) ∗ oLoc d ↦{fullShare} f)
      = (bigSep Finset.univ fun c : Fin 2 => coreRes X A B R d c f : sProp 𝕄) := by
  unfold coreRes
  rw [bigSep_sep', bigSep_sep', bigSep_sep',
    ← pointsTo_biUnion Finset.univ (ℓ := oLoc d) (coreSet (R d)) (cores_disjoint (R d)), cores_cover,
    ← show (xLoc d ↦{fullShare} X d : sProp 𝕄) = bigSep Finset.univ fun c : Fin 2 => xLoc d ↦{cq c} X d from
      ShareLeaves.pointsTo_leaves (Finset.univ) (X d) 1 fullShare,
    ← show (aLoc d ↦{fullShare} A d : sProp 𝕄) = bigSep Finset.univ fun c : Fin 2 => aLoc d ↦{cq c} A d from
      ShareLeaves.pointsTo_leaves (Finset.univ) (A d) 1 fullShare,
    ← show (bLoc d ↦{fullShare} B d : sProp 𝕄) = bigSep Finset.univ fun c : Fin 2 => bLoc d ↦{cq c} B d from
      ShareLeaves.pointsTo_leaves (Finset.univ) (B d) 1 fullShare]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P X A B R O₀) 0 := by
  intro d c
  show (coreRes X A B R d (Fin.cast nCore_zero c) (O₀ d) : sProp 𝕄) ⊢ |={Set.univ}=> iprop(
      (bigSep Finset.univ fun i : Fin ((K (F := F)).nSub 0) => tileRes X A B R d (Fin.cast nCore_zero c) (Fin.cast nSub_zero i) (O₀ d))
      ∗ ((bigSep Finset.univ fun i : Fin ((K (F := F)).nSub 0) =>
          tileRes X A B R d (Fin.cast nCore_zero c) (Fin.cast nSub_zero i) (scat (X d) (R d)))
          -∗ coreRes X A B R d (Fin.cast nCore_zero c) (scat (X d) (R d))))
  rw [bigSep_tasks (F := F) (fun i => tileRes X A B R d (Fin.cast nCore_zero c) i (O₀ d)),
    bigSep_tasks (F := F) (fun i => tileRes X A B R d (Fin.cast nCore_zero c) i (scat (X d) (R d))), ← core_tiles, ← core_tiles]
  iintro H; imodintro
  isplitl [H]; · iexact H
  iintro H; iexact H

theorem st_eq (d : Dev nD) : (bigSep Finset.univ fun c : Fin ((K (F := F)).nCore 0) => (P X A B R O₀).st 0 d c)
    = (iprop((xLoc d ↦{fullShare} X d) ∗ (aLoc d ↦{fullShare} A d) ∗ (bLoc d ↦{fullShare} B d) ∗ oLoc d ↦{fullShare} O₀ d) : sProp 𝕄) := by
  rw [whole_cores X A B R]; exact bigSep_cores (F := F) (fun c => coreRes X A B R d c (O₀ d))
theorem dn_eq (d : Dev nD) : (bigSep Finset.univ fun c : Fin ((K (F := F)).nCore 0) => (P X A B R O₀).dn 0 d c)
    = (iprop((xLoc d ↦{fullShare} X d) ∗ (aLoc d ↦{fullShare} A d) ∗ (bLoc d ↦{fullShare} B d) ∗ oLoc d ↦{fullShare} (scat (X d) (R d))) : sProp 𝕄) := by
  rw [whole_cores X A B R]; exact bigSep_cores (F := F) (fun c => coreRes X A B R d c (scat (X d) (R d)))

end Cert.Proof.Scat

end
-- ==== Proof.Scat.Main.lean ====
/-
  The scatter call's @main: the host operations before the SparseCore call, the call, the reshape of what it scattered;
  and the launch.
-/
module

public import proofs.«01_k».proof.Proof.Scat.Deal
public import Idealize.ShloMosaic.Lib.Pipeline.Frame
public import Idealize.ShloMosaic.Lib.Pipeline.Regions

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr wp_hlo_within wp_seq after)
open Idealize.ShloMosaic.Pipeline (ucRefs)

variable [FloatOps F]

/-! ## The host operations -/

/-- The operations before the SparseCore call: the two sorts, the positions, the rows cut into eighths, the eighths' numbers. -/
abbrev opsA : List (HloOp τ sig (Elt F)) :=
  [StableHlo.reshape main_arg1 main_v0 (rfl : (.i32 : EltTy) = .i32) shapeCasts_S2048x2_S4096,
   StableHlo.TRef.nullary (StableHlo.TRef.of (T := ⟨S4096, .i32⟩) main_call0_v0) (iotaInDim S4096 32 0),
   StableHlo.TRef.binary (StableHlo.TRef.of (T := ⟨S4096, .i32⟩) main_v0) (StableHlo.TRef.of (T := ⟨S4096, .i32⟩) main_call0_v0) (StableHlo.TRef.of (T := ⟨S4096, .i32⟩) main_call0_v1_0) (fun x y => (Host.sort2 S4096 0 comparator_i32_i32_d0 x y).1),
   StableHlo.TRef.binary (StableHlo.TRef.of (T := ⟨S4096, .i32⟩) main_v0) (StableHlo.TRef.of (T := ⟨S4096, .i32⟩) main_call0_v0) (StableHlo.TRef.of (T := ⟨S4096, .i32⟩) main_v1) (fun x y => (Host.sort2 S4096 0 comparator_i32_i32_d0 x y).2),
   StableHlo.TRef.nullary (StableHlo.TRef.of (T := ⟨S4096, .i32⟩) main_call1_v0) (iotaInDim S4096 32 0),
   StableHlo.TRef.binary (StableHlo.TRef.of (T := ⟨S4096, .i32⟩) main_v1) (StableHlo.TRef.of (T := ⟨S4096, .i32⟩) main_call1_v0) (StableHlo.TRef.of (T := ⟨S4096, .i32⟩) main_call1_v1_0) (fun x y => (Host.sort2 S4096 0 comparator_i32_i32_d0 x y).1),
   StableHlo.TRef.binary (StableHlo.TRef.of (T := ⟨S4096, .i32⟩) main_v1) (StableHlo.TRef.of (T := ⟨S4096, .i32⟩) main_call1_v0) (StableHlo.TRef.of (T := ⟨S4096, .i32⟩) main_v2) (fun x y => (Host.sort2 S4096 0 comparator_i32_i32_d0 x y).2),
   StableHlo.reshape main_v2 main_v3 (rfl : (.i32 : EltTy) = .i32) shapeCasts_S4096_S2048x2,
   StableHlo.unary main_v3 main_v4 ((extractStridedSlice S2048x1 ![0, 0] · slices_S2048x2_S2048x1_0_0) : (⟨S2048x2, .i32⟩ : BufTy).Contents (Elt F) → (⟨S2048x1, .i32⟩ : BufTy).Contents (Elt F)),
   StableHlo.reshape main_v4 main_v5 (rfl : (.i32 : EltTy) = .i32) shapeCasts_S2048x1_S2048,
   StableHlo.unary main_v3 main_v6 ((extractStridedSlice S2048x1 ![0, 1] · slices_S2048x2_S2048x1_0_1) : (⟨S2048x2, .i32⟩ : BufTy).Contents (Elt F) → (⟨S2048x1, .i32⟩ : BufTy).Contents (Elt F)),
   StableHlo.reshape main_v6 main_v7 (rfl : (.i32 : EltTy) = .i32) shapeCasts_S2048x1_S2048,
   StableHlo.reshape main_arg0 main_v8 (rfl : (.f32 : EltTy) = .f32) shapeCasts_S2048x2048_S16384x2x128,
   StableHlo.unary main_v5 main_v9 (broadcastInDim S2048x1 ![0] bcast_S2048_S2048x1_0 : (⟨S2048, .i32⟩ : BufTy).Contents (Elt F) → (⟨S2048x1, .i32⟩ : BufTy).Contents (Elt F)),
   StableHlo.nullary main_c (constantI S_ 32 8#32),
   StableHlo.unary main_c main_v10 (broadcastInDim S2048x1 ![] bcast_S_S2048x1 : (⟨S_, .i32⟩ : BufTy).Contents (Elt F) → (⟨S2048x1, .i32⟩ : BufTy).Contents (Elt F)),
   StableHlo.binary main_v9 main_v10 main_v11 (muli : (⟨S2048x1, .i32⟩ : BufTy).Contents (Elt F) → (⟨S2048x1, .i32⟩ : BufTy).Contents (Elt F) → (⟨S2048x1, .i32⟩ : BufTy).Contents (Elt F)),
   StableHlo.nullary main_v12 (iotaInDim S8 32 0),
   StableHlo.unary main_v12 main_v13 (broadcastInDim S1x8 ![1] bcast_S8_S1x8_1 : (⟨S8, .i32⟩ : BufTy).Contents (Elt F) → (⟨S1x8, .i32⟩ : BufTy).Contents (Elt F)),
   StableHlo.unary main_v11 main_v14 (broadcastInDim S2048x8 ![0, 1] bcast_S2048x1_S2048x8_0_1 : (⟨S2048x1, .i32⟩ : BufTy).Contents (Elt F) → (⟨S2048x8, .i32⟩ : BufTy).Contents (Elt F)),
   StableHlo.unary main_v13 main_v15 (broadcastInDim S2048x8 ![0, 1] bcast_S1x8_S2048x8_0_1 : (⟨S1x8, .i32⟩ : BufTy).Contents (Elt F) → (⟨S2048x8, .i32⟩ : BufTy).Contents (Elt F)),
   StableHlo.binary main_v14 main_v15 main_v16 (addi : (⟨S2048x8, .i32⟩ : BufTy).Contents (Elt F) → (⟨S2048x8, .i32⟩ : BufTy).Contents (Elt F) → (⟨S2048x8, .i32⟩ : BufTy).Contents (Elt F)),
   StableHlo.reshape main_v16 main_v17 (rfl : (.i32 : EltTy) = .i32) shapeCasts_S2048x8_S16384,
   StableHlo.unary main_v7 main_v18 (broadcastInDim S2048x1 ![0] bcast_S2048_S2048x1_0 : (⟨S2048, .i32⟩ : BufTy).Contents (Elt F) → (⟨S2048x1, .i32⟩ : BufTy).Contents (Elt F)),
   StableHlo.nullary main_c_0 (constantI S_ 32 8#32),
   StableHlo.unary main_c_0 main_v19 (broadcastInDim S2048x1 ![] bcast_S_S2048x1 : (⟨S_, .i32⟩ : BufTy).Contents (Elt F) → (⟨S2048x1, .i32⟩ : BufTy).Contents (Elt F)),
   StableHlo.binary main_v18 main_v19 main_v20 (muli : (⟨S2048x1, .i32⟩ : BufTy).Contents (Elt F) → (⟨S2048x1, .i32⟩ : BufTy).Contents (Elt F) → (⟨S2048x1, .i32⟩ : BufTy).Contents (Elt F)),
   StableHlo.nullary main_v21 (iotaInDim S8 32 0),
   StableHlo.unary main_v21 main_v22 (broadcastInDim S1x8 ![1] bcast_S8_S1x8_1 : (⟨S8, .i32⟩ : BufTy).Contents (Elt F) → (⟨S1x8, .i32⟩ : BufTy).Contents (Elt F)),
   StableHlo.unary main_v20 main_v23 (broadcastInDim S2048x8 ![0, 1] bcast_S2048x1_S2048x8_0_1 : (⟨S2048x1, .i32⟩ : BufTy).Contents (Elt F) → (⟨S2048x8, .i32⟩ : BufTy).Contents (Elt F)),
   StableHlo.unary main_v22 main_v24 (broadcastInDim S2048x8 ![0, 1] bcast_S1x8_S2048x8_0_1 : (⟨S1x8, .i32⟩ : BufTy).Contents (Elt F) → (⟨S2048x8, .i32⟩ : BufTy).Contents (Elt F)),
   StableHlo.binary main_v23 main_v24 main_v25 (addi : (⟨S2048x8, .i32⟩ : BufTy).Contents (Elt F) → (⟨S2048x8, .i32⟩ : BufTy).Contents (Elt F) → (⟨S2048x8, .i32⟩ : BufTy).Contents (Elt F)),
   StableHlo.reshape main_v25 main_v26 (rfl : (.i32 : EltTy) = .i32) shapeCasts_S2048x8_S16384]
/-- The reshape of the scattered eighths to rows. -/
abbrev opR : HloOp τ sig (Elt F) := StableHlo.reshape main_v27 main_v28 (rfl : (.f32 : EltTy) = .f32) shapeCasts_S32768x2x128_S4096x2048

theorem main_eq (d : Dev nD) : main (F := F) d = (StableHlo.seq opsA >>= fun _ =>
    (K (F := F)).run d 0 >>= fun _ => hlo rfl opR (fun _ => .ret PUnit.unit)) := rfl

theorem opsA_sub₀ : (opsA (F := F)).Forall fun op => op.bufs ⊆ StableHlo.tcRefs τ sig :=
  ⟨StableHlo.reshape_bufs_sub .., StableHlo.nullary_bufs_sub .., StableHlo.binary_bufs_sub .., StableHlo.binary_bufs_sub .., StableHlo.nullary_bufs_sub .., StableHlo.binary_bufs_sub .., StableHlo.binary_bufs_sub .., StableHlo.reshape_bufs_sub .., StableHlo.unary_bufs_sub .., StableHlo.reshape_bufs_sub .., StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩
theorem opsA_sub : ∀ op ∈ opsA (F := F), op.bufs ⊆ ucRefs τ sig := fun op h => Pipeline.sub_ucRefs op (List.forall_iff_forall_mem.mp opsA_sub₀ op h)
theorem opsA_fresh₀ : (opsA (F := F)).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsA_fresh : ∀ op ∈ opsA (F := F), op.fresh = ∅ := List.forall_iff_forall_mem.mp opsA_fresh₀

abbrev x' : DevRef τ sig := Proc.devRef .tc (main_v8 : Ref sig .tc)
abbrev a' : DevRef τ sig := Proc.devRef .tc (main_v17 : Ref sig .tc)
abbrev b' : DevRef τ sig := Proc.devRef .tc (main_v26 : Ref sig .tc)
abbrev o' : DevRef τ sig := Proc.devRef .tc (main_v27 : Ref sig .tc)

variable (m : (ℓ : Loc nD τ sig) → Buf (Elt F) ℓ) (ρ : Dev nD → PrngReg) (R : Dev nD → Route)

/-- The contents of a device's buffers at launch, before the SparseCore call, after it, at the end. -/
def V0 (d : Dev nD) : Valuation τ sig (Elt F) := fun b => m (d, b)
def Va (d : Dev nD) : Valuation τ sig (Elt F) := after opsA (V0 m d)
def Vb (d : Dev nD) : Valuation τ sig (Elt F) := Function.update (Va m d) o' (scat (Va m d x') (R d))
def Ve (d : Dev nD) : Valuation τ sig (Elt F) := (opR (F := F)).result (Vb m R d)

/-- What the SparseCore call reads, and what its result held before it. -/
def X (d : Dev nD) : Buf (Elt F) (xLoc d) := Va m d x'
def A (d : Dev nD) : Buf (Elt F) (aLoc d) := Va m d a'
def B (d : Dev nD) : Buf (Elt F) (bLoc d) := Va m d b'
def O₀ (d : Dev nD) : Buf (Elt F) (oLoc d) := Va m d o'

omit [FloatOps F] in
theorem held_four (d : Dev nD) (W : Valuation τ sig (Elt F)) :
    (held (SparseCore.T d) (ucRefs τ sig) W : sProp 𝕄)
      = iprop(((xLoc d ↦{fullShare} W x') ∗ (aLoc d ↦{fullShare} W a') ∗ (bLoc d ↦{fullShare} W b') ∗ oLoc d ↦{fullShare} W o')
          ∗ held (SparseCore.T d) (ucRefs τ sig \ {x', a', b', o'}) W) := by
  rw [held_sub_split (SparseCore.T d) (T := {x', a', b', o'}) (by decide)]
  unfold held
  rw [SparseCore.bigSep_insert' (by decide), SparseCore.bigSep_insert' (by decide), SparseCore.bigSep_insert' (by decide), bigSep_singleton]

theorem held_rest (d : Dev nD) :
    (held (SparseCore.T d) (ucRefs τ sig \ {x', a', b', o'}) (Va m d) : sProp 𝕄) = held (SparseCore.T d) (ucRefs τ sig \ {x', a', b', o'}) (Vb m R d) :=
  held_congr _ fun b hb => (Function.update_of_ne (fun h => (Finset.mem_sdiff.mp hb).2 (by rw [h]; decide)) _ _).symm

theorem held_after (d : Dev nD) :
    iprop(((xLoc d ↦{fullShare} X m d) ∗ (aLoc d ↦{fullShare} A m d) ∗ (bLoc d ↦{fullShare} B m d) ∗ oLoc d ↦{fullShare} scat (X m d) (R d))
        ∗ held (SparseCore.T d) (ucRefs τ sig \ {x', a', b', o'}) (Va m d))
      = (held (SparseCore.T d) (ucRefs τ sig) (Vb m R d) : sProp 𝕄) := by
  rw [held_four, held_rest m R]
  unfold Vb
  rw [Function.update_self, Function.update_of_ne (show x' ≠ o' by decide), Function.update_of_ne (show a' ≠ o' by decide), Function.update_of_ne (show b' ≠ o' by decide)]
  rfl

/-! ## The launch's ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (X m) (A m) (B m) R (O₀ m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) (X m) (A m) (B m) R (O₀ m)).x q thr) = bigSep Finset.univ fun _ => iprop(emp) from
    bigSep_congr fun _ _ => bigSep_univ_of_subsingleton (0 : Fin 1), bigSep_none]
  iempintro

/-! ## @main -/

abbrev FIN (d : Dev nD) : sProp 𝕄 := held (SparseCore.T d) (ucRefs τ sig) (Ve m R d)

variable [∀ e, Nonempty (Elt F e)]

set_option backward.isDefEq.respectTransparency.types false in
set_option maxRecDepth 4096 in
theorem hmain (κ : GSem nD τ sig → ℕ) (d : Dev nD) :
    iprop((K (F := F)).ctx EH (P (X m) (A m) (B m) R (O₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m R d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (V0 m d) from
    Pipeline.unscopedBufs_held d (V0 m d)]
  iintro ⟨#Hctx, Hst, ⟨Hb, Hheld, Hts, -⟩, -⟩
  iapply (wp_seq 𝒱 none Set.univ d (ucRefs τ sig) _ opsA opsA_sub opsA_fresh (V0 m d)) $$ [Hb Hheld]
  · isplitl [Hb] <;> iassumption
  iintro ⟨Hb, Hheld⟩
  ihave Hh := (show (held (SparseCore.T d) (ucRefs τ sig) (after opsA (V0 m d)) : sProp 𝕄) ⊢ _ from Entails.of_eq (held_four d (Va m d))) $$ Hheld
  icases Hh with ⟨Hfour, Hrest⟩
  simp only [wp_bind, wp_pure]
  iapply ((K (F := F)).wp_run (D (F := F)) 𝒱 (EH := EH) (P := P (X m) (A m) (B m) R (O₀ m)) κ d 0) $$ [Hst Hfour Hrest Hb Hts]
  isplitr; · iexact Hctx
  isplitl [Hst]; · iexact Hst
  isplitl [Hfour]
  · rw [st_eq]; iexact Hfour
  iintro ⟨Hst, Hdn⟩
  ihave Hdn' := (Entails.of_eq (dn_eq (X m) (A m) (B m) R (O₀ m) d)) $$ Hdn
  ihave Hheld := (Entails.of_eq (held_after m R d)) $$ [Hdn' Hrest]
  · isplitl [Hdn'] <;> iassumption
  iapply (wp_hlo_within 𝒱 (SparseCore.T d) none Set.univ (op := opR) (S := ucRefs τ sig) (Pipeline.sub_ucRefs _ (StableHlo.reshape_bufs_sub ..)) (V := Vb m R d)) $$ [Hb Hheld]
  · isplitl [Hb] <;> iassumption
  iintro ⟨Hb, Hheld⟩
  rw [wp_ret]; imodintro
  isplitl [Hst]; · iexact Hst
  isplitl [Hheld]; · iexact Hheld
  isplitl [Hb] <;> iassumption

/-! ## The launch -/

def fq (d : Dev nD) (s' : Phys nD τ sig (Elt F)) : Prop := ∀ b ∈ ucRefs τ sig, s'.mem.mem (d, b) = Ve m R d b

omit [∀ e, Nonempty (Elt F e)] in
theorem hfin (d : Dev nD) (s' : Phys nD τ sig (Elt F)) : iprop(FIN m R d ∗ SI s') ⊢ (⌜fq m R d s'⌝ : sProp 𝕄) := by
  by_cases h : fq m R d s'
  · iintro -; ipureintro; exact h
  · unfold fq at h
    push Not at h
    obtain ⟨b, hb, hne⟩ := h
    have hb' : (FIN m R d : sProp 𝕄) ⊢ ((d, b) : Loc nD τ sig) ↦{fullShare} Ve m R d b := bigSep_elim hb
    iintro ⟨HF, HSI⟩
    ihave Hb := hb' $$ HF
    ihave H := (SI_pointsTo_agree (st := s') (ℓ := ((d, b) : Loc nD τ sig)) (I := Finset.univ) (q := fullShare) (f := Ve m R d b)) $$ [HSI Hb]
    · isplitl [HSI] <;> iassumption
    icases H with %h1
    exact absurd (funext fun i => h1 i (Finset.mem_univ i)) hne

/-- Every run ends, with every buffer of @main at its contents at the end and every counter at zero. -/
theorem run_main (hA : ∀ d, Named (F := F) (A m d) (R d) false) (hB : ∀ d, Named (F := F) (B m d) (R d) true) :
    θ_run (Cert.ScatterIdeal.defs (F := F)) (Cert.ScatterIdeal.threads (F := F)) ⟨m, fun _ => 0, ρ⟩
      fun r => (∀ d : Dev nD, ∀ b ∈ ucRefs τ sig, r.2.mem (d, b) = Ve m R d b) ∧ r.2.sem = fun _ => 0 :=
  SparseCore.Cfg.θ_run_sc_quiescent (K := K (F := F)) (D := D (F := F)) (𝒱 := 𝒱) (EH := EH) (P := P (X m) (A m) (B m) R (O₀ m)) (A := ∅) facts v₀
    (fun q hq => match q with | 0 => nomatch hq)
    (fun q _ => match q with | 0 => tileObl (X m) (A m) (B m) R (O₀ m) facts hA hB)
    (fun q _ => match q with | 0 => SparseCore.Cfg.VecSplit.of_plain (vecSplit (X m) (A m) (B m) R (O₀ m)))
    m ρ main (fun _ => iprop(emp)) (FIN m R) (u₀ (F := F)) (sep_elim_left.trans (hu₀ m R)) (hmain m ρ R) (fq m R) (hfin m R) _ (fun _ h hz => ⟨h, hz⟩)

/-! ## What the buffers hold -/

/-- The tokens' rows cut into eighths. -/
theorem X_eq (d : Dev nD) : X m d = shapeCast S16384x2x128 (m (d, Proc.devRef .tc (main_arg0 : Ref sig .tc))) shapeCasts_S2048x2048_S16384x2x128 := by
  unfold X Va
  simp only [opsA, StableHlo.TRef.binary, StableHlo.TRef.nullary, StableHlo.TRef.toBuf, StableHlo.TRef.ofBuf, cast_eq]
  after_results
  rfl

/-- The second component of a sort of `k` paired with the places. -/
abbrev order (k : S4096.Idx → Elt F .i32) : S4096.Idx → Elt F .i32 := (Host.sort2 S4096 0 comparator_i32_i32_d0 k (iotaInDim S4096 32 0)).2

/-- The numbers of the eighths that positions `p` name: position times eight, plus which eighth. -/
abbrev eighths (p : S2048.Idx → Elt F .i32) : S16384.Idx → Elt F .i32 :=
  shapeCast S16384
    (addi (broadcastInDim S2048x8 ![0, 1] bcast_S2048x1_S2048x8_0_1
        (muli (broadcastInDim S2048x1 ![0] bcast_S2048_S2048x1_0 p) (broadcastInDim S2048x1 ![] bcast_S_S2048x1 (constantI S_ 32 8#32))))
      (broadcastInDim S2048x8 ![0, 1] bcast_S1x8_S2048x8_0_1 (broadcastInDim S1x8 ![1] bcast_S8_S1x8_1 (iotaInDim S8 32 0))))
    shapeCasts_S2048x8_S16384

/-- The positions of the tokens' copies, two to a token. -/
abbrev places (e : S2048x2.Idx → Elt F .i32) : S2048x2.Idx → Elt F .i32 :=
  shapeCast S2048x2 (order (F := F) (order (F := F) (shapeCast S4096 e shapeCasts_S2048x2_S4096))) shapeCasts_S4096_S2048x2

theorem A_eq (d : Dev nD) : A m d = eighths (F := F) (shapeCast S2048
    (extractStridedSlice S2048x1 ![0, 0] (places (F := F) (m (d, Proc.devRef .tc (main_arg1 : Ref sig .tc)))) slices_S2048x2_S2048x1_0_0) shapeCasts_S2048x1_S2048) := by
  unfold A Va
  simp only [opsA, StableHlo.TRef.binary, StableHlo.TRef.nullary, StableHlo.TRef.toBuf, StableHlo.TRef.ofBuf, cast_eq]
  after_results
  rfl

theorem B_eq (d : Dev nD) : B m d = eighths (F := F) (shapeCast S2048
    (extractStridedSlice S2048x1 ![0, 1] (places (F := F) (m (d, Proc.devRef .tc (main_arg1 : Ref sig .tc)))) slices_S2048x2_S2048x1_0_1) shapeCasts_S2048x1_S2048) := by
  unfold B Va
  simp only [opsA, StableHlo.TRef.binary, StableHlo.TRef.nullary, StableHlo.TRef.toBuf, StableHlo.TRef.ofBuf, cast_eq]
  after_results
  rfl

theorem Va_arg (d : Dev nD) (b : Ref sig .tc) (h : b = main_arg0 ∨ b = main_arg1) : Va m d (Proc.devRef .tc b) = m (d, Proc.devRef .tc b) := by
  unfold Va V0
  simp only [opsA, StableHlo.TRef.binary, StableHlo.TRef.nullary, StableHlo.TRef.toBuf, StableHlo.TRef.ofBuf, cast_eq]
  rcases h with rfl | rfl <;> after_results

theorem Ve_arg (d : Dev nD) (b : Ref sig .tc) (h : b = main_arg0 ∨ b = main_arg1) : Ve m R d (Proc.devRef .tc b) = m (d, Proc.devRef .tc b) := by
  unfold Ve Vb
  rw [HloOp.result_of_not_mem _ _ (by rw [StableHlo.reshape_writes]; rcases h with rfl | rfl <;> decide),
    Function.update_of_ne (by rcases h with rfl | rfl <;> decide)]
  exact Va_arg m d b h

/-- The result: the scattered eighths, as rows. -/
theorem Ve_out (d : Dev nD) : Ve m R d (Proc.devRef .tc (main_v28 : Ref sig .tc)) = shapeCast S4096x2048 (scat (X m d) (R d)) shapeCasts_S32768x2x128_S4096x2048 := by
  unfold Ve
  refine (StableHlo.reshape_result' ..).trans ?_
  unfold Vb
  rw [Function.update_self]
  rfl

end Cert.Proof.Scat

end
-- ==== Proof.Scat.Sort.lean ====
/-
  The scatter call's positions: sorting the copies' experts gives the copies in order of expert, sorting that order gives
  every copy's position, and the position lists are those of one route.
-/
module

public import proofs.«01_k».proof.Proof.Scat.Main
public import Idealize.ShloMosaic.Lib.SortFacts
public import Idealize.ShloMosaic.Lib.Routing.Ops
public import Idealize.ShloMosaic.Lib.IdealHost

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

attribute [local irreducible] sortedFrom

/-- The rank-one index of a place in a list of 2048, and in one of 4096. -/
def one2 (n : Fin 2048) : S2048.Idx := fun a => ⟨n.val, by fin_cases a; exact n.isLt⟩
def one4 (n : Fin 4096) : S4096.Idx := fun a => ⟨n.val, by fin_cases a; exact n.isLt⟩

/-- The rank-two index of a row and a column. -/
def ix2 {n : Fin 2 → Nat} (a : Fin (n 0)) (b : Fin (n 1)) : (⟨2, n⟩ : Shape).Idx := fun | 0 => a | 1 => b

theorem ix2_eq {n : Fin 2 → Nat} {x : (⟨2, n⟩ : Shape).Idx} {a : Fin (n 0)} {b : Fin (n 1)} (h0 : (x 0).val = a.val) (h1 : (x 1).val = b.val) :
    x = ix2 a b := funext fun k => by
  match k with
  | ⟨0, _⟩ => exact Fin.ext h0
  | ⟨1, _⟩ => exact Fin.ext h1

theorem one4_self (j : S4096.Idx) : one4 (j 0) = j := funext fun a => by fin_cases a; rfl

/-- The place that a stable sort of the words `k` brings to place `r`. -/
def source (k : IVec S4096 32) : Fin 4096 → Fin 4096 := sortedFrom fun a b => (k (one4 a)).slt (k (one4 b))

/-- The second component of the sort is the sort's sources. -/
theorem order_apply (k : IVec S4096 32) (r : Fin 4096) :
    (Host.sort2 S4096 0 comparator_i32_i32_d0 k (iotaInDim S4096 32 0)).2 (one4 r) = BitVec.ofNat 32 (source k r).val := by
  have hd : 0 < S4096.rank := Nat.zero_lt_one
  have e (j : S4096.Idx) (c : Fin 4096) : j.along (⟨0, hd⟩ : Fin S4096.rank) c = one4 c := funext fun a => by
    fin_cases a; exact Function.update_self _ _ _
  unfold Host.sort2
  rw [dif_pos hd]
  have hb : (fun a b : Fin 4096 => comparator_i32_i32_d0 (k ((one4 r).along ⟨0, hd⟩ a), iotaInDim S4096 32 0 ((one4 r).along ⟨0, hd⟩ a))
      (k ((one4 r).along ⟨0, hd⟩ b), iotaInDim S4096 32 0 ((one4 r).along ⟨0, hd⟩ b)) == 1#1) = fun a b => (k (one4 a)).slt (k (one4 b)) := by
    funext a b
    rw [e, e]
    show (BitVec.ofBool ((k (one4 a)).slt (k (one4 b))) == 1#1) = _
    cases (k (one4 a)).slt (k (one4 b)) <;> rfl
  refine (congrArg (iotaInDim S4096 32 0) (e _ _)).trans ?_
  refine congrArg (fun c : Fin 4096 => BitVec.ofNat 32 c.val) ?_
  exact congrArg (fun f => sortedFrom (n := 4096) f r) hb

theorem source_injective (k : IVec S4096 32) : Function.Injective (source k) := sortedFrom_injective _
theorem source_surjective (k : IVec S4096 32) : Function.Surjective (source k) := sortedFrom_surjective _

/-- Sorting a list of sources undoes it. -/
theorem source_source {k s : IVec S4096 32} (h : ∀ r, s (one4 r) = BitVec.ofNat 32 (source k r).val) (t : Fin 4096) : source k (source s t) = t := by
  have hlt (a b : Fin 4096) : (s (one4 a)).slt (s (one4 b)) = decide (source k a < source k b) := by
    rw [h, h, BitVec.slt_eq_decide]
    have ha := (source k a).isLt
    have hb := (source k b).isLt
    refine decide_eq_decide.mpr ?_
    rw [BitVec.toInt_eq_toNat_cond, BitVec.toInt_eq_toNat_cond, BitVec.toNat_ofNat, BitVec.toNat_ofNat, Fin.lt_def]
    omega
  have hs : source s = sortedFrom fun a b => decide (source k a < source k b) := by
    unfold source
    exact congrArg sortedFrom (funext fun a => funext fun b => hlt a b)
  have hm : StrictMono (source k ∘ source s) := fun i j hij => by
    have hn := sortedFrom_noInversion (fun a b => decide (source k a < source k b)) (fun a b => decide (source k a < source k b))
      (fun a b h => by simp only [decide_eq_true_eq, decide_eq_false_iff_not, not_lt] at h ⊢; exact h.le) (fun _ _ h => h)
      (fun a b c h₁ h₂ => by simp only [decide_eq_false_iff_not, not_lt] at h₁ h₂ ⊢; exact h₂.trans h₁) i j hij
    rw [← hs] at hn
    simp only [decide_eq_false_iff_not, not_lt] at hn
    exact lt_of_le_of_ne hn fun he => hij.ne (source_injective s (source_injective k he))
  have hid : source k ∘ source s = id := (StrictMono.range_inj hm strictMono_id).mp (by
    rw [((source_surjective k).comp (source_surjective s)).range_eq, Set.range_id])
  exact congrFun hid t

theorem source_source' {k s : IVec S4096 32} (h : ∀ r, s (one4 r) = BitVec.ofNat 32 (source k r).val) (t : Fin 4096) : source s (source k t) = t :=
  source_injective k (source_source h _)

attribute [local irreducible] source

/-! ## The lists of the launch -/

/-- The copies' experts, one after the other. -/
abbrev experts (e : IVec S2048x2 32) : IVec S4096 32 := shapeCast S4096 e shapeCasts_S2048x2_S4096

/-- Where a row of the result comes from: eighth `r % 8` of the token whose copy the sort brings to place `r / 8`. -/
def route (e : IVec S2048x2 32) : Route := fun r =>
  (⟨8 * ((source (experts e) ⟨r.val / 8, by omega⟩).val / 2) + r.val % 8, by
      have := (source (experts e) ⟨r.val / 8, by omega⟩).isLt; omega⟩,
    decide ((source (experts e) ⟨r.val / 8, by omega⟩).val % 2 = 1))

/-- A word of an expanded list: the position times eight, plus the eighth. -/
theorem eighths_apply (p : IVec S2048 32) (n : Fin 16384) :
    eighths (F := F) p (lix n) = p (one2 ⟨n.val / 8, by omega⟩) * 8#32 + BitVec.ofNat 32 (n.val % 8) := by
  unfold eighths
  rw [shapeCast_apply _ _ (lix n) (ix2 (n := ![2048, 8]) ⟨n.val / 8, by show n.val / 8 < 2048; omega⟩ ⟨n.val % 8, by show n.val % 8 < 8; omega⟩) (by
    rw [Shape.rowMajor_val_two, Shape.rowMajor_val_one]
    show n.val / 8 * 8 + n.val % 8 = n.val
    omega)]
  unfold addi
  have e1 := broadcastInDim_apply ![0,1] bcast_S2048x1_S2048x8_0_1 (muli (broadcastInDim S2048x1 ![0] bcast_S2048_S2048x1_0 p)
    (broadcastInDim S2048x1 ![] bcast_S_S2048x1 (constantI S_ 32 8#32))) (ix2 (n := ![2048, 8]) ⟨n.val / 8, by show n.val / 8 < 2048; omega⟩ ⟨n.val % 8, by show n.val % 8 < 8; omega⟩)
    (ix2 (n := ![2048, 1]) ⟨n.val / 8, by show n.val / 8 < 2048; omega⟩ ⟨0, by decide⟩) (fun a => by fin_cases a <;> rfl)
  have e2 := broadcastInDim_apply ![0] bcast_S2048_S2048x1_0 p (ix2 (n := ![2048, 1]) ⟨n.val / 8, by show n.val / 8 < 2048; omega⟩ ⟨0, by decide⟩)
    (one2 ⟨n.val / 8, by omega⟩) (fun a => by fin_cases a; rfl)
  have e3 := broadcastInDim_apply ![0,1] bcast_S1x8_S2048x8_0_1 (broadcastInDim S1x8 ![1] bcast_S8_S1x8_1 (iotaInDim S8 32 0))
    (ix2 (n := ![2048, 8]) ⟨n.val / 8, by show n.val / 8 < 2048; omega⟩ ⟨n.val % 8, by show n.val % 8 < 8; omega⟩)
    (ix2 (n := ![1, 8]) ⟨0, by decide⟩ ⟨n.val % 8, by show n.val % 8 < 8; omega⟩) (fun a => by fin_cases a <;> rfl)
  refine congrArg₂ (· + ·) (e1.trans ?_) (e3.trans ?_)
  · exact congrArg (· * 8#32) e2
  · rfl

/-- The position of a token's copy: the place to which the sort by expert brings it. -/
theorem places_apply (e : IVec S2048x2 32) (c : Fin 2) (hc : S2048x2.Slices ![0, c.val] S2048x1) (t : Fin 2048) :
    ∃ p : Fin 4096, shapeCast S2048 (extractStridedSlice S2048x1 ![0, c.val] (places (F := F) e) hc) shapeCasts_S2048x1_S2048 (one2 t) = BitVec.ofNat 32 p.val
      ∧ source (experts e) p = ⟨2 * t.val + c.val, by omega⟩ ∧ ∀ q, source (experts e) q = ⟨2 * t.val + c.val, by omega⟩ → q = p := by
  refine ⟨source (order (F := F) (experts e)) ⟨2 * t.val + c.val, by omega⟩, ?_, source_source (order_apply (experts e)) _, fun q hq => ?_⟩
  · rw [shapeCast_apply _ _ (one2 t) (ix2 (n := ![2048, 1]) t ⟨0, by decide⟩) (by
      rw [Shape.rowMajor_val_two, Shape.rowMajor_val_one]
      show t.val * 1 + 0 = t.val
      omega)]
    refine (extractStridedSlice_apply _ _ _ _ (ix2 (n := ![2048, 2]) t c) (fun a => by fin_cases a <;> simp [ix2] <;> rfl)).trans ?_
    unfold places
    refine (shapeCast_apply _ _ _ (one4 ⟨2 * t.val + c.val, by omega⟩) (by
      rw [Shape.rowMajor_val_two, Shape.rowMajor_val_one]
      show 2 * t.val + c.val = t.val * 2 + c.val
      omega)).trans ?_
    exact order_apply _ _
  · exact hq ▸ (source_source' (order_apply (experts e)) q).symm

/-- The two lists of the launch are the route's. -/
theorem named (e : IVec S2048x2 32) (c : Fin 2) (hc : S2048x2.Slices ![0, c.val] S2048x1) :
    Named (F := F) (eighths (F := F) (shapeCast S2048 (extractStridedSlice S2048x1 ![0, c.val] (places (F := F) e) hc) shapeCasts_S2048x1_S2048))
      (route e) (decide (c.val = 1)) := by
  intro n
  obtain ⟨p, hp, hs, hu⟩ := places_apply (F := F) e c hc ⟨n.val / 8, by omega⟩
  have hv : (eighths (F := F) (shapeCast S2048 (extractStridedSlice S2048x1 ![0, c.val] (places (F := F) e) hc) shapeCasts_S2048x1_S2048) (lix n) : BitVec 32).toNat
      = p.val * 8 + n.val % 8 := by
    refine (congrArg BitVec.toNat ((eighths_apply (F := F) _ n).trans (congrArg (fun v => v * 8#32 + BitVec.ofNat 32 (n.val % 8)) hp))).trans ?_
    have := p.isLt
    rw [BitVec.toNat_add, BitVec.toNat_mul, BitVec.toNat_ofNat, BitVec.toNat_ofNat, BitVec.toNat_ofNat]
    omega
  rw [hv]
  have hpl := p.isLt
  have hcl := c.isLt
  refine ⟨by omega, fun r => ⟨fun h => ?_, fun h => ?_⟩⟩
  · have hr : (⟨r.val / 8, by omega⟩ : Fin 4096) = p := Fin.ext (by show r.val / 8 = p.val; omega)
    have hv : (source (experts e) ⟨r.val / 8, by omega⟩).val = 2 * (n.val / 8) + c.val := congrArg Fin.val ((congrArg (source (experts e)) hr).trans hs)
    refine Prod.ext (Fin.ext ?_) ?_
    · show 8 * ((source (experts e) ⟨r.val / 8, _⟩).val / 2) + r.val % 8 = n.val
      omega
    · exact decide_eq_decide.mpr (by omega)
  · have h1 := congrArg (fun q => q.1.val) h
    have h2 := congrArg Prod.snd h
    dsimp only [route] at h1 h2
    have h2 := decide_eq_decide.mp h2
    have hq : (⟨r.val / 8, by omega⟩ : Fin 4096) = p := hu _ (Fin.ext (by
      show (source (experts e) ⟨r.val / 8, by omega⟩).val = 2 * (n.val / 8) + c.val
      omega))
    have := congrArg Fin.val hq
    dsimp only at this
    omega

variable [FloatOps F]

theorem named_a (m : (ℓ : Loc nD τ sig) → Buf (Elt F) ℓ) (d : Dev nD) :
    Named (F := F) (A m d) (route (m (d, Proc.devRef .tc (main_arg1 : Ref sig .tc)))) false := by
  rw [A_eq]; exact named (F := F) _ 0 _
theorem named_b (m : (ℓ : Loc nD τ sig) → Buf (Elt F) ℓ) (d : Dev nD) :
    Named (F := F) (B m d) (route (m (d, Proc.devRef .tc (main_arg1 : Ref sig .tc)))) true := by
  rw [B_eq]; exact named (F := F) _ 1 _

end Cert.Proof.Scat

end
-- ==== Proof.Scat.Value.lean ====
/-
  The value of the scatter call: its result, read at an index, and the reference's term read there.
-/
module

public import proofs.«01_k».proof.Proof.Scat.Sort
public import proofs.«01_k».proof.Proof.Gen.ScatterReferenceIdeal.Run

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The scattered eighths, as rows: row `k` of the result is the row of the token whose copy the sort brings there. -/
theorem scat_row (x : S2048x2048.Idx → Elt F .f32) (e : IVec S2048x2 32) (k : Fin 4096) (j : Fin 2048) :
    shapeCast S4096x2048 (scat (F := F) (shapeCast S16384x2x128 x shapeCasts_S2048x2048_S16384x2x128) (route e)) shapeCasts_S32768x2x128_S4096x2048
        (ix2 (n := ![4096, 2048]) k j)
      = x (ix2 (n := ![2048, 2048]) ⟨(source (experts e) k).val / 2, by have := (source (experts e) k).isLt; show _ < 2048; omega⟩ j) := by
  have hn : k.val * 8 + j.val / 256 < 32768 := by omega
  let y : S32768x2x128.Idx := fun a => match a with
    | 0 => ⟨k.val * 8 + j.val / 256, hn⟩
    | 1 => ⟨j.val % 256 / 128, by show j.val % 256 / 128 < 2; omega⟩
    | 2 => ⟨j.val % 128, by show j.val % 128 < 128; omega⟩
  rw [shapeCast_apply _ _ (ix2 (n := ![4096, 2048]) k j) y (by
    rw [Shape.rowMajor_val_two, Shape.rowMajor_val_three]
    show ((k.val * 8 + j.val / 256) * 2 + j.val % 256 / 128) * 128 + j.val % 128 = k.val * 2048 + j.val
    omega)]
  unfold scat
  have ek : (⟨(k.val * 8 + j.val / 256) / 8, by omega⟩ : Fin 4096) = k := Fin.ext (by show (k.val * 8 + j.val / 256) / 8 = k.val; omega)
  refine shapeCast_apply _ _ _ _ ?_
  rw [Shape.rowMajor_val_two, Shape.rowMajor_val_three]
  have hr : (route e (y 0)).1.val = 8 * ((source (experts e) k).val / 2) + (k.val * 8 + j.val / 256) % 8 := by
    show 8 * ((source (experts e) ⟨(k.val * 8 + j.val / 256) / 8, _⟩).val / 2) + (k.val * 8 + j.val / 256) % 8 = _
    rw [ek]
  show (source (experts e) k).val / 2 * 2048 + j.val = ((route e (y 0)).1.val * 2 + j.val % 256 / 128) * 128 + j.val % 128
  rw [hr]
  omega

/-- The reference's tokens, each twice: row `c` of them is the row of token `c / 2`. -/
theorem twice_row (x : S2048x2048.Idx → Elt F .f32) (c : Fin 4096) (j : Fin 2048) :
    shapeCast Cert.ScatterReferenceIdeal.S4096x2048 (broadcastInDim Cert.ScatterReferenceIdeal.S2048x2x2048 ![0, 2] Cert.ScatterReferenceIdeal.Facts₀.bcast_S2048x2048_S2048x2x2048_0_2 x) Cert.ScatterReferenceIdeal.Facts₀.shapeCasts_S2048x2x2048_S4096x2048
        (ix2 (n := ![4096, 2048]) c j)
      = x (ix2 (n := ![2048, 2048]) ⟨c.val / 2, by show c.val / 2 < 2048; omega⟩ j) := by
  let y : Cert.ScatterReferenceIdeal.S2048x2x2048.Idx := fun a => match a with
    | 0 => ⟨c.val / 2, by show c.val / 2 < 2048; omega⟩
    | 1 => ⟨c.val % 2, by show c.val % 2 < 2; omega⟩
    | 2 => ⟨j.val, j.isLt⟩
  refine (shapeCast_apply _ _ (ix2 (n := ![4096, 2048]) c j) y (by
    rw [Shape.rowMajor_val_two, Shape.rowMajor_val_three]
    show (c.val / 2 * 2 + c.val % 2) * 2048 + j.val = c.val * 2048 + j.val
    omega)).trans ?_
  exact broadcastInDim_apply _ _ _ _ _ (fun a => by fin_cases a <;> rfl)

/-- What the SparseCore call scatters is what the reference selects. -/
theorem value_eq (x : S2048x2048.Idx → Elt F .f32) (e : IVec S2048x2 32) :
    shapeCast S4096x2048 (scat (F := F) (shapeCast S16384x2x128 x shapeCasts_S2048x2048_S16384x2x128) (route e)) shapeCasts_S32768x2x128_S4096x2048
      = Host.gather Cert.ScatterReferenceIdeal.gather_S4096x2048_S4096x1_S4096x2048_1_0_n_n_0_1_12048
          (shapeCast Cert.ScatterReferenceIdeal.S4096x2048 (broadcastInDim Cert.ScatterReferenceIdeal.S2048x2x2048 ![0, 2] Cert.ScatterReferenceIdeal.Facts₀.bcast_S2048x2048_S2048x2x2048_0_2 x) Cert.ScatterReferenceIdeal.Facts₀.shapeCasts_S2048x2x2048_S4096x2048)
          (broadcastInDim Cert.ScatterReferenceIdeal.S4096x1 ![0] Cert.ScatterReferenceIdeal.Facts₀.bcast_S4096_S4096x1_0
            (select (cmpi .slt (Host.sort2 Cert.ScatterReferenceIdeal.S4096 0 Cert.ScatterReferenceIdeal.comparator_i32_i32_d0 (shapeCast Cert.ScatterReferenceIdeal.S4096 e Cert.ScatterReferenceIdeal.Facts₀.shapeCasts_S2048x2_S4096) (iotaInDim Cert.ScatterReferenceIdeal.S4096 32 0)).2
                (broadcastInDim Cert.ScatterReferenceIdeal.S4096 ![] Cert.ScatterReferenceIdeal.Facts₀.bcast_S_S4096 (constantI Cert.ScatterReferenceIdeal.S_ 32 0#32)))
              (addi (Host.sort2 Cert.ScatterReferenceIdeal.S4096 0 Cert.ScatterReferenceIdeal.comparator_i32_i32_d0 (shapeCast Cert.ScatterReferenceIdeal.S4096 e Cert.ScatterReferenceIdeal.Facts₀.shapeCasts_S2048x2_S4096) (iotaInDim Cert.ScatterReferenceIdeal.S4096 32 0)).2
                (broadcastInDim Cert.ScatterReferenceIdeal.S4096 ![] Cert.ScatterReferenceIdeal.Facts₀.bcast_S_S4096 (constantI Cert.ScatterReferenceIdeal.S_ 32 4096#32)))
              (Host.sort2 Cert.ScatterReferenceIdeal.S4096 0 Cert.ScatterReferenceIdeal.comparator_i32_i32_d0 (shapeCast Cert.ScatterReferenceIdeal.S4096 e Cert.ScatterReferenceIdeal.Facts₀.shapeCasts_S2048x2_S4096) (iotaInDim Cert.ScatterReferenceIdeal.S4096 32 0)).2)) := by
  have ho (r : Fin 4096) : (Host.sort2 Cert.ScatterReferenceIdeal.S4096 0 Cert.ScatterReferenceIdeal.comparator_i32_i32_d0 (shapeCast Cert.ScatterReferenceIdeal.S4096 e Cert.ScatterReferenceIdeal.Facts₀.shapeCasts_S2048x2_S4096) (iotaInDim Cert.ScatterReferenceIdeal.S4096 32 0)).2 (one4 r)
      = BitVec.ofNat 32 (source (experts e) r).val := order_apply (experts e) r
  generalize (Host.sort2 Cert.ScatterReferenceIdeal.S4096 0 Cert.ScatterReferenceIdeal.comparator_i32_i32_d0 (shapeCast Cert.ScatterReferenceIdeal.S4096 e Cert.ScatterReferenceIdeal.Facts₀.shapeCasts_S2048x2_S4096) (iotaInDim Cert.ScatterReferenceIdeal.S4096 32 0)).2 = s at ho ⊢
  have hsel : select (cmpi .slt s (broadcastInDim Cert.ScatterReferenceIdeal.S4096 ![] Cert.ScatterReferenceIdeal.Facts₀.bcast_S_S4096 (constantI Cert.ScatterReferenceIdeal.S_ 32 0#32)))
      (addi s (broadcastInDim Cert.ScatterReferenceIdeal.S4096 ![] Cert.ScatterReferenceIdeal.Facts₀.bcast_S_S4096 (constantI Cert.ScatterReferenceIdeal.S_ 32 4096#32))) s = s := by
    funext y
    have hy : s y = BitVec.ofNat 32 (source (experts e) (y 0)).val := (congrArg s (one4_self y).symm).trans (ho (y 0))
    have hl := (source (experts e) (y 0)).isLt
    have hc : (s y).slt 0#32 = false := by
      rw [hy, BitVec.slt_eq_decide, BitVec.toInt_eq_toNat_cond, BitVec.toNat_ofNat]
      simp only [decide_eq_false_iff_not, BitVec.toInt_zero]
      omega
    simp only [select, cmpi, broadcastInDim, constantI, IntOp.cmpi, hc]
    rfl
  rw [hsel]
  funext y
  have hy : y = ix2 (n := ![4096, 2048]) (y 0) (y 1) := ix2_eq rfl rfl
  have g := Routing.gather_row (nb := 4096) (B := 2048) (n := 4096) Cert.ScatterReferenceIdeal.gather_S4096x2048_S4096x1_S4096x2048_1_0_n_n_0_1_12048 rfl rfl rfl rfl rfl
    (shapeCast Cert.ScatterReferenceIdeal.S4096x2048 (broadcastInDim Cert.ScatterReferenceIdeal.S2048x2x2048 ![0, 2] Cert.ScatterReferenceIdeal.Facts₀.bcast_S2048x2048_S2048x2x2048_0_2 x) Cert.ScatterReferenceIdeal.Facts₀.shapeCasts_S2048x2x2048_S4096x2048)
    (broadcastInDim Cert.ScatterReferenceIdeal.S4096x1 ![0] Cert.ScatterReferenceIdeal.Facts₀.bcast_S4096_S4096x1_0 s) (y 0) (y 1) (source (experts e) (y 0))
    ((broadcastInDim_apply _ _ _ _ (one4 (y 0)) (fun a => by fin_cases a; rfl)).trans (ho (y 0))) (by norm_num)
  rw [hy]
  refine (scat_row x e (y 0) (y 1)).trans (Eq.symm ?_)
  refine Eq.trans ?_ (g.trans (Eq.trans ?_ (twice_row x (source (experts e) (y 0)) (y 1)))) <;>
    exact congrArg _ (funext fun a => by fin_cases a <;> rfl)

end Cert.Proof.Scat

end
-- ==== Proof.Rout.Top2.lean ====
/-
  The two greatest of a row of eight extended reals, as numbers: what "first greatest" means, that a stable descending sort
  brings the first greatest to place 0 and the first greatest of the others to place 1, and that a row's maximum and the least
  place that attains it are the first greatest's value and place.
-/
module

public import Idealize.ShloMosaic.Lib.PlanTiles.StableSort
public import Idealize.ShloMosaic.Lib.SortNet.Extract
public import Idealize.ShloMosaic.Lib.Pointwise
public import Idealize.ShloMosaic.Lib.IdealHost

@[expose] public section

noncomputable section

namespace Cert.Proof.Rout

open Idealize.ShloMosaic

/-- Place `i` holds the greatest of `f`, and no earlier place does. -/
structure First (f : Fin 8 → EReal) (i : Fin 8) : Prop where
  top : ∀ j, f j ≤ f i
  least : ∀ j, f j = f i → i ≤ j

theorem First.unique {f : Fin 8 → EReal} {i k : Fin 8} (hi : First f i) (hk : First f k) : i = k := by
  have e : f i = f k := le_antisymm (hk.top i) (hi.top k)
  exact le_antisymm (hi.least k e.symm) (hk.least i e)

/-! ## The sort -/

/-- How many places of `f` hold less than place `a`. -/
def rank (f : Fin 8 → EReal) (a : Fin 8) : Nat := (Finset.univ.filter fun j => f j < f a).card

theorem rank_lt (f : Fin 8 → EReal) (a b : Fin 8) : rank f b < rank f a ↔ f b < f a := by
  constructor
  · intro h
    by_contra hn
    rw [not_lt] at hn
    refine absurd h (not_lt.mpr (Finset.card_le_card fun j hj => ?_))
    rw [Finset.mem_filter] at hj ⊢
    exact ⟨hj.1, hj.2.trans_le hn⟩
  · intro h
    refine Finset.card_lt_card ⟨fun j hj => ?_, fun hs => ?_⟩
    · rw [Finset.mem_filter] at hj ⊢
      exact ⟨hj.1, hj.2.trans h⟩
    · have := hs (Finset.mem_filter.mpr ⟨Finset.mem_univ b, h⟩)
      exact lt_irrefl _ (Finset.mem_filter.mp this).2

/-- The place that a stable descending sort of `f` brings to place `k`. -/
def place (f : Fin 8 → EReal) : Fin 8 → Fin 8 := sortedFrom fun a b => decide (f b < f a)

theorem place_ordered (f : Fin 8 → EReal) {i j : Fin 8} (h : i < j) :
    f (place f j) < f (place f i) ∨ (f (place f i) = f (place f j) ∧ place f i < place f j) := by
  have hb : (fun a b : Fin 8 => decide (f b < f a)) = fun a b => decide (rank f b < rank f a) := by
    funext a b
    exact decide_eq_decide.mpr (rank_lt f a b).symm
  have hp := PlanTiles.pairwise_stableSort_lex (rank f) (· < ·) (List.finRange 8) (List.pairwise_lt_finRange 8)
  have hs : PlanTiles.Lex (rank f) (· < ·) (place f i) (place f j) := by
    unfold place
    rw [hb]
    unfold sortedFrom
    exact List.pairwise_iff_get.mp hp _ _ (show i.val < j.val from h)
  rcases hs with h1 | ⟨h1, h2⟩
  · exact Or.inl ((rank_lt f _ _).mp h1)
  · refine Or.inr ⟨le_antisymm ?_ ?_, h2⟩
    · by_contra hn
      exact absurd ((rank_lt f _ _).mpr (not_le.mp hn)) (by omega)
    · by_contra hn
      exact absurd ((rank_lt f _ _).mpr (not_le.mp hn)) (by omega)

theorem place_injective (f : Fin 8 → EReal) : Function.Injective (place f) := sortedFrom_injective _
theorem place_surjective (f : Fin 8 → EReal) : Function.Surjective (place f) := sortedFrom_surjective _

/-- Place 0 of the sorted row is the first greatest. -/
theorem first_place (f : Fin 8 → EReal) : First f (place f 0) := by
  have key (j : Fin 8) : j = place f 0 ∨ f j < f (place f 0) ∨ (f (place f 0) = f j ∧ place f 0 < j) := by
    obtain ⟨k, rfl⟩ := place_surjective f j
    rcases eq_or_ne k 0 with rfl | hk
    · exact Or.inl rfl
    · exact Or.inr (place_ordered f (Fin.pos_iff_ne_zero.mpr hk))
  refine ⟨fun j => ?_, fun j hj => ?_⟩
  · rcases key j with rfl | h | ⟨h, -⟩
    · exact le_rfl
    · exact h.le
    · exact h.ge
  · rcases key j with h | h | ⟨-, h⟩
    · exact h.ge
    · exact absurd hj h.ne
    · exact h.le

/-- The row with place `i` overwritten by −1. -/
def without (f : Fin 8 → EReal) (i : Fin 8) : Fin 8 → EReal := fun j => if j = i then -1 else f j

/-- Place 1 of the sorted row is the first greatest of the others. -/
theorem first_place_one (f : Fin 8 → EReal) (hf : ∀ j, -1 < f j) : First (without f (place f 0)) (place f 1) := by
  have h10 : place f 1 ≠ place f 0 := fun h => absurd (place_injective f h) (by decide)
  have e1 : without f (place f 0) (place f 1) = f (place f 1) := if_neg h10
  have key (j : Fin 8) : j = place f 1 ∨ without f (place f 0) j < f (place f 1)
      ∨ (f (place f 1) = without f (place f 0) j ∧ place f 1 < j) := by
    obtain ⟨k, rfl⟩ := place_surjective f j
    rcases eq_or_ne k 0 with rfl | hk0
    · exact Or.inr (Or.inl ((if_pos rfl).trans_lt (hf _)))
    rcases eq_or_ne k 1 with rfl | hk1
    · exact Or.inl rfl
    have hlt : (1 : Fin 8) < k := by
      have h0 : k.val ≠ 0 := fun h => hk0 (Fin.ext h)
      have h1 : k.val ≠ 1 := fun h => hk1 (Fin.ext h)
      rw [Fin.lt_def]
      show 1 < k.val
      omega
    have ek : without f (place f 0) (place f k) = f (place f k) := if_neg fun h => hk0 (place_injective f h)
    rw [ek]
    exact Or.inr (place_ordered f hlt)
  refine ⟨fun j => ?_, fun j hj => ?_⟩
  · rw [e1]
    rcases key j with rfl | h | ⟨h, -⟩
    · exact e1.le
    · exact h.le
    · exact h.ge
  · rw [e1] at hj
    rcases key j with h | h | ⟨-, h⟩
    · exact h.ge
    · exact absurd hj h.ne
    · exact h.le

/-! ## The maximum and its place -/

/-- A row's maximum is the first greatest's value. -/
theorem fold_max_eq {f : Fin 8 → EReal} {i : Fin 8} (h : First f i) : (Finset.univ : Finset (Fin 8)).fold max ⊥ f = f i :=
  le_antisymm (Finset.fold_max_le _ |>.mpr ⟨bot_le, fun j _ => h.top j⟩) (Finset.le_fold_max _ |>.mpr (Or.inr ⟨i, Finset.mem_univ _, le_rfl⟩))

/-- The least of the places that attain the maximum, as a word, is the first greatest's place. -/
theorem fold_min_eq {f : Fin 8 → EReal} {i : Fin 8} (h : First f i) (M : EReal) (hM : M = f i) (z : BitVec 32) (hz : z.toInt = 2147483647)
    (g : Fin 8 → BitVec 32) (hg : ∀ j, g j = if M ≤ f j then BitVec.ofNat 32 j.val else 8#32) :
    (Finset.univ : Finset (Fin 8)).fold IntOp.minsi z g = BitVec.ofNat 32 i.val := by
  have hv (j : Fin 8) : (BitVec.ofNat 32 j.val).toInt = (j.val : Int) := by
    have := j.isLt
    rw [BitVec.toInt_eq_toNat_cond, BitVec.toNat_ofNat]
    omega
  have hi : g i = BitVec.ofNat 32 i.val := by rw [hg, if_pos hM.le]
  refine BitVec.eq_of_toInt_eq ?_
  rw [hv, ← Finset.fold_hom (op := IntOp.minsi) (op' := min) (m := BitVec.toInt) (fun a b => SortNet.toInt_minsi a b)]
  refine le_antisymm (Finset.fold_min_le _ |>.mpr (Or.inr ⟨i, Finset.mem_univ _, by rw [hi, hv]⟩)) (Finset.le_fold_min _ |>.mpr ⟨?_, fun j _ => ?_⟩)
  · have := i.isLt
    rw [hz]
    omega
  · rw [hg]
    split
    · next hle =>
      rw [hv]
      exact_mod_cast h.least j (le_antisymm (h.top j) (hM ▸ hle))
    · have := i.isLt
      show (i.val : Int) ≤ 8
      omega

end Cert.Proof.Rout

end
-- ==== Proof.Rout.Probs.lean ====
/-
  The router's probabilities: the kernel's and the reference's are one function of the tokens and the router's weights, the
  softmax of a token's eight products; where the inputs are finite every probability is nonnegative.
-/
module

public import proofs.«01_k».proof.Proof.Rout.Top2
public import proofs.«01_k».proof.Proof.Gen.RouterIdeal.Value
public import proofs.«01_k».proof.Proof.Gen.RouterReferenceIdeal.Run
public import proofs.«01_k».proof.Proof.Gen.Pre_finite
public import Idealize.ShloMosaic.Lib.ReduceAll

@[expose] public section

noncomputable section

namespace Cert.Proof.Rout

open Idealize.ShloMosaic

abbrev Tokens : Type := (⟨2, ![2048, 2048]⟩ : Shape).Idx → EReal
abbrev Weights : Type := (⟨2, ![8, 2048]⟩ : Shape).Idx → EReal

/-- Token `n`'s product with expert `e`'s row of the router's weights. -/
def logit (x : Tokens) (w : Weights) (n : Fin 2048) (e : Fin 8) : EReal := ∑ k : Fin 2048, x (ix2 n k) * w (ix2 e k)

/-- The greatest product of token `n`. -/
def peak (x : Tokens) (w : Weights) (n : Fin 2048) : EReal := (Finset.univ : Finset (Fin 8)).fold max ⊥ (logit x w n)

/-- The probability of expert `e` for token `n`. -/
def prob (x : Tokens) (w : Weights) (n : Fin 2048) (e : Fin 8) : EReal :=
  Ideal.div (Ideal.exp (logit x w n e - peak x w n)) (∑ e' : Fin 8, Ideal.exp (logit x w n e' - peak x w n))

theorem negative_infinity : Ideal.ofBits .f32 0xFF800000#32 = ⊥ := by simp [Ideal.ofBits, Ideal.ieee]

section Kernel
open Cert.RouterIdeal Cert.RouterIdeal.Gen

theorem kernel_prob (x : Tokens) (w : Weights) (n : Fin 2048) (e : Fin 8) :
    (k0_pay2 (F := Ideal) x w : S2048x8.Idx → EReal) (ix2 n e) = prob x w n e := by
  unfold k0_pay2 prob peak logit
  pointwise [negative_infinity]

end Kernel

section Reference
open Cert.RouterReferenceIdeal Cert.RouterReferenceIdeal.Gen

/-- The reference's products. -/
def logitsR (x : Tokens) (w : Weights) : FVec Ideal S2048x8 .f32 :=
  Host.dotGeneral (F := Ideal) (φ₁ := .f32) (φ₂ := .f32) dot_S2048x2048_S2048x8_S2048x8_1_0_0_1_n_n none x (transpose S2048x8 [1, 0] w transposes_S8x2048_S2048x8_1_0)

/-- The reference's exponentials. -/
def expsR (x : Tokens) (w : Weights) : FVec Ideal S2048x8 .f32 :=
  Host.exp (subf (logitsR x w) (broadcastInDim S2048x8 ![0, 1] bcast_S2048x1_S2048x8_0_1 (broadcastInDim S2048x1 ![0] bcast_S2048_S2048x1_0
    (maximumf (broadcastInDim S2048 ![] bcast_S_S2048 (constant S_ .f32 0xFF800000#32))
      (Host.reduce FloatOps.maximumf (logitsR x w) (constant S_ .f32 0xFF800000#32) reducesTo_S2048x8_S2048_d1 h_S_)))))

/-- The reference's probabilities. -/
def probsR (x : Tokens) (w : Weights) : FVec Ideal S2048x8 .f32 :=
  Host.divf (expsR x w) (broadcastInDim S2048x8 ![0, 1] bcast_S2048x1_S2048x8_0_1 (broadcastInDim S2048x1 ![0] bcast_S2048_S2048x1_0
    (Host.reduceAdd (expsR x w) (constant S_ .f32 0x00000000#32) reducesTo_S2048x8_S2048_d1 h_S_)))

theorem reference_prob (x : Tokens) (w : Weights) (n : Fin 2048) (e : Fin 8) : (probsR x w : S2048x8.Idx → EReal) (ix2 n e) = prob x w n e := by
  unfold probsR expsR logitsR prob peak logit
  pointwise [negative_infinity]
  simp only [max_bot_left]

end Reference

/-! ## Finite inputs -/

/-- Every element is a real number. -/
def AllReal {s : Shape} (x : s.Idx → EReal) : Prop := ∀ i, ∃ r : ℝ, x i = r

theorem positive_infinity : Ideal.ofBits .f32 0x7F800000#32 = ⊤ := by simp [Ideal.ofBits, Ideal.ieee]

/-- An extended real whose magnitude is below `⊤` is a real number. -/
theorem real_of_abs {a : EReal} (h : max a (-a) < ⊤) : ∃ r : ℝ, a = r := by
  have h1 : a ≠ ⊤ := ((le_max_left _ _).trans_lt h).ne
  have h2 : a ≠ ⊥ := fun hb => by
    have := ((le_max_right a (-a)).trans_lt h).ne
    rw [hb, EReal.neg_bot] at this
    exact this rfl
  exact ⟨a.toReal, (EReal.coe_toReal h1 h2).symm⟩

theorem bit_of_lt {a b : EReal} (h : BitVec.ofBool (decide (a < b)) = 1#1) : a < b := by
  by_contra hn
  rw [decide_eq_false hn] at h
  exact absurd h (by decide)

/-- The precondition read: every element of both inputs is a real number. -/
theorem finite {x : FVec Ideal Cert.Pre_finite.S2048x2048 .f32} {w : FVec Ideal Cert.Pre_finite.S8x2048 .f32}
    (h : Cert.Pre_finite.fn (F := Ideal) x w = fun _ => 1#1) : AllReal x ∧ AllReal w := by
  have e := congrFun h (fun a => a.elim0)
  have : Subsingleton Cert.Pre_finite.S_.Idx := ⟨fun a b => funext fun k => k.elim0⟩
  obtain ⟨e1, e2⟩ := IntOp.andi_eq_one.1 e
  refine ⟨fun i => ?_, fun i => ?_⟩
  · have := Host.reduce_andi_all _ _ _ _ _ e1 i
    refine real_of_abs ?_
    rw [← positive_infinity]
    exact bit_of_lt this
  · have := Host.reduce_andi_all _ _ _ _ _ e2 i
    refine real_of_abs ?_
    rw [← positive_infinity]
    exact bit_of_lt this

theorem real_logit {x : Tokens} {w : Weights} (hx : AllReal x) (hw : AllReal w) (n : Fin 2048) (e : Fin 8) : ∃ r : ℝ, logit x w n e = r := by
  unfold logit
  refine Finset.sum_induction _ (fun a : EReal => ∃ r : ℝ, a = r) ?_ ⟨0, rfl⟩ fun k _ => ?_
  · rintro _ _ ⟨a, rfl⟩ ⟨b, rfl⟩
    exact ⟨a + b, (EReal.coe_add a b).symm⟩
  · obtain ⟨a, ha⟩ := hx (ix2 n k)
    obtain ⟨b, hb⟩ := hw (ix2 e k)
    exact ⟨a * b, by rw [ha, hb]; exact (EReal.coe_mul a b).symm⟩

theorem real_peak {x : Tokens} {w : Weights} (hx : AllReal x) (hw : AllReal w) (n : Fin 2048) : ∃ r : ℝ, peak x w n = r := by
  unfold peak
  rw [fold_max_eq (first_place _)]
  exact real_logit hx hw n _

/-- Every probability is nonnegative. -/
theorem prob_nonneg {x : Tokens} {w : Weights} (hx : AllReal x) (hw : AllReal w) (n : Fin 2048) (e : Fin 8) : 0 ≤ prob x w n e := by
  have hpos (e' : Fin 8) : 0 < Ideal.exp (logit x w n e' - peak x w n) := by
    obtain ⟨a, ha⟩ := real_logit hx hw n e'
    obtain ⟨b, hb⟩ := real_peak hx hw n
    rw [ha, hb, ← EReal.coe_sub]
    exact EReal.coe_pos.mpr (Real.exp_pos _)
  have hs : 0 < ∑ e' : Fin 8, Ideal.exp (logit x w n e' - peak x w n) :=
    (hpos e).trans_le (Finset.single_le_sum (f := fun e' => Ideal.exp (logit x w n e' - peak x w n)) (fun e' _ => (hpos e').le) (Finset.mem_univ e))
  unfold prob Ideal.div
  rw [if_neg hs.ne']
  exact mul_nonneg (hpos e).le (EReal.inv_nonneg_of_nonneg hs.le)

end Cert.Proof.Rout

end
-- ==== Proof.Rout.Pick.lean ====
/-
  The router's choice: the kernel's two rounds of "maximum, then the least place that attains it" pick the two places that a
  stable descending sort of a token's probabilities brings first.
-/
module

public import proofs.«01_k».proof.Proof.Rout.Probs

@[expose] public section

noncomputable section

namespace Cert.Proof.Rout

open Idealize.ShloMosaic

attribute [local irreducible] place

/-- The places of the two greatest probabilities of token `n`. -/
def pick (x : Tokens) (w : Weights) (n : Fin 2048) (k : Fin 2) : Fin 8 := place (prob x w n) ⟨k.val, by omega⟩

theorem pick_ne (x : Tokens) (w : Weights) (n : Fin 2048) : pick x w n 1 ≠ pick x w n 0 := fun h =>
  absurd (place_injective _ h) (by decide)

theorem minus_one : Ideal.ofBits .f32 0xBF800000#32 = -1 := by
  simp [Ideal.ofBits, Ideal.ieee, -EReal.coe_mul, -EReal.coe_neg]; norm_num

open Cert.RouterIdeal Cert.RouterIdeal.Gen

theorem max_first (x : Tokens) (w : Weights) (n : Fin 2048) : (k0_pay3 (F := Ideal) x w : S2048x1.Idx → EReal) (ix2 n 0) = prob x w n (pick x w n 0) := by
  unfold k0_pay3
  pointwise [negative_infinity, kernel_prob]
  exact fold_max_eq (first_place _)

theorem index_first (x : Tokens) (w : Weights) (n : Fin 2048) : (k0_pay4 (F := Ideal) x w : S2048x1.Idx → BitVec 32) (ix2 n 0) = BitVec.ofNat 32 (pick x w n 0).val := by
  unfold k0_pay4
  pointwise [kernel_prob, max_first]
  exact fold_min_eq (first_place _) _ rfl _ rfl _ fun _ => rfl

section
variable {x : Tokens} {w : Weights} (hx : AllReal x) (hw : AllReal w) (n : Fin 2048)
include hx hw

theorem prob_gt (e : Fin 8) : -1 < prob x w n e := lt_of_lt_of_le (by norm_num) (prob_nonneg hx hw n e)

theorem first_second : First (without (prob x w n) (pick x w n 0)) (pick x w n 1) := first_place_one _ (prob_gt hx hw n)

end

/-- A choice on the equality of two places' words is a choice on the places. -/
theorem select_place (e k : Fin 8) (a b : EReal) :
    Scalar.select (IntOp.cmpi .eq (BitVec.ofNat 32 e.val) (BitVec.ofNat 32 k.val)) a b = if e = k then a else b := by
  have h : IntOp.cmpi .eq (BitVec.ofNat 32 e.val) (BitVec.ofNat 32 k.val) = BitVec.ofBool (decide (e = k)) := by
    revert e k
    decide
  rw [h]
  by_cases he : e = k
  · rw [if_pos he, decide_eq_true he]
    rfl
  · rw [if_neg he, decide_eq_false he]
    rfl

/-- The row that the second round reads: the first choice overwritten by −1. -/
theorem masked (x : Tokens) (w : Weights) (n : Fin 2048) (e : Fin 8) :
    (k0_pay5 (F := Ideal) x w : S2048x8.Idx → EReal) (ix2 n e) = without (prob x w n) (pick x w n 0) e := by
  unfold k0_pay5 without
  pointwise [kernel_prob, index_first, minus_one]
  exact select_place e _ _ _

theorem max_second {x : Tokens} {w : Weights} (hx : AllReal x) (hw : AllReal w) (n : Fin 2048) :
    (k0_pay6 (F := Ideal) x w : S2048x1.Idx → EReal) (ix2 n 0) = prob x w n (pick x w n 1) := by
  unfold k0_pay6
  pointwise [negative_infinity, masked]
  exact (fold_max_eq (first_second hx hw n)).trans (if_neg (pick_ne x w n))

theorem index_second {x : Tokens} {w : Weights} (hx : AllReal x) (hw : AllReal w) (n : Fin 2048) :
    (k0_pay7 (F := Ideal) x w : S2048x1.Idx → BitVec 32) (ix2 n 0) = BitVec.ofNat 32 (pick x w n 1).val := by
  unfold k0_pay7
  pointwise [masked, max_second hx hw]
  exact fold_min_eq (first_second hx hw n) _ (if_neg (pick_ne x w n)).symm _ rfl _ fun _ => rfl

/-- The kernel's first result: the two places. -/
theorem kernel_indices {x : Tokens} {w : Weights} (hx : AllReal x) (hw : AllReal w) (n : Fin 2048) (k : Fin 2) :
    (k0_pay8 (F := Ideal) x w : S2048x2.Idx → BitVec 32) (ix2 n k) = BitVec.ofNat 32 (pick x w n k).val := by
  revert k
  refine Fin.forall_fin_two.mpr ⟨?_, ?_⟩ <;> unfold k0_pay8 <;> pointwise
  · exact index_first x w n
  · exact index_second hx hw n

/-- The kernel's second result: the two probabilities over their sum. -/
theorem kernel_weights {x : Tokens} {w : Weights} (hx : AllReal x) (hw : AllReal w) (n : Fin 2048) (k : Fin 2) :
    (k0_pay9 (F := Ideal) x w : S2048x2.Idx → EReal) (ix2 n k)
      = Ideal.div (prob x w n (pick x w n k)) (prob x w n (pick x w n 0) + prob x w n (pick x w n 1)) := by
  revert k
  refine Fin.forall_fin_two.mpr ⟨?_, ?_⟩ <;> unfold k0_pay9 <;> pointwise [max_first, max_second hx hw]

end Cert.Proof.Rout

end
-- ==== Proof.Rout.Chosen.lean ====
/-
  The reference's choice: its two greatest of a row are the row's first two places under a stable descending sort.
-/
module

public import proofs.«01_k».proof.Proof.Rout.Pick

@[expose] public section

noncomputable section

namespace Cert.Proof.Rout

open Idealize.ShloMosaic
open Cert.RouterReferenceIdeal Cert.RouterReferenceIdeal.Gen

attribute [local irreducible] sortedFrom

/-- The reference's two greatest probabilities and their places. -/
def topR (x : Tokens) (w : Weights) : (S2048x2.Idx → EReal) × IVec S2048x2 32 :=
  Host.topK S2048x2 1 (FloatOps.cmpfTotal (F := Ideal) (φ := .f32) .gt) (probsR x w) sliceFits_S2048x8_S2048x2

theorem along (n : Fin 2048) (e : Fin 8) (h : 1 < S2048x8.rank) (k : Fin 8) : Shape.Idx.along (s := S2048x8) (ix2 n e) ⟨1, h⟩ k = ix2 n k := funext fun a => by
  match a with
  | ⟨0, _⟩ => exact Function.update_of_ne (fun h => absurd (congrArg Fin.val h) Nat.zero_ne_one) _ _
  | ⟨1, _⟩ => exact Function.update_self _ _ _

theorem before (x : Tokens) (w : Weights) (n : Fin 2048) (e : Fin 8) (h : 1 < S2048x8.rank) :
    (fun a b : Fin 8 => FloatOps.cmpfTotal (F := Ideal) (φ := .f32) .gt (probsR x w (Shape.Idx.along (s := S2048x8) (ix2 n e) ⟨1, h⟩ a))
      (probsR x w (Shape.Idx.along (s := S2048x8) (ix2 n e) ⟨1, h⟩ b)) == 1#1) = fun a b => decide (prob x w n b < prob x w n a) := by
  funext a b
  rw [along, along]
  show (BitVec.ofBool (decide (probsR x w (ix2 n b) < probsR x w (ix2 n a))) == 1#1) = _
  rw [show probsR x w (ix2 n b) = prob x w n b from reference_prob x w n b, show probsR x w (ix2 n a) = prob x w n a from reference_prob x w n a]
  cases decide (prob x w n b < prob x w n a) <;> rfl

theorem slot (n : Fin 2048) (k : Fin 2) :
    extractStridedSlice S2048x2 (fun _ => 0) (fun i : S2048x8.Idx => i) sliceFits_S2048x8_S2048x2 (ix2 n k) = ix2 n ⟨k.val, by omega⟩ := by
  funext a
  match a with
  | ⟨0, _⟩ => exact Fin.ext (Nat.zero_add _)
  | ⟨1, _⟩ => exact Fin.ext (Nat.zero_add _)

theorem top_value (x : Tokens) (w : Weights) (n : Fin 2048) (k : Fin 2) : (topR x w).1 (ix2 n k) = prob x w n (pick x w n k) := by
  have hd : 1 < S2048x8.rank := by decide
  unfold topR Host.topK
  show (Host.sort2 S2048x8 1 (fun l r => FloatOps.cmpfTotal (F := Ideal) (φ := .f32) .gt l.1 r.1) (probsR x w)
    (fun i : S2048x8.Idx => if hd : 1 < S2048x8.rank then iotaInDim S2048x8 32 ⟨1, hd⟩ i else 0#32)).1 (extractStridedSlice S2048x2 (fun _ => 0) (fun i : S2048x8.Idx => i) sliceFits_S2048x8_S2048x2 (ix2 n k)) = _
  rw [slot]
  unfold Host.sort2
  rw [dif_pos hd]
  refine (congrArg (probsR x w) (along n _ hd _)).trans ?_
  refine (reference_prob x w n _).trans (congrArg (prob x w n) ?_)
  exact congrArg (fun f => sortedFrom (n := 8) f ⟨k.val, by omega⟩) (before x w n _ hd)

theorem top_index (x : Tokens) (w : Weights) (n : Fin 2048) (k : Fin 2) : (topR x w).2 (ix2 n k) = BitVec.ofNat 32 (pick x w n k).val := by
  have hd : 1 < S2048x8.rank := by decide
  unfold topR Host.topK
  show (Host.sort2 S2048x8 1 (fun l r => FloatOps.cmpfTotal (F := Ideal) (φ := .f32) .gt l.1 r.1) (probsR x w)
    (fun i : S2048x8.Idx => if hd : 1 < S2048x8.rank then iotaInDim S2048x8 32 ⟨1, hd⟩ i else 0#32)).2 (extractStridedSlice S2048x2 (fun _ => 0) (fun i : S2048x8.Idx => i) sliceFits_S2048x8_S2048x2 (ix2 n k)) = _
  rw [slot]
  unfold Host.sort2
  rw [dif_pos hd]
  have hio (i : S2048x8.Idx) : (fun i : S2048x8.Idx => if hd : 1 < S2048x8.rank then iotaInDim S2048x8 32 ⟨1, hd⟩ i else 0#32) i = BitVec.ofNat 32 (i ⟨1, hd⟩).val :=
    dif_pos hd
  refine (hio _).trans ?_
  refine congrArg (fun c : Fin 8 => BitVec.ofNat 32 c.val) ?_
  refine (congrFun (along n _ hd _) ⟨1, hd⟩).trans ?_
  exact congrArg (fun f => sortedFrom (n := 8) f ⟨k.val, by omega⟩) (before x w n _ hd)

/-- The reference's weights: the two probabilities over their sum. -/
def weightsR (x : Tokens) (w : Weights) : FVec Ideal S2048x2 .f32 :=
  Host.divf (topR x w).1 (broadcastInDim S2048x2 ![0, 1] bcast_S2048x1_S2048x2_0_1 (broadcastInDim S2048x1 ![0] bcast_S2048_S2048x1_0
    (Host.reduceAdd (F := Ideal) (φ := .f32) (topR x w).1 (constant S_ .f32 0x00000000#32) reducesTo_S2048x2_S2048_d1 h_S_)))

theorem reference_weights (x : Tokens) (w : Weights) (n : Fin 2048) (k : Fin 2) :
    (weightsR x w : S2048x2.Idx → EReal) (ix2 n k)
      = Ideal.div (prob x w n (pick x w n k)) (prob x w n (pick x w n 0) + prob x w n (pick x w n 1)) := by
  unfold weightsR
  pointwise [top_value, Fin.sum_univ_two]

end Cert.Proof.Rout

end
-- ==== Proof.Rout.Loss.lean ====
/-
  The auxiliary loss: the kernel multiplies every expert's term by 8 and adds, the reference adds and multiplies the sum by 8;
  the terms are one, every expert's share of the choices times the mean of its probabilities.
-/
module

public import proofs.«01_k».proof.Proof.Rout.Chosen
public import Idealize.ShloMosaic.Lib.Routing.OpsPair
public import Idealize.ShloMosaic.Lib.Routing.OpsSet

@[expose] public section

noncomputable section

namespace Cert.Proof.Rout

open Idealize.ShloMosaic

/-- 1 where token `n` chose expert `e`, else 0. -/
def hot (x : Tokens) (w : Weights) (n : Fin 2048) (e : Fin 8) : EReal := if e = pick x w n 0 ∨ e = pick x w n 1 then 1 else 0

/-- Expert `e`'s share of the choices times the mean of its probabilities. -/
def term (x : Tokens) (w : Weights) (e : Fin 8) : EReal :=
  Ideal.div (∑ n : Fin 2048, hot x w n e) (Ideal.ofBits .f32 0x45800000#32) * Ideal.div (∑ n : Fin 2048, prob x w n e) (Ideal.ofBits .f32 0x45000000#32)

/-- Eight, out of the sum. -/
theorem eight_sum (f : Fin 8 → EReal) : ∑ e : Fin 8, Ideal.ofBits .f32 0x41000000#32 * f e = Ideal.ofBits .f32 0x41000000#32 * ∑ e : Fin 8, f e := by
  have h8 : Ideal.ofBits .f32 0x41000000#32 = ((8 : ℝ) : EReal) := by
    simp [Ideal.ofBits, Ideal.ieee, -EReal.coe_mul]; norm_num
  rw [h8]
  refine Finset.induction_on (Finset.univ : Finset (Fin 8)) ?_ fun a s ha ih => ?_
  · simp
  · rw [Finset.sum_insert ha, Finset.sum_insert ha, ih]
    exact (EReal.left_distrib_of_nonneg_of_ne_top (EReal.coe_nonneg.mpr (by norm_num)) (EReal.coe_ne_top 8) _ _).symm

section Kernel
open Cert.RouterIdeal Cert.RouterIdeal.Gen

theorem kernel_hot {x : Tokens} {w : Weights} (hx : AllReal x) (hw : AllReal w) (n : Fin 2048) (e : Fin 8) :
    (k0_pay10 (F := Ideal) (k0_pay31 (F := Ideal) x w) (k0_pay32 (F := Ideal) x w) (k0_pay33 (F := Ideal) x w) : S2048x8.Idx → EReal) (ix2 n e) = hot x w n e := by
  unfold k0_pay10 k0_pay31 k0_pay32 k0_pay33
  have ex : View.ld (Val := Elt Ideal) (e' := .f32) x r0_0 = x := View.ld_unit_zero (Val := Elt Ideal) (e := .f32) (S := S2048x2048) Cert.RouterIdeal.Value.hz0 _ x
  have ew : View.ld (Val := Elt Ideal) (e' := .f32) w r0_1 = w := View.ld_unit_zero (Val := Elt Ideal) (e := .f32) (S := S8x2048) Cert.RouterIdeal.Value.hz1 _ w
  rw [ex, ew]
  pointwise [index_first, index_second hx hw]
  rw [select_place, select_place]
  unfold hot
  have hne := pick_ne x w n
  by_cases h0 : e = pick x w n 0
  · rw [if_pos h0, if_neg (fun h => hne (h.symm.trans h0)), if_pos (Or.inl h0), add_zero]
  · by_cases h1 : e = pick x w n 1
    · rw [if_neg h0, if_pos h1, if_pos (Or.inr h1), zero_add]
    · rw [if_neg h0, if_neg h1, if_neg (fun h => h.elim h0 h1), add_zero]

theorem kernel_loss {x : Tokens} {w : Weights} (hx : AllReal x) (hw : AllReal w) (i : S1x1.Idx) :
    (k0_pay12 (F := Ideal) (k0_pay2 (F := Ideal) x w) (k0_pay31 (F := Ideal) x w) (k0_pay32 (F := Ideal) x w) (k0_pay33 (F := Ideal) x w) : S1x1.Idx → EReal) i
      = ∑ e : Fin 8, Ideal.ofBits .f32 0x41000000#32 * term x w e := by
  unfold k0_pay12 k0_pay11 term
  pointwise [kernel_hot hx hw, kernel_prob]
  exact Finset.sum_congr rfl fun e _ => mul_assoc _ _ _

end Kernel

section Reference
open Cert.RouterReferenceIdeal Cert.RouterReferenceIdeal.Gen

/-- The reference's table of places: a token's number and one of its experts. -/
def placesR (x : Tokens) (w : Weights) : IVec S2048x2x2 32 :=
  concatenate S2048x2x2 2 [⟨S2048x2x1, (broadcastInDim S2048x2x1 ![0, 1] bcast_S2048x2_S2048x2x1_0_1 (broadcastInDim S2048x2 ![0, 1] bcast_S2048x1_S2048x2_0_1 (select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0)))))⟩, ⟨S2048x2x1, (broadcastInDim S2048x2x1 ![0, 1] bcast_S2048x2_S2048x2x1_0_1 (select (cmpi .slt (topR x w).2 (broadcastInDim S2048x2 ![] bcast_S_S2048x2 (constantI S_ 32 0#32))) (addi (topR x w).2 (broadcastInDim S2048x2 ![] bcast_S_S2048x2 (constantI S_ 32 8#32))) (topR x w).2))⟩] concatenates_S2048x2x1_S2048x2x1_S2048x2x2_d2

/-- The reference's table of choices. -/
def hotR (x : Tokens) (w : Weights) : FVec Ideal S2048x8 .f32 :=
  Host.scatter scatter_S2048x8_S2048x2x2_S2048x2_n_01_01_2 (fun _ b => b) (broadcastInDim S2048x8 ![] bcast_S_S2048x8 (constant S_ .f32 0x00000000#32))
    (placesR x w) (broadcastInDim S2048x2 ![] bcast_S_S2048x2 (constant S_ .f32 0x3F800000#32))

/-- The reference's loss. -/
def lossR (x : Tokens) (w : Weights) : FVec Ideal S1x1 .f32 :=
  shapeCast _ (mulf (constant S_ .f32 0x41000000#32) (Host.reduceAdd (mulf
    (Host.divf (Host.reduceAdd (hotR x w) (constant S_ .f32 0x00000000#32) reducesTo_S2048x8_S8_d0 h_S_) (broadcastInDim S8 ![] bcast_S_S8 (constant S_ .f32 0x45800000#32)))
    (Host.divf (Host.reduceAdd (probsR x w) (constant S_ .f32 0x00000000#32) reducesTo_S2048x8_S8_d0 h_S_) (broadcastInDim S8 ![] bcast_S_S8 (constant S_ .f32 0x45000000#32))))
    (constant S_ .f32 0x00000000#32) reducesTo_S8_S_d0 h_S_)) shapeCasts_S_S1x1

theorem places_token (x : Tokens) (w : Weights) (n : Fin 2048) (k : Fin 2) : placesR x w (ix3 n k 0) = BitVec.ofNat 32 n.val := by
  unfold placesR
  pointwise
  refine Routing.wrap_of_lt _ _ ?_
  have := n.isLt
  rw [BitVec.toNat_ofNat]
  omega

theorem places_expert (x : Tokens) (w : Weights) (n : Fin 2048) (k : Fin 2) : placesR x w (ix3 n k 1) = BitVec.ofNat 32 (pick x w n k).val := by
  unfold placesR
  pointwise [top_index]
  refine Routing.wrap_of_lt _ _ ?_
  have := (pick x w n k).isLt
  rw [BitVec.toNat_ofNat]
  omega

theorem reference_hot (x : Tokens) (w : Weights) (n : Fin 2048) (e : Fin 8) : (hotR x w : S2048x8.Idx → EReal) (ix2 n e) = hot x w n e := by
  have hw (a : Nat) (h : a < 2048) : (BitVec.ofNat 32 a).toInt = (a : Int) := by
    rw [BitVec.toInt_eq_toNat_cond, BitVec.toNat_ofNat]
    omega
  have hl (a : Fin 2048) (k : Fin 2) : scatter_S2048x8_S2048x2x2_S2048x2_n_01_01_2.resultIdx? (ix2 a k) (placesR x w) = some (ix2 n e)
      ↔ a = n ∧ pick x w a k = e := by
    refine (Routing.scatter_lands2 scatter_S2048x8_S2048x2x2_S2048x2_n_01_01_2 rfl rfl rfl (placesR x w) a k n e).trans ?_
    refine (and_congr (congrArg (fun v : BitVec 32 => v.toInt = (n.val : Int)) (places_token x w a k)).to_iff
      (congrArg (fun v : BitVec 32 => v.toInt = (e.val : Int)) (places_expert x w a k)).to_iff).trans ?_
    rw [hw _ a.isLt, hw _ (by omega), Fin.ext_iff, Fin.ext_iff]
    omega
  unfold hotR hot
  have hall (j : S2048x2.Idx) : (broadcastInDim S2048x2 ![] bcast_S_S2048x2 (constant S_ .f32 0x3F800000#32) : FVec Ideal S2048x2 .f32) j = (1 : EReal) := by
    pointwise
  split
  · next h =>
    obtain ⟨k, hk⟩ : ∃ k : Fin 2, e = pick x w n k := h.elim (fun h => ⟨0, h⟩) (fun h => ⟨1, h⟩)
    exact Routing.scatter_set_hit _ _ _ _ _ _ (fun j _ => hall j) (ix2 n k) ((hl n k).mpr ⟨rfl, hk.symm⟩)
  · next h =>
    refine (Routing.scatter_set_miss _ _ _ _ _ fun j hj => h ?_).trans (by pointwise)
    rw [eq_ix2 j] at hj
    obtain ⟨h1, h2⟩ := (hl (j 0) (j 1)).mp hj
    rw [h1] at h2
    revert h2
    generalize (j 1 : Fin 2) = k
    intro h2
    rcases (Fin.exists_fin_two (p := fun q => q = k)).mp ⟨k, rfl⟩ with rfl | rfl
    · exact Or.inl h2.symm
    · exact Or.inr h2.symm

theorem reference_loss (x : Tokens) (w : Weights) (i : S1x1.Idx) :
    (lossR x w : S1x1.Idx → EReal) i = Ideal.ofBits .f32 0x41000000#32 * ∑ e : Fin 8, term x w e := by
  unfold lossR term
  pointwise [reference_prob, reference_hot]

theorem loss_eq {x : Tokens} {w : Weights} (hx : AllReal x) (hw : AllReal w) :
    (Cert.RouterIdeal.Value.G5 (F := Ideal) x w : S1x1.Idx → EReal) = lossR x w :=
  funext fun i => (kernel_loss hx hw i).trans ((eight_sum _).trans (reference_loss x w i).symm)

theorem indices_eq {x : Tokens} {w : Weights} (hx : AllReal x) (hw : AllReal w) :
    (Cert.RouterIdeal.Value.G2 (F := Ideal) x w : S2048x2.Idx → BitVec 32) = (topR x w).2 := by
  funext j
  rw [eq_ix2 j]
  exact (kernel_indices hx hw (j 0) (j 1)).trans (top_index x w (j 0) (j 1)).symm

theorem weights_eq {x : Tokens} {w : Weights} (hx : AllReal x) (hw : AllReal w) :
    (Cert.RouterIdeal.Value.G3 (F := Ideal) x w : S2048x2.Idx → EReal) = weightsR x w := by
  funext j
  rw [eq_ix2 j]
  exact (kernel_weights hx hw (j 0) (j 1)).trans (reference_weights x w (j 0) (j 1)).symm

end Reference

end Cert.Proof.Rout

end
-- ==== Proof.Rout.Rank.lean ====
/-
  Places in a stable order: of copies sorted by expert, a copy's place is the number of copies that come before it, those of
  lesser experts and the earlier ones of its own.
-/
module

public import proofs.«01_k».proof.Proof.Scat.Sort
public import Idealize.ShloMosaic.Lib.PlanTiles.StableSort

@[expose] public section

noncomputable section

namespace Cert.Proof.Rout

open Idealize.ShloMosaic
open Cert.Proof.Scat (source one4 source_injective source_surjective)

/-- Copy `a` comes before copy `b`: its expert is less, or the same and the copy is earlier. -/
def Before (e : Fin 4096 → Fin 8) (a b : Fin 4096) : Prop := e a < e b ∨ (e a = e b ∧ a < b)

instance (e : Fin 4096 → Fin 8) (a b : Fin 4096) : Decidable (Before e a b) := inferInstanceAs (Decidable (_ ∨ _))

theorem Before.irrefl {e : Fin 4096 → Fin 8} {a b : Fin 4096} (h : Before e a b) (h' : Before e b a) : False := by
  rcases h with h | ⟨h, g⟩ <;> rcases h' with h' | ⟨h', g'⟩
  · exact absurd (h.trans h') (lt_irrefl _)
  · exact absurd h (by rw [h']; exact lt_irrefl _)
  · exact absurd h' (by rw [h]; exact lt_irrefl _)
  · exact absurd (g.trans g') (lt_irrefl _)

/-- A stable sort by a key leaves greater keys first, and the operand's order among equals. -/
theorem sorted_lex {n : Nat} (G : Fin n → Nat) {i j : Fin n} (h : i < j) :
    PlanTiles.Lex G (· < ·) (sortedFrom (fun a b => decide (G b < G a)) i) (sortedFrom (fun a b => decide (G b < G a)) j) := by
  have hp := PlanTiles.pairwise_stableSort_lex G (· < ·) (List.finRange n) (List.pairwise_lt_finRange n)
  unfold sortedFrom
  exact List.pairwise_iff_get.mp hp _ _ (show i.val < j.val from h)

variable {k : IVec Cert.ScatterIdeal.S4096 32} {e : Fin 4096 → Fin 8} (he : ∀ a, k (one4 a) = BitVec.ofNat 32 (e a).val)
include he

/-- The stable order, as the sort finds it. -/
theorem source_ordered {i j : Fin 4096} (h : i < j) : Before e (source k i) (source k j) := by
  have hb : (fun a b : Fin 4096 => (k (one4 a)).slt (k (one4 b))) = fun a b => decide (7 - (e b).val < 7 - (e a).val) := by
    funext a b
    rw [he, he, BitVec.slt_eq_decide]
    have ha := (e a).isLt
    have hb := (e b).isLt
    refine decide_eq_decide.mpr ?_
    rw [BitVec.toInt_eq_toNat_cond, BitVec.toInt_eq_toNat_cond, BitVec.toNat_ofNat, BitVec.toNat_ofNat]
    omega
  have hs : PlanTiles.Lex (fun a => 7 - (e a).val) (· < ·) (source k i) (source k j) := by
    unfold source
    rw [hb]
    exact sorted_lex _ h
  have h1 := (e (source k i)).isLt
  have h2 := (e (source k j)).isLt
  rcases hs with h | ⟨h, h'⟩ <;> dsimp only at h
  · refine Or.inl (Fin.lt_def.mpr ?_)
    omega
  · refine Or.inr ⟨Fin.ext ?_, h'⟩
    omega

theorem source_before (i j : Fin 4096) : Before e (source k i) (source k j) ↔ i < j := by
  refine ⟨fun h => ?_, source_ordered he⟩
  rcases lt_trichotomy i j with h' | h' | h'
  · exact h'
  · rw [h'] at h
    exact (h.irrefl h).elim
  · exact (h.irrefl (source_ordered he h')).elim

/-- The place of the copy that the sort brings to place `r` is the number of copies before it. -/
theorem source_place (r : Fin 4096) : (Finset.univ.filter fun a => Before e a (source k r)).card = r.val := by
  have h : (Finset.univ.filter fun a => Before e a (source k r)) = (Finset.univ.filter fun i => i < r).image (source k) := by
    ext a
    obtain ⟨i, rfl⟩ := source_surjective k a
    simp only [Finset.mem_filter, Finset.mem_univ, true_and, Finset.mem_image, source_before he]
    exact ⟨fun h => ⟨i, h, rfl⟩, fun ⟨j, h, hj⟩ => source_injective k hj ▸ h⟩
  rw [h, Finset.card_image_of_injective _ (source_injective k)]
  exact (congrArg Finset.card (Finset.filter_gt_eq_Iio (a := r))).trans (Fin.card_Iio r)

end Cert.Proof.Rout

end
-- ==== Proof.Rout.Count.lean ====
/-
  The positions as numbers: the copies before token `n`'s copy for expert `e` are the choices of lesser experts and the
  choices of `e` by earlier tokens, since a token's two experts differ.
-/
module

public import proofs.«01_k».proof.Proof.Rout.Rank
public import proofs.«01_k».proof.Proof.Rout.Pick

@[expose] public section

noncomputable section

namespace Cert.Proof.Rout

open scoped BigOperators
open Idealize.ShloMosaic

/-- How often (once or not at all) the pair of experts `p` of a token names `e`. -/
def names (p : Fin 2 → Fin 8) (e : Fin 8) : ℕ := if e = p 0 ∨ e = p 1 then 1 else 0

theorem names_eq {p : Fin 2 → Fin 8} (hp : p 1 ≠ p 0) (e : Fin 8) : names p e = ∑ k : Fin 2, if p k = e then 1 else 0 := by
  rw [Fin.sum_univ_two]
  unfold names
  by_cases h0 : e = p 0
  · rw [if_pos (Or.inl h0), if_pos h0.symm, if_neg (fun h => hp (h.trans h0))]
  · by_cases h1 : e = p 1
    · rw [if_pos (Or.inr h1), if_pos h1.symm, if_neg (fun h => h0 h.symm)]
    · rw [if_neg (fun h => h.elim h0 h1), if_neg (fun h => h0 h.symm), if_neg (fun h => h1 h.symm)]

/-- The choices of experts less than `e`. -/
def startOf (p : Fin 2048 → Fin 2 → Fin 8) (e : Fin 8) : ℕ := ∑ a : Fin 8, (∑ n : Fin 2048, names (p n) a) * if a < e then 1 else 0

/-- The choices of `e` by tokens earlier than `n`. -/
def earlier (p : Fin 2048 → Fin 2 → Fin 8) (n : Fin 2048) (e : Fin 8) : ℕ := ∑ m : Fin 2048, (if m < n then 1 else 0) * names (p m) e

/-- The experts of the copies, one after the other. -/
def copies (p : Fin 2048 → Fin 2 → Fin 8) (a : Fin 4096) : Fin 8 := p ⟨a.val / 2, by omega⟩ ⟨a.val % 2, by omega⟩

/-- Token `n`'s copy in slot `k`. -/
def copy (n : Fin 2048) (k : Fin 2) : Fin 4096 := ⟨k.val + 2 * n.val, by omega⟩

theorem copies_copy (p : Fin 2048 → Fin 2 → Fin 8) (n : Fin 2048) (k : Fin 2) : copies p (copy n k) = p n k := by
  unfold copies copy
  exact congrArg₂ p (Fin.ext (by show (k.val + 2 * n.val) / 2 = n.val; omega)) (Fin.ext (by show (k.val + 2 * n.val) % 2 = k.val; omega))

theorem sum_copies (f : Fin 4096 → ℕ) : ∑ a : Fin 4096, f a = ∑ n : Fin 2048, ∑ k : Fin 2, f (copy n k) := by
  rw [← (finProdFinEquiv (m := 2048) (n := 2)).sum_comp f, Fintype.sum_prod_type]
  rfl

theorem one_of_two {P Q : Prop} [Decidable P] [Decidable Q] (h : ¬(P ∧ Q)) : (if P ∨ Q then 1 else 0 : ℕ) = (if P then 1 else 0) + if Q then 1 else 0 := by
  by_cases hp : P <;> by_cases hq : Q <;> simp_all

/-- A token's choices of lesser experts. -/
theorem lesser {q : Fin 2 → Fin 8} (hq : q 1 ≠ q 0) (e : Fin 8) :
    (∑ k : Fin 2, if q k < e then 1 else 0) = ∑ a : Fin 8, names q a * if a < e then 1 else 0 := by
  simp only [names_eq hq, Finset.sum_mul]
  rw [Finset.sum_comm]
  refine Finset.sum_congr rfl fun k _ => ?_
  rw [Finset.sum_eq_single (q k) (fun a _ h => by rw [if_neg (fun h' => h h'.symm), Nat.zero_mul]) (fun h => (h (Finset.mem_univ _)).elim), if_pos rfl, Nat.one_mul]

/-- A token's choices of the same expert that come earlier. -/
theorem same {p : Fin 2048 → Fin 2 → Fin 8} (hp : ∀ n, p n 1 ≠ p n 0) (n m : Fin 2048) (k : Fin 2) :
    (∑ j : Fin 2, if p m j = p n k ∧ copy m j < copy n k then 1 else 0) = (if m < n then 1 else 0) * names (p m) (p n k) := by
  rw [names_eq (hp m), Finset.mul_sum]
  refine Finset.sum_congr rfl fun j _ => ?_
  by_cases he : p m j = p n k
  · rw [if_pos he, Nat.mul_one]
    refine if_congr ⟨fun h => ?_, fun h => ⟨he, ?_⟩⟩ rfl rfl
    · have h2 := Fin.lt_def.mp h.2
      unfold copy at h2
      dsimp only at h2
      rw [Fin.lt_def]
      by_contra hn
      have hmn : m = n := Fin.ext (by omega)
      subst hmn
      have hjk : j.val = 0 ∧ k.val = 1 := by omega
      obtain rfl : j = 0 := Fin.ext hjk.1
      obtain rfl : k = 1 := Fin.ext hjk.2
      exact hp m he.symm
    · rw [Fin.lt_def] at h ⊢
      unfold copy
      dsimp only
      omega
  · rw [if_neg he, Nat.mul_zero, if_neg (fun h => he h.1)]

/-- The copies before token `n`'s copy in slot `k`. -/
theorem before_count {p : Fin 2048 → Fin 2 → Fin 8} (hp : ∀ n, p n 1 ≠ p n 0) (n : Fin 2048) (k : Fin 2) :
    (Finset.univ.filter fun a => Before (copies p) a (copy n k)).card = startOf p (p n k) + earlier p n (p n k) := by
  rw [Finset.card_filter, sum_copies]
  have h (m : Fin 2048) (j : Fin 2) : (if Before (copies p) (copy m j) (copy n k) then 1 else 0 : ℕ)
      = (if p m j < p n k then 1 else 0) + if p m j = p n k ∧ copy m j < copy n k then 1 else 0 := by
    refine (if_congr ?_ rfl rfl).trans (one_of_two fun h => absurd h.2.1 h.1.ne)
    unfold Before
    rw [copies_copy, copies_copy]
  simp only [h, Finset.sum_add_distrib]
  refine congrArg₂ (· + ·) ?_ ?_
  · unfold startOf
    refine (Finset.sum_congr rfl fun m _ => lesser (hp m) (p n k)).trans ?_
    refine Finset.sum_comm.trans ?_
    exact Finset.sum_congr rfl fun a _ => (Finset.sum_mul _ _ _).symm
  · exact Finset.sum_congr rfl fun m _ => same hp n m k

theorem position_lt {p : Fin 2048 → Fin 2 → Fin 8} (hp : ∀ n, p n 1 ≠ p n 0) (n : Fin 2048) (k : Fin 2) :
    startOf p (p n k) + earlier p n (p n k) ≤ 4096 := by
  rw [← before_count hp]
  exact (Finset.card_le_univ _).trans (le_of_eq (Fintype.card_fin 4096))

end Cert.Proof.Rout

end
-- ==== Proof.Rout.Place.lean ====
/-
  The counts and the positions: the kernel adds ones and zeros over the reals, so each is a natural number, and a copy's
  position is the number of copies before it; the reference sorts the copies by expert and sorts the order found.
-/
module

public import proofs.«01_k».proof.Proof.Rout.Loss
public import proofs.«01_k».proof.Proof.Rout.Count

@[expose] public section

noncomputable section

namespace Cert.Proof.Rout

open scoped BigOperators
open Idealize.ShloMosaic

attribute [local irreducible] pick

theorem hot_names (x : Tokens) (w : Weights) (n : Fin 2048) (e : Fin 8) : hot x w n e = ((names (pick x w n) e : ℕ) : EReal) := by
  unfold hot names
  split <;> simp

theorem cast_sum {ι : Type*} (s : Finset ι) (f : ι → ℕ) : ((∑ i ∈ s, f i : ℕ) : EReal) = ∑ i ∈ s, ((f i : ℕ) : EReal) := Nat.cast_sum _ _

/-- A natural number, as a word. -/
theorem word_of_nat (a : ℕ) (h : a ≤ 4096) : Ideal.fptosi 32 ((a : ℕ) : EReal) = BitVec.ofNat 32 a := by
  have e : ((a : ℕ) : EReal) = (((a : ℕ) : ℝ) : EReal) := rfl
  rw [e]
  unfold Ideal.fptosi
  have hc : Ideal.toIntClamped (-(2 ^ (32 - 1) : Nat)) ((2 ^ (32 - 1) : Nat) - 1) (((a : ℕ) : ℝ) : EReal) = (a : ℤ) := by
    show max _ (min _ (if (0 : ℝ) ≤ (a : ℝ) then ⌊(a : ℝ)⌋ else ⌈(a : ℝ)⌉)) = _
    rw [if_pos (Nat.cast_nonneg a), Int.floor_natCast]
    omega
  rw [hc]
  exact BitVec.ofInt_natCast 32 a

/-- A choice on the order of two small numbers' words is a choice on the numbers. -/
theorem select_less (a b : ℕ) (ha : a < 2048) (hb : b < 2048) (u v : EReal) :
    Scalar.select (IntOp.cmpi .slt (BitVec.ofNat 32 a) (BitVec.ofNat 32 b)) u v = if a < b then u else v := by
  have h : IntOp.cmpi .slt (BitVec.ofNat 32 a) (BitVec.ofNat 32 b) = BitVec.ofBool (decide (a < b)) := by
    show BitVec.ofBool ((BitVec.ofNat 32 a).slt (BitVec.ofNat 32 b)) = _
    rw [BitVec.slt_eq_decide]
    refine congrArg BitVec.ofBool (decide_eq_decide.mpr ?_)
    rw [BitVec.toInt_eq_toNat_cond, BitVec.toInt_eq_toNat_cond, BitVec.toNat_ofNat, BitVec.toNat_ofNat]
    omega
  rw [h]
  by_cases he : a < b
  · rw [if_pos he, decide_eq_true he]
    rfl
  · rw [if_neg he, decide_eq_false he]
    rfl

section Kernel
open Cert.RouterIdeal Cert.RouterIdeal.Gen

theorem kernel_counts {x : Tokens} {w : Weights} (hx : AllReal x) (hw : AllReal w) (e : Fin 8) :
    (Cert.RouterIdeal.Value.G4 (F := Ideal) x w : S1x8.Idx → EReal) (ix2 0 e) = ∑ n : Fin 2048, hot x w n e := by
  show (k0_pay11 (F := Ideal) (k0_pay31 (F := Ideal) x w) (k0_pay32 (F := Ideal) x w) (k0_pay33 (F := Ideal) x w) : S1x8.Idx → EReal) (ix2 0 e) = _
  unfold k0_pay11
  pointwise [kernel_hot hx hw]

/-- The choices of lesser experts. -/
theorem kernel_start {x : Tokens} {w : Weights} (hx : AllReal x) (hw : AllReal w) (e : Fin 8) :
    (k0_pay15 (F := Ideal) (k0_pay34 (F := Ideal) x w) (k0_pay35 (F := Ideal) x w) : S1x8.Idx → EReal) (ix2 0 e) = ((startOf (pick x w) e : ℕ) : EReal) := by
  have hc (a : Fin 8) : (k0_pay34 (F := Ideal) x w : S1x8.Idx → EReal) (ix2 0 a) = ((∑ n : Fin 2048, names (pick x w n) a : ℕ) : EReal) := by
    refine (kernel_counts hx hw a).trans ?_
    rw [cast_sum]
    exact Finset.sum_congr rfl fun n _ => hot_names x w n a
  have hm (a b : Fin 8) : (k0_pay35 (F := Ideal) x w : S8x8.Idx → EReal) (ix2 a b) = (((if a < b then 1 else 0 : ℕ)) : EReal) := by
    unfold k0_pay35 k0_pay14
    pointwise
    rw [select_less _ _ (by omega) (by omega)]
    simp only [Fin.lt_def]
    split <;> simp
  unfold k0_pay15
  pointwise [hc, hm]
  unfold startOf
  rw [cast_sum]
  exact Finset.sum_congr rfl fun a _ => (EReal.natCast_mul _ _).symm

/-- The choices by earlier tokens. -/
theorem kernel_earlier {x : Tokens} {w : Weights} (hx : AllReal x) (hw : AllReal w) (n : Fin 2048) (e : Fin 8) :
    (k0_pay13 (F := Ideal) (k0_pay31 (F := Ideal) x w) (k0_pay32 (F := Ideal) x w) (k0_pay33 (F := Ideal) x w) : S2048x8.Idx → EReal) (ix2 n e)
      = ((earlier (pick x w) n e : ℕ) : EReal) := by
  unfold k0_pay13
  pointwise [kernel_hot hx hw]
  unfold earlier
  rw [cast_sum]
  refine Finset.sum_congr rfl fun m _ => ?_
  rw [select_less _ _ m.isLt n.isLt, hot_names, EReal.natCast_mul]
  simp only [Fin.lt_def]
  split <;> simp

/-- A word for the sum's one term that the choice keeps. -/
theorem kept (f : Fin 8 → ℕ) (k : Fin 8) : ∑ e : Fin 8, ((f e : ℕ) : EReal) * (if e = k then 1 else 0) = ((f k : ℕ) : EReal) := by
  rw [Finset.sum_eq_single k (fun e _ h => by rw [if_neg h, mul_zero]) (fun h => (h (Finset.mem_univ _)).elim), if_pos rfl, mul_one]

/-- The kernel's positions. -/
theorem kernel_positions {x : Tokens} {w : Weights} (hx : AllReal x) (hw : AllReal w) (n : Fin 2048) (k : Fin 2) :
    (Cert.RouterIdeal.Value.G6 (F := Ideal) x w : S2048x2.Idx → BitVec 32) (ix2 n k)
      = BitVec.ofNat 32 (startOf (pick x w) (pick x w n k) + earlier (pick x w) n (pick x w n k)) := by
  have hle := position_lt (p := pick x w) (pick_ne x w) n k
  have ex : View.ld (Val := Elt Ideal) (e' := .f32) x r0_0 = x := View.ld_unit_zero (Val := Elt Ideal) (e := .f32) (S := S2048x2048) Cert.RouterIdeal.Value.hz0 _ x
  have ew : View.ld (Val := Elt Ideal) (e' := .f32) w r0_1 = w := View.ld_unit_zero (Val := Elt Ideal) (e := .f32) (S := S8x2048) Cert.RouterIdeal.Value.hz1 _ w
  have h0 : (k0_pay32 (F := Ideal) x w : S2048x1.Idx → BitVec 32) (ix2 n 0) = BitVec.ofNat 32 (pick x w n 0).val := by
    unfold k0_pay32
    rw [ex, ew]
    exact index_first x w n
  have h1 : (k0_pay33 (F := Ideal) x w : S2048x1.Idx → BitVec 32) (ix2 n 0) = BitVec.ofNat 32 (pick x w n 1).val := by
    unfold k0_pay33
    rw [ex, ew]
    exact index_second hx hw n
  have hi (e : Fin 8) : (k0_pay31 (F := Ideal) x w : S2048x8.Idx → BitVec 32) (ix2 n e) = BitVec.ofNat 32 e.val := by
    unfold k0_pay31
    pointwise
  have hs := kernel_start hx hw
  have hb := kernel_earlier hx hw
  rw [← word_of_nat _ hle]
  show (k0_pay16 (F := Ideal) (k0_pay31 (F := Ideal) x w) (k0_pay32 (F := Ideal) x w) (k0_pay33 (F := Ideal) x w) (k0_pay34 (F := Ideal) x w)
    (k0_pay13 (F := Ideal) (k0_pay31 (F := Ideal) x w) (k0_pay32 (F := Ideal) x w) (k0_pay33 (F := Ideal) x w)) (k0_pay35 (F := Ideal) x w) : S2048x2.Idx → BitVec 32) (ix2 n k) = _
  rw [← kept (fun e => startOf (pick x w) e + earlier (pick x w) n e) (pick x w n k)]
  clear hle
  revert k
  refine Fin.forall_fin_two.mpr ⟨?_, ?_⟩ <;> unfold k0_pay16 <;> pointwise [hs, hb, h0, h1, hi]
  all_goals
    refine congrArg (Ideal.fptosi 32) (Finset.sum_congr rfl fun e _ => ?_)
    rw [select_place, Nat.cast_add, mul_ite, mul_one, mul_zero]

end Kernel

section Reference
open Cert.RouterReferenceIdeal Cert.RouterReferenceIdeal.Gen
open Cert.Proof.Scat (source one4 order_apply source_source)

/-- The reference's counts. -/
def countsR (x : Tokens) (w : Weights) : FVec Ideal S1x8 .f32 :=
  shapeCast _ (Host.reduceAdd (hotR x w) (constant S_ .f32 0x00000000#32) reducesTo_S2048x8_S8_d0 h_S_) shapeCasts_S8_S1x8

/-- The reference's experts of the copies, one after the other, and the order it sorts them in. -/
def copiesR (x : Tokens) (w : Weights) : IVec S4096 32 := shapeCast _ (topR x w).2 shapeCasts_S2048x2_S4096
def orderR (x : Tokens) (w : Weights) : IVec S4096 32 := (Host.sort2 S4096 0 comparator_i32_i32_d0 (copiesR x w) (iotaInDim S4096 32 0)).2

/-- The reference's positions. -/
def positionsR (x : Tokens) (w : Weights) : IVec S2048x2 32 :=
  shapeCast _ (Host.sort2 S4096 0 comparator_i32_i32_d0 (orderR x w) (iotaInDim S4096 32 0)).2 shapeCasts_S4096_S2048x2

theorem counts_eq {x : Tokens} {w : Weights} (hx : AllReal x) (hw : AllReal w) :
    (Cert.RouterIdeal.Value.G4 (F := Ideal) x w : S1x8.Idx → EReal) = countsR x w := by
  funext i
  have hr (e : Fin 8) : (countsR x w : S1x8.Idx → EReal) (ix2 0 e) = ∑ n : Fin 2048, hot x w n e := by
    unfold countsR
    pointwise [reference_hot]
  have key (z : Fin 1) (e : Fin 8) : (Cert.RouterIdeal.Value.G4 (F := Ideal) x w : S1x8.Idx → EReal) (ix2 z e) = countsR x w (ix2 z e) := by
    obtain rfl : z = 0 := Subsingleton.elim _ _
    exact (kernel_counts hx hw e).trans (hr e).symm
  rw [eq_ix2 i]
  exact key (i 0) (i 1)

theorem copies_apply (x : Tokens) (w : Weights) (a : Fin 4096) : copiesR x w (one4 a) = BitVec.ofNat 32 (copies (pick x w) a).val := by
  unfold copiesR copies
  rw [shapeCast_apply _ _ (one4 a) (ix2 (n0 := 2048) (n1 := 2) ⟨a.val / 2, by omega⟩ ⟨a.val % 2, by omega⟩) (by
    rw [Shape.rowMajor_val_two, Shape.rowMajor_val_one]
    show a.val / 2 * 2 + a.val % 2 = a.val
    omega)]
  exact top_index x w _ _

theorem order_source (x : Tokens) (w : Weights) (r : Fin 4096) : orderR x w (one4 r) = BitVec.ofNat 32 (source (copiesR x w) r).val :=
  order_apply (copiesR x w) r

theorem reference_positions (x : Tokens) (w : Weights) (n : Fin 2048) (k : Fin 2) :
    positionsR x w (ix2 n k) = BitVec.ofNat 32 (startOf (pick x w) (pick x w n k) + earlier (pick x w) n (pick x w n k)) := by
  unfold positionsR
  rw [shapeCast_apply _ _ (ix2 n k) (one4 (copy n k)) (by
    rw [Shape.rowMajor_val_two, Shape.rowMajor_val_one]
    show k.val + 2 * n.val = n.val * 2 + k.val
    omega)]
  refine (order_apply (orderR x w) (copy n k)).trans (congrArg (BitVec.ofNat 32) ?_)
  rw [← before_count (p := pick x w) (pick_ne x w)]
  have h := source_place (k := copiesR x w) (copies_apply x w) (source (orderR x w) (copy n k))
  rw [source_source (order_source x w)] at h
  exact h.symm

theorem positions_eq {x : Tokens} {w : Weights} (hx : AllReal x) (hw : AllReal w) :
    (Cert.RouterIdeal.Value.G6 (F := Ideal) x w : S2048x2.Idx → BitVec 32) = positionsR x w := by
  funext j
  rw [eq_ix2 j]
  exact (kernel_positions hx hw (j 0) (j 1)).trans (reference_positions x w (j 0) (j 1)).symm

end Reference

end Cert.Proof.Rout

end
-- ==== Proof.Expt.Body.lean ====
/-
  One grid point of the experts' products call: what the body leaves in the result's block, from what it found there.
-/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Exec
public import Idealize.ShloMosaic.Lib.Tactic

@[expose] public section

set_option maxRecDepth 16384

noncomputable section

namespace Cert.Proof.Expt

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four tables as the body is handed them. -/
abbrev tb0 : Memref sig .tc .smem S15 .i32 := Memref.whole main_arg0
abbrev tb1 : Memref sig .tc .smem S15 .i32 := Memref.whole main_arg1
abbrev tb2 : Memref sig .tc .smem S15 .i32 := Memref.whole main_arg2
abbrev tb3 : Memref sig .tc .smem S15 .i32 := Memref.whole main_arg3

/-- The item's lower end, upper end and row block, as the body reads them off the tables. -/
abbrev loW (i : grid0.Coords) (T2 : S15.Idx → Elt F .i32) : Elt F .i32 :=
  View.readAt (Elt F) tb2.view (Rect.unit (s := S15) (k0_off1 i) S1.size (k0_off1_inb i)).toLoadRect T2 (Shape.Idx.first (numel1_S1.symm ▸ Nat.one_pos))
abbrev hiW (i : grid0.Coords) (T3 : S15.Idx → Elt F .i32) : Elt F .i32 :=
  View.readAt (Elt F) tb3.view (Rect.unit (s := S15) (k0_off1 i) S1.size (k0_off1_inb i)).toLoadRect T3 (Shape.Idx.first (numel1_S1.symm ▸ Nat.one_pos))
abbrev rbW (i : grid0.Coords) (T1 : S15.Idx → Elt F .i32) : Elt F .i32 :=
  View.readAt (Elt F) tb1.view (Rect.unit (s := S15) (k0_off2 i) S1.size (k0_off2_inb i)).toLoadRect T1 (Shape.Idx.first (numel1_S1.symm ▸ Nat.one_pos))

/-- The result's block at the point's first half: zero at the grid's first point, what was found elsewhere. -/
def baseV (i : grid0.Coords) (y : S4096x2048.Idx → Elt F .f32) : S4096x2048.Idx → Elt F .f32 :=
  if k0_cond1 i = 1#1 then k0_pay1 (F := F) else y

/-- The item's product added onto its row block of `y`. -/
def addV (lo hi rb : BitVec 32) (x0 : S512x2048.Idx → Elt F .f32) (x1 : S1x2048x512.Idx → Elt F .f32) (x2 : S1x512x2048.Idx → Elt F .f32)
    (y : S4096x2048.Idx → Elt F .f32) (h : ∀ a, k0_off3 rb a + S512x2048.size a ≤ S4096x2048.size a) : S4096x2048.Idx → Elt F .f32 :=
  VecWindow.put y (k0_off3 rb) S512x2048.size (k0_pay2 (F := F) lo hi x0 x1 x2 (VecWindow.window y (k0_off3 rb) S512x2048.size h))

/-- What the point leaves. -/
def stepV (i : grid0.Coords) (lo hi rb : BitVec 32) (x0 : S512x2048.Idx → Elt F .f32) (x1 : S1x2048x512.Idx → Elt F .f32) (x2 : S1x512x2048.Idx → Elt F .f32)
    (y : S4096x2048.Idx → Elt F .f32) : S4096x2048.Idx → Elt F .f32 :=
  if h : k0_cond2 lo hi = 1#1 ∧ ∀ a, k0_off3 rb a + S512x2048.size a ≤ S4096x2048.size a then addV lo hi rb x0 x1 x2 (baseV i y) h.2 else baseV i y

set_option maxHeartbeats 8000000 in
/-- The body at any point, whatever its item: it leaves the tables and the three staged blocks, and the step in the result's block. -/
theorem run_body (c : Dev nD) (i : grid0.Coords) (arg6 : Memref sig .tc .vmem S512x2048 .f32) (harg6 : arg6.IsWhole) (arg7 : Memref sig .tc .vmem S1x2048x512 .f32) (harg7 : arg7.IsWhole) (arg8 : Memref sig .tc .vmem S1x512x2048 .f32) (harg8 : arg8.IsWhole) (arg9 : Memref sig .tc .vmem S4096x2048 .f32) (harg9 : arg9.IsWhole)
    (T0 T1 T2 T3 : S15.Idx → Elt F .i32) (x0 : S512x2048.Idx → Elt F .f32) (x1 : S1x2048x512.Idx → Elt F .f32) (x2 : S1x512x2048.Idx → Elt F .f32) (y : S4096x2048.Idx → Elt F .f32)
    (hin : ∀ a, k0_off3 (rbW i T1) a + S512x2048.size a ≤ S4096x2048.size a) (K : PUnit → sProp 𝕄) :
    iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (arg9.view.loc (c : Thread nD τ) ↦[arg9.view.set]{fullShare} arg9.view.rep y)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tb0.view.loc (c : Thread nD τ) ↦{fullShare.right} T0)
              ∗ (tb1.view.loc (c : Thread nD τ) ↦{fullShare.right} T1)
              ∗ (tb2.view.loc (c : Thread nD τ) ↦{fullShare.right} T2)
              ∗ (tb3.view.loc (c : Thread nD τ) ↦{fullShare.right} T3)
              ∗ owns (c : Thread nD τ) arg9 fullShare (stepV i (loW i T2) (hiW i T3) (rbW i T1) x0 x1 x2 y)) -∗ K ⟨⟩))
          ⊢ wp frame (wpE (defs₀ (F := F)) Variants.none c none) Set.univ (cc0__gmm_body i tb0 (Memref.isWhole_whole _) tb1 (Memref.isWhole_whole _) tb2 (Memref.isWhole_whole _) tb3 (Memref.isWhole_whole _) arg6 harg6 arg7 harg7 arg8 harg8 arg9 harg9) K := by
  rw [cc0__gmm_body_eq_skeleton]; unfold cc0__gmm_body_skel
  have hT0 : tb0.IsWhole := Memref.isWhole_whole _
  have hT1 : tb1.IsWhole := Memref.isWhole_whole _
  have hT2 : tb2.IsWhole := Memref.isWhole_whole _
  have hT3 : tb3.IsWhole := Memref.isWhole_whole _
  have hchk : k0_chk1 (loW i T2) (hiW i T3) (rbW i T1) := fun _ => hin
  by_cases k0_h1 : k0_cond1 i = 1#1
  · by_cases k0_h2 : k0_cond2 (loW i T2) (hiW i T3) = 1#1
    · iintro ⟨H0, H1, H2, HT0, HT1, HT2, HT3, HO3, Hk⟩
      sl_exec! (disch := first | (guard_target = k0_cond1 _ = _; exact k0_h1) | (guard_target = k0_cond2 _ _ = _; exact k0_h2) | exact hchk)
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold owns
      iexists _; isplitr; swap
      · iexact HO3
      · ipureintro
        unfold stepV addV baseV
        rw [dif_pos ⟨k0_h2, hin⟩, if_pos k0_h1]
        rw [View.read_writes_cons_put (h := rfl), View.readAt_rep_full, View.readAt_rep_full, View.readAt_rep_full, View.readAt_unit (h := rfl) (inb' := hin)]
        have key : ∀ z : S4096x2048.Idx → Elt F .f32, z = k0_pay1 (F := F) → addV (loW i T2) (hiW i T3) (rbW i T1) x0 x1 x2 z hin
            = addV (loW i T2) (hiW i T3) (rbW i T1) x0 x1 x2 (k0_pay1 (F := F)) hin := fun z hz => hz ▸ rfl
        exact key _ (View.read_writes_full _ _ _ _ _)
    · iintro ⟨H0, H1, H2, HT0, HT1, HT2, HT3, HO3, Hk⟩
      sl_exec! (disch := first | (guard_target = k0_cond1 _ = _; exact k0_h1) | (guard_target = ¬(k0_cond2 _ _ = _); exact k0_h2))
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold owns
      iexists _; isplitr; swap
      · iexact HO3
      · ipureintro
        unfold stepV baseV
        rw [dif_neg (fun h => k0_h2 h.1), if_pos k0_h1]
        exact View.read_writes_full _ _ _ _ _
  · by_cases k0_h2 : k0_cond2 (loW i T2) (hiW i T3) = 1#1
    · iintro ⟨H0, H1, H2, HT0, HT1, HT2, HT3, HO3, Hk⟩
      sl_exec! (disch := first | (guard_target = ¬(k0_cond1 _ = _); exact k0_h1) | (guard_target = k0_cond2 _ _ = _; exact k0_h2) | exact hchk)
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold owns
      iexists _; isplitr; swap
      · iexact HO3
      · ipureintro
        unfold stepV addV baseV
        rw [dif_pos ⟨k0_h2, hin⟩, if_neg k0_h1]
        rw [View.read_writes_rep_unit (h := rfl), View.readAt_rep_full, View.readAt_rep_full, View.readAt_rep_full, View.readAt_rep_unit (h := rfl) (inb' := hin)]
        try rfl
    · iintro ⟨H0, H1, H2, HT0, HT1, HT2, HT3, HO3, Hk⟩
      sl_exec! (disch := first | (guard_target = ¬(k0_cond1 _ = _); exact k0_h1) | (guard_target = ¬(k0_cond2 _ _ = _); exact k0_h2))
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold stepV baseV
      rw [dif_neg (fun h => k0_h2 h.1), if_neg k0_h1]
      iapply owns_of_rep
      iexact HO3

end Cert.Proof.Expt

end
-- ==== Proof.Expt.Tables.lean ====
/-
  The tables of the experts' products call: which contents the call can be run at, and what its schedule is at them.
-/
module

public import proofs.«01_k».proof.Proof.Expt.Body

@[expose] public section

set_option maxRecDepth 16384

noncomputable section

namespace Cert.Proof.Expt

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The experts' numbers and the row blocks' numbers are below eight. -/
def TabOK (pf : pre0.Contents (Elt F)) : Prop :=
  (∀ k : S15.Idx, (pf 0 k : BitVec 32).toNat < 8) ∧ (∀ k : S15.Idx, (pf 1 k : BitVec 32).toNat < 8)

variable (pf : pre0.Contents (Elt F)) (hp : TabOK pf)

include hp in
theorem inb0 (i : grid0.Coords) : ∀ a, (cc0_transform_0 k0_off1_inb numel1_S1 pf i a + 1) * S512x2048.size a ≤ S4096x2048.size a := by
  refine Fin.forall_fin_two.mpr ⟨?_, ?_⟩
  · show ((pf 1 _ : BitVec 32).toNat + 1) * 512 ≤ 4096
    have := hp.2 ((Rect.unit (s := S15) (k0_off1 i) S1.size (k0_off1_inb i)).emb (Shape.Idx.first (numel1_S1.symm ▸ Nat.one_pos)))
    exact Nat.mul_le_mul_right 512 this
  · show (0 + 1) * 2048 ≤ 2048; omega

theorem coord0_lt (i : grid0.Coords) : (i 0).val < 8 := (i 0).isLt
theorem coord1_lt (i : grid0.Coords) : (i 1).val < 15 := (i 1).isLt

theorem ofNat_coord0 (i : grid0.Coords) : (BitVec.ofNat 32 (i 0).val).toNat = (i 0).val := by
  have := coord0_lt i; rw [BitVec.toNat_ofNat]; omega

include hp in
theorem inb1 (i : grid0.Coords) : ∀ a, (cc0_transform_1 k0_off1_inb numel1_S1 pf i a + 1) * S1x2048x512.size a ≤ S8x2048x4096.size a := by
  refine Fin.forall_fin_succ.mpr ⟨?_, Fin.forall_fin_two.mpr ⟨?_, ?_⟩⟩
  · show ((pf 0 _ : BitVec 32).toNat + 1) * 1 ≤ 8
    have := hp.1 ((Rect.unit (s := S15) (k0_off1 i) S1.size (k0_off1_inb i)).emb (Shape.Idx.first (numel1_S1.symm ▸ Nat.one_pos)))
    exact (Nat.mul_one _).le.trans this
  · show (0 + 1) * 2048 ≤ 2048; omega
  · show ((BitVec.ofNat 32 (i 0).val).toNat + 1) * 512 ≤ 4096
    rw [ofNat_coord0]; have := coord0_lt i; omega

include hp in
theorem inb2 (i : grid0.Coords) : ∀ a, (cc0_transform_2 k0_off1_inb numel1_S1 pf i a + 1) * S1x512x2048.size a ≤ S8x4096x2048.size a := by
  refine Fin.forall_fin_succ.mpr ⟨?_, Fin.forall_fin_two.mpr ⟨?_, ?_⟩⟩
  · show ((pf 0 _ : BitVec 32).toNat + 1) * 1 ≤ 8
    have := hp.1 ((Rect.unit (s := S15) (k0_off1 i) S1.size (k0_off1_inb i)).emb (Shape.Idx.first (numel1_S1.symm ▸ Nat.one_pos)))
    exact (Nat.mul_one _).le.trans this
  · show ((BitVec.ofNat 32 (i 0).val).toNat + 1) * 512 ≤ 4096
    rw [ofNat_coord0]; have := coord0_lt i; omega
  · show (0 + 1) * 2048 ≤ 2048; omega

/-- Every block the windows name at these tables lies inside its array. -/
theorem ok_tabs (hp : TabOK pf) : ok0 pf :=
  ⟨fun i => ⟨inb0 pf hp i, .inl rfl⟩, fun i => ⟨inb1 pf hp i, .inl rfl⟩, fun i => ⟨inb2 pf hp i, .inl rfl⟩⟩

/-- The pipeline at the tables. -/
def adm : (pcfg0 (F := F)).Adm := ⟨pf, ok_tabs pf hp⟩
abbrev cfgA : Pipeline.Cfg sig Λ₀ := cfg0 (F := F) (adm pf hp)
abbrev pcs : Fin 1 → Pipeline.Cfg sig Λ₀ := Pipeline.pin (pcfgs (F := F)) fun _ => adm pf hp
/-- Point `t`'s coordinates. -/
abbrev crd (t : Fin (cfgA pf hp).N) : grid0.Coords := (cfgA pf hp).grid.coords t

/-- The words of the item at a point. -/
abbrev lo (i : grid0.Coords) : BitVec 32 := loW i (pf 2)
abbrev hi (i : grid0.Coords) : BitVec 32 := hiW i (pf 3)
abbrev rb (i : grid0.Coords) : BitVec 32 := rbW i (pf 1)

include hp in
theorem rb_lt (i : grid0.Coords) : (rb pf i).toNat < 8 := hp.2 _

/-- The item's row block lies inside the result. -/
theorem off3_inb (v : BitVec 32) (hv : v.toNat < 8) : ∀ a, k0_off3 v a + S512x2048.size a ≤ S4096x2048.size a := by
  refine Fin.forall_fin_two.mpr ⟨?_, ?_⟩
  · show (Scalar.muli v 512#32).toNat + 512 ≤ 4096
    have : (Scalar.muli v 512#32).toNat = v.toNat * 512 % 4294967296 := BitVec.toNat_mul _ _
    omega
  · show 0 + 2048 ≤ 2048; omega

theorem off1_inb (i : grid0.Coords) : ∀ a : Fin 1, k0_off1 i a + 1 ≤ S15.size a := fun a => by
  have := k0_off1_inb i a
  have e : S1.size a = 1 := by rw [Subsingleton.elim a 0]; rfl
  rwa [e] at this

/-- The word of a table at a point, as the idle table names it. -/
theorem atD2 (i : grid0.Coords) : pf.atD 2 (k0_off1 i) = lo pf i := by
  refine (dif_pos (off1_inb i)).trans ?_
  exact congrArg (pf 2) (funext fun a => Fin.ext (by rfl))
theorem atD3 (i : grid0.Coords) : pf.atD 3 (k0_off1 i) = hi pf i := by
  refine (dif_pos (off1_inb i)).trans ?_
  exact congrArg (pf 3) (funext fun a => Fin.ext (by rfl))

/-- Where the result's window is idle: not at the first point, and where the item lists no row. -/
theorem idle_iff (i : grid0.Coords) : (cfgA pf hp).idle (3 : Fin 4) i = true ↔ ¬ k0_cond1 i = 1#1 ∧ ¬ k0_cond2 (lo pf i) (hi pf i) = 1#1 := by
  show (!(k0_cond1 i == 1#1) && !(k0_cond2 (pf.atD 2 (k0_off1 i)) (pf.atD 3 (k0_off1 i)) == 1#1)) = true ↔ _
  rw [atD2, atD3]
  simp

theorem N_A : (cfgA pf hp).N = 120 := N_0

/-- The result is written back at the last point alone. -/
theorem flush3 (t : Fin (cfgA pf hp).N) : ((cfgA pf hp).win (3 : Fin 4)).flush t = decide (t.val + 1 = 120) := by
  rw [Pipeline.Window.flush_eq_flushF]
  unfold Pipeline.Window.flushF
  have h1 : ((cfgA pf hp).win (3 : Fin 4)).isOut = true := rfl
  have h2 : ¬ ∃ h : t.val + 1 < (cfgA pf hp).N, ∃ a, ((cfgA pf hp).win (3 : Fin 4)).index ⟨t.val + 1, h⟩ a ≠ ((cfgA pf hp).win (3 : Fin 4)).index t a := by
    rintro ⟨h, a, ha⟩
    exact ha rfl
  have h3 : (cfgA pf hp).grid.N = 120 := N_0
  rw [h1, Bool.true_and, decide_eq_false (h2), Bool.or_false]
  exact decide_eq_decide.mpr ⟨fun h => h.trans h3, fun h => h.trans h3.symm⟩

theorem cond1_iff : ∀ i : grid0.Coords, k0_cond1 i = 1#1 ↔ (i 0).val = 0 ∧ (i 1).val = 0 := by decide +kernel

theorem cond1_first (t : Fin (cfgA pf hp).N) (h : t.val = 0) : k0_cond1 (crd pf hp t) = 1#1 := by
  obtain ⟨n, hn⟩ := t
  subst h
  have : ∀ t : Fin grid0.N, t.val = 0 → k0_cond1 (grid0.coords t) = 1#1 := by decide +kernel
  exact this ⟨0, hn⟩ rfl

/-- The result's buffer holds nothing of the body's at the first point alone. -/
theorem fresh3 : ∀ (n : ℕ), n < 120 → n ≠ 0 → (cfgA pf hp).fresh (3 : Fin 4) n = false
  | 0, _, h => absurd rfl h
  | n + 1, hn, _ => by
    have hN : n < (cfgA pf hp).N := by rw [N_A]; omega
    rw [Pipeline.Cfg.fresh_succ _ _ n hN, flush3]
    have : decide ((⟨n, hN⟩ : Fin (cfgA pf hp).N).val + 1 = 120) = false := decide_eq_false (by show ¬ n + 1 = 120; omega)
    rw [this, Bool.false_or]
    by_cases h0 : n = 0
    · have hi : ¬ (cfgA pf hp).idle (3 : Fin 4) ((cfgA pf hp).grid.coords ⟨n, hN⟩) = true := fun h =>
        ((idle_iff pf hp _).mp h).1 (cond1_first pf hp ⟨n, hN⟩ h0)
      rw [Bool.not_eq_true] at hi
      rw [hi, Bool.false_and]
    · rw [fresh3 n (by omega) h0, Bool.and_false]

end Cert.Proof.Expt

end
-- ==== Proof.Expt.Pay.lean ====
/-
  The experts' products element by element: an item's product as the kernel computes it over one block of hidden features.
-/
module

public import proofs.«01_k».proof.Proof.Gen.ExpertsIdeal.Skeleton
public import proofs.«01_k».proof.Proof.Gen.ExpertsReferenceIdeal.Run
public import Idealize.ShloMosaic.Lib.Pointwise

@[expose] public section

noncomputable section

namespace Cert.Proof.Expt

open Idealize.ShloMosaic

abbrev RowsT : Type := (⟨2, ![4096, 2048]⟩ : Shape).Idx → EReal
abbrev UpT : Type := (⟨3, ![8, 2048, 4096]⟩ : Shape).Idx → EReal
abbrev DownT : Type := (⟨3, ![8, 4096, 2048]⟩ : Shape).Idx → EReal

/-- The literals one half and the reciprocal of the root of two. -/
abbrev half : EReal := Ideal.ofBits .f32 0x3F000000#32
abbrev rsqrt2 : EReal := Ideal.ofBits .f32 0x3F3504F3#32

/-- The exact gelu. -/
def gelu (h : EReal) : EReal := (half * h) * (1 + Ideal.erf (h * rsqrt2))

/-- One where the row `p` of the item's block is listed, else zero. -/
def msk (lo hi : BitVec 32) (p : ℕ) : EReal := if lo.sle (BitVec.ofNat 32 p) = true ∧ (BitVec.ofNat 32 p).slt hi = true then 1 else 0

theorem bit_listed (lo hi : BitVec 32) (p : ℕ) :
    IntOp.andi (IntOp.cmpi CmpIPredicate.sge (BitVec.ofNat 32 p) lo) (IntOp.cmpi CmpIPredicate.slt (BitVec.ofNat 32 p) hi)
      = if lo.sle (BitVec.ofNat 32 p) = true ∧ (BitVec.ofNat 32 p).slt hi = true then 1#1 else 0#1 := by
  show BitVec.ofBool (lo.sle (BitVec.ofNat 32 p)) &&& BitVec.ofBool ((BitVec.ofNat 32 p).slt hi) = _
  cases lo.sle (BitVec.ofNat 32 p) <;> cases (BitVec.ofNat 32 p).slt hi <;> rfl

theorem and_one_iff {a b : BitVec 1} : IntOp.andi a b = 1#1 ↔ a = 1#1 ∧ b = 1#1 := by
  revert a b
  decide

theorem ofBool_one_iff {b : Bool} : BitVec.ofBool b = 1#1 ↔ b = true := by
  cases b <;> decide

theorem one_sge_iff {x y : BitVec 32} : IntOp.cmpi CmpIPredicate.sge x y = 1#1 ↔ y.toInt ≤ x.toInt :=
  ofBool_one_iff.trans decide_eq_true_iff

theorem one_slt_iff {x y : BitVec 32} : IntOp.cmpi CmpIPredicate.slt x y = 1#1 ↔ x.toInt < y.toInt :=
  ofBool_one_iff.trans decide_eq_true_iff

theorem one_slt_iff' {x y : BitVec 32} : IntOp.cmpi CmpIPredicate.slt x y = 1#1 ↔ x.slt y = true := ofBool_one_iff

theorem one_sle_iff {x y : BitVec 32} : IntOp.cmpi CmpIPredicate.sle x y = 1#1 ↔ x.sle y = true := ofBool_one_iff

theorem one_eq_iff {x y : BitVec 32} : IntOp.cmpi CmpIPredicate.eq x y = 1#1 ↔ x = y := by
  show BitVec.ofBool (x == y) = 1#1 ↔ x = y
  rw [ofBool_one_iff, beq_iff_eq]

section Kernel
open Cert.ExpertsIdeal Cert.ExpertsIdeal.Gen

theorem pay1_apply (i : S4096x2048.Idx) : (k0_pay1 (F := Ideal) : S4096x2048.Idx → EReal) i = 0 := by
  rw [eq_ix2 i]
  unfold k0_pay1
  pointwise

theorem pay2_apply (lo hi : BitVec 32) (x : S512x2048.Idx → EReal) (u : S1x2048x512.Idx → EReal) (d : S1x512x2048.Idx → EReal) (v : S512x2048.Idx → EReal)
    (p : Fin 512) (q : Fin 2048) :
    (k0_pay2 (F := Ideal) lo hi x u d v : S512x2048.Idx → EReal) (ix2 p q)
      = v (ix2 p q) + ∑ f : Fin 512, (gelu (∑ k : Fin 2048, x (ix2 p k) * u (ix3 0 k f)) * msk lo hi p.val) * d (ix3 0 f q) := by
  unfold k0_pay2 gelu
  pointwise
  refine congrArg (v (ix2 p q) + ·) (Finset.sum_congr rfl fun f _ => ?_)
  have hw := bit_listed lo hi p.val
  unfold msk
  by_cases h : lo.sle (BitVec.ofNat 32 p.val) = true ∧ (BitVec.ofNat 32 p.val).slt hi = true
  · rw [if_pos h, mul_one]
    rw [hw, if_pos h]
    rfl
  · rw [if_neg h, mul_zero, zero_mul]
    rw [hw, if_neg h]
    rfl

end Kernel

section Reference
open Cert.ExpertsReferenceIdeal Cert.ExpertsReferenceIdeal.Gen

/-- The reference's hidden features. -/
def hidR (x : RowsT) (u : UpT) : FVec Ideal S8x4096x4096 .f32 :=
  transpose S8x4096x4096 [0, 2, 1] (Host.dotGeneral (F := Ideal) (φ₁ := .f32) (φ₂ := .f32) dot_S8x2048x4096_S4096x2048_S8x4096x4096_1_1_02_0_n_n none u x) transposes_S8x4096x4096_S8x4096x4096_0_2_1

/-- The reference's gelu of them. -/
def gelR (x : RowsT) (u : UpT) : FVec Ideal S8x4096x4096 .f32 :=
  mulf (mulf (broadcastInDim S8x4096x4096 ![] bcast_S_S8x4096x4096 (constant S_ .f32 0x3F000000#32)) (hidR x u))
    (Host.erfc (mulf (Host.negf (hidR x u)) (broadcastInDim S8x4096x4096 ![] bcast_S_S8x4096x4096 (constant S_ .f32 0x3F3504F3#32))))

/-- The reference's products of every row with every expert. -/
def outR (x : RowsT) (u : UpT) (d : DownT) : FVec Ideal S8x4096x2048 .f32 :=
  Host.dotGeneral (F := Ideal) (φ₁ := .f32) (φ₂ := .f32) dot_S8x4096x4096_S8x4096x2048_S8x4096x2048_2_1_1_2_0_0 none (gelR x u) d

theorem hidR_apply (x : RowsT) (u : UpT) (e : Fin 8) (n f : Fin 4096) :
    (hidR x u : S8x4096x4096.Idx → EReal) (ix3 e n f) = ∑ k : Fin 2048, x (ix2 n k) * u (ix3 e k f) := by
  unfold hidR
  pointwise
  exact Finset.sum_congr rfl fun k _ => mul_comm _ _

theorem gelR_apply (x : RowsT) (u : UpT) (e : Fin 8) (n f : Fin 4096) :
    (gelR x u : S8x4096x4096.Idx → EReal) (ix3 e n f) = gelu ((hidR x u : S8x4096x4096.Idx → EReal) (ix3 e n f)) := by
  unfold gelR gelu
  generalize hidR x u = h
  pointwise
  rw [EReal.neg_mul, Ideal.erfc_neg]

theorem outR_apply (x : RowsT) (u : UpT) (d : DownT) (e : Fin 8) (n : Fin 4096) (q : Fin 2048) :
    (outR x u d : S8x4096x2048.Idx → EReal) (ix3 e n q) = ∑ f : Fin 4096, (gelR x u : S8x4096x4096.Idx → EReal) (ix3 e n f) * d (ix3 e f q) := by
  unfold outR
  generalize gelR x u = h
  pointwise

/-- Each row's place within each item's block. -/
def withinR (t1 : S15.Idx → BitVec 32) : IVec S4096x15 32 :=
  subi (broadcastInDim S4096x15 ![0, 1] bcast_S4096x1_S4096x15_0_1 (broadcastInDim S4096x1 ![0] bcast_S4096_S4096x1_0 (iotaInDim S4096 32 0)))
    (broadcastInDim S4096x15 ![0, 1] bcast_S1x15_S4096x15_0_1 (broadcastInDim S1x15 ![1] bcast_S15_S1x15_1 (muli t1 (broadcastInDim S15 ![] bcast_S_S15 (constantI S_ 32 512#32)))))

/-- Which rows the items list. -/
def listR (t1 t2 t3 : S15.Idx → BitVec 32) : IVec S4096x15 1 :=
  andi (andi (andi (cmpi .sge (withinR t1) (broadcastInDim S4096x15 ![] bcast_S_S4096x15 (constantI S_ 32 0#32)))
      (cmpi .slt (withinR t1) (broadcastInDim S4096x15 ![] bcast_S_S4096x15 (constantI S_ 32 512#32))))
    (cmpi .sle (broadcastInDim S4096x15 ![0, 1] bcast_S1x15_S4096x15_0_1 (broadcastInDim S1x15 ![1] bcast_S15_S1x15_1 t2)) (withinR t1)))
    (cmpi .slt (withinR t1) (broadcastInDim S4096x15 ![0, 1] bcast_S1x15_S4096x15_0_1 (broadcastInDim S1x15 ![1] bcast_S15_S1x15_1 t3)))

/-- How often the items list each row for each expert. -/
def hotR (t0 t1 t2 t3 : S15.Idx → BitVec 32) : FVec Ideal S4096x8 .f32 :=
  Host.reduceAdd (F := Ideal) (φ := .f32)
    (id (select (andi (broadcastInDim S4096x15x8 ![0, 1, 2] bcast_S4096x15x1_S4096x15x8_0_1_2 (broadcastInDim S4096x15x1 ![0, 1] bcast_S4096x15_S4096x15x1_0_1 (listR t1 t2 t3)))
        (broadcastInDim S4096x15x8 ![0, 1, 2] bcast_S1x15x8_S4096x15x8_0_1_2 (broadcastInDim S1x15x8 ![1, 2] bcast_S15x8_S1x15x8_1_2
          (cmpi .eq (broadcastInDim S15x8 ![0, 1] bcast_S15x1_S15x8_0_1 (broadcastInDim S15x1 ![0] bcast_S15_S15x1_0 t0))
            (broadcastInDim S15x8 ![0, 1] bcast_S1x8_S15x8_0_1 (broadcastInDim S1x8 ![1] bcast_S8_S1x8_1 (iotaInDim S8 32 0)))))))
      (broadcastInDim S4096x15x8 ![] bcast_S_S4096x15x8 (constant (F := Ideal) S_ .f32 0x3F800000#32))
      (broadcastInDim S4096x15x8 ![] bcast_S_S4096x15x8 (constant (F := Ideal) S_ .f32 0x00000000#32))))
    (constant S_ .f32 0x00000000#32) reducesTo_S4096x15x8_S4096x8_d1 h_S_

/-- The reference's result. -/
def resR (t0 t1 t2 t3 : S15.Idx → BitVec 32) (x : RowsT) (u : UpT) (d : DownT) : FVec Ideal S4096x2048 .f32 :=
  Host.dotGeneral (F := Ideal) (φ₁ := .f32) (φ₂ := .f32) dot_S8x4096x2048_S4096x8_S4096x2048_0_1_2_n_1_0 none (outR x u d) (hotR t0 t1 t2 t3)

theorem resR_apply (t0 t1 t2 t3 : S15.Idx → BitVec 32) (x : RowsT) (u : UpT) (d : DownT) (n : Fin 4096) (q : Fin 2048) :
    (resR t0 t1 t2 t3 x u d : S4096x2048.Idx → EReal) (ix2 n q)
      = ∑ e : Fin 8, (outR x u d : S8x4096x2048.Idx → EReal) (ix3 e n q) * (hotR t0 t1 t2 t3 : S4096x8.Idx → EReal) (ix2 n e) := by
  unfold resR
  generalize outR x u d = y
  generalize hotR t0 t1 t2 t3 = h
  pointwise

theorem hotR_apply (t0 t1 t2 t3 : S15.Idx → BitVec 32) (n : Fin 4096) (e : Fin 8) :
    (hotR t0 t1 t2 t3 : S4096x8.Idx → EReal) (ix2 n e)
      = ∑ j : Fin 15, if (listR t1 t2 t3 : S4096x15.Idx → BitVec 1) (ix2 n j) = 1#1 ∧ t0 (ix1 j) = BitVec.ofNat 32 e.val then 1 else 0 := by
  unfold hotR
  generalize listR t1 t2 t3 = l
  pointwise
  refine Finset.sum_congr rfl fun j _ => ?_
  simp only [id]
  pointwise
  show (if IntOp.andi _ _ = 1#1 then (1 : EReal) else 0) = _
  refine if_congr ?_ rfl rfl
  rw [and_one_iff, one_eq_iff]

/-- A row is listed by an item when its block is the item's and its place lies in the item's bounds. -/
theorem listR_apply (t1 t2 t3 : S15.Idx → BitVec 32) (n : Fin 4096) (j : Fin 15) (h : (t1 (ix1 j)).toNat < 8) :
    (listR t1 t2 t3 : S4096x15.Idx → BitVec 1) (ix2 n j) = 1#1
      ↔ (t1 (ix1 j)).toNat = n.val / 512 ∧ (t2 (ix1 j)).sle (BitVec.ofNat 32 (n.val % 512)) = true
        ∧ (BitVec.ofNat 32 (n.val % 512)).slt (t3 (ix1 j)) = true := by
  unfold listR withinR
  pointwise
  generalize t1 (ix1 j) = a at h ⊢
  generalize t2 (ix1 j) = b
  generalize t3 (ix1 j) = c
  have hn := n.isLt
  have hq : (a.toNat = n.val / 512 ∧ IntOp.subi (BitVec.ofNat 32 n.val) (IntOp.muli a 512#32) = BitVec.ofNat 32 (n.val % 512))
      ∨ (a.toNat ≠ n.val / 512 ∧ ((IntOp.subi (BitVec.ofNat 32 n.val) (IntOp.muli a 512#32)).toInt < 0
        ∨ 512 ≤ (IntOp.subi (BitVec.ofNat 32 n.val) (IntOp.muli a 512#32)).toInt)) := by
    have ht : (IntOp.subi (BitVec.ofNat 32 n.val) (IntOp.muli a 512#32)).toNat = (4294967296 - a.toNat * 512 + n.val) % 4294967296 := by
      simp only [IntOp.subi, IntOp.muli, BitVec.toNat_sub, BitVec.toNat_mul, BitVec.toNat_ofNat]
      omega
    generalize IntOp.subi (BitVec.ofNat 32 n.val) (IntOp.muli a 512#32) = z at ht ⊢
    by_cases he : a.toNat = n.val / 512
    · refine Or.inl ⟨he, BitVec.eq_of_toNat_eq ?_⟩
      rw [ht, BitVec.toNat_ofNat]
      omega
    · refine Or.inr ⟨he, ?_⟩
      rw [BitVec.toInt_eq_toNat_cond]
      split <;> omega
  rcases hq with ⟨he, hz⟩ | ⟨he, hz⟩
  · rw [hz, and_one_iff, and_one_iff, and_one_iff]
    have hs : (BitVec.ofNat 32 (n.val % 512)).toInt = ((n.val % 512 : ℕ) : ℤ) := by
      rw [BitVec.toInt_eq_toNat_cond, BitVec.toNat_ofNat]
      split <;> omega
    have h0 : IntOp.cmpi CmpIPredicate.sge (BitVec.ofNat 32 (n.val % 512)) 0#32 = 1#1 := by
      rw [one_sge_iff, hs, show (0#32).toInt = 0 from rfl]
      omega
    have h5 : IntOp.cmpi CmpIPredicate.slt (BitVec.ofNat 32 (n.val % 512)) 512#32 = 1#1 := by
      rw [one_slt_iff, hs, show (512#32).toInt = 512 from rfl]
      omega
    refine ⟨fun h1 => ⟨he, one_sle_iff.mp h1.1.2, one_slt_iff'.mp h1.2⟩, fun h1 => ⟨⟨⟨h0, h5⟩, one_sle_iff.mpr h1.2.1⟩, one_slt_iff'.mpr h1.2.2⟩⟩
  · refine ⟨fun h1 => ?_, fun h1 => absurd h1.1 he⟩
    rw [and_one_iff, and_one_iff, and_one_iff, one_sge_iff, one_slt_iff, show (0#32).toInt = 0 from rfl, show (512#32).toInt = 512 from rfl] at h1
    have h2 := h1.1.1
    omega

end Reference

end Cert.Proof.Expt

end
-- ==== Proof.Expt.Pre.lean ====
/-
  The tables the experts' products call reads, and what its precondition says of them.
-/
module

public import proofs.«01_k».proof.Proof.Expt.Tables
public import proofs.«01_k».proof.Proof.Expt.Pay
public import proofs.«01_k».proof.Proof.Gen.Pre_items_ok

@[expose] public section

noncomputable section

namespace Cert.Proof.Expt

open Cert.ExpertsIdeal Cert.ExpertsIdeal.Gen
open Idealize.ShloMosaic
open Idealize.ShloMosaic.TcCoe

variable {F : FTy → Type} [FloatOps F]

/-- A word that is not negative and below eight is below eight as a number. -/
theorem toNat_lt_eight {x : BitVec 32} (h0 : (0#32).toInt ≤ x.toInt) (h8 : x.toInt < (8#32).toInt) : x.toNat < 8 := by
  rw [show (0#32).toInt = 0 from rfl] at h0
  rw [show (8#32).toInt = 8 from rfl] at h8
  rw [BitVec.toInt_eq_toNat_cond] at h0 h8
  split at h8 <;> omega

/-- The precondition, read at an item. -/
theorem items_ok_at (a0 a1 a2 a3 : IVec Cert.Pre_items_ok.S15 32) (x : FVec F Cert.Pre_items_ok.S4096x2048 .f32)
    (u : FVec F Cert.Pre_items_ok.S8x2048x4096 .f32) (d : FVec F Cert.Pre_items_ok.S8x4096x2048 .f32)
    (h : Cert.Pre_items_ok.fn (F := F) a0 a1 a2 a3 x u d = fun _ => 1#1) (k : S15.Idx) : (a0 k).toNat < 8 ∧ (a1 k).toNat < 8 := by
  have hk : IntOp.andi (IntOp.andi (IntOp.andi (IntOp.cmpi CmpIPredicate.sge (a0 k) 0#32) (IntOp.cmpi CmpIPredicate.slt (a0 k) 8#32))
      (IntOp.cmpi CmpIPredicate.sge (a1 k) 0#32)) (IntOp.cmpi CmpIPredicate.slt (a1 k) 8#32) = 1#1 := congrFun h k
  rw [and_one_iff, and_one_iff, and_one_iff, one_sge_iff, one_slt_iff, one_sge_iff, one_slt_iff] at hk
  exact ⟨toNat_lt_eight hk.1.1.1 hk.1.1.2, toNat_lt_eight hk.1.2 hk.2⟩

/-- The tables in memory at launch. -/
def tabs (m : (ℓ : Loc nD τ sig) → Buf (Elt F) ℓ) : pre0.Contents (Elt F) := fun j => m (((0 : Dev nD) : Thread nD τ).loc (pre0.ref j))

theorem tabs_on (m : (ℓ : Loc nD τ sig) → Buf (Elt F) ℓ) (c : Dev nD) (j : Fin 4) : m ((c : Thread nD τ).loc (pre0.ref j)) = tabs m j := by
  obtain rfl : c = (0 : Dev nD) := Subsingleton.elim _ _
  rfl

theorem tabs_ok (m : (ℓ : Loc nD τ sig) → Buf (Elt F) ℓ)
    (h : Cert.Pre_items_ok.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4)) (m (((0 : Dev nD).tc : Thread nD τ).loc main_arg5))
      (m (((0 : Dev nD).tc : Thread nD τ).loc main_arg6)) = fun _ => 1#1) : TabOK (tabs m) :=
  ⟨fun k => (items_ok_at _ _ _ _ _ _ _ h k).1, fun k => (items_ok_at _ _ _ _ _ _ _ h k).2⟩

end Cert.Proof.Expt

end
-- ==== Proof.Expt.Run.lean ====
/-
  The run of the experts' products call: the result after each grid point, the pipeline's obligation, and the launch.
-/
module

public import proofs.«01_k».proof.Proof.Expt.Tables
public import Idealize.ShloMosaic.Lib.Pipeline.Quiescent
public import Idealize.ShloMosaic.Lib.Claim
public import Idealize.ShloMosaic.Lib.Writes
public import Idealize.ShloMosaic.Adequacy
public import Idealize.ShloMosaic.Init

@[expose] public section

set_option maxRecDepth 16384

noncomputable section

namespace Cert.Proof.Expt

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

set_option Elab.async false

local notation "𝕄" => MT nD τ sig Unit (Elt F) ℕ (UR sig nD τ) ℕ

/-- The rounds library's cells, embedded whole. -/
abbrev EP : Emb (UR sig nD τ) 𝕄 := emb₁

variable (pf : pre0.Contents (Elt F)) (hp : TabOK pf)
variable (m : (ℓ : Loc nD τ sig) → Buf (Elt F) ℓ) (ρ : Dev nD → PrngReg)

/-- Each window's staging memref at point `t`. -/
abbrev ms0 (t : Fin (cfgA pf hp).N) : Memref sig .tc .vmem S512x2048 .f32 := spec0_0.stage ((cfgA pf hp).slots t (0 : Fin 4))
abbrev hs0 (t : Fin (cfgA pf hp).N) : (ms0 pf hp t).IsWhole := hstage0_0 (((cfgA pf hp).slots t (0 : Fin 4)).cast nbuf0_0)
abbrev ms1 (t : Fin (cfgA pf hp).N) : Memref sig .tc .vmem S1x2048x512 .f32 := spec0_1.stage ((cfgA pf hp).slots t (1 : Fin 4))
abbrev hs1 (t : Fin (cfgA pf hp).N) : (ms1 pf hp t).IsWhole := hstage0_1 (((cfgA pf hp).slots t (1 : Fin 4)).cast nbuf0_1)
abbrev ms2 (t : Fin (cfgA pf hp).N) : Memref sig .tc .vmem S1x512x2048 .f32 := spec0_2.stage ((cfgA pf hp).slots t (2 : Fin 4))
abbrev hs2 (t : Fin (cfgA pf hp).N) : (ms2 pf hp t).IsWhole := hstage0_2 (((cfgA pf hp).slots t (2 : Fin 4)).cast nbuf0_2)
abbrev ms3 (t : Fin (cfgA pf hp).N) : Memref sig .tc .vmem S4096x2048 .f32 := spec0_3.stage ((cfgA pf hp).slots t (3 : Fin 4))
abbrev hs3 (t : Fin (cfgA pf hp).N) : (ms3 pf hp t).IsWhole := hstage0_3 (((cfgA pf hp).slots t (3 : Fin 4)).cast nbuf0_3)

/-- Window `w`'s block at point `t`, read off its array at launch. -/
def iblk (c : Dev nD) (w : Fin (cfgA pf hp).W) (t : Fin (cfgA pf hp).N) : (((cfgA pf hp).win w).xblock (crd pf hp t)).Idx → Elt F ((cfgA pf hp).win w).elt :=
  (((cfgA pf hp).win w).blk t).view.read (Elt F) ((s₀ m ρ).mem (((cfgA pf hp).win w).arr.view.loc (c : Thread nD τ)))

/-- One point's step, at the blocks staged for it. -/
def step (c : Dev nD) (t : Fin (cfgA pf hp).N) (prev : S4096x2048.Idx → Elt F .f32) : S4096x2048.Idx → Elt F .f32 :=
  stepV (crd pf hp t) (lo pf (crd pf hp t)) (hi pf (crd pf hp t)) (rb pf (crd pf hp t))
    (iblk pf hp m ρ c (0 : Fin 4) t) (iblk pf hp m ρ c (1 : Fin 4) t) (iblk pf hp m ρ c (2 : Fin 4) t) prev

/-- The result's block after position `n`. -/
def traj (c : Dev nD) : (n : ℕ) → n < (cfgA pf hp).N → (S4096x2048.Idx → Elt F .f32)
  | 0, h => step pf hp m ρ c ⟨0, h⟩ (k0_pay1 (F := F))
  | n + 1, h => step pf hp m ρ c ⟨n + 1, h⟩ (traj c n (Nat.lt_of_succ_lt h))

/-- What it held before point `t`. -/
def prev (c : Dev nD) (t : Fin (cfgA pf hp).N) : S4096x2048.Idx → Elt F .f32 :=
  if h : t.val = 0 then k0_pay1 (F := F) else traj pf hp m ρ c (t.val - 1) (by omega)

theorem traj_eq (c : Dev nD) (t : Fin (cfgA pf hp).N) : traj pf hp m ρ c t.val t.isLt = step pf hp m ρ c t (prev pf hp m ρ c t) := by
  obtain ⟨n, hn⟩ := t
  cases n with
  | zero => rfl
  | succ n => unfold prev; simp only [Nat.add_one_ne_zero, dif_neg, not_false_eq_true]; rfl

/-- At the first point what was found does not matter. -/
theorem step_first (c : Dev nD) (t : Fin (cfgA pf hp).N) (h : t.val = 0) (y y' : S4096x2048.Idx → Elt F .f32) :
    step pf hp m ρ c t y = step pf hp m ρ c t y' := by
  unfold step stepV baseV
  simp only [if_pos (cond1_first pf hp t h)]

/-- At an idle point nothing changes. -/
theorem step_idle (c : Dev nD) (t : Fin (cfgA pf hp).N) (h : (cfgA pf hp).idle (3 : Fin 4) ((cfgA pf hp).grid.coords t) = true) (y : S4096x2048.Idx → Elt F .f32) :
    step pf hp m ρ c t y = y := by
  have h' := (idle_iff pf hp _).mp h
  unfold step stepV baseV
  rw [dif_neg (fun hh => h'.2 hh.1), if_neg h'.1]

/-- The body's halves of the tables. -/
def Phi (c : Dev nD) : sProp 𝕄 :=
  iprop((tb0.view.loc (c : Thread nD τ) ↦{fullShare.right} pf 0) ∗ (tb1.view.loc (c : Thread nD τ) ↦{fullShare.right} pf 1) ∗ (tb2.view.loc (c : Thread nD τ) ↦{fullShare.right} pf 2) ∗ (tb3.view.loc (c : Thread nD τ) ↦{fullShare.right} pf 3))

/-- The proof data of the one pipeline on core `c`. -/
def dats (_ : Fin 1) (c : Dev nD) : Dat τ (Elt F) Unit ℕ (UR sig nD τ) ℕ (cfgA pf hp) c where
  A w := (s₀ m ρ).mem (((cfgA pf hp).win w).arr.view.loc (c : Thread nD τ))
  after w t := match w with
    | ⟨0, _⟩ => iblk pf hp m ρ c (0 : Fin 4) t
    | ⟨1, _⟩ => iblk pf hp m ρ c (1 : Fin 4) t
    | ⟨2, _⟩ => iblk pf hp m ρ c (2 : Fin 4) t
    | ⟨3, _⟩ => traj pf hp m ρ c t.val t.isLt
  Φ _ := Phi pf c
  q _ := fullShare
  owed _ := 0

theorem after_0 (c : Dev nD) (t : Fin (cfgA pf hp).N) : (dats pf hp m ρ 0 c).after (0 : Fin 4) t = iblk pf hp m ρ c (0 : Fin 4) t := rfl
theorem after_1 (c : Dev nD) (t : Fin (cfgA pf hp).N) : (dats pf hp m ρ 0 c).after (1 : Fin 4) t = iblk pf hp m ρ c (1 : Fin 4) t := rfl
theorem after_2 (c : Dev nD) (t : Fin (cfgA pf hp).N) : (dats pf hp m ρ 0 c).after (2 : Fin 4) t = iblk pf hp m ρ c (2 : Fin 4) t := rfl
theorem after_3 (c : Dev nD) (t : Fin (cfgA pf hp).N) : (dats pf hp m ρ 0 c).after (3 : Fin 4) t = traj pf hp m ρ c t.val t.isLt := rfl

/-- The three inputs hold their blocks. -/
theorem before_0 (c : Dev nD) (t : Fin (cfgA pf hp).N) (d) : (dats pf hp m ρ 0 c).before (0 : Fin 4) t d = iblk pf hp m ρ c (0 : Fin 4) t :=
  ((dats pf hp m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hp).N) (d) : (dats pf hp m ρ 0 c).before (1 : Fin 4) t d = iblk pf hp m ρ c (1 : Fin 4) t :=
  ((dats pf hp m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA pf hp).N) (d) : (dats pf hp m ρ 0 c).before (2 : Fin 4) t d = iblk pf hp m ρ c (2 : Fin 4) t :=
  ((dats pf hp m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

theorem carry_3 (c : Dev nD) : ∀ (t : Fin (cfgA pf hp).N) (ht : t.val ≠ 0), (cfgA pf hp).idle (3 : Fin 4) ((cfgA pf hp).grid.coords t) = true → (cfgA pf hp).fresh (3 : Fin 4) t.val = false →
    (dats pf hp m ρ 0 c).after (3 : Fin 4) t = (dats pf hp m ρ 0 c).after (3 : Fin 4) ⟨t.val - 1, by omega⟩ := by
  intro t ht hi hf
  rw [after_3, after_3, traj_eq, step_idle pf hp m ρ c t hi]
  unfold prev; rw [dif_neg ht]

/-- After the first point the result's buffer holds what the point before left. -/
theorem before_3 (c : Dev nD) (t : Fin (cfgA pf hp).N) (h0 : t.val ≠ 0) (d) : (dats pf hp m ρ 0 c).before (3 : Fin 4) t d = prev pf hp m ρ c t := by
  have hf : (cfgA pf hp).fresh (3 : Fin 4) t.val = false := fresh3 pf hp t.val (lt_of_lt_of_eq t.isLt (N_A pf hp)) h0
  rw [(dats pf hp m ρ 0 c).before_out_traj (3 : Fin 4) rfl (fun _ _ => rfl) (carry_3 pf hp m ρ c) t.val t rfl d, hf, if_neg Bool.false_ne_true, after_3]
  unfold prev; rw [dif_neg h0]

/-- The step from what the point finds is the next position of the trajectory. -/
theorem step_before (c : Dev nD) (t : Fin (cfgA pf hp).N) (d) :
    step pf hp m ρ c t ((dats pf hp m ρ 0 c).before (3 : Fin 4) t d) = traj pf hp m ρ c t.val t.isLt := by
  rw [traj_eq]
  by_cases h0 : t.val = 0
  · exact step_first pf hp m ρ c t h0 _ _
  · rw [before_3 pf hp m ρ c t h0 d]

/-- The body at point `t` on its staging memrefs, as the pipeline calls it. -/
abbrev bodyAt (t : Fin (cfgA pf hp).N) : Prog (TpuEff nD τ sig (Elt F) Λ₀ .tc) PUnit :=
  cc0__gmm_body (crd pf hp t) (Memref.whole main_arg0) (Memref.isWhole_whole _) (Memref.whole main_arg1) (Memref.isWhole_whole _) (Memref.whole main_arg2) (Memref.isWhole_whole _) (Memref.whole main_arg3) (Memref.isWhole_whole _) (ms0 pf hp t) (hs0 pf hp t) (ms1 pf hp t) (hs1 pf hp t) (ms2 pf hp t) (hs2 pf hp t) (ms3 pf hp t) (hs3 pf hp t)

/-- What the obligation asks of the result's window after the body, from the trajectory's next position. -/
theorem post_3 (c : Dev nD) (t : Fin (cfgA pf hp).N) :
    (owns (c : Thread nD τ) (ms3 pf hp t) fullShare (traj pf hp m ρ c t.val t.isLt) : sProp 𝕄)
      ⊢ (match (cfgA pf hp).idle (3 : Fin 4) ((cfgA pf hp).grid.coords t) with
                | true =>
                  match ((cfgA pf hp).win (3 : Fin 4)).flush t with
                  | false => iprop(∃ d, owns (c : Thread nD τ) (((cfgA pf hp).win (3 : Fin 4)).stage ((cfgA pf hp).slots t (3 : Fin 4))) fullShare ((dats pf hp m ρ 0 c).before (3 : Fin 4) t d))
                  | true => owns (c : Thread nD τ) (((cfgA pf hp).win (3 : Fin 4)).stage ((cfgA pf hp).slots t (3 : Fin 4))) fullShare ((dats pf hp m ρ 0 c).after (3 : Fin 4) t)
                | false => owns (c : Thread nD τ) (((cfgA pf hp).win (3 : Fin 4)).stage ((cfgA pf hp).slots t (3 : Fin 4))) fullShare ((dats pf hp m ρ 0 c).after (3 : Fin 4) t)) := by
  cases hi : (cfgA pf hp).idle (3 : Fin 4) ((cfgA pf hp).grid.coords t)
  · iintro H; iexact H
  · cases hf : ((cfgA pf hp).win (3 : Fin 4)).flush t
    · have h0 : t.val ≠ 0 := fun h => ((idle_iff pf hp _).mp hi).1 (cond1_first pf hp t h)
      have e : traj pf hp m ρ c t.val t.isLt = (dats pf hp m ρ 0 c).before (3 : Fin 4) t (k0_pay1 (F := F)) := by
        rw [before_3 pf hp m ρ c t h0, traj_eq, step_idle pf hp m ρ c t hi]
      rw [e]
      iintro H; iexists _; iexact H
    · iintro H; iexact H

set_option maxHeartbeats 4000000 in
/-- The body's obligation at point `t`. -/
theorem sound_body (c : Dev nD) (t : Fin (cfgA pf hp).N) :
    iprop((dats pf hp m ρ 0 c).Φ t.castSucc ∗ (dats pf hp m ρ 0 c).owesAt () t.castSucc
        ∗ (∃ d, owns (c : Thread nD τ) (ms0 pf hp t) fullShare ((dats pf hp m ρ 0 c).before (0 : Fin 4) t d))
        ∗ (∃ d, owns (c : Thread nD τ) (ms1 pf hp t) fullShare ((dats pf hp m ρ 0 c).before (1 : Fin 4) t d))
        ∗ (∃ d, owns (c : Thread nD τ) (ms2 pf hp t) fullShare ((dats pf hp m ρ 0 c).before (2 : Fin 4) t d))
        ∗ (∃ d, owns (c : Thread nD τ) (ms3 pf hp t) fullShare ((dats pf hp m ρ 0 c).before (3 : Fin 4) t d)))
      ⊢ wp frame (wpE (defs₀ (F := F)) Variants.none c none) Set.univ (bodyAt pf hp t) fun _ =>
          iprop((dats pf hp m ρ 0 c).Φ t.succ ∗ (dats pf hp m ρ 0 c).owesAt () t.succ
            ∗ bigSep Finset.univ fun w : Fin (cfgA pf hp).W =>
                match (cfgA pf hp).idle w ((cfgA pf hp).grid.coords t) with
                | true =>
                  match ((cfgA pf hp).win w).flush t with
                  | false => iprop(∃ d, owns (c : Thread nD τ) (((cfgA pf hp).win w).stage ((cfgA pf hp).slots t w)) fullShare ((dats pf hp m ρ 0 c).before w t d))
                  | true => owns (c : Thread nD τ) (((cfgA pf hp).win w).stage ((cfgA pf hp).slots t w)) fullShare ((dats pf hp m ρ 0 c).after w t)
                | false => owns (c : Thread nD τ) (((cfgA pf hp).win w).stage ((cfgA pf hp).slots t w)) fullShare ((dats pf hp m ρ 0 c).after w t)) := by
  rw [bigSep_W0]
  simp only [before_0, before_1, before_2, after_0, after_1, after_2]
  rewrite [show (dats pf hp m ρ 0 c).Φ t.succ = Phi pf c from rfl, show (dats pf hp m ρ 0 c).Φ t.castSucc = Phi pf c from rfl,
    show (dats pf hp m ρ 0 c).owesAt () t.succ = (dats pf hp m ρ 0 c).owesAt () t.castSucc from rfl]
  unfold Phi
  iintro ⟨⟨HT0, HT1, HT2, HT3⟩, Ho, ⟨%d0, H0⟩, ⟨%d1, H1⟩, ⟨%d2, H2⟩, ⟨%d3, H3⟩⟩
  iapply (run_body c (crd pf hp t) (ms0 pf hp t) (hs0 pf hp t) (ms1 pf hp t) (hs1 pf hp t) (ms2 pf hp t) (hs2 pf hp t) (ms3 pf hp t) (hs3 pf hp t) (pf 0) (pf 1) (pf 2) (pf 3)
    (iblk pf hp m ρ c (0 : Fin 4) t) (iblk pf hp m ρ c (1 : Fin 4) t) (iblk pf hp m ρ c (2 : Fin 4) t) ((dats pf hp m ρ 0 c).before (3 : Fin 4) t d3)
    (off3_inb _ (rb_lt pf hp _)) _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [HT2]; · iexact HT2
  isplitl [HT3]; · iexact HT3
  isplitl [H3]; · iapply rep_of_owns; iexact H3
  iintro ⟨H0, H1, H2, HT0, HT1, HT2, HT3, H3⟩
  isplitl [HT0 HT1 HT2 HT3]
  · isplitl [HT0]
    · iexact HT0
    isplitl [HT1]
    · iexact HT1
    isplitl [HT2]
    · iexact HT2
    iexact HT3
  isplitl [Ho]; · iexact Ho
  isplitl [H0]
  · iapply owns_of_rep; iexact H0
  isplitl [H1]
  · iapply owns_of_rep; iexact H1
  isplitl [H2]
  · iapply owns_of_rep; iexact H2
  iapply (post_3 pf hp m ρ c t)
  have e := step_before pf hp m ρ c t d3
  unfold step at e
  rw [← e]
  iexact H3

/-- The library's body obligation, at every point. -/
theorem body_obligation (c : Dev nD) : BodyObligation (dats pf hp m ρ 0 c) (defs₀ (F := F)) Variants.none () Set.univ := fun t => by
  rw [bigSep_W0]
  exact sound_body pf hp m ρ c t

/-! ## The launch -/

/-- The rounds library's launch element. -/
def u₀ : UR sig nD τ :=
  initOf (Pipeline.cells (pcs pf hp) ((launch0 (F := F)).cellOf_inj fun _ => adm pf hp))
    (Pipeline.launchToks (pcs pf hp) ((launch0 (F := F)).cellOf_inj fun _ => adm pf hp))

theorem share_eq (c : Dev nD) (w : Fin (cfgA pf hp).W) : (dats pf hp m ρ 0 c).share w = fullShare := by unfold Dat.share; split <;> rfl

/-- The tables as the launch hands them to the region, one by one. -/
theorem prefHeld_eq (c : Dev nD) (q : Fin 4 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem phi_intro (c : Dev nD) :
    iprop(BI.emp ∗ Pipeline.prefHeld pre0 c (fun _ => fullShare.right) (adm pf hp).1 ∗ Pipeline.scopedRest spec0 c) ⊢ (dats pf hp m ρ 0 c).Φ 0 := by
  rw [prefHeld_eq, scopedRest0_eq, show (dats pf hp m ρ 0 c).Φ 0 = Phi pf c from rfl]
  unfold Phi
  iintro ⟨-, ⟨HT0, HT1, HT2, HT3⟩, -⟩
  isplitl [HT0]
  · iexact HT0
  isplitl [HT1]
  · iexact HT1
  isplitl [HT2]
  · iexact HT2
  iexact HT3

theorem phi_exit (c : Dev nD) : (dats pf hp m ρ 0 c).Φ (Fin.last (cfgA pf hp).N) ⊢ iprop(BI.emp ∗ Pipeline.scopedRest spec0 c) := by
  rw [scopedRest0_eq, show (dats pf hp m ρ 0 c).Φ (Fin.last (cfgA pf hp).N) = Phi pf c from rfl]
  unfold Phi
  iintro ⟨-, -, -, -⟩
  isplitr; · iempintro
  iempintro

/-- Every array at what the pipeline computes, every table as it was. -/
def QC : PUnit × MemSt nD τ sig (Elt F) → Prop := fun r =>
  ∀ c : Dev nD, (∀ w : Fin (cfgA pf hp).W, r.2.mem (((cfgA pf hp).win w).arr.view.loc (c : Thread nD τ)) = (dats pf hp m ρ 0 c).arrAt w (cfgA pf hp).N)
    ∧ ∀ j, r.2.mem ((c : Thread nD τ).loc (pre0.ref j)) = (adm pf hp).1 j

set_option backward.isDefEq.respectTransparency.types false in
set_option maxHeartbeats 4000000 in
/-- The whole run, from a memory whose tables are `pf` on every device. -/
theorem run_all (hm : ∀ (c : Dev nD) (j : Fin 4), m ((c : Thread nD τ).loc (pre0.ref j)) = pf j) :
    θ_run (defs (F := F)) (onTc (τ := τ) (main (F := F))) (s₀ m ρ) (fun r => QC pf hp m ρ r ∧ r.2.sem = fun _ => 0) :=
  Pipeline.θ_run_region_noSem_pf_quiescent pcfgs (fun _ => adm pf hp) (dats pf hp m ρ) () ((launch0 (F := F)).cellOf_inj fun _ => adm pf hp) (0 : Fin 1)
    (launch0 (F := F)).win.to₀ (launch0 (F := F)).pre EP defs₀ Variants.none m ρ main
    (hbody := fun c => (body_obligation pf hp m ρ c).loose) (hne := (launch0 (F := F)).block_pos)
    (harr := (launch0 (F := F)).arr_whole) (hstage := (launch0 (F := F)).stage_whole) (howed := fun _ _ => rfl)
    (u₀ := u₀ pf hp) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hp) (dats pf hp m ρ) 0 (launch0 (F := F)).win.arr_inj c (launch0 (F := F)).arr_whole
      (share_eq pf hp m ρ c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := phi_intro pf hp m ρ)
    (hout := phi_exit pf hp m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were, the counters at zero, and the result at what the last write-back left. -/
theorem run_post (hm : ∀ (c : Dev nD) (j : Fin 4), m ((c : Thread nD τ).loc (pre0.ref j)) = pf j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (r.2.sem = fun _ => 0)
      ∧ ∀ c : Dev nD, r.2.mem (((cfgA pf hp).win (3 : Fin 4)).arr.view.loc (c : Thread nD τ)) = (dats pf hp m ρ 0 c).arrAt (3 : Fin 4) (cfgA pf hp).N) :=
  (θ_run defs _ _).mono (fun _ h => ⟨fun c => ⟨((h.1 c).2 0).trans (hm c 0).symm, ((h.1 c).2 1).trans (hm c 1).symm, ((h.1 c).2 2).trans (hm c 2).symm, ((h.1 c).2 3).trans (hm c 3).symm,
      ((h.1 c).1 (0 : Fin 4)).trans ((dats pf hp m ρ 0 c).arrAt_in (0 : Fin 4) rfl _), ((h.1 c).1 (1 : Fin 4)).trans ((dats pf hp m ρ 0 c).arrAt_in (1 : Fin 4) rfl _),
      ((h.1 c).1 (2 : Fin 4)).trans ((dats pf hp m ρ 0 c).arrAt_in (2 : Fin 4) rfl _)⟩, h.2, fun c => (h.1 c).1 (3 : Fin 4)⟩) (run_all pf hp m ρ hm)

end Cert.Proof.Expt

end
-- ==== Proof.Expt.Blocks.lean ====
/-
  What the points of the experts' products call read: the item's words off the tables, and the three staged blocks at
  their places in the arrays.
-/
module

public import proofs.«01_k».proof.Proof.Expt.Run
public import proofs.«01_k».proof.Proof.Expt.Pay
public import Idealize.ShloMosaic.Lib.Pipeline.ValueKit

@[expose] public section

set_option maxRecDepth 16384

noncomputable section

namespace Cert.Proof.Expt

open Cert.ExpertsIdeal Cert.ExpertsIdeal.Gen
open Idealize.ShloMosaic
open Idealize.ShloMosaic.TcCoe
open Idealize.ShloMosaic.Pipeline (Dat Cfg Window)

variable {F : FTy → Type} [FloatOps F]
variable (pf : pre0.Contents (Elt F)) (hp : TabOK pf)
variable (m : (ℓ : Loc nD τ sig) → Buf (Elt F) ℓ) (ρ : Dev nD → PrngReg)

/-- The item a point works on. -/
abbrev item (i : grid0.Coords) : S15.Idx := ix1 (⟨(i 1).val, coord1_lt i⟩ : Fin 15)

/-- The place the body and the index maps read the tables at. -/
theorem place (i : grid0.Coords) (h : ∀ a, k0_off1 i a + S1.size a ≤ S15.size a) (y : (Rect.unit (s := S15) (k0_off1 i) S1.size h).shape.Idx) :
    (Rect.unit (s := S15) (k0_off1 i) S1.size h).emb y = item i := by
  refine funext (Fin.forall_fin_one.mpr (Fin.ext ?_))
  have hy : (y 0).val = 0 := by have := (y 0).isLt; exact Nat.lt_one_iff.mp this
  have hc := coord1_lt i
  rw [Rect.emb_apply]
  show (BitVec.ofNat 32 (i 1).val).toNat + 1 * (y 0).val = (i 1).val
  rw [hy, BitVec.toNat_ofNat]
  omega

theorem lo_eq (i : grid0.Coords) : lo pf i = pf 2 (item i) := congrArg (pf 2) (place i _ _)
theorem hi_eq (i : grid0.Coords) : hi pf i = pf 3 (item i) := congrArg (pf 3) (place i _ _)
theorem rb_eq (i : grid0.Coords) : rb pf i = pf 1 (item i) := congrArg (pf 1) (place i _ _)

theorem index0 (t : Fin (cfgA pf hp).N) : ((cfgA pf hp).win (0 : Fin 4)).index t = ![(pf 1 (item (crd pf hp t)) : BitVec 32).toNat, 0] := by
  exact congrArg (fun k => ![(pf 1 k : BitVec 32).toNat, 0]) (place (crd pf hp t) (k0_off1_inb _) _)

theorem index1 (t : Fin (cfgA pf hp).N) : ((cfgA pf hp).win (1 : Fin 4)).index t = ![(pf 0 (item (crd pf hp t)) : BitVec 32).toNat, 0, (crd pf hp t 0).val] := by
  rw [← ofNat_coord0]
  exact congrArg (fun k => ![(pf 0 k : BitVec 32).toNat, 0, (BitVec.ofNat 32 (crd pf hp t 0).val).toNat]) (place (crd pf hp t) (k0_off1_inb _) _)

theorem index2 (t : Fin (cfgA pf hp).N) : ((cfgA pf hp).win (2 : Fin 4)).index t = ![(pf 0 (item (crd pf hp t)) : BitVec 32).toNat, (crd pf hp t 0).val, 0] := by
  rw [← ofNat_coord0]
  exact congrArg (fun k => ![(pf 0 k : BitVec 32).toNat, (BitVec.ofNat 32 (crd pf hp t 0).val).toNat, 0]) (place (crd pf hp t) (k0_off1_inb _) _)

/-- The item's expert and its row block. -/
def ex (hp : TabOK pf) (j : Fin 15) : Fin 8 := ⟨(pf 0 (ix1 j) : BitVec 32).toNat, hp.1 _⟩
def blkOf (hp : TabOK pf) (j : Fin 15) : Fin 8 := ⟨(pf 1 (ix1 j) : BitVec 32).toNat, hp.2 _⟩

/-- The two coordinates of a point. -/
abbrev c0 (t : Fin (cfgA pf hp).N) : Fin 8 := ⟨(crd pf hp t 0).val, coord0_lt _⟩
abbrev c1 (t : Fin (cfgA pf hp).N) : Fin 15 := ⟨(crd pf hp t 1).val, coord1_lt _⟩

/-- Place `a` of group `i`. -/
def at512 (i : Fin 8) (a : Fin 512) : Fin 4096 := ⟨i.val * 512 + a.val, by omega⟩

theorem iblk0_apply (c : Dev nD) (t : Fin (cfgA pf hp).N) (p : Fin 512) (k : Fin 2048) :
    (iblk pf hp m ρ c (0 : Fin 4) t : S512x2048.Idx → Elt F .f32) (ix2 p k)
      = (m ((c.tc : Thread nD τ).loc main_arg4) : S4096x2048.Idx → Elt F .f32) (ix2 (at512 (blkOf pf hp (c1 pf hp t)) p) k) := by
  unfold iblk
  refine (View.read_apply _ _).trans ?_
  refine congrArg (m ((c.tc : Thread nD τ).loc main_arg4) : S4096x2048.Idx → Elt F .f32) (funext (Fin.forall_fin_two.mpr ⟨Fin.ext ?_, Fin.ext ?_⟩))
  · refine (Pipeline.Window.rect_emb_val ((cfgA pf hp).win (0 : Fin 4)) t _ 0 rfl).trans ?_
    rw [index0]
    rfl
  · refine (Pipeline.Window.rect_emb_val ((cfgA pf hp).win (0 : Fin 4)) t _ 1 rfl).trans ?_
    rw [index0]
    exact Nat.zero_add _

theorem iblk1_apply (c : Dev nD) (t : Fin (cfgA pf hp).N) (k : Fin 2048) (f : Fin 512) :
    (iblk pf hp m ρ c (1 : Fin 4) t : S1x2048x512.Idx → Elt F .f32) (ix3 0 k f)
      = (m ((c.tc : Thread nD τ).loc main_arg5) : S8x2048x4096.Idx → Elt F .f32) (ix3 (ex pf hp (c1 pf hp t)) k (at512 (c0 pf hp t) f)) := by
  unfold iblk
  refine (View.read_apply _ _).trans ?_
  refine congrArg (m ((c.tc : Thread nD τ).loc main_arg5) : S8x2048x4096.Idx → Elt F .f32)
    (funext (Fin.forall_fin_succ.mpr ⟨Fin.ext ?_, Fin.forall_fin_two.mpr ⟨Fin.ext ?_, Fin.ext ?_⟩⟩))
  · refine (Pipeline.Window.rect_emb_val ((cfgA pf hp).win (1 : Fin 4)) t _ 0 rfl).trans ?_
    rw [index1]
    exact Nat.mul_one _
  · refine (Pipeline.Window.rect_emb_val ((cfgA pf hp).win (1 : Fin 4)) t _ 1 rfl).trans ?_
    rw [index1]
    exact Nat.zero_add _
  · refine (Pipeline.Window.rect_emb_val ((cfgA pf hp).win (1 : Fin 4)) t _ 2 rfl).trans ?_
    rw [index1]
    rfl

theorem iblk2_apply (c : Dev nD) (t : Fin (cfgA pf hp).N) (f : Fin 512) (q : Fin 2048) :
    (iblk pf hp m ρ c (2 : Fin 4) t : S1x512x2048.Idx → Elt F .f32) (ix3 0 f q)
      = (m ((c.tc : Thread nD τ).loc main_arg6) : S8x4096x2048.Idx → Elt F .f32) (ix3 (ex pf hp (c1 pf hp t)) (at512 (c0 pf hp t) f) q) := by
  unfold iblk
  refine (View.read_apply _ _).trans ?_
  refine congrArg (m ((c.tc : Thread nD τ).loc main_arg6) : S8x4096x2048.Idx → Elt F .f32)
    (funext (Fin.forall_fin_succ.mpr ⟨Fin.ext ?_, Fin.forall_fin_two.mpr ⟨Fin.ext ?_, Fin.ext ?_⟩⟩))
  · refine (Pipeline.Window.rect_emb_val ((cfgA pf hp).win (2 : Fin 4)) t _ 0 rfl).trans ?_
    rw [index2]
    exact Nat.mul_one _
  · refine (Pipeline.Window.rect_emb_val ((cfgA pf hp).win (2 : Fin 4)) t _ 1 rfl).trans ?_
    rw [index2]
    rfl
  · refine (Pipeline.Window.rect_emb_val ((cfgA pf hp).win (2 : Fin 4)) t _ 2 rfl).trans ?_
    rw [index2]
    exact Nat.zero_add _

end Cert.Proof.Expt

end
-- ==== Proof.Expt.Sums.lean ====
/-
  The sums behind the experts' products: the grid's points taken item by item and feature block by feature block, and
  the expert's products gathered by how often an item lists a row.
-/
module

public import Idealize.ShloMosaic.PureOps.Ideal.Laws
public import Idealize.ShloMosaic.Lib.Pointwise

@[expose] public section

namespace Cert.Proof.Expt

open scoped BigOperators

/-- A sum over `a * b` places as a sum over `a` groups of `b`. -/
theorem sum_groups (a b : ℕ) (g : ℕ → EReal) : ∑ s : Fin (a * b), g s.val = ∑ i : Fin a, ∑ j : Fin b, g (j.val + b * i.val) := by
  rw [← finProdFinEquiv.sum_comp, Fintype.sum_prod_type]
  rfl

/-- The grid's points, taken as feature blocks by items. -/
theorem sum_points (g : ℕ → ℕ → EReal) : ∑ s ∈ Finset.range 120, g (s / 15) (s % 15) = ∑ j : Fin 15, ∑ i : Fin 8, g i.val j.val := by
  rw [Finset.sum_range, Finset.sum_comm]
  refine (sum_groups 8 15 fun s => g (s / 15) (s % 15)).trans ?_
  refine Finset.sum_congr rfl fun i _ => Finset.sum_congr rfl fun j _ => ?_
  have hj := j.isLt
  rw [show (j.val + 15 * i.val) / 15 = i.val by omega, show (j.val + 15 * i.val) % 15 = j.val by omega]

/-- A product over a sum of ones and zeros. -/
theorem mul_count {ι : Type*} (s : Finset ι) (y : EReal) (P : ι → Prop) [DecidablePred P] :
    y * ∑ j ∈ s, (if P j then (1 : EReal) else 0) = ∑ j ∈ s, if P j then y else 0 := by
  classical
  induction s using Finset.induction_on with
  | empty => rw [Finset.sum_empty, Finset.sum_empty, mul_zero]
  | insert a s ha ih =>
    rw [Finset.sum_insert ha, Finset.sum_insert ha, EReal.left_distrib_of_nonneg, ih]
    · congr 1
      split <;> simp
    · split <;> simp
    · exact Finset.sum_nonneg fun j _ => by split <;> simp

/-- The experts' products weighed by how often the items list the row: one product for every item that does. -/
theorem sum_experts (Y : Fin 8 → EReal) (P : Fin 15 → Prop) [DecidablePred P] (e : Fin 15 → Fin 8) :
    ∑ x : Fin 8, Y x * ∑ j : Fin 15, (if P j ∧ e j = x then (1 : EReal) else 0) = ∑ j : Fin 15, if P j then Y (e j) else 0 := by
  simp only [mul_count]
  rw [Finset.sum_comm]
  refine Finset.sum_congr rfl fun j _ => ?_
  by_cases h : P j
  · simp only [h, true_and, if_true]
    rw [Finset.sum_ite_eq, if_pos (Finset.mem_univ _)]
  · simp only [h, false_and, if_false]
    exact Finset.sum_const_zero

/-- An item's products over the eight blocks of hidden features: the whole product where it lists the row, else zero. -/
theorem sum_item (A B : ℕ → EReal) (P : Prop) [Decidable P] :
    ∑ i : Fin 8, ∑ f : Fin 512, (A (f.val + 512 * i.val) * (if P then (1 : EReal) else 0)) * B (f.val + 512 * i.val)
      = if P then ∑ f : Fin 4096, A f.val * B f.val else 0 := by
  by_cases h : P
  · simp only [h, if_true, mul_one]
    exact (sum_groups 8 512 fun f => A f * B f).symm
  · simp only [h, if_false, mul_zero, zero_mul, Finset.sum_const_zero]

end Cert.Proof.Expt
-- ==== Proof.Expt.Value.lean ====
/-
  The value of the experts' products call: every point adds its item's product over one block of hidden features, and
  what is left after the last point is the sum of them all.
-/
module

public import proofs.«01_k».proof.Proof.Expt.Blocks
public import proofs.«01_k».proof.Proof.Expt.Sums

@[expose] public section

set_option maxRecDepth 16384

noncomputable section

namespace Cert.Proof.Expt

open Cert.ExpertsIdeal Cert.ExpertsIdeal.Gen
open Idealize.ShloMosaic
open Idealize.ShloMosaic.TcCoe
open Idealize.ShloMosaic.Pipeline (Dat Cfg Window)

variable (pf : pre0.Contents (Elt Ideal)) (hp : TabOK pf)
variable (m : (ℓ : Loc nD τ sig) → Buf (Elt Ideal) ℓ) (ρ : Dev nD → PrngReg)

/-- Item `j` lists row `r`. -/
def Listed (pf : pre0.Contents (Elt Ideal)) (j : Fin 15) (r : Fin 4096) : Prop :=
  (pf 1 (ix1 j) : BitVec 32).toNat = r.val / 512 ∧ (pf 2 (ix1 j) : BitVec 32).sle (BitVec.ofNat 32 (r.val % 512)) = true
    ∧ (BitVec.ofNat 32 (r.val % 512)).slt (pf 3 (ix1 j) : BitVec 32) = true

instance (j : Fin 15) (r : Fin 4096) : Decidable (Listed pf j r) := inferInstanceAs (Decidable (_ ∧ _ ∧ _))

/-- A hidden feature of a row under an expert. -/
def hid (X : RowsT) (U : UpT) (e : Fin 8) (r f : Fin 4096) : EReal := ∑ k : Fin 2048, X (ix2 r k) * U (ix3 e k f)

/-- What item `j` adds to row `r` over the block `i` of hidden features. -/
def contrib (X : RowsT) (U : UpT) (D : DownT) (i : Fin 8) (j : Fin 15) (r : Fin 4096) (q : Fin 2048) : EReal :=
  ∑ f : Fin 512, (gelu (hid X U (ex pf hp j) r (at512 i f)) * (if Listed pf j r then (1 : EReal) else 0)) * D (ix3 (ex pf hp j) (at512 i f) q)

theorem contrib_idle (X : RowsT) (U : UpT) (D : DownT) (i : Fin 8) (j : Fin 15) (r : Fin 4096) (q : Fin 2048) (h : ¬ Listed pf j r) :
    contrib pf hp X U D i j r q = 0 := by
  unfold contrib
  simp only [if_neg h, mul_zero, zero_mul, Finset.sum_const_zero]

/-- The item's range of places is not empty. -/
theorem cond2_of (lo hi : BitVec 32) (p : ℕ) (h1 : lo.sle (BitVec.ofNat 32 p) = true) (h2 : (BitVec.ofNat 32 p).slt hi = true) :
    k0_cond2 lo hi = 1#1 := by
  have hlt : lo.slt hi = true := by
    rw [BitVec.slt_iff_toInt_lt] at h2 ⊢
    rw [BitVec.sle_iff_toInt_le] at h1
    omega
  have : IntOp.cmpi CmpIPredicate.sgt hi lo = 1#1 := ofBool_one_iff.mpr hlt
  show Scalar.cmpi CmpIPredicate.ne (Scalar.extui (IntOp.cmpi CmpIPredicate.sgt hi lo)) 0#32 = 1#1
  rw [this]
  rfl

abbrev XA (c : Dev nD) : RowsT := m ((c.tc : Thread nD τ).loc main_arg4)
abbrev UA (c : Dev nD) : UpT := m ((c.tc : Thread nD τ).loc main_arg5)
abbrev DA (c : Dev nD) : DownT := m ((c.tc : Thread nD τ).loc main_arg6)

/-- An item's product added onto its row block, at an element. -/
theorem addV_apply (lo hi rb : BitVec 32) (B : Fin 8) (hB : k0_off3 rb = ![B.val * 512, 0]) (x0 : S512x2048.Idx → EReal) (x1 : S1x2048x512.Idx → EReal)
    (x2 : S1x512x2048.Idx → EReal) (z : S4096x2048.Idx → EReal) (h : ∀ a, k0_off3 rb a + S512x2048.size a ≤ S4096x2048.size a) (r : Fin 4096) (q : Fin 2048) :
    (addV (F := Ideal) lo hi rb x0 x1 x2 z h : S4096x2048.Idx → EReal) (ix2 r q)
      = if B.val = r.val / 512 then
          z (ix2 r q) + ∑ f : Fin 512, (gelu (∑ k : Fin 2048, x0 (ix2 (⟨r.val % 512, Nat.mod_lt _ (by decide)⟩ : Fin 512) k) * x1 (ix3 0 k f)) * msk lo hi (r.val % 512)) * x2 (ix3 0 f q)
        else z (ix2 r q) := by
  unfold addV VecWindow.put
  by_cases hr : B.val = r.val / 512
  · have hmem : ∀ a, k0_off3 rb a ≤ ((ix2 r q : S4096x2048.Idx) a).val
        ∧ ((ix2 r q : S4096x2048.Idx) a).val < k0_off3 rb a + S512x2048.size a := by
      rw [hB]
      refine Fin.forall_fin_two.mpr ⟨?_, ?_⟩
      · show B.val * 512 ≤ r.val ∧ r.val < B.val * 512 + 512
        omega
      · show 0 ≤ q.val ∧ q.val < 0 + 2048
        have := q.isLt
        omega
    rw [dif_pos hmem, if_pos hr]
    have hloc : (show S512x2048.Idx from Rect.unitLocal (s := S4096x2048) (ix2 r q) hmem) = ix2 (⟨r.val % 512, Nat.mod_lt _ (by decide)⟩ : Fin 512) q := by
      refine funext (Fin.forall_fin_two.mpr ⟨Fin.ext ?_, Fin.ext ?_⟩)
      · refine (Rect.unitLocal_val (s := S4096x2048) _ hmem 0).trans ?_
        rw [hB]
        show r.val - B.val * 512 = r.val % 512
        omega
      · refine (Rect.unitLocal_val (s := S4096x2048) _ hmem 1).trans ?_
        rw [hB]
        exact Nat.sub_zero _
    have hwin : (VecWindow.window z (k0_off3 rb) S512x2048.size h : S512x2048.Idx → EReal) (ix2 (⟨r.val % 512, Nat.mod_lt _ (by decide)⟩ : Fin 512) q) = z (ix2 r q) := by
      unfold VecWindow.window
      refine congrArg z (funext (Fin.forall_fin_two.mpr ⟨Fin.ext ?_, Fin.ext ?_⟩))
      · rw [Rect.emb_apply]
        show k0_off3 rb 0 + 1 * (r.val % 512) = r.val
        rw [hB]
        show B.val * 512 + 1 * (r.val % 512) = r.val
        omega
      · rw [Rect.emb_apply]
        show 0 + 1 * q.val = q.val
        omega
    have key : ∀ (w : S512x2048.Idx → EReal) (j : S512x2048.Idx), j = ix2 (⟨r.val % 512, Nat.mod_lt _ (by decide)⟩ : Fin 512) q →
        w (ix2 (⟨r.val % 512, Nat.mod_lt _ (by decide)⟩ : Fin 512) q) = z (ix2 r q) →
        (k0_pay2 (F := Ideal) lo hi x0 x1 x2 w : S512x2048.Idx → EReal) j
          = z (ix2 r q) + ∑ f : Fin 512, (gelu (∑ k : Fin 2048, x0 (ix2 (⟨r.val % 512, Nat.mod_lt _ (by decide)⟩ : Fin 512) k) * x1 (ix3 0 k f)) * msk lo hi (r.val % 512)) * x2 (ix3 0 f q) := by
      intro w j hj hw
      rw [hj, pay2_apply, hw]
    exact key _ _ hloc hwin
  · rw [if_neg hr]
    refine dif_neg fun h => hr ?_
    have h0 := h 0
    rw [hB] at h0
    have h1 : B.val * 512 ≤ r.val ∧ r.val < B.val * 512 + 512 := h0
    omega

theorem step_apply (c : Dev nD) (t : Fin (cfgA pf hp).N) (y : S4096x2048.Idx → EReal) (r : Fin 4096) (q : Fin 2048) :
    (step pf hp m ρ c t y : S4096x2048.Idx → EReal) (ix2 r q)
      = (baseV (F := Ideal) (crd pf hp t) y : S4096x2048.Idx → EReal) (ix2 r q) + contrib pf hp (XA m c) (UA m c) (DA m c) (c0 pf hp t) (c1 pf hp t) r q := by
  unfold step stepV
  generalize baseV (F := Ideal) (crd pf hp t) y = z
  have hin := off3_inb _ (rb_lt pf hp (crd pf hp t))
  have hoff : k0_off3 (rb pf (crd pf hp t)) = ![(blkOf pf hp (c1 pf hp t)).val * 512, 0] := by
    have h8 := (blkOf pf hp (c1 pf hp t)).isLt
    have e : (rb pf (crd pf hp t)).toNat = (blkOf pf hp (c1 pf hp t)).val := by rw [rb_eq]; rfl
    refine funext (Fin.forall_fin_two.mpr ⟨?_, rfl⟩)
    show (Scalar.muli (rb pf (crd pf hp t)) 512#32).toNat = (blkOf pf hp (c1 pf hp t)).val * 512
    have : (Scalar.muli (rb pf (crd pf hp t)) 512#32).toNat = (rb pf (crd pf hp t)).toNat * 512 % 4294967296 := BitVec.toNat_mul _ _
    omega
  by_cases hc2 : k0_cond2 (lo pf (crd pf hp t)) (hi pf (crd pf hp t)) = 1#1
  · rw [dif_pos ⟨hc2, hin⟩]
    refine (addV_apply _ _ _ (blkOf pf hp (c1 pf hp t)) hoff _ _ _ z hin r q).trans ?_
    by_cases hr : (blkOf pf hp (c1 pf hp t)).val = r.val / 512
    · have hback : at512 (blkOf pf hp (c1 pf hp t)) (⟨r.val % 512, Nat.mod_lt _ (by decide)⟩ : Fin 512) = r := by
        refine Fin.ext ?_
        show (blkOf pf hp (c1 pf hp t)).val * 512 + r.val % 512 = r.val
        omega
      rw [if_pos hr]
      unfold contrib
      refine congrArg (z (ix2 r q) + ·) (Finset.sum_congr rfl fun f _ => ?_)
      refine congrArg₂ (· * ·) (congrArg₂ (· * ·) (congrArg gelu (Finset.sum_congr rfl fun k _ => congrArg₂ (· * ·) ?_ ?_)) ?_) ?_
      · exact (iblk0_apply pf hp m ρ c t _ k).trans (by rw [hback])
      · exact iblk1_apply pf hp m ρ c t k f
      · unfold msk
        refine if_congr ?_ rfl rfl
        rw [lo_eq, hi_eq]
        exact ⟨fun h => ⟨hr, h⟩, fun h => h.2⟩
      · exact iblk2_apply pf hp m ρ c t f q
    · rw [if_neg hr, contrib_idle pf hp _ _ _ _ _ _ _ (fun h => hr h.1), add_zero]
  · rw [dif_neg fun h => hc2 h.1, contrib_idle pf hp _ _ _ _ _ _ _ (fun h => hc2 ?_), add_zero]
    rw [lo_eq, hi_eq]
    exact cond2_of _ _ _ h.2.1 h.2.2

end Cert.Proof.Expt

end
-- ==== Proof.Expt.Total.lean ====
/-
  What the experts' products call leaves: the sum over its grid, gathered item by item, is the reference's result.
-/
module

public import proofs.«01_k».proof.Proof.Expt.Value

@[expose] public section

set_option maxRecDepth 16384

noncomputable section

namespace Cert.Proof.Expt

open Cert.ExpertsIdeal Cert.ExpertsIdeal.Gen
open Idealize.ShloMosaic
open Idealize.ShloMosaic.TcCoe
open Idealize.ShloMosaic.Pipeline (Dat Cfg Window)

variable (pf : pre0.Contents (Elt Ideal)) (hp : TabOK pf)
variable (m : (ℓ : Loc nD τ sig) → Buf (Elt Ideal) ℓ) (ρ : Dev nD → PrngReg)

/-- The grid runs the items inside the blocks of hidden features. -/
theorem coords_val (t : Fin (cfgA pf hp).N) : (crd pf hp t 0).val = t.val / 15 ∧ (crd pf hp t 1).val = t.val % 15 := by
  have : ∀ t : Fin grid0.N, (grid0.coords t 0).val = t.val / 15 ∧ (grid0.coords t 1).val = t.val % 15 := by decide +kernel
  exact this t

/-- What a point adds at an element, by its two coordinates. -/
def part (X : RowsT) (U : UpT) (D : DownT) (r : Fin 4096) (q : Fin 2048) (i j : ℕ) : EReal :=
  if h : i < 8 ∧ j < 15 then contrib pf hp X U D ⟨i, h.1⟩ ⟨j, h.2⟩ r q else 0

theorem part_at (X : RowsT) (U : UpT) (D : DownT) (t : Fin (cfgA pf hp).N) (r : Fin 4096) (q : Fin 2048) :
    part pf hp X U D r q (t.val / 15) (t.val % 15) = contrib pf hp X U D (c0 pf hp t) (c1 pf hp t) r q := by
  have h := coords_val pf hp t
  unfold part
  rw [← h.1, ← h.2, dif_pos ⟨coord0_lt _, coord1_lt _⟩]

theorem traj_apply (c : Dev nD) (r : Fin 4096) (q : Fin 2048) : ∀ (n : ℕ) (hn : n < (cfgA pf hp).N),
    (traj pf hp m ρ c n hn : S4096x2048.Idx → EReal) (ix2 r q)
      = ∑ s ∈ Finset.range (n + 1), part pf hp (XA m c) (UA m c) (DA m c) r q (s / 15) (s % 15)
  | 0, hn => by
    rw [Finset.sum_range_one]
    refine (step_apply pf hp m ρ c ⟨0, hn⟩ _ r q).trans ?_
    rw [← part_at pf hp (XA m c) (UA m c) (DA m c) ⟨0, hn⟩]
    unfold baseV
    rw [if_pos (cond1_first pf hp ⟨0, hn⟩ rfl), pay1_apply, zero_add]
  | n + 1, hn => by
    rw [Finset.sum_range_succ, ← traj_apply c r q n (Nat.lt_of_succ_lt hn)]
    refine (step_apply pf hp m ρ c ⟨n + 1, hn⟩ _ r q).trans ?_
    rw [← part_at pf hp (XA m c) (UA m c) (DA m c) ⟨n + 1, hn⟩]
    unfold baseV
    rw [if_neg]
    intro h
    have h0 := (cond1_iff _).mp h
    have h1 := coords_val pf hp ⟨n + 1, hn⟩
    have h2 : (n + 1) / 15 = 0 := h1.1.symm.trans h0.1
    have h3 : (n + 1) % 15 = 0 := h1.2.symm.trans h0.2
    omega

/-- An expert's product at a row. -/
def prod (X : RowsT) (U : UpT) (D : DownT) (e : Fin 8) (r : Fin 4096) (q : Fin 2048) : EReal :=
  ∑ f : Fin 4096, gelu (hid X U e r f) * D (ix3 e f q)

/-- The result's block after the last point: the product of every item that lists the row. -/
theorem traj_last (c : Dev nD) (h : 119 < (cfgA pf hp).N) (r : Fin 4096) (q : Fin 2048) :
    (traj pf hp m ρ c 119 h : S4096x2048.Idx → EReal) (ix2 r q)
      = ∑ j : Fin 15, if Listed pf j r then prod (XA m c) (UA m c) (DA m c) (ex pf hp j) r q else 0 := by
  rw [traj_apply, sum_points]
  refine Finset.sum_congr rfl fun j _ => ?_
  let A : ℕ → EReal := fun f => if h : f < 4096 then gelu (hid (XA m c) (UA m c) (ex pf hp j) r ⟨f, h⟩) else 0
  let B : ℕ → EReal := fun f => if h : f < 4096 then DA m c (ix3 (ex pf hp j) ⟨f, h⟩ q) else 0
  have hA : ∀ f : Fin 4096, A f.val = gelu (hid (XA m c) (UA m c) (ex pf hp j) r f) := fun f => dif_pos f.isLt
  have hB : ∀ f : Fin 4096, B f.val = DA m c (ix3 (ex pf hp j) f q) := fun f => dif_pos f.isLt
  have hs := sum_item A B (Listed pf j r)
  unfold prod
  simp only [← hA, ← hB]
  rw [← hs]
  refine Finset.sum_congr rfl fun i _ => ?_
  unfold part contrib
  rw [dif_pos ⟨i.isLt, j.isLt⟩]
  refine Finset.sum_congr rfl fun f _ => ?_
  have e : f.val + 512 * i.val = (at512 i f).val := by
    show f.val + 512 * i.val = i.val * 512 + f.val
    omega
  rw [e, hA, hB]

/-- The last point. -/
def last : Fin (cfgA pf hp).N := ⟨119, by rw [N_A]; decide⟩

theorem whole_last : ((cfgA pf hp).win (3 : Fin 4)).WholeAt (last pf hp) := by
  refine ⟨?_, fun t ht => ?_, Fin.forall_fin_two.mpr ⟨⟨rfl, rfl⟩, ⟨rfl, rfl⟩⟩⟩
  · rw [flush3]
    exact decide_eq_true rfl
  · rw [flush3] at ht
    have := of_decide_eq_true ht
    exact Fin.ext (by show t.val = 119; omega)

/-- The array the run ends with. -/
theorem arr_last (c : Dev nD) : (dats pf hp m ρ 0 c).arrAt (3 : Fin 4) (cfgA pf hp).N = traj pf hp m ρ c 119 (last pf hp).isLt :=
  Dat.arrAt_eq_of_after_last _ (3 : Fin 4) (last pf hp) (whole_last pf hp) _ (fun j => by rfl) (Memref.isWhole_whole _)

/-- The reference's product of an expert at a row. -/
theorem outR_prod (X : RowsT) (U : UpT) (D : DownT) (e : Fin 8) (r : Fin 4096) (q : Fin 2048) :
    (outR X U D : (⟨3, ![8, 4096, 2048]⟩ : Shape).Idx → EReal) (ix3 e r q) = prod X U D e r q := by
  rw [outR_apply]
  unfold prod
  refine Finset.sum_congr rfl fun f _ => ?_
  rw [gelR_apply, hidR_apply]
  rfl

theorem hotR_count (t0 t1 t2 t3 : Cert.ExpertsReferenceIdeal.S15.Idx → BitVec 32) (n : Fin 4096) (e : Fin 8) (P : Fin 15 → Prop) [DecidablePred P]
    (h : ∀ j, ((listR t1 t2 t3 : (⟨2, ![4096, 15]⟩ : Shape).Idx → BitVec 1) (ix2 n j) = 1#1 ∧ t0 (ix1 j) = BitVec.ofNat 32 e.val) ↔ P j) :
    (hotR t0 t1 t2 t3 : (⟨2, ![4096, 8]⟩ : Shape).Idx → EReal) (ix2 n e) = ∑ j : Fin 15, if P j then 1 else 0 :=
  (hotR_apply t0 t1 t2 t3 n e).trans (Finset.sum_congr rfl fun j _ => if_congr (h j) rfl rfl)

/-- What the reference counts. -/
theorem hot_iff (r : Fin 4096) (e : Fin 8) (j : Fin 15) :
    ((listR (pf 1) (pf 2) (pf 3) : (⟨2, ![4096, 15]⟩ : Shape).Idx → BitVec 1) (ix2 r j) = 1#1 ∧ (pf 0 (ix1 j) : BitVec 32) = BitVec.ofNat 32 e.val)
      ↔ Listed pf j r ∧ ex pf hp j = e := by
  refine and_congr (listR_apply (pf 1) (pf 2) (pf 3) r j (hp.2 _)) ?_
  have he := e.isLt
  have hx := hp.1 (ix1 j)
  constructor
  · intro h
    refine Fin.ext ?_
    show (pf 0 (ix1 j) : BitVec 32).toNat = e.val
    rw [h, BitVec.toNat_ofNat]
    omega
  · intro h
    rw [← h]
    refine BitVec.eq_of_toNat_eq ?_
    show (pf 0 (ix1 j) : BitVec 32).toNat = (BitVec.ofNat 32 (pf 0 (ix1 j) : BitVec 32).toNat).toNat
    rw [BitVec.toNat_ofNat]
    omega

/-- The reference's result, item by item. -/
theorem res_apply (X : RowsT) (U : UpT) (D : DownT) (r : Fin 4096) (q : Fin 2048) :
    (resR (pf 0) (pf 1) (pf 2) (pf 3) X U D : S4096x2048.Idx → EReal) (ix2 r q)
      = ∑ j : Fin 15, if Listed pf j r then prod X U D (ex pf hp j) r q else 0 := by
  refine (resR_apply _ _ _ _ _ _ _ r q).trans ?_
  rw [← sum_experts (fun e => prod X U D e r q) (fun j => Listed pf j r) (ex pf hp)]
  refine Finset.sum_congr rfl fun e _ => congrArg₂ (· * ·) (outR_prod X U D e r q) ?_
  exact hotR_count _ _ _ _ r e _ (hot_iff pf hp r e)

/-- The reference's result is what the run leaves. -/
theorem res_eq (c : Dev nD) (h : 119 < (cfgA pf hp).N) :
    (resR (pf 0) (pf 1) (pf 2) (pf 3) (XA m c) (UA m c) (DA m c) : S4096x2048.Idx → EReal) = traj pf hp m ρ c 119 h := by
  funext x
  rw [eq_ix2 x]
  exact (res_apply pf hp _ _ _ (x 0) (x 1)).trans (traj_last pf hp m ρ c h (x 0) (x 1)).symm

end Cert.Proof.Expt

end
-- ==== Proof.Whole.Setup.lean ====
/-
  The whole layer's launch, set up: the program as the launch theorem sees it and the ghost state (the handshakes' rounds,
  the TensorCore pipelines' rounds, the transfers' counters).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points

@[expose] public section

noncomputable section

namespace Cert.Proof.Whole

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 3) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UR : Type := URounds (GSem nD τ sig) Unit
abbrev UU : Type := UH × (UR × Counters)

local notation "𝕄" => MT nD τ sig (HIx 2) (Elt F) ℕ UU ℕ

abbrev EH : Emb UH (MT nD τ sig (HIx 2) (Elt F) ℕ UU ℕ) := embL
def EP : Emb UR (MT nD τ sig (HIx 2) (Elt F) ℕ UU ℕ) :=
  ((Emb.inl : Emb UR (UR × Counters)).trans (Emb.inr : Emb (UR × Counters) UU)).trans
    (uEmb (nD := nD) (sig := sig) (Ix := HIx 2) (Val := Elt F) (Name := ℕ) (U := UU) (Lvl := ℕ)).toEmb

instance EP_landsIn : (EP : Emb UR 𝕄).LandsIn (upEmb : UEmb _ 𝕄) := by unfold EP; infer_instance

end Cert.Proof.Whole

end
-- ==== Proof.Whole.SSetup.lean ====
/-
  The scatter within the whole layer: its arrays, the rows of the result each tile writes, and what the handshakes carry.
  A route says of every row of the result which row of the tokens, and which of its two words, names it.
-/
module

public import proofs.«01_k».proof.Proof.Whole.Setup

@[expose] public section

noncomputable section

namespace Cert.Proof.Whole.S

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the SparseCore call -/

abbrev xLoc (d : Dev nD) : Loc nD τ sig := (SparseCore.T d).loc main_v7
abbrev aLoc (d : Dev nD) : Loc nD τ sig := (SparseCore.T d).loc main_v16
abbrev bLoc (d : Dev nD) : Loc nD τ sig := (SparseCore.T d).loc main_v25
abbrev oLoc (d : Dev nD) : Loc nD τ sig := (SparseCore.T d).loc main_v26

/-- The index of the word that belongs to row `n` of the tokens. -/
def lix (n : Fin 16384) : S16384.Idx := fun a => ⟨n.val, by fin_cases a; exact n.isLt⟩

/-- Which row of the tokens is sent to a row of the result, and whether by its second word. -/
abbrev Route : Type := Fin 32768 → Fin 16384 × Bool

/-- The words of one list are those of a route: each names a row of the result, and the rows they name are the route's. -/
def Named (W : S16384.Idx → Elt F .i32) (R : Route) (b : Bool) : Prop :=
  ∀ n, (W (lix n) : BitVec 32).toNat < 32768 ∧ ∀ r : Fin 32768, (W (lix n) : BitVec 32).toNat = r.val ↔ R r = (n, b)

/-- Row `n` of the tokens at the place of `x` within its row. -/
def pick (n : Fin 16384) (x : S32768x2x128.Idx) : S16384x2x128.Idx := fun a => match a with
  | 0 => n
  | 1 => ⟨(x 1).val, (x 1).isLt⟩
  | 2 => ⟨(x 2).val, (x 2).isLt⟩

/-- The scattered rows: row `x 0` of the result is the row of the tokens that the route sends there. -/
def scat (X : S16384x2x128.Idx → Elt F .f32) (R : Route) : S32768x2x128.Idx → Elt F .f32 := fun x => X (pick (R (x 0)).1 x)

/-- The rows of the result that tile `i` of SparseCore `c` writes. -/
def tileSet (R : Route) (c : Fin 2) (i : Fin 16) : Finset S32768x2x128.Idx := Finset.univ.filter fun x => (R (x 0)).1.val / 512 = 2 * i.val + c.val
/-- The rows of the result that SparseCore `c` writes. -/
def coreSet (R : Route) (c : Fin 2) : Finset S32768x2x128.Idx := Finset.univ.filter fun x => (R (x 0)).1.val / 512 % 2 = c.val

section Sets

variable (R : Route)

theorem mem_tileSet {c : Fin 2} {i : Fin 16} {x : S32768x2x128.Idx} : x ∈ tileSet R c i ↔ (R (x 0)).1.val / 512 = 2 * i.val + c.val := by
  simp [tileSet]
theorem mem_coreSet {c : Fin 2} {x : S32768x2x128.Idx} : x ∈ coreSet R c ↔ (R (x 0)).1.val / 512 % 2 = c.val := by
  simp [coreSet]

theorem tiles_disjoint (c : Fin 2) : ∀ i ∈ (Finset.univ : Finset (Fin 16)), ∀ j ∈ (Finset.univ : Finset (Fin 16)), i ≠ j → Disjoint (tileSet R c i) (tileSet R c j) := by
  intro i _ j _ h
  refine Finset.disjoint_left.mpr fun x hi hj => h (Fin.ext ?_)
  have := (mem_tileSet R).mp hi; have := (mem_tileSet R).mp hj; omega
theorem tiles_cover (c : Fin 2) : (Finset.univ : Finset (Fin 16)).biUnion (tileSet R c) = coreSet R c := by
  ext x
  simp only [Finset.mem_biUnion, Finset.mem_univ, true_and, mem_tileSet, mem_coreSet]
  have := (R (x 0)).1.isLt; have := c.isLt
  constructor
  · rintro ⟨i, hi⟩; omega
  · intro h; exact ⟨⟨(R (x 0)).1.val / 512 / 2, by omega⟩, by show _ = 2 * ((R (x 0)).1.val / 512 / 2) + c.val; omega⟩
theorem cores_disjoint : ∀ i ∈ (Finset.univ : Finset (Fin 2)), ∀ j ∈ (Finset.univ : Finset (Fin 2)), i ≠ j → Disjoint (coreSet R i) (coreSet R j) := by
  intro i _ j _ h
  refine Finset.disjoint_left.mpr fun x hi hj => h (Fin.ext ?_)
  have := (mem_coreSet R).mp hi; have := (mem_coreSet R).mp hj; omega
theorem cores_cover : (Finset.univ : Finset (Fin 2)).biUnion (coreSet R) = Finset.univ := by
  ext x
  simp only [Finset.mem_biUnion, Finset.mem_univ, true_and, mem_coreSet, iff_true]
  exact ⟨⟨(R (x 0)).1.val / 512 % 2, by omega⟩, rfl⟩

end Sets

/-! ## What the handshakes carry -/

/-- SparseCore `c`'s share of what is read, and tile `i`'s of that. -/
abbrev cq (c : Fin 2) : PosShare TreeShare := ShareLeaves.leaf 1 fullShare c
abbrev tq (c : Fin 2) (i : Fin 16) : PosShare TreeShare := ShareLeaves.leaf 4 (cq c) i

variable [FloatOps F]

theorem nCore_zero : (K (F := F)).nCore 0 = 2 := rfl
theorem nSub_zero : (K (F := F)).nSub 0 = 16 := rfl

variable (X : (d : Dev nD) → Buf (Elt F) (xLoc d)) (A : (d : Dev nD) → Buf (Elt F) (aLoc d)) (B : (d : Dev nD) → Buf (Elt F) (bLoc d))
  (R : Dev nD → Route) (O₀ : (d : Dev nD) → Buf (Elt F) (oLoc d))

/-- What SparseCore `c` is handed: its shares and its rows of the result at contents `f`. -/
abbrev coreRes (d : Dev nD) (c : Fin 2) (f : Buf (Elt F) (oLoc d)) : sProp 𝕄 :=
  iprop((xLoc d ↦{cq c} X d) ∗ (aLoc d ↦{cq c} A d) ∗ (bLoc d ↦{cq c} B d) ∗ oLoc d ↦[coreSet (R d) c]{fullShare} f)
/-- What its tile `i` is handed. -/
abbrev tileRes (d : Dev nD) (c : Fin 2) (i : Fin 16) (f : Buf (Elt F) (oLoc d)) : sProp 𝕄 :=
  iprop((xLoc d ↦{tq c i} X d) ∗ (aLoc d ↦{tq c i} A d) ∗ (bLoc d ↦{tq c i} B d) ∗ oLoc d ↦[tileSet (R d) c i]{fullShare} f)

end Cert.Proof.Whole.S

end
-- ==== Proof.Whole.GSetup.lean ====
/-
  The gather within the whole layer: its arrays, the rows of the result each tile writes, and what the handshakes carry.
-/
module

public import proofs.«01_k».proof.Proof.Whole.Setup

@[expose] public section

noncomputable section

namespace Cert.Proof.Whole.G

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the SparseCore call -/

abbrev tLoc (d : Dev nD) : Loc nD τ sig := (SparseCore.T d).loc main_v38
abbrev iLoc (d : Dev nD) : Loc nD τ sig := (SparseCore.T d).loc main_v47
abbrev oLoc (d : Dev nD) : Loc nD τ sig := (SparseCore.T d).loc main_v48

/-- The index of the list's word that result row `n` reads. -/
def lix (n : Fin 32768) : S32768.Idx := fun a => ⟨n.val, by fin_cases a; exact n.isLt⟩

/-- The gathered rows: row `x 0` of the result is the table's row the list's word at `x 0` names. -/
def gath (Tb : S32768x2x128.Idx → Elt F .f32) (Ix : S32768.Idx → Elt F .i32) : S32768x2x128.Idx → Elt F .f32 := fun x =>
  Tb (Function.update x 0 ⟨(Ix (lix (x 0)) : BitVec 32).toNat % 32768, Nat.mod_lt _ (by norm_num)⟩)

/-- The rows of the result that tile `i` of SparseCore `c` writes. -/
def tileSet (c : Fin 2) (i : Fin 16) : Finset S32768x2x128.Idx := Finset.univ.filter fun x => (x 0).val / 1024 = 2 * i.val + c.val
/-- The rows of the result that SparseCore `c` writes. -/
def coreSet (c : Fin 2) : Finset S32768x2x128.Idx := Finset.univ.filter fun x => (x 0).val / 1024 % 2 = c.val

theorem mem_tileSet {c : Fin 2} {i : Fin 16} {x : S32768x2x128.Idx} : x ∈ tileSet c i ↔ (x 0).val / 1024 = 2 * i.val + c.val := by
  simp [tileSet]
theorem mem_coreSet {c : Fin 2} {x : S32768x2x128.Idx} : x ∈ coreSet c ↔ (x 0).val / 1024 % 2 = c.val := by
  simp [coreSet]

theorem row_lt (x : S32768x2x128.Idx) : (x 0).val < 32768 := (x 0).isLt

theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun x hi hj => h (Fin.ext ?_)
  have := mem_tileSet.mp hi; have := mem_tileSet.mp hj; omega
theorem tiles_cover (c : Fin 2) : (Finset.univ : Finset (Fin 16)).biUnion (tileSet c) = coreSet c := by
  ext x
  simp only [Finset.mem_biUnion, Finset.mem_univ, true_and, mem_tileSet, mem_coreSet]
  have := row_lt x; have := c.isLt
  constructor
  · rintro ⟨i, hi⟩; omega
  · intro h; exact ⟨⟨(x 0).val / 1024 / 2, by omega⟩, by show _ = 2 * ((x 0).val / 1024 / 2) + c.val; omega⟩
theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun x hi hj => h (Fin.ext ?_)
  have := mem_coreSet.mp hi; have := mem_coreSet.mp hj; omega
theorem cores_cover : (Finset.univ : Finset (Fin 2)).biUnion coreSet = Finset.univ := by
  ext x
  simp only [Finset.mem_biUnion, Finset.mem_univ, true_and, mem_coreSet, iff_true]
  exact ⟨⟨(x 0).val / 1024 % 2, by omega⟩, rfl⟩

/-! ## What the handshakes carry -/

/-- SparseCore `c`'s share of the table and of the list, and tile `i`'s of that. -/
abbrev cq (c : Fin 2) : PosShare TreeShare := ShareLeaves.leaf 1 fullShare c
abbrev tq (c : Fin 2) (i : Fin 16) : PosShare TreeShare := ShareLeaves.leaf 4 (cq c) i

variable [FloatOps F]

theorem nCore_zero : (K (F := F)).nCore 1 = 2 := rfl
theorem nSub_zero : (K (F := F)).nSub 1 = 16 := rfl

variable (Tb : (d : Dev nD) → Buf (Elt F) (tLoc d)) (Ix : (d : Dev nD) → Buf (Elt F) (iLoc d)) (O₀ : (d : Dev nD) → Buf (Elt F) (oLoc d))

/-- What SparseCore `c` is handed: its shares and its rows of the result at contents `f`. -/
abbrev coreRes (d : Dev nD) (c : Fin 2) (f : Buf (Elt F) (oLoc d)) : sProp 𝕄 :=
  iprop((tLoc d ↦{cq c} Tb d) ∗ (iLoc d ↦{cq c} Ix d) ∗ oLoc d ↦[coreSet c]{fullShare} f)
/-- What its tile `i` is handed. -/
abbrev tileRes (d : Dev nD) (c : Fin 2) (i : Fin 16) (f : Buf (Elt F) (oLoc d)) : sProp 𝕄 :=
  iprop((tLoc d ↦{tq c i} Tb d) ∗ (iLoc d ↦{tq c i} Ix d) ∗ oLoc d ↦[tileSet c i]{fullShare} f)

end Cert.Proof.Whole.G

end
-- ==== Proof.Whole.Pay.lean ====
/-
  What the two SparseCore calls' handshakes carry, and the TensorCore's record between them.
-/
module

public import proofs.«01_k».proof.Proof.Whole.SSetup
public import proofs.«01_k».proof.Proof.Whole.GSetup

@[expose] public section

noncomputable section

namespace Cert.Proof.Whole

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (X : (d : Dev nD) → Buf (Elt F) (S.xLoc d)) (A : (d : Dev nD) → Buf (Elt F) (S.aLoc d)) (B : (d : Dev nD) → Buf (Elt F) (S.bLoc d))
  (R : Dev nD → S.Route) (O₀ : (d : Dev nD) → Buf (Elt F) (S.oLoc d))
  (Tb : (d : Dev nD) → Buf (Elt F) (G.tLoc d)) (Ix : (d : Dev nD) → Buf (Elt F) (G.iLoc d)) (O₁ : (d : Dev nD) → Buf (Elt F) (G.oLoc d))

/-- The scatter takes the tokens and the two lists; the gather takes the table and the list. Each carries its result there and back. -/
def P : (K (F := F)).Pay (nD := nD) (Val := Elt F) (Name := ℕ) (U := UU) where
  st := fun q d c => match q with
    | 0 => S.coreRes X A B R d (Fin.cast S.nCore_zero c) (O₀ d)
    | 1 => G.coreRes Tb Ix d (Fin.cast G.nCore_zero c) (O₁ d)
  dn := fun q d c => match q with
    | 0 => S.coreRes X A B R d (Fin.cast S.nCore_zero c) (S.scat (X d) (R d))
    | 1 => G.coreRes Tb Ix d (Fin.cast G.nCore_zero c) (G.gath (Tb d) (Ix d))
  go := fun q d c i => match q with
    | 0 => S.tileRes X A B R d (Fin.cast S.nCore_zero c) (Fin.cast S.nSub_zero i) (O₀ d)
    | 1 => G.tileRes Tb Ix d (Fin.cast G.nCore_zero c) (Fin.cast G.nSub_zero i) (O₁ d)
  td := fun q d c i => match q with
    | 0 => S.tileRes X A B R d (Fin.cast S.nCore_zero c) (Fin.cast S.nSub_zero i) (S.scat (X d) (R d))
    | 1 => G.tileRes Tb Ix d (Fin.cast G.nCore_zero c) (Fin.cast G.nSub_zero i) (G.gath (Tb d) (Ix d))
  x := fun _ _ => iprop(emp)

instance P_storable : (P (F := F) X A B R O₀ Tb Ix O₁).IsStorable where
  st q d c := match q with
    | 0 => (inferInstance : BI.Storable (upEmb : UEmb _ 𝕄) (S.coreRes X A B R d (Fin.cast S.nCore_zero c) (O₀ d)))
    | 1 => (inferInstance : BI.Storable (upEmb : UEmb _ 𝕄) (G.coreRes Tb Ix d (Fin.cast G.nCore_zero c) (O₁ d)))
  dn q d c := match q with
    | 0 => (inferInstance : BI.Storable (upEmb : UEmb _ 𝕄) (S.coreRes X A B R d (Fin.cast S.nCore_zero c) (S.scat (X d) (R d))))
    | 1 => (inferInstance : BI.Storable (upEmb : UEmb _ 𝕄) (G.coreRes Tb Ix d (Fin.cast G.nCore_zero c) (G.gath (Tb d) (Ix d))))
  go q d c i := match q with
    | 0 => (inferInstance : BI.Storable (upEmb : UEmb _ 𝕄) (S.tileRes X A B R d (Fin.cast S.nCore_zero c) (Fin.cast S.nSub_zero i) (O₀ d)))
    | 1 => (inferInstance : BI.Storable (upEmb : UEmb _ 𝕄) (G.tileRes Tb Ix d (Fin.cast G.nCore_zero c) (Fin.cast G.nSub_zero i) (O₁ d)))
  td q d c i := match q with
    | 0 => (inferInstance : BI.Storable (upEmb : UEmb _ 𝕄) (S.tileRes X A B R d (Fin.cast S.nCore_zero c) (Fin.cast S.nSub_zero i) (S.scat (X d) (R d))))
    | 1 => (inferInstance : BI.Storable (upEmb : UEmb _ 𝕄) (G.tileRes Tb Ix d (Fin.cast G.nCore_zero c) (Fin.cast G.nSub_zero i) (G.gath (Tb d) (Ix d))))

/-- What the TensorCore keeps of its part of the handshakes besides its record of waits, before SparseCore call `n`. -/
def stRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The TensorCore's record of waits before SparseCore call `n`, owing the later calls' starts. -/
def recO (d : Dev nD) (n : ℕ) : sProp 𝕄 :=
  iprop(∃ W, ⌜(K (F := F)).WBelow (SparseCore.T d) W (8 * n)⌝ ∗ owes (SparseCore.T d) ((K (F := F)).Otc d n) W)

theorem tcSt_split (d : Dev nD) (n : ℕ) : (K (F := F)).tcSt EH d n = iprop(recO (F := F) d n ∗ stRest (F := F) d n) := rfl

end Cert.Proof.Whole

end
-- ==== Proof.Whole.RBody.lean ====
/-
  The router on the TensorCore: the body run once, on any whole buffers, and what it leaves.
-/
module

public import proofs.«01_k».proof.Proof.Whole.Setup
public import Idealize.ShloMosaic.Lib.Pipeline.FrameBody
public import Idealize.ShloMosaic.Lib.VecWindow
public import Idealize.ShloMosaic.Lib.Exec

@[expose] public section

noncomputable section

namespace Cert.Proof.Whole.R

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe

local notation "𝕄" => MT nD τ sig (HIx 2) (Elt F) ℕ UU ℕ

variable [FloatOps F]

/-! ## What the router leaves in its six results -/

section Outs
variable (x : Vec F S2048x2048 .f32) (w : Vec F S8x2048 .f32)

abbrev ex : IVec S2048x8 32 := iota .tc S2048x8 32 [1] iota_S2048x8_d1_w32
def e1 : IVec S2048x1 32 := k0_pay3 x w
def e2 : IVec S2048x1 32 := k0_pay6 x w
def out2 : Vec F S2048x2 .i32 := k0_pay7 x w
def out3 : Vec F S2048x2 .f32 := k0_pay8 x w
def out4 : Vec F S1x8 .f32 := k0_pay10 (F := F) ex (e1 x w) (e2 x w)
def out5 : Vec F S1x1 .f32 := k0_pay11 (k0_pay1 x w) ex (e1 x w) (e2 x w)
def out6 : Vec F S2048x2 .i32 :=
  k0_pay17 ex (e1 x w) (e2 x w) (out4 x w) (k0_pay12 (F := F) ex (e1 x w) (e2 x w)) k0_pay13 (k0_pay14 (F := F)) (k0_pay15 (F := F))
/-- Where each expert's rows begin and end, and the numbers of the pairs. -/
def begs : FVec F S1x8 .f32 := k0_pay16 (out4 x w) k0_pay13 (k0_pay14 (F := F)) (k0_pay15 (F := F))
def ends : FVec F S1x8 .f32 := k0_pay18 (out4 x w) k0_pay13 (k0_pay14 (F := F)) (k0_pay15 (F := F))
def blks : FVec F S1x64 .f32 := k0_pay19 (F := F)
def exps : FVec F S1x64 .f32 := k0_pay21 (F := F) (iota .tc S1x64 32 [1] iota_S1x64_d1_w32) 8#32 k0_pay20
abbrev e64 : IVec S8x64 32 := iota .tc S8x64 32 [0] iota_S8x64_d0_w32
def out7 : Vec F S4x15 .i32 :=
  k0_pay31 (blks (F := F)) (exps (F := F)) (k0_pay25 (begs x w) e64 k0_pay22 k0_pay23 1#32) (k0_pay26 (ends x w) e64 k0_pay22 k0_pay23 1#32)
    (k0_pay27 (begs x w) (ends x w) (blks (F := F)) e64 k0_pay22 k0_pay23 1#32) (k0_pay28 (begs x w) (ends x w) (blks (F := F)) e64 k0_pay22 k0_pay23 1#32)
    (k0_pay29 (begs x w) (ends x w) (blks (F := F)) e64 k0_pay22 k0_pay23 1#32) (k0_pay30 (begs x w) (ends x w) (blks (F := F)) e64 k0_pay22 k0_pay23 1#32)
end Outs

set_option maxRecDepth 16384 in
set_option maxHeartbeats 4000000 in
/-- The router's body on whole buffers leaves its two inputs and the six results. -/
theorem run_router (c : Dev nD) (arg0 : Memref sig .tc .vmem S2048x2048 .f32) (harg0 : arg0.IsWhole) (arg1 : Memref sig .tc .vmem S8x2048 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .f32) (harg4 : arg4.IsWhole) (arg5 : Memref sig .tc .vmem S1x1 .f32) (harg5 : arg5.IsWhole) (arg6 : Memref sig .tc .vmem S2048x2 .i32) (harg6 : arg6.IsWhole) (arg7 : Memref sig .tc .vmem S4x15 .i32) (harg7 : arg7.IsWhole)
    (x : Vec F S2048x2048 .f32) (w : Vec F S8x2048 .f32) (y2 : Vec F S2048x2 .i32) (y3 : Vec F S2048x2 .f32) (y4 : Vec F S1x8 .f32) (y5 : Vec F S1x1 .f32) (y6 : Vec F S2048x2 .i32) (y7 : Vec F S4x15 .i32) (Q : PUnit → sProp 𝕄) :
    iprop((arg0.view.loc (c : Thread nD τ) ↦[arg0.view.set]{fullShare} arg0.view.rep x)
        ∗ (arg1.view.loc (c : Thread nD τ) ↦[arg1.view.set]{fullShare} arg1.view.rep w)
        ∗ (arg2.view.loc (c : Thread nD τ) ↦[arg2.view.set]{fullShare} arg2.view.rep y2)
        ∗ (arg3.view.loc (c : Thread nD τ) ↦[arg3.view.set]{fullShare} arg3.view.rep y3)
        ∗ (arg4.view.loc (c : Thread nD τ) ↦[arg4.view.set]{fullShare} arg4.view.rep y4)
        ∗ (arg5.view.loc (c : Thread nD τ) ↦[arg5.view.set]{fullShare} arg5.view.rep y5)
        ∗ (arg6.view.loc (c : Thread nD τ) ↦[arg6.view.set]{fullShare} arg6.view.rep y6)
        ∗ (arg7.view.loc (c : Thread nD τ) ↦[arg7.view.set]{fullShare} arg7.view.rep y7)
        ∗ (iprop((arg0.view.loc (c : Thread nD τ) ↦[arg0.view.set]{fullShare} arg0.view.rep x)
            ∗ (arg1.view.loc (c : Thread nD τ) ↦[arg1.view.set]{fullShare} arg1.view.rep w)
            ∗ owns (c : Thread nD τ) arg2 fullShare (out2 x w)
            ∗ owns (c : Thread nD τ) arg3 fullShare (out3 x w)
            ∗ owns (c : Thread nD τ) arg4 fullShare (out4 x w)
            ∗ owns (c : Thread nD τ) arg5 fullShare (out5 x w)
            ∗ owns (c : Thread nD τ) arg6 fullShare (out6 x w)
            ∗ owns (c : Thread nD τ) arg7 fullShare (out7 x w)) -∗ Q ⟨⟩))
      ⊢ wp frame (wpE (defs₀ (F := F)) 𝒱₀ c none) Set.univ (cc0__router_body arg0 harg0 arg1 harg1 arg2 harg2 arg3 harg3 arg4 harg4 arg5 harg5 arg6 harg6 arg7 harg7) Q := by
  rw [cc0__router_body_eq_skeleton]; unfold cc0__router_body_skel
  simp only [k0_part6_eq_skeleton]; unfold k0_part6_skel
  simp only [k0_part1_eq_skeleton, k0_part2_eq_skeleton, k0_part3_eq_skeleton, k0_part4_eq_skeleton, k0_part5_eq_skeleton]
  iintro ⟨H0, H1, H2, H3, H4, H5, H6, H7, Hk⟩
  sl_exec
  sl_step
  have h0 : run_router.sl.r arg0 arg1 x w = k0_pay1 x w := by
    unfold run_router.sl.r; rw [View.readAt_rep_full, View.readAt_rep_full]
  have h1 : run_router.sl.r_1 arg0 arg1 x w = e1 x w := by
    unfold run_router.sl.r_1; rw [View.readAt_rep_full, View.readAt_rep_full]; rfl
  have h2 : run_router.sl.r_2 arg0 arg1 x w = e2 x w := by
    unfold run_router.sl.r_2; rw [View.readAt_rep_full, View.readAt_rep_full]; rfl
  have h4 : run_router.sl.r_4 arg0 arg1 x w = out4 x w := by
    unfold run_router.sl.r_4; rw [h1, h2]; rfl
  have h5 : run_router.sl.r_5 arg0 arg1 x w = k0_pay12 (F := F) ex (e1 x w) (e2 x w) := by
    unfold run_router.sl.r_5; rw [h1, h2]; rfl
  have h6 : run_router.sl.r_6 arg0 arg1 x w = begs x w := by
    unfold run_router.sl.r_6; rw [h4]; rfl
  have h7 : run_router.sl.r_7 arg0 arg1 x w = ends x w := by
    unfold run_router.sl.r_7; rw [h4]; rfl
  iapply Hk
  isplitl [H0]; · iexact H0
  isplitl [H1]; · iexact H1
  isplitl [H2]
  · unfold owns
    iexists _; isplitr; swap
    · iexact H2
    ipureintro
    refine (View.read_writes_full _ _ _ _ _).trans ?_
    rw [View.readAt_rep_full, View.readAt_rep_full]
    rfl
  isplitl [H3]
  · unfold owns
    iexists _; isplitr; swap
    · iexact H3
    ipureintro
    refine (View.read_writes_full _ _ _ _ _).trans ?_
    try unfold run_router.sl.r_3
    rw [View.readAt_rep_full, View.readAt_rep_full]
    rfl
  isplitl [H4]
  · unfold owns
    iexists _; isplitr; swap
    · iexact H4
    ipureintro
    refine (View.read_writes_full _ _ _ _ _).trans ?_
    rw [h1, h2]
    rfl
  isplitl [H5]
  · unfold owns
    iexists _; isplitr; swap
    · iexact H5
    ipureintro
    refine (View.read_writes_full _ _ _ _ _).trans ?_
    rw [h0, h1, h2]
    rfl
  isplitl [H6]
  · unfold owns
    iexists _; isplitr; swap
    · iexact H6
    ipureintro
    refine (View.read_writes_full _ _ _ _ _).trans ?_
    rw [h1, h2, h4, h5]
    rfl
  unfold owns
  iexists _; isplitr; swap
  · iexact H7
  ipureintro
  refine (View.read_writes_full _ _ _ _ _).trans ?_
  unfold run_router.sl.r_9 run_router.sl.r_10 run_router.sl.r_11 run_router.sl.r_12 run_router.sl.r_13 run_router.sl.r_14
  rw [h6, h7]
  rfl
end Cert.Proof.Whole.R

end
-- ==== Proof.Whole.RRun.lean ====
/-
  The router's region: its data, its obligation, and what its six arrays hold at the end.
-/
module

public import proofs.«01_k».proof.Proof.Whole.RBody
public import Idealize.ShloMosaic.Lib.ViewIndex
public import Idealize.ShloMosaic.Lib.Pipeline.RegionsLoop
public import Idealize.ShloMosaic.Lib.Pipeline.FrameBody
public import Idealize.ShloMosaic.Lib.Pipeline.TableIdle
public import Idealize.ShloMosaic.Lib.Pipeline.ValueKit.Geometry
public import Idealize.ShloMosaic.Lib.Pipeline.Value

@[expose] public section

noncomputable section

namespace Cert.Proof.Whole.R

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe

local notation "𝕄" => MT nD τ sig (HIx 2) (Elt F) ℕ UU ℕ

variable [FloatOps F]

variable (Vl : (d : Dev nD) → (b : Ref sig .tc) → Buf (Elt F) ((SparseCore.T d : Thread nD τ).loc b))

/-- The tokens and the weights, as the router's one point stages them. -/
abbrev blk0 (d : Dev nD) (t : Fin cfg0.N) : (cfg0.win 0).block.Idx → Elt F (cfg0.win 0).elt := ((cfg0.win 0).blk t).view.read (Elt F) (Vl d main_v0)
abbrev blk1 (d : Dev nD) (t : Fin cfg0.N) : (cfg0.win 1).block.Idx → Elt F (cfg0.win 1).elt := ((cfg0.win 1).blk t).view.read (Elt F) (Vl d main_arg1)

def dat (d : Dev nD) : Pipeline.Dat τ (Elt F) (HIx 2) ℕ UU ℕ cfg0 d where
  A w := Vl d (Pipeline.arrRef spec0 w)
  after w t := match w with
    | ⟨0, _⟩ => blk0 Vl d t
    | ⟨1, _⟩ => blk1 Vl d t
    | ⟨2, _⟩ => out2 (blk0 Vl d t) (blk1 Vl d t)
    | ⟨3, _⟩ => out3 (blk0 Vl d t) (blk1 Vl d t)
    | ⟨4, _⟩ => out4 (blk0 Vl d t) (blk1 Vl d t)
    | ⟨5, _⟩ => out5 (blk0 Vl d t) (blk1 Vl d t)
    | ⟨6, _⟩ => out6 (blk0 Vl d t) (blk1 Vl d t)
    | ⟨7, _⟩ => out7 (blk0 Vl d t) (blk1 Vl d t)
  Φ _ := Pipeline.scopedRest (Ix := HIx 2) (Name := ℕ) (U := UU) (Lvl := ℕ) (Val := Elt F) spec0 d
  q _ := fullShare
  owed _ := (K (F := F)).Otc d 0
  recorded _ := {p | (K (F := F)).lev (SparseCore.T d, p.1) p.2 ≤ 8 * 0}

theorem before0 (d : Dev nD) (t : Fin cfg0.N) (X) : (dat Vl d).before 0 t X = blk0 Vl d t := (dat Vl d).before_fetched 0 t (fetch0_0 t) X
theorem before1 (d : Dev nD) (t : Fin cfg0.N) (X) : (dat Vl d).before 1 t X = blk1 Vl d t := (dat Vl d).before_fetched 1 t (fetch0_1 t) X

set_option maxHeartbeats 4000000 in
theorem body_obligation (d : Dev nD) : Pipeline.BodyObligation (dat Vl d) (defs₀ (F := F)) 𝒱₀ none Set.univ := fun t => by
  rw [bigSep_W0, bigSep_W0]
  simp only [before0, before1]
  rw [show (dat Vl d).Φ t.castSucc = (dat Vl d).Φ t.succ from rfl, show (dat Vl d).owesAt none t.castSucc = (dat Vl d).owesAt none t.succ from rfl]
  change _ ⊢ wp _ _ _ (bodyAt0 t) _
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (run_router d _ (hstage0_0 0) _ (hstage0_1 0) _ (hstage0_2 0) _ (hstage0_3 0) _ (hstage0_4 0) _ (hstage0_5 0) _ (hstage0_6 0) _ (hstage0_7 0)
    (blk0 Vl d t) (blk1 Vl d t) ((dat Vl d).before 2 t d2) ((dat Vl d).before 3 t d3) ((dat Vl d).before 4 t d4) ((dat Vl d).before 5 t d5)
    ((dat Vl d).before 6 t d6) ((dat Vl d).before 7 t d7) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  iintro ⟨H0, H1, H2, H3, H4, H5, H6, H7⟩
  isplitl [HΦ]; · iexact HΦ
  isplitl [Howes]; · iexact Howes
  isplitl [H0]; · iapply owns_of_rep; iexact H0
  isplitl [H1]; · iapply owns_of_rep; iexact H1
  isplitl [H2]; · iexact H2
  isplitl [H3]; · iexact H3
  isplitl [H4]; · iexact H4
  isplitl [H5]; · iexact H5
  isplitl [H6]; · iexact H6
  iexact H7

/-! ## The results' arrays -/

theorem win_zero : ∀ t : Fin grid0.N, (∀ a, win0_0.index t a = 0) ∧ (∀ a, win0_1.index t a = 0) ∧ (∀ a, win0_2.index t a = 0) ∧ (∀ a, win0_3.index t a = 0) ∧ (∀ a, win0_4.index t a = 0) ∧ (∀ a, win0_5.index t a = 0) ∧ (∀ a, win0_6.index t a = 0) ∧ (∀ a, win0_7.index t a = 0) := by decide +kernel

theorem blk0_eq (d : Dev nD) (t : Fin cfg0.N) : blk0 Vl d t = Vl d main_v0 := funext fun y => congrArg (Vl d main_v0) (funext fun a => Fin.ext (by
  match a with
  | ⟨0, _⟩ => have h := (win_zero t).1 (0 : Fin 2); show win0_0.index t (0 : Fin 2) * 2048 + 1 * (y 0).val = (y 0).val; omega
  | ⟨1, _⟩ => have h := (win_zero t).1 (1 : Fin 2); show win0_0.index t (1 : Fin 2) * 2048 + 1 * (y 1).val = (y 1).val; omega))
theorem blk1_eq (d : Dev nD) (t : Fin cfg0.N) : blk1 Vl d t = Vl d main_arg1 := funext fun y => congrArg (Vl d main_arg1) (funext fun a => Fin.ext (by
  match a with
  | ⟨0, _⟩ => have h := (win_zero t).2.1 (0 : Fin 2); show win0_1.index t (0 : Fin 2) * 8 + 1 * (y 0).val = (y 0).val; omega
  | ⟨1, _⟩ => have h := (win_zero t).2.1 (1 : Fin 2); show win0_1.index t (1 : Fin 2) * 2048 + 1 * (y 1).val = (y 1).val; omega))

theorem out_value2 (d : Dev nD) : (dat Vl d).arrAt 2 cfg0.N = out2 (Vl d main_v0) (Vl d main_arg1) := by
  refine (dat Vl d).arrAt_eq_of_covers 2 _ (by decide +kernel) fun t hf y => ?_
  show out2 (blk0 Vl d t) (blk1 Vl d t) _ = _
  rw [blk0_eq, blk1_eq]
  refine congrArg (out2 (Vl d main_v0) (Vl d main_arg1)) (funext fun a => Fin.ext ?_)
  match a with
  | ⟨0, _⟩ => have h := (win_zero t).2.2.1 (0 : Fin 2); show (y 0).val = win0_2.index t (0 : Fin 2) * 2048 + 1 * (y 0).val; omega
  | ⟨1, _⟩ => have h := (win_zero t).2.2.1 (1 : Fin 2); show (y 1).val = win0_2.index t (1 : Fin 2) * 2 + 1 * (y 1).val; omega

theorem out_value3 (d : Dev nD) : (dat Vl d).arrAt 3 cfg0.N = out3 (Vl d main_v0) (Vl d main_arg1) := by
  refine (dat Vl d).arrAt_eq_of_covers 3 _ (by decide +kernel) fun t hf y => ?_
  show out3 (blk0 Vl d t) (blk1 Vl d t) _ = _
  rw [blk0_eq, blk1_eq]
  refine congrArg (out3 (Vl d main_v0) (Vl d main_arg1)) (funext fun a => Fin.ext ?_)
  match a with
  | ⟨0, _⟩ => have h := (win_zero t).2.2.2.1 (0 : Fin 2); show (y 0).val = win0_3.index t (0 : Fin 2) * 2048 + 1 * (y 0).val; omega
  | ⟨1, _⟩ => have h := (win_zero t).2.2.2.1 (1 : Fin 2); show (y 1).val = win0_3.index t (1 : Fin 2) * 2 + 1 * (y 1).val; omega

theorem out_value4 (d : Dev nD) : (dat Vl d).arrAt 4 cfg0.N = out4 (Vl d main_v0) (Vl d main_arg1) := by
  refine (dat Vl d).arrAt_eq_of_covers 4 _ (by decide +kernel) fun t hf y => ?_
  show out4 (blk0 Vl d t) (blk1 Vl d t) _ = _
  rw [blk0_eq, blk1_eq]
  refine congrArg (out4 (Vl d main_v0) (Vl d main_arg1)) (funext fun a => Fin.ext ?_)
  match a with
  | ⟨0, _⟩ => have h := (win_zero t).2.2.2.2.1 (0 : Fin 2); show (y 0).val = win0_4.index t (0 : Fin 2) * 1 + 1 * (y 0).val; omega
  | ⟨1, _⟩ => have h := (win_zero t).2.2.2.2.1 (1 : Fin 2); show (y 1).val = win0_4.index t (1 : Fin 2) * 8 + 1 * (y 1).val; omega

theorem out_value5 (d : Dev nD) : (dat Vl d).arrAt 5 cfg0.N = out5 (Vl d main_v0) (Vl d main_arg1) := by
  refine (dat Vl d).arrAt_eq_of_covers 5 _ (by decide +kernel) fun t hf y => ?_
  show out5 (blk0 Vl d t) (blk1 Vl d t) _ = _
  rw [blk0_eq, blk1_eq]
  refine congrArg (out5 (Vl d main_v0) (Vl d main_arg1)) (funext fun a => Fin.ext ?_)
  match a with
  | ⟨0, _⟩ => have h := (win_zero t).2.2.2.2.2.1 (0 : Fin 2); show (y 0).val = win0_5.index t (0 : Fin 2) * 1 + 1 * (y 0).val; omega
  | ⟨1, _⟩ => have h := (win_zero t).2.2.2.2.2.1 (1 : Fin 2); show (y 1).val = win0_5.index t (1 : Fin 2) * 1 + 1 * (y 1).val; omega

theorem out_value6 (d : Dev nD) : (dat Vl d).arrAt 6 cfg0.N = out6 (Vl d main_v0) (Vl d main_arg1) := by
  refine (dat Vl d).arrAt_eq_of_covers 6 _ (by decide +kernel) fun t hf y => ?_
  show out6 (blk0 Vl d t) (blk1 Vl d t) _ = _
  rw [blk0_eq, blk1_eq]
  refine congrArg (out6 (Vl d main_v0) (Vl d main_arg1)) (funext fun a => Fin.ext ?_)
  match a with
  | ⟨0, _⟩ => have h := (win_zero t).2.2.2.2.2.2.1 (0 : Fin 2); show (y 0).val = win0_6.index t (0 : Fin 2) * 2048 + 1 * (y 0).val; omega
  | ⟨1, _⟩ => have h := (win_zero t).2.2.2.2.2.2.1 (1 : Fin 2); show (y 1).val = win0_6.index t (1 : Fin 2) * 2 + 1 * (y 1).val; omega

theorem out_value7 (d : Dev nD) : (dat Vl d).arrAt 7 cfg0.N = out7 (Vl d main_v0) (Vl d main_arg1) := by
  refine (dat Vl d).arrAt_eq_of_covers 7 _ (by decide +kernel) fun t hf y => ?_
  show out7 (blk0 Vl d t) (blk1 Vl d t) _ = _
  rw [blk0_eq, blk1_eq]
  refine congrArg (out7 (Vl d main_v0) (Vl d main_arg1)) (funext fun a => Fin.ext ?_)
  match a with
  | ⟨0, _⟩ => have h := (win_zero t).2.2.2.2.2.2.2 (0 : Fin 2); show (y 0).val = win0_7.index t (0 : Fin 2) * 4 + 1 * (y 0).val; omega
  | ⟨1, _⟩ => have h := (win_zero t).2.2.2.2.2.2.2 (1 : Fin 2); show (y 1).val = win0_7.index t (1 : Fin 2) * 15 + 1 * (y 1).val; omega

end Cert.Proof.Whole.R

end
-- ==== Proof.Whole.EBody.lean ====
/-
  One grid point of the experts' products call: what the body leaves in the result's block, from what it found there.
-/
module

public import proofs.«01_k».proof.Proof.Whole.Setup
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Exec
public import Idealize.ShloMosaic.Lib.Tactic

@[expose] public section

set_option maxRecDepth 16384

noncomputable section

namespace Cert.Proof.Whole.E

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 2) (Elt F) ℕ UU ℕ

/-- The four tables as the body is handed them. -/
abbrev tb0 : Memref sig .tc .smem S15 .i32 := Memref.whole main_v29
abbrev tb1 : Memref sig .tc .smem S15 .i32 := Memref.whole main_v31
abbrev tb2 : Memref sig .tc .smem S15 .i32 := Memref.whole main_v33
abbrev tb3 : Memref sig .tc .smem S15 .i32 := Memref.whole main_v35

/-- The item's lower end, upper end and row block, as the body reads them off the tables. -/
abbrev loW (i : grid2.Coords) (T2 : S15.Idx → Elt F .i32) : Elt F .i32 :=
  View.readAt (Elt F) tb2.view (Rect.unit (s := S15) (k2_off1 i) S1.size (k2_off1_inb i)).toLoadRect T2 (Shape.Idx.first (numel1_S1.symm ▸ Nat.one_pos))
abbrev hiW (i : grid2.Coords) (T3 : S15.Idx → Elt F .i32) : Elt F .i32 :=
  View.readAt (Elt F) tb3.view (Rect.unit (s := S15) (k2_off1 i) S1.size (k2_off1_inb i)).toLoadRect T3 (Shape.Idx.first (numel1_S1.symm ▸ Nat.one_pos))
abbrev rbW (i : grid2.Coords) (T1 : S15.Idx → Elt F .i32) : Elt F .i32 :=
  View.readAt (Elt F) tb1.view (Rect.unit (s := S15) (k2_off2 i) S1.size (k2_off2_inb i)).toLoadRect T1 (Shape.Idx.first (numel1_S1.symm ▸ Nat.one_pos))

/-- The result's block at the point's first half: zero at the grid's first point, what was found elsewhere. -/
def baseV (i : grid2.Coords) (y : S4096x2048.Idx → Elt F .f32) : S4096x2048.Idx → Elt F .f32 :=
  if k2_cond1 i = 1#1 then k2_pay1 (F := F) else y

/-- The item's product added onto its row block of `y`. -/
def addV (lo hi rb : BitVec 32) (x0 : S512x2048.Idx → Elt F .f32) (x1 : S1x2048x512.Idx → Elt F .f32) (x2 : S1x512x2048.Idx → Elt F .f32)
    (y : S4096x2048.Idx → Elt F .f32) (h : ∀ a, k2_off3 rb a + S512x2048.size a ≤ S4096x2048.size a) : S4096x2048.Idx → Elt F .f32 :=
  VecWindow.put y (k2_off3 rb) S512x2048.size (k2_pay2 (F := F) lo hi x0 x1 x2 (VecWindow.window y (k2_off3 rb) S512x2048.size h))

/-- What the point leaves. -/
def stepV (i : grid2.Coords) (lo hi rb : BitVec 32) (x0 : S512x2048.Idx → Elt F .f32) (x1 : S1x2048x512.Idx → Elt F .f32) (x2 : S1x512x2048.Idx → Elt F .f32)
    (y : S4096x2048.Idx → Elt F .f32) : S4096x2048.Idx → Elt F .f32 :=
  if h : k2_cond2 lo hi = 1#1 ∧ ∀ a, k2_off3 rb a + S512x2048.size a ≤ S4096x2048.size a then addV lo hi rb x0 x1 x2 (baseV i y) h.2 else baseV i y

set_option maxHeartbeats 8000000 in
/-- The body at any point, whatever its item: it leaves the tables and the three staged blocks, and the step in the result's block. -/
theorem run_body (c : Dev nD) (i : grid2.Coords) (arg6 : Memref sig .tc .vmem S512x2048 .f32) (harg6 : arg6.IsWhole) (arg7 : Memref sig .tc .vmem S1x2048x512 .f32) (harg7 : arg7.IsWhole) (arg8 : Memref sig .tc .vmem S1x512x2048 .f32) (harg8 : arg8.IsWhole) (arg9 : Memref sig .tc .vmem S4096x2048 .f32) (harg9 : arg9.IsWhole)
    (T0 T1 T2 T3 : S15.Idx → Elt F .i32) (x0 : S512x2048.Idx → Elt F .f32) (x1 : S1x2048x512.Idx → Elt F .f32) (x2 : S1x512x2048.Idx → Elt F .f32) (y : S4096x2048.Idx → Elt F .f32)
    (hin : ∀ a, k2_off3 (rbW i T1) a + S512x2048.size a ≤ S4096x2048.size a) (K : PUnit → sProp 𝕄) :
    iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tb0.view.loc (c : Thread nD τ) ↦{fullShare} T0)
          ∗ (tb1.view.loc (c : Thread nD τ) ↦{fullShare} T1)
          ∗ (tb2.view.loc (c : Thread nD τ) ↦{fullShare} T2)
          ∗ (tb3.view.loc (c : Thread nD τ) ↦{fullShare} T3)
          ∗ (arg9.view.loc (c : Thread nD τ) ↦[arg9.view.set]{fullShare} arg9.view.rep y)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tb0.view.loc (c : Thread nD τ) ↦{fullShare} T0)
              ∗ (tb1.view.loc (c : Thread nD τ) ↦{fullShare} T1)
              ∗ (tb2.view.loc (c : Thread nD τ) ↦{fullShare} T2)
              ∗ (tb3.view.loc (c : Thread nD τ) ↦{fullShare} T3)
              ∗ owns (c : Thread nD τ) arg9 fullShare (stepV i (loW i T2) (hiW i T3) (rbW i T1) x0 x1 x2 y)) -∗ K ⟨⟩))
          ⊢ wp frame (wpE (defs₀ (F := F)) Variants.none c none) Set.univ (cc2__gmm_body i tb0 (Memref.isWhole_whole _) tb1 (Memref.isWhole_whole _) tb2 (Memref.isWhole_whole _) tb3 (Memref.isWhole_whole _) arg6 harg6 arg7 harg7 arg8 harg8 arg9 harg9) K := by
  rw [cc2__gmm_body_eq_skeleton]; unfold cc2__gmm_body_skel
  have hT0 : tb0.IsWhole := Memref.isWhole_whole _
  have hT1 : tb1.IsWhole := Memref.isWhole_whole _
  have hT2 : tb2.IsWhole := Memref.isWhole_whole _
  have hT3 : tb3.IsWhole := Memref.isWhole_whole _
  have hchk : k2_chk1 (loW i T2) (hiW i T3) (rbW i T1) := fun _ => hin
  by_cases k2_h1 : k2_cond1 i = 1#1
  · by_cases k2_h2 : k2_cond2 (loW i T2) (hiW i T3) = 1#1
    · iintro ⟨H0, H1, H2, HT0, HT1, HT2, HT3, HO3, Hk⟩
      sl_exec! (disch := first | (guard_target = k2_cond1 _ = _; exact k2_h1) | (guard_target = k2_cond2 _ _ = _; exact k2_h2) | exact hchk)
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold owns
      iexists _; isplitr; swap
      · iexact HO3
      · ipureintro
        unfold stepV addV baseV
        rw [dif_pos ⟨k2_h2, hin⟩, if_pos k2_h1]
        rw [View.read_writes_cons_put (h := rfl), View.readAt_rep_full, View.readAt_rep_full, View.readAt_rep_full, View.readAt_unit (h := rfl) (inb' := hin)]
        have key : ∀ z : S4096x2048.Idx → Elt F .f32, z = k2_pay1 (F := F) → addV (loW i T2) (hiW i T3) (rbW i T1) x0 x1 x2 z hin
            = addV (loW i T2) (hiW i T3) (rbW i T1) x0 x1 x2 (k2_pay1 (F := F)) hin := fun z hz => hz ▸ rfl
        exact key _ (View.read_writes_full _ _ _ _ _)
    · iintro ⟨H0, H1, H2, HT0, HT1, HT2, HT3, HO3, Hk⟩
      sl_exec! (disch := first | (guard_target = k2_cond1 _ = _; exact k2_h1) | (guard_target = ¬(k2_cond2 _ _ = _); exact k2_h2))
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold owns
      iexists _; isplitr; swap
      · iexact HO3
      · ipureintro
        unfold stepV baseV
        rw [dif_neg (fun h => k2_h2 h.1), if_pos k2_h1]
        exact View.read_writes_full _ _ _ _ _
  · by_cases k2_h2 : k2_cond2 (loW i T2) (hiW i T3) = 1#1
    · iintro ⟨H0, H1, H2, HT0, HT1, HT2, HT3, HO3, Hk⟩
      sl_exec! (disch := first | (guard_target = ¬(k2_cond1 _ = _); exact k2_h1) | (guard_target = k2_cond2 _ _ = _; exact k2_h2) | exact hchk)
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold owns
      iexists _; isplitr; swap
      · iexact HO3
      · ipureintro
        unfold stepV addV baseV
        rw [dif_pos ⟨k2_h2, hin⟩, if_neg k2_h1]
        rw [View.read_writes_rep_unit (h := rfl), View.readAt_rep_full, View.readAt_rep_full, View.readAt_rep_full, View.readAt_rep_unit (h := rfl) (inb' := hin)]
        try rfl
    · iintro ⟨H0, H1, H2, HT0, HT1, HT2, HT3, HO3, Hk⟩
      sl_exec! (disch := first | (guard_target = ¬(k2_cond1 _ = _); exact k2_h1) | (guard_target = ¬(k2_cond2 _ _ = _); exact k2_h2))
      sl_step
      iapply Hk
      isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      unfold stepV baseV
      rw [dif_neg (fun h => k2_h2 h.1), if_neg k2_h1]
      iapply owns_of_rep
      iexact HO3

end Cert.Proof.Whole.E

end
-- ==== Proof.Whole.ETables.lean ====
/-
  The tables of the experts' products call: which contents the call can be run at, and what its schedule is at them.
-/
module

public import proofs.«01_k».proof.Proof.Whole.EBody

@[expose] public section

set_option maxRecDepth 16384

noncomputable section

namespace Cert.Proof.Whole.E

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose cellOf)

variable {F : FTy → Type} [FloatOps F]

/-- The experts' numbers and the row blocks' numbers are below eight. -/
def TabOK (pf : pre2.Contents (Elt F)) : Prop :=
  (∀ k : S15.Idx, (pf 0 k : BitVec 32).toNat < 8) ∧ (∀ k : S15.Idx, (pf 1 k : BitVec 32).toNat < 8)

variable (pf : pre2.Contents (Elt F)) (hp : TabOK pf)

include hp in
theorem inb0 (i : grid2.Coords) : ∀ a, (cc2_transform_0 k2_off1_inb numel1_S1 pf i a + 1) * S512x2048.size a ≤ S4096x2048.size a := by
  refine Fin.forall_fin_two.mpr ⟨?_, ?_⟩
  · show ((pf 1 _ : BitVec 32).toNat + 1) * 512 ≤ 4096
    have := hp.2 ((Rect.unit (s := S15) (k2_off1 i) S1.size (k2_off1_inb i)).emb (Shape.Idx.first (numel1_S1.symm ▸ Nat.one_pos)))
    exact Nat.mul_le_mul_right 512 this
  · show (0 + 1) * 2048 ≤ 2048; omega

theorem coord0_lt (i : grid2.Coords) : (i 0).val < 8 := (i 0).isLt
theorem coord1_lt (i : grid2.Coords) : (i 1).val < 15 := (i 1).isLt

theorem ofNat_coord0 (i : grid2.Coords) : (BitVec.ofNat 32 (i 0).val).toNat = (i 0).val := by
  have := coord0_lt i; rw [BitVec.toNat_ofNat]; omega

include hp in
theorem inb1 (i : grid2.Coords) : ∀ a, (cc2_transform_1 k2_off1_inb numel1_S1 pf i a + 1) * S1x2048x512.size a ≤ S8x2048x4096.size a := by
  refine Fin.forall_fin_succ.mpr ⟨?_, Fin.forall_fin_two.mpr ⟨?_, ?_⟩⟩
  · show ((pf 0 _ : BitVec 32).toNat + 1) * 1 ≤ 8
    have := hp.1 ((Rect.unit (s := S15) (k2_off1 i) S1.size (k2_off1_inb i)).emb (Shape.Idx.first (numel1_S1.symm ▸ Nat.one_pos)))
    exact (Nat.mul_one _).le.trans this
  · show (0 + 1) * 2048 ≤ 2048; omega
  · show ((BitVec.ofNat 32 (i 0).val).toNat + 1) * 512 ≤ 4096
    rw [ofNat_coord0]; have := coord0_lt i; omega

include hp in
theorem inb2 (i : grid2.Coords) : ∀ a, (cc2_transform_2 k2_off1_inb numel1_S1 pf i a + 1) * S1x512x2048.size a ≤ S8x4096x2048.size a := by
  refine Fin.forall_fin_succ.mpr ⟨?_, Fin.forall_fin_two.mpr ⟨?_, ?_⟩⟩
  · show ((pf 0 _ : BitVec 32).toNat + 1) * 1 ≤ 8
    have := hp.1 ((Rect.unit (s := S15) (k2_off1 i) S1.size (k2_off1_inb i)).emb (Shape.Idx.first (numel1_S1.symm ▸ Nat.one_pos)))
    exact (Nat.mul_one _).le.trans this
  · show ((BitVec.ofNat 32 (i 0).val).toNat + 1) * 512 ≤ 4096
    rw [ofNat_coord0]; have := coord0_lt i; omega
  · show (0 + 1) * 2048 ≤ 2048; omega

/-- Every block the windows name at these tables lies inside its array. -/
theorem ok_tabs (hp : TabOK pf) : ok2 pf :=
  ⟨fun i => ⟨inb0 pf hp i, .inl rfl⟩, fun i => ⟨inb1 pf hp i, .inl rfl⟩, fun i => ⟨inb2 pf hp i, .inl rfl⟩⟩

/-- The pipeline at the tables. -/
def adm : (pcfg2 (F := F)).Adm := ⟨pf, ok_tabs pf hp⟩
abbrev cfgA : Pipeline.Cfg sig Λ₀ := cfg2 (F := F) (adm pf hp)
/-- Point `t`'s coordinates. -/
abbrev crd (t : Fin (cfgA pf hp).N) : grid2.Coords := (cfgA pf hp).grid.coords t

/-- The words of the item at a point. -/
abbrev lo (i : grid2.Coords) : BitVec 32 := loW i (pf 2)
abbrev hi (i : grid2.Coords) : BitVec 32 := hiW i (pf 3)
abbrev rb (i : grid2.Coords) : BitVec 32 := rbW i (pf 1)

include hp in
theorem rb_lt (i : grid2.Coords) : (rb pf i).toNat < 8 := hp.2 _

/-- The item's row block lies inside the result. -/
theorem off3_inb (v : BitVec 32) (hv : v.toNat < 8) : ∀ a, k2_off3 v a + S512x2048.size a ≤ S4096x2048.size a := by
  refine Fin.forall_fin_two.mpr ⟨?_, ?_⟩
  · show (Scalar.muli v 512#32).toNat + 512 ≤ 4096
    have : (Scalar.muli v 512#32).toNat = v.toNat * 512 % 4294967296 := BitVec.toNat_mul _ _
    omega
  · show 0 + 2048 ≤ 2048; omega

theorem off1_inb (i : grid2.Coords) : ∀ a : Fin 1, k2_off1 i a + 1 ≤ S15.size a := fun a => by
  have := k2_off1_inb i a
  have e : S1.size a = 1 := by rw [Subsingleton.elim a 0]; rfl
  rwa [e] at this

/-- The word of a table at a point, as the idle table names it. -/
theorem atD2 (i : grid2.Coords) : pf.atD 2 (k2_off1 i) = lo pf i := by
  refine (dif_pos (off1_inb i)).trans ?_
  exact congrArg (pf 2) (funext fun a => Fin.ext (by rfl))
theorem atD3 (i : grid2.Coords) : pf.atD 3 (k2_off1 i) = hi pf i := by
  refine (dif_pos (off1_inb i)).trans ?_
  exact congrArg (pf 3) (funext fun a => Fin.ext (by rfl))

/-- Where the result's window is idle: not at the first point, and where the item lists no row. -/
theorem idle_iff (i : grid2.Coords) : (cfgA pf hp).idle (3 : Fin 4) i = true ↔ ¬ k2_cond1 i = 1#1 ∧ ¬ k2_cond2 (lo pf i) (hi pf i) = 1#1 := by
  show (!(k2_cond1 i == 1#1) && !(k2_cond2 (pf.atD 2 (k2_off1 i)) (pf.atD 3 (k2_off1 i)) == 1#1)) = true ↔ _
  rw [atD2, atD3]
  simp

theorem N_A : (cfgA pf hp).N = 120 := N_2

/-- The result is written back at the last point alone. -/
theorem flush3 (t : Fin (cfgA pf hp).N) : ((cfgA pf hp).win (3 : Fin 4)).flush t = decide (t.val + 1 = 120) := by
  rw [Pipeline.Window.flush_eq_flushF]
  unfold Pipeline.Window.flushF
  have h1 : ((cfgA pf hp).win (3 : Fin 4)).isOut = true := rfl
  have h2 : ¬ ∃ h : t.val + 1 < (cfgA pf hp).N, ∃ a, ((cfgA pf hp).win (3 : Fin 4)).index ⟨t.val + 1, h⟩ a ≠ ((cfgA pf hp).win (3 : Fin 4)).index t a := by
    rintro ⟨h, a, ha⟩
    exact ha rfl
  have h3 : (cfgA pf hp).grid.N = 120 := N_2
  rw [h1, Bool.true_and, decide_eq_false (h2), Bool.or_false]
  exact decide_eq_decide.mpr ⟨fun h => h.trans h3, fun h => h.trans h3.symm⟩

theorem cond1_iff : ∀ i : grid2.Coords, k2_cond1 i = 1#1 ↔ (i 0).val = 0 ∧ (i 1).val = 0 := by decide +kernel

theorem cond1_first (t : Fin (cfgA pf hp).N) (h : t.val = 0) : k2_cond1 (crd pf hp t) = 1#1 := by
  obtain ⟨n, hn⟩ := t
  subst h
  have : ∀ t : Fin grid2.N, t.val = 0 → k2_cond1 (grid2.coords t) = 1#1 := by decide +kernel
  exact this ⟨0, hn⟩ rfl

/-- The result's buffer holds nothing of the body's at the first point alone. -/
theorem fresh3 : ∀ (n : ℕ), n < 120 → n ≠ 0 → (cfgA pf hp).fresh (3 : Fin 4) n = false
  | 0, _, h => absurd rfl h
  | n + 1, hn, _ => by
    have hN : n < (cfgA pf hp).N := by rw [N_A]; omega
    rw [Pipeline.Cfg.fresh_succ _ _ n hN, flush3]
    have : decide ((⟨n, hN⟩ : Fin (cfgA pf hp).N).val + 1 = 120) = false := decide_eq_false (by show ¬ n + 1 = 120; omega)
    rw [this, Bool.false_or]
    by_cases h0 : n = 0
    · have hi : ¬ (cfgA pf hp).idle (3 : Fin 4) ((cfgA pf hp).grid.coords ⟨n, hN⟩) = true := fun h =>
        ((idle_iff pf hp _).mp h).1 (cond1_first pf hp ⟨n, hN⟩ h0)
      rw [Bool.not_eq_true] at hi
      rw [hi, Bool.false_and]
    · rw [fresh3 n (by omega) h0, Bool.and_false]

end Cert.Proof.Whole.E

end
-- ==== Proof.Whole.ERun.lean ====
/-
  The run of the experts' products call: the result after each grid point, the pipeline's obligation, and the launch.
-/
module

public import proofs.«01_k».proof.Proof.Whole.ETables
public import Idealize.ShloMosaic.Lib.Pipeline.Quiescent
public import Idealize.ShloMosaic.Lib.Claim
public import Idealize.ShloMosaic.Lib.Writes
public import Idealize.ShloMosaic.Adequacy
public import Idealize.ShloMosaic.Init

@[expose] public section

set_option maxRecDepth 16384

noncomputable section

namespace Cert.Proof.Whole.E

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose cellOf)

variable {F : FTy → Type} [FloatOps F]

set_option Elab.async false

local notation "𝕄" => MT nD τ sig (HIx 2) (Elt F) ℕ UU ℕ

variable (pf : pre2.Contents (Elt F)) (hp : TabOK pf)
variable (Vl : (d : Dev nD) → (b : Ref sig .tc) → Buf (Elt F) ((SparseCore.T d : Thread nD τ).loc b))

/-- Each window's staging memref at point `t`. -/
abbrev ms0 (t : Fin (cfgA pf hp).N) : Memref sig .tc .vmem S512x2048 .f32 := spec2_0.stage ((cfgA pf hp).slots t (0 : Fin 4))
abbrev hs0 (t : Fin (cfgA pf hp).N) : (ms0 pf hp t).IsWhole := hstage2_0 (((cfgA pf hp).slots t (0 : Fin 4)).cast nbuf2_0)
abbrev ms1 (t : Fin (cfgA pf hp).N) : Memref sig .tc .vmem S1x2048x512 .f32 := spec2_1.stage ((cfgA pf hp).slots t (1 : Fin 4))
abbrev hs1 (t : Fin (cfgA pf hp).N) : (ms1 pf hp t).IsWhole := hstage2_1 (((cfgA pf hp).slots t (1 : Fin 4)).cast nbuf2_1)
abbrev ms2 (t : Fin (cfgA pf hp).N) : Memref sig .tc .vmem S1x512x2048 .f32 := spec2_2.stage ((cfgA pf hp).slots t (2 : Fin 4))
abbrev hs2 (t : Fin (cfgA pf hp).N) : (ms2 pf hp t).IsWhole := hstage2_2 (((cfgA pf hp).slots t (2 : Fin 4)).cast nbuf2_2)
abbrev ms3 (t : Fin (cfgA pf hp).N) : Memref sig .tc .vmem S4096x2048 .f32 := spec2_3.stage ((cfgA pf hp).slots t (3 : Fin 4))
abbrev hs3 (t : Fin (cfgA pf hp).N) : (ms3 pf hp t).IsWhole := hstage2_3 (((cfgA pf hp).slots t (3 : Fin 4)).cast nbuf2_3)

/-- Window `w`'s block at point `t`, read off its array at launch. -/
def iblk (c : Dev nD) (w : Fin (cfgA pf hp).W) (t : Fin (cfgA pf hp).N) : (((cfgA pf hp).win w).xblock (crd pf hp t)).Idx → Elt F ((cfgA pf hp).win w).elt :=
  (((cfgA pf hp).win w).blk t).view.read (Elt F) (Vl c (Pipeline.arrRef spec2 w))

/-- One point's step, at the blocks staged for it. -/
def step (c : Dev nD) (t : Fin (cfgA pf hp).N) (prev : S4096x2048.Idx → Elt F .f32) : S4096x2048.Idx → Elt F .f32 :=
  stepV (crd pf hp t) (lo pf (crd pf hp t)) (hi pf (crd pf hp t)) (rb pf (crd pf hp t))
    (iblk pf hp Vl c (0 : Fin 4) t) (iblk pf hp Vl c (1 : Fin 4) t) (iblk pf hp Vl c (2 : Fin 4) t) prev

/-- The result's block after position `n`. -/
def traj (c : Dev nD) : (n : ℕ) → n < (cfgA pf hp).N → (S4096x2048.Idx → Elt F .f32)
  | 0, h => step pf hp Vl c ⟨0, h⟩ (k2_pay1 (F := F))
  | n + 1, h => step pf hp Vl c ⟨n + 1, h⟩ (traj c n (Nat.lt_of_succ_lt h))

/-- What it held before point `t`. -/
def prev (c : Dev nD) (t : Fin (cfgA pf hp).N) : S4096x2048.Idx → Elt F .f32 :=
  if h : t.val = 0 then k2_pay1 (F := F) else traj pf hp Vl c (t.val - 1) (by omega)

theorem traj_eq (c : Dev nD) (t : Fin (cfgA pf hp).N) : traj pf hp Vl c t.val t.isLt = step pf hp Vl c t (prev pf hp Vl c t) := by
  obtain ⟨n, hn⟩ := t
  cases n with
  | zero => rfl
  | succ n => unfold prev; simp only [Nat.add_one_ne_zero, dif_neg, not_false_eq_true]; rfl

/-- At the first point what was found does not matter. -/
theorem step_first (c : Dev nD) (t : Fin (cfgA pf hp).N) (h : t.val = 0) (y y' : S4096x2048.Idx → Elt F .f32) :
    step pf hp Vl c t y = step pf hp Vl c t y' := by
  unfold step stepV baseV
  simp only [if_pos (cond1_first pf hp t h)]

/-- At an idle point nothing changes. -/
theorem step_idle (c : Dev nD) (t : Fin (cfgA pf hp).N) (h : (cfgA pf hp).idle (3 : Fin 4) ((cfgA pf hp).grid.coords t) = true) (y : S4096x2048.Idx → Elt F .f32) :
    step pf hp Vl c t y = y := by
  have h' := (idle_iff pf hp _).mp h
  unfold step stepV baseV
  rw [dif_neg (fun hh => h'.2 hh.1), if_neg h'.1]

/-- Between points: the tables, and the scoped buffers that no window stages. -/
def Phi (c : Dev nD) : sProp 𝕄 :=
  iprop(((tb0.view.loc (c : Thread nD τ) ↦{fullShare} pf 0) ∗ (tb1.view.loc (c : Thread nD τ) ↦{fullShare} pf 1) ∗ (tb2.view.loc (c : Thread nD τ) ↦{fullShare} pf 2) ∗ (tb3.view.loc (c : Thread nD τ) ↦{fullShare} pf 3))
    ∗ Pipeline.scopedRest (Ix := HIx 2) (Name := ℕ) (U := UU) (Lvl := ℕ) (Val := Elt F) spec2 c)

/-- The proof data of the one pipeline on core `c`. -/
def dats (c : Dev nD) : Dat τ (Elt F) (HIx 2) ℕ UU ℕ (cfgA pf hp) c where
  A w := Vl c (Pipeline.arrRef spec2 w)
  after w t := match w with
    | ⟨0, _⟩ => iblk pf hp Vl c (0 : Fin 4) t
    | ⟨1, _⟩ => iblk pf hp Vl c (1 : Fin 4) t
    | ⟨2, _⟩ => iblk pf hp Vl c (2 : Fin 4) t
    | ⟨3, _⟩ => traj pf hp Vl c t.val t.isLt
  Φ _ := Phi pf c
  q _ := fullShare
  owed _ := (K (F := F)).Otc c 1
  recorded _ := {p | (K (F := F)).lev (SparseCore.T c, p.1) p.2 ≤ 8 * 1}

theorem after_0 (c : Dev nD) (t : Fin (cfgA pf hp).N) : (dats pf hp Vl c).after (0 : Fin 4) t = iblk pf hp Vl c (0 : Fin 4) t := rfl
theorem after_1 (c : Dev nD) (t : Fin (cfgA pf hp).N) : (dats pf hp Vl c).after (1 : Fin 4) t = iblk pf hp Vl c (1 : Fin 4) t := rfl
theorem after_2 (c : Dev nD) (t : Fin (cfgA pf hp).N) : (dats pf hp Vl c).after (2 : Fin 4) t = iblk pf hp Vl c (2 : Fin 4) t := rfl
theorem after_3 (c : Dev nD) (t : Fin (cfgA pf hp).N) : (dats pf hp Vl c).after (3 : Fin 4) t = traj pf hp Vl c t.val t.isLt := rfl

/-- The three inputs hold their blocks. -/
theorem before_0 (c : Dev nD) (t : Fin (cfgA pf hp).N) (d) : (dats pf hp Vl c).before (0 : Fin 4) t d = iblk pf hp Vl c (0 : Fin 4) t :=
  ((dats pf hp Vl c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hp).N) (d) : (dats pf hp Vl c).before (1 : Fin 4) t d = iblk pf hp Vl c (1 : Fin 4) t :=
  ((dats pf hp Vl c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA pf hp).N) (d) : (dats pf hp Vl c).before (2 : Fin 4) t d = iblk pf hp Vl c (2 : Fin 4) t :=
  ((dats pf hp Vl c).before_in_eq_fetched (2 : Fin 4) rfl (fun _ => rfl) (fun _ _ _ => rfl) (fun t => by rw [after_2]; unfold Dat.blockOf iblk; rfl) t d).trans
    (by unfold Dat.fetched Dat.blockOf iblk; rfl)

theorem carry_3 (c : Dev nD) : ∀ (t : Fin (cfgA pf hp).N) (ht : t.val ≠ 0), (cfgA pf hp).idle (3 : Fin 4) ((cfgA pf hp).grid.coords t) = true → (cfgA pf hp).fresh (3 : Fin 4) t.val = false →
    (dats pf hp Vl c).after (3 : Fin 4) t = (dats pf hp Vl c).after (3 : Fin 4) ⟨t.val - 1, by omega⟩ := by
  intro t ht hi hf
  rw [after_3, after_3, traj_eq, step_idle pf hp Vl c t hi]
  unfold prev; rw [dif_neg ht]

/-- After the first point the result's buffer holds what the point before left. -/
theorem before_3 (c : Dev nD) (t : Fin (cfgA pf hp).N) (h0 : t.val ≠ 0) (d) : (dats pf hp Vl c).before (3 : Fin 4) t d = prev pf hp Vl c t := by
  have hf : (cfgA pf hp).fresh (3 : Fin 4) t.val = false := fresh3 pf hp t.val (lt_of_lt_of_eq t.isLt (N_A pf hp)) h0
  rw [(dats pf hp Vl c).before_out_traj (3 : Fin 4) rfl (fun _ _ => rfl) (carry_3 pf hp Vl c) t.val t rfl d, hf, if_neg Bool.false_ne_true, after_3]
  unfold prev; rw [dif_neg h0]

/-- The step from what the point finds is the next position of the trajectory. -/
theorem step_before (c : Dev nD) (t : Fin (cfgA pf hp).N) (d) :
    step pf hp Vl c t ((dats pf hp Vl c).before (3 : Fin 4) t d) = traj pf hp Vl c t.val t.isLt := by
  rw [traj_eq]
  by_cases h0 : t.val = 0
  · exact step_first pf hp Vl c t h0 _ _
  · rw [before_3 pf hp Vl c t h0 d]

/-- The body at point `t` on its staging memrefs, as the pipeline calls it. -/
abbrev bodyAt (t : Fin (cfgA pf hp).N) : Prog (TpuEff nD τ sig (Elt F) Λ₀ .tc) PUnit :=
  cc2__gmm_body (crd pf hp t) (Memref.whole main_v29) (Memref.isWhole_whole _) (Memref.whole main_v31) (Memref.isWhole_whole _) (Memref.whole main_v33) (Memref.isWhole_whole _) (Memref.whole main_v35) (Memref.isWhole_whole _) (ms0 pf hp t) (hs0 pf hp t) (ms1 pf hp t) (hs1 pf hp t) (ms2 pf hp t) (hs2 pf hp t) (ms3 pf hp t) (hs3 pf hp t)

/-- What the obligation asks of the result's window after the body, from the trajectory's next position. -/
theorem post_3 (c : Dev nD) (t : Fin (cfgA pf hp).N) :
    (owns (c : Thread nD τ) (ms3 pf hp t) fullShare (traj pf hp Vl c t.val t.isLt) : sProp 𝕄)
      ⊢ (match (cfgA pf hp).idle (3 : Fin 4) ((cfgA pf hp).grid.coords t) with
                | true =>
                  match ((cfgA pf hp).win (3 : Fin 4)).flush t with
                  | false => iprop(∃ d, owns (c : Thread nD τ) (((cfgA pf hp).win (3 : Fin 4)).stage ((cfgA pf hp).slots t (3 : Fin 4))) fullShare ((dats pf hp Vl c).before (3 : Fin 4) t d))
                  | true => owns (c : Thread nD τ) (((cfgA pf hp).win (3 : Fin 4)).stage ((cfgA pf hp).slots t (3 : Fin 4))) fullShare ((dats pf hp Vl c).after (3 : Fin 4) t)
                | false => owns (c : Thread nD τ) (((cfgA pf hp).win (3 : Fin 4)).stage ((cfgA pf hp).slots t (3 : Fin 4))) fullShare ((dats pf hp Vl c).after (3 : Fin 4) t)) := by
  cases hi : (cfgA pf hp).idle (3 : Fin 4) ((cfgA pf hp).grid.coords t)
  · iintro H; iexact H
  · cases hf : ((cfgA pf hp).win (3 : Fin 4)).flush t
    · have h0 : t.val ≠ 0 := fun h => ((idle_iff pf hp _).mp hi).1 (cond1_first pf hp t h)
      have e : traj pf hp Vl c t.val t.isLt = (dats pf hp Vl c).before (3 : Fin 4) t (k2_pay1 (F := F)) := by
        rw [before_3 pf hp Vl c t h0, traj_eq, step_idle pf hp Vl c t hi]
      rw [e]
      iintro H; iexists _; iexact H
    · iintro H; iexact H

set_option maxHeartbeats 4000000 in
/-- The body's obligation at point `t`. -/
theorem sound_body (c : Dev nD) (t : Fin (cfgA pf hp).N) :
    iprop((dats pf hp Vl c).Φ t.castSucc ∗ (dats pf hp Vl c).owesAt none t.castSucc
        ∗ (∃ d, owns (c : Thread nD τ) (ms0 pf hp t) fullShare ((dats pf hp Vl c).before (0 : Fin 4) t d))
        ∗ (∃ d, owns (c : Thread nD τ) (ms1 pf hp t) fullShare ((dats pf hp Vl c).before (1 : Fin 4) t d))
        ∗ (∃ d, owns (c : Thread nD τ) (ms2 pf hp t) fullShare ((dats pf hp Vl c).before (2 : Fin 4) t d))
        ∗ (∃ d, owns (c : Thread nD τ) (ms3 pf hp t) fullShare ((dats pf hp Vl c).before (3 : Fin 4) t d)))
      ⊢ wp frame (wpE (defs₀ (F := F)) Variants.none c none) Set.univ (bodyAt pf hp t) fun _ =>
          iprop((dats pf hp Vl c).Φ t.succ ∗ (dats pf hp Vl c).owesAt none t.succ
            ∗ bigSep Finset.univ fun w : Fin (cfgA pf hp).W =>
                match (cfgA pf hp).idle w ((cfgA pf hp).grid.coords t) with
                | true =>
                  match ((cfgA pf hp).win w).flush t with
                  | false => iprop(∃ d, owns (c : Thread nD τ) (((cfgA pf hp).win w).stage ((cfgA pf hp).slots t w)) fullShare ((dats pf hp Vl c).before w t d))
                  | true => owns (c : Thread nD τ) (((cfgA pf hp).win w).stage ((cfgA pf hp).slots t w)) fullShare ((dats pf hp Vl c).after w t)
                | false => owns (c : Thread nD τ) (((cfgA pf hp).win w).stage ((cfgA pf hp).slots t w)) fullShare ((dats pf hp Vl c).after w t)) := by
  rw [bigSep_W2]
  simp only [before_0, before_1, before_2, after_0, after_1, after_2]
  rewrite [show (dats pf hp Vl c).Φ t.succ = Phi pf c from rfl, show (dats pf hp Vl c).Φ t.castSucc = Phi pf c from rfl,
    show (dats pf hp Vl c).owesAt none t.succ = (dats pf hp Vl c).owesAt none t.castSucc from rfl]
  unfold Phi
  iintro ⟨⟨⟨HT0, HT1, HT2, HT3⟩, HR⟩, Ho, ⟨%d0, H0⟩, ⟨%d1, H1⟩, ⟨%d2, H2⟩, ⟨%d3, H3⟩⟩
  iapply (run_body c (crd pf hp t) (ms0 pf hp t) (hs0 pf hp t) (ms1 pf hp t) (hs1 pf hp t) (ms2 pf hp t) (hs2 pf hp t) (ms3 pf hp t) (hs3 pf hp t) (pf 0) (pf 1) (pf 2) (pf 3)
    (iblk pf hp Vl c (0 : Fin 4) t) (iblk pf hp Vl c (1 : Fin 4) t) (iblk pf hp Vl c (2 : Fin 4) t) ((dats pf hp Vl c).before (3 : Fin 4) t d3)
    (off3_inb _ (rb_lt pf hp _)) _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [HT2]; · iexact HT2
  isplitl [HT3]; · iexact HT3
  isplitl [H3]; · iapply rep_of_owns; iexact H3
  iintro ⟨H0, H1, H2, HT0, HT1, HT2, HT3, H3⟩
  isplitl [HT0 HT1 HT2 HT3 HR]
  · isplitr [HR]; swap; · iexact HR
    isplitl [HT0]
    · iexact HT0
    isplitl [HT1]
    · iexact HT1
    isplitl [HT2]
    · iexact HT2
    iexact HT3
  isplitl [Ho]; · iexact Ho
  isplitl [H0]
  · iapply owns_of_rep; iexact H0
  isplitl [H1]
  · iapply owns_of_rep; iexact H1
  isplitl [H2]
  · iapply owns_of_rep; iexact H2
  iapply (post_3 pf hp Vl c t)
  have e := step_before pf hp Vl c t d3
  unfold step at e
  rw [← e]
  iexact H3

/-- The library's body obligation, at every point. -/
theorem body_obligation (c : Dev nD) : BodyObligation (dats pf hp Vl c) (defs₀ (F := F)) Variants.none none Set.univ := fun t => by
  rw [bigSep_W2]
  exact sound_body pf hp Vl c t

/-! ## The region -/

theorem share_eq (c : Dev nD) (w : Fin (cfgA pf hp).W) : (dats pf hp Vl c).share w = fullShare := by unfold Dat.share; split <;> rfl

/-- The tables as the launch hands them to the region, one by one. -/
theorem prefHeld_eq (c : Dev nD) (q : Fin 4 → PosShare TreeShare) (v : pre2.Contents (Elt F)) :
    (Pipeline.prefHeld (Ix := HIx 2) (Name := ℕ) (U := UU) (Lvl := ℕ) pre2 c q v : sProp 𝕄)
      = iprop((((c : Thread nD τ).loc main_v29) ↦{q 0} v 0) ∗ (((c : Thread nD τ).loc main_v31) ↦{q 1} v 1) ∗ (((c : Thread nD τ).loc main_v33) ↦{q 2} v 2) ∗ (((c : Thread nD τ).loc main_v35) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

end Cert.Proof.Whole.E

end
-- ==== Proof.Whole.WRun.lean ====
/-
  The weighted sum on the TensorCore: the body run once, on any whole staging buffers.
-/
module

public import proofs.«01_k».proof.Proof.Whole.Setup
public import Idealize.ShloMosaic.Lib.ViewIndex
public import Idealize.ShloMosaic.Lib.Pipeline.RegionsLoop
public import Idealize.ShloMosaic.Lib.Pipeline.FrameBody
public import Idealize.ShloMosaic.Lib.Pipeline.ValueKit.Geometry
public import Idealize.ShloMosaic.Lib.Pipeline.Value

@[expose] public section

noncomputable section

namespace Cert.Proof.Whole.W

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- A whole memref owned is its buffer owned whole. -/
theorem owns_of_whole {c : Thread nD τ} {sp : Space} {s : Shape} {e : EltTy} {M : Memref sig c.2.kind sp s e} (h : M.IsWhole)
    (q : PosShare TreeShare) (X : s.Idx → Elt F e) :
    (owns c M q X : sProp 𝕄) = iprop(∃ f, ⌜M.view.read (Elt F) f = X⌝ ∗ (M.view.loc c ↦{q} f)) := by
  obtain ⟨b, rfl, rfl, rfl, hb⟩ := h; obtain rfl := eq_of_heq hb
  exact owns_whole_eq c b q X

theorem wadd_body (d : Dev nD) (i : grid4.Coords)
    (M1 : Memref sig .tc .vmem S256x2048 .f32) (h1 : M1.IsWhole) (M2 : Memref sig .tc .vmem S256x2048 .f32) (h2 : M2.IsWhole)
    (M3 : Memref sig .tc .vmem S256x2 .f32) (h3 : M3.IsWhole) (M4 : Memref sig .tc .vmem S256x2048 .f32) (h4 : M4.IsWhole)
    (f1 : Buf (Elt F) (M1.view.loc (SparseCore.T d))) (f2 : Buf (Elt F) (M2.view.loc (SparseCore.T d))) (f3 : Buf (Elt F) (M3.view.loc (SparseCore.T d)))
    (f4 : Buf (Elt F) (M4.view.loc (SparseCore.T d))) (Q : PUnit → sProp 𝕄) :
    iprop((M1.view.loc (SparseCore.T d) ↦{fullShare} f1) ∗ (M2.view.loc (SparseCore.T d) ↦{fullShare} f2)
        ∗ (M3.view.loc (SparseCore.T d) ↦{fullShare} f3) ∗ (M4.view.loc (SparseCore.T d) ↦{fullShare} f4)
        ∗ (iprop((M1.view.loc (SparseCore.T d) ↦{fullShare} f1) ∗ (M2.view.loc (SparseCore.T d) ↦{fullShare} f2)
            ∗ (M3.view.loc (SparseCore.T d) ↦{fullShare} f3)
            ∗ ∃ g, ⌜M4.view.read (Elt F) g = k4_pay1 (M3.view.read (Elt F) f3) (M1.view.read (Elt F) f1) (M2.view.read (Elt F) f2)⌝
                ∗ (M4.view.loc (SparseCore.T d) ↦{fullShare} g)) -∗ Q ⟨⟩))
      ⊢ wp frame (wpE (defs₀ (F := F)) 𝒱₀ (SparseCore.T d) none) Set.univ (cc4__wadd_body i M1 h1 M2 h2 M3 h3 M4 h4) Q := by
  rw [cc4__wadd_body_eq_skeleton]
  unfold cc4__wadd_body_skel
  iintro ⟨H1, H2, H3, H4, Hk⟩
  sl_exec!
  sl_step
  iapply Hk
  isplitl [H1]; · iexact H1
  isplitl [H2]; · iexact H2
  isplitl [H3]; · iexact H3
  iexists _; isplitr; swap; · iexact H4
  ipureintro
  rw [View.read_writes_junk_eq_canon]
  unfold wadd_body.sl.H4_1
  rw [View.canon_unit_zero (by decide)]
  exact congr (congrArg₂ _ (View.ld_unit_zero (by decide) _ _) (View.ld_unit_zero (by decide) _ _)) (View.ld_unit_zero (by decide) _ _)

/-! ## The proof data -/

/-- The rank-two index of two coordinates. -/
def ix2 {n : Fin 2 → Nat} (a : Fin (n 0)) (b : Fin (n 1)) : (⟨2, n⟩ : Shape).Idx := fun | 0 => a | 1 => b

theorem ix2_eq {n : Fin 2 → Nat} {x : (⟨2, n⟩ : Shape).Idx} {a : Fin (n 0)} {b : Fin (n 1)} (h0 : (x 0).val = a.val) (h1 : (x 1).val = b.val) :
    x = ix2 a b := funext fun k => by
  match k with
  | ⟨0, _⟩ => exact Fin.ext h0
  | ⟨1, _⟩ => exact Fin.ext h1

/-- The weighted sum of rows `k` and `2048 + k` of the gathered rows, for every `k`. -/
def wsum (G2 : S4096x2048.Idx → Elt F .f32) (Wn : S2048x2.Idx → Elt F .f32) : S2048x2048.Idx → Elt F .f32 := fun x =>
  FloatOps.addf
    (FloatOps.mulf (G2 (ix2 ⟨(x 0).val, Nat.lt_of_lt_of_le (x 0).isLt (by decide)⟩ (x 1))) (Wn (ix2 (x 0) (0 : Fin 2))))
    (FloatOps.mulf (G2 (ix2 ⟨2048 + (x 0).val, Nat.lt_of_lt_of_le (Nat.add_lt_add_left (x 0).isLt 2048) (by decide)⟩ (x 1))) (Wn (ix2 (x 0) (1 : Fin 2))))

variable (Vl : (d : Dev nD) → (b : Ref sig .tc) → Buf (Elt F) ((SparseCore.T d : Thread nD τ).loc b))

/-- The block of window `w` of an array on point `t`. -/
abbrev blk0 (d : Dev nD) (t : Fin cfg4.N) : (cfg4.win 0).block.Idx → Elt F (cfg4.win 0).elt := ((cfg4.win 0).blk t).view.read (Elt F) (Vl d main_v49)
abbrev blk1 (d : Dev nD) (t : Fin cfg4.N) : (cfg4.win 1).block.Idx → Elt F (cfg4.win 1).elt := ((cfg4.win 1).blk t).view.read (Elt F) (Vl d main_v49)
abbrev blk2 (d : Dev nD) (t : Fin cfg4.N) : (cfg4.win 2).block.Idx → Elt F (cfg4.win 2).elt := ((cfg4.win 2).blk t).view.read (Elt F) (Vl d main_v1_1)

def dat (d : Dev nD) : Pipeline.Dat τ (Elt F) (HIx 2) ℕ UU ℕ cfg4 d where
  A w := Vl d (Pipeline.arrRef spec4 w)
  after w t := match w with
    | ⟨0, _⟩ => blk0 Vl d t
    | ⟨1, _⟩ => blk1 Vl d t
    | ⟨2, _⟩ => blk2 Vl d t
    | ⟨3, _⟩ => k4_pay1 (blk2 Vl d t) (blk0 Vl d t) (blk1 Vl d t)
  Φ _ := Pipeline.scopedRest (Ix := HIx 2) (Name := ℕ) (U := UU) (Lvl := ℕ) (Val := Elt F) spec4 d
  q w := Pipeline.shareOf spec4 w
  owed _ := (K (F := F)).Otc d 2
  recorded _ := {p | (K (F := F)).lev (SparseCore.T d, p.1) p.2 ≤ 8 * 2}

theorem before0 (d : Dev nD) (t : Fin cfg4.N) (X) : (dat Vl d).before 0 t X = blk0 Vl d t := (dat Vl d).before_fetched 0 t (fetch4_0 t) X
theorem before1 (d : Dev nD) (t : Fin cfg4.N) (X) : (dat Vl d).before 1 t X = blk1 Vl d t := (dat Vl d).before_fetched 1 t (fetch4_1 t) X
theorem before2 (d : Dev nD) (t : Fin cfg4.N) (X) : (dat Vl d).before 2 t X = blk2 Vl d t := (dat Vl d).before_fetched 2 t (fetch4_2 t) X

theorem body_obligation (d : Dev nD) : Pipeline.BodyObligation (dat Vl d) (defs₀ (F := F)) 𝒱₀ none Set.univ := fun t => by
  rw [bigSep_W4, bigSep_W4]
  simp only [before0, before1, before2, owns_of_whole (c := (d.tc : Thread nD τ)) (hstage4_0 _), owns_of_whole (c := (d.tc : Thread nD τ)) (hstage4_1 _),
    owns_of_whole (c := (d.tc : Thread nD τ)) (hstage4_2 _), owns_of_whole (c := (d.tc : Thread nD τ)) (hstage4_3 _)]
  rw [show (dat Vl d).Φ t.castSucc = (dat Vl d).Φ t.succ from rfl, show (dat Vl d).owesAt none t.castSucc = (dat Vl d).owesAt none t.succ from rfl]
  change _ ⊢ wp _ _ _ (bodyAt4 t) _
  iintro ⟨HΦ, Howes, ⟨%d0, %f0, %hf0, H0⟩, ⟨%d1, %f1, %hf1, H1⟩, ⟨%d2, %f2, %hf2, H2⟩, ⟨%d3, %f3, -, H3⟩⟩
  iapply (wadd_body d (grid4.coords t) _ _ _ _ _ _ _ _ f0 f1 f2 f3 _)
  isplitl [H0]; · iexact H0
  isplitl [H1]; · iexact H1
  isplitl [H2]; · iexact H2
  isplitl [H3]; · iexact H3
  iintro ⟨H0, H1, H2, %g, %hg, H3⟩
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  iexists g; isplitr
  · ipureintro; rw [hf0, hf1, hf2] at hg; exact hg
  iexact H3

/-! ## The result's array -/

theorem payW_apply (w : Vec F S256x2 .f32) (a b : Vec F S256x2048 .f32) (y : S256x2048.Idx) :
    k4_pay1 w a b y = FloatOps.addf (FloatOps.mulf (a y) (w (ix2 (y 0) (0 : Fin 2)))) (FloatOps.mulf (b y) (w (ix2 (y 0) (1 : Fin 2)))) := by
  unfold k4_pay1
  simp only [addf, mulf, shapeCast_self]
  have e (k : Fin 2) (h : S256x2.Slices ![0, k.val] S256x1) :
      broadcastTo S256x2048 (extractStridedSlice S256x1 ![0, k.val] w h) broadcasts_S256x1_S256x2048 y = w (ix2 (y 0) k) := by
    rw [broadcastTo_apply _ _ y (ix2 (n := ![256, 1]) (y 0) (0 : Fin 1)) (fun a => by fin_cases a <;> rfl),
      extractStridedSlice_apply _ _ _ _ (ix2 (n := ![256, 2]) (y 0) k) (fun a => by fin_cases a <;> simp [ix2] <;> rfl)]
  exact congrArg₂ _ (congrArg _ (e 0 _)) (congrArg _ (e 1 _))

theorem win_index : ∀ t : Fin grid4.N, win4_0.index t 0 = win4_3.index t 0 ∧ win4_0.index t 1 = win4_3.index t 1
    ∧ win4_1.index t 0 = win4_3.index t 0 + 8 ∧ win4_1.index t 1 = win4_3.index t 1
    ∧ win4_2.index t 0 = win4_3.index t 0 ∧ win4_2.index t 1 = 0 := by decide +kernel

theorem out_value (d : Dev nD) : (dat Vl d).arrAt 3 cfg4.N = wsum (Vl d main_v49) (Vl d main_v1_1) := by
  refine (dat Vl d).arrAt_eq_of_covers 3 _ (by decide +kernel) fun t hf y => ?_
  show k4_pay1 (blk2 Vl d t) (blk0 Vl d t) (blk1 Vl d t) _ = _
  rw [payW_apply]
  unfold wsum blk0 blk1 blk2
  obtain ⟨e0, e1, e2, e3, e4, e5⟩ := win_index t
  refine congr (congrArg _ (congr (congrArg _ (congrArg (Vl d main_v49) ?_)) (congrArg (Vl d main_v1_1) ?_)))
    (congr (congrArg _ (congrArg (Vl d main_v49) ?_)) (congrArg (Vl d main_v1_1) ?_))
  · refine ix2_eq ?_ ?_ <;> blk_simp
    · exact congrArg (· * 256 + (y 0).val) e0
    · exact congrArg (· * 2048 + (y 1).val) e1
  · refine ix2_eq ?_ ?_ <;> blk_simp
    · exact congrArg (· * 256 + (y 0).val) e4
    · rw [e5]; simp [ix2]
  · refine ix2_eq ?_ ?_ <;> blk_simp
    · show win4_1.index t 0 * 256 + (y 0).val = 2048 + (win4_3.index t 0 * 256 + (y 0).val); rw [e2]; omega
    · exact congrArg (· * 2048 + (y 1).val) e3
  · refine ix2_eq ?_ ?_ <;> blk_simp
    · exact congrArg (· * 256 + (y 0).val) e4
    · rw [e5]; simp [ix2]

end Cert.Proof.Whole.W

end
-- ==== Proof.Whole.Regions.lean ====
/-
  The three TensorCore regions between the SparseCore calls: each entered and left with every buffer at known contents.
-/
module

public import proofs.«01_k».proof.Proof.Whole.Pay
public import proofs.«01_k».proof.Proof.Whole.RRun
public import proofs.«01_k».proof.Proof.Whole.ERun
public import proofs.«01_k».proof.Proof.Whole.WRun

@[expose] public section

noncomputable section

namespace Cert.Proof.Whole

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- Contents of every device's TensorCore buffers. -/
abbrev Cont (F : FTy → Type) := (d : Dev nD) → (b : Ref sig .tc) → Buf (Elt F) ((SparseCore.T d : Thread nD τ).loc b)

variable (pf : pre2.Contents (Elt F)) (hp : E.TabOK pf) (V0 V1 V2 : Cont F)

abbrev adm : (p : Fin 3) → (pcfgs (F := F) p).Adm
  | ⟨0, _⟩ => cfg0.toPCfg_adm
  | ⟨1, _⟩ => E.adm pf hp
  | ⟨2, _⟩ => cfg4.toPCfg_adm

/-- The three regions' data, over the contents each is entered with. -/
def pdats : (p : Fin 3) → (d : Dev nD) → Pipeline.Dat τ (Elt F) (HIx 2) ℕ UU ℕ (Pipeline.pin (pcfgs (F := F)) (adm pf hp) p) d
  | ⟨0, _⟩ => fun d => R.dat V0 d
  | ⟨1, _⟩ => fun d => E.dats pf hp V1 d
  | ⟨2, _⟩ => fun d => W.dat V2 d

/-- The wait evidence: what a region owes at the later SparseCore calls lies above its own cells. -/
theorem waits (p : Fin 3) (n : ℕ) (howed : ∀ d t, (pdats pf hp V0 V1 V2 p d).owed t = (K (F := F)).Otc d n) (d : Dev nD) :
    (levAts (K (F := F)).L (K (F := F)).lev : sProp 𝕄)
      ⊢ Pipeline.cellsWaits (Pipeline.pin (pcfgs (F := F)) (adm pf hp)) (pdats pf hp V0 V1 V2) none p d :=
  Pipeline.cellsWaits_of_cut (Pipeline.pin (pcfgs (F := F)) (adm pf hp)) (pdats pf hp V0 V1 V2) none p d 0 ((K (F := F)).Otc d n) (howed d)
    (fun _ _ => Finset.mem_univ _) (fun _ _ => le_of_eq (SparseCore.Cfg.lev_none _ _))
    (fun g i h => ⟨Finset.mem_univ _, lt_of_lt_of_le (Nat.succ_pos _) (SparseCore.Cfg.lev_of_Otc_pos h)⟩)

/-- Where a region leaves its record: below what it was entered with, or at one of its own cells. -/
theorem rec_back (p : Fin 3) (n : ℕ) (d : Dev nD) (t) (howed : (pdats pf hp V0 V1 V2 p d).owed t = (K (F := F)).Otc d n)
    (hrec : (pdats pf hp V0 V1 V2 p d).recorded t = {x | (K (F := F)).lev (SparseCore.T d, x.1) x.2 ≤ 8 * n}) :
    ((pdats pf hp V0 V1 V2 p d).owesAt none t : sProp 𝕄) ⊢ recO (F := F) d n := by
  unfold Pipeline.Dat.owesAt Pipeline.owesWithin recO
  rw [howed]
  iintro ⟨%W, %hW, HO⟩; iexists W
  isplitr
  · ipureintro; intro x hx
    rcases hW hx with h | ⟨w, s, rfl⟩
    · rw [hrec] at h; exact h
    · exact Nat.zero_le _
  iexact HO

theorem rec_in (p : Fin 3) (n : ℕ) (d : Dev nD) (t) (howed : (pdats pf hp V0 V1 V2 p d).owed t = (K (F := F)).Otc d n)
    (hrec : (pdats pf hp V0 V1 V2 p d).recorded t = {x | (K (F := F)).lev (SparseCore.T d, x.1) x.2 ≤ 8 * n}) :
    recO (F := F) d n ⊢ ((pdats pf hp V0 V1 V2 p d).owesAt none t : sProp 𝕄) := by
  unfold Pipeline.Dat.owesAt Pipeline.owesWithin recO
  rw [howed]
  iintro ⟨%W, %hW, HO⟩; iexists W
  isplitr
  · ipureintro; intro x hx; refine Or.inl ?_; rw [hrec]; exact hW x hx
  iexact HO

/-! ## The router's region -/

variable (Vp : Cont F)

theorem share0 (d : Dev nD) (w) : (pdats pf hp V0 V1 V2 0 d).share w = fullShare := by unfold Pipeline.Dat.share; split <;> rfl
theorem share1 (d : Dev nD) (w) : (pdats pf hp V0 V1 V2 1 d).share w = fullShare := by unfold Pipeline.Dat.share; split <;> rfl

set_option backward.isDefEq.respectTransparency.types false in
def reg0 (h2 : ∀ d, Vp d main_v1_0 = R.out2 (V0 d main_v0) (V0 d main_arg1)) (h3 : ∀ d, Vp d main_v1_1 = R.out3 (V0 d main_v0) (V0 d main_arg1))
    (h4 : ∀ d, Vp d main_v1_2 = R.out4 (V0 d main_v0) (V0 d main_arg1)) (h5 : ∀ d, Vp d main_v1_3 = R.out5 (V0 d main_v0) (V0 d main_arg1))
    (h6 : ∀ d, Vp d main_v1_4 = R.out6 (V0 d main_v0) (V0 d main_arg1)) (h7 : ∀ d, Vp d main_v1_5 = R.out7 (V0 d main_v0) (V0 d main_arg1))
    (hne : ∀ d (b : Ref sig .tc), b ∉ ([main_v1_0, main_v1_1, main_v1_2, main_v1_3, main_v1_4, main_v1_5] : List (Ref sig .tc)) → Vp d b = V0 d b) :
    Pipeline.RegionSeg (pcfgs (F := F)) (adm pf hp) (pdats pf hp V0 V1 V2) none defs₀ 𝒱₀ (K (F := F)).L (K (F := F)).lev 0 where
  win := winFacts0.to₀
  block_pos := block_pos0
  stage_whole := stage_whole0
  K := PEmpty
  osem k := k.elim
  ho := Pipeline.OwnSemFacts.none _
  hbody d := (R.body_obligation V0 d).loose
  hwaits := waits pf hp V0 V1 V2 0 0 fun _ _ => rfl
  pre d := iprop(unscopedBufs d (V0 d) ∗ recO (F := F) d 0)
  post d := iprop(unscopedBufs d (Vp d) ∗ recO (F := F) d 0)
  X _ := BI.emp
  Y _ := BI.emp
  Z d := Pipeline.unscopedRest (Ix := HIx 2) (Name := ℕ) (U := UU) (Lvl := ℕ) spec0 d (V0 d)
  hentry d := by
    rw [Pipeline.ownSems0_none]
    have hsplit := Pipeline.arrays_of_unscopedBufs (p := 0) (pcfgs (F := F)) (adm pf hp) (pdats pf hp V0 V1 V2) winFacts0 arr_whole0 d
      (share0 pf hp V0 V1 V2 d) (V0 d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (rec_in pf hp V0 V1 V2 0 0 d 0 rfl rfl); iexact HO
    isplitr; · iempintro
    iexact Hrest
  hin d := by
    rw [show (pdats pf hp V0 V1 V2 0 d).Φ 0 = Pipeline.scopedRest (Ix := HIx 2) (Name := ℕ) (U := UU) (Lvl := ℕ) (Val := Elt F) spec0 d from rfl]
    iintro ⟨-, -, Hr⟩; iexact Hr
  hout d := by
    rw [Pipeline.ownSems0_none, show (pdats pf hp V0 V1 V2 0 d).Φ (Fin.last _) = Pipeline.scopedRest (Ix := HIx 2) (Name := ℕ) (U := UU) (Lvl := ℕ) (Val := Elt F) spec0 d from rfl]
    iintro Hr
    isplitr; · iempintro
    isplitr; · iempintro
    iexact Hr
  hexit d := by
    have hjoin := Pipeline.unscopedBufs_of_arrays (p := 0) (pcfgs (F := F)) (adm pf hp) (Ix := HIx 2) (Name := ℕ) (U := UU) (Lvl := ℕ) winFacts0 arr_whole0 d
      (pdats pf hp V0 V1 V2) (share0 pf hp V0 V1 V2 d) (V0 d) (Vp d) ((pdats pf hp V0 V1 V2 0 d).arrAt · cfg0.N)
      (fun w => by
        fin_cases w
        · exact ((pdats pf hp V0 V1 V2 0 d).arrAt_in 0 rfl _).trans (hne d main_v0 (by decide)).symm
        · exact ((pdats pf hp V0 V1 V2 0 d).arrAt_in 1 rfl _).trans (hne d main_arg1 (by decide)).symm
        · exact (R.out_value2 V0 d).trans (h2 d).symm
        · exact (R.out_value3 V0 d).trans (h3 d).symm
        · exact (R.out_value4 V0 d).trans (h4 d).symm
        · exact (R.out_value5 V0 d).trans (h5 d).symm
        · exact (R.out_value6 V0 d).trans (h6 d).symm
        · exact (R.out_value7 V0 d).trans (h7 d).symm)
      (fun b hb => hne d b fun h => hb (by
        have : ∀ b ∈ ([main_v1_0, main_v1_1, main_v1_2, main_v1_3, main_v1_4, main_v1_5] : List (Ref sig .tc)), b ∈ Finset.univ.image (Pipeline.arrRef spec0) := by decide
        exact this b h))
    iintro ⟨Ha, HO, -, Hrest⟩
    imodintro
    isplitl [Ha Hrest]
    · iapply hjoin; isplitl [Ha] <;> iassumption
    iapply (rec_back pf hp V0 V1 V2 0 0 d _ rfl rfl); iexact HO

/-! ## The experts' region -/

set_option backward.isDefEq.respectTransparency.types false in
def reg1 (htab : ∀ d (j : Fin 4), V1 d (pre2.ref j) = pf j)
    (hout : ∀ d, Vp d main_v36 = (E.dats pf hp V1 d).arrAt (3 : Fin 4) (E.cfgA pf hp).N) (hne : ∀ d (b : Ref sig .tc), b ≠ main_v36 → Vp d b = V1 d b) :
    Pipeline.RegionSeg (pcfgs (F := F)) (adm pf hp) (pdats pf hp V0 V1 V2) none defs₀ 𝒱₀ (K (F := F)).L (K (F := F)).lev 1 where
  win := winFacts2.to₀
  block_pos := block_pos2
  stage_whole := stage_whole2
  K := PEmpty
  osem k := k.elim
  ho := Pipeline.OwnSemFacts.none _
  hbody d := (E.body_obligation pf hp V1 d).loose
  hwaits := waits pf hp V0 V1 V2 1 1 fun _ _ => rfl
  pre d := iprop(unscopedBufs d (V1 d) ∗ recO (F := F) d 1)
  post d := iprop(unscopedBufs d (Vp d) ∗ recO (F := F) d 1)
  X _ := BI.emp
  Y d := Pipeline.prefHeld (Ix := HIx 2) (Name := ℕ) (U := UU) (Lvl := ℕ) pre2 d (fun _ => fullShare) pf
  Z d := Pipeline.unscopedRestP (Ix := HIx 2) (Name := ℕ) (U := UU) (Lvl := ℕ) pre2 spec2 d (V1 d)
  hentry d := by
    rw [Pipeline.ownSems0_none]
    have hsplit := Pipeline.arrays_of_unscopedBufs (p := 1) (pcfgs (F := F)) (adm pf hp) (pdats pf hp V0 V1 V2) winFacts2 arr_whole2 d
      (share1 pf hp V0 V1 V2 d) (V1 d) fun _ => rfl
    have hur := Pipeline.unscopedRest_split (Ix := HIx 2) (Name := ℕ) (U := UU) (Lvl := ℕ) preFacts2 d (V1 d)
    rw [show (fun k => V1 d (pre2.ref k)) = pf from funext (htab d)] at hur
    iintro ⟨⟨Hub, HO⟩, -, -⟩
    ihave H := hsplit $$ Hub
    icases H with ⟨Ha, Hrest⟩
    ihave Hrest := (Entails.of_eq hur) $$ Hrest
    icases Hrest with ⟨Hp, Hrest⟩
    imodintro
    isplitl [Ha]; · iexact Ha
    isplitl [Hp]; · iexact Hp
    isplitl [HO]
    · iapply (rec_in pf hp V0 V1 V2 1 1 d 0 rfl rfl); iexact HO
    isplitr; · iempintro
    iexact Hrest
  hin d := by
    rw [show (pdats pf hp V0 V1 V2 1 d).Φ 0 = E.Phi pf d from rfl]
    unfold E.Phi
    iintro ⟨-, Hp, Hr⟩
    isplitl [Hp]
    · iapply (Entails.of_eq (E.prefHeld_eq d (fun _ => fullShare) pf)); iexact Hp
    iexact Hr
  hout d := by
    rw [Pipeline.ownSems0_none, show (pdats pf hp V0 V1 V2 1 d).Φ (Fin.last _) = E.Phi pf d from rfl]
    unfold E.Phi
    iintro ⟨Hp, Hr⟩
    isplitl [Hp]
    · iapply (Entails.of_eq (E.prefHeld_eq d (fun _ => fullShare) pf).symm); iexact Hp
    isplitr; · iempintro
    iexact Hr
  hexit d := by
    have hjoin := Pipeline.unscopedBufs_of_arrays (p := 1) (pcfgs (F := F)) (adm pf hp) (Ix := HIx 2) (Name := ℕ) (U := UU) (Lvl := ℕ) winFacts2 arr_whole2 d
      (pdats pf hp V0 V1 V2) (share1 pf hp V0 V1 V2 d) (V1 d) (Vp d) ((pdats pf hp V0 V1 V2 1 d).arrAt · (E.cfgA pf hp).N)
      (fun w => by
        fin_cases w
        · exact ((pdats pf hp V0 V1 V2 1 d).arrAt_in (0 : Fin 4) rfl _).trans (hne d main_v27 (by decide)).symm
        · exact ((pdats pf hp V0 V1 V2 1 d).arrAt_in (1 : Fin 4) rfl _).trans (hne d main_arg2 (by decide)).symm
        · exact ((pdats pf hp V0 V1 V2 1 d).arrAt_in (2 : Fin 4) rfl _).trans (hne d main_arg3 (by decide)).symm
        · exact (hout d).symm)
      (fun b hb => hne d b fun h => hb (h ▸ Finset.mem_image.mpr ⟨(3 : Fin 4), Finset.mem_univ _, rfl⟩))
    have hur := Pipeline.unscopedRest_split (Ix := HIx 2) (Name := ℕ) (U := UU) (Lvl := ℕ) preFacts2 d (V1 d)
    rw [show (fun k => V1 d (pre2.ref k)) = pf from funext (htab d)] at hur
    iintro ⟨Ha, HO, Hp, Hrest⟩
    imodintro
    isplitl [Ha Hp Hrest]
    · iapply hjoin; isplitl [Ha]; · iexact Ha
      iapply (Entails.of_eq hur.symm); isplitl [Hp] <;> iassumption
    iapply (rec_back pf hp V0 V1 V2 1 1 d _ rfl rfl); iexact HO

/-! ## The weighted sum's region -/

set_option backward.isDefEq.respectTransparency.types false in
def reg2 (hout : ∀ d, Vp d main_v50 = W.wsum (V2 d main_v49) (V2 d main_v1_1)) (hne : ∀ d (b : Ref sig .tc), b ≠ main_v50 → Vp d b = V2 d b) :
    Pipeline.RegionSeg (pcfgs (F := F)) (adm pf hp) (pdats pf hp V0 V1 V2) none defs₀ 𝒱₀ (K (F := F)).L (K (F := F)).lev 2 where
  win := winFacts₀4
  block_pos := block_pos4
  stage_whole := stage_whole4
  K := PEmpty
  osem k := k.elim
  ho := Pipeline.OwnSemFacts.none _
  hbody d := (W.body_obligation V2 d).loose
  hwaits := waits pf hp V0 V1 V2 2 2 fun _ _ => rfl
  pre d := iprop(unscopedBufs d (V2 d) ∗ recO (F := F) d 2)
  post d := iprop(unscopedBufs d (Vp d) ∗ recO (F := F) d 2)
  X _ := BI.emp
  Y _ := BI.emp
  Z d := Pipeline.unscopedRest (Ix := HIx 2) (Name := ℕ) (U := UU) (Lvl := ℕ) spec4 d (V2 d)
  hentry d := by
    rw [Pipeline.ownSems0_none]
    have hsplit := Pipeline.arrays_of_unscopedBufs_shared (p := 2) (pcfgs (F := F)) (adm pf hp) (pdats pf hp V0 V1 V2) winFacts₀4 sharedIn4 arr_whole4 d
      (fun _ _ => rfl) (V2 d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (rec_in pf hp V0 V1 V2 2 2 d 0 rfl rfl); iexact HO
    isplitr; · iempintro
    iexact Hrest
  hin d := by
    rw [show (pdats pf hp V0 V1 V2 2 d).Φ 0 = Pipeline.scopedRest (Ix := HIx 2) (Name := ℕ) (U := UU) (Lvl := ℕ) (Val := Elt F) spec4 d from rfl]
    iintro ⟨-, -, Hr⟩; iexact Hr
  hout d := by
    rw [Pipeline.ownSems0_none, show (pdats pf hp V0 V1 V2 2 d).Φ (Fin.last _) = Pipeline.scopedRest (Ix := HIx 2) (Name := ℕ) (U := UU) (Lvl := ℕ) (Val := Elt F) spec4 d from rfl]
    iintro Hr
    isplitr; · iempintro
    isplitr; · iempintro
    iexact Hr
  hexit d := by
    have hjoin := Pipeline.unscopedBufs_of_arrays_shared (p := 2) (pcfgs (F := F)) (adm pf hp) (Ix := HIx 2) (Name := ℕ) (U := UU) (Lvl := ℕ) winFacts₀4 sharedIn4 arr_whole4 d
      (pdats pf hp V0 V1 V2) (fun _ _ => rfl) (V2 d) (Vp d) ((pdats pf hp V0 V1 V2 2 d).arrAt · cfg4.N)
      (fun w => by
        fin_cases w
        · exact ((pdats pf hp V0 V1 V2 2 d).arrAt_in 0 rfl _).trans (hne d main_v49 (by decide)).symm
        · exact ((pdats pf hp V0 V1 V2 2 d).arrAt_in 1 rfl _).trans (hne d main_v49 (by decide)).symm
        · exact ((pdats pf hp V0 V1 V2 2 d).arrAt_in 2 rfl _).trans (hne d main_v1_1 (by decide)).symm
        · exact (W.out_value V2 d).trans (hout d).symm)
      (fun b hb => hne d b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply (rec_back pf hp V0 V1 V2 2 2 d _ rfl rfl); iexact HO

end Cert.Proof.Whole

end
-- ==== Proof.Whole.Ops.lean ====
/-
  @main of the joined program, cut at its calls: the host operations before, between and after them.
-/
module

public import proofs.«01_k».proof.Proof.Whole.Regions

@[expose] public section

noncomputable section

namespace Cert.Proof.Whole

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.StableHlo (held held_sub_split held_congr wp_hlo_within wp_seq after)
open Idealize.ShloMosaic.Pipeline (ucRefs)

variable [FloatOps F]

/-! ## The host operations, between the calls -/

/-- The operations before the router. -/
abbrev opsA : List (HloOp τ sig (Elt F)) :=
  [StableHlo.reshape main_arg0 main_v0 (rfl : (.f32 : EltTy) = .f32) shapeCasts_S1x2048x2048_S2048x2048]
/-- The operations between the router and the scatter. -/
abbrev opsB : List (HloOp τ sig (Elt F)) :=
  [StableHlo.reshape main_v1_3 main_v2 (rfl : (.f32 : EltTy) = .f32) shapeCasts_S1x1_S_,
   StableHlo.unary main_v1_4 main_v3 ((extractStridedSlice S2048x1 ![0, 0] · slices_S2048x2_S2048x1_0_0) : (⟨S2048x2, .i32⟩ : BufTy).Contents (Elt F) → (⟨S2048x1, .i32⟩ : BufTy).Contents (Elt F)),
   StableHlo.reshape main_v3 main_v4 (rfl : (.i32 : EltTy) = .i32) shapeCasts_S2048x1_S2048,
   StableHlo.unary main_v1_4 main_v5 ((extractStridedSlice S2048x1 ![0, 1] · slices_S2048x2_S2048x1_0_1) : (⟨S2048x2, .i32⟩ : BufTy).Contents (Elt F) → (⟨S2048x1, .i32⟩ : BufTy).Contents (Elt F)),
   StableHlo.reshape main_v5 main_v6 (rfl : (.i32 : EltTy) = .i32) shapeCasts_S2048x1_S2048,
   StableHlo.reshape main_v0 main_v7 (rfl : (.f32 : EltTy) = .f32) shapeCasts_S2048x2048_S16384x2x128,
   StableHlo.unary main_v4 main_v8 (broadcastInDim S2048x1 ![0] bcast_S2048_S2048x1_0 : (⟨S2048, .i32⟩ : BufTy).Contents (Elt F) → (⟨S2048x1, .i32⟩ : BufTy).Contents (Elt F)),
   StableHlo.nullary main_c (constantI S_ 32 8#32),
   StableHlo.unary main_c main_v9 (broadcastInDim S2048x1 ![] bcast_S_S2048x1 : (⟨S_, .i32⟩ : BufTy).Contents (Elt F) → (⟨S2048x1, .i32⟩ : BufTy).Contents (Elt F)),
   StableHlo.binary main_v8 main_v9 main_v10 (muli : (⟨S2048x1, .i32⟩ : BufTy).Contents (Elt F) → (⟨S2048x1, .i32⟩ : BufTy).Contents (Elt F) → (⟨S2048x1, .i32⟩ : BufTy).Contents (Elt F)),
   StableHlo.nullary main_v11 (iotaInDim S8 32 0),
   StableHlo.unary main_v11 main_v12 (broadcastInDim S1x8 ![1] bcast_S8_S1x8_1 : (⟨S8, .i32⟩ : BufTy).Contents (Elt F) → (⟨S1x8, .i32⟩ : BufTy).Contents (Elt F)),
   StableHlo.unary main_v10 main_v13 (broadcastInDim S2048x8 ![0, 1] bcast_S2048x1_S2048x8_0_1 : (⟨S2048x1, .i32⟩ : BufTy).Contents (Elt F) → (⟨S2048x8, .i32⟩ : BufTy).Contents (Elt F)),
   StableHlo.unary main_v12 main_v14 (broadcastInDim S2048x8 ![0, 1] bcast_S1x8_S2048x8_0_1 : (⟨S1x8, .i32⟩ : BufTy).Contents (Elt F) → (⟨S2048x8, .i32⟩ : BufTy).Contents (Elt F)),
   StableHlo.binary main_v13 main_v14 main_v15 (addi : (⟨S2048x8, .i32⟩ : BufTy).Contents (Elt F) → (⟨S2048x8, .i32⟩ : BufTy).Contents (Elt F) → (⟨S2048x8, .i32⟩ : BufTy).Contents (Elt F)),
   StableHlo.reshape main_v15 main_v16 (rfl : (.i32 : EltTy) = .i32) shapeCasts_S2048x8_S16384,
   StableHlo.unary main_v6 main_v17 (broadcastInDim S2048x1 ![0] bcast_S2048_S2048x1_0 : (⟨S2048, .i32⟩ : BufTy).Contents (Elt F) → (⟨S2048x1, .i32⟩ : BufTy).Contents (Elt F)),
   StableHlo.nullary main_c_0 (constantI S_ 32 8#32),
   StableHlo.unary main_c_0 main_v18 (broadcastInDim S2048x1 ![] bcast_S_S2048x1 : (⟨S_, .i32⟩ : BufTy).Contents (Elt F) → (⟨S2048x1, .i32⟩ : BufTy).Contents (Elt F)),
   StableHlo.binary main_v17 main_v18 main_v19 (muli : (⟨S2048x1, .i32⟩ : BufTy).Contents (Elt F) → (⟨S2048x1, .i32⟩ : BufTy).Contents (Elt F) → (⟨S2048x1, .i32⟩ : BufTy).Contents (Elt F)),
   StableHlo.nullary main_v20 (iotaInDim S8 32 0),
   StableHlo.unary main_v20 main_v21 (broadcastInDim S1x8 ![1] bcast_S8_S1x8_1 : (⟨S8, .i32⟩ : BufTy).Contents (Elt F) → (⟨S1x8, .i32⟩ : BufTy).Contents (Elt F)),
   StableHlo.unary main_v19 main_v22 (broadcastInDim S2048x8 ![0, 1] bcast_S2048x1_S2048x8_0_1 : (⟨S2048x1, .i32⟩ : BufTy).Contents (Elt F) → (⟨S2048x8, .i32⟩ : BufTy).Contents (Elt F)),
   StableHlo.unary main_v21 main_v23 (broadcastInDim S2048x8 ![0, 1] bcast_S1x8_S2048x8_0_1 : (⟨S1x8, .i32⟩ : BufTy).Contents (Elt F) → (⟨S2048x8, .i32⟩ : BufTy).Contents (Elt F)),
   StableHlo.binary main_v22 main_v23 main_v24 (addi : (⟨S2048x8, .i32⟩ : BufTy).Contents (Elt F) → (⟨S2048x8, .i32⟩ : BufTy).Contents (Elt F) → (⟨S2048x8, .i32⟩ : BufTy).Contents (Elt F)),
   StableHlo.reshape main_v24 main_v25 (rfl : (.i32 : EltTy) = .i32) shapeCasts_S2048x8_S16384]
/-- The operations between the scatter and the experts. -/
abbrev opsC : List (HloOp τ sig (Elt F)) :=
  [StableHlo.reshape main_v26 main_v27 (rfl : (.f32 : EltTy) = .f32) shapeCasts_S32768x2x128_S4096x2048,
   StableHlo.unary main_v1_5 main_v28 ((extractStridedSlice S1x15 ![0, 0] · slices_S4x15_S1x15_0_0) : (⟨S4x15, .i32⟩ : BufTy).Contents (Elt F) → (⟨S1x15, .i32⟩ : BufTy).Contents (Elt F)),
   StableHlo.reshape main_v28 main_v29 (rfl : (.i32 : EltTy) = .i32) shapeCasts_S1x15_S15,
   StableHlo.unary main_v1_5 main_v30 ((extractStridedSlice S1x15 ![1, 0] · slices_S4x15_S1x15_1_0) : (⟨S4x15, .i32⟩ : BufTy).Contents (Elt F) → (⟨S1x15, .i32⟩ : BufTy).Contents (Elt F)),
   StableHlo.reshape main_v30 main_v31 (rfl : (.i32 : EltTy) = .i32) shapeCasts_S1x15_S15,
   StableHlo.unary main_v1_5 main_v32 ((extractStridedSlice S1x15 ![2, 0] · slices_S4x15_S1x15_2_0) : (⟨S4x15, .i32⟩ : BufTy).Contents (Elt F) → (⟨S1x15, .i32⟩ : BufTy).Contents (Elt F)),
   StableHlo.reshape main_v32 main_v33 (rfl : (.i32 : EltTy) = .i32) shapeCasts_S1x15_S15,
   StableHlo.unary main_v1_5 main_v34 ((extractStridedSlice S1x15 ![3, 0] · slices_S4x15_S1x15_3_0) : (⟨S4x15, .i32⟩ : BufTy).Contents (Elt F) → (⟨S1x15, .i32⟩ : BufTy).Contents (Elt F)),
   StableHlo.reshape main_v34 main_v35 (rfl : (.i32 : EltTy) = .i32) shapeCasts_S1x15_S15]
/-- The operations between the experts and the gather. -/
abbrev opsD : List (HloOp τ sig (Elt F)) :=
  [StableHlo.binary main_v4 main_v6 main_v37 ((fun a b => concatenate S4096 0 [⟨S2048, a⟩, ⟨S2048, b⟩] concatenates_S2048_S2048_S4096_d0) : (⟨S2048, .i32⟩ : BufTy).Contents (Elt F) → (⟨S2048, .i32⟩ : BufTy).Contents (Elt F) → (⟨S4096, .i32⟩ : BufTy).Contents (Elt F)),
   StableHlo.reshape main_v36 main_v38 (rfl : (.f32 : EltTy) = .f32) shapeCasts_S4096x2048_S32768x2x128,
   StableHlo.unary main_v37 main_v39 (broadcastInDim S4096x1 ![0] bcast_S4096_S4096x1_0 : (⟨S4096, .i32⟩ : BufTy).Contents (Elt F) → (⟨S4096x1, .i32⟩ : BufTy).Contents (Elt F)),
   StableHlo.nullary main_c_1 (constantI S_ 32 8#32),
   StableHlo.unary main_c_1 main_v40 (broadcastInDim S4096x1 ![] bcast_S_S4096x1 : (⟨S_, .i32⟩ : BufTy).Contents (Elt F) → (⟨S4096x1, .i32⟩ : BufTy).Contents (Elt F)),
   StableHlo.binary main_v39 main_v40 main_v41 (muli : (⟨S4096x1, .i32⟩ : BufTy).Contents (Elt F) → (⟨S4096x1, .i32⟩ : BufTy).Contents (Elt F) → (⟨S4096x1, .i32⟩ : BufTy).Contents (Elt F)),
   StableHlo.nullary main_v42 (iotaInDim S8 32 0),
   StableHlo.unary main_v42 main_v43 (broadcastInDim S1x8 ![1] bcast_S8_S1x8_1 : (⟨S8, .i32⟩ : BufTy).Contents (Elt F) → (⟨S1x8, .i32⟩ : BufTy).Contents (Elt F)),
   StableHlo.unary main_v41 main_v44 (broadcastInDim S4096x8 ![0, 1] bcast_S4096x1_S4096x8_0_1 : (⟨S4096x1, .i32⟩ : BufTy).Contents (Elt F) → (⟨S4096x8, .i32⟩ : BufTy).Contents (Elt F)),
   StableHlo.unary main_v43 main_v45 (broadcastInDim S4096x8 ![0, 1] bcast_S1x8_S4096x8_0_1 : (⟨S1x8, .i32⟩ : BufTy).Contents (Elt F) → (⟨S4096x8, .i32⟩ : BufTy).Contents (Elt F)),
   StableHlo.binary main_v44 main_v45 main_v46 (addi : (⟨S4096x8, .i32⟩ : BufTy).Contents (Elt F) → (⟨S4096x8, .i32⟩ : BufTy).Contents (Elt F) → (⟨S4096x8, .i32⟩ : BufTy).Contents (Elt F)),
   StableHlo.reshape main_v46 main_v47 (rfl : (.i32 : EltTy) = .i32) shapeCasts_S4096x8_S32768]
/-- The operations between the gather and the weighted sum. -/
abbrev opsE : List (HloOp τ sig (Elt F)) :=
  [StableHlo.reshape main_v48 main_v49 (rfl : (.f32 : EltTy) = .f32) shapeCasts_S32768x2x128_S4096x2048]
/-- The operations after the weighted sum. -/
abbrev opsF : List (HloOp τ sig (Elt F)) :=
  [StableHlo.reshape main_v50 main_v51 (rfl : (.f32 : EltTy) = .f32) shapeCasts_S2048x2048_S1x2048x2048]

theorem main_eq (d : Dev nD) : main (F := F) d = (StableHlo.seq opsA >>= fun _ =>
    SparseCore.liftProg (.op (.customCall (Pipeline.entry 0) ()) .ret) >>= fun _ => StableHlo.seq opsB >>= fun _ =>
    (K (F := F)).run d 0 >>= fun _ => StableHlo.seq opsC >>= fun _ =>
    SparseCore.liftProg (.op (.customCall (Pipeline.entry 1) ()) .ret) >>= fun _ => StableHlo.seq opsD >>= fun _ =>
    (K (F := F)).run d 1 >>= fun _ => StableHlo.seq opsE >>= fun _ =>
    SparseCore.liftProg (.op (.customCall (Pipeline.entry 2) ()) .ret) >>= fun _ => StableHlo.seq opsF >>= fun _ => .ret PUnit.unit) := rfl

theorem opsA_sub₀ : (opsA (F := F)).Forall fun op => op.bufs ⊆ StableHlo.tcRefs τ sig :=
  StableHlo.reshape_bufs_sub ..
theorem opsA_sub : ∀ op ∈ opsA (F := F), op.bufs ⊆ ucRefs τ sig := fun op h => Pipeline.sub_ucRefs op (List.forall_iff_forall_mem.mp opsA_sub₀ op h)
theorem opsA_fresh₀ : (opsA (F := F)).Forall fun op => op.fresh = ∅ := rfl
theorem opsA_fresh : ∀ op ∈ opsA (F := F), op.fresh = ∅ := List.forall_iff_forall_mem.mp opsA_fresh₀
theorem opsB_sub₀ : (opsB (F := F)).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩
theorem opsB_sub : ∀ op ∈ opsB (F := F), op.bufs ⊆ ucRefs τ sig := fun op h => Pipeline.sub_ucRefs op (List.forall_iff_forall_mem.mp opsB_sub₀ op h)
theorem opsB_fresh₀ : (opsB (F := F)).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl⟩
theorem opsB_fresh : ∀ op ∈ opsB (F := F), op.fresh = ∅ := List.forall_iff_forall_mem.mp opsB_fresh₀
theorem opsC_sub₀ : (opsC (F := F)).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
theorem opsC_sub : ∀ op ∈ opsC (F := F), op.bufs ⊆ ucRefs τ sig := fun op h => Pipeline.sub_ucRefs op (List.forall_iff_forall_mem.mp opsC_sub₀ op h)
theorem opsC_fresh₀ : (opsC (F := F)).Forall fun op => op.fresh = ∅ := ⟨rfl, rfl, rfl, rfl, rfl, rfl, rfl, rfl, rfl⟩
theorem opsC_fresh : ∀ op ∈ opsC (F := F), op.fresh = ∅ := List.forall_iff_forall_mem.mp opsC_fresh₀
theorem opsD_sub₀ : (opsD (F := F)).Forall fun op => op.bufs ⊆ StableHlo.tcRefs τ sig :=
  ⟨StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩
theorem opsD_sub : ∀ op ∈ opsD (F := F), op.bufs ⊆ ucRefs τ sig := fun op h => Pipeline.sub_ucRefs op (List.forall_iff_forall_mem.mp opsD_sub₀ op h)
theorem opsD_fresh₀ : (opsD (F := F)).Forall fun op => op.fresh = ∅ := ⟨rfl, rfl, rfl, rfl, rfl, rfl, rfl, rfl, rfl, rfl, rfl, rfl⟩
theorem opsD_fresh : ∀ op ∈ opsD (F := F), op.fresh = ∅ := List.forall_iff_forall_mem.mp opsD_fresh₀
theorem opsE_sub₀ : (opsE (F := F)).Forall fun op => op.bufs ⊆ StableHlo.tcRefs τ sig :=
  StableHlo.reshape_bufs_sub ..
theorem opsE_sub : ∀ op ∈ opsE (F := F), op.bufs ⊆ ucRefs τ sig := fun op h => Pipeline.sub_ucRefs op (List.forall_iff_forall_mem.mp opsE_sub₀ op h)
theorem opsE_fresh₀ : (opsE (F := F)).Forall fun op => op.fresh = ∅ := rfl
theorem opsE_fresh : ∀ op ∈ opsE (F := F), op.fresh = ∅ := List.forall_iff_forall_mem.mp opsE_fresh₀
theorem opsF_sub₀ : (opsF (F := F)).Forall fun op => op.bufs ⊆ StableHlo.tcRefs τ sig :=
  StableHlo.reshape_bufs_sub ..
theorem opsF_sub : ∀ op ∈ opsF (F := F), op.bufs ⊆ ucRefs τ sig := fun op h => Pipeline.sub_ucRefs op (List.forall_iff_forall_mem.mp opsF_sub₀ op h)
theorem opsF_fresh₀ : (opsF (F := F)).Forall fun op => op.fresh = ∅ := rfl
theorem opsF_fresh : ∀ op ∈ opsF (F := F), op.fresh = ∅ := List.forall_iff_forall_mem.mp opsF_fresh₀

end Cert.Proof.Whole

end
-- ==== Proof.Whole.STile.lean ====
/-
  One tile's body of the row scatter, at a symbolic tile: four trips, each fetching 128 rows of the tokens and scattering
  them twice, by the 128 words of each list. Here is what a trip touches and what it leaves there.
-/
module

public import proofs.«01_k».proof.Proof.Whole.SSetup
public import Idealize.ShloMosaic.Lib.SparseCore.Scatter
public import Idealize.ShloMosaic.Lib.ViewIndex
public import Idealize.ShloMosaic.Lib.Pipeline.ValueKit.Geometry
public import Idealize.ShloMosaic.Lib.Memref

@[expose] public section

noncomputable section

namespace Cert.Proof.Whole.S

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.MoeIdeal.main_v7_scv : Memref Cert.MoeIdeal.sig Kind.scVector Space.hbm Cert.MoeIdeal.S16384x2x128 EltTy.f32)
local notation "aV" => (Memref.whole Cert.MoeIdeal.main_v16_scv : Memref Cert.MoeIdeal.sig Kind.scVector Space.hbm Cert.MoeIdeal.S16384 EltTy.i32)
local notation "bV" => (Memref.whole Cert.MoeIdeal.main_v25_scv : Memref Cert.MoeIdeal.sig Kind.scVector Space.hbm Cert.MoeIdeal.S16384 EltTy.i32)
local notation "oV" => (Memref.whole Cert.MoeIdeal.main_v26_scv : Memref Cert.MoeIdeal.sig Kind.scVector Space.hbm Cert.MoeIdeal.S32768x2x128 EltTy.f32)
local notation "sV" => (Memref.whole Cert.MoeIdeal.cc1_scratch0 : Memref Cert.MoeIdeal.sig Kind.scVector Space.vmem Cert.MoeIdeal.S128 EltTy.i32)
local notation "rV" => (Memref.whole Cert.MoeIdeal.cc1_scratch1 : Memref Cert.MoeIdeal.sig Kind.scVector Space.vmem Cert.MoeIdeal.S128x2x128 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-! ## The pieces a trip touches -/

/-- The 128 rows of the tokens that trip `t` fetches, the 128 words of each list, and the whole result, as the tile addresses them. -/
abbrev xChunk (t : Fin k1_t1_loop.trips) : Memref sig .scVector .hbm S128x2x128 .f32 :=
  (xV).slice (Rect.unit (s := S16384x2x128) (k1_off1 L t) S128x2x128.size (k1_off1_inb L t)) (fun _ => rfl)
abbrev aChunk (t : Fin k1_t1_loop.trips) : Memref sig .scVector .hbm S128 .i32 :=
  (aV).slice (Rect.unit (s := S16384) (k1_off2 L t) S128.size (k1_off2_inb L t)) (fun _ => rfl)
abbrev bChunk (t : Fin k1_t1_loop.trips) : Memref sig .scVector .hbm S128 .i32 :=
  (bV).slice (Rect.unit (s := S16384) (k1_off2 L t) S128.size (k1_off2_inb L t)) (fun _ => rfl)
abbrev oAll : Memref sig .scVector .hbm S32768x2x128 .f32 :=
  (oV).slice (Rect.unit (s := S32768x2x128) ![0, 0, 0] S32768x2x128.size inb_S32768x2x128_S32768x2x128_0_0_0) (fun _ => rfl)

/-- The tile's first row of the tokens. -/
def base (L : grid1.Coords) : ℕ := 1024 * (L 1).val + 512 * (L 0).val

theorem off1_val (t : Fin k1_t1_loop.trips) : k1_off1 L t = ![base L + 128 * t.val, 0, 0] := k1_off1_eq L t
theorem off2_val (t : Fin k1_t1_loop.trips) : k1_off2 L t = ![base L + 128 * t.val] := k1_off2_eq L t

theorem trips_le : k1_t1_loop.trips ≤ 4 := k1_t1_abs.2.1
theorem trips_eq : k1_t1_loop.trips = 4 := by decide

/-- The row of the tokens that word `n` of trip `t` belongs to. -/
def cx (t : Fin k1_t1_loop.trips) (n : Fin 128) : Fin 16384 := ⟨base L + 128 * t.val + n.val, by
  have := t.isLt; have := trips_le; have h0 : (L 0).val < 2 := (L 0).isLt; have h1 : (L 1).val < 16 := (L 1).isLt
  unfold base; omega⟩

theorem cx_val (t : Fin k1_t1_loop.trips) (n : Fin 128) : (cx L t n).val = base L + 128 * t.val + n.val := rfl

theorem mem_tile (R : Route) {x : S32768x2x128.Idx} :
    x ∈ tileSet R (cL L) (jL L) ↔ base L ≤ (R (x 0)).1.val ∧ (R (x 0)).1.val < base L + 512 := by
  rw [mem_tileSet]; unfold base; show (R (x 0)).1.val / 512 = 2 * (L 1).val + (L 0).val ↔ _; omega

/-! ## What a trip fetches -/

/-- The rows that trip `t` fetches. -/
theorem rows_eq (X : S16384x2x128.Idx → Elt F .f32) (t : Fin k1_t1_loop.trips) (y : S128x2x128.Idx) (n : Fin 128) (x : S32768x2x128.Idx)
    (h0 : (y 0).val = n.val) (h1 : (y 1).val = (x 1).val) (h2 : (y 2).val = (x 2).val) :
    (xChunk L t).view.read (Elt F) X y = X (pick (cx L t n) x) := by
  rw [View.read_apply, cast_eq]
  have he : ∀ a, (((xChunk L t).view.emb y) a).val = k1_off1 L t a + (y a).val := fun a =>
    ValueKit.view_emb_slice_whole_unit_val (sig := sig) (main_v7_scv : Ref sig .scVector) (k1_off1 L t) S128x2x128.size (k1_off1_inb L t) y a
  refine congrArg X (Shape.idx3_ext ?_ ?_ ?_)
  · rw [he 0, off1_val, h0]; rfl
  · rw [he 1, off1_val, h1]; exact Nat.zero_add _
  · rw [he 2, off1_val, h2]; exact Nat.zero_add _

/-- The words of the first list that trip `t` fetches, -/
theorem words_a (W : S16384.Idx → Elt F .i32) (t : Fin k1_t1_loop.trips) (n : S128.Idx) :
    (aChunk L t).view.read (Elt F) W n = W (lix (cx L t (n 0))) := by
  rw [View.read_apply, cast_eq]
  refine congrArg W (funext fun a => Fin.ext ?_)
  have h := ValueKit.view_emb_slice_whole_unit_val (sig := sig) (main_v16_scv : Ref sig .scVector) (k1_off2 L t) S128.size (k1_off2_inb L t) n a
  refine h.trans ?_
  refine (congrArg (· + (n a).val) (congrFun (off2_val L t) a)).trans ?_
  fin_cases a; rfl

/-- and those of the second. -/
theorem words_b (W : S16384.Idx → Elt F .i32) (t : Fin k1_t1_loop.trips) (n : S128.Idx) :
    (bChunk L t).view.read (Elt F) W n = W (lix (cx L t (n 0))) := by
  rw [View.read_apply, cast_eq]
  refine congrArg W (funext fun a => Fin.ext ?_)
  have h := ValueKit.view_emb_slice_whole_unit_val (sig := sig) (main_v25_scv : Ref sig .scVector) (k1_off2 L t) S128.size (k1_off2_inb L t) n a
  refine h.trans ?_
  refine (congrArg (· + (n a).val) (congrFun (off2_val L t) a)).trans ?_
  fin_cases a; rfl

/-! ## What a scatter names and writes -/

theorem emb_oAll (x : S32768x2x128.Idx) : (oAll).view.emb x = x := by
  refine funext fun a => Fin.ext ?_
  have h := ValueKit.view_emb_slice_whole_unit_val (sig := sig) (main_v26_scv : Ref sig .scVector) ![0, 0, 0] S32768x2x128.size inb_S32768x2x128_S32768x2x128_0_0_0 x a
  refine h.trans ?_
  fin_cases a <;> exact Nat.zero_add _

abbrev ax : Fin S32768x2x128.rank := gathers_S32768x2x128_S128x2x128.axis
abbrev ax' : Fin S128x2x128.rank := gathers_S32768x2x128_S128x2x128.axis'

/-- The elements of one row of the result. -/
theorem mem_row {k : Fin (S32768x2x128.size ax)} {x : S32768x2x128.Idx} : x ∈ ((oAll).view.slice (S32768x2x128.rowRect ax k)).set ↔ x ax = k := by
  constructor
  · intro h
    obtain ⟨j, -, rfl⟩ := Finset.mem_map.mp h
    show ((oAll).view.emb ((S32768x2x128.rowRect ax k).emb j)) ax = k
    rw [emb_oAll]
    exact Shape.rowRect_emb_axis _ _ _
  · rintro rfl
    refine Finset.mem_map.mpr ⟨S32768x2x128.rowProj ax x, Finset.mem_univ _, ?_⟩
    show (oAll).view.emb ((S32768x2x128.rowRect ax (x ax)).emb (S32768x2x128.rowProj ax x)) = x
    rw [emb_oAll]
    exact Shape.rowRect_emb_rowProj _ _

theorem rowMajor_symm_one (k : Fin S128.numel) : ((S128.rowMajor.symm k) 0).val = k.val := by
  have := Shape.rowMajor_val_one (S128.rowMajor.symm k)
  rw [Equiv.apply_symm_apply] at this; exact this.symm

/-- The list scratch holds trip `t`'s words of the list `W`. -/
def Words (W : S16384.Idx → Elt F .i32) (t : Fin k1_t1_loop.trips) (idx : S128.Idx → Elt F .i32) : Prop := ∀ n, idx n = W (lix (cx L t (n 0)))

section Scattered

variable {W : S16384.Idx → Elt F .i32} {R : Route} {b : Bool} {t : Fin k1_t1_loop.trips} {idx : S128.Idx → Elt F .i32}

theorem words_lt (hW : Named W R b) (hi : Words L W t idx) : ∀ x, (idx x : BitVec 32).toNat < S32768x2x128.size ax := fun x => by
  rw [hi x]; exact (hW _).1

theorem words_route (hW : Named W R b) (hi : Words L W t idx) (n : S128.Idx) (r : Fin 32768) :
    (idx n : BitVec 32).toNat = r.val ↔ R r = (cx L t (n 0), b) := by
  rw [hi n]; exact (hW _).2 r

theorem words_inj (hW : Named W R b) (hi : Words L W t idx) : Function.Injective fun x => (idx x : BitVec 32).toNat := by
  intro x y h
  have hx := (words_route L hW hi x ⟨(idx x : BitVec 32).toNat, words_lt L hW hi x⟩).mp rfl
  have hy := (words_route L hW hi y ⟨(idx x : BitVec 32).toNat, words_lt L hW hi x⟩).mp h.symm
  have e := congrArg (fun p => p.1.val) (hx.symm.trans hy)
  dsimp only [cx] at e
  refine funext fun a => Fin.ext ?_
  fin_cases a
  show (x 0).val = (y 0).val
  omega

/-- The rows of the result that a scatter writes are those that the route sends the trip's rows to. -/
theorem mem_named (hW : Named W R b) (hi : Words L W t idx) (hn : S128.numel = S128x2x128.size ax') (hl : ∀ x, (idx x : BitVec 32).toNat < S32768x2x128.size ax)
    {x : S32768x2x128.Idx} :
    x ∈ SparseCore.namedRows (V d (cV L) (jV L)) (oAll).view ax (SparseCore.rows (F := F) idx hn hl) ↔ ∃ n : Fin 128, R (x 0) = (cx L t n, b) := by
  unfold SparseCore.namedRows
  simp only [Finset.mem_biUnion, Finset.mem_univ, true_and]
  constructor
  · rintro ⟨k, hk⟩
    have e := congrArg Fin.val (mem_row.mp hk)
    exact ⟨_, (words_route L hW hi (S128.rowMajor.symm (k.cast hn.symm)) (x 0)).mp e.symm⟩
  · rintro ⟨n, hx⟩
    refine ⟨(Fin.cast (by rfl) n : Fin (S128x2x128.size ax')), mem_row.mpr (Fin.ext ?_)⟩
    show (x 0).val = (idx (S128.rowMajor.symm _) : BitVec 32).toNat
    refine ((words_route L hW hi _ (x 0)).mpr ?_).symm
    rw [hx]
    refine congrArg (fun p => (cx L t p, b)) (Fin.ext ?_)
    exact (rowMajor_symm_one _).symm

theorem named_sub (hW : Named W R b) (hi : Words L W t idx) (hn : S128.numel = S128x2x128.size ax') (hl : ∀ x, (idx x : BitVec 32).toNat < S32768x2x128.size ax) :
    SparseCore.namedRows (V d (cV L) (jV L)) (oAll).view ax (SparseCore.rows (F := F) idx hn hl) ⊆ tileSet R (cL L) (jL L) := by
  intro x hx
  obtain ⟨n, hx⟩ := (mem_named d L hW hi hn hl).mp hx
  have := t.isLt; have := trips_le; have := n.isLt
  have e := congrArg (fun p => p.1.val) hx
  dsimp only [cx] at e
  rw [mem_tile, e]; omega

/-- What a scatter leaves in the rows it names. -/
theorem scat_val (hW : Named W R b) (hi : Words L W t idx) (hn : S128.numel = S128x2x128.size ax') (hl : ∀ x, (idx x : BitVec 32).toNat < S32768x2x128.size ax)
    (X : S16384x2x128.Idx → Elt F .f32) (fs : S128x2x128.Idx → Elt F .f32) (hfs : fs = (xChunk L t).view.read (Elt F) X) (f : S32768x2x128.Idx → Elt F .f32)
    (x : S32768x2x128.Idx) (hx : x ∈ SparseCore.namedRows (V d (cV L) (jV L)) (oAll).view ax (SparseCore.rows (F := F) idx hn hl)) :
    SparseCore.scatterBuf (V d (cV L) (jV L)) (oAll).view ax (SparseCore.rows (F := F) idx hn hl)
      (SparseCore.scatterRowPayload (V d (cV L) (jV L)) (rV) gathers_S32768x2x128_S128x2x128 fs) f x = scat X R x := by
  subst hfs
  obtain ⟨k, -, hk⟩ := Finset.mem_biUnion.mp hx
  have e := mem_row.mp hk
  rw [SparseCore.scatterBuf_of_mem (V d (cV L) (jV L)) (oAll).view ax _ (SparseCore.rows_injective (words_inj L hW hi)) _ f hk]
  have hr := (words_route L hW hi (S128.rowMajor.symm (k.cast hn.symm)) (x 0)).mp (congrArg Fin.val e).symm
  have hj : ((oAll).view.slice (S32768x2x128.rowRect ax (SparseCore.rows (F := F) idx hn hl k))).emb (S32768x2x128.rowProj ax x) = x := by
    show (oAll).view.emb ((S32768x2x128.rowRect ax (SparseCore.rows (F := F) idx hn hl k)).emb (S32768x2x128.rowProj ax x)) = x
    rw [emb_oAll, ← e]
    exact Shape.rowRect_emb_rowProj _ _
  generalize hz : S32768x2x128.rowProj ax x = z at hj
  subst hj
  refine (View.write_emb_of_mem (v := (oAll).view.slice (S32768x2x128.rowRect ax (SparseCore.rows (F := F) idx hn hl k))) _ _ (Finset.mem_univ z)).trans ?_
  have hv (c : Fin S32768x2x128.rank) (hc : c ≠ ax) : ((((oAll).view.slice (S32768x2x128.rowRect ax (SparseCore.rows (F := F) idx hn hl k))).emb z) c).val = (z c).val := by
    show (((oAll).view.emb ((S32768x2x128.rowRect ax (SparseCore.rows (F := F) idx hn hl k)).emb z)) c).val = _
    rw [emb_oAll]
    exact Shape.rowRect_emb_of_ne _ _ _ hc
  unfold scat
  rw [hr]
  refine (rows_eq L X t ((S128x2x128.rowRect ax' k).emb ((Shape.idxEquiv gathers_S32768x2x128_S128x2x128.rowShape_eq).symm z)) _
    (((oAll).view.slice (S32768x2x128.rowRect ax (SparseCore.rows (F := F) idx hn hl k))).emb z) ?_ ?_ ?_)
  · refine (congrArg Fin.val (Shape.rowRect_emb_axis ax' k _)).trans ?_
    exact (rowMajor_symm_one _).symm
  · refine (Shape.rowRect_emb_of_ne ax' k _ (b := 1) (by decide)).trans ?_
    refine Eq.trans ?_ (hv 1 (by decide)).symm
    exact Shape.idxEquiv_symm_apply_val _ _ _
  · refine (Shape.rowRect_emb_of_ne ax' k _ (b := 2) (by decide)).trans ?_
    refine Eq.trans ?_ (hv 2 (by decide)).symm
    exact Shape.idxEquiv_symm_apply_val _ _ _

end Scattered

end Tile

end Cert.Proof.Whole.S

end
-- ==== Proof.Whole.SCells.lean ====
/-
  A tile's own semaphore cells and scratch buffers, taken out of the whole of what it owns; and the forms in which the
  executor and the rules name what it holds.
-/
module

public import proofs.«01_k».proof.Proof.Whole.STile

@[expose] public section

noncomputable section

namespace Cert.Proof.Whole.S

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.MoeIdeal.main_v7_scv : Memref Cert.MoeIdeal.sig Kind.scVector Space.hbm Cert.MoeIdeal.S16384x2x128 EltTy.f32)
local notation "aV" => (Memref.whole Cert.MoeIdeal.main_v16_scv : Memref Cert.MoeIdeal.sig Kind.scVector Space.hbm Cert.MoeIdeal.S16384 EltTy.i32)
local notation "bV" => (Memref.whole Cert.MoeIdeal.main_v25_scv : Memref Cert.MoeIdeal.sig Kind.scVector Space.hbm Cert.MoeIdeal.S16384 EltTy.i32)
local notation "oV" => (Memref.whole Cert.MoeIdeal.main_v26_scv : Memref Cert.MoeIdeal.sig Kind.scVector Space.hbm Cert.MoeIdeal.S32768x2x128 EltTy.f32)
local notation "sV" => (Memref.whole Cert.MoeIdeal.cc1_scratch0 : Memref Cert.MoeIdeal.sig Kind.scVector Space.vmem Cert.MoeIdeal.S128 EltTy.i32)
local notation "rV" => (Memref.whole Cert.MoeIdeal.cc1_scratch1 : Memref Cert.MoeIdeal.sig Kind.scVector Space.vmem Cert.MoeIdeal.S128x2x128 EltTy.f32)

variable (d : Dev nD) (L : grid1.Coords)

abbrev cGcell (d : Dev nD) (c : Fin τ.nSC) (i : Fin τ.nSub) : GSem nD τ sig := (V d c i, .dma cc1_scratch2.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cGcell d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cGcell d (cV L) (jV L))).mpr ⟨rfl, by
      show (SemLoc.dma cc1_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cGcell, cCcell]; decide,
        (mem_ownCells (g := cCcell d (cV L) (jV L))).mpr ⟨rfl, by show (SemLoc.dma cc1_scoped2.sem : SemLoc sig).isScoped .scVector = true; decide⟩⟩⟩⟩)]

/-- The two scratch buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_sV (f : Buf (Elt F) ((V d (cV L) (jV L)).loc cc1_scratch0)) :
    ((sV).view.loc (V d (cV L) (jV L)) ↦[(sV).view.set]{fullShare} f : sProp 𝕄) = (V d (cV L) (jV L)).loc cc1_scratch0 ↦{fullShare} f := by
  rw [show (sV).view.set = Finset.univ from View.set_whole _]
theorem pts_rV (f : Buf (Elt F) ((V d (cV L) (jV L)).loc cc1_scratch1)) :
    ((rV).view.loc (V d (cV L) (jV L)) ↦[(rV).view.set]{fullShare} f : sProp 𝕄) = (V d (cV L) (jV L)).loc cc1_scratch1 ↦{fullShare} f := by
  rw [show (rV).view.set = Finset.univ from View.set_whole _]
theorem pts_sV' (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV' (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl
theorem pts_xV (q : PosShare TreeShare) (f : Buf (Elt F) (xLoc d)) :
    ((xV).view.loc (V d (cV L) (jV L)) ↦{q} f : sProp 𝕄) = xLoc d ↦{q} f := rfl
theorem pts_aV (q : PosShare TreeShare) (f : Buf (Elt F) (aLoc d)) :
    ((aV).view.loc (V d (cV L) (jV L)) ↦{q} f : sProp 𝕄) = aLoc d ↦{q} f := rfl
theorem pts_bV (q : PosShare TreeShare) (f : Buf (Elt F) (bLoc d)) :
    ((bV).view.loc (V d (cV L) (jV L)) ↦{q} f : sProp 𝕄) = bLoc d ↦{q} f := rfl
theorem pts_oAll (I : Finset S32768x2x128.Idx) (f : Buf (Elt F) (oLoc d)) :
    ((oAll).view.loc (V d (cV L) (jV L)) ↦[I]{fullShare} f : sProp 𝕄) = oLoc d ↦[I]{fullShare} f := rfl

end Cert.Proof.Whole.S

end
-- ==== Proof.Whole.STileRun.lean ====
/-
  The tile's run: the loop of four trips by its invariant, each trip's fetches by the executor and its two scatters by the
  indirect scatter's rule. The invariant carries the value: of the tile's rows of the result, those that the rows of the
  tokens taken so far are sent to hold them.
-/
module

public import proofs.«01_k».proof.Proof.Whole.SCells

@[expose] public section

noncomputable section

namespace Cert.Proof.Whole.S

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.MoeIdeal.main_v7_scv : Memref Cert.MoeIdeal.sig Kind.scVector Space.hbm Cert.MoeIdeal.S16384x2x128 EltTy.f32)
local notation "aV" => (Memref.whole Cert.MoeIdeal.main_v16_scv : Memref Cert.MoeIdeal.sig Kind.scVector Space.hbm Cert.MoeIdeal.S16384 EltTy.i32)
local notation "bV" => (Memref.whole Cert.MoeIdeal.main_v25_scv : Memref Cert.MoeIdeal.sig Kind.scVector Space.hbm Cert.MoeIdeal.S16384 EltTy.i32)
local notation "oV" => (Memref.whole Cert.MoeIdeal.main_v26_scv : Memref Cert.MoeIdeal.sig Kind.scVector Space.hbm Cert.MoeIdeal.S32768x2x128 EltTy.f32)
local notation "sV" => (Memref.whole Cert.MoeIdeal.cc1_scratch0 : Memref Cert.MoeIdeal.sig Kind.scVector Space.vmem Cert.MoeIdeal.S128 EltTy.i32)
local notation "rV" => (Memref.whole Cert.MoeIdeal.cc1_scratch1 : Memref Cert.MoeIdeal.sig Kind.scVector Space.vmem Cert.MoeIdeal.S128x2x128 EltTy.f32)

section Run

variable [FloatOps F]
variable (d : Dev nD) (L : grid1.Coords)
variable (X : (d : Dev nD) → Buf (Elt F) (xLoc d)) (A : (d : Dev nD) → Buf (Elt F) (aLoc d)) (B : (d : Dev nD) → Buf (Elt F) (bLoc d)) (R : Dev nD → Route)

/-- The tile's rows of the result, those of the tokens' rows below trip `t` already written. -/
def rowsAt (t : ℕ) : sProp 𝕄 :=
  iprop(∃ f : Buf (Elt F) (oLoc d), ⌜∀ x ∈ tileSet (R d) (cL L) (jL L), (R d (x 0)).1.val < base L + 128 * t → f x = scat (X d) (R d) x⌝
    ∗ oLoc d ↦[tileSet (R d) (cL L) (jL L)]{fullShare} f)

/-- The loop's invariant. -/
def inv (O : CellTallies nD τ sig (HIx 2)) (W : Waits sig (HIx 2)) (t : Nat) (_ : Unit) : sProp 𝕄 :=
  iprop(Transfers.MayWaits (V d (cV L) (jV L)) (default : HIx 2) O
    ∗ ((xV).view.loc (V d (cV L) (jV L)) ↦{tq (cL L) (jL L)} X d)
    ∗ ((aV).view.loc (V d (cV L) (jV L)) ↦{tq (cL L) (jL L)} A d)
    ∗ ((bV).view.loc (V d (cV L) (jV L)) ↦{tq (cL L) (jL L)} B d)
    ∗ rowsAt d L X R t
    ∗ (∃ f, (sV).view.loc (V d (cV L) (jV L)) ↦{fullShare} f)
    ∗ (∃ f, (rV).view.loc (V d (cV L) (jV L)) ↦{fullShare} f)
    ∗ semVal (cGcell d (cV L) (jV L)) 0 ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

/-- The list scratch, filled by a copy of the first list's words of trip `t`, holds them; -/
theorem scratch_a (t : Fin k1_t1_loop.trips) (fs : Buf (Elt F) ((V d (cV L) (jV L)).loc cc1_scratch0)) (pay : S128.Idx → Elt F .i32)
    (hpay : pay = (aChunk L t).view.read (Elt F) (A d)) :
    Words L (A d) t ((sV).view.read (Elt F) (View.write (Elt F) (sV).view fs pay Finset.univ)) := by
  subst hpay; intro x
  rw [View.write_whole_univ]
  simp only [Memref.view_whole, View.read_whole]
  exact words_a L (A d) t x

/-- and likewise the second's. -/
theorem scratch_b (t : Fin k1_t1_loop.trips) (fs : Buf (Elt F) ((V d (cV L) (jV L)).loc cc1_scratch0)) (pay : S128.Idx → Elt F .i32)
    (hpay : pay = (bChunk L t).view.read (Elt F) (B d)) :
    Words L (B d) t ((sV).view.read (Elt F) (View.write (Elt F) (sV).view fs pay Finset.univ)) := by
  subst hpay; intro x
  rw [View.write_whole_univ]
  simp only [Memref.view_whole, View.read_whole]
  exact words_b L (B d) t x

include d L in
/-- The credits of a scatter are those of the rows it is given. -/
theorem hcredit {idx : S128.Idx → Elt F .i32} (hn : S128.numel = S128x2x128.size ax') (hl : ∀ x, (idx x : BitVec 32).toNat < S32768x2x128.size ax) :
    ∑ j, ((oAll).slice (S32768x2x128.rowRect ax (SparseCore.rows (F := F) idx hn hl j)) (S32768x2x128.stride_rowRect ax _)).view.dmaCredit = (rV).view.dmaCredit :=
  SparseCore.sum_scatterCredit_eq_srcCredit (V d (cV L) (jV L)) (rV) (oAll) gathers_S32768x2x128_S128x2x128 rfl _ (fun _ => rfl) (fun _ => rfl)

open Classical in
/-- The result's contents after one of a trip's scatters. -/
def step (t : Fin k1_t1_loop.trips) (b : Bool) (f : Buf (Elt F) (oLoc d)) : Buf (Elt F) (oLoc d) := fun x =>
  if ∃ n : Fin 128, R d (x 0) = (cx L t n, b) then scat (X d) (R d) x else f x

theorem step_pos {t : Fin k1_t1_loop.trips} {b : Bool} {f : Buf (Elt F) (oLoc d)} {x : S32768x2x128.Idx}
    (h : ∃ n : Fin 128, R d (x 0) = (cx L t n, b)) : step d L X R t b f x = scat (X d) (R d) x := if_pos h
theorem step_neg {t : Fin k1_t1_loop.trips} {b : Bool} {f : Buf (Elt F) (oLoc d)} {x : S32768x2x128.Idx}
    (h : ¬ ∃ n : Fin 128, R d (x 0) = (cx L t n, b)) : step d L X R t b f x = f x := if_neg h

/-- After a trip's two scatters the rows of the trip's tokens' rows are written too. -/
theorem step_rows (t : Fin k1_t1_loop.trips) (f : Buf (Elt F) (oLoc d))
    (hf : ∀ x ∈ tileSet (R d) (cL L) (jL L), (R d (x 0)).1.val < base L + 128 * t.val → f x = scat (X d) (R d) x) :
    ∀ x ∈ tileSet (R d) (cL L) (jL L), (R d (x 0)).1.val < base L + 128 * (t.val + 1) →
      step d L X R t true (step d L X R t false f) x = scat (X d) (R d) x := by
  intro x hx hlt
  by_cases h₁ : ∃ n : Fin 128, R d (x 0) = (cx L t n, true)
  · exact step_pos d L X R h₁
  rw [step_neg d L X R h₁]
  by_cases h₀ : ∃ n : Fin 128, R d (x 0) = (cx L t n, false)
  · exact step_pos d L X R h₀
  rw [step_neg d L X R h₀]
  refine hf x hx (lt_of_not_ge fun hge => ?_)
  have hn : (R d (x 0)).1.val - (base L + 128 * t.val) < 128 := by omega
  have he : (R d (x 0)).1 = cx L t ⟨_, hn⟩ := Fin.ext (by rw [cx_val]; show _ = _ + ((R d (x 0)).1.val - (base L + 128 * t.val)); omega)
  rcases hb : (R d (x 0)).2 with _ | _
  · exact h₀ ⟨_, Prod.ext he hb⟩
  · exact h₁ ⟨_, Prod.ext he hb⟩

section Scatter

variable {W : S16384.Idx → Elt F .i32} {b : Bool} {t : Fin k1_t1_loop.trips} {idx : S128.Idx → Elt F .i32}

/-- The rows that a scatter names are taken out of the tile's rows, -/
theorem take_rows (hW : Named W (R d) b) (hi : Words L W t idx) (hn : S128.numel = S128x2x128.size ax') (hl : ∀ x, (idx x : BitVec 32).toNat < S32768x2x128.size ax)
    (f : Buf (Elt F) (oLoc d)) :
    (oLoc d ↦[tileSet (R d) (cL L) (jL L)]{fullShare} f : sProp 𝕄)
      ⊢ iprop(((oAll).view.loc (V d (cV L) (jV L)) ↦[SparseCore.namedRows (V d (cV L) (jV L)) (oAll).view ax (SparseCore.rows (F := F) idx hn hl)]{fullShare} f)
          ∗ oLoc d ↦[tileSet (R d) (cL L) (jL L) \ SparseCore.namedRows (V d (cV L) (jV L)) (oAll).view ax (SparseCore.rows (F := F) idx hn hl)]{fullShare} f) :=
  (pointsTo_split_subset (named_sub d L hW hi hn hl)).1

/-- and put back written. -/
theorem put_rows (hW : Named W (R d) b) (hi : Words L W t idx) (hn : S128.numel = S128x2x128.size ax') (hl : ∀ x, (idx x : BitVec 32).toNat < S32768x2x128.size ax)
    (fs : S128x2x128.Idx → Elt F .f32) (hfs : fs = (xChunk L t).view.read (Elt F) (X d)) (f : Buf (Elt F) (oLoc d)) :
    iprop(((oAll).view.loc (V d (cV L) (jV L)) ↦[SparseCore.namedRows (V d (cV L) (jV L)) (oAll).view ax (SparseCore.rows (F := F) idx hn hl)]{fullShare}
            (SparseCore.scatterBuf (V d (cV L) (jV L)) (oAll).view ax (SparseCore.rows (F := F) idx hn hl)
              (SparseCore.scatterRowPayload (V d (cV L) (jV L)) (rV) gathers_S32768x2x128_S128x2x128 fs) f))
          ∗ oLoc d ↦[tileSet (R d) (cL L) (jL L) \ SparseCore.namedRows (V d (cV L) (jV L)) (oAll).view ax (SparseCore.rows (F := F) idx hn hl)]{fullShare} f)
      ⊢ (oLoc d ↦[tileSet (R d) (cL L) (jL L)]{fullShare} step d L X R t b f : sProp 𝕄) := by
  refine BIBase.Entails.trans (sep_mono (Entails.of_eq ?_) (Entails.of_eq ?_)) (pointsTo_split_subset (named_sub d L hW hi hn hl)).2
  · exact pointsTo_congr fun x hx => (scat_val d L hW hi hn hl (X d) fs hfs f x hx).trans (step_pos d L X R ((mem_named d L hW hi hn hl).mp hx)).symm
  · exact pointsTo_congr fun x hx => (step_neg d L X R fun h => (Finset.mem_sdiff.mp hx).2 ((mem_named d L hW hi hn hl).mpr h)).symm

end Scatter

set_option maxHeartbeats 4000000 in
/-- The task on tile `(L 0, L 1)` of device `d`. -/
theorem tile_body (hF : (K (F := F)).Facts) (hA : Named (A d) (R d) false) (hB : Named (B d) (R d) true) (f₀ : Buf (Elt F) (oLoc d))
    (O : CellTallies nD τ sig (HIx 2)) (W : Waits sig (HIx 2)) (hO : ∀ g, O g none = 0) :
    iprop(levAts (K (F := F)).L (K (F := F)).lev ∗ emp
        ∗ tileRes X A B R d (cL L) (jL L) f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L xV (Memref.isWhole_whole _) aV (Memref.isWhole_whole _) bV (Memref.isWhole_whole _) oV (Memref.isWhole_whole _)
            sV (Memref.isWhole_whole _) rV (Memref.isWhole_whole _) cc1_scratch2 cc1_scoped0 cc1_scoped1 cc1_scoped2)
          fun _ => iprop(tileRes X A B R d (cL L) (jL L) (scat (X d) (R d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hx, Ha, Hb, Ho⟩, ⟨⟨%fs, Hs⟩, ⟨%fr, Hr⟩, Hbufs⟩, ⟨HsG, HsA, HsB, HsC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hx' := (Entails.of_eq (pts_xV (F := F) d L _ _).symm) $$ Hx
  ihave Ha' := (Entails.of_eq (pts_aV (F := F) d L _ _).symm) $$ Ha
  ihave Hb' := (Entails.of_eq (pts_bV (F := F) d L _ _).symm) $$ Hb
  ihave Hs' := (Entails.of_eq (pts_sV' (F := F) d L _).symm) $$ Hs
  ihave Hr' := (Entails.of_eq (pts_rV' (F := F) d L _).symm) $$ Hr
  sl_for (inv d L X A B R O W) $$ [Hmw Hx' Ha' Hb' Ho Hs' Hr' HsG HsA HsB HsC HO]
  case region =>
    intro t _
    unfold inv rowsAt
    iintro ⟨#Hmw, Hx', Ha', Hb', ⟨%f, %hf, Ho⟩, ⟨%fs, Hs'⟩, ⟨%fr, Hr'⟩, HsG, HsA, HsB, HsC, %W', %hW', HO⟩
    sl_exec
    have hw := scratch_a d L A t fs _ rfl
    have hr : View.write (Elt F) (rV).view fr (tile_body.sl.dma0 d L X t) Finset.univ = (xChunk L t).view.read (Elt F) (X d) :=
      View.write_whole_univ (Val := Elt F) (cc1_scratch1 : Ref sig .scVector) fr _
    ihave Hr'' := (Entails.of_eq (pts_rV (F := F) d L _).symm) $$ Hr'
    ihave Hs'' := (Entails.of_eq (pts_sV (F := F) d L _).symm) $$ Hs'
    ihave Ho' := (take_rows d L R hA hw rfl (words_lt L hA hw) f) $$ Ho
    icases Ho' with ⟨Hon, Hor⟩
    iapply (SparseCore.wp_indirectScatterLocal countersEmb 𝒱₀ (V d (cV L) (jV L)) none (hg := gathers_S32768x2x128_S128x2x128) (default : HIx 2)
        (rV).view.dmaCredit (by decide) (words_lt L hA hw) (SparseCore.rows_injective (words_inj L hA hw)) (hcredit d L rfl (words_lt L hA hw))) $$ [Hr'' Hon Hs'' HsG]
    · isplitl [Hr'']; · iexact Hr''
      isplitl [Hon]; · iexact Hon
      isplitl [Hs'']; · iexact Hs''
      iexact HsG
    iintro Hfl
    unfold SparseCore.waitIndirectScatter
    sl_exec
    iapply (Transfers.wp_waitLocalO countersEmb 𝒱₀ (V d (cV L) (jV L)) none (default : HIx 2) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hon, Hr, Hs⟩, HsG, HO⟩
    ihave Ho := (put_rows d L X R hA hw rfl (words_lt L hA hw) _ hr f) $$ [Hon Hor]
    · isplitl [Hon] <;> iassumption
    ihave Hr' := (Entails.of_eq ((pts_rV (F := F) d L _).trans (pts_rV' (F := F) d L _).symm)) $$ Hr
    ihave Hs' := (Entails.of_eq ((pts_sV (F := F) d L _).trans (pts_sV' (F := F) d L _).symm)) $$ Hs
    sl_exec
    generalize hg : View.write (Elt F) (sV).view fs _ Finset.univ = fs₁
    have hw₁ := scratch_b d L B t fs₁ _ rfl
    ihave Hr'' := (Entails.of_eq (pts_rV (F := F) d L _).symm) $$ Hr'
    ihave Hs'' := (Entails.of_eq (pts_sV (F := F) d L _).symm) $$ Hs'
    ihave Ho' := (take_rows d L R hB hw₁ rfl (words_lt L hB hw₁) (step d L X R t false f)) $$ Ho
    icases Ho' with ⟨Hon, Hor⟩
    iapply (SparseCore.wp_indirectScatterLocal countersEmb 𝒱₀ (V d (cV L) (jV L)) none (hg := gathers_S32768x2x128_S128x2x128) (default : HIx 2)
        (rV).view.dmaCredit (by decide) (words_lt L hB hw₁) (SparseCore.rows_injective (words_inj L hB hw₁)) (hcredit d L rfl (words_lt L hB hw₁))) $$ [Hr'' Hon Hs'' HsG]
    · isplitl [Hr'']; · iexact Hr''
      isplitl [Hon]; · iexact Hon
      isplitl [Hs'']; · iexact Hs''
      iexact HsG
    iintro Hfl
    sl_exec
    iapply (Transfers.wp_waitLocalO countersEmb 𝒱₀ (V d (cV L) (jV L)) none (default : HIx 2) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hon, Hr, Hs⟩, HsG, HO⟩
    ihave Ho := (put_rows d L X R hB hw₁ rfl (words_lt L hB hw₁) _ hr (step d L X R t false f)) $$ [Hon Hor]
    · isplitl [Hon] <;> iassumption
    ihave Hr' := (Entails.of_eq ((pts_rV (F := F) d L _).trans (pts_rV' (F := F) d L _).symm)) $$ Hr
    ihave Hs' := (Entails.of_eq ((pts_sV (F := F) d L _).trans (pts_sV' (F := F) d L _).symm)) $$ Hs
    sl_exec
    sl_step
    isplitr; · iexact Hmw
    isplitl [Hx']; · iexact Hx'
    isplitl [Ha']; · iexact Ha'
    isplitl [Hb']; · iexact Hb'
    isplitl [Ho]
    · iexists _; isplitr
      swap; · iexact Ho
      ipureintro; exact step_rows d L X R t f hf
    isplitl [Hs']; · iexists _; iexact Hs'
    isplitl [Hr']; · iexists _; iexact Hr'
    isplitl [HsG]; · iexact HsG
    isplitl [HsA]; · iexact HsA
    isplitl [HsB]; · iexact HsB
    isplitl [HsC]; · iexact HsC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv rowsAt
    isplitl [Hmw]; · iexact Hmw
    isplitl [Hx']; · iexact Hx'
    isplitl [Ha']; · iexact Ha'
    isplitl [Hb']; · iexact Hb'
    isplitl [Ho]
    · iexists f₀; isplitr
      · ipureintro; intro x hx h; have := ((mem_tile L (R d)).mp hx).1; omega
      · iexact Ho
    isplitl [Hs']; · iexists _; iexact Hs'
    isplitl [Hr']; · iexists _; iexact Hr'
    isplitl [HsG]; · iexact HsG
    isplitl [HsA]; · iexact HsA
    isplitl [HsB]; · iexact HsB
    isplitl [HsC]; · iexact HsC
    iexists W; isplitr
    · ipureintro; exact fun p hp => .inl hp
    · iexact HO
  iintro %_ HI
  unfold inv rowsAt
  icases HI with ⟨-, Hx', Ha', Hb', ⟨%f, %hf, Ho⟩, ⟨%fs, Hs'⟩, ⟨%fr, Hr'⟩, HsG, HsA, HsB, HsC, %W', %hW', HO⟩
  sl_exec
  sl_step
  isplitl [Hx' Ha' Hb' Ho]
  · isplitl [Hx']; · iexact Hx'
    isplitl [Ha']; · iexact Ha'
    isplitl [Hb']; · iexact Hb'
    have he : (oLoc d ↦[tileSet (R d) (cL L) (jL L)]{fullShare} f : sProp 𝕄) = oLoc d ↦[tileSet (R d) (cL L) (jL L)]{fullShare} (scat (X d) (R d)) :=
      pointsTo_congr fun x hx => hf x hx (by
        have := (mem_tile L (R d)).mp hx
        have ht : k1_t1_loop.trips = 4 := trips_eq
        show (R d (x 0)).1.val < base L + 128 * k1_t1_loop.trips
        rw [ht]; omega)
    iapply (Entails.of_eq he); iexact Ho
  isplitl [Hs' Hr' Hbufs]
  · isplitl [Hs']; · iexists _; iexact Hs'
    isplitl [Hr']; · iexists _; iexact Hr'
    iexact Hbufs
  isplitl [HsG HsA HsB HsC Hsems]
  · isplitl [HsG]; · iexact HsG
    isplitl [HsA]; · iexact HsA
    isplitl [HsB]; · iexact HsB
    isplitl [HsC]; · iexact HsC
    iexact Hsems
  iexists W'; isplitr
  · ipureintro; exact hW'
  · iexact HO

end Run

end Cert.Proof.Whole.S

end
-- ==== Proof.Whole.SDeal.lean ====
/-
  The call's obligations: each tile's task from its body, and the split of a SparseCore's operands over its sixteen tiles.
-/
module

public import proofs.«01_k».proof.Proof.Whole.STileRun
public import proofs.«01_k».proof.Proof.Whole.Pay

@[expose] public section

noncomputable section

namespace Cert.Proof.Whole.S

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.MoeIdeal.main_v7_scv : Memref Cert.MoeIdeal.sig Kind.scVector Space.hbm Cert.MoeIdeal.S16384x2x128 EltTy.f32)
local notation "aV" => (Memref.whole Cert.MoeIdeal.main_v16_scv : Memref Cert.MoeIdeal.sig Kind.scVector Space.hbm Cert.MoeIdeal.S16384 EltTy.i32)
local notation "bV" => (Memref.whole Cert.MoeIdeal.main_v25_scv : Memref Cert.MoeIdeal.sig Kind.scVector Space.hbm Cert.MoeIdeal.S16384 EltTy.i32)
local notation "oV" => (Memref.whole Cert.MoeIdeal.main_v26_scv : Memref Cert.MoeIdeal.sig Kind.scVector Space.hbm Cert.MoeIdeal.S32768x2x128 EltTy.f32)
local notation "sV" => (Memref.whole Cert.MoeIdeal.cc1_scratch0 : Memref Cert.MoeIdeal.sig Kind.scVector Space.vmem Cert.MoeIdeal.S128 EltTy.i32)
local notation "rV" => (Memref.whole Cert.MoeIdeal.cc1_scratch1 : Memref Cert.MoeIdeal.sig Kind.scVector Space.vmem Cert.MoeIdeal.S128x2x128 EltTy.f32)

variable [FloatOps F]
variable (X : (d : Dev nD) → Buf (Elt F) (xLoc d)) (A : (d : Dev nD) → Buf (Elt F) (aLoc d)) (B : (d : Dev nD) → Buf (Elt F) (bLoc d))
  (R : Dev nD → Route) (O₀ : (d : Dev nD) → Buf (Elt F) (oLoc d))
  (Tb : (d : Dev nD) → Buf (Elt F) (G.tLoc d)) (Ix : (d : Dev nD) → Buf (Elt F) (G.iLoc d)) (O₁ : (d : Dev nD) → Buf (Elt F) (G.oLoc d))

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          xV (Memref.isWhole_whole _) aV (Memref.isWhole_whole _) bV (Memref.isWhole_whole _) oV (Memref.isWhole_whole _)
          sV (Memref.isWhole_whole _) rV (Memref.isWhole_whole _) cc1_scratch2 cc1_scoped0 cc1_scoped1 cc1_scoped2) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hA : ∀ d, Named (F := F) (A d) (R d) false) (hB : ∀ d, Named (F := F) (B d) (R d) true) :
    (K (F := F)).TileObl (D (F := F)) 𝒱 (P X A B R O₀ Tb Ix O₁) v₀ 0 := by
  intro d c i O W hO _ _
  simp only [show (P X A B R O₀ Tb Ix O₁).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) X A B R hF (hA d) (hB d) (O₀ d) O W hO).trans (wp_mono frame _ _ fun _ => obl_post)

/-! ## A SparseCore's operands over its tiles -/

theorem core_tiles (d : Dev nD) (c : Fin 2) (f : Buf (Elt F) (oLoc d)) :
    (coreRes X A B R d c f : sProp 𝕄) = bigSep Finset.univ fun i : Fin 16 => tileRes X A B R d c i f := by
  unfold coreRes tileRes
  rw [bigSep_sep', bigSep_sep', bigSep_sep',
    ← pointsTo_biUnion Finset.univ (ℓ := oLoc d) (tileSet (R d) c) (tiles_disjoint (R d) c), tiles_cover,
    ← show (xLoc d ↦{cq c} X d : sProp 𝕄) = bigSep Finset.univ fun i : Fin 16 => xLoc d ↦{tq c i} X d from
      ShareLeaves.pointsTo_leaves (Finset.univ) (X d) 4 (cq c),
    ← show (aLoc d ↦{cq c} A d : sProp 𝕄) = bigSep Finset.univ fun i : Fin 16 => aLoc d ↦{tq c i} A d from
      ShareLeaves.pointsTo_leaves (Finset.univ) (A d) 4 (cq c),
    ← show (bLoc d ↦{cq c} B d : sProp 𝕄) = bigSep Finset.univ fun i : Fin 16 => bLoc d ↦{tq c i} B d from
      ShareLeaves.pointsTo_leaves (Finset.univ) (B d) 4 (cq c)]

theorem whole_cores (d : Dev nD) (f : Buf (Elt F) (oLoc d)) :
    iprop((xLoc d ↦{fullShare} X d) ∗ (aLoc d ↦{fullShare} A d) ∗ (bLoc d ↦{fullShare} B d) ∗ oLoc d ↦{fullShare} f)
      = (bigSep Finset.univ fun c : Fin 2 => coreRes X A B R d c f : sProp 𝕄) := by
  unfold coreRes
  rw [bigSep_sep', bigSep_sep', bigSep_sep',
    ← pointsTo_biUnion Finset.univ (ℓ := oLoc d) (coreSet (R d)) (cores_disjoint (R d)), cores_cover,
    ← show (xLoc d ↦{fullShare} X d : sProp 𝕄) = bigSep Finset.univ fun c : Fin 2 => xLoc d ↦{cq c} X d from
      ShareLeaves.pointsTo_leaves (Finset.univ) (X d) 1 fullShare,
    ← show (aLoc d ↦{fullShare} A d : sProp 𝕄) = bigSep Finset.univ fun c : Fin 2 => aLoc d ↦{cq c} A d from
      ShareLeaves.pointsTo_leaves (Finset.univ) (A d) 1 fullShare,
    ← show (bLoc d ↦{fullShare} B d : sProp 𝕄) = bigSep Finset.univ fun c : Fin 2 => bLoc d ↦{cq c} B d from
      ShareLeaves.pointsTo_leaves (Finset.univ) (B d) 1 fullShare]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P X A B R O₀ Tb Ix O₁) 0 := by
  intro d c
  show (coreRes X A B R d (Fin.cast nCore_zero c) (O₀ d) : sProp 𝕄) ⊢ |={Set.univ}=> iprop(
      (bigSep Finset.univ fun i : Fin ((K (F := F)).nSub 0) => tileRes X A B R d (Fin.cast nCore_zero c) (Fin.cast nSub_zero i) (O₀ d))
      ∗ ((bigSep Finset.univ fun i : Fin ((K (F := F)).nSub 0) =>
          tileRes X A B R d (Fin.cast nCore_zero c) (Fin.cast nSub_zero i) (scat (X d) (R d)))
          -∗ coreRes X A B R d (Fin.cast nCore_zero c) (scat (X d) (R d))))
  rw [bigSep_tasks (F := F) (fun i => tileRes X A B R d (Fin.cast nCore_zero c) i (O₀ d)),
    bigSep_tasks (F := F) (fun i => tileRes X A B R d (Fin.cast nCore_zero c) i (scat (X d) (R d))), ← core_tiles, ← core_tiles]
  iintro H; imodintro
  isplitl [H]; · iexact H
  iintro H; iexact H

theorem st_eq (d : Dev nD) : (bigSep Finset.univ fun c : Fin ((K (F := F)).nCore 0) => (P X A B R O₀ Tb Ix O₁).st 0 d c)
    = (iprop((xLoc d ↦{fullShare} X d) ∗ (aLoc d ↦{fullShare} A d) ∗ (bLoc d ↦{fullShare} B d) ∗ oLoc d ↦{fullShare} O₀ d) : sProp 𝕄) := by
  rw [whole_cores X A B R]; exact bigSep_cores (F := F) (fun c => coreRes X A B R d c (O₀ d))
theorem dn_eq (d : Dev nD) : (bigSep Finset.univ fun c : Fin ((K (F := F)).nCore 0) => (P X A B R O₀ Tb Ix O₁).dn 0 d c)
    = (iprop((xLoc d ↦{fullShare} X d) ∗ (aLoc d ↦{fullShare} A d) ∗ (bLoc d ↦{fullShare} B d) ∗ oLoc d ↦{fullShare} (scat (X d) (R d))) : sProp 𝕄) := by
  rw [whole_cores X A B R]; exact bigSep_cores (F := F) (fun c => coreRes X A B R d c (scat (X d) (R d)))

end Cert.Proof.Whole.S

end
-- ==== Proof.Whole.GTile.lean ====
/-
  One tile's body of the row gather, once at a symbolic tile: four trips, each fetching 256 words of the list, gathering
  the 256 table rows they name, and writing them to the tile's rows of the result. The invariant carries the value: the
  tile's rows written so far hold the gathered rows.
-/
module

public import proofs.«01_k».proof.Proof.Whole.GSetup
public import Idealize.ShloMosaic.Lib.ViewIndex
public import Idealize.ShloMosaic.Lib.Pipeline.ValueKit.Geometry

@[expose] public section

noncomputable section

namespace Cert.Proof.Whole.G

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tV" => (Memref.whole Cert.MoeIdeal.main_v38_scv : Memref Cert.MoeIdeal.sig Kind.scVector Space.hbm Cert.MoeIdeal.S32768x2x128 EltTy.f32)
local notation "iV" => (Memref.whole Cert.MoeIdeal.main_v47_scv : Memref Cert.MoeIdeal.sig Kind.scVector Space.hbm Cert.MoeIdeal.S32768 EltTy.i32)
local notation "oV" => (Memref.whole Cert.MoeIdeal.main_v48_scv : Memref Cert.MoeIdeal.sig Kind.scVector Space.hbm Cert.MoeIdeal.S32768x2x128 EltTy.f32)
local notation "sV" => (Memref.whole Cert.MoeIdeal.cc3_scratch0 : Memref Cert.MoeIdeal.sig Kind.scVector Space.vmem Cert.MoeIdeal.S256 EltTy.i32)
local notation "rV" => (Memref.whole Cert.MoeIdeal.cc3_scratch1 : Memref Cert.MoeIdeal.sig Kind.scVector Space.vmem Cert.MoeIdeal.S256x2x128 EltTy.f32)

section Tile

variable (d : Dev nD) (L : grid3.Coords)

abbrev cV (L : grid3.Coords) : Fin τ.nSC := (L 0).castLE hcore3
abbrev jV (L : grid3.Coords) : Fin τ.nSub := (L 1).castLE hsub3
theorem bound_zero : grid3.bound 0 = 2 := rfl
theorem bound_one : grid3.bound 1 = 16 := rfl
abbrev cL (L : grid3.Coords) : Fin 2 := Fin.cast bound_zero (L 0)
abbrev jL (L : grid3.Coords) : Fin 16 := Fin.cast bound_one (L 1)

/-! ## The pieces a trip touches -/

/-- The 256 words of the list trip `t` fetches, the 256 rows of the result it writes, and the whole table, as the tile addresses them. -/
abbrev iChunk (t : Fin k3_t1_loop.trips) : Memref sig .scVector .hbm S256 .i32 :=
  (iV).slice (Rect.unit (s := S32768) (k3_off1 L t) S256.size (k3_off1_inb L t)) (fun _ => rfl)
abbrev oChunk (t : Fin k3_t1_loop.trips) : Memref sig .scVector .hbm S256x2x128 .f32 :=
  (oV).slice (Rect.unit (s := S32768x2x128) (k3_off2 L t) S256x2x128.size (k3_off2_inb L t)) (fun _ => rfl)
abbrev tAll : Memref sig .scVector .hbm S32768x2x128 .f32 :=
  (tV).slice (Rect.unit (s := S32768x2x128) ![0, 0, 0] S32768x2x128.size inb_S32768x2x128_S32768x2x128_0_0_0) (fun _ => rfl)

/-- The tile's first row. -/
def base (L : grid3.Coords) : ℕ := 2048 * (L 1).val + 1024 * (L 0).val

theorem off1_val (t : Fin k3_t1_loop.trips) : k3_off1 L t = ![base L + 256 * t.val] := k3_off1_eq L t
theorem off2_val (t : Fin k3_t1_loop.trips) : k3_off2 L t = ![base L + 256 * t.val, 0, 0] := k3_off2_eq L t

theorem mem_tile {x : S32768x2x128.Idx} : x ∈ tileSet (cL L) (jL L) ↔ base L ≤ (x 0).val ∧ (x 0).val < base L + 1024 := by
  rw [mem_tileSet]; unfold base; show (x 0).val / 1024 = 2 * (L 1).val + (L 0).val ↔ _; omega

theorem mem_chunk {t : Fin k3_t1_loop.trips} {x : S32768x2x128.Idx} :
    x ∈ (oChunk L t).view.set ↔ base L + 256 * t.val ≤ (x 0).val ∧ (x 0).val < base L + 256 * t.val + 256 := by
  rw [show (oChunk L t).view.set = (Rect.unit (s := S32768x2x128) (k3_off2 L t) S256x2x128.size (k3_off2_inb L t)).set from
    View.set_slice_whole (main_v48_scv : Ref sig .scVector) _, Rect.mem_set_unit, off2_val]
  constructor
  · intro h; exact h 0
  · intro h a
    have h1 : (x 1).val < 2 := (x 1).isLt
    have h2 : (x 2).val < 128 := (x 2).isLt
    match a with
    | 0 => exact h
    | 1 => exact ⟨Nat.zero_le _, by show (x 1).val < 0 + 2; omega⟩
    | 2 => exact ⟨Nat.zero_le _, by show (x 2).val < 0 + 128; omega⟩

theorem trips_le : k3_t1_loop.trips ≤ 4 := k3_t1_abs.2.1
theorem trips_eq : k3_t1_loop.trips = 4 := by decide

theorem chunk_sub (t : Fin k3_t1_loop.trips) : (oChunk L t).view.set ⊆ tileSet (cL L) (jL L) := by
  intro x hx
  have := t.isLt; have := trips_le
  rw [mem_chunk] at hx; rw [mem_tile]; omega

/-! ## The value a trip writes -/

variable (Tb : S32768x2x128.Idx → Elt F .f32) (Ix : S32768.Idx → Elt F .i32)

/-- Every word of the list names a row of the table. -/
def InRows : Prop := ∀ n, (Ix n : BitVec 32).toNat < 32768

/-- The words trip `t` fetches, read in the list scratch. -/
theorem words_eq (t : Fin k3_t1_loop.trips) (n : S256.Idx) :
    (iChunk L t).view.read (Elt F) Ix n = Ix (fun a => ⟨base L + 256 * t.val + (n 0).val, by
      have := t.isLt; have := trips_le; have h0 : (L 0).val < 2 := (L 0).isLt; have h1 : (L 1).val < 16 := (L 1).isLt
      have hn : (n 0).val < 256 := (n 0).isLt
      fin_cases a; show _ < 32768; unfold base; omega⟩) := by
  rw [View.read_apply, cast_eq]
  refine congrArg Ix (funext fun a => Fin.ext ?_)
  have h := ValueKit.view_emb_slice_whole_unit_val (sig := sig) (main_v47_scv : Ref sig .scVector) (k3_off1 L t) S256.size (k3_off1_inb L t) n a
  refine h.trans ?_
  refine (congrArg (· + (n a).val) (congrFun (off1_val L t) a)).trans ?_
  fin_cases a; rfl

theorem read_tAll (x : S32768x2x128.Idx) : (tAll).view.read (Elt F) Tb x = Tb x := by
  rw [View.read_apply, cast_eq]
  refine congrArg Tb (funext fun a => Fin.ext ?_)
  have h := ValueKit.view_emb_slice_whole_unit_val (sig := sig) (main_v38_scv : Ref sig .scVector) ![0, 0, 0] S32768x2x128.size inb_S32768x2x128_S32768x2x128_0_0_0 x a
  refine h.trans ?_
  fin_cases a <;> exact Nat.zero_add _

theorem rowMajor_symm_one (k : Fin S256.numel) : ((S256.rowMajor.symm k) 0).val = k.val := by
  have := Shape.rowMajor_val_one (S256.rowMajor.symm k)
  rw [Equiv.apply_symm_apply] at this; exact this.symm

/-- What trip `t` writes over its rows is the gathered rows there. -/
theorem write_val (hin : InRows (F := F) Ix) (t : Fin k3_t1_loop.trips) (f : S32768x2x128.Idx → Elt F .f32) (idx : S256.Idx → Elt F .i32)
    (hidx : idx = (iChunk L t).view.read (Elt F) Ix) (hn : S256.numel = S256x2x128.size gathers_S32768x2x128_S256x2x128.axis')
    (hlt : ∀ x, (idx x : BitVec 32).toNat < S32768x2x128.size gathers_S32768x2x128_S256x2x128.axis)
    (x : S32768x2x128.Idx) (hx : x ∈ (oChunk L t).view.set) :
    View.write (Elt F) (oChunk L t).view f
      (SparseCore.gatherPayload gathers_S32768x2x128_S256x2x128 ((tAll).view.read (Elt F) Tb) (SparseCore.rows idx hn hlt)) Finset.univ x
      = gath Tb Ix x := by
  subst hidx
  obtain ⟨y, -, rfl⟩ := Finset.mem_map.mp hx
  rw [View.write_emb_of_mem _ _ (Finset.mem_univ y), cast_eq]
  unfold SparseCore.gatherPayload
  rw [read_tAll]
  have he : ∀ a, (((oChunk L t).view.emb y) a).val = k3_off2 L t a + (y a).val := fun a =>
    ValueKit.view_emb_slice_whole_unit_val (sig := sig) (main_v48_scv : Ref sig .scVector) (k3_off2 L t) S256x2x128.size (k3_off2_inb L t) y a
  unfold gath
  refine congrArg Tb (Shape.idx3_ext ?_ ?_ ?_)
  · rw [Function.update_self]
    have h := congrArg Fin.val (Shape.Gathers.idx_axis gathers_S32768x2x128_S256x2x128 (SparseCore.rows ((iChunk L t).view.read (Elt F) Ix) hn hlt) y)
    refine h.trans ?_
    show ((iChunk L t).view.read (Elt F) Ix _ : BitVec 32).toNat = _
    rw [words_eq]
    refine Eq.trans ?_ (Nat.mod_eq_of_lt (hin _)).symm
    refine congrArg BitVec.toNat (congrArg Ix (funext fun a => Fin.ext ?_))
    have h0 := he 0
    rw [off2_val] at h0
    show base L + 256 * t.val + ((S256.rowMajor.symm _) 0).val = ((oChunk L t).view.emb y 0).val
    rw [rowMajor_symm_one, h0]; rfl
  · rw [Function.update_of_ne (by decide), he 1, off2_val]
    refine (Shape.Gathers.idx_of_ne gathers_S32768x2x128_S256x2x128 _ y 1 (by decide)).trans ?_
    exact (Nat.zero_add _).symm
  · rw [Function.update_of_ne (by decide), he 2, off2_val]
    refine (Shape.Gathers.idx_of_ne gathers_S32768x2x128_S256x2x128 _ y 2 (by decide)).trans ?_
    exact (Nat.zero_add _).symm

/-- The same, as the executor writes it: one piece over the whole of the trip's rows. -/
theorem writes_val (hin : InRows (F := F) Ix) (t : Fin k3_t1_loop.trips) (f : S32768x2x128.Idx → Elt F .f32) (idx : S256.Idx → Elt F .i32)
    (hidx : idx = (iChunk L t).view.read (Elt F) Ix) (hn : S256.numel = S256x2x128.size gathers_S32768x2x128_S256x2x128.axis')
    (hlt : ∀ x, (idx x : BitVec 32).toNat < S32768x2x128.size gathers_S32768x2x128_S256x2x128.axis)
    (x : S32768x2x128.Idx) (hx : x ∈ (oChunk L t).view.set) :
    (oChunk L t).view.writes (Elt F) f [⟨Rect.whole S256x2x128,
      SparseCore.gatherPayload gathers_S32768x2x128_S256x2x128 ((tAll).view.read (Elt F) Tb) (SparseCore.rows idx hn hlt)⟩] x
      = gath Tb Ix x := by
  rw [← write_val L Tb Ix hin t f idx hidx hn hlt x hx]
  obtain ⟨y, -, rfl⟩ := Finset.mem_map.mp hx
  rw [View.write_emb_of_mem _ _ (Finset.mem_univ y), View.writes_singleton]
  have hy : (oChunk L t).view.emb y = ((oChunk L t).view.slice (Rect.whole S256x2x128)).emb y := by
    rw [View.emb_slice]; refine congrArg (oChunk L t).view.emb (funext fun a => Fin.ext ?_)
    exact ((ValueKit.rect_emb_unit_val (fun _ => 0) S256x2x128.size _ y a).trans (Nat.zero_add _)).symm
  rw [hy]
  exact View.write_emb_of_mem _ _ (Finset.mem_univ y)

/-! ## The tile's cells and buffers -/

abbrev thr (d : Dev nD) (L : grid3.Coords) : Thread nD τ := V d (cV L) (jV L)
abbrev cGcell (d : Dev nD) (c : Fin τ.nSC) (i : Fin τ.nSub) : GSem nD τ sig := (V d c i, .dma cc3_scratch2.sem)
abbrev cAcell (d : Dev nD) (c : Fin τ.nSC) (i : Fin τ.nSub) : GSem nD τ sig := (V d c i, .dma cc3_scoped0.sem)
abbrev cBcell (d : Dev nD) (c : Fin τ.nSC) (i : Fin τ.nSub) : GSem nD τ sig := (V d c i, .dma cc3_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc3_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc3_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc3_scoped1.sem : SemLoc sig).isScoped .scVector = true; decide⟩⟩⟩)]

/-- The two scratch buffers are among the tile's own. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

theorem pts_sV (f : Buf (Elt F) ((V d (cV L) (jV L)).loc cc3_scratch0)) :
    ((sV).view.loc (V d (cV L) (jV L)) ↦[(sV).view.set]{fullShare} f : sProp 𝕄) = (V d (cV L) (jV L)).loc cc3_scratch0 ↦{fullShare} f := by
  rw [show (sV).view.set = Finset.univ from View.set_whole _]
theorem pts_rV (f : Buf (Elt F) ((V d (cV L) (jV L)).loc cc3_scratch1)) :
    ((rV).view.loc (V d (cV L) (jV L)) ↦[(rV).view.set]{fullShare} f : sProp 𝕄) = (V d (cV L) (jV L)).loc cc3_scratch1 ↦{fullShare} f := by
  rw [show (rV).view.set = Finset.univ from View.set_whole _]
theorem pts_sV' (f : Buf (Elt F) ((V d (cV L) (jV L)).loc cc3_scratch0)) :
    ((sV).view.loc (V d (cV L) (jV L)) ↦{fullShare} f : sProp 𝕄) = (V d (cV L) (jV L)).loc cc3_scratch0 ↦{fullShare} f := rfl
theorem pts_rV' (f : Buf (Elt F) ((V d (cV L) (jV L)).loc cc3_scratch1)) :
    ((rV).view.loc (V d (cV L) (jV L)) ↦{fullShare} f : sProp 𝕄) = (V d (cV L) (jV L)).loc cc3_scratch1 ↦{fullShare} f := rfl
theorem pts_iV (q : PosShare TreeShare) (f : Buf (Elt F) (iLoc d)) :
    ((iV).view.loc (V d (cV L) (jV L)) ↦{q} f : sProp 𝕄) = iLoc d ↦{q} f := rfl
theorem pts_tAll (q : PosShare TreeShare) (f : Buf (Elt F) (tLoc d)) :
    ((tAll).view.loc (V d (cV L) (jV L)) ↦[(tAll).view.set]{q} f : sProp 𝕄) = tLoc d ↦{q} f := by
  have h : (tAll).view.set = Finset.univ := by
    rw [show (tAll).view.set = (Rect.unit (s := S32768x2x128) ![0, 0, 0] S32768x2x128.size inb_S32768x2x128_S32768x2x128_0_0_0).set from
      View.set_slice_whole (main_v38_scv : Ref sig .scVector) _]
    refine Finset.eq_univ_of_forall fun x => Rect.mem_set_unit.mpr fun a => ?_
    have := (x a).isLt
    fin_cases a <;> exact ⟨Nat.zero_le _, by simpa using this⟩
  rw [h]
theorem pts_oChunk (t : Fin k3_t1_loop.trips) (f : Buf (Elt F) (oLoc d)) :
    ((oChunk L t).view.loc (V d (cV L) (jV L)) ↦[(oChunk L t).view.set]{fullShare} f : sProp 𝕄) = oLoc d ↦[(oChunk L t).view.set]{fullShare} f := rfl

end Tile

end Cert.Proof.Whole.G

end
-- ==== Proof.Whole.GTileRun.lean ====
/-
  The tile's run: the loop of four trips by its invariant, each trip's fetch, gather and write by the executor and the
  indirect gather's rule.
-/
module

public import proofs.«01_k».proof.Proof.Whole.GTile

@[expose] public section

noncomputable section

namespace Cert.Proof.Whole.G

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tV" => (Memref.whole Cert.MoeIdeal.main_v38_scv : Memref Cert.MoeIdeal.sig Kind.scVector Space.hbm Cert.MoeIdeal.S32768x2x128 EltTy.f32)
local notation "iV" => (Memref.whole Cert.MoeIdeal.main_v47_scv : Memref Cert.MoeIdeal.sig Kind.scVector Space.hbm Cert.MoeIdeal.S32768 EltTy.i32)
local notation "oV" => (Memref.whole Cert.MoeIdeal.main_v48_scv : Memref Cert.MoeIdeal.sig Kind.scVector Space.hbm Cert.MoeIdeal.S32768x2x128 EltTy.f32)
local notation "sV" => (Memref.whole Cert.MoeIdeal.cc3_scratch0 : Memref Cert.MoeIdeal.sig Kind.scVector Space.vmem Cert.MoeIdeal.S256 EltTy.i32)
local notation "rV" => (Memref.whole Cert.MoeIdeal.cc3_scratch1 : Memref Cert.MoeIdeal.sig Kind.scVector Space.vmem Cert.MoeIdeal.S256x2x128 EltTy.f32)

section Run

variable [FloatOps F]
variable (d : Dev nD) (L : grid3.Coords)
variable (Tb : (d : Dev nD) → Buf (Elt F) (tLoc d)) (Ix : (d : Dev nD) → Buf (Elt F) (iLoc d))

/-- The tile's rows of the result, those below trip `t` already gathered. -/
def rowsAt (t : ℕ) : sProp 𝕄 :=
  iprop(∃ f : Buf (Elt F) (oLoc d), ⌜∀ x ∈ tileSet (cL L) (jL L), (x 0).val < base L + 256 * t → f x = gath (Tb d) (Ix d) x⌝
    ∗ oLoc d ↦[tileSet (cL L) (jL L)]{fullShare} f)

/-- The loop's invariant. -/
def inv (O : CellTallies nD τ sig (HIx 2)) (W : Waits sig (HIx 2)) (t : Nat) (_ : Unit) : sProp 𝕄 :=
  iprop(Transfers.MayWaits (V d (cV L) (jV L)) (default : HIx 2) O
    ∗ (tLoc d ↦{tq (cL L) (jL L)} Tb d)
    ∗ ((iV).view.loc (V d (cV L) (jV L)) ↦{tq (cL L) (jL L)} Ix d)
    ∗ rowsAt d L Tb Ix t
    ∗ (∃ f, (sV).view.loc (V d (cV L) (jV L)) ↦{fullShare} f)
    ∗ (∃ f, (rV).view.loc (V d (cV L) (jV L)) ↦{fullShare} f)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (V d (cV L) (jV L)) O W')

/-- The words fetched into the list scratch name rows of the table. -/
theorem inb_of_pre (hin : InRows (F := F) (Ix d)) (t : Fin k3_t1_loop.trips) (fs : Buf (Elt F) ((V d (cV L) (jV L)).loc cc3_scratch0)) (pay : S256.Idx → Elt F .i32)
    (hpay : pay = (iChunk L t).view.read (Elt F) (Ix d)) :
    ∀ x, ((sV).view.read (Elt F) (View.write (Elt F) (sV).view fs pay Finset.univ) x : BitVec 32).toNat < S32768x2x128.size gathers_S32768x2x128_S256x2x128.axis := by
  subst hpay; intro x
  rw [View.write_whole_univ]
  simp only [Memref.view_whole, View.read_whole]
  exact (congrArg BitVec.toNat (words_eq L (Ix d) t x)).trans_lt (hin _)

/-- The rows a list names depend on its words alone. -/
theorem rows_congr {si : Shape} {o z : ℕ} {idx idx' : si.Idx → Elt F .i32} (h : idx = idx') (hn : si.numel = o)
    (hl : ∀ x, (idx x : BitVec 32).toNat < z) (hl' : ∀ x, (idx' x : BitVec 32).toNat < z) :
    SparseCore.rows (F := F) idx hn hl = SparseCore.rows (F := F) idx' hn hl' := by subst h; rfl

set_option maxHeartbeats 4000000 in
/-- The task on tile `(L 0, L 1)` of device `d`. -/
theorem tile_body (hF : (K (F := F)).Facts) (hin : InRows (F := F) (Ix d)) (f₀ : Buf (Elt F) (oLoc d))
    (O : CellTallies nD τ sig (HIx 2)) (W : Waits sig (HIx 2)) (hO : ∀ g, O g none = 0) :
    iprop(levAts (K (F := F)).L (K (F := F)).lev ∗ emp
        ∗ tileRes Tb Ix d (cL L) (jL L) f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L tV (Memref.isWhole_whole _) iV (Memref.isWhole_whole _) oV (Memref.isWhole_whole _)
            sV (Memref.isWhole_whole _) rV (Memref.isWhole_whole _) cc3_scratch2 cc3_scoped0 cc3_scoped1)
          fun _ => iprop(tileRes Tb Ix d (cL L) (jL L) (gath (Tb d) (Ix d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_k_eq_skeleton]; unfold cc3_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsG, HsA, HsB, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Hs' := (Entails.of_eq (pts_sV' (F := F) d L _).symm) $$ Hs
  ihave Hr' := (Entails.of_eq (pts_rV' (F := F) d L _).symm) $$ Hr
  sl_for (inv d L Tb Ix O W) $$ [Hmw Ht Hi' Ho Hs' Hr' HsG HsA HsB HO]
  case region =>
    intro t _
    unfold inv rowsAt
    iintro ⟨#Hmw, Ht, Hi', ⟨%f, %hf, Ho⟩, ⟨%fs, Hs'⟩, ⟨%fr, Hr'⟩, HsG, HsA, HsB, %W', %hW', HO⟩
    sl_exec
    ihave Ht' := (Entails.of_eq (pts_tAll (F := F) d L _ _).symm) $$ Ht
    ihave Hr'' := (Entails.of_eq (pts_rV (F := F) d L _).symm) $$ Hr'
    ihave Hs'' := (Entails.of_eq (pts_sV (F := F) d L _).symm) $$ Hs'
    have hN : ∀ h : S32768x2x128.Gathers 0 S256x2x128, ∑ j, ((rV).slice (S256x2x128.rowRect h.axis' j) (S256x2x128.stride_rowRect h.axis' j)).view.dmaCredit
        = (rV).view.dmaCredit := by decide
    iapply (SparseCore.wp_indirectGatherLocal countersEmb 𝒱₀ (V d (cV L) (jV L)) none (hg := gathers_S32768x2x128_S256x2x128) (default : HIx 2)
        (rV).view.dmaCredit (hN _) (by decide) (inb_of_pre d L Ix hin t fs _ rfl)) $$ [Ht' Hr'' Hs'' HsG]
    · isplitl [Ht']; · iexact Ht'
      isplitl [Hr'']; · iexact Hr''
      isplitl [Hs'']; · iexact Hs''
      iexact HsG
    iintro Hfl
    sl_exec
    iapply (Transfers.wp_waitLocalO countersEmb 𝒱₀ (V d (cV L) (jV L)) none (default : HIx 2) (rfl : (rV).view.dmaCredit = _)) $$ [Hfl HO]
    · isplitl [Hfl]; · iexact Hfl
      isplitl [HO]; · iexact HO
      iapply (Transfers.MayWaits.elim (SemLoc.dma cc3_scratch2.sem)) $$ Hmw
    iintro ⟨⟨Hr, Ht, Hs⟩, HsG, HO⟩
    ihave Ht' := (Entails.of_eq (pts_tAll (F := F) d L _ _)) $$ Ht
    ihave Hr' := (Entails.of_eq ((pts_rV (F := F) d L _).trans (pts_rV' (F := F) d L _).symm)) $$ Hr
    ihave Hs' := (Entails.of_eq ((pts_sV (F := F) d L _).trans (pts_sV' (F := F) d L _).symm)) $$ Hs
    ihave Hoo := (pointsTo_split_subset (q := fullShare) (f := f) (S := tileSet (cL L) (jL L)) (chunk_sub L t)).1 $$ Ho
    icases Hoo with ⟨Hoc, Hor⟩
    ihave Hoc' := (Entails.of_eq (pts_oChunk (F := F) d L t _).symm) $$ Hoc
    sl_exec
    sl_step
    isplitr; · iexact Hmw
    isplitl [Ht']; · iexact Ht'
    isplitl [Hi']; · iexact Hi'
    isplitl [Hor Hoc']
    · have hpay : tile_body.sl.dma0_1 d L Tb Ix hin t fs fr
          = SparseCore.gatherPayload gathers_S32768x2x128_S256x2x128 ((tAll).view.read (Elt F) (Tb d))
              (SparseCore.rows ((iChunk L t).view.read (Elt F) (Ix d)) rfl (fun x => (congrArg BitVec.toNat (words_eq L (Ix d) t x)).trans_lt (hin _))) := by
        unfold tile_body.sl.dma0_1
        refine (View.write_whole_univ (Val := Elt F) (cc3_scratch1 : Ref sig .scVector) fr _).trans ?_
        exact congrArg (SparseCore.gatherPayload gathers_S32768x2x128_S256x2x128 ((tAll).view.read (Elt F) (Tb d)))
          (rows_congr (View.write_whole_univ (Val := Elt F) (cc3_scratch0 : Ref sig .scVector) fs _) _ _ _)
      rw [hpay]
      iexists (fun x => if x ∈ (oChunk L t).view.set then gath (Tb d) (Ix d) x else f x)
      isplitr
      · ipureintro; intro x hx hlt
        show (if x ∈ (oChunk L t).view.set then _ else _) = _
        split
        · rfl
        · rename_i hnx
          refine hf x hx ?_
          rw [mem_chunk] at hnx; omega
      iapply (pointsTo_split_subset (q := fullShare) (S := tileSet (cL L) (jL L)) (chunk_sub L t)).2
      isplitl [Hoc']
      · iapply (Entails.of_eq (pointsTo_congr (ℓ := oLoc d) (q := fullShare) fun x hx =>
          (writes_val L (Tb d) (Ix d) hin t f _ rfl _ _ x hx).trans (if_pos hx).symm))
        iexact Hoc'
      · iapply (Entails.of_eq (pointsTo_congr (ℓ := oLoc d) (q := fullShare) fun x hx =>
          (if_neg (Finset.mem_sdiff.mp hx).2).symm))
        iexact Hor
    isplitl [Hs']; · iexists _; iexact Hs'
    isplitl [Hr']; · iexists _; iexact Hr'
    isplitl [HsG]; · iexact HsG
    isplitl [HsA]; · iexact HsA
    isplitl [HsB]; · iexact HsB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv rowsAt
    isplitl [Hmw]; · iexact Hmw
    isplitl [Ht]; · iexact Ht
    isplitl [Hi']; · iexact Hi'
    isplitl [Ho]
    · iexists f₀; isplitr
      · ipureintro; intro x hx h; rw [mem_tile] at hx; omega
      · iexact Ho
    isplitl [Hs']; · iexists _; iexact Hs'
    isplitl [Hr']; · iexists _; iexact Hr'
    isplitl [HsG]; · iexact HsG
    isplitl [HsA]; · iexact HsA
    isplitl [HsB]; · iexact HsB
    iexists W; isplitr
    · ipureintro; exact fun p hp => .inl hp
    · iexact HO
  iintro %_ HI
  unfold inv rowsAt
  icases HI with ⟨-, Ht, Hi', ⟨%f, %hf, Ho⟩, ⟨%fs, Hs'⟩, ⟨%fr, Hr'⟩, HsG, HsA, HsB, %W', %hW', HO⟩
  sl_exec
  sl_step
  isplitl [Ht Hi' Ho]
  · isplitl [Ht]; · iexact Ht
    isplitl [Hi']; · iexact Hi'
    have he : (oLoc d ↦[tileSet (cL L) (jL L)]{fullShare} f : sProp 𝕄) = oLoc d ↦[tileSet (cL L) (jL L)]{fullShare} (gath (Tb d) (Ix d)) :=
      pointsTo_congr fun x hx => hf x hx (by
        have := (mem_tile L).mp hx
        have ht : k3_t1_loop.trips = 4 := trips_eq
        show (x 0).val < base L + 256 * k3_t1_loop.trips
        rw [ht]; omega)
    iapply (Entails.of_eq he); iexact Ho
  isplitl [Hs' Hr' Hbufs]
  · isplitl [Hs']; · iexists _; iexact Hs'
    isplitl [Hr']; · iexists _; iexact Hr'
    iexact Hbufs
  isplitl [HsG HsA HsB Hsems]
  · isplitl [HsG]; · iexact HsG
    isplitl [HsA]; · iexact HsA
    isplitl [HsB]; · iexact HsB
    iexact Hsems
  iexists W'; isplitr
  · ipureintro; exact hW'
  · iexact HO

end Run

end Cert.Proof.Whole.G

end
-- ==== Proof.Whole.GDeal.lean ====
/-
  The call's obligations: each tile's task from its body, and the split of a SparseCore's operands over its sixteen tiles.
-/
module

public import proofs.«01_k».proof.Proof.Whole.GTileRun
public import proofs.«01_k».proof.Proof.Whole.Pay

@[expose] public section

noncomputable section

namespace Cert.Proof.Whole.G

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tV" => (Memref.whole Cert.MoeIdeal.main_v38_scv : Memref Cert.MoeIdeal.sig Kind.scVector Space.hbm Cert.MoeIdeal.S32768x2x128 EltTy.f32)
local notation "iV" => (Memref.whole Cert.MoeIdeal.main_v47_scv : Memref Cert.MoeIdeal.sig Kind.scVector Space.hbm Cert.MoeIdeal.S32768 EltTy.i32)
local notation "oV" => (Memref.whole Cert.MoeIdeal.main_v48_scv : Memref Cert.MoeIdeal.sig Kind.scVector Space.hbm Cert.MoeIdeal.S32768x2x128 EltTy.f32)
local notation "sV" => (Memref.whole Cert.MoeIdeal.cc3_scratch0 : Memref Cert.MoeIdeal.sig Kind.scVector Space.vmem Cert.MoeIdeal.S256 EltTy.i32)
local notation "rV" => (Memref.whole Cert.MoeIdeal.cc3_scratch1 : Memref Cert.MoeIdeal.sig Kind.scVector Space.vmem Cert.MoeIdeal.S256x2x128 EltTy.f32)

variable [FloatOps F]
variable (Tb : (d : Dev nD) → Buf (Elt F) (tLoc d)) (Ix : (d : Dev nD) → Buf (Elt F) (iLoc d)) (O₁ : (d : Dev nD) → Buf (Elt F) (oLoc d))
  (X : (d : Dev nD) → Buf (Elt F) (S.xLoc d)) (A : (d : Dev nD) → Buf (Elt F) (S.aLoc d)) (B : (d : Dev nD) → Buf (Elt F) (S.bLoc d))
  (R : Dev nD → S.Route) (O₀ : (d : Dev nD) → Buf (Elt F) (S.oLoc d))

/-! ## The tile's obligation -/

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_k (coordsV c s)
          tV (Memref.isWhole_whole _) iV (Memref.isWhole_whole _) oV (Memref.isWhole_whole _)
          sV (Memref.isWhole_whole _) rV (Memref.isWhole_whole _) cc3_scratch2 cc3_scoped0 cc3_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d, InRows (F := F) (Ix d)) :
    (K (F := F)).TileObl (D (F := F)) 𝒱 (P X A B R O₀ Tb Ix O₁) v₀ 1 := by
  intro d c i O W hO _ _
  simp only [show (P X A B R O₀ Tb Ix O₁).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) Tb Ix hF (hin d) (O₁ d) O W hO).trans (wp_mono frame _ _ fun _ => obl_post)

/-! ## A SparseCore's operands over its tiles -/

theorem core_tiles (d : Dev nD) (c : Fin 2) (f : Buf (Elt F) (oLoc d)) :
    (coreRes Tb Ix d c f : sProp 𝕄) = bigSep Finset.univ fun i : Fin 16 => tileRes Tb Ix d c i f := by
  unfold coreRes tileRes
  rw [bigSep_sep', bigSep_sep',
    ← pointsTo_biUnion Finset.univ (ℓ := oLoc d) (tileSet c) (tiles_disjoint c), tiles_cover,
    ← show (tLoc d ↦{cq c} Tb d : sProp 𝕄) = bigSep Finset.univ fun i : Fin 16 => tLoc d ↦{tq c i} Tb d from
      ShareLeaves.pointsTo_leaves (Finset.univ) (Tb d) 4 (cq c),
    ← show (iLoc d ↦{cq c} Ix d : sProp 𝕄) = bigSep Finset.univ fun i : Fin 16 => iLoc d ↦{tq c i} Ix d from
      ShareLeaves.pointsTo_leaves (Finset.univ) (Ix d) 4 (cq c)]

theorem whole_cores (d : Dev nD) (f : Buf (Elt F) (oLoc d)) :
    iprop((tLoc d ↦{fullShare} Tb d) ∗ (iLoc d ↦{fullShare} Ix d) ∗ oLoc d ↦{fullShare} f)
      = (bigSep Finset.univ fun c : Fin 2 => coreRes Tb Ix d c f : sProp 𝕄) := by
  unfold coreRes
  rw [bigSep_sep', bigSep_sep',
    ← pointsTo_biUnion Finset.univ (ℓ := oLoc d) coreSet cores_disjoint, cores_cover,
    ← show (tLoc d ↦{fullShare} Tb d : sProp 𝕄) = bigSep Finset.univ fun c : Fin 2 => tLoc d ↦{cq c} Tb d from
      ShareLeaves.pointsTo_leaves (Finset.univ) (Tb d) 1 fullShare,
    ← show (iLoc d ↦{fullShare} Ix d : sProp 𝕄) = bigSep Finset.univ fun c : Fin 2 => iLoc d ↦{cq c} Ix d from
      ShareLeaves.pointsTo_leaves (Finset.univ) (Ix d) 1 fullShare]

theorem bigSep_tasks (Φ : Fin 16 → sProp 𝕄) :
    (bigSep Finset.univ fun i : Fin ((K (F := F)).nSub 1) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 1) => Φ (Fin.cast nCore_zero c)) = bigSep Finset.univ Φ :=
  bigSep_congr fun _ _ => congrArg Φ (Fin.ext rfl)

theorem vecSplit : (K (F := F)).VecSplit' (P X A B R O₀ Tb Ix O₁) 1 := by
  intro d c
  show (coreRes Tb Ix d (Fin.cast nCore_zero c) (O₁ d) : sProp 𝕄) ⊢ |={Set.univ}=> iprop(
      (bigSep Finset.univ fun i : Fin ((K (F := F)).nSub 1) => tileRes Tb Ix d (Fin.cast nCore_zero c) (Fin.cast nSub_zero i) (O₁ d))
      ∗ ((bigSep Finset.univ fun i : Fin ((K (F := F)).nSub 1) =>
          tileRes Tb Ix d (Fin.cast nCore_zero c) (Fin.cast nSub_zero i) (gath (Tb d) (Ix d)))
          -∗ coreRes Tb Ix d (Fin.cast nCore_zero c) (gath (Tb d) (Ix d))))
  rw [bigSep_tasks (F := F) (fun i => tileRes Tb Ix d (Fin.cast nCore_zero c) i (O₁ d)),
    bigSep_tasks (F := F) (fun i => tileRes Tb Ix d (Fin.cast nCore_zero c) i (gath (Tb d) (Ix d))), ← core_tiles, ← core_tiles]
  iintro H; imodintro
  isplitl [H]; · iexact H
  iintro H; iexact H

theorem st_eq (d : Dev nD) : (bigSep Finset.univ fun c : Fin ((K (F := F)).nCore 1) => (P X A B R O₀ Tb Ix O₁).st 1 d c)
    = (iprop((tLoc d ↦{fullShare} Tb d) ∗ (iLoc d ↦{fullShare} Ix d) ∗ oLoc d ↦{fullShare} O₁ d) : sProp 𝕄) := by
  rw [whole_cores]; exact bigSep_cores (F := F) (fun c => coreRes Tb Ix d c (O₁ d))
theorem dn_eq (d : Dev nD) : (bigSep Finset.univ fun c : Fin ((K (F := F)).nCore 1) => (P X A B R O₀ Tb Ix O₁).dn 1 d c)
    = (iprop((tLoc d ↦{fullShare} Tb d) ∗ (iLoc d ↦{fullShare} Ix d) ∗ oLoc d ↦{fullShare} (gath (Tb d) (Ix d))) : sProp 𝕄) := by
  rw [whole_cores]; exact bigSep_cores (F := F) (fun c => coreRes Tb Ix d c (gath (Tb d) (Ix d)))

end Cert.Proof.Whole.G

end
-- ==== Proof.Whole.Main.lean ====
/-
  The joined program's launch: the contents of every buffer from call to call, @main through its five calls, and the run.
-/
module

public import proofs.«01_k».proof.Proof.Whole.Ops
public import proofs.«01_k».proof.Proof.Whole.SDeal
public import proofs.«01_k».proof.Proof.Whole.GDeal
public import Idealize.ShloMosaic.Lib.Pipeline.Frame
public import Idealize.ShloMosaic.Lib.Pipeline.Regions

@[expose] public section

noncomputable section

namespace Cert.Proof.Whole

open Cert.MoeIdeal Cert.MoeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.StableHlo (held held_sub_split held_congr wp_hlo_within wp_seq after)
open Idealize.ShloMosaic.Pipeline (ucRefs)

variable [FloatOps F]

/-- A TensorCore buffer, as one of the device's. -/
abbrev r' (b : Ref sig .tc) : DevRef τ sig := Proc.devRef .tc b

variable (m : (ℓ : Loc nD τ sig) → Buf (Elt F) ℓ) (ρ : Dev nD → PrngReg) (Rt : Dev nD → S.Route) (pf : pre2.Contents (Elt F)) (hp : E.TabOK pf)

/-! ## The contents of a device's buffers, from the launch to the end -/

/-- At the launch, and at the router. -/
def V0 (d : Dev nD) : Valuation τ sig (Elt F) := fun b => m (d, b)
def Va (d : Dev nD) : Valuation τ sig (Elt F) := after opsA (V0 m d)
/-- After the router: its six results. -/
def Vb (d : Dev nD) : Valuation τ sig (Elt F) :=
  Function.update (Function.update (Function.update (Function.update (Function.update (Function.update (Va m d)
    (r' main_v1_0) (R.out2 (Va m d (r' main_v0)) (Va m d (r' main_arg1)))) (r' main_v1_1) (R.out3 (Va m d (r' main_v0)) (Va m d (r' main_arg1))))
    (r' main_v1_2) (R.out4 (Va m d (r' main_v0)) (Va m d (r' main_arg1)))) (r' main_v1_3) (R.out5 (Va m d (r' main_v0)) (Va m d (r' main_arg1))))
    (r' main_v1_4) (R.out6 (Va m d (r' main_v0)) (Va m d (r' main_arg1)))) (r' main_v1_5) (R.out7 (Va m d (r' main_v0)) (Va m d (r' main_arg1)))
/-- At the scatter, and after it. -/
def Vc (d : Dev nD) : Valuation τ sig (Elt F) := after opsB (Vb m d)
def Vd (d : Dev nD) : Valuation τ sig (Elt F) := Function.update (Vc m d) (r' main_v26) (S.scat (Vc m d (r' main_v7)) (Rt d))
/-- At the experts, and after them. -/
def Ve (d : Dev nD) : Valuation τ sig (Elt F) := after opsC (Vd m Rt d)
def Vf (d : Dev nD) : Valuation τ sig (Elt F) :=
  Function.update (Ve m Rt d) (r' main_v36) ((E.dats pf hp (fun d b => Ve m Rt d (r' b)) d).arrAt (3 : Fin 4) (E.cfgA pf hp).N)
/-- At the gather, and after it. -/
def Vg (d : Dev nD) : Valuation τ sig (Elt F) := after opsD (Vf m Rt pf hp d)
def Vh (d : Dev nD) : Valuation τ sig (Elt F) :=
  Function.update (Vg m Rt pf hp d) (r' main_v48) (G.gath (Vg m Rt pf hp d (r' main_v38)) (Vg m Rt pf hp d (r' main_v47)))
/-- At the weighted sum, after it, and at the end. -/
def Vi (d : Dev nD) : Valuation τ sig (Elt F) := after opsE (Vh m Rt pf hp d)
def Vj (d : Dev nD) : Valuation τ sig (Elt F) :=
  Function.update (Vi m Rt pf hp d) (r' main_v50) (W.wsum (Vi m Rt pf hp d (r' main_v49)) (Vi m Rt pf hp d (r' main_v1_1)))
def Vk (d : Dev nD) : Valuation τ sig (Elt F) := after opsF (Vj m Rt pf hp d)

/-! ## Around the scatter -/

omit [FloatOps F] in
theorem held_four (d : Dev nD) (W : Valuation τ sig (Elt F)) :
    (held (SparseCore.T d) (ucRefs τ sig) W : sProp 𝕄)
      = iprop(((S.xLoc d ↦{fullShare} W (r' main_v7)) ∗ (S.aLoc d ↦{fullShare} W (r' main_v16)) ∗ (S.bLoc d ↦{fullShare} W (r' main_v25)) ∗ S.oLoc d ↦{fullShare} W (r' main_v26))
          ∗ held (SparseCore.T d) (ucRefs τ sig \ {r' main_v7, r' main_v16, r' main_v25, r' main_v26}) W) := by
  rw [held_sub_split (SparseCore.T d) (T := {r' main_v7, r' main_v16, r' main_v25, r' main_v26}) (by decide)]
  unfold held
  rw [SparseCore.bigSep_insert' (by decide), SparseCore.bigSep_insert' (by decide), SparseCore.bigSep_insert' (by decide), bigSep_singleton]

theorem held_after₀ (d : Dev nD) :
    iprop(((S.xLoc d ↦{fullShare} Vc m d (r' main_v7)) ∗ (S.aLoc d ↦{fullShare} Vc m d (r' main_v16)) ∗ (S.bLoc d ↦{fullShare} Vc m d (r' main_v25))
          ∗ S.oLoc d ↦{fullShare} S.scat (Vc m d (r' main_v7)) (Rt d))
        ∗ held (SparseCore.T d) (ucRefs τ sig \ {r' main_v7, r' main_v16, r' main_v25, r' main_v26}) (Vc m d))
      = (held (SparseCore.T d) (ucRefs τ sig) (Vd m Rt d) : sProp 𝕄) := by
  have hr : (held (SparseCore.T d) (ucRefs τ sig \ {r' main_v7, r' main_v16, r' main_v25, r' main_v26}) (Vc m d) : sProp 𝕄)
      = held (SparseCore.T d) (ucRefs τ sig \ {r' main_v7, r' main_v16, r' main_v25, r' main_v26}) (Vd m Rt d) :=
    held_congr _ fun b hb => (Function.update_of_ne (fun h => (Finset.mem_sdiff.mp hb).2 (by rw [h]; decide)) _ _).symm
  rw [held_four, hr]
  unfold Vd
  rw [Function.update_self, Function.update_of_ne (show r' main_v7 ≠ r' main_v26 by decide), Function.update_of_ne (show r' main_v16 ≠ r' main_v26 by decide),
    Function.update_of_ne (show r' main_v25 ≠ r' main_v26 by decide)]

/-! ## Around the gather -/

omit [FloatOps F] in
theorem held_three (d : Dev nD) (W : Valuation τ sig (Elt F)) :
    (held (SparseCore.T d) (ucRefs τ sig) W : sProp 𝕄)
      = iprop(((G.tLoc d ↦{fullShare} W (r' main_v38)) ∗ (G.iLoc d ↦{fullShare} W (r' main_v47)) ∗ G.oLoc d ↦{fullShare} W (r' main_v48))
          ∗ held (SparseCore.T d) (ucRefs τ sig \ {r' main_v38, r' main_v47, r' main_v48}) W) := by
  rw [held_sub_split (SparseCore.T d) (T := {r' main_v38, r' main_v47, r' main_v48}) (by decide)]
  unfold held
  rw [SparseCore.bigSep_insert' (by decide), SparseCore.bigSep_insert' (by decide), bigSep_singleton]

theorem held_after₁ (d : Dev nD) :
    iprop(((G.tLoc d ↦{fullShare} Vg m Rt pf hp d (r' main_v38)) ∗ (G.iLoc d ↦{fullShare} Vg m Rt pf hp d (r' main_v47))
          ∗ G.oLoc d ↦{fullShare} G.gath (Vg m Rt pf hp d (r' main_v38)) (Vg m Rt pf hp d (r' main_v47)))
        ∗ held (SparseCore.T d) (ucRefs τ sig \ {r' main_v38, r' main_v47, r' main_v48}) (Vg m Rt pf hp d))
      = (held (SparseCore.T d) (ucRefs τ sig) (Vh m Rt pf hp d) : sProp 𝕄) := by
  have hr : (held (SparseCore.T d) (ucRefs τ sig \ {r' main_v38, r' main_v47, r' main_v48}) (Vg m Rt pf hp d) : sProp 𝕄)
      = held (SparseCore.T d) (ucRefs τ sig \ {r' main_v38, r' main_v47, r' main_v48}) (Vh m Rt pf hp d) :=
    held_congr _ fun b hb => (Function.update_of_ne (fun h => (Finset.mem_sdiff.mp hb).2 (by rw [h]; decide)) _ _).symm
  rw [held_three, hr]
  unfold Vh
  rw [Function.update_self, Function.update_of_ne (show r' main_v38 ≠ r' main_v48 by decide), Function.update_of_ne (show r' main_v47 ≠ r' main_v48 by decide)]

/-! ## What the calls are given -/

abbrev PP : (K (F := F)).Pay (nD := nD) (Val := Elt F) (Name := ℕ) (U := UU) :=
  P (fun d => Vc m d (r' main_v7)) (fun d => Vc m d (r' main_v16)) (fun d => Vc m d (r' main_v25)) Rt (fun d => Vc m d (r' main_v26))
    (fun d => Vg m Rt pf hp d (r' main_v38)) (fun d => Vg m Rt pf hp d (r' main_v47)) (fun d => Vg m Rt pf hp d (r' main_v48))

abbrev dts := pdats pf hp (fun d b => Va m d (r' b)) (fun d b => Ve m Rt d (r' b)) (fun d b => Vi m Rt pf hp d (r' b))

set_option backward.isDefEq.respectTransparency.types false in
def seg0 : Pipeline.RegionSeg (pcfgs (F := F)) (adm pf hp) (dts m Rt pf hp) none defs₀ 𝒱₀ (K (F := F)).L (K (F := F)).lev 0 :=
  reg0 pf hp _ _ _ (fun d b => Vb m d (r' b))
    (fun d => by unfold Vb; repeat' (first | rw [Function.update_self] | rw [Function.update_of_ne (by decide)]))
    (fun d => by unfold Vb; repeat' (first | rw [Function.update_self] | rw [Function.update_of_ne (by decide)]))
    (fun d => by unfold Vb; repeat' (first | rw [Function.update_self] | rw [Function.update_of_ne (by decide)]))
    (fun d => by unfold Vb; repeat' (first | rw [Function.update_self] | rw [Function.update_of_ne (by decide)]))
    (fun d => by unfold Vb; repeat' (first | rw [Function.update_self] | rw [Function.update_of_ne (by decide)]))
    (fun d => by unfold Vb; rw [Function.update_self])
    (fun d b hb => by
      have hn : ∀ c : Ref sig .tc, c ∈ ([main_v1_0, main_v1_1, main_v1_2, main_v1_3, main_v1_4, main_v1_5] : List (Ref sig .tc)) → r' b ≠ r' c :=
        fun c hc h => hb (Proc.devRef_injective _ h ▸ hc)
      unfold Vb
      rw [Function.update_of_ne (hn _ (by decide)), Function.update_of_ne (hn _ (by decide)), Function.update_of_ne (hn _ (by decide)),
        Function.update_of_ne (hn _ (by decide)), Function.update_of_ne (hn _ (by decide)), Function.update_of_ne (hn _ (by decide))])

set_option backward.isDefEq.respectTransparency.types false in
def seg1 (htab : ∀ d (j : Fin 4), Ve m Rt d (r' (pre2.ref j)) = pf j) :
    Pipeline.RegionSeg (pcfgs (F := F)) (adm pf hp) (dts m Rt pf hp) none defs₀ 𝒱₀ (K (F := F)).L (K (F := F)).lev 1 :=
  reg1 pf hp _ _ _ (fun d b => Vf m Rt pf hp d (r' b)) htab (fun d => Function.update_self _ _ _)
    (fun d b hb => Function.update_of_ne (fun h => hb (Proc.devRef_injective _ h)) _ _)

set_option backward.isDefEq.respectTransparency.types false in
def seg2 : Pipeline.RegionSeg (pcfgs (F := F)) (adm pf hp) (dts m Rt pf hp) none defs₀ 𝒱₀ (K (F := F)).L (K (F := F)).lev 2 :=
  reg2 pf hp _ _ _ (fun d b => Vj m Rt pf hp d (r' b)) (fun d => Function.update_self _ _ _)
    (fun d b hb => Function.update_of_ne (fun h => hb (Proc.devRef_injective _ h)) _ _)

theorem seg0_pre (d : Dev nD) : (seg0 m Rt pf hp).pre d = iprop(held (SparseCore.T d) (ucRefs τ sig) (Va m d) ∗ recO (F := F) d 0) :=
  congrArg (fun x => iprop(x ∗ _)) (Pipeline.unscopedBufs_held d (Va m d))
theorem seg0_post (d : Dev nD) : (seg0 m Rt pf hp).post d = iprop(held (SparseCore.T d) (ucRefs τ sig) (Vb m d) ∗ recO (F := F) d 0) :=
  congrArg (fun x => iprop(x ∗ _)) (Pipeline.unscopedBufs_held d (Vb m d))
theorem seg1_pre (htab) (d : Dev nD) : (seg1 m Rt pf hp htab).pre d = iprop(held (SparseCore.T d) (ucRefs τ sig) (Ve m Rt d) ∗ recO (F := F) d 1) :=
  congrArg (fun x => iprop(x ∗ _)) (Pipeline.unscopedBufs_held d (Ve m Rt d))
theorem seg1_post (htab) (d : Dev nD) : (seg1 m Rt pf hp htab).post d = iprop(held (SparseCore.T d) (ucRefs τ sig) (Vf m Rt pf hp d) ∗ recO (F := F) d 1) :=
  congrArg (fun x => iprop(x ∗ _)) (Pipeline.unscopedBufs_held d (Vf m Rt pf hp d))
theorem seg2_pre (d : Dev nD) : (seg2 m Rt pf hp).pre d = iprop(held (SparseCore.T d) (ucRefs τ sig) (Vi m Rt pf hp d) ∗ recO (F := F) d 2) :=
  congrArg (fun x => iprop(x ∗ _)) (Pipeline.unscopedBufs_held d (Vi m Rt pf hp d))
theorem seg2_post (d : Dev nD) : (seg2 m Rt pf hp).post d = iprop(held (SparseCore.T d) (ucRefs τ sig) (Vj m Rt pf hp d) ∗ recO (F := F) d 2) :=
  congrArg (fun x => iprop(x ∗ _)) (Pipeline.unscopedBufs_held d (Vj m Rt pf hp d))

/-! ## The launch's ghost state -/

def u₀ : UU := (initOf (K (F := F)).hsCells (K (F := F)).hsToks,
  (initOf (Pipeline.cells (nD := nD) (τ := τ) (Pipeline.pin (pcfgs (F := F)) (adm pf hp)) (cellOf_inj (adm pf hp))) (Pipeline.launchToks (nD := nD) (τ := τ) (Pipeline.pin (pcfgs (F := F)) (adm pf hp)) (cellOf_inj (adm pf hp))), 1))

/-- One pipeline's own state, from the launch. -/
abbrev G1 (p : Fin 3) (d : Dev nD) : sProp 𝕄 :=
  iprop(Pipeline.cellsGhost (Pipeline.pin (pcfgs (F := F)) (adm pf hp)) EP p d ∗ Pipeline.toksInit (Pipeline.pin (pcfgs (F := F)) (adm pf hp)) EP p d)

abbrev GG (d : Dev nD) : sProp 𝕄 := bigSep Finset.univ fun p : Fin 3 => G1 (F := F) pf hp p d

theorem GG_eq (d : Dev nD) : (GG pf hp d : sProp 𝕄) = iprop(G1 pf hp 0 d ∗ G1 pf hp 1 d ∗ G1 pf hp 2 d) := by
  unfold GG
  rw [show (Finset.univ : Finset (Fin 3)) = {0, 1, 2} by decide, SparseCore.bigSep_insert' (by decide), SparseCore.bigSep_insert' (by decide), bigSep_singleton]

theorem hu₀ : (ownU (u₀ (F := F) pf hp) : sProp 𝕄)
    ⊢ |={Set.univ}=> iprop(BI.own (EH (initOf (K (F := F)).hsCells (K (F := F)).hsToks)) ∗ (bigSep Finset.univ fun d : Dev nD => GG (F := F) pf hp d)
        ∗ bigSep Finset.univ fun thr : Thread nD τ => bigSep Finset.univ fun q : Fin 2 => (PP m Rt pf hp).x q thr) := by
  unfold u₀
  iintro Hu
  ihave H := (ownU_pair (initOf (K (F := F)).hsCells (K (F := F)).hsToks) (_ : UR × Counters)) $$ Hu
  icases H with ⟨HH, HP⟩
  ihave HP' := (own_pair_emb (embR : Emb (UR × Counters) 𝕄) _ _) $$ HP
  icases HP' with ⟨HP, -⟩
  ihave HP := (show BI.own (((Emb.inl : Emb UR (UR × Counters)).trans (embR : Emb (UR × Counters) 𝕄)) _) ⊢ BI.own (EP (F := F) _) from .rfl) $$ HP
  ihave HG := (Pipeline.fund_ghost (Pipeline.pin (pcfgs (F := F)) (adm pf hp)) EP (hinj := cellOf_inj (adm pf hp))) $$ HP
  imod HG with ⟨HG1, HG2⟩
  imodintro
  isplitl [HH]; · iexact HH
  isplitl [HG1 HG2]
  · rw [show (bigSep Finset.univ fun d : Dev nD => GG (F := F) pf hp d : sProp 𝕄)
        = iprop((bigSep Finset.univ fun d : Dev nD => bigSep Finset.univ fun p : Fin 3 => Pipeline.cellsGhost (Pipeline.pin (pcfgs (F := F)) (adm pf hp)) EP p d)
          ∗ bigSep Finset.univ fun d : Dev nD => bigSep Finset.univ fun p : Fin 3 => Pipeline.toksInit (Pipeline.pin (pcfgs (F := F)) (adm pf hp)) EP p d) from by
      rw [← bigSep_sep']; exact bigSep_congr fun d _ => by rw [← bigSep_sep']]
    isplitl [HG1] <;> iassumption
  rw [show (bigSep Finset.univ fun thr : Thread nD τ => bigSep Finset.univ fun q : Fin 2 => (PP m Rt pf hp).x q thr) = (iprop(emp) : sProp 𝕄) from
    (bigSep_congr fun _ _ => bigSep_emp_const _).trans (bigSep_emp_const _)]
  iempintro

/-! ## @main -/

variable [∀ e, Nonempty (Elt F e)]

set_option backward.isDefEq.respectTransparency.types false in
/-- A region's step of @main. -/
theorem wp_region (p : Fin 3) (RS : Pipeline.RegionSeg (pcfgs (F := F)) (adm pf hp) (dts m Rt pf hp) none defs₀ 𝒱₀ (K (F := F)).L (K (F := F)).lev p)
    (d : Dev nD) (Q : PUnit → sProp 𝕄) :
    iprop((iprop(boundary (SparseCore.T d) ∗ RS.post d) -∗ Q ⟨⟩)
        ∗ boundary (SparseCore.T d) ∗ RS.pre d ∗ levAts (K (F := F)).L (K (F := F)).lev
        ∗ Pipeline.cellsGhost (Pipeline.pin (pcfgs (F := F)) (adm pf hp)) EP p d ∗ Pipeline.toksInit (Pipeline.pin (pcfgs (F := F)) (adm pf hp)) EP p d)
      ⊢ wp frame (wpE ((K (F := F)).defs (D (F := F))) 𝒱 (SparseCore.T d) none) Set.univ (SparseCore.liftProg (.op (.customCall (Pipeline.entry p) ()) .ret)) Q := by
  have h := RS.wp (pcfgs (F := F)) (adm pf hp) (dts m Rt pf hp) none (cellOf_inj (adm pf hp)) EP defs₀ 𝒱₀ (K (F := F)).L (K (F := F)).lev d none
    (fun _ h => nomatch h) .ret Q
  refine BIBase.Entails.trans ?_ (BIBase.Entails.trans h ((K (F := F)).wp_liftProg (D (F := F)) 𝒱 (SparseCore.T d) Set.univ none _ _))
  iintro ⟨Hk, H⟩
  isplitl [Hk]
  · iintro H; rw [wp_ret]; imodintro; iapply Hk; iexact H
  iexact H

abbrev FIN (d : Dev nD) : sProp 𝕄 := held (SparseCore.T d) (ucRefs τ sig) (Vk m Rt pf hp d)

set_option backward.isDefEq.respectTransparency.types false in
set_option maxRecDepth 4096 in
theorem hmain (htab : ∀ d (j : Fin 4), Ve m Rt d (r' (pre2.ref j)) = pf j) (κ : GSem nD τ sig → ℕ) (d : Dev nD) :
    iprop((K (F := F)).ctx EH (PP m Rt pf hp) κ ∗ (K (F := F)).tcSt EH d 0 ∗ (K (F := F)).tcRes m ρ d ∗ GG (F := F) pf hp d)
      ⊢ wp frame (wpE ((K (F := F)).defs (D (F := F))) 𝒱 (SparseCore.T d) none) Set.univ (main d)
          fun _ => iprop((K (F := F)).tcSt EH d 2 ∗ FIN m Rt pf hp d ∗ (K (F := F)).tcEnd d) := by
  unfold SparseCore.Cfg.tcRes SparseCore.Cfg.tcEnd
  rw [main_eq, GG_eq, show (unscopedBufs d (fun b => m ((SparseCore.T d).loc b)) : sProp 𝕄) = held (SparseCore.T d) (ucRefs τ sig) (V0 m d) from
    Pipeline.unscopedBufs_held d (V0 m d)]
  iintro ⟨#Hctx, Hst, ⟨Hb, Hheld, Hts, -⟩, ⟨Hg1, Hg2⟩, ⟨Hg3, Hg4⟩, Hg5, Hg6⟩
  ihave #Hlev := (SparseCore.Cfg.ctx_levAts κ) $$ Hctx
  iapply (wp_seq 𝒱 none Set.univ d (ucRefs τ sig) _ opsA opsA_sub opsA_fresh (V0 m d)) $$ [Hb Hheld]
  · isplitl [Hb] <;> iassumption
  iintro ⟨Hb, Hheld⟩
  ihave Hheld := (show (held (SparseCore.T d) (ucRefs τ sig) (after opsA (V0 m d)) : sProp 𝕄) ⊢ held (SparseCore.T d) (ucRefs τ sig) (Va m d) from .rfl) $$ Hheld
  simp only [wp_bind]
  -- the router
  ihave Hst := (Entails.of_eq (tcSt_split (F := F) d 0)) $$ Hst
  icases Hst with ⟨HO, Hst⟩
  iapply (wp_region m Rt pf hp 0 (seg0 m Rt pf hp) d _)
  isplitr [Hb HO Hheld Hg1 Hg2]
  rotate_left
  · isplitl [Hb]; · iexact Hb
    isplitl [HO Hheld]
    · rw [seg0_pre]; isplitl [Hheld] <;> iassumption
    isplitr; · iexact Hlev
    isplitl [Hg1] <;> iassumption
  iintro ⟨Hb, Hpost⟩
  ihave Hpost := (Entails.of_eq (seg0_post m Rt pf hp d)) $$ Hpost
  icases Hpost with ⟨Hheld, HO⟩
  ihave Hst := (Entails.of_eq (tcSt_split (F := F) d 0).symm) $$ [HO Hst]
  · isplitl [HO] <;> iassumption
  rw [← wp_bind]
  iapply (wp_seq 𝒱 none Set.univ d (ucRefs τ sig) _ opsB opsB_sub opsB_fresh (Vb m d)) $$ [Hb Hheld]
  · isplitl [Hb] <;> iassumption
  iintro ⟨Hb, Hheld⟩
  -- the scatter
  ihave Hh := (show (held (SparseCore.T d) (ucRefs τ sig) (after opsB (Vb m d)) : sProp 𝕄) ⊢ _ from Entails.of_eq (held_four d (Vc m d))) $$ Hheld
  icases Hh with ⟨Hfour, Hrest⟩
  iapply ((K (F := F)).wp_run (D (F := F)) 𝒱 (EH := EH) (P := PP m Rt pf hp) κ d 0)
  isplitr; · iexact Hctx
  isplitl [Hst]; · iexact Hst
  isplitl [Hfour]
  · rw [S.st_eq]; iexact Hfour
  iintro ⟨Hst, Hdn⟩
  ihave Hdn' := (Entails.of_eq (S.dn_eq _ _ _ Rt _ _ _ _ d)) $$ Hdn
  ihave Hheld := (Entails.of_eq (held_after₀ m Rt d)) $$ [Hdn' Hrest]
  · isplitl [Hdn'] <;> iassumption
  rw [← wp_bind]
  iapply (wp_seq 𝒱 none Set.univ d (ucRefs τ sig) _ opsC opsC_sub opsC_fresh (Vd m Rt d)) $$ [Hb Hheld]
  · isplitl [Hb] <;> iassumption
  iintro ⟨Hb, Hheld⟩
  ihave Hheld := (show (held (SparseCore.T d) (ucRefs τ sig) (after opsC (Vd m Rt d)) : sProp 𝕄) ⊢ held (SparseCore.T d) (ucRefs τ sig) (Ve m Rt d) from .rfl) $$ Hheld
  -- the experts
  ihave Hst := (show (K (F := F)).tcSt EH d ((0 : Fin 2).val + 1) ⊢ _ from Entails.of_eq (tcSt_split (F := F) d 1)) $$ Hst
  icases Hst with ⟨HO, Hst⟩
  iapply (wp_region m Rt pf hp 1 (seg1 m Rt pf hp htab) d _)
  isplitr [Hb HO Hheld Hg3 Hg4]
  rotate_left
  · isplitl [Hb]; · iexact Hb
    isplitl [HO Hheld]
    · rw [seg1_pre]; isplitl [Hheld] <;> iassumption
    isplitr; · iexact Hlev
    isplitl [Hg3] <;> iassumption
  iintro ⟨Hb, Hpost⟩
  ihave Hpost := (Entails.of_eq (seg1_post m Rt pf hp htab d)) $$ Hpost
  icases Hpost with ⟨Hheld, HO⟩
  ihave Hst := (Entails.of_eq (tcSt_split (F := F) d 1).symm) $$ [HO Hst]
  · isplitl [HO] <;> iassumption
  rw [← wp_bind]
  iapply (wp_seq 𝒱 none Set.univ d (ucRefs τ sig) _ opsD opsD_sub opsD_fresh (Vf m Rt pf hp d)) $$ [Hb Hheld]
  · isplitl [Hb] <;> iassumption
  iintro ⟨Hb, Hheld⟩
  -- the gather
  ihave Hh := (show (held (SparseCore.T d) (ucRefs τ sig) (after opsD (Vf m Rt pf hp d)) : sProp 𝕄) ⊢ _ from Entails.of_eq (held_three d (Vg m Rt pf hp d))) $$ Hheld
  icases Hh with ⟨Hthree, Hrest⟩
  iapply ((K (F := F)).wp_run (D (F := F)) 𝒱 (EH := EH) (P := PP m Rt pf hp) κ d 1)
  isplitr; · iexact Hctx
  isplitl [Hst]; · iexact Hst
  isplitl [Hthree]
  · rw [G.st_eq]; iexact Hthree
  iintro ⟨Hst, Hdn⟩
  ihave Hdn' := (Entails.of_eq (G.dn_eq _ _ _ _ _ _ Rt _ d)) $$ Hdn
  ihave Hheld := (Entails.of_eq (held_after₁ m Rt pf hp d)) $$ [Hdn' Hrest]
  · isplitl [Hdn'] <;> iassumption
  rw [← wp_bind]
  iapply (wp_seq 𝒱 none Set.univ d (ucRefs τ sig) _ opsE opsE_sub opsE_fresh (Vh m Rt pf hp d)) $$ [Hb Hheld]
  · isplitl [Hb] <;> iassumption
  iintro ⟨Hb, Hheld⟩
  ihave Hheld := (show (held (SparseCore.T d) (ucRefs τ sig) (after opsE (Vh m Rt pf hp d)) : sProp 𝕄) ⊢ held (SparseCore.T d) (ucRefs τ sig) (Vi m Rt pf hp d) from .rfl) $$ Hheld
  -- the weighted sum
  ihave Hst := (show (K (F := F)).tcSt EH d ((1 : Fin 2).val + 1) ⊢ _ from Entails.of_eq (tcSt_split (F := F) d 2)) $$ Hst
  icases Hst with ⟨HO, Hst⟩
  iapply (wp_region m Rt pf hp 2 (seg2 m Rt pf hp) d _)
  isplitr [Hb HO Hheld Hg5 Hg6]
  rotate_left
  · isplitl [Hb]; · iexact Hb
    isplitl [HO Hheld]
    · rw [seg2_pre]; isplitl [Hheld] <;> iassumption
    isplitr; · iexact Hlev
    isplitl [Hg5] <;> iassumption
  iintro ⟨Hb, Hpost⟩
  ihave Hpost := (Entails.of_eq (seg2_post m Rt pf hp d)) $$ Hpost
  icases Hpost with ⟨Hheld, HO⟩
  ihave Hst := (Entails.of_eq (tcSt_split (F := F) d 2).symm) $$ [HO Hst]
  · isplitl [HO] <;> iassumption
  rw [← wp_bind]
  iapply (wp_seq 𝒱 none Set.univ d (ucRefs τ sig) _ opsF opsF_sub opsF_fresh (Vj m Rt pf hp d)) $$ [Hb Hheld]
  · isplitl [Hb] <;> iassumption
  iintro ⟨Hb, Hheld⟩
  rw [wp_ret]; imodintro
  isplitl [Hst]; · iexact Hst
  isplitl [Hheld]; · iexact Hheld
  isplitl [Hb] <;> iassumption

/-! ## The launch -/

def fq (d : Dev nD) (s' : Phys nD τ sig (Elt F)) : Prop := ∀ b ∈ ucRefs τ sig, s'.mem.mem (d, b) = Vk m Rt pf hp d b

omit [∀ e, Nonempty (Elt F e)] in
theorem hfin (d : Dev nD) (s' : Phys nD τ sig (Elt F)) : iprop(FIN m Rt pf hp d ∗ SI s') ⊢ (⌜fq m Rt pf hp d s'⌝ : sProp 𝕄) := by
  by_cases h : fq m Rt pf hp d s'
  · iintro -; ipureintro; exact h
  · unfold fq at h
    push Not at h
    obtain ⟨b, hb, hne⟩ := h
    have hb' : (FIN m Rt pf hp d : sProp 𝕄) ⊢ ((d, b) : Loc nD τ sig) ↦{fullShare} Vk m Rt pf hp d b := bigSep_elim hb
    iintro ⟨HF, HSI⟩
    ihave Hb := hb' $$ HF
    ihave H := (SI_pointsTo_agree (st := s') (ℓ := ((d, b) : Loc nD τ sig)) (I := Finset.univ) (q := fullShare) (f := Vk m Rt pf hp d b)) $$ [HSI Hb]
    · isplitl [HSI] <;> iassumption
    icases H with %h1
    exact absurd (funext fun i => h1 i (Finset.mem_univ i)) hne

/-- Every run ends, with every buffer of @main at its contents at the end and every counter at zero. -/
theorem run_main (htab : ∀ d (j : Fin 4), Ve m Rt d (r' (pre2.ref j)) = pf j)
    (hA : ∀ d, S.Named (F := F) (Vc m d (r' main_v16)) (Rt d) false) (hB : ∀ d, S.Named (F := F) (Vc m d (r' main_v25)) (Rt d) true)
    (hin : ∀ d, G.InRows (Vg m Rt pf hp d (r' main_v47))) :
    θ_run (Cert.MoeIdeal.defs (F := F)) (Cert.MoeIdeal.threads (F := F)) ⟨m, fun _ => 0, ρ⟩
      fun r => (∀ d : Dev nD, ∀ b ∈ ucRefs τ sig, r.2.mem (d, b) = Vk m Rt pf hp d b) ∧ r.2.sem = fun _ => 0 :=
  SparseCore.Cfg.θ_run_sc_quiescent (K := K (F := F)) (D := D (F := F)) (𝒱 := 𝒱) (EH := EH) (P := PP m Rt pf hp) (A := ∅) facts v₀
    (fun q hq => match q with | 0 => nomatch hq | 1 => nomatch hq)
    (fun q _ => match q with | 0 => S.tileObl _ _ _ Rt _ _ _ _ facts hA hB | 1 => G.tileObl _ _ _ _ _ _ Rt _ facts hin)
    (fun q _ => match q with | 0 => SparseCore.Cfg.VecSplit.of_plain (S.vecSplit _ _ _ Rt _ _ _ _) | 1 => SparseCore.Cfg.VecSplit.of_plain (G.vecSplit _ _ _ _ _ _ Rt _))
    m ρ main (fun d => GG (F := F) pf hp d) (FIN m Rt pf hp) (u₀ (F := F) pf hp) (sep_elim_left.trans (hu₀ m Rt pf hp)) (hmain m ρ Rt pf hp htab)
    (fq m Rt pf hp) (hfin m Rt pf hp) _ (fun _ h hz => ⟨h, hz⟩)

end Cert.Proof.Whole

end
-- ==== Proof.Whole.Vals.lean ====
/-
  The joined program's buffers from call to call, read in terms of the router's results and of the launch's contents.
-/
module

public import proofs.«01_k».proof.Proof.Whole.Main
public import proofs.«01_k».proof.Proof.Scat.Value
public import proofs.«01_k».proof.Proof.Comb.Value

@[expose] public section

noncomputable section

namespace Cert.Proof.Whole

open Cert.MoeIdeal Cert.MoeIdeal.Gen

open Idealize.ShloMosaic
open Idealize.ShloMosaic.StableHlo (after)
open Idealize.ShloMosaic.Tactic

variable {F : FTy → Type} [FloatOps F]

variable (m : (ℓ : Loc nD τ sig) → Buf (Elt F) ℓ) (Rt : Dev nD → S.Route) (pf : pre2.Contents (Elt F)) (hp : E.TabOK pf)

/-- The tokens as rows, and the router's weights. -/
abbrev xs (d : Dev nD) : FVec F S2048x2048 .f32 := shapeCast S2048x2048 (m (d, r' main_arg0)) shapeCasts_S1x2048x2048_S2048x2048
abbrev rwt (d : Dev nD) : FVec F S8x2048 .f32 := m (d, r' main_arg1)
/-- The positions of the tokens' copies in one slot. -/
abbrev posA (d : Dev nD) : IVec S2048 32 := shapeCast S2048 (extractStridedSlice S2048x1 ![0, 0] (R.out6 (xs m d) (rwt m d)) slices_S2048x2_S2048x1_0_0) shapeCasts_S2048x1_S2048
abbrev posB (d : Dev nD) : IVec S2048 32 := shapeCast S2048 (extractStridedSlice S2048x1 ![0, 1] (R.out6 (xs m d) (rwt m d)) slices_S2048x2_S2048x1_0_1) shapeCasts_S2048x1_S2048

theorem Va_x (d : Dev nD) : Va m d (r' main_v0) = xs m d := by
  unfold Va
  after_results
  rfl
theorem Va_arg0 (d : Dev nD) : Va m d (r' main_arg0) = m (d, r' main_arg0) := by
  unfold Va
  after_results
  rfl
theorem Va_arg1 (d : Dev nD) : Va m d (r' main_arg1) = m (d, r' main_arg1) := by
  unfold Va
  after_results
  rfl
theorem Va_arg2 (d : Dev nD) : Va m d (r' main_arg2) = m (d, r' main_arg2) := by
  unfold Va
  after_results
  rfl
theorem Va_arg3 (d : Dev nD) : Va m d (r' main_arg3) = m (d, r' main_arg3) := by
  unfold Va
  after_results
  rfl

theorem Vb_of_ne (d : Dev nD) (b : Ref sig .tc) (h : b ∉ ([main_v1_0, main_v1_1, main_v1_2, main_v1_3, main_v1_4, main_v1_5] : List (Ref sig .tc))) :
    Vb m d (r' b) = Va m d (r' b) := by
  have hn : ∀ c : Ref sig .tc, c ∈ ([main_v1_0, main_v1_1, main_v1_2, main_v1_3, main_v1_4, main_v1_5] : List (Ref sig .tc)) → r' b ≠ r' c :=
    fun c hc e => h (Proc.devRef_injective _ e ▸ hc)
  unfold Vb
  rw [Function.update_of_ne (hn _ (by decide)), Function.update_of_ne (hn _ (by decide)), Function.update_of_ne (hn _ (by decide)),
    Function.update_of_ne (hn _ (by decide)), Function.update_of_ne (hn _ (by decide)), Function.update_of_ne (hn _ (by decide))]

theorem Vb_3 (d : Dev nD) : Vb m d (r' main_v1_1) = R.out3 (xs m d) (rwt m d) := by
  rw [← Va_x, show rwt m d = Va m d (r' main_arg1) from (Va_arg1 m d).symm]
  unfold Vb
  repeat' (first | rw [Function.update_self] | rw [Function.update_of_ne (by decide)])
theorem Vb_5 (d : Dev nD) : Vb m d (r' main_v1_3) = R.out5 (xs m d) (rwt m d) := by
  rw [← Va_x, show rwt m d = Va m d (r' main_arg1) from (Va_arg1 m d).symm]
  unfold Vb
  repeat' (first | rw [Function.update_self] | rw [Function.update_of_ne (by decide)])
theorem Vb_6 (d : Dev nD) : Vb m d (r' main_v1_4) = R.out6 (xs m d) (rwt m d) := by
  rw [← Va_x, show rwt m d = Va m d (r' main_arg1) from (Va_arg1 m d).symm]
  unfold Vb
  repeat' (first | rw [Function.update_self] | rw [Function.update_of_ne (by decide)])
theorem Vb_7 (d : Dev nD) : Vb m d (r' main_v1_5) = R.out7 (xs m d) (rwt m d) := by
  rw [← Va_x, show rwt m d = Va m d (r' main_arg1) from (Va_arg1 m d).symm]
  unfold Vb
  rw [Function.update_self]

/-- After the operations at the scatter. -/
theorem opsB_loss (V : Valuation τ sig (Elt F)) : after opsB V (r' main_v2) = shapeCast S_ (V (r' main_v1_3)) shapeCasts_S1x1_S_ := by
  after_results
  rfl
theorem opsB_rows (V : Valuation τ sig (Elt F)) : after opsB V (r' main_v7) = shapeCast S16384x2x128 (V (r' main_v0)) shapeCasts_S2048x2048_S16384x2x128 := by
  after_results
  rfl
theorem opsB_posA (V : Valuation τ sig (Elt F)) : after opsB V (r' main_v4)
    = shapeCast S2048 (extractStridedSlice S2048x1 ![0, 0] (V (r' main_v1_4)) slices_S2048x2_S2048x1_0_0) shapeCasts_S2048x1_S2048 := by
  after_results
  rfl
theorem opsB_posB (V : Valuation τ sig (Elt F)) : after opsB V (r' main_v6)
    = shapeCast S2048 (extractStridedSlice S2048x1 ![0, 1] (V (r' main_v1_4)) slices_S2048x2_S2048x1_0_1) shapeCasts_S2048x1_S2048 := by
  after_results
  rfl
theorem opsB_listA (V : Valuation τ sig (Elt F)) : after opsB V (r' main_v16)
    = Cert.Proof.Scat.eighths (F := F) (shapeCast S2048 (extractStridedSlice S2048x1 ![0, 0] (V (r' main_v1_4)) slices_S2048x2_S2048x1_0_0) shapeCasts_S2048x1_S2048) := by
  after_results
  rfl
theorem opsB_listB (V : Valuation τ sig (Elt F)) : after opsB V (r' main_v25)
    = Cert.Proof.Scat.eighths (F := F) (shapeCast S2048 (extractStridedSlice S2048x1 ![0, 1] (V (r' main_v1_4)) slices_S2048x2_S2048x1_0_1) shapeCasts_S2048x1_S2048) := by
  after_results
  rfl

end Cert.Proof.Whole

end
-- ==== Proof.Whole.Ends.lean ====
/-
  The joined program's buffers at each call and at its end, in terms of the launch's contents.
-/
module

public import proofs.«01_k».proof.Proof.Whole.Vals

@[expose] public section

noncomputable section

namespace Cert.Proof.Whole

open Cert.MoeIdeal Cert.MoeIdeal.Gen

open Idealize.ShloMosaic
open Idealize.ShloMosaic.StableHlo (after)
open Idealize.ShloMosaic.Tactic

variable {F : FTy → Type} [FloatOps F]

variable (m : (ℓ : Loc nD τ sig) → Buf (Elt F) ℓ) (Rt : Dev nD → S.Route) (pf : pre2.Contents (Elt F)) (hp : E.TabOK pf)

/-! ## What the host operations leave -/

theorem opsB_main_arg0 (V : Valuation τ sig (Elt F)) : after opsB V (r' main_arg0) = V (r' main_arg0) := by after_results
theorem opsB_main_arg1 (V : Valuation τ sig (Elt F)) : after opsB V (r' main_arg1) = V (r' main_arg1) := by after_results
theorem opsB_main_arg2 (V : Valuation τ sig (Elt F)) : after opsB V (r' main_arg2) = V (r' main_arg2) := by after_results
theorem opsB_main_arg3 (V : Valuation τ sig (Elt F)) : after opsB V (r' main_arg3) = V (r' main_arg3) := by after_results
theorem opsB_main_v1_1 (V : Valuation τ sig (Elt F)) : after opsB V (r' main_v1_1) = V (r' main_v1_1) := by after_results
theorem opsB_main_v1_5 (V : Valuation τ sig (Elt F)) : after opsB V (r' main_v1_5) = V (r' main_v1_5) := by after_results
theorem opsC_main_arg0 (V : Valuation τ sig (Elt F)) : after opsC V (r' main_arg0) = V (r' main_arg0) := by after_results
theorem opsC_main_arg1 (V : Valuation τ sig (Elt F)) : after opsC V (r' main_arg1) = V (r' main_arg1) := by after_results
theorem opsC_main_arg2 (V : Valuation τ sig (Elt F)) : after opsC V (r' main_arg2) = V (r' main_arg2) := by after_results
theorem opsC_main_arg3 (V : Valuation τ sig (Elt F)) : after opsC V (r' main_arg3) = V (r' main_arg3) := by after_results
theorem opsC_main_v1_1 (V : Valuation τ sig (Elt F)) : after opsC V (r' main_v1_1) = V (r' main_v1_1) := by after_results
theorem opsC_main_v2 (V : Valuation τ sig (Elt F)) : after opsC V (r' main_v2) = V (r' main_v2) := by after_results
theorem opsC_main_v4 (V : Valuation τ sig (Elt F)) : after opsC V (r' main_v4) = V (r' main_v4) := by after_results
theorem opsC_main_v6 (V : Valuation τ sig (Elt F)) : after opsC V (r' main_v6) = V (r' main_v6) := by after_results
theorem opsD_main_arg0 (V : Valuation τ sig (Elt F)) : after opsD V (r' main_arg0) = V (r' main_arg0) := by after_results
theorem opsD_main_arg1 (V : Valuation τ sig (Elt F)) : after opsD V (r' main_arg1) = V (r' main_arg1) := by after_results
theorem opsD_main_arg2 (V : Valuation τ sig (Elt F)) : after opsD V (r' main_arg2) = V (r' main_arg2) := by after_results
theorem opsD_main_arg3 (V : Valuation τ sig (Elt F)) : after opsD V (r' main_arg3) = V (r' main_arg3) := by after_results
theorem opsD_main_v1_1 (V : Valuation τ sig (Elt F)) : after opsD V (r' main_v1_1) = V (r' main_v1_1) := by after_results
theorem opsD_main_v2 (V : Valuation τ sig (Elt F)) : after opsD V (r' main_v2) = V (r' main_v2) := by after_results
theorem opsE_main_arg0 (V : Valuation τ sig (Elt F)) : after opsE V (r' main_arg0) = V (r' main_arg0) := by after_results
theorem opsE_main_arg1 (V : Valuation τ sig (Elt F)) : after opsE V (r' main_arg1) = V (r' main_arg1) := by after_results
theorem opsE_main_arg2 (V : Valuation τ sig (Elt F)) : after opsE V (r' main_arg2) = V (r' main_arg2) := by after_results
theorem opsE_main_arg3 (V : Valuation τ sig (Elt F)) : after opsE V (r' main_arg3) = V (r' main_arg3) := by after_results
theorem opsE_main_v1_1 (V : Valuation τ sig (Elt F)) : after opsE V (r' main_v1_1) = V (r' main_v1_1) := by after_results
theorem opsE_main_v2 (V : Valuation τ sig (Elt F)) : after opsE V (r' main_v2) = V (r' main_v2) := by after_results
theorem opsF_main_arg0 (V : Valuation τ sig (Elt F)) : after opsF V (r' main_arg0) = V (r' main_arg0) := by after_results
theorem opsF_main_arg1 (V : Valuation τ sig (Elt F)) : after opsF V (r' main_arg1) = V (r' main_arg1) := by after_results
theorem opsF_main_arg2 (V : Valuation τ sig (Elt F)) : after opsF V (r' main_arg2) = V (r' main_arg2) := by after_results
theorem opsF_main_arg3 (V : Valuation τ sig (Elt F)) : after opsF V (r' main_arg3) = V (r' main_arg3) := by after_results
theorem opsF_main_v2 (V : Valuation τ sig (Elt F)) : after opsF V (r' main_v2) = V (r' main_v2) := by after_results

theorem opsC_rows (V : Valuation τ sig (Elt F)) : after opsC V (r' main_v27) = shapeCast S4096x2048 (V (r' main_v26)) shapeCasts_S32768x2x128_S4096x2048 := by
  after_results
  rfl
theorem opsC_row0 (V : Valuation τ sig (Elt F)) : after opsC V (r' main_v29)
    = shapeCast S15 (extractStridedSlice S1x15 ![0, 0] (V (r' main_v1_5)) slices_S4x15_S1x15_0_0) shapeCasts_S1x15_S15 := by
  after_results
  rfl
theorem opsC_row1 (V : Valuation τ sig (Elt F)) : after opsC V (r' main_v31)
    = shapeCast S15 (extractStridedSlice S1x15 ![1, 0] (V (r' main_v1_5)) slices_S4x15_S1x15_1_0) shapeCasts_S1x15_S15 := by
  after_results
  rfl
theorem opsC_row2 (V : Valuation τ sig (Elt F)) : after opsC V (r' main_v33)
    = shapeCast S15 (extractStridedSlice S1x15 ![2, 0] (V (r' main_v1_5)) slices_S4x15_S1x15_2_0) shapeCasts_S1x15_S15 := by
  after_results
  rfl
theorem opsC_row3 (V : Valuation τ sig (Elt F)) : after opsC V (r' main_v35)
    = shapeCast S15 (extractStridedSlice S1x15 ![3, 0] (V (r' main_v1_5)) slices_S4x15_S1x15_3_0) shapeCasts_S1x15_S15 := by
  after_results
  rfl
theorem opsD_table (V : Valuation τ sig (Elt F)) : after opsD V (r' main_v38) = shapeCast S32768x2x128 (V (r' main_v36)) shapeCasts_S4096x2048_S32768x2x128 := by
  after_results
  rfl
theorem opsD_list (V : Valuation τ sig (Elt F)) : after opsD V (r' main_v47)
    = Cert.Proof.Comb.expand (Cert.Proof.Comb.both (V (r' main_v4)) (V (r' main_v6))) := by
  after_results
  rfl
theorem opsE_rows (V : Valuation τ sig (Elt F)) : after opsE V (r' main_v49) = shapeCast S4096x2048 (V (r' main_v48)) shapeCasts_S32768x2x128_S4096x2048 := by
  after_results
  rfl
theorem opsF_out (V : Valuation τ sig (Elt F)) : after opsF V (r' main_v51) = shapeCast S1x2048x2048 (V (r' main_v50)) shapeCasts_S2048x2048_S1x2048x2048 := by
  after_results
  rfl

/-! ## At the scatter -/

theorem Vc_listA (d : Dev nD) : Vc m d (r' main_v16) = Cert.Proof.Scat.eighths (F := F) (posA m d) := by
  unfold Vc
  rw [opsB_listA, Vb_6]
theorem Vc_listB (d : Dev nD) : Vc m d (r' main_v25) = Cert.Proof.Scat.eighths (F := F) (posB m d) := by
  unfold Vc
  rw [opsB_listB, Vb_6]
theorem Vc_rows (d : Dev nD) : Vc m d (r' main_v7) = shapeCast S16384x2x128 (xs m d) shapeCasts_S2048x2048_S16384x2x128 := by
  unfold Vc
  rw [opsB_rows, Vb_of_ne m d main_v0 (by decide), Va_x]
theorem Vc_posA (d : Dev nD) : Vc m d (r' main_v4) = posA m d := by
  unfold Vc
  rw [opsB_posA, Vb_6]
theorem Vc_posB (d : Dev nD) : Vc m d (r' main_v6) = posB m d := by
  unfold Vc
  rw [opsB_posB, Vb_6]
theorem Vc_loss (d : Dev nD) : Vc m d (r' main_v2) = shapeCast S_ (R.out5 (xs m d) (rwt m d)) shapeCasts_S1x1_S_ := by
  unfold Vc
  rw [opsB_loss, Vb_5]
theorem Vc_wts (d : Dev nD) : Vc m d (r' main_v1_1) = R.out3 (xs m d) (rwt m d) := by
  unfold Vc
  rw [opsB_main_v1_1, Vb_3]
theorem Vc_items (d : Dev nD) : Vc m d (r' main_v1_5) = R.out7 (xs m d) (rwt m d) := by
  unfold Vc
  rw [opsB_main_v1_5, Vb_7]
theorem Vc_arg0 (d : Dev nD) : Vc m d (r' main_arg0) = m (d, r' main_arg0) := by
  unfold Vc
  rw [opsB_main_arg0, Vb_of_ne m d main_arg0 (by decide), Va_arg0]
theorem Vc_arg1 (d : Dev nD) : Vc m d (r' main_arg1) = m (d, r' main_arg1) := by
  unfold Vc
  rw [opsB_main_arg1, Vb_of_ne m d main_arg1 (by decide), Va_arg1]
theorem Vc_arg2 (d : Dev nD) : Vc m d (r' main_arg2) = m (d, r' main_arg2) := by
  unfold Vc
  rw [opsB_main_arg2, Vb_of_ne m d main_arg2 (by decide), Va_arg2]
theorem Vc_arg3 (d : Dev nD) : Vc m d (r' main_arg3) = m (d, r' main_arg3) := by
  unfold Vc
  rw [opsB_main_arg3, Vb_of_ne m d main_arg3 (by decide), Va_arg3]

/-! ## At the experts -/

theorem Vd_of_ne (d : Dev nD) (b : Ref sig .tc) (h : r' b ≠ r' main_v26) : Vd m Rt d (r' b) = Vc m d (r' b) := by
  unfold Vd
  exact Function.update_of_ne h _ _
theorem Vd_rows (d : Dev nD) : Vd m Rt d (r' main_v26) = S.scat (shapeCast S16384x2x128 (xs m d) shapeCasts_S2048x2048_S16384x2x128) (Rt d) := by
  rw [← Vc_rows]
  unfold Vd
  exact Function.update_self _ _ _
theorem Ve_rows (d : Dev nD) : Ve m Rt d (r' main_v27)
    = shapeCast S4096x2048 (S.scat (shapeCast S16384x2x128 (xs m d) shapeCasts_S2048x2048_S16384x2x128) (Rt d)) shapeCasts_S32768x2x128_S4096x2048 := by
  unfold Ve
  rw [opsC_rows, Vd_rows]
theorem Ve_row0 (d : Dev nD) : Ve m Rt d (r' main_v29)
    = shapeCast S15 (extractStridedSlice S1x15 ![0, 0] (R.out7 (xs m d) (rwt m d)) slices_S4x15_S1x15_0_0) shapeCasts_S1x15_S15 := by
  unfold Ve
  rw [opsC_row0, Vd_of_ne m Rt d main_v1_5 (by decide), Vc_items]
theorem Ve_row1 (d : Dev nD) : Ve m Rt d (r' main_v31)
    = shapeCast S15 (extractStridedSlice S1x15 ![1, 0] (R.out7 (xs m d) (rwt m d)) slices_S4x15_S1x15_1_0) shapeCasts_S1x15_S15 := by
  unfold Ve
  rw [opsC_row1, Vd_of_ne m Rt d main_v1_5 (by decide), Vc_items]
theorem Ve_row2 (d : Dev nD) : Ve m Rt d (r' main_v33)
    = shapeCast S15 (extractStridedSlice S1x15 ![2, 0] (R.out7 (xs m d) (rwt m d)) slices_S4x15_S1x15_2_0) shapeCasts_S1x15_S15 := by
  unfold Ve
  rw [opsC_row2, Vd_of_ne m Rt d main_v1_5 (by decide), Vc_items]
theorem Ve_row3 (d : Dev nD) : Ve m Rt d (r' main_v35)
    = shapeCast S15 (extractStridedSlice S1x15 ![3, 0] (R.out7 (xs m d) (rwt m d)) slices_S4x15_S1x15_3_0) shapeCasts_S1x15_S15 := by
  unfold Ve
  rw [opsC_row3, Vd_of_ne m Rt d main_v1_5 (by decide), Vc_items]
theorem Ve_wts (d : Dev nD) : Ve m Rt d (r' main_v1_1) = R.out3 (xs m d) (rwt m d) := by
  unfold Ve
  rw [opsC_main_v1_1, Vd_of_ne m Rt d main_v1_1 (by decide), Vc_wts]
theorem Ve_loss (d : Dev nD) : Ve m Rt d (r' main_v2) = shapeCast S_ (R.out5 (xs m d) (rwt m d)) shapeCasts_S1x1_S_ := by
  unfold Ve
  rw [opsC_main_v2, Vd_of_ne m Rt d main_v2 (by decide), Vc_loss]
theorem Ve_posA (d : Dev nD) : Ve m Rt d (r' main_v4) = posA m d := by
  unfold Ve
  rw [opsC_main_v4, Vd_of_ne m Rt d main_v4 (by decide), Vc_posA]
theorem Ve_posB (d : Dev nD) : Ve m Rt d (r' main_v6) = posB m d := by
  unfold Ve
  rw [opsC_main_v6, Vd_of_ne m Rt d main_v6 (by decide), Vc_posB]
theorem Ve_arg0 (d : Dev nD) : Ve m Rt d (r' main_arg0) = m (d, r' main_arg0) := by
  unfold Ve
  rw [opsC_main_arg0, Vd_of_ne m Rt d main_arg0 (by decide), Vc_arg0]
theorem Ve_arg1 (d : Dev nD) : Ve m Rt d (r' main_arg1) = m (d, r' main_arg1) := by
  unfold Ve
  rw [opsC_main_arg1, Vd_of_ne m Rt d main_arg1 (by decide), Vc_arg1]
theorem Ve_arg2 (d : Dev nD) : Ve m Rt d (r' main_arg2) = m (d, r' main_arg2) := by
  unfold Ve
  rw [opsC_main_arg2, Vd_of_ne m Rt d main_arg2 (by decide), Vc_arg2]
theorem Ve_arg3 (d : Dev nD) : Ve m Rt d (r' main_arg3) = m (d, r' main_arg3) := by
  unfold Ve
  rw [opsC_main_arg3, Vd_of_ne m Rt d main_arg3 (by decide), Vc_arg3]

/-! ## At the gather and the weighted sum -/

/-- The experts' result. -/
def Ys (d : Dev nD) : FVec F S4096x2048 .f32 := (E.dats pf hp (fun d b => Ve m Rt d (r' b)) d).arrAt (3 : Fin 4) (E.cfgA pf hp).N
theorem Vf_of_ne (d : Dev nD) (b : Ref sig .tc) (h : r' b ≠ r' main_v36) : Vf m Rt pf hp d (r' b) = Ve m Rt d (r' b) := by
  unfold Vf
  exact Function.update_of_ne h _ _
theorem Vf_rows (d : Dev nD) : Vf m Rt pf hp d (r' main_v36) = Ys m Rt pf hp d := by
  unfold Vf
  exact Function.update_self _ _ _
theorem Vg_table (d : Dev nD) : Vg m Rt pf hp d (r' main_v38) = shapeCast S32768x2x128 (Ys m Rt pf hp d) shapeCasts_S4096x2048_S32768x2x128 := by
  unfold Vg
  rw [opsD_table, Vf_rows]
theorem Vg_list (d : Dev nD) : Vg m Rt pf hp d (r' main_v47) = Cert.Proof.Comb.expand (Cert.Proof.Comb.both (posA m d) (posB m d)) := by
  unfold Vg
  rw [opsD_list, Vf_of_ne m Rt pf hp d main_v4 (by decide), Vf_of_ne m Rt pf hp d main_v6 (by decide), Ve_posA, Ve_posB]
theorem Vh_of_ne (d : Dev nD) (b : Ref sig .tc) (h : r' b ≠ r' main_v48) : Vh m Rt pf hp d (r' b) = Vg m Rt pf hp d (r' b) := by
  unfold Vh
  exact Function.update_of_ne h _ _
/-- The gathered rows. -/
def Gs (d : Dev nD) : FVec F S4096x2048 .f32 :=
  shapeCast S4096x2048 (G.gath (shapeCast S32768x2x128 (Ys m Rt pf hp d) shapeCasts_S4096x2048_S32768x2x128)
    (Cert.Proof.Comb.expand (Cert.Proof.Comb.both (posA m d) (posB m d)))) shapeCasts_S32768x2x128_S4096x2048
theorem Vi_rows (d : Dev nD) : Vi m Rt pf hp d (r' main_v49) = Gs m Rt pf hp d := by
  unfold Vi Gs
  rw [opsE_rows, ← Vg_table, ← Vg_list m Rt pf hp d]
  unfold Vh
  rw [Function.update_self]
theorem Vj_of_ne (d : Dev nD) (b : Ref sig .tc) (h : r' b ≠ r' main_v50) : Vj m Rt pf hp d (r' b) = Vi m Rt pf hp d (r' b) := by
  unfold Vj
  exact Function.update_of_ne h _ _
theorem Vi_wts (d : Dev nD) : Vi m Rt pf hp d (r' main_v1_1) = R.out3 (xs m d) (rwt m d) := by
  unfold Vi
  rw [opsE_main_v1_1, Vh_of_ne m Rt pf hp d main_v1_1 (by decide)]
  unfold Vg
  rw [opsD_main_v1_1, Vf_of_ne m Rt pf hp d main_v1_1 (by decide), Ve_wts]

/-! ## At the end -/

theorem Vk_out (d : Dev nD) : Vk m Rt pf hp d (r' main_v51)
    = shapeCast S1x2048x2048 (W.wsum (Gs m Rt pf hp d) (R.out3 (xs m d) (rwt m d))) shapeCasts_S2048x2048_S1x2048x2048 := by
  unfold Vk
  rw [opsF_out, ← Vi_rows, ← Vi_wts m Rt pf hp d]
  unfold Vj
  rw [Function.update_self]
theorem Vk_loss (d : Dev nD) : Vk m Rt pf hp d (r' main_v2) = shapeCast S_ (R.out5 (xs m d) (rwt m d)) shapeCasts_S1x1_S_ := by
  unfold Vk
  rw [opsF_main_v2, Vj_of_ne m Rt pf hp d main_v2 (by decide)]
  unfold Vi
  rw [opsE_main_v2, Vh_of_ne m Rt pf hp d main_v2 (by decide)]
  unfold Vg
  rw [opsD_main_v2, Vf_of_ne m Rt pf hp d main_v2 (by decide), Ve_loss]
theorem Vk_arg0 (d : Dev nD) : Vk m Rt pf hp d (r' main_arg0) = m (d, r' main_arg0) := by
  unfold Vk
  rw [opsF_main_arg0, Vj_of_ne m Rt pf hp d main_arg0 (by decide)]
  unfold Vi
  rw [opsE_main_arg0, Vh_of_ne m Rt pf hp d main_arg0 (by decide)]
  unfold Vg
  rw [opsD_main_arg0, Vf_of_ne m Rt pf hp d main_arg0 (by decide), Ve_arg0]
theorem Vk_arg1 (d : Dev nD) : Vk m Rt pf hp d (r' main_arg1) = m (d, r' main_arg1) := by
  unfold Vk
  rw [opsF_main_arg1, Vj_of_ne m Rt pf hp d main_arg1 (by decide)]
  unfold Vi
  rw [opsE_main_arg1, Vh_of_ne m Rt pf hp d main_arg1 (by decide)]
  unfold Vg
  rw [opsD_main_arg1, Vf_of_ne m Rt pf hp d main_arg1 (by decide), Ve_arg1]
theorem Vk_arg2 (d : Dev nD) : Vk m Rt pf hp d (r' main_arg2) = m (d, r' main_arg2) := by
  unfold Vk
  rw [opsF_main_arg2, Vj_of_ne m Rt pf hp d main_arg2 (by decide)]
  unfold Vi
  rw [opsE_main_arg2, Vh_of_ne m Rt pf hp d main_arg2 (by decide)]
  unfold Vg
  rw [opsD_main_arg2, Vf_of_ne m Rt pf hp d main_arg2 (by decide), Ve_arg2]
theorem Vk_arg3 (d : Dev nD) : Vk m Rt pf hp d (r' main_arg3) = m (d, r' main_arg3) := by
  unfold Vk
  rw [opsF_main_arg3, Vj_of_ne m Rt pf hp d main_arg3 (by decide)]
  unfold Vi
  rw [opsE_main_arg3, Vh_of_ne m Rt pf hp d main_arg3 (by decide)]
  unfold Vg
  rw [opsD_main_arg3, Vf_of_ne m Rt pf hp d main_arg3 (by decide), Ve_arg3]

end Cert.Proof.Whole

end
-- ==== Proof.Whole.Pairs.lean ====
/-
  The pairs of an expert and a block of rows: which of them meet, in what order, and how many there are. The sorted rows of
  expert `e` are those from `s e` to `t e`; block `b` holds the rows from `512 b` to `512 (b + 1)`; pair `8 e + b` stands for both.
-/
module

public import Mathlib.Algebra.BigOperators.Fin
public import Mathlib.Data.Fintype.Card
public import Mathlib.Order.Interval.Finset.Nat
public import Mathlib.Data.Fin.VecNotation

@[expose] public section

namespace Cert.Proof.Whole

open scoped BigOperators

/-- A pair's expert and its block. -/
def pe (p : Fin 64) : Fin 8 := ⟨p.val / 8, by omega⟩
def pb (p : Fin 64) : Fin 8 := ⟨p.val % 8, by omega⟩
def pairOf (e b : Fin 8) : Fin 64 := ⟨e.val * 8 + b.val, by omega⟩

theorem pe_pairOf (e b : Fin 8) : pe (pairOf e b) = e := Fin.ext (by show (e.val * 8 + b.val) / 8 = e.val; omega)
theorem pb_pairOf (e b : Fin 8) : pb (pairOf e b) = b := Fin.ext (by show (e.val * 8 + b.val) % 8 = b.val; omega)
theorem pair_ext {p q : Fin 64} (he : pe p = pe q) (hb : pb p = pb q) : p = q := by
  have h1 : p.val / 8 = q.val / 8 := congrArg Fin.val he
  have h2 : p.val % 8 = q.val % 8 := congrArg Fin.val hb
  exact Fin.ext (by omega)

variable (s t : Fin 8 → ℕ)

/-- The expert's rows meet the block. -/
def Meets (p : Fin 64) : Prop := s (pe p) < ((pb p).val + 1) * 512 ∧ (pb p).val * 512 < t (pe p)
instance (p : Fin 64) : Decidable (Meets s t p) := inferInstanceAs (Decidable (_ ∧ _))

/-- Whether it does, as a number; how many earlier pairs do; how many pairs do. -/
def meets (p : Fin 64) : ℕ := if Meets s t p then 1 else 0
def rank (p : Fin 64) : ℕ := ∑ q : Fin 64, meets s t q * if q < p then 1 else 0
def total : ℕ := ∑ q : Fin 64, meets s t q

theorem rank_card (p : Fin 64) : rank s t p = (Finset.univ.filter fun q => Meets s t q ∧ q < p).card := by
  rw [Finset.card_filter]
  refine Finset.sum_congr rfl fun q _ => ?_
  unfold meets
  by_cases h1 : Meets s t q <;> by_cases h2 : q < p <;> simp [h1, h2]

theorem total_card : total s t = (Finset.univ.filter fun q => Meets s t q).card := (Finset.card_filter _ _).symm

theorem rank_lt {p q : Fin 64} (hq : Meets s t q) (h : q < p) : rank s t q < rank s t p := by
  rw [rank_card, rank_card]
  refine Finset.card_lt_card ⟨fun a ha => ?_, fun hs => ?_⟩
  · obtain ⟨h1, h2⟩ := (Finset.mem_filter.mp ha).2
    exact Finset.mem_filter.mpr ⟨Finset.mem_univ _, h1, h2.trans h⟩
  · exact absurd (Finset.mem_filter.mp (hs (Finset.mem_filter.mpr ⟨Finset.mem_univ _, hq, h⟩))).2.2 (lt_irrefl q)

theorem rank_inj {p q : Fin 64} (hp : Meets s t p) (hq : Meets s t q) (h : rank s t p = rank s t q) : p = q := by
  rcases lt_trichotomy p q with hl | he | hl
  · exact absurd h (rank_lt s t hp hl).ne
  · exact he
  · exact absurd h (rank_lt s t hq hl).ne'

theorem rank_lt_total {p : Fin 64} (hp : Meets s t p) : rank s t p < total s t := by
  rw [rank_card, total_card]
  refine Finset.card_lt_card ⟨fun a ha => ?_, fun hs => ?_⟩
  · exact Finset.mem_filter.mpr ⟨Finset.mem_univ _, (Finset.mem_filter.mp ha).2.1⟩
  · exact absurd (Finset.mem_filter.mp (hs (Finset.mem_filter.mpr ⟨Finset.mem_univ _, hp⟩))).2.2 (lt_irrefl p)

variable (hst : ∀ e f : Fin 8, e < f → t e ≤ s f)

include hst in
/-- Along the pairs that meet, expert and block together grow. -/
theorem sum_lt {p q : Fin 64} (hp : Meets s t p) (hq : Meets s t q) (h : q < p) : (pe q).val + (pb q).val < (pe p).val + (pb p).val := by
  have hv : q.val < p.val := h
  have e1 : (pe q).val = q.val / 8 := rfl
  have e2 : (pe p).val = p.val / 8 := rfl
  have b1 : (pb q).val = q.val % 8 := rfl
  have b2 : (pb p).val = p.val % 8 := rfl
  rcases Nat.lt_or_ge (pe q).val (pe p).val with hl | hl
  · have h1 := hst (pe q) (pe p) hl
    have h2 := hp.1
    have h3 := hq.2
    omega
  · omega

include hst in
/-- At most fifteen pairs meet. -/
theorem rank_lt_fifteen {p : Fin 64} (hp : Meets s t p) : rank s t p < 15 := by
  rw [rank_card]
  have h := Finset.card_le_card_of_injOn (s := Finset.univ.filter fun q => Meets s t q ∧ q < p) (t := Finset.range ((pe p).val + (pb p).val))
    (fun q => (pe q).val + (pb q).val)
    (fun q hq => by
      obtain ⟨h1, h2⟩ := (Finset.mem_filter.mp (Finset.mem_coe.mp hq)).2
      exact Finset.mem_coe.mpr (Finset.mem_range.mpr (sum_lt s t hst hp h1 h2)))
    (fun a ha b hb hab => by
      have h1 := (Finset.mem_filter.mp (Finset.mem_coe.mp ha)).2.1
      have h2 := (Finset.mem_filter.mp (Finset.mem_coe.mp hb)).2.1
      have hab' : (pe a).val + (pb a).val = (pe b).val + (pb b).val := hab
      rcases lt_trichotomy a b with hl | he | hl
      · exact absurd hab' (sum_lt s t hst h2 h1 hl).ne
      · exact he
      · exact absurd hab' (sum_lt s t hst h1 h2 hl).ne')
  rw [Finset.card_range] at h
  have := (pe p).isLt
  have := (pb p).isLt
  omega

/-- What item `j` may hold: its pair and the pair's rows within the block; or a pair without rows. -/
def ItemIs (j : ℕ) (E B L H : ℕ) : Prop :=
  E < 8 ∧ B < 8 ∧ L ≤ 512 ∧ H ≤ 512 ∧
    ((∃ p, Meets s t p ∧ rank s t p = j ∧ E = (pe p).val ∧ B = (pb p).val ∧ L = min 512 (s (pe p) - B * 512) ∧ H = min 512 (t (pe p) - B * 512))
      ∨ ((∀ p, ¬(Meets s t p ∧ rank s t p = j)) ∧ H = 0))

/-- Whether item `j` is pair `p`; and whether it is that or, past the last item, a repetition of the last one. -/
def own (p : Fin 64) (j : ℕ) : ℕ := if Meets s t p ∧ rank s t p = j then 1 else 0
def pads (p : Fin 64) (j : ℕ) : ℕ := own s t p j + (if rank s t p + 1 = total s t then meets s t p else 0) * if total s t ≤ j then 1 else 0

/-- A sum that one indicator cuts to a term. -/
theorem sum_only (f g : Fin 64 → ℕ) (p : Fin 64) (h : ∀ q, g q = if q = p then 1 else 0) : ∑ q, f q * g q = f p := by
  rw [Finset.sum_eq_single p (fun q _ hq => by rw [h, if_neg hq, Nat.mul_zero]) (fun hp => (hp (Finset.mem_univ _)).elim), h, if_pos rfl, Nat.mul_one]
theorem sum_no (f g : Fin 64 → ℕ) (h : ∀ q, g q = 0) : ∑ q, f q * g q = 0 :=
  Finset.sum_eq_zero fun q _ => by rw [h, Nat.mul_zero]

/-- The item that the sums give. -/
theorem item_is (j : ℕ) : ItemIs s t j (∑ p, (pe p).val * pads s t p j) (∑ p, (pb p).val * pads s t p j)
    (min 512 (∑ p, s (pe p) * own s t p j - (∑ p, (pb p).val * pads s t p j) * 512))
    (min 512 (∑ p, t (pe p) * own s t p j - (∑ p, (pb p).val * pads s t p j) * 512)) := by
  by_cases h : ∃ p, Meets s t p ∧ rank s t p = j
  · obtain ⟨p, hp, hj⟩ := h
    have ho : ∀ q, own s t q j = if q = p then 1 else 0 := fun q => by
      unfold own
      refine if_congr ⟨fun h => rank_inj s t h.1 hp (h.2.trans hj.symm), fun h => by subst h; exact ⟨hp, hj⟩⟩ rfl rfl
    have hd : ∀ q, pads s t q j = if q = p then 1 else 0 := fun q => by
      unfold pads
      have := rank_lt_total s t hp
      rw [if_neg (show ¬ total s t ≤ j by omega), Nat.mul_zero, Nat.add_zero, ho]
    rw [sum_only (fun p => (pe p).val) _ p hd, sum_only (fun p => (pb p).val) _ p hd, sum_only (fun p => s (pe p)) _ p ho, sum_only (fun p => t (pe p)) _ p ho]
    exact ⟨(pe p).isLt, (pb p).isLt, min_le_left _ _, min_le_left _ _, .inl ⟨p, hp, hj, rfl, rfl, rfl, rfl⟩⟩
  · have ho : ∀ q, own s t q j = 0 := fun q => if_neg fun hq => h ⟨q, hq⟩
    rw [sum_no (fun p => s (pe p)) _ ho, sum_no (fun p => t (pe p)) _ ho]
    refine ⟨?_, ?_, min_le_left _ _, min_le_left _ _, .inr ⟨fun p hp => h ⟨p, hp⟩, by omega⟩⟩
    all_goals
      by_cases h2 : ∃ q, Meets s t q ∧ rank s t q + 1 = total s t ∧ total s t ≤ j
      · obtain ⟨q, hq, h3, h4⟩ := h2
        have hd : ∀ a, pads s t a j = if a = q then 1 else 0 := fun a => by
          unfold pads
          rw [ho, if_pos h4, Nat.mul_one, Nat.zero_add]
          unfold meets
          by_cases ha : a = q
          · subst ha; rw [if_pos h3, if_pos hq, if_pos rfl]
          · rw [if_neg ha]
            by_cases hr : rank s t a + 1 = total s t
            · rw [if_pos hr]
              exact if_neg fun hm => ha (rank_inj s t hm hq (by omega))
            · exact if_neg hr
        first
          | rw [sum_only (fun p => (pe p).val) _ q hd]; exact (pe q).isLt
          | rw [sum_only (fun p => (pb p).val) _ q hd]; exact (pb q).isLt
      · have hd : ∀ a, pads s t a j = 0 := fun a => by
          unfold pads
          rw [ho, Nat.zero_add]
          unfold meets
          by_cases hm : Meets s t a
          · by_cases hr : rank s t a + 1 = total s t
            · rw [if_neg (fun hj => h2 ⟨a, hm, hr, hj⟩), Nat.mul_zero]
            · rw [if_neg hr, Nat.zero_mul]
          · rw [if_neg hm, ite_self, Nat.zero_mul]
        first
          | rw [sum_no (fun p => (pe p).val) _ hd]; omega
          | rw [sum_no (fun p => (pb p).val) _ hd]; omega

variable (E B L H : Fin 15 → ℕ) (hI : ∀ j : Fin 15, ItemIs s t j.val (E j) (B j) (L j) (H j))

include hI in
/-- An item that lists a row is of the expert the row belongs to. -/
theorem lists_expert (j : Fin 15) (r : ℕ) (h : B j = r / 512 ∧ L j ≤ r % 512 ∧ r % 512 < H j) :
    ∃ p, Meets s t p ∧ rank s t p = j.val ∧ E j = (pe p).val ∧ B j = (pb p).val ∧ s (pe p) ≤ r ∧ r < t (pe p) := by
  obtain ⟨-, -, -, -, ⟨p, h1, h2, h3, h4, h5, h6⟩ | ⟨-, h0⟩⟩ := hI j
  · refine ⟨p, h1, h2, h3, h4, ?_, ?_⟩ <;> omega
  · omega

include hst hI in
/-- A sum over the items that list a row is the term of the row's expert. -/
theorem sum_listed {M : Type*} [AddCommMonoid M] (f : ℕ → M) (e : Fin 8) (r : ℕ) (hr : r < 4096) (hs : s e ≤ r) (ht : r < t e) :
    (∑ j : Fin 15, if B j = r / 512 ∧ L j ≤ r % 512 ∧ r % 512 < H j then f (E j) else 0) = f e.val := by
  have hm : Meets s t (pairOf e ⟨r / 512, by omega⟩) := by
    unfold Meets
    rw [pe_pairOf, pb_pairOf]
    constructor <;> show _ < _ <;> dsimp only <;> omega
  have uniq : ∀ e' : Fin 8, s e' ≤ r → r < t e' → e' = e := fun e' h1 h2 => by
    rcases lt_trichotomy e' e with hl | he | hl
    · have := hst _ _ hl; omega
    · exact he
    · have := hst _ _ hl; omega
  have hk := rank_lt_fifteen s t hst hm
  rw [Finset.sum_eq_single (⟨rank s t (pairOf e ⟨r / 512, by omega⟩), hk⟩ : Fin 15)]
  · obtain ⟨-, -, -, -, ⟨p, h1, h2, h3, h4, h5, h6⟩ | ⟨h0, -⟩⟩ := hI ⟨rank s t (pairOf e ⟨r / 512, by omega⟩), hk⟩
    · have hp := rank_inj s t h1 hm h2
      subst hp
      rw [pe_pairOf] at h3 h5 h6
      rw [pb_pairOf] at h4
      have h4' : B ⟨rank s t (pairOf e ⟨r / 512, by omega⟩), hk⟩ = r / 512 := h4
      rw [if_pos ⟨h4', by omega, by omega⟩, h3]
    · exact absurd ⟨hm, rfl⟩ (h0 _)
  · intro j _ hj
    refine if_neg fun h => hj ?_
    obtain ⟨p, h1, h2, -, h4, h5, h6⟩ := lists_expert s t E B L H hI j r h
    have hp : p = pairOf e ⟨r / 512, by omega⟩ := pair_ext (by rw [pe_pairOf]; exact uniq _ h5 h6)
      (by rw [pb_pairOf]; exact Fin.ext (h4.symm.trans h.1))
    exact Fin.ext (by rw [← h2, hp])
  · intro h; exact absurd (Finset.mem_univ _) h

end Cert.Proof.Whole
-- ==== Proof.Whole.Items.lean ====
/-
  The work list of the router over the reals: every quantity in it is a natural number, and item by item it is the list of the
  pairs of an expert and a block that meet.
-/
module

public import proofs.«01_k».proof.Proof.Whole.Pairs
public import proofs.«01_k».proof.Proof.Whole.RBody
public import proofs.«01_k».proof.Proof.Rout.Place

@[expose] public section

noncomputable section

namespace Cert.Proof.Whole.R

open scoped BigOperators
open Cert.MoeIdeal Cert.MoeIdeal.Gen
open Idealize.ShloMosaic
open Cert.Proof.Rout (cast_sum word_of_nat select_less)

theorem int_of (a : ℕ) (h : a < 64) : (((BitVec.ofNat 32 a).toInt : ℝ) : EReal) = ((a : ℕ) : EReal) := by
  have : (BitVec.ofNat 32 a).toInt = (a : ℤ) := by rw [BitVec.toInt_eq_toNat_cond, BitVec.toNat_ofNat]; omega
  rw [this]
  simp

/-- A choice on the order of two numbers. -/
theorem select_ofBool (b : Bool) (u v : EReal) : Scalar.select (BitVec.ofBool b) u v = if b then u else v := by cases b <;> rfl

theorem five12 : Ideal.ofBits .f32 0x44000000#32 = ((512 : ℕ) : EReal) := by
  have : Ideal.ofBits .f32 0x44000000#32 = ((512 : ℝ) : EReal) := by
    simp [Ideal.ofBits, Ideal.ieee, -EReal.coe_mul]; norm_num
  rw [this, ← EReal.coe_natCast]; norm_num

theorem half : Ideal.ofBits .f32 0x3F000000#32 = ((1 / 2 : ℝ) : EReal) := by
  simp [Ideal.ofBits, Ideal.ieee, -EReal.coe_mul]; norm_num

theorem andi_ofBool (a b : Bool) : IntOp.andi (BitVec.ofBool a) (BitVec.ofBool b) = BitVec.ofBool (a && b) := by cases a <;> cases b <;> rfl

theorem cast_lt (a b : ℕ) : ((a : ℕ) : EReal) < ((b : ℕ) : EReal) ↔ a < b := Nat.cast_lt

theorem cast_ite (P : Prop) [Decidable P] : (if P then (1 : EReal) else 0) = (((if P then 1 else 0 : ℕ)) : EReal) := by split <;> simp

/-- The one term of a sum that a choice keeps. -/
theorem kept {n : ℕ} (f : Fin n → ℕ) (k : Fin n) : ∑ e : Fin n, ((f e : ℕ) : EReal) * (((if e = k then 1 else 0 : ℕ)) : EReal) = ((f k : ℕ) : EReal) := by
  rw [Finset.sum_eq_single k (fun e _ h => by rw [if_neg h, Nat.cast_zero, mul_zero]) (fun h => (h (Finset.mem_univ _)).elim), if_pos rfl, Nat.cast_one, mul_one]

theorem cast_eq_iff (a b : ℕ) : ((a : ℕ) : EReal) = ((b : ℕ) : EReal) ↔ a = b := Nat.cast_inj

/-! ## The numbers of the pairs -/

theorem blks_apply (p : Fin 64) : (blks (F := Ideal) : S1x64.Idx → EReal) (ix2 0 p) = (((pb p).val : ℕ) : EReal) := by
  unfold blks k0_pay19
  pointwise
  rw [← int_of _ (by omega)]
  refine congrArg (fun z : BitVec 32 => ((z.toInt : ℝ) : EReal)) ?_
  revert p
  decide +kernel

theorem exps_apply (p : Fin 64) : (exps (F := Ideal) : S1x64.Idx → EReal) (ix2 0 p) = (((pe p).val : ℕ) : EReal) := by
  unfold exps k0_pay21 k0_pay20
  pointwise
  rw [← int_of _ (by omega)]
  refine congrArg (fun z : BitVec 32 => ((z.toInt : ℝ) : EReal)) ?_
  revert p
  decide +kernel

theorem one_hot (a : Fin 8) (p : Fin 64) :
    (k0_pay24 (F := Ideal) e64 k0_pay22 k0_pay23 1#32 : S8x64.Idx → EReal) (ix2 a p) = (((if a = pe p then 1 else 0 : ℕ)) : EReal) := by
  unfold k0_pay24 k0_pay22 k0_pay23
  pointwise
  rw [← cast_ite, show (if a = pe p then (1 : EReal) else 0) = if decide (a = pe p) then 1 else 0 by simp, ← select_ofBool]
  refine congrArg (fun z : BitVec 1 => Scalar.select z (1 : EReal) 0) ?_
  revert a p
  decide +kernel

variable (begs ends : FVec Ideal S1x8 .f32) (s t : Fin 8 → ℕ) (hb : ∀ e, (begs : S1x8.Idx → EReal) (ix2 0 e) = ((s e : ℕ) : EReal))
  (he : ∀ e, (ends : S1x8.Idx → EReal) (ix2 0 e) = ((t e : ℕ) : EReal))

include hb in
theorem pair_beg (p : Fin 64) : (k0_pay25 (F := Ideal) begs e64 k0_pay22 k0_pay23 1#32 : S1x64.Idx → EReal) (ix2 0 p) = ((s (pe p) : ℕ) : EReal) := by
  unfold k0_pay25
  pointwise [hb, one_hot]
  exact kept s (pe p)

include he in
theorem pair_end (p : Fin 64) : (k0_pay26 (F := Ideal) ends e64 k0_pay22 k0_pay23 1#32 : S1x64.Idx → EReal) (ix2 0 p) = ((t (pe p) : ℕ) : EReal) := by
  unfold k0_pay26
  pointwise [he, one_hot]
  exact kept t (pe p)

include hb he in
theorem pair_meets (p : Fin 64) : (k0_pay27 (F := Ideal) begs ends (blks (F := Ideal)) e64 k0_pay22 k0_pay23 1#32 : S1x64.Idx → EReal) (ix2 0 p) = ((meets s t p : ℕ) : EReal) := by
  unfold k0_pay27
  pointwise [pair_beg begs s hb, pair_end ends t he, blks_apply]
  have h1 : ((((pb p).val : ℕ) : EReal) + 1) * ((512 : ℕ) : EReal) = ((((pb p).val + 1) * 512 : ℕ) : EReal) := by
    rw [EReal.natCast_mul, Nat.cast_add, Nat.cast_one]
  have h2 : (((pb p).val : ℕ) : EReal) * ((512 : ℕ) : EReal) = (((pb p).val * 512 : ℕ) : EReal) := (EReal.natCast_mul _ _).symm
  rw [five12, h1, h2, andi_ofBool, select_ofBool, cast_ite]
  unfold meets Meets
  simp only [cast_lt, Bool.and_eq_true, decide_eq_true_eq]
  exact congrArg (fun a : ℕ => (a : EReal)) (if_congr Iff.rfl rfl rfl)

include hb he in
theorem pair_rank (p : Fin 64) : (k0_pay28 (F := Ideal) begs ends (blks (F := Ideal)) e64 k0_pay22 k0_pay23 1#32 : S1x64.Idx → EReal) (ix2 0 p) = ((rank s t p : ℕ) : EReal) := by
  unfold k0_pay28
  pointwise [pair_meets begs ends s t hb he]
  unfold rank
  rw [cast_sum]
  refine Finset.sum_congr rfl fun q _ => ?_
  rw [select_less _ _ (by omega) (by omega), EReal.natCast_mul]
  simp only [Fin.lt_def]
  split <;> simp

include hb he in
theorem pair_total (i : S1.Idx) : (k0_pay30 (F := Ideal) begs ends (blks (F := Ideal)) e64 k0_pay22 k0_pay23 1#32 : S1.Idx → EReal) i = ((total s t : ℕ) : EReal) := by
  unfold k0_pay30
  pointwise [pair_meets begs ends s t hb he]
  exact (cast_sum _ _).symm

include hb he in
theorem pair_item (p : Fin 64) (j : Fin 15) : (k0_pay29 (F := Ideal) begs ends (blks (F := Ideal)) e64 k0_pay22 k0_pay23 1#32 : S64x15.Idx → EReal) (ix2 p j)
    = (((if Meets s t p ∧ rank s t p = j.val then 1 else 0 : ℕ)) : EReal) := by
  have hm (z : Fin 1) (p : Fin 64) := (congrArg (fun z : Fin 1 => (k0_pay27 (F := Ideal) begs ends (blks (F := Ideal)) e64 k0_pay22 k0_pay23 1#32 : S1x64.Idx → EReal) (ix2 z p))
    (Subsingleton.elim z 0)).trans (pair_meets begs ends s t hb he p)
  have hr (z : Fin 1) (p : Fin 64) := (congrArg (fun z : Fin 1 => (k0_pay28 (F := Ideal) begs ends (blks (F := Ideal)) e64 k0_pay22 k0_pay23 1#32 : S1x64.Idx → EReal) (ix2 z p))
    (Subsingleton.elim z 0)).trans (pair_rank begs ends s t hb he p)
  unfold k0_pay29
  pointwise [hm, hr]
  have hs : (FloatOps.sitofp (F := Ideal) FTy.f32 (BitVec.ofNat 32 j.val) : EReal) = ((j.val : ℕ) : EReal) := int_of _ (by omega)
  rw [Fin.sum_univ_one, Fin.sum_univ_one, hs, half, andi_ofBool, select_ofBool, cast_ite]
  refine congrArg (fun a : ℕ => (a : EReal)) (if_congr ?_ rfl rfl)
  rw [Bool.and_eq_true, decide_eq_true_eq, decide_eq_true_eq, cast_eq_iff, and_comm]
  refine and_congr ?_ Iff.rfl
  unfold meets
  by_cases hp : Meets s t p
  · rw [if_pos hp]
    refine iff_of_true ?_ hp
    rw [Nat.cast_one, ← EReal.coe_one, EReal.coe_lt_coe_iff]; norm_num
  · rw [if_neg hp]
    refine iff_of_false ?_ hp
    rw [Nat.cast_zero, ← EReal.coe_zero, EReal.coe_lt_coe_iff]; norm_num

/-! ## The rows of the list -/

theorem pred_iff (a n : ℕ) : ((a : ℕ) : EReal) = ((n : ℕ) : EReal) - 1 ↔ a + 1 = n := by
  rw [← EReal.coe_natCast, ← EReal.coe_natCast, ← EReal.coe_one, ← EReal.coe_sub, EReal.coe_eq_coe_iff, eq_sub_iff_add_eq]
  exact_mod_cast Iff.rfl

theorem clip (a b : ℕ) : min ((512 : ℕ) : EReal) (max 0 (((a : ℕ) : EReal) - ((b : ℕ) : EReal))) = ((min 512 (a - b) : ℕ) : EReal) := by
  have h : max 0 (((a : ℕ) : EReal) - ((b : ℕ) : EReal)) = ((a - b : ℕ) : EReal) := by
    rw [← EReal.coe_natCast, ← EReal.coe_natCast, ← EReal.coe_natCast, ← EReal.coe_sub]
    rcases le_total b a with h | h
    · rw [Nat.cast_sub h]
      exact max_eq_right (by rw [← EReal.coe_zero, EReal.coe_le_coe_iff]; have : (b : ℝ) ≤ a := by exact_mod_cast h
                             linarith)
    · rw [Nat.sub_eq_zero_of_le h, Nat.cast_zero]
      exact max_eq_left (by rw [← EReal.coe_zero, EReal.coe_le_coe_iff]; have : (a : ℝ) ≤ b := by exact_mod_cast h
                            linarith)
  rw [h]
  rcases le_total 512 (a - b) with h | h
  · rw [min_eq_left h, min_eq_left (Nat.cast_le.mpr h)]
  · rw [min_eq_right h, min_eq_right (Nat.cast_le.mpr h)]

theorem cast_sum_mul {n : ℕ} (f g : Fin n → ℕ) : ∑ x : Fin n, ((f x : ℕ) : EReal) * ((g x : ℕ) : EReal) = ((∑ x, f x * g x : ℕ) : EReal) := by
  rw [cast_sum]
  exact Finset.sum_congr rfl fun x _ => (EReal.natCast_mul _ _).symm

section Rows
variable (v176 v177 v189 v196 : FVec Ideal S1x64 .f32) (v208 : FVec Ideal S64x15 .f32) (v209 : FVec Ideal S1 .f32)
  (h176 : ∀ p, (v176 : S1x64.Idx → EReal) (ix2 0 p) = ((s (pe p) : ℕ) : EReal)) (h177 : ∀ p, (v177 : S1x64.Idx → EReal) (ix2 0 p) = ((t (pe p) : ℕ) : EReal))
  (h189 : ∀ p, (v189 : S1x64.Idx → EReal) (ix2 0 p) = ((meets s t p : ℕ) : EReal)) (h196 : ∀ p, (v196 : S1x64.Idx → EReal) (ix2 0 p) = ((rank s t p : ℕ) : EReal))
  (h208 : ∀ p (j : Fin 15), (v208 : S64x15.Idx → EReal) (ix2 p j) = ((own s t p j.val : ℕ) : EReal)) (h209 : ∀ i, (v209 : S1.Idx → EReal) i = ((total s t : ℕ) : EReal))

/-- An entry of the padded table. -/
theorem pad_entry (x : Fin 64) (j : Fin 15) : ((own s t x j.val : ℕ) : EReal) + ∑ _z : Fin 1, (if ((rank s t x : ℕ) : EReal) = ((total s t : ℕ) : EReal) - 1 then ((meets s t x : ℕ) : EReal) else 0)
      * (if ((total s t : ℕ) : EReal) ≤ (FloatOps.sitofp (F := Ideal) FTy.f32 (BitVec.ofNat 32 j.val) : EReal) then 1 else 0) = ((pads s t x j.val : ℕ) : EReal) := by
  have hs : (FloatOps.sitofp (F := Ideal) FTy.f32 (BitVec.ofNat 32 j.val) : EReal) = ((j.val : ℕ) : EReal) := int_of _ (by omega)
  rw [Fin.sum_univ_one, hs]
  unfold pads
  rw [Nat.cast_add, EReal.natCast_mul]
  refine congrArg₂ (· + ·) rfl (congrArg₂ (· * ·) ?_ ?_)
  · by_cases h : rank s t x + 1 = total s t
    · rw [if_pos h, if_pos ((pred_iff _ _).mpr h)]
    · rw [if_neg h, if_neg fun h' => h ((pred_iff _ _).mp h'), Nat.cast_zero]
  · by_cases h : total s t ≤ j.val
    · rw [if_pos h, if_pos (Nat.cast_le.mpr h), Nat.cast_one]
    · rw [if_neg h, if_neg fun h' => h (Nat.cast_le.mp h'), Nat.cast_zero]

include h176 h177 h189 h196 h208 h209 in
theorem row0 (j : Fin 15) : (k0_pay31 (F := Ideal) blks exps v176 v177 v189 v196 v208 v209 : S4x15.Idx → BitVec 32) (ix2 0 j)
    = BitVec.ofNat 32 (∑ p, (pe p).val * pads s t p j.val) := by
  have hm (z : Fin 1) (p : Fin 64) := (congrArg (fun z : Fin 1 => (v189 : S1x64.Idx → EReal) (ix2 z p)) (Subsingleton.elim z 0)).trans (h189 p)
  have hr (z : Fin 1) (p : Fin 64) := (congrArg (fun z : Fin 1 => (v196 : S1x64.Idx → EReal) (ix2 z p)) (Subsingleton.elim z 0)).trans (h196 p)
  have hi := item_is s t j.val
  unfold k0_pay31
  pointwise [h176, h177, hm, hr, h208, h209, exps_apply, blks_apply]
  simp only [pad_entry, cast_sum_mul, five12]
  exact word_of_nat _ (by have := hi.1; omega)
include h176 h177 h189 h196 h208 h209 in
theorem row1 (j : Fin 15) : (k0_pay31 (F := Ideal) blks exps v176 v177 v189 v196 v208 v209 : S4x15.Idx → BitVec 32) (ix2 1 j)
    = BitVec.ofNat 32 (∑ p, (pb p).val * pads s t p j.val) := by
  have hm (z : Fin 1) (p : Fin 64) := (congrArg (fun z : Fin 1 => (v189 : S1x64.Idx → EReal) (ix2 z p)) (Subsingleton.elim z 0)).trans (h189 p)
  have hr (z : Fin 1) (p : Fin 64) := (congrArg (fun z : Fin 1 => (v196 : S1x64.Idx → EReal) (ix2 z p)) (Subsingleton.elim z 0)).trans (h196 p)
  have hi := item_is s t j.val
  unfold k0_pay31
  pointwise [h176, h177, hm, hr, h208, h209, exps_apply, blks_apply]
  simp only [pad_entry, cast_sum_mul, five12]
  exact word_of_nat _ (by have := hi.2.1; omega)
include h176 h177 h189 h196 h208 h209 in
theorem row2 (j : Fin 15) : (k0_pay31 (F := Ideal) blks exps v176 v177 v189 v196 v208 v209 : S4x15.Idx → BitVec 32) (ix2 2 j)
    = BitVec.ofNat 32 (min 512 (∑ p, s (pe p) * own s t p j.val - (∑ p, (pb p).val * pads s t p j.val) * 512)) := by
  have hm (z : Fin 1) (p : Fin 64) := (congrArg (fun z : Fin 1 => (v189 : S1x64.Idx → EReal) (ix2 z p)) (Subsingleton.elim z 0)).trans (h189 p)
  have hr (z : Fin 1) (p : Fin 64) := (congrArg (fun z : Fin 1 => (v196 : S1x64.Idx → EReal) (ix2 z p)) (Subsingleton.elim z 0)).trans (h196 p)
  have hi := item_is s t j.val
  unfold k0_pay31
  pointwise [h176, h177, hm, hr, h208, h209, exps_apply, blks_apply]
  simp only [pad_entry, cast_sum_mul, five12]
  rw [← EReal.natCast_mul, clip]
  exact word_of_nat _ (le_trans (min_le_left _ _) (by norm_num))
include h176 h177 h189 h196 h208 h209 in
theorem row3 (j : Fin 15) : (k0_pay31 (F := Ideal) blks exps v176 v177 v189 v196 v208 v209 : S4x15.Idx → BitVec 32) (ix2 3 j)
    = BitVec.ofNat 32 (min 512 (∑ p, t (pe p) * own s t p j.val - (∑ p, (pb p).val * pads s t p j.val) * 512)) := by
  have hm (z : Fin 1) (p : Fin 64) := (congrArg (fun z : Fin 1 => (v189 : S1x64.Idx → EReal) (ix2 z p)) (Subsingleton.elim z 0)).trans (h189 p)
  have hr (z : Fin 1) (p : Fin 64) := (congrArg (fun z : Fin 1 => (v196 : S1x64.Idx → EReal) (ix2 z p)) (Subsingleton.elim z 0)).trans (h196 p)
  have hi := item_is s t j.val
  unfold k0_pay31
  pointwise [h176, h177, hm, hr, h208, h209, exps_apply, blks_apply]
  simp only [pad_entry, cast_sum_mul, five12]
  rw [← EReal.natCast_mul, clip]
  exact word_of_nat _ (le_trans (min_le_left _ _) (by norm_num))
end Rows

end Cert.Proof.Whole.R
-- ==== Proof.Whole.RSame.lean ====
/-
  The router within the joined program leaves what the router alone leaves: its results over the reals.
-/
module

public import proofs.«01_k».proof.Proof.Whole.Items

@[expose] public section

noncomputable section

namespace Cert.Proof.Whole.R

open scoped BigOperators
open Cert.MoeIdeal Cert.MoeIdeal.Gen
open Idealize.ShloMosaic
open Cert.Proof.Rout (Tokens Weights AllReal pick startOf hot names cast_sum hot_names kernel_counts kernel_start)

section Same
variable (x : Tokens) (w : Weights)

theorem same1 : k0_pay1 (F := Ideal) x w = Cert.RouterIdeal.Gen.k0_pay2 (F := Ideal) x w := by
  unfold k0_pay1
  rw [shapeCast_self]
  rfl
theorem same2 : k0_pay2 (F := Ideal) x w = Cert.RouterIdeal.Gen.k0_pay3 (F := Ideal) x w := by unfold k0_pay2; rw [same1]; rfl
theorem same3 : k0_pay3 (F := Ideal) x w = Cert.RouterIdeal.Gen.k0_pay4 (F := Ideal) x w := by unfold k0_pay3; rw [same1, same2]; rfl
theorem same4 : k0_pay4 (F := Ideal) x w = Cert.RouterIdeal.Gen.k0_pay5 (F := Ideal) x w := by unfold k0_pay4; rw [same1, same3]; rfl
theorem same5 : k0_pay5 (F := Ideal) x w = Cert.RouterIdeal.Gen.k0_pay6 (F := Ideal) x w := by unfold k0_pay5; rw [same4]; rfl
theorem same6 : k0_pay6 (F := Ideal) x w = Cert.RouterIdeal.Gen.k0_pay7 (F := Ideal) x w := by unfold k0_pay6; rw [same4, same5]; rfl

theorem r31 : Cert.RouterIdeal.Gen.k0_pay31 (F := Ideal) x w = ex := by rfl
theorem r32 : Cert.RouterIdeal.Gen.k0_pay32 (F := Ideal) x w = e1 (F := Ideal) x w := by
  unfold Cert.RouterIdeal.Gen.k0_pay32 e1
  rw [show View.ld (Val := Elt Ideal) (e' := .f32) x Cert.RouterIdeal.Gen.r0_0 = x from View.ld_unit_zero (Val := Elt Ideal) (e := .f32) (S := S2048x2048) Cert.RouterIdeal.Value.hz0 _ x,
    show View.ld (Val := Elt Ideal) (e' := .f32) w Cert.RouterIdeal.Gen.r0_1 = w from View.ld_unit_zero (Val := Elt Ideal) (e := .f32) (S := S8x2048) Cert.RouterIdeal.Value.hz1 _ w, same3]
theorem r33 : Cert.RouterIdeal.Gen.k0_pay33 (F := Ideal) x w = e2 (F := Ideal) x w := by
  unfold Cert.RouterIdeal.Gen.k0_pay33 e2
  rw [show View.ld (Val := Elt Ideal) (e' := .f32) x Cert.RouterIdeal.Gen.r0_0 = x from View.ld_unit_zero (Val := Elt Ideal) (e := .f32) (S := S2048x2048) Cert.RouterIdeal.Value.hz0 _ x,
    show View.ld (Val := Elt Ideal) (e' := .f32) w Cert.RouterIdeal.Gen.r0_1 = w from View.ld_unit_zero (Val := Elt Ideal) (e := .f32) (S := S8x2048) Cert.RouterIdeal.Value.hz1 _ w, same6]

theorem out3_eq : out3 (F := Ideal) x w = Cert.RouterIdeal.Value.G3 (F := Ideal) x w := by
  unfold out3 k0_pay8
  rw [same2, same5]
  rfl
theorem out4_eq : out4 (F := Ideal) x w = Cert.RouterIdeal.Value.G4 (F := Ideal) x w := by
  unfold Cert.RouterIdeal.Value.G4
  rw [r31, r32, r33]
  rfl
theorem out5_eq : out5 (F := Ideal) x w = Cert.RouterIdeal.Value.G5 (F := Ideal) x w := by
  unfold Cert.RouterIdeal.Value.G5
  rw [r31, r32, r33, ← same1]
  rfl
theorem r34 : Cert.RouterIdeal.Gen.k0_pay34 (F := Ideal) x w = out4 (F := Ideal) x w := (out4_eq x w).symm
theorem r35 : Cert.RouterIdeal.Gen.k0_pay35 (F := Ideal) x w = select k0_pay13 (k0_pay14 (F := Ideal)) (k0_pay15 (F := Ideal)) := by rfl
theorem out6_eq : out6 (F := Ideal) x w = Cert.RouterIdeal.Value.G6 (F := Ideal) x w := by
  unfold Cert.RouterIdeal.Value.G6
  rw [r31, r32, r33, r34]
  rfl
theorem begs_eq : begs (F := Ideal) x w = Cert.RouterIdeal.Gen.k0_pay15 (F := Ideal) (Cert.RouterIdeal.Gen.k0_pay34 (F := Ideal) x w) (Cert.RouterIdeal.Gen.k0_pay35 (F := Ideal) x w) := by
  rw [r34]
  rfl
end Same

variable {x : Tokens} {w : Weights} (hx : AllReal x) (hw : AllReal w)

/-- The number of choices of an expert. -/
def cnt (p : Fin 2048 → Fin 2 → Fin 8) (e : Fin 8) : ℕ := ∑ n : Fin 2048, names (p n) e

include hx hw in
theorem begs_apply (e : Fin 8) : (begs (F := Ideal) x w : S1x8.Idx → EReal) (ix2 0 e) = ((startOf (pick x w) e : ℕ) : EReal) := by
  rw [begs_eq]; exact kernel_start hx hw e

include hx hw in
theorem ends_apply (e : Fin 8) : (ends (F := Ideal) x w : S1x8.Idx → EReal) (ix2 0 e) = ((startOf (pick x w) e + cnt (pick x w) e : ℕ) : EReal) := by
  have h : (out4 (F := Ideal) x w : S1x8.Idx → EReal) (ix2 0 e) = ((cnt (pick x w) e : ℕ) : EReal) := by
    rw [out4_eq]
    refine (kernel_counts hx hw e).trans ?_
    unfold cnt
    rw [cast_sum]
    exact Finset.sum_congr rfl fun n _ => hot_names x w n e
  rw [Nat.cast_add, ← begs_apply hx hw, ← h]
  rfl

/-- The list's entries, as numbers. -/
def rowE (p : Fin 2048 → Fin 2 → Fin 8) (j : Fin 15) : ℕ := ∑ q, (pe q).val * pads (startOf p) (fun e => startOf p e + cnt p e) q j.val
def rowB (p : Fin 2048 → Fin 2 → Fin 8) (j : Fin 15) : ℕ := ∑ q, (pb q).val * pads (startOf p) (fun e => startOf p e + cnt p e) q j.val
def rowL (p : Fin 2048 → Fin 2 → Fin 8) (j : Fin 15) : ℕ :=
  min 512 (∑ q, startOf p (pe q) * own (startOf p) (fun e => startOf p e + cnt p e) q j.val - rowB p j * 512)
def rowH (p : Fin 2048 → Fin 2 → Fin 8) (j : Fin 15) : ℕ :=
  min 512 (∑ q, (startOf p (pe q) + cnt p (pe q)) * own (startOf p) (fun e => startOf p e + cnt p e) q j.val - rowB p j * 512)

theorem items_are (p : Fin 2048 → Fin 2 → Fin 8) (j : Fin 15) :
    ItemIs (startOf p) (fun e => startOf p e + cnt p e) j.val (rowE p j) (rowB p j) (rowL p j) (rowH p j) := item_is _ _ j.val

include hx hw in
theorem list_apply (j : Fin 15) :
    (out7 (F := Ideal) x w : S4x15.Idx → BitVec 32) (ix2 0 j) = BitVec.ofNat 32 (rowE (pick x w) j)
      ∧ (out7 (F := Ideal) x w : S4x15.Idx → BitVec 32) (ix2 1 j) = BitVec.ofNat 32 (rowB (pick x w) j)
      ∧ (out7 (F := Ideal) x w : S4x15.Idx → BitVec 32) (ix2 2 j) = BitVec.ofNat 32 (rowL (pick x w) j)
      ∧ (out7 (F := Ideal) x w : S4x15.Idx → BitVec 32) (ix2 3 j) = BitVec.ofNat 32 (rowH (pick x w) j) := by
  have hb := begs_apply hx hw
  have he := ends_apply hx hw
  let s : Fin 8 → ℕ := startOf (pick x w)
  let t : Fin 8 → ℕ := fun e => startOf (pick x w) e + cnt (pick x w) e
  have a1 := pair_beg (begs (F := Ideal) x w) s hb
  have a2 := pair_end (ends (F := Ideal) x w) t he
  have a3 := pair_meets (begs (F := Ideal) x w) (ends (F := Ideal) x w) s t hb he
  have a4 := pair_rank (begs (F := Ideal) x w) (ends (F := Ideal) x w) s t hb he
  have a5 := pair_item (begs (F := Ideal) x w) (ends (F := Ideal) x w) s t hb he
  have a6 := pair_total (begs (F := Ideal) x w) (ends (F := Ideal) x w) s t hb he
  unfold out7
  exact ⟨row0 s t _ _ _ _ _ _ a1 a2 a3 a4 a5 a6 j, row1 s t _ _ _ _ _ _ a1 a2 a3 a4 a5 a6 j,
    row2 s t _ _ _ _ _ _ a1 a2 a3 a4 a5 a6 j, row3 s t _ _ _ _ _ _ a1 a2 a3 a4 a5 a6 j⟩

end Cert.Proof.Whole.R
-- ==== Proof.Whole.Places.lean ====
/-
  The positions as a permutation: the sort of the copies by expert brings to a copy's position that copy, and a position
  lies among the positions of its expert.
-/
module

public import proofs.«01_k».proof.Proof.Whole.RSame
public import proofs.«01_k».proof.Proof.Scat.Value
public import proofs.«01_k».proof.Proof.Whole.STile

@[expose] public section

noncomputable section

namespace Cert.Proof.Whole.R

open scoped BigOperators
open Idealize.ShloMosaic
open Cert.Proof.Rout (startOf earlier names copies copy copies_copy Before before_count)

variable (p : Fin 2048 → Fin 2 → Fin 8)

/-- The choices as words. -/
def words : IVec (⟨2, ![2048, 2]⟩ : Shape) 32 := fun i => BitVec.ofNat 32 (p (i 0) (i 1)).val

/-- The copy at place `r` of the order by expert. -/
def src : Fin 4096 → Fin 4096 := Cert.Proof.Scat.source (Cert.Proof.Scat.experts (words p))

/-- The position of token `n`'s copy in slot `k`. -/
def place (n : Fin 2048) (k : Fin 2) : ℕ := startOf p (p n k) + earlier p n (p n k)

theorem experts_apply (a : Fin 4096) : Cert.Proof.Scat.experts (words p) (Cert.Proof.Scat.one4 a) = BitVec.ofNat 32 (copies p a).val := by
  unfold Cert.Proof.Scat.experts
  rw [shapeCast_apply _ _ (Cert.Proof.Scat.one4 a) (ix2 (n0 := 2048) (n1 := 2) ⟨a.val / 2, by omega⟩ ⟨a.val % 2, by omega⟩) (by
    rw [Shape.rowMajor_val_two, Shape.rowMajor_val_one]
    show a.val / 2 * 2 + a.val % 2 = a.val
    omega)]
  rfl

variable {p} (hp : ∀ n, p n 1 ≠ p n 0)

include hp in
theorem place_src (n : Fin 2048) (k : Fin 2) (r : Fin 4096) (h : src p r = copy n k) : place p n k = r.val := by
  have h1 := Cert.Proof.Rout.source_place (k := Cert.Proof.Scat.experts (words p)) (e := copies p) (experts_apply p) r
  unfold src at h
  rw [h, before_count hp] at h1
  exact h1

include hp in
theorem place_iff (n : Fin 2048) (k : Fin 2) (r : Fin 4096) : place p n k = r.val ↔ src p r = copy n k := by
  refine ⟨fun h => ?_, place_src hp n k r⟩
  obtain ⟨q, hq⟩ := Cert.Proof.Scat.source_surjective (Cert.Proof.Scat.experts (words p)) (copy n k)
  have h2 := place_src hp n k q hq
  have : r = q := Fin.ext (h.symm.trans h2)
  rw [this]
  exact hq

include hp in
theorem place_lt (n : Fin 2048) (k : Fin 2) : place p n k < 4096 := by
  obtain ⟨q, hq⟩ := Cert.Proof.Scat.source_surjective (Cert.Proof.Scat.experts (words p)) (copy n k)
  rw [place_src hp n k q hq]
  exact q.isLt

theorem place_ge (n : Fin 2048) (k : Fin 2) : startOf p (p n k) ≤ place p n k := Nat.le_add_right _ _

theorem names_own (n : Fin 2048) (k : Fin 2) : names (p n) (p n k) = 1 := by
  unfold names
  refine if_pos ?_
  rcases (Fin.exists_fin_two (p := fun q => q = k)).mp ⟨k, rfl⟩ with rfl | rfl
  · exact Or.inl rfl
  · exact Or.inr rfl

theorem earlier_lt (n : Fin 2048) (k : Fin 2) : earlier p n (p n k) < cnt p (p n k) := by
  unfold earlier cnt
  refine Finset.sum_lt_sum (fun m _ => ?_) ⟨n, Finset.mem_univ n, ?_⟩
  · split
    · rw [one_mul]
    · rw [zero_mul]; exact Nat.zero_le _
  · rw [if_neg (lt_irrefl n), zero_mul, names_own]
    exact Nat.one_pos

theorem place_before (n : Fin 2048) (k : Fin 2) : place p n k < startOf p (p n k) + cnt p (p n k) :=
  Nat.add_lt_add_left (earlier_lt n k) _

/-- An expert's positions end before a greater expert's begin. -/
theorem starts_after (e f : Fin 8) (h : e < f) : startOf p e + cnt p e ≤ startOf p f := by
  have h1 : cnt p e = ∑ a : Fin 8, (∑ n : Fin 2048, names (p n) a) * if a = e then 1 else 0 := by
    simp only [mul_ite, mul_one, mul_zero]
    rw [Finset.sum_ite_eq' Finset.univ e, if_pos (Finset.mem_univ e)]
    rfl
  rw [h1]
  unfold startOf
  rw [← Finset.sum_add_distrib]
  refine Finset.sum_le_sum fun a _ => ?_
  rw [← mul_add]
  refine Nat.mul_le_mul_left _ ?_
  by_cases ha : a < e
  · rw [if_pos ha, if_neg ha.ne, if_pos (ha.trans h)]
  · by_cases hb : a = e
    · rw [if_neg ha, if_pos hb, if_pos (hb ▸ h)]
    · rw [if_neg ha, if_neg hb]
      exact Nat.zero_le _

/-- The copy at a position is of the token there. -/
theorem copy_half (n : Fin 2048) (k : Fin 2) : (copy n k).val / 2 = n.val := by
  show (k.val + 2 * n.val) / 2 = n.val
  omega
theorem copy_slot (n : Fin 2048) (k : Fin 2) : (copy n k).val % 2 = k.val := by
  show (k.val + 2 * n.val) % 2 = k.val
  omega

theorem num1 (P n c r : ℕ) (hc : c < 2) (h : P * 8 + n % 8 = r) : 8 * ((c + 2 * (n / 8)) / 2) + r % 8 = n := by omega
theorem num2 (n c : ℕ) (hc : c < 2) : (c + 2 * (n / 8)) % 2 = 1 ↔ c = 1 := by omega

include hp in
/-- One of the scatter's two lists: every token's positions in one slot, each with its eight pieces. -/
theorem named {F : FTy → Type} (c : Fin 2) (q : IVec Cert.ScatterIdeal.S2048 32)
    (hq : ∀ n, q (Cert.Proof.Scat.one2 n) = BitVec.ofNat 32 (place p n c)) :
    S.Named (F := F) (Cert.Proof.Scat.eighths (F := F) q) (Cert.Proof.Scat.route (words p)) (decide (c.val = 1)) := by
  intro n
  have hlt := place_lt hp ⟨n.val / 8, by omega⟩ c
  have hi (r : Fin 4096) := place_iff hp ⟨n.val / 8, by omega⟩ c r
  have hcp : (copy ⟨n.val / 8, by omega⟩ c).val = c.val + 2 * (n.val / 8) := rfl
  have hv : (Cert.Proof.Scat.eighths (F := F) q (Cert.Proof.Scat.lix n) : BitVec 32).toNat = place p ⟨n.val / 8, by omega⟩ c * 8 + n.val % 8 := by
    refine (congrArg BitVec.toNat ((Cert.Proof.Scat.eighths_apply (F := F) q n).trans (congrArg (fun v => v * 8#32 + BitVec.ofNat 32 (n.val % 8)) (hq ⟨n.val / 8, by omega⟩)))).trans ?_
    rw [BitVec.toNat_add, BitVec.toNat_mul, BitVec.toNat_ofNat, BitVec.toNat_ofNat, BitVec.toNat_ofNat]
    omega
  have hv' : (Cert.Proof.Scat.eighths (F := F) q (S.lix n) : BitVec 32).toNat = place p ⟨n.val / 8, by omega⟩ c * 8 + n.val % 8 := hv
  clear hv
  rw [hv']
  have hcl := c.isLt
  generalize hP : place p ⟨n.val / 8, by omega⟩ c = P at hlt hi ⊢
  clear hv' hP hq
  refine ⟨by omega, fun r => ⟨fun h => ?_, fun h => ?_⟩⟩
  · have h1 := (hi ⟨r.val / 8, by omega⟩).mp (by show P = r.val / 8; clear hi; omega)
    have h2 : (Cert.Proof.Scat.source (Cert.Proof.Scat.experts (words p)) ⟨r.val / 8, by omega⟩).val = c.val + 2 * (n.val / 8) := (congrArg Fin.val h1).trans hcp
    clear hi h1 hcp
    refine Prod.ext (Fin.ext ?_) ?_
    · show 8 * ((Cert.Proof.Scat.source (Cert.Proof.Scat.experts (words p)) ⟨r.val / 8, _⟩).val / 2) + r.val % 8 = n.val
      rw [h2]
      exact num1 P n.val c.val r.val hcl h
    · dsimp only [Cert.Proof.Scat.route]
      rw [h2]
      exact decide_eq_decide.mpr (num2 n.val c.val hcl)
  · have h1 := congrArg (fun q => q.1.val) h
    have h2 := congrArg Prod.snd h
    dsimp only [Cert.Proof.Scat.route] at h1 h2
    have h2 := decide_eq_decide.mp h2
    have h3 : (Cert.Proof.Scat.source (Cert.Proof.Scat.experts (words p)) ⟨r.val / 8, by omega⟩).val = c.val + 2 * (n.val / 8) → P = r.val / 8 :=
      fun h => (hi ⟨r.val / 8, by omega⟩).mpr (Fin.ext (h.trans hcp.symm))
    clear hi hcp h
    generalize (Cert.Proof.Scat.source (Cert.Proof.Scat.experts (words p)) ⟨r.val / 8, by omega⟩).val = s at h1 h2 h3
    have h4 := h3 (by omega)
    clear h3
    omega

end Cert.Proof.Whole.R
-- ==== Proof.Whole.EBlocks.lean ====
/-
  What the points of the experts' products read within the joined program: the item's words off the tables, and the three
  staged blocks at their places in the arrays.
-/
module

public import proofs.«01_k».proof.Proof.Whole.ERun
public import proofs.«01_k».proof.Proof.Expt.Total
public import Idealize.ShloMosaic.Lib.Pipeline.ValueKit

@[expose] public section

set_option maxRecDepth 16384

noncomputable section

namespace Cert.Proof.Whole.E

open scoped BigOperators
open Cert.MoeIdeal Cert.MoeIdeal.Gen
open Idealize.ShloMosaic
open Idealize.ShloMosaic.TcCoe
open Idealize.ShloMosaic.Pipeline (Dat Cfg Window)
open Cert.Proof.Expt (RowsT UpT DownT gelu msk hid prod at512 ofBool_one_iff sum_points sum_item)

variable {F : FTy → Type} [FloatOps F]
variable (pf : pre2.Contents (Elt F)) (hp : TabOK pf)
variable (Vl : (d : Dev nD) → (b : Ref sig .tc) → Buf (Elt F) ((SparseCore.T d : Thread nD τ).loc b))

/-- The item a point works on. -/
abbrev item (i : grid2.Coords) : S15.Idx := ix1 (⟨(i 1).val, coord1_lt i⟩ : Fin 15)

/-- The place the body and the index maps read the tables at. -/
theorem place (i : grid2.Coords) (h : ∀ a, k2_off1 i a + S1.size a ≤ S15.size a) (y : (Rect.unit (s := S15) (k2_off1 i) S1.size h).shape.Idx) :
    (Rect.unit (s := S15) (k2_off1 i) S1.size h).emb y = item i := by
  refine funext (Fin.forall_fin_one.mpr (Fin.ext ?_))
  have hy : (y 0).val = 0 := by have := (y 0).isLt; exact Nat.lt_one_iff.mp this
  have hc := coord1_lt i
  rw [Rect.emb_apply]
  show (BitVec.ofNat 32 (i 1).val).toNat + 1 * (y 0).val = (i 1).val
  rw [hy, BitVec.toNat_ofNat]
  omega

theorem lo_eq (i : grid2.Coords) : lo pf i = pf 2 (item i) := congrArg (pf 2) (place i _ _)
theorem hi_eq (i : grid2.Coords) : hi pf i = pf 3 (item i) := congrArg (pf 3) (place i _ _)
theorem rb_eq (i : grid2.Coords) : rb pf i = pf 1 (item i) := congrArg (pf 1) (place i _ _)

theorem index0 (t : Fin (cfgA pf hp).N) : ((cfgA pf hp).win (0 : Fin 4)).index t = ![(pf 1 (item (crd pf hp t)) : BitVec 32).toNat, 0] := by
  exact congrArg (fun k => ![(pf 1 k : BitVec 32).toNat, 0]) (place (crd pf hp t) (k2_off1_inb _) _)

theorem index1 (t : Fin (cfgA pf hp).N) : ((cfgA pf hp).win (1 : Fin 4)).index t = ![(pf 0 (item (crd pf hp t)) : BitVec 32).toNat, 0, (crd pf hp t 0).val] := by
  rw [← ofNat_coord0]
  exact congrArg (fun k => ![(pf 0 k : BitVec 32).toNat, 0, (BitVec.ofNat 32 (crd pf hp t 0).val).toNat]) (place (crd pf hp t) (k2_off1_inb _) _)

theorem index2 (t : Fin (cfgA pf hp).N) : ((cfgA pf hp).win (2 : Fin 4)).index t = ![(pf 0 (item (crd pf hp t)) : BitVec 32).toNat, (crd pf hp t 0).val, 0] := by
  rw [← ofNat_coord0]
  exact congrArg (fun k => ![(pf 0 k : BitVec 32).toNat, (BitVec.ofNat 32 (crd pf hp t 0).val).toNat, 0]) (place (crd pf hp t) (k2_off1_inb _) _)

/-- The item's expert and its row block. -/
def ex (hp : TabOK pf) (j : Fin 15) : Fin 8 := ⟨(pf 0 (ix1 j) : BitVec 32).toNat, hp.1 _⟩
def blkOf (hp : TabOK pf) (j : Fin 15) : Fin 8 := ⟨(pf 1 (ix1 j) : BitVec 32).toNat, hp.2 _⟩

/-- The two coordinates of a point. -/
abbrev c0 (t : Fin (cfgA pf hp).N) : Fin 8 := ⟨(crd pf hp t 0).val, coord0_lt _⟩
abbrev c1 (t : Fin (cfgA pf hp).N) : Fin 15 := ⟨(crd pf hp t 1).val, coord1_lt _⟩

theorem iblk0_apply (c : Dev nD) (t : Fin (cfgA pf hp).N) (p : Fin 512) (k : Fin 2048) :
    (iblk pf hp Vl c (0 : Fin 4) t : S512x2048.Idx → Elt F .f32) (ix2 p k)
      = (Vl c (Pipeline.arrRef spec2 (0 : Fin 4)) : S4096x2048.Idx → Elt F .f32) (ix2 (at512 (blkOf pf hp (c1 pf hp t)) p) k) := by
  unfold iblk
  refine (View.read_apply _ _).trans ?_
  refine congrArg (Vl c (Pipeline.arrRef spec2 (0 : Fin 4)) : S4096x2048.Idx → Elt F .f32) (funext (Fin.forall_fin_two.mpr ⟨Fin.ext ?_, Fin.ext ?_⟩))
  · refine (Pipeline.Window.rect_emb_val ((cfgA pf hp).win (0 : Fin 4)) t _ 0 rfl).trans ?_
    rw [index0]
    rfl
  · refine (Pipeline.Window.rect_emb_val ((cfgA pf hp).win (0 : Fin 4)) t _ 1 rfl).trans ?_
    rw [index0]
    exact Nat.zero_add _

theorem iblk1_apply (c : Dev nD) (t : Fin (cfgA pf hp).N) (k : Fin 2048) (f : Fin 512) :
    (iblk pf hp Vl c (1 : Fin 4) t : S1x2048x512.Idx → Elt F .f32) (ix3 0 k f)
      = (Vl c (Pipeline.arrRef spec2 (1 : Fin 4)) : S8x2048x4096.Idx → Elt F .f32) (ix3 (ex pf hp (c1 pf hp t)) k (at512 (c0 pf hp t) f)) := by
  unfold iblk
  refine (View.read_apply _ _).trans ?_
  refine congrArg (Vl c (Pipeline.arrRef spec2 (1 : Fin 4)) : S8x2048x4096.Idx → Elt F .f32)
    (funext (Fin.forall_fin_succ.mpr ⟨Fin.ext ?_, Fin.forall_fin_two.mpr ⟨Fin.ext ?_, Fin.ext ?_⟩⟩))
  · refine (Pipeline.Window.rect_emb_val ((cfgA pf hp).win (1 : Fin 4)) t _ 0 rfl).trans ?_
    rw [index1]
    exact Nat.mul_one _
  · refine (Pipeline.Window.rect_emb_val ((cfgA pf hp).win (1 : Fin 4)) t _ 1 rfl).trans ?_
    rw [index1]
    exact Nat.zero_add _
  · refine (Pipeline.Window.rect_emb_val ((cfgA pf hp).win (1 : Fin 4)) t _ 2 rfl).trans ?_
    rw [index1]
    rfl

theorem iblk2_apply (c : Dev nD) (t : Fin (cfgA pf hp).N) (f : Fin 512) (q : Fin 2048) :
    (iblk pf hp Vl c (2 : Fin 4) t : S1x512x2048.Idx → Elt F .f32) (ix3 0 f q)
      = (Vl c (Pipeline.arrRef spec2 (2 : Fin 4)) : S8x4096x2048.Idx → Elt F .f32) (ix3 (ex pf hp (c1 pf hp t)) (at512 (c0 pf hp t) f) q) := by
  unfold iblk
  refine (View.read_apply _ _).trans ?_
  refine congrArg (Vl c (Pipeline.arrRef spec2 (2 : Fin 4)) : S8x4096x2048.Idx → Elt F .f32)
    (funext (Fin.forall_fin_succ.mpr ⟨Fin.ext ?_, Fin.forall_fin_two.mpr ⟨Fin.ext ?_, Fin.ext ?_⟩⟩))
  · refine (Pipeline.Window.rect_emb_val ((cfgA pf hp).win (2 : Fin 4)) t _ 0 rfl).trans ?_
    rw [index2]
    exact Nat.mul_one _
  · refine (Pipeline.Window.rect_emb_val ((cfgA pf hp).win (2 : Fin 4)) t _ 1 rfl).trans ?_
    rw [index2]
    rfl
  · refine (Pipeline.Window.rect_emb_val ((cfgA pf hp).win (2 : Fin 4)) t _ 2 rfl).trans ?_
    rw [index2]
    exact Nat.zero_add _

theorem pay1_apply (i : S4096x2048.Idx) : (k2_pay1 (F := Ideal) : S4096x2048.Idx → EReal) i = 0 := Cert.Proof.Expt.pay1_apply i

theorem pay2_apply (lo hi : BitVec 32) (x : S512x2048.Idx → EReal) (u : S1x2048x512.Idx → EReal) (d : S1x512x2048.Idx → EReal) (v : S512x2048.Idx → EReal)
    (p : Fin 512) (q : Fin 2048) :
    (k2_pay2 (F := Ideal) lo hi x u d v : S512x2048.Idx → EReal) (ix2 p q)
      = v (ix2 p q) + ∑ f : Fin 512, (gelu (∑ k : Fin 2048, x (ix2 p k) * u (ix3 0 k f)) * msk lo hi p.val) * d (ix3 0 f q) := by
  unfold k2_pay2 gelu
  simp only [shapeCast_self]
  pointwise
  refine congrArg (v (ix2 p q) + ·) (Finset.sum_congr rfl fun f _ => ?_)
  have hw := Cert.Proof.Expt.bit_listed lo hi p.val
  unfold msk
  by_cases h : lo.sle (BitVec.ofNat 32 p.val) = true ∧ (BitVec.ofNat 32 p.val).slt hi = true
  · rw [if_pos h, mul_one]
    rw [hw, if_pos h]
    rfl
  · rw [if_neg h, mul_zero, zero_mul]
    rw [hw, if_neg h]
    rfl

end Cert.Proof.Whole.E

end
-- ==== Proof.Whole.EValue.lean ====
/-
  What the experts' products leave within the joined program: the sum over the grid, gathered item by item.
-/
module

public import proofs.«01_k».proof.Proof.Whole.EBlocks

@[expose] public section

set_option maxRecDepth 16384

noncomputable section

namespace Cert.Proof.Whole.E

open scoped BigOperators
open Cert.MoeIdeal Cert.MoeIdeal.Gen
open Idealize.ShloMosaic
open Idealize.ShloMosaic.TcCoe
open Idealize.ShloMosaic.Pipeline (Dat Cfg Window)
open Cert.Proof.Expt (RowsT UpT DownT gelu msk hid prod at512 ofBool_one_iff sum_points sum_item)

variable (pf : pre2.Contents (Elt Ideal)) (hp : TabOK pf)
variable (Vl : (d : Dev nD) → (b : Ref sig .tc) → Buf (Elt Ideal) ((SparseCore.T d : Thread nD τ).loc b))

/-- Item `j` lists row `r`. -/
def Listed (pf : pre2.Contents (Elt Ideal)) (j : Fin 15) (r : Fin 4096) : Prop :=
  (pf 1 (ix1 j) : BitVec 32).toNat = r.val / 512 ∧ (pf 2 (ix1 j) : BitVec 32).sle (BitVec.ofNat 32 (r.val % 512)) = true
    ∧ (BitVec.ofNat 32 (r.val % 512)).slt (pf 3 (ix1 j) : BitVec 32) = true

instance (j : Fin 15) (r : Fin 4096) : Decidable (Listed pf j r) := inferInstanceAs (Decidable (_ ∧ _ ∧ _))

/-- What item `j` adds to row `r` over the block `i` of hidden features. -/
def contrib (X : RowsT) (U : UpT) (D : DownT) (i : Fin 8) (j : Fin 15) (r : Fin 4096) (q : Fin 2048) : EReal :=
  ∑ f : Fin 512, (gelu (hid X U (ex pf hp j) r (at512 i f)) * (if Listed pf j r then (1 : EReal) else 0)) * D (ix3 (ex pf hp j) (at512 i f) q)

theorem contrib_idle (X : RowsT) (U : UpT) (D : DownT) (i : Fin 8) (j : Fin 15) (r : Fin 4096) (q : Fin 2048) (h : ¬ Listed pf j r) :
    contrib pf hp X U D i j r q = 0 := by
  unfold contrib
  simp only [if_neg h, mul_zero, zero_mul, Finset.sum_const_zero]

/-- The item's range of places is not empty. -/
theorem cond2_of (lo hi : BitVec 32) (p : ℕ) (h1 : lo.sle (BitVec.ofNat 32 p) = true) (h2 : (BitVec.ofNat 32 p).slt hi = true) :
    k2_cond2 lo hi = 1#1 := by
  have hlt : lo.slt hi = true := by
    rw [BitVec.slt_iff_toInt_lt] at h2 ⊢
    rw [BitVec.sle_iff_toInt_le] at h1
    omega
  have : IntOp.cmpi CmpIPredicate.sgt hi lo = 1#1 := ofBool_one_iff.mpr hlt
  show Scalar.cmpi CmpIPredicate.ne (Scalar.extui (IntOp.cmpi CmpIPredicate.sgt hi lo)) 0#32 = 1#1
  rw [this]
  rfl

abbrev XA (c : Dev nD) : RowsT := Vl c (Pipeline.arrRef spec2 (0 : Fin 4))
abbrev UA (c : Dev nD) : UpT := Vl c (Pipeline.arrRef spec2 (1 : Fin 4))
abbrev DA (c : Dev nD) : DownT := Vl c (Pipeline.arrRef spec2 (2 : Fin 4))

/-- An item's product added onto its row block, at an element. -/
theorem addV_apply (lo hi rb : BitVec 32) (B : Fin 8) (hB : k2_off3 rb = ![B.val * 512, 0]) (x0 : S512x2048.Idx → EReal) (x1 : S1x2048x512.Idx → EReal)
    (x2 : S1x512x2048.Idx → EReal) (z : S4096x2048.Idx → EReal) (h : ∀ a, k2_off3 rb a + S512x2048.size a ≤ S4096x2048.size a) (r : Fin 4096) (q : Fin 2048) :
    (addV (F := Ideal) lo hi rb x0 x1 x2 z h : S4096x2048.Idx → EReal) (ix2 r q)
      = if B.val = r.val / 512 then
          z (ix2 r q) + ∑ f : Fin 512, (gelu (∑ k : Fin 2048, x0 (ix2 (⟨r.val % 512, Nat.mod_lt _ (by decide)⟩ : Fin 512) k) * x1 (ix3 0 k f)) * msk lo hi (r.val % 512)) * x2 (ix3 0 f q)
        else z (ix2 r q) := by
  unfold addV VecWindow.put
  by_cases hr : B.val = r.val / 512
  · have hmem : ∀ a, k2_off3 rb a ≤ ((ix2 r q : S4096x2048.Idx) a).val
        ∧ ((ix2 r q : S4096x2048.Idx) a).val < k2_off3 rb a + S512x2048.size a := by
      rw [hB]
      refine Fin.forall_fin_two.mpr ⟨?_, ?_⟩
      · show B.val * 512 ≤ r.val ∧ r.val < B.val * 512 + 512
        omega
      · show 0 ≤ q.val ∧ q.val < 0 + 2048
        have := q.isLt
        omega
    rw [dif_pos hmem, if_pos hr]
    have hloc : (show S512x2048.Idx from Rect.unitLocal (s := S4096x2048) (ix2 r q) hmem) = ix2 (⟨r.val % 512, Nat.mod_lt _ (by decide)⟩ : Fin 512) q := by
      refine funext (Fin.forall_fin_two.mpr ⟨Fin.ext ?_, Fin.ext ?_⟩)
      · refine (Rect.unitLocal_val (s := S4096x2048) _ hmem 0).trans ?_
        rw [hB]
        show r.val - B.val * 512 = r.val % 512
        omega
      · refine (Rect.unitLocal_val (s := S4096x2048) _ hmem 1).trans ?_
        rw [hB]
        exact Nat.sub_zero _
    have hwin : (VecWindow.window z (k2_off3 rb) S512x2048.size h : S512x2048.Idx → EReal) (ix2 (⟨r.val % 512, Nat.mod_lt _ (by decide)⟩ : Fin 512) q) = z (ix2 r q) := by
      unfold VecWindow.window
      refine congrArg z (funext (Fin.forall_fin_two.mpr ⟨Fin.ext ?_, Fin.ext ?_⟩))
      · rw [Rect.emb_apply]
        show k2_off3 rb 0 + 1 * (r.val % 512) = r.val
        rw [hB]
        show B.val * 512 + 1 * (r.val % 512) = r.val
        omega
      · rw [Rect.emb_apply]
        show 0 + 1 * q.val = q.val
        omega
    have key : ∀ (w : S512x2048.Idx → EReal) (j : S512x2048.Idx), j = ix2 (⟨r.val % 512, Nat.mod_lt _ (by decide)⟩ : Fin 512) q →
        w (ix2 (⟨r.val % 512, Nat.mod_lt _ (by decide)⟩ : Fin 512) q) = z (ix2 r q) →
        (k2_pay2 (F := Ideal) lo hi x0 x1 x2 w : S512x2048.Idx → EReal) j
          = z (ix2 r q) + ∑ f : Fin 512, (gelu (∑ k : Fin 2048, x0 (ix2 (⟨r.val % 512, Nat.mod_lt _ (by decide)⟩ : Fin 512) k) * x1 (ix3 0 k f)) * msk lo hi (r.val % 512)) * x2 (ix3 0 f q) := by
      intro w j hj hw
      rw [hj, pay2_apply, hw]
    exact key _ _ hloc hwin
  · rw [if_neg hr]
    refine dif_neg fun h => hr ?_
    have h0 := h 0
    rw [hB] at h0
    have h1 : B.val * 512 ≤ r.val ∧ r.val < B.val * 512 + 512 := h0
    omega

theorem step_apply (c : Dev nD) (t : Fin (cfgA pf hp).N) (y : S4096x2048.Idx → EReal) (r : Fin 4096) (q : Fin 2048) :
    (step pf hp Vl c t y : S4096x2048.Idx → EReal) (ix2 r q)
      = (baseV (F := Ideal) (crd pf hp t) y : S4096x2048.Idx → EReal) (ix2 r q) + contrib pf hp (XA Vl c) (UA Vl c) (DA Vl c) (c0 pf hp t) (c1 pf hp t) r q := by
  unfold step stepV
  generalize baseV (F := Ideal) (crd pf hp t) y = z
  have hin := off3_inb _ (rb_lt pf hp (crd pf hp t))
  have hoff : k2_off3 (rb pf (crd pf hp t)) = ![(blkOf pf hp (c1 pf hp t)).val * 512, 0] := by
    have h8 := (blkOf pf hp (c1 pf hp t)).isLt
    have e : (rb pf (crd pf hp t)).toNat = (blkOf pf hp (c1 pf hp t)).val := by rw [rb_eq]; rfl
    refine funext (Fin.forall_fin_two.mpr ⟨?_, rfl⟩)
    show (Scalar.muli (rb pf (crd pf hp t)) 512#32).toNat = (blkOf pf hp (c1 pf hp t)).val * 512
    have : (Scalar.muli (rb pf (crd pf hp t)) 512#32).toNat = (rb pf (crd pf hp t)).toNat * 512 % 4294967296 := BitVec.toNat_mul _ _
    omega
  by_cases hc2 : k2_cond2 (lo pf (crd pf hp t)) (hi pf (crd pf hp t)) = 1#1
  · rw [dif_pos ⟨hc2, hin⟩]
    refine (addV_apply _ _ _ (blkOf pf hp (c1 pf hp t)) hoff _ _ _ z hin r q).trans ?_
    by_cases hr : (blkOf pf hp (c1 pf hp t)).val = r.val / 512
    · have hback : at512 (blkOf pf hp (c1 pf hp t)) (⟨r.val % 512, Nat.mod_lt _ (by decide)⟩ : Fin 512) = r := by
        refine Fin.ext ?_
        show (blkOf pf hp (c1 pf hp t)).val * 512 + r.val % 512 = r.val
        omega
      rw [if_pos hr]
      unfold contrib
      refine congrArg (z (ix2 r q) + ·) (Finset.sum_congr rfl fun f _ => ?_)
      refine congrArg₂ (· * ·) (congrArg₂ (· * ·) (congrArg gelu (Finset.sum_congr rfl fun k _ => congrArg₂ (· * ·) ?_ ?_)) ?_) ?_
      · exact (iblk0_apply pf hp Vl c t _ k).trans (by rw [hback])
      · exact iblk1_apply pf hp Vl c t k f
      · unfold msk
        refine if_congr ?_ rfl rfl
        rw [lo_eq, hi_eq]
        exact ⟨fun h => ⟨hr, h⟩, fun h => h.2⟩
      · exact iblk2_apply pf hp Vl c t f q
    · rw [if_neg hr, contrib_idle pf hp _ _ _ _ _ _ _ (fun h => hr h.1), add_zero]
  · rw [dif_neg fun h => hc2 h.1, contrib_idle pf hp _ _ _ _ _ _ _ (fun h => hc2 ?_), add_zero]
    rw [lo_eq, hi_eq]
    exact cond2_of _ _ _ h.2.1 h.2.2

/-- The grid runs the items inside the blocks of hidden features. -/
theorem coords_val (t : Fin (cfgA pf hp).N) : (crd pf hp t 0).val = t.val / 15 ∧ (crd pf hp t 1).val = t.val % 15 := by
  have : ∀ t : Fin grid2.N, (grid2.coords t 0).val = t.val / 15 ∧ (grid2.coords t 1).val = t.val % 15 := by decide +kernel
  exact this t

/-- What a point adds at an element, by its two coordinates. -/
def part (X : RowsT) (U : UpT) (D : DownT) (r : Fin 4096) (q : Fin 2048) (i j : ℕ) : EReal :=
  if h : i < 8 ∧ j < 15 then contrib pf hp X U D ⟨i, h.1⟩ ⟨j, h.2⟩ r q else 0

theorem part_at (X : RowsT) (U : UpT) (D : DownT) (t : Fin (cfgA pf hp).N) (r : Fin 4096) (q : Fin 2048) :
    part pf hp X U D r q (t.val / 15) (t.val % 15) = contrib pf hp X U D (c0 pf hp t) (c1 pf hp t) r q := by
  have h := coords_val pf hp t
  unfold part
  rw [← h.1, ← h.2, dif_pos ⟨coord0_lt _, coord1_lt _⟩]

theorem traj_apply (c : Dev nD) (r : Fin 4096) (q : Fin 2048) : ∀ (n : ℕ) (hn : n < (cfgA pf hp).N),
    (traj pf hp Vl c n hn : S4096x2048.Idx → EReal) (ix2 r q)
      = ∑ s ∈ Finset.range (n + 1), part pf hp (XA Vl c) (UA Vl c) (DA Vl c) r q (s / 15) (s % 15)
  | 0, hn => by
    rw [Finset.sum_range_one]
    refine (step_apply pf hp Vl c ⟨0, hn⟩ _ r q).trans ?_
    rw [← part_at pf hp (XA Vl c) (UA Vl c) (DA Vl c) ⟨0, hn⟩]
    unfold baseV
    rw [if_pos (cond1_first pf hp ⟨0, hn⟩ rfl), pay1_apply, zero_add]
  | n + 1, hn => by
    rw [Finset.sum_range_succ, ← traj_apply c r q n (Nat.lt_of_succ_lt hn)]
    refine (step_apply pf hp Vl c ⟨n + 1, hn⟩ _ r q).trans ?_
    rw [← part_at pf hp (XA Vl c) (UA Vl c) (DA Vl c) ⟨n + 1, hn⟩]
    unfold baseV
    rw [if_neg]
    intro h
    have h0 := (cond1_iff _).mp h
    have h1 := coords_val pf hp ⟨n + 1, hn⟩
    have h2 : (n + 1) / 15 = 0 := h1.1.symm.trans h0.1
    have h3 : (n + 1) % 15 = 0 := h1.2.symm.trans h0.2
    omega

/-- The result's block after the last point: the product of every item that lists the row. -/
theorem traj_last (c : Dev nD) (h : 119 < (cfgA pf hp).N) (r : Fin 4096) (q : Fin 2048) :
    (traj pf hp Vl c 119 h : S4096x2048.Idx → EReal) (ix2 r q)
      = ∑ j : Fin 15, if Listed pf j r then prod (XA Vl c) (UA Vl c) (DA Vl c) (ex pf hp j) r q else 0 := by
  rw [traj_apply, sum_points]
  refine Finset.sum_congr rfl fun j _ => ?_
  let A : ℕ → EReal := fun f => if h : f < 4096 then gelu (hid (XA Vl c) (UA Vl c) (ex pf hp j) r ⟨f, h⟩) else 0
  let B : ℕ → EReal := fun f => if h : f < 4096 then DA Vl c (ix3 (ex pf hp j) ⟨f, h⟩ q) else 0
  have hA : ∀ f : Fin 4096, A f.val = gelu (hid (XA Vl c) (UA Vl c) (ex pf hp j) r f) := fun f => dif_pos f.isLt
  have hB : ∀ f : Fin 4096, B f.val = DA Vl c (ix3 (ex pf hp j) f q) := fun f => dif_pos f.isLt
  have hs := sum_item A B (Listed pf j r)
  unfold prod
  simp only [← hA, ← hB]
  rw [← hs]
  refine Finset.sum_congr rfl fun i _ => ?_
  unfold part contrib
  rw [dif_pos ⟨i.isLt, j.isLt⟩]
  refine Finset.sum_congr rfl fun f _ => ?_
  have e : f.val + 512 * i.val = (at512 i f).val := by
    show f.val + 512 * i.val = i.val * 512 + f.val
    omega
  rw [e, hA, hB]

/-- The last point. -/
def last : Fin (cfgA pf hp).N := ⟨119, by rw [N_A]; decide⟩

theorem whole_last : ((cfgA pf hp).win (3 : Fin 4)).WholeAt (last pf hp) := by
  refine ⟨?_, fun t ht => ?_, Fin.forall_fin_two.mpr ⟨⟨rfl, rfl⟩, ⟨rfl, rfl⟩⟩⟩
  · rw [flush3]
    exact decide_eq_true rfl
  · rw [flush3] at ht
    have := of_decide_eq_true ht
    exact Fin.ext (by show t.val = 119; omega)

/-- The array the run ends with. -/
theorem arr_last (c : Dev nD) : (dats pf hp Vl c).arrAt (3 : Fin 4) (cfgA pf hp).N = traj pf hp Vl c 119 (last pf hp).isLt :=
  Dat.arrAt_eq_of_after_last _ (3 : Fin 4) (last pf hp) (whole_last pf hp) _ (fun j => by rfl) (Memref.isWhole_whole _)

end Cert.Proof.Whole.E

end
-- ==== Proof.Whole.WTabs.lean ====
/-
  What the joined program's calls are given over the reals: the lists of the scatter and of the gather name rows that
  exist, and the tables of the experts' call name experts and row blocks that exist.
-/
module

public import proofs.«01_k».proof.Proof.Whole.Ends
public import proofs.«01_k».proof.Proof.Whole.Places
public import proofs.«01_k».proof.Proof.Whole.EValue

@[expose] public section

noncomputable section

namespace Cert.Proof.Whole

open scoped BigOperators
open Cert.MoeIdeal Cert.MoeIdeal.Gen

open Idealize.ShloMosaic
open Idealize.ShloMosaic.StableHlo (after)
open Idealize.ShloMosaic.Tactic
open Cert.Proof.Rout (AllReal pick startOf earlier)
open Cert.Proof.Whole.R (place words rowE rowB rowL rowH cnt)

variable (m : (ℓ : Loc nD τ sig) → Buf (Elt Ideal) ℓ)

/-- The experts chosen. -/
abbrev pk (d : Dev nD) : Fin 2048 → Fin 2 → Fin 8 := pick (xs m d) (rwt m d)

theorem pk_ne (d : Dev nD) (n : Fin 2048) : pk m d n 1 ≠ pk m d n 0 := Cert.Proof.Rout.pick_ne _ _ n

/-- Both arrays that the router reads are real throughout. -/
def Reals : Prop := ∀ d, AllReal (xs m d) ∧ AllReal (rwt m d)

variable {m} (hr : Reals m)

include hr in
theorem position (d : Dev nD) (n : Fin 2048) (k : Fin 2) :
    (R.out6 (F := Ideal) (xs m d) (rwt m d) : S2048x2.Idx → BitVec 32) (ix2 n k) = BitVec.ofNat 32 (place (pk m d) n k) := by
  rw [R.out6_eq]
  exact Cert.Proof.Rout.kernel_positions (hr d).1 (hr d).2 n k

include hr in
theorem posA_apply (d : Dev nD) (n : Fin 2048) : posA m d (Cert.Proof.Scat.one2 n) = BitVec.ofNat 32 (place (pk m d) n 0) := by
  unfold posA
  rw [shapeCast_apply _ _ (Cert.Proof.Scat.one2 n) (ix2 (n0 := 2048) (n1 := 1) n 0) (by
    rw [Shape.rowMajor_val_two, Shape.rowMajor_val_one]
    show n.val * 1 + 0 = n.val
    omega), ← position hr d n 0]
  unfold extractStridedSlice
  refine congrArg _ (funext fun a => Fin.ext ?_)
  fin_cases a
  · show 0 + n.val = n.val; omega
  · rfl
include hr in
theorem posB_apply (d : Dev nD) (n : Fin 2048) : posB m d (Cert.Proof.Scat.one2 n) = BitVec.ofNat 32 (place (pk m d) n 1) := by
  unfold posB
  rw [shapeCast_apply _ _ (Cert.Proof.Scat.one2 n) (ix2 (n0 := 2048) (n1 := 1) n 0) (by
    rw [Shape.rowMajor_val_two, Shape.rowMajor_val_one]
    show n.val * 1 + 0 = n.val
    omega), ← position hr d n 1]
  unfold extractStridedSlice
  refine congrArg _ (funext fun a => Fin.ext ?_)
  fin_cases a
  · show 0 + n.val = n.val; omega
  · rfl

/-- Which row goes where in the scatter. -/
def Rts (m : (ℓ : Loc nD τ sig) → Buf (Elt Ideal) ℓ) (d : Dev nD) : S.Route := Cert.Proof.Scat.route (words (pk m d))

include hr in
theorem named_A (d : Dev nD) : S.Named (F := Ideal) (Vc m d (r' main_v16)) (Rts m d) false := by
  rw [Vc_listA]
  exact R.named (pk_ne m d) 0 (posA m d) (posA_apply hr d)
include hr in
theorem named_B (d : Dev nD) : S.Named (F := Ideal) (Vc m d (r' main_v25)) (Rts m d) true := by
  rw [Vc_listB]
  exact R.named (pk_ne m d) 1 (posB m d) (posB_apply hr d)

/-! ## The gather's list -/

theorem small (n : ℕ) (h : n < 4294967296) : (BitVec.ofNat 32 n).toNat = n := by
  rw [BitVec.toNat_ofNat]; exact Nat.mod_eq_of_lt h

include hr in
theorem both_A (d : Dev nD) (n : Fin 2048) :
    (Cert.Proof.Comb.both (posA m d) (posB m d) (Cert.Proof.Comb.one4 ⟨n.val, by omega⟩)).toNat = place (pk m d) n 0 := by
  have h := R.place_lt (pk_ne m d) n 0
  rw [Cert.Proof.Comb.both_left, show posA m d (Cert.Proof.Comb.one2 n) = _ from posA_apply hr d n, small _ (h.trans (by decide))]
include hr in
theorem both_B (d : Dev nD) (n : Fin 2048) :
    (Cert.Proof.Comb.both (posA m d) (posB m d) (Cert.Proof.Comb.one4 ⟨2048 + n.val, by omega⟩)).toNat = place (pk m d) n 1 := by
  have h := R.place_lt (pk_ne m d) n 1
  rw [Cert.Proof.Comb.both_right, show posB m d (Cert.Proof.Comb.one2 n) = _ from posB_apply hr d n, small _ (h.trans (by decide))]

include hr in
theorem both_lt (d : Dev nD) (k : Fin 4096) : (Cert.Proof.Comb.both (posA m d) (posB m d) (Cert.Proof.Comb.one4 k)).toNat < 4096 := by
  by_cases h : k.val < 2048
  · have e := both_A hr d ⟨k.val, h⟩
    exact e ▸ R.place_lt (pk_ne m d) ⟨k.val, h⟩ 0
  · have e := both_B hr d ⟨k.val - 2048, by omega⟩
    have ek : (⟨2048 + (k.val - 2048), by omega⟩ : Fin 4096) = k := Fin.ext (by show 2048 + (k.val - 2048) = k.val; omega)
    rw [show (⟨2048 + (⟨k.val - 2048, by omega⟩ : Fin 2048).val, _⟩ : Fin 4096) = k from ek] at e
    exact e ▸ R.place_lt (pk_ne m d) ⟨k.val - 2048, by omega⟩ 1

include hr in
theorem in_rows (Rt : Dev nD → S.Route) (pf : pre2.Contents (Elt Ideal)) (hp : E.TabOK pf) (d : Dev nD) : G.InRows (Vg m Rt pf hp d (r' main_v47)) := fun n => by
  have e := Cert.Proof.Comb.expand_toNat (both_lt hr d) ⟨(n 0).val, (n 0).isLt⟩
  have en : Cert.Proof.Comb.lix ⟨(n 0).val, (n 0).isLt⟩ = n := funext fun a => by fin_cases a; rfl
  rw [en] at e
  have e' : (Vg m Rt pf hp d (r' main_v47) n).toNat = _ := (congrArg BitVec.toNat (congrFun (Vg_list m Rt pf hp d) n)).trans e
  have hb := both_lt hr d ⟨(n 0).val / 8, by have := (n 0).isLt; change (n 0).val < 32768 at this; omega⟩
  rw [e']
  dsimp only at hb ⊢
  omega

/-! ## The tables -/

/-- The four tables of the experts' call. -/
def tabs (m : (ℓ : Loc nD τ sig) → Buf (Elt Ideal) ℓ) : pre2.Contents (Elt Ideal) := fun j => Ve m (Rts m) 0 (r' (pre2.ref j))

theorem tabs_eq (d : Dev nD) (j : Fin 4) : Ve m (Rts m) d (r' (pre2.ref j)) = tabs m j := by
  rw [Subsingleton.elim d 0]
  rfl

theorem row_apply (v : IVec S4x15 32) (i : Fin 4) (h : S4x15.Slices ![i.val, 0] S1x15) (j : Fin 15) :
    shapeCast S15 (extractStridedSlice S1x15 ![i.val, 0] v h) shapeCasts_S1x15_S15 (ix1 j) = v (ix2 i j) := by
  rw [shapeCast_apply _ _ (ix1 j) (ix2 (n0 := 1) (n1 := 15) 0 j) (by
    rw [Shape.rowMajor_val_two, Shape.rowMajor_val_one]
    show 0 * 15 + j.val = j.val
    omega)]
  unfold extractStridedSlice
  refine congrArg _ (funext fun a => Fin.ext ?_)
  fin_cases a
  · rfl
  · show 0 + j.val = j.val; omega

end Cert.Proof.Whole

end
-- ==== Proof.Whole.WRows.lean ====
/-
  The joined program's tables over the reals, and the rows of the experts' result: at the position of a token's copy lies
  the product of the copy's expert over the token's row.
-/
module

public import proofs.«01_k».proof.Proof.Whole.WTabs

@[expose] public section

noncomputable section

namespace Cert.Proof.Whole

open scoped BigOperators
open Cert.MoeIdeal Cert.MoeIdeal.Gen

open Idealize.ShloMosaic
open Idealize.ShloMosaic.Tactic
open Cert.Proof.Rout (AllReal pick startOf earlier)
open Cert.Proof.Expt (gelu hid prod)
open Cert.Proof.Whole.R (place words rowE rowB rowL rowH cnt)

variable {m : (ℓ : Loc nD τ sig) → Buf (Elt Ideal) ℓ} (hr : Reals m)

include hr in
theorem tabs_apply (j : Fin 15) :
    tabs m 0 (ix1 j) = BitVec.ofNat 32 (rowE (pk m 0) j) ∧ tabs m 1 (ix1 j) = BitVec.ofNat 32 (rowB (pk m 0) j)
      ∧ tabs m 2 (ix1 j) = BitVec.ofNat 32 (rowL (pk m 0) j) ∧ tabs m 3 (ix1 j) = BitVec.ofNat 32 (rowH (pk m 0) j) := by
  have h := R.list_apply (hr 0).1 (hr 0).2 j
  refine ⟨?_, ?_, ?_, ?_⟩
  · exact ((congrFun (Ve_row0 m (Rts m) 0) (ix1 j)).trans (row_apply _ 0 _ j)).trans h.1
  · exact ((congrFun (Ve_row1 m (Rts m) 0) (ix1 j)).trans (row_apply _ 1 _ j)).trans h.2.1
  · exact ((congrFun (Ve_row2 m (Rts m) 0) (ix1 j)).trans (row_apply _ 2 _ j)).trans h.2.2.1
  · exact ((congrFun (Ve_row3 m (Rts m) 0) (ix1 j)).trans (row_apply _ 3 _ j)).trans h.2.2.2

theorem eq_ix1 (k : S15.Idx) : k = ix1 (k 0) := funext fun a => by fin_cases a; rfl

include hr in
theorem tabs_ok : E.TabOK (tabs m) := by
  refine ⟨fun k => ?_, fun k => ?_⟩
  · have h := R.items_are (pk m 0) (k 0)
    have e : (tabs m 0 k : BitVec 32).toNat = rowE (pk m 0) (k 0) := (congrArg (fun k => (tabs m 0 k : BitVec 32).toNat) (eq_ix1 k)).trans
      ((congrArg BitVec.toNat (tabs_apply hr (k 0)).1).trans (small _ (h.1.trans (by decide))))
    exact e.trans_lt h.1
  · have h := R.items_are (pk m 0) (k 0)
    have e : (tabs m 1 k : BitVec 32).toNat = rowB (pk m 0) (k 0) := (congrArg (fun k => (tabs m 1 k : BitVec 32).toNat) (eq_ix1 k)).trans
      ((congrArg BitVec.toNat (tabs_apply hr (k 0)).2.1).trans (small _ (h.2.1.trans (by decide))))
    exact e.trans_lt h.2.1

theorem sle_small (a b : ℕ) (ha : a ≤ 512) (hb : b < 512) : (BitVec.ofNat 32 a).sle (BitVec.ofNat 32 b) = true ↔ a ≤ b := by
  rw [BitVec.sle_eq_decide, decide_eq_true_eq, BitVec.toInt_eq_toNat_cond, BitVec.toInt_eq_toNat_cond, BitVec.toNat_ofNat, BitVec.toNat_ofNat]
  omega
theorem slt_small (a b : ℕ) (ha : a < 512) (hb : b ≤ 512) : (BitVec.ofNat 32 a).slt (BitVec.ofNat 32 b) = true ↔ a < b := by
  rw [BitVec.slt_eq_decide, decide_eq_true_eq, BitVec.toInt_eq_toNat_cond, BitVec.toInt_eq_toNat_cond, BitVec.toNat_ofNat, BitVec.toNat_ofNat]
  omega

include hr in
theorem listed_iff (j : Fin 15) (r : Fin 4096) : E.Listed (tabs m) j r
    ↔ rowB (pk m 0) j = r.val / 512 ∧ rowL (pk m 0) j ≤ r.val % 512 ∧ r.val % 512 < rowH (pk m 0) j := by
  have h := R.items_are (pk m 0) j
  have hm : r.val % 512 < 512 := Nat.mod_lt _ (by decide)
  obtain ⟨-, h1, h2, h3⟩ := tabs_apply hr j
  unfold E.Listed
  rw [h1, h2, h3, small _ (h.2.1.trans (by decide))]
  exact and_congr Iff.rfl (and_congr (sle_small _ _ h.2.2.1 hm) (slt_small _ _ hm h.2.2.2.1))

include hr in
theorem ex_val (j : Fin 15) : (E.ex (tabs m) (tabs_ok hr) j).val = rowE (pk m 0) j := by
  have h := R.items_are (pk m 0) j
  show (tabs m 0 (ix1 j) : BitVec 32).toNat = _
  rw [(tabs_apply hr j).1, small _ (h.1.trans (by decide))]

/-- The experts' weights. -/
abbrev ups (m : (ℓ : Loc nD τ sig) → Buf (Elt Ideal) ℓ) (d : Dev nD) : FVec Ideal S8x2048x4096 .f32 := m (d, r' main_arg2)
abbrev downs (m : (ℓ : Loc nD τ sig) → Buf (Elt Ideal) ℓ) (d : Dev nD) : FVec Ideal S8x4096x2048 .f32 := m (d, r' main_arg3)
/-- The scattered rows. -/
def Xs (m : (ℓ : Loc nD τ sig) → Buf (Elt Ideal) ℓ) (d : Dev nD) : FVec Ideal S4096x2048 .f32 :=
  shapeCast S4096x2048 (S.scat (shapeCast S16384x2x128 (xs m d) shapeCasts_S2048x2048_S16384x2x128) (Rts m d)) shapeCasts_S32768x2x128_S4096x2048

include hr in
theorem rows_sum (r : Fin 4096) (q : Fin 2048) : (Ys m (Rts m) (tabs m) (tabs_ok hr) 0 : S4096x2048.Idx → EReal) (ix2 r q)
    = ∑ j : Fin 15, if E.Listed (tabs m) j r then prod (Xs m 0) (ups m 0) (downs m 0) (E.ex (tabs m) (tabs_ok hr) j) r q else 0 := by
  unfold Ys
  rw [E.arr_last]
  refine (E.traj_last (tabs m) (tabs_ok hr) (fun d b => Ve m (Rts m) d (r' b)) 0 _ r q).trans ?_
  have e0 : E.XA (fun d b => Ve m (Rts m) d (r' b)) 0 = Xs m 0 := Ve_rows m (Rts m) 0
  have e1 : E.UA (fun d b => Ve m (Rts m) d (r' b)) 0 = ups m 0 := Ve_arg2 m (Rts m) 0
  have e2 : E.DA (fun d b => Ve m (Rts m) d (r' b)) 0 = downs m 0 := Ve_arg3 m (Rts m) 0
  rw [e0, e1, e2]

include hr in
/-- The experts' result at a row of expert `e`. -/
theorem rows_apply (e : Fin 8) (r : Fin 4096) (hs : startOf (pk m 0) e ≤ r.val) (ht : r.val < startOf (pk m 0) e + cnt (pk m 0) e) (q : Fin 2048) :
    (Ys m (Rts m) (tabs m) (tabs_ok hr) 0 : S4096x2048.Idx → EReal) (ix2 r q) = prod (Xs m 0) (ups m 0) (downs m 0) e r q := by
  rw [rows_sum hr]
  let f : ℕ → EReal := fun e => if h : e < 8 then prod (Xs m 0) (ups m 0) (downs m 0) ⟨e, h⟩ r q else 0
  have hf : ∀ e : Fin 8, prod (Xs m 0) (ups m 0) (downs m 0) e r q = f e.val := fun e => by
    show _ = dite (e.val < 8) _ _
    rw [dif_pos e.isLt]
  rw [hf e, ← sum_listed (startOf (pk m 0)) (fun e => startOf (pk m 0) e + cnt (pk m 0) e) (fun e f h => R.starts_after e f h)
    (rowE (pk m 0)) (rowB (pk m 0)) (rowL (pk m 0)) (rowH (pk m 0)) (R.items_are (pk m 0)) f e r.val r.isLt hs ht]
  refine Finset.sum_congr rfl fun j _ => ?_
  rw [hf, ex_val hr]
  exact if_congr (listed_iff hr j r) rfl rfl

/-- What expert `e` makes of token `n`'s row. -/
def outOf (x : FVec Ideal S2048x2048 .f32) (U : FVec Ideal S8x2048x4096 .f32) (D : FVec Ideal S8x4096x2048 .f32) (e : Fin 8) (n : Fin 2048) (q : Fin 2048) : EReal :=
  ∑ f : Fin 4096, gelu (∑ k : Fin 2048, x (ix2 n k) * U (ix3 e k f)) * D (ix3 e f q)

include hr in
theorem rows_at (n : Fin 2048) (k : Fin 2) (r : Fin 4096) (h : place (pk m 0) n k = r.val) (q : Fin 2048) :
    (Ys m (Rts m) (tabs m) (tabs_ok hr) 0 : S4096x2048.Idx → EReal) (ix2 r q) = outOf (xs m 0) (ups m 0) (downs m 0) (pk m 0 n k) n q := by
  rw [rows_apply hr (pk m 0 n k) r (h ▸ R.place_ge n k) (h ▸ R.place_before n k)]
  have hsrc := (R.place_iff (pk_ne m 0) n k r).mp h
  have hx : ∀ c : Fin 2048, Xs m 0 (ix2 r c) = xs m 0 (ix2 n c) := fun c => by
    refine (Cert.Proof.Scat.scat_row (F := Ideal) (xs m 0) (words (pk m 0)) r c).trans ?_
    refine congrArg (fun a : Fin 2048 => xs m 0 (ix2 a c)) (Fin.ext ?_)
    exact (congrArg (fun a : Fin 4096 => a.val / 2) hsrc).trans (R.copy_half n k)
  unfold prod outOf hid
  simp only [hx]

end Cert.Proof.Whole

end
-- ==== Proof.Whole.MRef.lean ====
/-
  The reference of the whole mixture over the reals, element by element: every token's two experts' products, weighted,
  and the loss.
-/
module

public import proofs.«01_k».proof.Proof.Gen.MoeReferenceIdeal.Run
public import proofs.«01_k».proof.Proof.Rout.Loss
public import proofs.«01_k».proof.Proof.Expt.Pay

@[expose] public section

noncomputable section

namespace Cert.Proof.Whole.M

open scoped BigOperators
open Cert.MoeReferenceIdeal Cert.MoeReferenceIdeal.Gen
open Idealize.ShloMosaic
open Cert.Proof.Rout (Tokens Weights pick pick_ne topR weightsR placesR hotR probsR places_token places_expert reference_hot reference_prob term)
open Cert.Proof.Expt (UpT DownT gelu)

/-- What expert `e` makes of token `n`'s row. -/
def outOf (x : Tokens) (U : UpT) (D : DownT) (e : Fin 8) (n : Fin 2048) (q : Fin 2048) : EReal :=
  ∑ f : Fin 4096, gelu (∑ k : Fin 2048, x (ix2 n k) * U (ix3 e k f)) * D (ix3 e f q)

/-- The reference's hidden features, their gelu, and every expert's product of every token. -/
def hidM (x : Tokens) (u : UpT) : FVec Ideal S8x2048x4096 .f32 :=
  transpose S8x2048x4096 [0, 2, 1] (Host.dotGeneral (F := Ideal) (φ₁ := .f32) (φ₂ := .f32) dot_S8x2048x4096_S2048x2048_S8x4096x2048_1_1_02_0_n_n none u x) transposes_S8x4096x2048_S8x2048x4096_0_2_1
def gelM (x : Tokens) (u : UpT) : FVec Ideal S8x2048x4096 .f32 :=
  mulf (mulf (broadcastInDim S8x2048x4096 ![] bcast_S_S8x2048x4096 (constant S_ .f32 0x3F000000#32)) (hidM x u))
    (Host.erfc (mulf (Host.negf (hidM x u)) (broadcastInDim S8x2048x4096 ![] bcast_S_S8x2048x4096 (constant S_ .f32 0x3F3504F3#32))))
def prodM (x : Tokens) (u : UpT) (d : DownT) : FVec Ideal S8x2048x2048 .f32 :=
  Host.dotGeneral (F := Ideal) (φ₁ := .f32) (φ₂ := .f32) dot_S8x2048x4096_S8x4096x2048_S8x2048x2048_2_1_1_2_0_0 none (gelM x u) d
/-- The table of weights: a token's weight for each expert, zero where it did not choose the expert. -/
def maskM (x : Tokens) (w : Weights) : FVec Ideal S2048x8 .f32 :=
  Host.scatter scatter_S2048x8_S2048x2x2_S2048x2_n_01_01_2 (fun _ b => b) (broadcastInDim S2048x8 ![] bcast_S_S2048x8 (constant S_ .f32 0x00000000#32))
    (placesR x w) (weightsR x w)
/-- The reference's first result, as rows. -/
def outM (x : Tokens) (w : Weights) (u : UpT) (d : DownT) : FVec Ideal S2048x2048 .f32 :=
  Host.dotGeneral (F := Ideal) (φ₁ := .f32) (φ₂ := .f32) dot_S8x2048x2048_S2048x8_S2048x2048_0_1_2_n_1_0 none (prodM x u d) (maskM x w)
/-- The reference's second result. -/
def lossM (x : Tokens) (w : Weights) : FVec Ideal S_ .f32 :=
  mulf (constant S_ .f32 0x41000000#32) (Host.reduceAdd (mulf
    (Host.divf (Host.reduceAdd (hotR x w) (constant S_ .f32 0x00000000#32) reducesTo_S2048x8_S8_d0 h_S_) (broadcastInDim S8 ![] bcast_S_S8 (constant S_ .f32 0x45800000#32)))
    (Host.divf (Host.reduceAdd (probsR x w) (constant S_ .f32 0x00000000#32) reducesTo_S2048x8_S8_d0 h_S_) (broadcastInDim S8 ![] bcast_S_S8 (constant S_ .f32 0x45000000#32))))
    (constant S_ .f32 0x00000000#32) reducesTo_S8_S_d0 h_S_)

theorem hidM_apply (x : Tokens) (u : UpT) (e : Fin 8) (n : Fin 2048) (f : Fin 4096) :
    (hidM x u : S8x2048x4096.Idx → EReal) (ix3 e n f) = ∑ k : Fin 2048, x (ix2 n k) * u (ix3 e k f) := by
  unfold hidM
  pointwise
  exact Finset.sum_congr rfl fun k _ => mul_comm _ _

theorem gelM_apply (x : Tokens) (u : UpT) (e : Fin 8) (n : Fin 2048) (f : Fin 4096) :
    (gelM x u : S8x2048x4096.Idx → EReal) (ix3 e n f) = gelu ((hidM x u : S8x2048x4096.Idx → EReal) (ix3 e n f)) := by
  unfold gelM gelu
  generalize hidM x u = h
  pointwise
  rw [EReal.neg_mul, Ideal.erfc_neg]

theorem prodM_apply (x : Tokens) (u : UpT) (d : DownT) (e : Fin 8) (n : Fin 2048) (q : Fin 2048) :
    (prodM x u d : S8x2048x2048.Idx → EReal) (ix3 e n q) = outOf x u d e n q := by
  have h1 : (prodM x u d : S8x2048x2048.Idx → EReal) (ix3 e n q) = ∑ f : Fin 4096, (gelM x u : S8x2048x4096.Idx → EReal) (ix3 e n f) * d (ix3 e f q) := by
    unfold prodM
    generalize gelM x u = h
    pointwise
  rw [h1]
  unfold outOf
  simp only [gelM_apply, hidM_apply]

/-- A token's weight for an expert. -/
def mask (x : Tokens) (w : Weights) (n : Fin 2048) (e : Fin 8) : EReal :=
  if e = pick x w n 0 then (weightsR x w : S2048x2.Idx → EReal) (ix2 n 0) else if e = pick x w n 1 then (weightsR x w : S2048x2.Idx → EReal) (ix2 n 1) else 0

theorem maskM_apply (x : Tokens) (w : Weights) (n : Fin 2048) (e : Fin 8) : (maskM x w : S2048x8.Idx → EReal) (ix2 n e) = mask x w n e := by
  have hw (a : Nat) (h : a < 2048) : (BitVec.ofNat 32 a).toInt = (a : Int) := by
    rw [BitVec.toInt_eq_toNat_cond, BitVec.toNat_ofNat]
    omega
  have hl (a : Fin 2048) (k : Fin 2) : scatter_S2048x8_S2048x2x2_S2048x2_n_01_01_2.resultIdx? (ix2 a k) (placesR x w) = some (ix2 n e)
      ↔ a = n ∧ pick x w a k = e := by
    refine (Routing.scatter_lands2 scatter_S2048x8_S2048x2x2_S2048x2_n_01_01_2 rfl rfl rfl (placesR x w) a k n e).trans ?_
    refine (and_congr (congrArg (fun v : BitVec 32 => v.toInt = (n.val : Int)) (places_token x w a k)).to_iff
      (congrArg (fun v : BitVec 32 => v.toInt = (e.val : Int)) (places_expert x w a k)).to_iff).trans ?_
    rw [hw _ a.isLt, hw _ (by omega), Fin.ext_iff, Fin.ext_iff]
    omega
  have hne := pick_ne x w n
  have key (k : Fin 2) (hk : pick x w n k = e) : (maskM x w : S2048x8.Idx → EReal) (ix2 n e) = (weightsR x w : S2048x2.Idx → EReal) (ix2 n k) := by
    unfold maskM
    refine Routing.scatter_set_hit _ _ _ _ _ _ (fun j hj => ?_) (ix2 n k) ((hl n k).mpr ⟨rfl, hk⟩)
    rw [eq_ix2 j] at hj ⊢
    obtain ⟨h1, h2⟩ := (hl (j 0) (j 1)).mp hj
    rw [h1] at h2 ⊢
    have h3 : (j 1 : Fin 2) = k := by
      revert h2 hk
      generalize (j 1 : Fin 2) = l
      intro hk h2
      rcases (Fin.exists_fin_two (p := fun q => q = k)).mp ⟨k, rfl⟩ with rfl | rfl <;>
        rcases (Fin.exists_fin_two (p := fun q => q = l)).mp ⟨l, rfl⟩ with rfl | rfl
      · rfl
      · exact absurd (h2.trans hk.symm) hne
      · exact absurd (hk.trans h2.symm) hne
      · rfl
    rw [h3]
  unfold mask
  split
  · next h => exact key 0 h.symm
  · next h0 =>
    split
    · next h => exact key 1 h.symm
    · next h1 =>
      unfold maskM
      refine (Routing.scatter_set_miss _ _ _ _ _ fun j hj => ?_).trans (by pointwise)
      rw [eq_ix2 j] at hj
      obtain ⟨h2, h3⟩ := (hl (j 0) (j 1)).mp hj
      rw [h2] at h3
      revert h3
      generalize (j 1 : Fin 2) = k
      intro h3
      rcases (Fin.exists_fin_two (p := fun q => q = k)).mp ⟨k, rfl⟩ with rfl | rfl
      · exact h0 h3.symm
      · exact h1 h3.symm

theorem outM_apply (x : Tokens) (w : Weights) (u : UpT) (d : DownT) (n q : Fin 2048) : (outM x w u d : S2048x2048.Idx → EReal) (ix2 n q)
    = outOf x u d (pick x w n 0) n q * (weightsR x w : S2048x2.Idx → EReal) (ix2 n 0)
      + outOf x u d (pick x w n 1) n q * (weightsR x w : S2048x2.Idx → EReal) (ix2 n 1) := by
  have h1 : (outM x w u d : S2048x2048.Idx → EReal) (ix2 n q) = ∑ e : Fin 8, outOf x u d e n q * mask x w n e := by
    have h2 : (outM x w u d : S2048x2048.Idx → EReal) (ix2 n q)
        = ∑ e : Fin 8, (prodM x u d : S8x2048x2048.Idx → EReal) (ix3 e n q) * (maskM x w : S2048x8.Idx → EReal) (ix2 n e) := by
      unfold outM
      generalize prodM x u d = a
      generalize maskM x w = b
      pointwise
    rw [h2]
    exact Finset.sum_congr rfl fun e _ => by rw [prodM_apply, maskM_apply]
  have hne := pick_ne x w n
  have h3 (e : Fin 8) : outOf x u d e n q * mask x w n e
      = (if e = pick x w n 0 then outOf x u d e n q * (weightsR x w : S2048x2.Idx → EReal) (ix2 n 0) else 0)
        + (if e = pick x w n 1 then outOf x u d e n q * (weightsR x w : S2048x2.Idx → EReal) (ix2 n 1) else 0) := by
    unfold mask
    by_cases h0 : e = pick x w n 0
    · rw [if_pos h0, if_pos h0, if_neg (fun h => hne (h.symm.trans h0)), add_zero]
    · by_cases h1 : e = pick x w n 1
      · rw [if_neg h0, if_pos h1, if_neg h0, if_pos h1, zero_add]
      · rw [if_neg h0, if_neg h1, if_neg h0, if_neg h1, mul_zero, add_zero]
  rw [h1, Finset.sum_congr rfl fun e _ => h3 e, Finset.sum_add_distrib, Finset.sum_ite_eq' Finset.univ (pick x w n 0), Finset.sum_ite_eq' Finset.univ (pick x w n 1),
    if_pos (Finset.mem_univ _), if_pos (Finset.mem_univ _)]

theorem lossM_apply (x : Tokens) (w : Weights) (i : S_.Idx) :
    (lossM x w : S_.Idx → EReal) i = Ideal.ofBits .f32 0x41000000#32 * ∑ e : Fin 8, term x w e := by
  unfold lossM term
  pointwise [reference_prob, reference_hot]

section Run
variable (m : (ℓ : Loc nD τ sig) → Buf (Elt Ideal) ℓ) (c : Dev nD)

/-- The tokens as rows. -/
abbrev xs : Tokens := shapeCast (α := EReal) S2048x2048 (m ((c.tc : Thread nD τ).loc main_arg0)) shapeCasts_S1x2048x2048_S2048x2048

theorem res_out : Cert.MoeReferenceIdeal.Value.res_main_v47 m c = shapeCast S1x2048x2048 (outM (xs m c) (m ((c.tc : Thread nD τ).loc main_arg1)) (m ((c.tc : Thread nD τ).loc main_arg2))
    (m ((c.tc : Thread nD τ).loc main_arg3))) shapeCasts_S2048x2048_S1x2048x2048 := by
  unfold Cert.MoeReferenceIdeal.Value.res_main_v47
  rfl

theorem res_loss : Cert.MoeReferenceIdeal.Value.res_main_v73 m c = lossM (xs m c) (m ((c.tc : Thread nD τ).loc main_arg1)) := by
  unfold Cert.MoeReferenceIdeal.Value.res_main_v73
  rfl

end Run

end Cert.Proof.Whole.M

end
-- ==== Proof.Whole.WOut.lean ====
/-
  The joined program's results over the reals: every token's two experts' products, weighted, and the loss.
-/
module

public import proofs.«01_k».proof.Proof.Whole.WRows
public import proofs.«01_k».proof.Proof.Whole.MRef

@[expose] public section

noncomputable section

namespace Cert.Proof.Whole

open scoped BigOperators
open Cert.MoeIdeal Cert.MoeIdeal.Gen

open Idealize.ShloMosaic
open Idealize.ShloMosaic.Tactic
open Cert.Proof.Rout (AllReal pick weightsR)
open Cert.Proof.Whole.R (place)

variable {m : (ℓ : Loc nD τ sig) → Buf (Elt Ideal) ℓ} (hr : Reals m)

theorem gath_same (T : S32768x2x128.Idx → EReal) (I : IVec S32768 32) : G.gath (F := Ideal) T I = Cert.Proof.Comb.gath (F := Ideal) T I := rfl

theorem ix_same (k : Fin 4096) (q : Fin 2048) : Cert.Proof.Comb.ix2 (n := ![4096, 2048]) k q = ix2 (n0 := 4096) (n1 := 2048) k q :=
  funext fun a => by fin_cases a <;> rfl

include hr in
theorem gathered (n : Fin 2048) (c : Fin 2) (k : Fin 4096) (h : (Cert.Proof.Comb.both (posA m 0) (posB m 0) (Cert.Proof.Comb.one4 k)).toNat = place (pk m 0) n c) (q : Fin 2048) :
    (Gs m (Rts m) (tabs m) (tabs_ok hr) 0 : S4096x2048.Idx → EReal) (ix2 k q) = outOf (xs m 0) (ups m 0) (downs m 0) (pk m 0 n c) n q := by
  have h1 := rows_at hr n c ⟨_, both_lt hr 0 k⟩ h.symm q
  rw [← h1]
  unfold Gs
  rw [gath_same]
  generalize Ys m (Rts m) (tabs m) (tabs_ok hr) 0 = Y
  have h2 := Cert.Proof.Comb.gath_row (F := Ideal) Y (both_lt hr 0) k q
  exact (congrArg _ (ix_same k q).symm).trans (h2.trans (congrArg Y (ix_same ⟨_, both_lt hr 0 k⟩ q)))

theorem ix_sum {n0 n1 : ℕ} (a : Fin n0) (b : Fin n1) : W.ix2 (n := ![n0, n1]) a b = ix2 (n0 := n0) (n1 := n1) a b :=
  funext fun a => by fin_cases a <;> rfl

theorem wsum_apply (A : FVec Ideal S4096x2048 .f32) (B : FVec Ideal S2048x2 .f32) (n q : Fin 2048) :
    (W.wsum (F := Ideal) A B : S2048x2048.Idx → EReal) (ix2 n q)
      = A (ix2 ⟨n.val, n.isLt.trans (by decide)⟩ q) * B (ix2 n 0) + A (ix2 ⟨2048 + n.val, Nat.lt_of_lt_of_le (Nat.add_lt_add_left n.isLt 2048) (by decide)⟩ q) * B (ix2 n 1) := by
  unfold W.wsum
  pointwise
  exact congrArg₂ (· + ·) (congrArg₂ (· * ·) (congrArg A (ix_sum (n0 := 4096) (n1 := 2048) _ _)) (congrArg B (ix_sum (n0 := 2048) (n1 := 2) _ _)))
    (congrArg₂ (· * ·) (congrArg A (ix_sum (n0 := 4096) (n1 := 2048) _ _)) (congrArg B (ix_sum (n0 := 2048) (n1 := 2) _ _)))

include hr in
theorem weights_are (d : Dev nD) : R.out3 (F := Ideal) (xs m d) (rwt m d) = weightsR (xs m d) (rwt m d) := by
  rw [R.out3_eq]
  exact Cert.Proof.Rout.weights_eq (hr d).1 (hr d).2

include hr in
/-- The weighted rows are the reference's. -/
theorem sum_is : W.wsum (F := Ideal) (Gs m (Rts m) (tabs m) (tabs_ok hr) 0) (R.out3 (F := Ideal) (xs m 0) (rwt m 0))
    = M.outM (xs m 0) (rwt m 0) (ups m 0) (downs m 0) := by
  have key (n q : Fin 2048) : (W.wsum (F := Ideal) (Gs m (Rts m) (tabs m) (tabs_ok hr) 0) (R.out3 (F := Ideal) (xs m 0) (rwt m 0)) : S2048x2048.Idx → EReal) (ix2 n q)
      = (M.outM (xs m 0) (rwt m 0) (ups m 0) (downs m 0) : S2048x2048.Idx → EReal) (ix2 n q) := by
    rw [wsum_apply, weights_are hr, gathered hr n 0 _ (both_A hr 0 n), gathered hr n 1 _ (both_B hr 0 n), M.outM_apply]
    rfl
  funext i
  rw [eq_ix2 i]
  exact key (i 0) (i 1)

include hr in
/-- The loss is the reference's. -/
theorem loss_is (d : Dev nD) : shapeCast S_ (R.out5 (F := Ideal) (xs m d) (rwt m d)) shapeCasts_S1x1_S_ = M.lossM (xs m d) (rwt m d) := by
  funext i
  rw [R.out5_eq, shapeCast_apply _ _ i (ix2 (n0 := 1) (n1 := 1) 0 0) (by
    rw [Shape.rowMajor_val_two]
    rfl)]
  exact (congrFun (Cert.Proof.Rout.loss_eq (hr d).1 (hr d).2) _).trans ((Cert.Proof.Rout.reference_loss _ _ _).trans (M.lossM_apply _ _ i).symm)

/-- The two results, and the run. -/
def out (m : (ℓ : Loc nD τ sig) → Buf (Elt Ideal) ℓ) (d : Dev nD) : FVec Ideal S1x2048x2048 .f32 :=
  shapeCast S1x2048x2048 (M.outM (xs m d) (rwt m d) (ups m d) (downs m d)) shapeCasts_S2048x2048_S1x2048x2048

instance : ∀ e, Nonempty (Elt Ideal e) := fun e => by
  cases e <;> exact ⟨default⟩

open Idealize.ShloMosaic.Pipeline (ucRefs) in
include hr in
theorem run (ρ : Dev nD → PrngReg) : θ_run (Cert.MoeIdeal.defs (F := Ideal)) (Cert.MoeIdeal.threads (F := Ideal)) ⟨m, fun _ => 0, ρ⟩ fun r =>
    (∀ c : Dev nD, r.2.mem (c, r' main_v51) = out m c ∧ r.2.mem (c, r' main_v2) = M.lossM (xs m c) (rwt m c)
      ∧ r.2.mem (c, r' main_arg0) = m (c, r' main_arg0) ∧ r.2.mem (c, r' main_arg1) = m (c, r' main_arg1)
      ∧ r.2.mem (c, r' main_arg2) = m (c, r' main_arg2) ∧ r.2.mem (c, r' main_arg3) = m (c, r' main_arg3)) ∧ r.2.sem = fun _ => 0 := by
  refine (θ_run _ _ _).mono (fun r h => ⟨fun c => ?_, h.2⟩) (run_main m ρ (Rts m) (tabs m) (tabs_ok hr) tabs_eq (named_A hr) (named_B hr) (in_rows hr (Rts m) (tabs m) (tabs_ok hr)))
  have hc : c = 0 := Subsingleton.elim c 0
  subst hc
  have hu := h.1 0
  refine ⟨(hu _ (by decide)).trans ?_, (hu _ (by decide)).trans ?_, (hu _ (by decide)).trans (Vk_arg0 ..), (hu _ (by decide)).trans (Vk_arg1 ..),
    (hu _ (by decide)).trans (Vk_arg2 ..), (hu _ (by decide)).trans (Vk_arg3 ..)⟩
  · rw [Vk_out, sum_is hr]
    rfl
  · rw [Vk_loss, loss_is hr]

end Cert.Proof.Whole

end
-- ==== Proof.Whole.Final.lean ====
/-
  The claims of the joined program: its frame over the reals, its reference's, and its results the reference's.
-/
module

public import proofs.«01_k».proof.Defs
public import proofs.«01_k».proof.Proof.Whole.WOut
public import proofs.«01_k».proof.Proof.Gen.Pre_finite_inputs
public import Idealize.ShloMosaic.Adequacy
public import Idealize.ShloMosaic.Init

@[expose] public section

noncomputable section

namespace Cert.Proof.Whole

open Idealize.ShloMosaic Idealize.SL.Sem
open Cert.Proof.Rout (AllReal real_of_abs positive_infinity bit_of_lt)

/-- The precondition read: every element of the tokens and of the router's weights is a real number. -/
theorem finite {x : FVec Ideal Cert.Pre_finite_inputs.S1x2048x2048 .f32} {w : FVec Ideal Cert.Pre_finite_inputs.S8x2048 .f32}
    {u : FVec Ideal Cert.Pre_finite_inputs.S8x2048x4096 .f32} {d : FVec Ideal Cert.Pre_finite_inputs.S8x4096x2048 .f32}
    (h : Cert.Pre_finite_inputs.fn (F := Ideal) x w u d = fun _ => 1#1) : AllReal x ∧ AllReal w := by
  have e := congrFun h (fun a => a.elim0)
  have : Subsingleton Cert.Pre_finite_inputs.S_.Idx := ⟨fun a b => funext fun k => k.elim0⟩
  obtain ⟨e1, e2⟩ := IntOp.andi_eq_one.1 e
  refine ⟨fun i => ?_, fun i => ?_⟩
  · have := Host.reduce_andi_all _ _ _ _ _ e1 i
    refine real_of_abs ?_
    rw [← positive_infinity]
    exact bit_of_lt this
  · have := Host.reduce_andi_all _ _ _ _ _ e2 i
    refine real_of_abs ?_
    rw [← positive_infinity]
    exact bit_of_lt this

theorem reals (m : (ℓ : Loc Cert.MoeIdeal.nD Cert.MoeIdeal.τ Cert.MoeIdeal.sig) → Buf (Elt Ideal) ℓ) (h : Cert.Pre_MoeIdeal m) : Reals m := fun d => by
  obtain ⟨hx, hw⟩ := finite (h d)
  exact ⟨fun i => hx _, hw⟩

theorem frame : Cert.quiescent_MoeIdeal := fun m ρ hp =>
  (θ_run Cert.MoeIdeal.defs _ _).mono (fun _ h => ⟨fun c => (h.1 c).2.2, h.2⟩) (run (reals m hp) ρ)

theorem frame_reference : Cert.quiescent_MoeReferenceIdeal := fun m ρ _ =>
  (θ_run Cert.MoeReferenceIdeal.defs _ _).mono (fun r h => ⟨fun c => (h c).2.2, sem_eq_zero_of_no_sems (by decide) r.2⟩)
    (Cert.MoeReferenceIdeal.Value.run (F := Ideal) m ρ)

theorem values : Cert.algebraic_MoeIdeal_MoeReferenceIdeal := fun m ρ m' ρ' hp ha =>
  ⟨out m, fun c => M.lossM (xs m c) (rwt m c),
    (θ_run Cert.MoeIdeal.defs _ _).mono (fun _ h c => h.1 c) (run (reals m hp) ρ),
    (θ_run Cert.MoeReferenceIdeal.defs _ _).mono (fun _ h c => by
        obtain ⟨a0, a1, a2, a3⟩ := ha c
        obtain ⟨h0, h1, hr⟩ := h c
        rw [M.res_out, M.xs, a0, a1, a2, a3] at h0
        rw [M.res_loss, M.xs, a0, a1] at h1
        exact ⟨h0, h1, hr⟩) (Cert.MoeReferenceIdeal.Value.run (F := Ideal) m' ρ')⟩

end Cert.Proof.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pos_ok
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterReferenceIdeal
public import proofs.«01_k».proof.Proof.Gen.ScatterReferenceIdeal.Run
public import proofs.«01_k».proof.Proof.Gen.Router
public import proofs.«01_k».proof.Proof.Gen.RouterIdeal
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_items_ok
public import proofs.«01_k».proof.Proof.Gen.Pre_finite
public import proofs.«01_k».proof.Proof.Gen.MoeIdeal
public import proofs.«01_k».proof.Proof.Gen.MoeReferenceIdeal
public import proofs.«01_k».proof.Proof.Gen.MoeIdeal.Launch
public import proofs.«01_k».proof.Proof.Gen.MoeIdeal.Points
public import proofs.«01_k».proof.Proof.Gen.MoeIdeal.Skeleton
public import proofs.«01_k».proof.Proof.Gen.MoeReferenceIdeal.Run
public import proofs.«01_k».proof.Proof.Gen.Pre_finite_inputs
public import proofs.«01_k».proof.Proof.Comb.Value
public import proofs.«01_k».proof.Proof.Scat.Value
public import proofs.«01_k».proof.Proof.Rout.Place
public import proofs.«01_k».proof.Proof.Expt.Pre
public import proofs.«01_k».proof.Proof.Expt.Total
public import proofs.«01_k».proof.Proof.Whole.Final
public import Idealize.ShloMosaic.Adequacy
public import Idealize.ShloMosaic.Init

@[expose] public section

noncomputable section

namespace Cert.Proof

open Idealize.ShloMosaic Idealize.SL.Sem

theorem mem_uc {b : Ref Cert.KernelIdeal.sig .tc} (h : b.isScoped = false) :
    (Proc.devRef .tc b : DevRef Cert.KernelIdeal.τ Cert.KernelIdeal.sig) ∈ Pipeline.ucRefs Cert.KernelIdeal.τ Cert.KernelIdeal.sig :=
  Finset.mem_filter.mpr ⟨StableHlo.devRef_mem_tcRefs b, by rw [Proc.isScoped_devRef, h]; exact Bool.false_ne_true⟩

open Cert.Proof.Comb in
/-- The combine call runs over any float values: the arguments unchanged, the counters at zero, the result the weighted
    sums of the rows at the positions. -/
theorem comb_run {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg)
    (h : ∀ c : Dev Cert.KernelIdeal.nD,
      InTable (m ((c.tc : Thread Cert.KernelIdeal.nD Cert.KernelIdeal.τ).loc Cert.KernelIdeal.main_arg1))
      ∧ InTable (m ((c.tc : Thread Cert.KernelIdeal.nD Cert.KernelIdeal.τ).loc Cert.KernelIdeal.main_arg2))) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_v13)
          = Ve m c (Proc.devRef .tc (Cert.KernelIdeal.main_v13 : Ref Cert.KernelIdeal.sig .tc))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r hr => ⟨fun c => ⟨hr.1 c _ (mem_uc rfl),
      (hr.1 c _ (mem_uc rfl)).trans (Ve_arg m c Cert.KernelIdeal.main_arg0 (by simp)),
      (hr.1 c _ (mem_uc rfl)).trans (Ve_arg m c Cert.KernelIdeal.main_arg1 (by simp)),
      (hr.1 c _ (mem_uc rfl)).trans (Ve_arg m c Cert.KernelIdeal.main_arg2 (by simp)),
      (hr.1 c _ (mem_uc rfl)).trans (Ve_arg m c Cert.KernelIdeal.main_arg3 (by simp))⟩, hr.2⟩)
    (run_main m ρ fun d => inRows m d (h d).1 (h d).2)

/-- The two programs have the same text: the bodies agree label by label. -/
theorem defs₀_eq : (Cert.Kernel.defs₀ (F := Bits)) = Cert.KernelIdeal.defs₀ := by
  funext p ℓ a
  cases p <;> (match ℓ with | 0 => rfl | 1 => rfl)

theorem defs_eq : (Cert.Kernel.defs (F := Bits)) = Cert.KernelIdeal.defs := by
  unfold Cert.Kernel.defs Cert.KernelIdeal.defs
  rw [defs₀_eq]
  rfl

open Cert.Proof.Comb in
theorem frame_kernel : Cert.quiescent_Kernel := fun m ρ hp =>
  defs_eq ▸ (θ_run Cert.KernelIdeal.defs _ _).mono (fun _ h => ⟨fun c => (h.1 c).2, h.2⟩) (comb_run (F := Bits) m ρ fun c => pos_ok (hp c))

open Cert.Proof.Comb in
theorem frame_ideal : Cert.quiescent_KernelIdeal := fun m ρ hp =>
  (θ_run Cert.KernelIdeal.defs _ _).mono (fun _ h => ⟨fun c => (h.1 c).2, h.2⟩) (comb_run (F := Ideal) m ρ fun c => pos_ok (hp c))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Proof.Comb in
theorem values : Cert.algebraic_KernelIdeal_ReferenceIdeal := fun m ρ m' ρ' hp ha =>
  ⟨fun c => Ve m c (Proc.devRef .tc (Cert.KernelIdeal.main_v13 : Ref Cert.KernelIdeal.sig .tc)),
    (θ_run Cert.KernelIdeal.defs _ _).mono (fun _ h c => h.1 c) (comb_run (F := Ideal) m ρ fun c => pos_ok (hp c)),
    (θ_run Cert.ReferenceIdeal.defs _ _).mono (fun _ h c => ⟨(h c).1.trans (by
        obtain ⟨a0, a1, a2, a3⟩ := ha c
        have e := Ve_out m c
        rw [Tb_eq, Ix_expand] at e
        rw [a0, a1, a2, a3]
        exact (value_eq _ (pos_ok (hp c)).1 (pos_ok (hp c)).2 _).symm.trans e.symm), (h c).2⟩) (Cert.ReferenceIdeal.Value.run (F := Ideal) m' ρ')⟩

/-! ## The scatter call -/

theorem mem_uc_scat {b : Ref Cert.ScatterIdeal.sig .tc} (h : b.isScoped = false) :
    (Proc.devRef .tc b : DevRef Cert.ScatterIdeal.τ Cert.ScatterIdeal.sig) ∈ Pipeline.ucRefs Cert.ScatterIdeal.τ Cert.ScatterIdeal.sig :=
  Finset.mem_filter.mpr ⟨StableHlo.devRef_mem_tcRefs b, by rw [Proc.isScoped_devRef, h]; exact Bool.false_ne_true⟩

open Cert.Proof.Scat in
/-- The scatter call's route on a device, from the experts in its memory. -/
abbrev routes {F : FTy → Type} (m : (ℓ : Loc Cert.ScatterIdeal.nD Cert.ScatterIdeal.τ Cert.ScatterIdeal.sig) → Buf (Elt F) ℓ) : Dev Cert.ScatterIdeal.nD → Route :=
  fun c => route (m (c, Proc.devRef .tc (Cert.ScatterIdeal.main_arg1 : Ref Cert.ScatterIdeal.sig .tc)))

open Cert.Proof.Scat in
/-- The scatter call runs over any float values: the arguments unchanged, the counters at zero, the result the tokens'
    rows in order of expert. -/
theorem scat_run {F : FTy → Type} [FloatOps F] [∀ e, Nonempty (Elt F e)] (m : (ℓ : Loc Cert.ScatterIdeal.nD Cert.ScatterIdeal.τ Cert.ScatterIdeal.sig) → Buf (Elt F) ℓ)
    (ρ : Dev Cert.ScatterIdeal.nD → PrngReg) :
    θ_run (Cert.ScatterIdeal.defs (F := F)) (Cert.ScatterIdeal.threads (F := F)) ⟨m, fun _ => 0, ρ⟩ (fun r => (∀ c : Dev Cert.ScatterIdeal.nD,
      r.2.mem ((c.tc : Thread Cert.ScatterIdeal.nD Cert.ScatterIdeal.τ).loc Cert.ScatterIdeal.main_v28)
          = Ve m (routes m) c (Proc.devRef .tc (Cert.ScatterIdeal.main_v28 : Ref Cert.ScatterIdeal.sig .tc))
      ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0) :=
  (θ_run Cert.ScatterIdeal.defs _ _).mono (fun r hr => ⟨fun c => ⟨hr.1 c _ (mem_uc_scat rfl),
      (hr.1 c _ (mem_uc_scat rfl)).trans (Ve_arg m (routes m) c Cert.ScatterIdeal.main_arg0 (by simp)),
      (hr.1 c _ (mem_uc_scat rfl)).trans (Ve_arg m (routes m) c Cert.ScatterIdeal.main_arg1 (by simp))⟩, hr.2⟩)
    (run_main m ρ (routes m) (named_a m) (named_b m))

/-- The two programs have the same text here too. -/
theorem scat_defs₀_eq : (Cert.Scatter.defs₀ (F := Bits)) = Cert.ScatterIdeal.defs₀ := by
  funext p ℓ a
  cases p <;> (match ℓ with | 0 => rfl)

theorem scat_defs_eq : (Cert.Scatter.defs (F := Bits)) = Cert.ScatterIdeal.defs := by
  unfold Cert.Scatter.defs Cert.ScatterIdeal.defs
  rw [scat_defs₀_eq]
  rfl

theorem frame_scatter : Cert.quiescent_Scatter := fun m ρ _ =>
  scat_defs_eq ▸ (θ_run Cert.ScatterIdeal.defs _ _).mono (fun _ h => ⟨fun c => (h.1 c).2, h.2⟩) (scat_run (F := Bits) m ρ)

theorem frame_scatter_ideal : Cert.quiescent_ScatterIdeal := fun m ρ _ =>
  (θ_run Cert.ScatterIdeal.defs _ _).mono (fun _ h => ⟨fun c => (h.1 c).2, h.2⟩) (scat_run (F := Ideal) m ρ)

theorem frame_scatter_reference : Cert.quiescent_ScatterReferenceIdeal := fun m ρ _ =>
  (θ_run Cert.ScatterReferenceIdeal.defs _ _).mono (fun r h => ⟨fun c => (h c).2, sem_eq_zero_of_no_sems (by decide) r.2⟩)
    (Cert.ScatterReferenceIdeal.Value.run (F := Ideal) m ρ)

open Cert.Proof.Scat in
theorem scatter_values : Cert.algebraic_ScatterIdeal_ScatterReferenceIdeal := fun m ρ m' ρ' _ ha =>
  ⟨fun c => Ve m (routes m) c (Proc.devRef .tc (Cert.ScatterIdeal.main_v28 : Ref Cert.ScatterIdeal.sig .tc)),
    (θ_run Cert.ScatterIdeal.defs _ _).mono (fun _ h c => h.1 c) (scat_run (F := Ideal) m ρ),
    (θ_run Cert.ScatterReferenceIdeal.defs _ _).mono (fun _ h c => ⟨(h c).1.trans (by
        obtain ⟨a0, a1⟩ := ha c
        have e := Ve_out m (routes m) c
        rw [X_eq] at e
        rw [a0, a1]
        exact (value_eq _ _).symm.trans e.symm), (h c).2⟩) (Cert.ScatterReferenceIdeal.Value.run (F := Ideal) m' ρ')⟩

/-! ## The router call -/

/-- The two programs have the same text here too. -/
theorem rout_defs₀_eq : (Cert.Router.defs₀ (F := Bits)) = Cert.RouterIdeal.defs₀ := by
  funext p ℓ a
  cases p <;> (match ℓ with | 0 => rfl)

theorem rout_defs_eq : (Cert.Router.defs (F := Bits)) = Cert.RouterIdeal.defs := by
  unfold Cert.Router.defs Cert.RouterIdeal.defs
  rw [rout_defs₀_eq]
  rfl

theorem frame_router : Cert.quiescent_Router := fun m ρ _ =>
  rout_defs_eq ▸ Cert.RouterIdeal.Gen.frame (F := Bits) m ρ

theorem frame_router_ideal : Cert.quiescent_RouterIdeal := fun m ρ _ => Cert.RouterIdeal.Gen.frame (F := Ideal) m ρ

theorem frame_router_reference : Cert.quiescent_RouterReferenceIdeal := fun m ρ _ =>
  (θ_run Cert.RouterReferenceIdeal.defs _ _).mono (fun r h => ⟨fun c => (h c).2.2.2.2.2, sem_eq_zero_of_no_sems (by decide) r.2⟩)
    (Cert.RouterReferenceIdeal.Value.run (F := Ideal) m ρ)

open Cert.Proof.Rout in
theorem router_values : Cert.algebraic_RouterIdeal_RouterReferenceIdeal_pre_finite := fun m ρ m' ρ' hp ha =>
  ⟨fun c => topR (m ((c.tc : Thread Cert.RouterIdeal.nD Cert.RouterIdeal.τ).loc Cert.RouterIdeal.main_arg0)) (m ((c.tc : Thread Cert.RouterIdeal.nD Cert.RouterIdeal.τ).loc Cert.RouterIdeal.main_arg1)) |>.2,
    fun c => weightsR (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    fun c => countsR (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    fun c => lossR (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    fun c => positionsR (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    (θ_run Cert.RouterIdeal.defs _ _).mono (fun _ h c => by
        obtain ⟨hx, hw⟩ := finite (hp c)
        obtain ⟨h2, h3, h4, h5, h6, -, h0, h1⟩ := h c
        exact ⟨h2.trans (indices_eq hx hw), h3.trans (weights_eq hx hw), h4.trans (counts_eq hx hw), h5.trans (loss_eq hx hw),
          h6.trans (positions_eq hx hw), h0, h1⟩)
      (Cert.RouterIdeal.Value.run (F := Ideal) m ρ),
    (θ_run Cert.RouterReferenceIdeal.defs _ _).mono (fun _ h c => by
        obtain ⟨a0, a1⟩ := ha c
        obtain ⟨h2, h3, h4, h5, h6, h0, h1⟩ := h c
        unfold Cert.RouterReferenceIdeal.Value.res_main_v46 at h4
        unfold Cert.RouterReferenceIdeal.Value.res_main_v50 at h5
        rw [a0, a1] at h2 h3 h4 h5 h6
        exact ⟨h2, h3, h4, h5, h6, h0, h1⟩) (Cert.RouterReferenceIdeal.Value.run (F := Ideal) m' ρ')⟩

/-! ## The experts' products call -/

/-- The two programs have the same text here too. -/
theorem expt_defs₀_eq : (Cert.Experts.defs₀ (F := Bits)) = Cert.ExpertsIdeal.defs₀ := by
  funext p ℓ a
  cases p <;> (match ℓ with | 0 => rfl)

theorem expt_defs_eq : (Cert.Experts.defs (F := Bits)) = Cert.ExpertsIdeal.defs := by
  unfold Cert.Experts.defs Cert.ExpertsIdeal.defs
  rw [expt_defs₀_eq]
  rfl

open Cert.Proof.Expt in
theorem frame_experts : Cert.quiescent_Experts := fun m ρ hp =>
  expt_defs_eq ▸ (θ_run Cert.ExpertsIdeal.defs _ _).mono (fun _ h => ⟨h.1, h.2.1⟩) (run_post (F := Bits) (tabs m) (tabs_ok m (hp 0)) m ρ (tabs_on m))

open Cert.Proof.Expt in
theorem frame_experts_ideal : Cert.quiescent_ExpertsIdeal := fun m ρ hp =>
  (θ_run Cert.ExpertsIdeal.defs _ _).mono (fun _ h => ⟨h.1, h.2.1⟩) (run_post (F := Ideal) (tabs m) (tabs_ok m (hp 0)) m ρ (tabs_on m))

theorem frame_experts_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

open Cert.Proof.Expt in
/-- The reference's result from the call's arguments in memory. -/
abbrev expertsOf (m : (ℓ : Loc Cert.ExpertsIdeal.nD Cert.ExpertsIdeal.τ Cert.ExpertsIdeal.sig) → Buf (Elt Ideal) ℓ) (c : Dev Cert.ExpertsIdeal.nD) :
    Buf (Elt Ideal) ((c.tc : Thread Cert.ExpertsIdeal.nD Cert.ExpertsIdeal.τ).loc Cert.ExpertsIdeal.main_v0) :=
  resR (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))
    (XA m c) (UA m c) (DA m c)

open Cert.Proof.Expt in
theorem experts_result (m : (ℓ : Loc Cert.ExpertsIdeal.nD Cert.ExpertsIdeal.τ Cert.ExpertsIdeal.sig) → Buf (Elt Ideal) ℓ) (ρ : Dev Cert.ExpertsIdeal.nD → PrngReg)
    (hp : TabOK (tabs m)) (c : Dev Cert.ExpertsIdeal.nD) :
    (dats (tabs m) hp m ρ 0 c).arrAt (3 : Fin 4) (cfgA (tabs m) hp).N = expertsOf m c := by
  obtain rfl : c = (0 : Dev Cert.ExpertsIdeal.nD) := Subsingleton.elim _ _
  exact (arr_last (tabs m) hp m ρ 0).trans (res_eq (tabs m) hp m ρ 0 _).symm

open Cert.Proof.Expt in
theorem experts_values : Cert.algebraic_ExpertsIdeal_ExpertsReferenceIdeal := fun m ρ m' ρ' hp ha =>
  ⟨expertsOf m,
    (θ_run Cert.ExpertsIdeal.defs _ _).mono (fun _ h c => ⟨(h.2.2 c).trans (experts_result m ρ (tabs_ok m (hp 0)) c), h.1 c⟩)
      (run_post (F := Ideal) (tabs m) (tabs_ok m (hp 0)) m ρ (tabs_on m)),
    (θ_run Cert.ExpertsReferenceIdeal.defs _ _).mono (fun _ h c => by
        obtain ⟨a0, a1, a2, a3, a4, a5, a6⟩ := ha c
        obtain ⟨h45, hr⟩ := h c
        rw [a0, a1, a2, a3, a4, a5, a6] at h45
        exact ⟨h45, hr⟩) (Cert.ExpertsReferenceIdeal.Value.run (F := Ideal) m' ρ')⟩

theorem claim : Cert.Claim := ⟨Cert.Kernel.Gen.facts, Cert.KernelIdeal.Gen.facts, Cert.ReferenceIdeal.Gen.facts, Cert.Scatter.Gen.facts,
  Cert.ScatterIdeal.Gen.facts, Cert.ScatterReferenceIdeal.Gen.facts, Cert.Router.Gen.facts, Cert.RouterIdeal.Gen.facts,
  Cert.RouterReferenceIdeal.Gen.facts, Cert.Experts.Gen.facts, Cert.ExpertsIdeal.Gen.facts, Cert.ExpertsReferenceIdeal.Gen.facts,
  Cert.MoeIdeal.Gen.facts, Cert.MoeReferenceIdeal.Gen.facts,
  Cert.Pre_pos_ok.Gen.facts, Cert.Pre_finite.Gen.facts, Cert.Pre_items_ok.Gen.facts, Cert.Pre_finite_inputs.Gen.facts,
  frame_kernel, frame_ideal, frame_reference, fun m ρ _ => frame_reference m ρ trivial,
  frame_scatter, frame_scatter_ideal, frame_scatter_reference,
  frame_router, frame_router_ideal, fun m ρ _ => frame_router_ideal m ρ trivial,
  frame_router_reference, fun m ρ _ => frame_router_reference m ρ trivial,
  frame_experts, frame_experts_ideal, frame_experts_reference, fun m ρ _ => frame_experts_reference m ρ trivial,
  Whole.frame, Whole.frame_reference, fun m ρ _ => Whole.frame_reference m ρ trivial,
  trivial, values, trivial, scatter_values, trivial, router_values, trivial, experts_values, Whole.values⟩

end Cert.Proof

end
